-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14)
      ∧ r.2.mem ((c.tc : Thread Cert.Kernel6.nD Cert.Kernel6.τ).loc Cert.Kernel6.main_arg15) = m ((c.tc : Thread Cert.Kernel6.nD Cert.Kernel6.τ).loc Cert.Kernel6.main_arg15)
      ∧ r.2.mem ((c.tc : Thread Cert.Kernel6.nD Cert.Kernel6.τ).loc Cert.Kernel6.main_arg16) = m ((c.tc : Thread Cert.Kernel6.nD Cert.Kernel6.τ).loc Cert.Kernel6.main_arg16)
      ∧ r.2.mem ((c.tc : Thread Cert.Kernel6.nD Cert.Kernel6.τ).loc Cert.Kernel6.main_arg17) = m ((c.tc : Thread Cert.Kernel6.nD Cert.Kernel6.τ).loc Cert.Kernel6.main_arg17)
      ∧ r.2.mem ((c.tc : Thread Cert.Kernel6.nD Cert.Kernel6.τ).loc Cert.Kernel6.main_arg18) = m ((c.tc : Thread Cert.Kernel6.nD Cert.Kernel6.τ).loc Cert.Kernel6.main_arg18)
      ∧ r.2.mem ((c.tc : Thread Cert.Kernel6.nD Cert.Kernel6.τ).loc Cert.Kernel6.main_arg19) = m ((c.tc : Thread Cert.Kernel6.nD Cert.Kernel6.τ).loc Cert.Kernel6.main_arg19)
      ∧ r.2.mem ((c.tc : Thread Cert.Kernel6.nD Cert.Kernel6.τ).loc Cert.Kernel6.main_arg20) = m ((c.tc : Thread Cert.Kernel6.nD Cert.Kernel6.τ).loc Cert.Kernel6.main_arg20)
      ∧ r.2.mem ((c.tc : Thread Cert.Kernel6.nD Cert.Kernel6.τ).loc Cert.Kernel6.main_arg21) = m ((c.tc : Thread Cert.Kernel6.nD Cert.Kernel6.τ).loc Cert.Kernel6.main_arg21)
      ∧ r.2.mem ((c.tc : Thread Cert.Kernel6.nD Cert.Kernel6.τ).loc Cert.Kernel6.main_arg22) = m ((c.tc : Thread Cert.Kernel6.nD Cert.Kernel6.τ).loc Cert.Kernel6.main_arg22)
      ∧ r.2.mem ((c.tc : Thread Cert.Kernel6.nD Cert.Kernel6.τ).loc Cert.Kernel6.main_arg23) = m ((c.tc : Thread Cert.Kernel6.nD Cert.Kernel6.τ).loc Cert.Kernel6.main_arg23)
      ∧ r.2.mem ((c.tc : Thread Cert.Kernel6.nD Cert.Kernel6.τ).loc Cert.Kernel6.main_arg24) = m ((c.tc : Thread Cert.Kernel6.nD Cert.Kernel6.τ).loc Cert.Kernel6.main_arg24)
      ∧ r.2.mem ((c.tc : Thread Cert.Kernel6.nD Cert.Kernel6.τ).loc Cert.Kernel6.main_arg25) = m ((c.tc : Thread Cert.Kernel6.nD Cert.Kernel6.τ).loc Cert.Kernel6.main_arg25)
      ∧ r.2.mem ((c.tc : Thread Cert.Kernel6.nD Cert.Kernel6.τ).loc Cert.Kernel6.main_arg26) = m ((c.tc : Thread Cert.Kernel6.nD Cert.Kernel6.τ).loc Cert.Kernel6.main_arg26)
      ∧ r.2.mem ((c.tc : Thread Cert.Kernel6.nD Cert.Kernel6.τ).loc Cert.Kernel6.main_arg27) = m ((c.tc : Thread Cert.Kernel6.nD Cert.Kernel6.τ).loc Cert.Kernel6.main_arg27)
      ∧ r.2.mem ((c.tc : Thread Cert.Kernel6.nD Cert.Kernel6.τ).loc Cert.Kernel6.main_arg28) = m ((c.tc : Thread Cert.Kernel6.nD Cert.Kernel6.τ).loc Cert.Kernel6.main_arg28)
      ∧ r.2.mem ((c.tc : Thread Cert.Kernel6.nD Cert.Kernel6.τ).loc Cert.Kernel6.main_arg29) = m ((c.tc : Thread Cert.Kernel6.nD Cert.Kernel6.τ).loc Cert.Kernel6.main_arg29)
      ∧ r.2.mem ((c.tc : Thread Cert.Kernel6.nD Cert.Kernel6.τ).loc Cert.Kernel6.main_arg30) = m ((c.tc : Thread Cert.Kernel6.nD Cert.Kernel6.τ).loc Cert.Kernel6.main_arg30)
      ∧ r.2.mem ((c.tc : Thread Cert.Kernel6.nD Cert.Kernel6.τ).loc Cert.Kernel6.main_arg31) = m ((c.tc : Thread Cert.Kernel6.nD Cert.Kernel6.τ).loc Cert.Kernel6.main_arg31))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
      ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
      ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
      ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
      ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19)
      ∧ r.2.mem ((c.tc : Thread Cert.Kernel6Ideal.nD Cert.Kernel6Ideal.τ).loc Cert.Kernel6Ideal.main_arg20) = m ((c.tc : Thread Cert.Kernel6Ideal.nD Cert.Kernel6Ideal.τ).loc Cert.Kernel6Ideal.main_arg20)
      ∧ r.2.mem ((c.tc : Thread Cert.Kernel6Ideal.nD Cert.Kernel6Ideal.τ).loc Cert.Kernel6Ideal.main_arg21) = m ((c.tc : Thread Cert.Kernel6Ideal.nD Cert.Kernel6Ideal.τ).loc Cert.Kernel6Ideal.main_arg21)
      ∧ r.2.mem ((c.tc : Thread Cert.Kernel6Ideal.nD Cert.Kernel6Ideal.τ).loc Cert.Kernel6Ideal.main_arg22) = m ((c.tc : Thread Cert.Kernel6Ideal.nD Cert.Kernel6Ideal.τ).loc Cert.Kernel6Ideal.main_arg22)
      ∧ r.2.mem ((c.tc : Thread Cert.Kernel6Ideal.nD Cert.Kernel6Ideal.τ).loc Cert.Kernel6Ideal.main_arg23) = m ((c.tc : Thread Cert.Kernel6Ideal.nD Cert.Kernel6Ideal.τ).loc Cert.Kernel6Ideal.main_arg23)
      ∧ r.2.mem ((c.tc : Thread Cert.Kernel6Ideal.nD Cert.Kernel6Ideal.τ).loc Cert.Kernel6Ideal.main_arg24) = m ((c.tc : Thread Cert.Kernel6Ideal.nD Cert.Kernel6Ideal.τ).loc Cert.Kernel6Ideal.main_arg24)
      ∧ r.2.mem ((c.tc : Thread Cert.Kernel6Ideal.nD Cert.Kernel6Ideal.τ).loc Cert.Kernel6Ideal.main_arg25) = m ((c.tc : Thread Cert.Kernel6Ideal.nD Cert.Kernel6Ideal.τ).loc Cert.Kernel6Ideal.main_arg25)
      ∧ r.2.mem ((c.tc : Thread Cert.Kernel6Ideal.nD Cert.Kernel6Ideal.τ).loc Cert.Kernel6Ideal.main_arg26) = m ((c.tc : Thread Cert.Kernel6Ideal.nD Cert.Kernel6Ideal.τ).loc Cert.Kernel6Ideal.main_arg26)
      ∧ r.2.mem ((c.tc : Thread Cert.Kernel6Ideal.nD Cert.Kernel6Ideal.τ).loc Cert.Kernel6Ideal.main_arg27) = m ((c.tc : Thread Cert.Kernel6Ideal.nD Cert.Kernel6Ideal.τ).loc Cert.Kernel6Ideal.main_arg27)
      ∧ r.2.mem ((c.tc : Thread Cert.Kernel6Ideal.nD Cert.Kernel6Ideal.τ).loc Cert.Kernel6Ideal.main_arg28) = m ((c.tc : Thread Cert.Kernel6Ideal.nD Cert.Kernel6Ideal.τ).loc Cert.Kernel6Ideal.main_arg28)
      ∧ r.2.mem ((c.tc : Thread Cert.Kernel6Ideal.nD Cert.Kernel6Ideal.τ).loc Cert.Kernel6Ideal.main_arg29) = m ((c.tc : Thread Cert.Kernel6Ideal.nD Cert.Kernel6Ideal.τ).loc Cert.Kernel6Ideal.main_arg29)
      ∧ r.2.mem ((c.tc : Thread Cert.Kernel6Ideal.nD Cert.Kernel6Ideal.τ).loc Cert.Kernel6Ideal.main_arg30) = m ((c.tc : Thread Cert.Kernel6Ideal.nD Cert.Kernel6Ideal.τ).loc Cert.Kernel6Ideal.main_arg30)
      ∧ r.2.mem ((c.tc : Thread Cert.Kernel6Ideal.nD Cert.Kernel6Ideal.τ).loc Cert.Kernel6Ideal.main_arg31) = m ((c.tc : Thread Cert.Kernel6Ideal.nD Cert.Kernel6Ideal.τ).loc Cert.Kernel6Ideal.main_arg31))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14)
      ∧ r.2.mem ((c.tc : Thread Cert.Reference6Ideal.nD Cert.Reference6Ideal.τ).loc Cert.Reference6Ideal.main_arg15) = m ((c.tc : Thread Cert.Reference6Ideal.nD Cert.Reference6Ideal.τ).loc Cert.Reference6Ideal.main_arg15)
      ∧ r.2.mem ((c.tc : Thread Cert.Reference6Ideal.nD Cert.Reference6Ideal.τ).loc Cert.Reference6Ideal.main_arg16) = m ((c.tc : Thread Cert.Reference6Ideal.nD Cert.Reference6Ideal.τ).loc Cert.Reference6Ideal.main_arg16)
      ∧ r.2.mem ((c.tc : Thread Cert.Reference6Ideal.nD Cert.Reference6Ideal.τ).loc Cert.Reference6Ideal.main_arg17) = m ((c.tc : Thread Cert.Reference6Ideal.nD Cert.Reference6Ideal.τ).loc Cert.Reference6Ideal.main_arg17)
      ∧ r.2.mem ((c.tc : Thread Cert.Reference6Ideal.nD Cert.Reference6Ideal.τ).loc Cert.Reference6Ideal.main_arg18) = m ((c.tc : Thread Cert.Reference6Ideal.nD Cert.Reference6Ideal.τ).loc Cert.Reference6Ideal.main_arg18)
      ∧ r.2.mem ((c.tc : Thread Cert.Reference6Ideal.nD Cert.Reference6Ideal.τ).loc Cert.Reference6Ideal.main_arg19) = m ((c.tc : Thread Cert.Reference6Ideal.nD Cert.Reference6Ideal.τ).loc Cert.Reference6Ideal.main_arg19)
      ∧ r.2.mem ((c.tc : Thread Cert.Reference6Ideal.nD Cert.Reference6Ideal.τ).loc Cert.Reference6Ideal.main_arg20) = m ((c.tc : Thread Cert.Reference6Ideal.nD Cert.Reference6Ideal.τ).loc Cert.Reference6Ideal.main_arg20)
      ∧ r.2.mem ((c.tc : Thread Cert.Reference6Ideal.nD Cert.Reference6Ideal.τ).loc Cert.Reference6Ideal.main_arg21) = m ((c.tc : Thread Cert.Reference6Ideal.nD Cert.Reference6Ideal.τ).loc Cert.Reference6Ideal.main_arg21)
      ∧ r.2.mem ((c.tc : Thread Cert.Reference6Ideal.nD Cert.Reference6Ideal.τ).loc Cert.Reference6Ideal.main_arg22) = m ((c.tc : Thread Cert.Reference6Ideal.nD Cert.Reference6Ideal.τ).loc Cert.Reference6Ideal.main_arg22)
      ∧ r.2.mem ((c.tc : Thread Cert.Reference6Ideal.nD Cert.Reference6Ideal.τ).loc Cert.Reference6Ideal.main_arg23) = m ((c.tc : Thread Cert.Reference6Ideal.nD Cert.Reference6Ideal.τ).loc Cert.Reference6Ideal.main_arg23)
      ∧ r.2.mem ((c.tc : Thread Cert.Reference6Ideal.nD Cert.Reference6Ideal.τ).loc Cert.Reference6Ideal.main_arg24) = m ((c.tc : Thread Cert.Reference6Ideal.nD Cert.Reference6Ideal.τ).loc Cert.Reference6Ideal.main_arg24)
      ∧ r.2.mem ((c.tc : Thread Cert.Reference6Ideal.nD Cert.Reference6Ideal.τ).loc Cert.Reference6Ideal.main_arg25) = m ((c.tc : Thread Cert.Reference6Ideal.nD Cert.Reference6Ideal.τ).loc Cert.Reference6Ideal.main_arg25)
      ∧ r.2.mem ((c.tc : Thread Cert.Reference6Ideal.nD Cert.Reference6Ideal.τ).loc Cert.Reference6Ideal.main_arg26) = m ((c.tc : Thread Cert.Reference6Ideal.nD Cert.Reference6Ideal.τ).loc Cert.Reference6Ideal.main_arg26)
      ∧ r.2.mem ((c.tc : Thread Cert.Reference6Ideal.nD Cert.Reference6Ideal.τ).loc Cert.Reference6Ideal.main_arg27) = m ((c.tc : Thread Cert.Reference6Ideal.nD Cert.Reference6Ideal.τ).loc Cert.Reference6Ideal.main_arg27)
      ∧ r.2.mem ((c.tc : Thread Cert.Reference6Ideal.nD Cert.Reference6Ideal.τ).loc Cert.Reference6Ideal.main_arg28) = m ((c.tc : Thread Cert.Reference6Ideal.nD Cert.Reference6Ideal.τ).loc Cert.Reference6Ideal.main_arg28)
      ∧ r.2.mem ((c.tc : Thread Cert.Reference6Ideal.nD Cert.Reference6Ideal.τ).loc Cert.Reference6Ideal.main_arg29) = m ((c.tc : Thread Cert.Reference6Ideal.nD Cert.Reference6Ideal.τ).loc Cert.Reference6Ideal.main_arg29)
      ∧ r.2.mem ((c.tc : Thread Cert.Reference6Ideal.nD Cert.Reference6Ideal.τ).loc Cert.Reference6Ideal.main_arg30) = m ((c.tc : Thread Cert.Reference6Ideal.nD Cert.Reference6Ideal.τ).loc Cert.Reference6Ideal.main_arg30)
      ∧ r.2.mem ((c.tc : Thread Cert.Reference6Ideal.nD Cert.Reference6Ideal.τ).loc Cert.Reference6Ideal.main_arg31) = m ((c.tc : Thread Cert.Reference6Ideal.nD Cert.Reference6Ideal.τ).loc Cert.Reference6Ideal.main_arg31))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13)
      ∧ r.2.mem ((c.tc : Thread Cert.Kernel7.nD Cert.Kernel7.τ).loc Cert.Kernel7.main_arg14) = m ((c.tc : Thread Cert.Kernel7.nD Cert.Kernel7.τ).loc Cert.Kernel7.main_arg14)
      ∧ r.2.mem ((c.tc : Thread Cert.Kernel7.nD Cert.Kernel7.τ).loc Cert.Kernel7.main_arg15) = m ((c.tc : Thread Cert.Kernel7.nD Cert.Kernel7.τ).loc Cert.Kernel7.main_arg15)
      ∧ r.2.mem ((c.tc : Thread Cert.Kernel7.nD Cert.Kernel7.τ).loc Cert.Kernel7.main_arg16) = m ((c.tc : Thread Cert.Kernel7.nD Cert.Kernel7.τ).loc Cert.Kernel7.main_arg16)
      ∧ r.2.mem ((c.tc : Thread Cert.Kernel7.nD Cert.Kernel7.τ).loc Cert.Kernel7.main_arg17) = m ((c.tc : Thread Cert.Kernel7.nD Cert.Kernel7.τ).loc Cert.Kernel7.main_arg17)
      ∧ r.2.mem ((c.tc : Thread Cert.Kernel7.nD Cert.Kernel7.τ).loc Cert.Kernel7.main_arg18) = m ((c.tc : Thread Cert.Kernel7.nD Cert.Kernel7.τ).loc Cert.Kernel7.main_arg18)
      ∧ r.2.mem ((c.tc : Thread Cert.Kernel7.nD Cert.Kernel7.τ).loc Cert.Kernel7.main_arg19) = m ((c.tc : Thread Cert.Kernel7.nD Cert.Kernel7.τ).loc Cert.Kernel7.main_arg19)
      ∧ r.2.mem ((c.tc : Thread Cert.Kernel7.nD Cert.Kernel7.τ).loc Cert.Kernel7.main_arg20) = m ((c.tc : Thread Cert.Kernel7.nD Cert.Kernel7.τ).loc Cert.Kernel7.main_arg20)
      ∧ r.2.mem ((c.tc : Thread Cert.Kernel7.nD Cert.Kernel7.τ).loc Cert.Kernel7.main_arg21) = m ((c.tc : Thread Cert.Kernel7.nD Cert.Kernel7.τ).loc Cert.Kernel7.main_arg21)
      ∧ r.2.mem ((c.tc : Thread Cert.Kernel7.nD Cert.Kernel7.τ).loc Cert.Kernel7.main_arg22) = m ((c.tc : Thread Cert.Kernel7.nD Cert.Kernel7.τ).loc Cert.Kernel7.main_arg22)
      ∧ r.2.mem ((c.tc : Thread Cert.Kernel7.nD Cert.Kernel7.τ).loc Cert.Kernel7.main_arg23) = m ((c.tc : Thread Cert.Kernel7.nD Cert.Kernel7.τ).loc Cert.Kernel7.main_arg23)
      ∧ r.2.mem ((c.tc : Thread Cert.Kernel7.nD Cert.Kernel7.τ).loc Cert.Kernel7.main_arg24) = m ((c.tc : Thread Cert.Kernel7.nD Cert.Kernel7.τ).loc Cert.Kernel7.main_arg24)
      ∧ r.2.mem ((c.tc : Thread Cert.Kernel7.nD Cert.Kernel7.τ).loc Cert.Kernel7.main_arg25) = m ((c.tc : Thread Cert.Kernel7.nD Cert.Kernel7.τ).loc Cert.Kernel7.main_arg25)
      ∧ r.2.mem ((c.tc : Thread Cert.Kernel7.nD Cert.Kernel7.τ).loc Cert.Kernel7.main_arg26) = m ((c.tc : Thread Cert.Kernel7.nD Cert.Kernel7.τ).loc Cert.Kernel7.main_arg26)
      ∧ r.2.mem ((c.tc : Thread Cert.Kernel7.nD Cert.Kernel7.τ).loc Cert.Kernel7.main_arg27) = m ((c.tc : Thread Cert.Kernel7.nD Cert.Kernel7.τ).loc Cert.Kernel7.main_arg27)
      ∧ r.2.mem ((c.tc : Thread Cert.Kernel7.nD Cert.Kernel7.τ).loc Cert.Kernel7.main_arg28) = m ((c.tc : Thread Cert.Kernel7.nD Cert.Kernel7.τ).loc Cert.Kernel7.main_arg28)
      ∧ r.2.mem ((c.tc : Thread Cert.Kernel7.nD Cert.Kernel7.τ).loc Cert.Kernel7.main_arg29) = m ((c.tc : Thread Cert.Kernel7.nD Cert.Kernel7.τ).loc Cert.Kernel7.main_arg29))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
      ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
      ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16)
      ∧ r.2.mem ((c.tc : Thread Cert.Kernel7Ideal.nD Cert.Kernel7Ideal.τ).loc Cert.Kernel7Ideal.main_arg17) = m ((c.tc : Thread Cert.Kernel7Ideal.nD Cert.Kernel7Ideal.τ).loc Cert.Kernel7Ideal.main_arg17)
      ∧ r.2.mem ((c.tc : Thread Cert.Kernel7Ideal.nD Cert.Kernel7Ideal.τ).loc Cert.Kernel7Ideal.main_arg18) = m ((c.tc : Thread Cert.Kernel7Ideal.nD Cert.Kernel7Ideal.τ).loc Cert.Kernel7Ideal.main_arg18)
      ∧ r.2.mem ((c.tc : Thread Cert.Kernel7Ideal.nD Cert.Kernel7Ideal.τ).loc Cert.Kernel7Ideal.main_arg19) = m ((c.tc : Thread Cert.Kernel7Ideal.nD Cert.Kernel7Ideal.τ).loc Cert.Kernel7Ideal.main_arg19)
      ∧ r.2.mem ((c.tc : Thread Cert.Kernel7Ideal.nD Cert.Kernel7Ideal.τ).loc Cert.Kernel7Ideal.main_arg20) = m ((c.tc : Thread Cert.Kernel7Ideal.nD Cert.Kernel7Ideal.τ).loc Cert.Kernel7Ideal.main_arg20)
      ∧ r.2.mem ((c.tc : Thread Cert.Kernel7Ideal.nD Cert.Kernel7Ideal.τ).loc Cert.Kernel7Ideal.main_arg21) = m ((c.tc : Thread Cert.Kernel7Ideal.nD Cert.Kernel7Ideal.τ).loc Cert.Kernel7Ideal.main_arg21)
      ∧ r.2.mem ((c.tc : Thread Cert.Kernel7Ideal.nD Cert.Kernel7Ideal.τ).loc Cert.Kernel7Ideal.main_arg22) = m ((c.tc : Thread Cert.Kernel7Ideal.nD Cert.Kernel7Ideal.τ).loc Cert.Kernel7Ideal.main_arg22)
      ∧ r.2.mem ((c.tc : Thread Cert.Kernel7Ideal.nD Cert.Kernel7Ideal.τ).loc Cert.Kernel7Ideal.main_arg23) = m ((c.tc : Thread Cert.Kernel7Ideal.nD Cert.Kernel7Ideal.τ).loc Cert.Kernel7Ideal.main_arg23)
      ∧ r.2.mem ((c.tc : Thread Cert.Kernel7Ideal.nD Cert.Kernel7Ideal.τ).loc Cert.Kernel7Ideal.main_arg24) = m ((c.tc : Thread Cert.Kernel7Ideal.nD Cert.Kernel7Ideal.τ).loc Cert.Kernel7Ideal.main_arg24)
      ∧ r.2.mem ((c.tc : Thread Cert.Kernel7Ideal.nD Cert.Kernel7Ideal.τ).loc Cert.Kernel7Ideal.main_arg25) = m ((c.tc : Thread Cert.Kernel7Ideal.nD Cert.Kernel7Ideal.τ).loc Cert.Kernel7Ideal.main_arg25)
      ∧ r.2.mem ((c.tc : Thread Cert.Kernel7Ideal.nD Cert.Kernel7Ideal.τ).loc Cert.Kernel7Ideal.main_arg26) = m ((c.tc : Thread Cert.Kernel7Ideal.nD Cert.Kernel7Ideal.τ).loc Cert.Kernel7Ideal.main_arg26)
      ∧ r.2.mem ((c.tc : Thread Cert.Kernel7Ideal.nD Cert.Kernel7Ideal.τ).loc Cert.Kernel7Ideal.main_arg27) = m ((c.tc : Thread Cert.Kernel7Ideal.nD Cert.Kernel7Ideal.τ).loc Cert.Kernel7Ideal.main_arg27)
      ∧ r.2.mem ((c.tc : Thread Cert.Kernel7Ideal.nD Cert.Kernel7Ideal.τ).loc Cert.Kernel7Ideal.main_arg28) = m ((c.tc : Thread Cert.Kernel7Ideal.nD Cert.Kernel7Ideal.τ).loc Cert.Kernel7Ideal.main_arg28)
      ∧ r.2.mem ((c.tc : Thread Cert.Kernel7Ideal.nD Cert.Kernel7Ideal.τ).loc Cert.Kernel7Ideal.main_arg29) = m ((c.tc : Thread Cert.Kernel7Ideal.nD Cert.Kernel7Ideal.τ).loc Cert.Kernel7Ideal.main_arg29))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14)
      ∧ r.2.mem ((c.tc : Thread Cert.Reference7Ideal.nD Cert.Reference7Ideal.τ).loc Cert.Reference7Ideal.main_arg15) = m ((c.tc : Thread Cert.Reference7Ideal.nD Cert.Reference7Ideal.τ).loc Cert.Reference7Ideal.main_arg15)
      ∧ r.2.mem ((c.tc : Thread Cert.Reference7Ideal.nD Cert.Reference7Ideal.τ).loc Cert.Reference7Ideal.main_arg16) = m ((c.tc : Thread Cert.Reference7Ideal.nD Cert.Reference7Ideal.τ).loc Cert.Reference7Ideal.main_arg16)
      ∧ r.2.mem ((c.tc : Thread Cert.Reference7Ideal.nD Cert.Reference7Ideal.τ).loc Cert.Reference7Ideal.main_arg17) = m ((c.tc : Thread Cert.Reference7Ideal.nD Cert.Reference7Ideal.τ).loc Cert.Reference7Ideal.main_arg17)
      ∧ r.2.mem ((c.tc : Thread Cert.Reference7Ideal.nD Cert.Reference7Ideal.τ).loc Cert.Reference7Ideal.main_arg18) = m ((c.tc : Thread Cert.Reference7Ideal.nD Cert.Reference7Ideal.τ).loc Cert.Reference7Ideal.main_arg18)
      ∧ r.2.mem ((c.tc : Thread Cert.Reference7Ideal.nD Cert.Reference7Ideal.τ).loc Cert.Reference7Ideal.main_arg19) = m ((c.tc : Thread Cert.Reference7Ideal.nD Cert.Reference7Ideal.τ).loc Cert.Reference7Ideal.main_arg19)
      ∧ r.2.mem ((c.tc : Thread Cert.Reference7Ideal.nD Cert.Reference7Ideal.τ).loc Cert.Reference7Ideal.main_arg20) = m ((c.tc : Thread Cert.Reference7Ideal.nD Cert.Reference7Ideal.τ).loc Cert.Reference7Ideal.main_arg20)
      ∧ r.2.mem ((c.tc : Thread Cert.Reference7Ideal.nD Cert.Reference7Ideal.τ).loc Cert.Reference7Ideal.main_arg21) = m ((c.tc : Thread Cert.Reference7Ideal.nD Cert.Reference7Ideal.τ).loc Cert.Reference7Ideal.main_arg21)
      ∧ r.2.mem ((c.tc : Thread Cert.Reference7Ideal.nD Cert.Reference7Ideal.τ).loc Cert.Reference7Ideal.main_arg22) = m ((c.tc : Thread Cert.Reference7Ideal.nD Cert.Reference7Ideal.τ).loc Cert.Reference7Ideal.main_arg22)
      ∧ r.2.mem ((c.tc : Thread Cert.Reference7Ideal.nD Cert.Reference7Ideal.τ).loc Cert.Reference7Ideal.main_arg23) = m ((c.tc : Thread Cert.Reference7Ideal.nD Cert.Reference7Ideal.τ).loc Cert.Reference7Ideal.main_arg23)
      ∧ r.2.mem ((c.tc : Thread Cert.Reference7Ideal.nD Cert.Reference7Ideal.τ).loc Cert.Reference7Ideal.main_arg24) = m ((c.tc : Thread Cert.Reference7Ideal.nD Cert.Reference7Ideal.τ).loc Cert.Reference7Ideal.main_arg24)
      ∧ r.2.mem ((c.tc : Thread Cert.Reference7Ideal.nD Cert.Reference7Ideal.τ).loc Cert.Reference7Ideal.main_arg25) = m ((c.tc : Thread Cert.Reference7Ideal.nD Cert.Reference7Ideal.τ).loc Cert.Reference7Ideal.main_arg25)
      ∧ r.2.mem ((c.tc : Thread Cert.Reference7Ideal.nD Cert.Reference7Ideal.τ).loc Cert.Reference7Ideal.main_arg26) = m ((c.tc : Thread Cert.Reference7Ideal.nD Cert.Reference7Ideal.τ).loc Cert.Reference7Ideal.main_arg26)
      ∧ r.2.mem ((c.tc : Thread Cert.Reference7Ideal.nD Cert.Reference7Ideal.τ).loc Cert.Reference7Ideal.main_arg27) = m ((c.tc : Thread Cert.Reference7Ideal.nD Cert.Reference7Ideal.τ).loc Cert.Reference7Ideal.main_arg27)
      ∧ r.2.mem ((c.tc : Thread Cert.Reference7Ideal.nD Cert.Reference7Ideal.τ).loc Cert.Reference7Ideal.main_arg28) = m ((c.tc : Thread Cert.Reference7Ideal.nD Cert.Reference7Ideal.τ).loc Cert.Reference7Ideal.main_arg28)
      ∧ r.2.mem ((c.tc : Thread Cert.Reference7Ideal.nD Cert.Reference7Ideal.τ).loc Cert.Reference7Ideal.main_arg29) = m ((c.tc : Thread Cert.Reference7Ideal.nD Cert.Reference7Ideal.τ).loc Cert.Reference7Ideal.main_arg29))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v128)) (v1 : (c : Dev Cert.KernelIdeal.nD) → Buf (Elt Ideal) ((c.tc : Thread Cert.KernelIdeal.nD Cert.KernelIdeal.τ).loc Cert.KernelIdeal.main_v112)) (v2 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128) = v0 c
          ∧ r.2.mem ((c.tc : Thread Cert.KernelIdeal.nD Cert.KernelIdeal.τ).loc Cert.KernelIdeal.main_v112) = v1 c
          ∧ r.2.mem ((c.tc : Thread Cert.KernelIdeal.nD Cert.KernelIdeal.τ).loc Cert.KernelIdeal.main_v96) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_v108) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v9_0)) (v2 : (c : Dev Cert.Kernel2Ideal.nD) → Buf (Elt Ideal) ((c.tc : Thread Cert.Kernel2Ideal.nD Cert.Kernel2Ideal.τ).loc Cert.Kernel2Ideal.main_v9_1)) (v3 : (c : Dev Cert.Kernel2Ideal.nD) → Buf (Elt Ideal) ((c.tc : Thread Cert.Kernel2Ideal.nD Cert.Kernel2Ideal.τ).loc Cert.Kernel2Ideal.main_v12)) (v4 : (c : Dev Cert.Kernel2Ideal.nD) → Buf (Elt Ideal) ((c.tc : Thread Cert.Kernel2Ideal.nD Cert.Kernel2Ideal.τ).loc Cert.Kernel2Ideal.main_v14)) (v5 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v9_0) = v1 c
          ∧ r.2.mem ((c.tc : Thread Cert.Kernel2Ideal.nD Cert.Kernel2Ideal.τ).loc Cert.Kernel2Ideal.main_v9_1) = v2 c
          ∧ r.2.mem ((c.tc : Thread Cert.Kernel2Ideal.nD Cert.Kernel2Ideal.τ).loc Cert.Kernel2Ideal.main_v12) = v3 c
          ∧ r.2.mem ((c.tc : Thread Cert.Kernel2Ideal.nD Cert.Kernel2Ideal.τ).loc Cert.Kernel2Ideal.main_v14) = v4 c
          ∧ r.2.mem ((c.tc : Thread Cert.Kernel2Ideal.nD Cert.Kernel2Ideal.τ).loc Cert.Kernel2Ideal.main_v15) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_v61) = v1 c
          ∧ r.2.mem ((c.tc : Thread Cert.Reference2Ideal.nD Cert.Reference2Ideal.τ).loc Cert.Reference2Ideal.main_v62) = v2 c
          ∧ r.2.mem ((c.tc : Thread Cert.Reference2Ideal.nD Cert.Reference2Ideal.τ).loc Cert.Reference2Ideal.main_v38) = v3 c
          ∧ r.2.mem ((c.tc : Thread Cert.Reference2Ideal.nD Cert.Reference2Ideal.τ).loc Cert.Reference2Ideal.main_v34) = v4 c
          ∧ r.2.mem ((c.tc : Thread Cert.Reference2Ideal.nD Cert.Reference2Ideal.τ).loc Cert.Reference2Ideal.main_v29) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v25_0)) (v1 : (c : Dev Cert.Kernel3Ideal.nD) → Buf (Elt Ideal) ((c.tc : Thread Cert.Kernel3Ideal.nD Cert.Kernel3Ideal.τ).loc Cert.Kernel3Ideal.main_v25_1)) (v2 : (c : Dev Cert.Kernel3Ideal.nD) → Buf (Elt Ideal) ((c.tc : Thread Cert.Kernel3Ideal.nD Cert.Kernel3Ideal.τ).loc Cert.Kernel3Ideal.main_v25_2)) (v3 : (c : Dev Cert.Kernel3Ideal.nD) → Buf (Elt Ideal) ((c.tc : Thread Cert.Kernel3Ideal.nD Cert.Kernel3Ideal.τ).loc Cert.Kernel3Ideal.main_v25_3)) (v4 : (c : Dev Cert.Kernel3Ideal.nD) → Buf (Elt Ideal) ((c.tc : Thread Cert.Kernel3Ideal.nD Cert.Kernel3Ideal.τ).loc Cert.Kernel3Ideal.main_v26)) (v5 : (c : Dev Cert.Kernel3Ideal.nD) → Buf (Elt Ideal) ((c.tc : Thread Cert.Kernel3Ideal.nD Cert.Kernel3Ideal.τ).loc Cert.Kernel3Ideal.main_v27)) (v6 : (c : Dev Cert.Kernel3Ideal.nD) → Buf (Elt Ideal) ((c.tc : Thread Cert.Kernel3Ideal.nD Cert.Kernel3Ideal.τ).loc Cert.Kernel3Ideal.main_v25_5)) (v7 : (c : Dev Cert.Kernel3Ideal.nD) → Buf (Elt Ideal) ((c.tc : Thread Cert.Kernel3Ideal.nD Cert.Kernel3Ideal.τ).loc Cert.Kernel3Ideal.main_v25_6)) (v8 : (c : Dev Cert.Kernel3Ideal.nD) → Buf (Elt Ideal) ((c.tc : Thread Cert.Kernel3Ideal.nD Cert.Kernel3Ideal.τ).loc Cert.Kernel3Ideal.main_v25_7)) (v9 : (c : Dev Cert.Kernel3Ideal.nD) → Buf (Elt Ideal) ((c.tc : Thread Cert.Kernel3Ideal.nD Cert.Kernel3Ideal.τ).loc Cert.Kernel3Ideal.main_v34_0)) (v10 : (c : Dev Cert.Kernel3Ideal.nD) → Buf (Elt Ideal) ((c.tc : Thread Cert.Kernel3Ideal.nD Cert.Kernel3Ideal.τ).loc Cert.Kernel3Ideal.main_v34_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v25_0) = v0 c
          ∧ r.2.mem ((c.tc : Thread Cert.Kernel3Ideal.nD Cert.Kernel3Ideal.τ).loc Cert.Kernel3Ideal.main_v25_1) = v1 c
          ∧ r.2.mem ((c.tc : Thread Cert.Kernel3Ideal.nD Cert.Kernel3Ideal.τ).loc Cert.Kernel3Ideal.main_v25_2) = v2 c
          ∧ r.2.mem ((c.tc : Thread Cert.Kernel3Ideal.nD Cert.Kernel3Ideal.τ).loc Cert.Kernel3Ideal.main_v25_3) = v3 c
          ∧ r.2.mem ((c.tc : Thread Cert.Kernel3Ideal.nD Cert.Kernel3Ideal.τ).loc Cert.Kernel3Ideal.main_v26) = v4 c
          ∧ r.2.mem ((c.tc : Thread Cert.Kernel3Ideal.nD Cert.Kernel3Ideal.τ).loc Cert.Kernel3Ideal.main_v27) = v5 c
          ∧ r.2.mem ((c.tc : Thread Cert.Kernel3Ideal.nD Cert.Kernel3Ideal.τ).loc Cert.Kernel3Ideal.main_v25_5) = v6 c
          ∧ r.2.mem ((c.tc : Thread Cert.Kernel3Ideal.nD Cert.Kernel3Ideal.τ).loc Cert.Kernel3Ideal.main_v25_6) = v7 c
          ∧ r.2.mem ((c.tc : Thread Cert.Kernel3Ideal.nD Cert.Kernel3Ideal.τ).loc Cert.Kernel3Ideal.main_v25_7) = v8 c
          ∧ r.2.mem ((c.tc : Thread Cert.Kernel3Ideal.nD Cert.Kernel3Ideal.τ).loc Cert.Kernel3Ideal.main_v34_0) = v9 c
          ∧ r.2.mem ((c.tc : Thread Cert.Kernel3Ideal.nD Cert.Kernel3Ideal.τ).loc Cert.Kernel3Ideal.main_v34_1) = v10 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v58) = v0 c
          ∧ r.2.mem ((c.tc : Thread Cert.Reference3Ideal.nD Cert.Reference3Ideal.τ).loc Cert.Reference3Ideal.main_v90) = v1 c
          ∧ r.2.mem ((c.tc : Thread Cert.Reference3Ideal.nD Cert.Reference3Ideal.τ).loc Cert.Reference3Ideal.main_v20) = v2 c
          ∧ r.2.mem ((c.tc : Thread Cert.Reference3Ideal.nD Cert.Reference3Ideal.τ).loc Cert.Reference3Ideal.main_v21) = v3 c
          ∧ r.2.mem ((c.tc : Thread Cert.Reference3Ideal.nD Cert.Reference3Ideal.τ).loc Cert.Reference3Ideal.main_v22) = v4 c
          ∧ r.2.mem ((c.tc : Thread Cert.Reference3Ideal.nD Cert.Reference3Ideal.τ).loc Cert.Reference3Ideal.main_v23) = v5 c
          ∧ r.2.mem ((c.tc : Thread Cert.Reference3Ideal.nD Cert.Reference3Ideal.τ).loc Cert.Reference3Ideal.main_v24) = v6 c
          ∧ r.2.mem ((c.tc : Thread Cert.Reference3Ideal.nD Cert.Reference3Ideal.τ).loc Cert.Reference3Ideal.main_v25) = v7 c
          ∧ r.2.mem ((c.tc : Thread Cert.Reference3Ideal.nD Cert.Reference3Ideal.τ).loc Cert.Reference3Ideal.main_v26) = v8 c
          ∧ r.2.mem ((c.tc : Thread Cert.Reference3Ideal.nD Cert.Reference3Ideal.τ).loc Cert.Reference3Ideal.main_v149) = v9 c
          ∧ r.2.mem ((c.tc : Thread Cert.Reference3Ideal.nD Cert.Reference3Ideal.τ).loc Cert.Reference3Ideal.main_v150) = v10 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v4)) (v2 : (c : Dev Cert.Kernel4Ideal.nD) → Buf (Elt Ideal) ((c.tc : Thread Cert.Kernel4Ideal.nD Cert.Kernel4Ideal.τ).loc Cert.Kernel4Ideal.main_v5)) (v3 : (c : Dev Cert.Kernel4Ideal.nD) → Buf (Elt Ideal) ((c.tc : Thread Cert.Kernel4Ideal.nD Cert.Kernel4Ideal.τ).loc Cert.Kernel4Ideal.main_v6)) (v4 : (c : Dev Cert.Kernel4Ideal.nD) → Buf (Elt Ideal) ((c.tc : Thread Cert.Kernel4Ideal.nD Cert.Kernel4Ideal.τ).loc Cert.Kernel4Ideal.main_v7)) (v5 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v4) = v1 c
          ∧ r.2.mem ((c.tc : Thread Cert.Kernel4Ideal.nD Cert.Kernel4Ideal.τ).loc Cert.Kernel4Ideal.main_v5) = v2 c
          ∧ r.2.mem ((c.tc : Thread Cert.Kernel4Ideal.nD Cert.Kernel4Ideal.τ).loc Cert.Kernel4Ideal.main_v6) = v3 c
          ∧ r.2.mem ((c.tc : Thread Cert.Kernel4Ideal.nD Cert.Kernel4Ideal.τ).loc Cert.Kernel4Ideal.main_v7) = v4 c
          ∧ r.2.mem ((c.tc : Thread Cert.Kernel4Ideal.nD Cert.Kernel4Ideal.τ).loc Cert.Kernel4Ideal.main_v2) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_v31) = v1 c
          ∧ r.2.mem ((c.tc : Thread Cert.Reference4Ideal.nD Cert.Reference4Ideal.τ).loc Cert.Reference4Ideal.main_v28) = v2 c
          ∧ r.2.mem ((c.tc : Thread Cert.Reference4Ideal.nD Cert.Reference4Ideal.τ).loc Cert.Reference4Ideal.main_v29) = v3 c
          ∧ r.2.mem ((c.tc : Thread Cert.Reference4Ideal.nD Cert.Reference4Ideal.τ).loc Cert.Reference4Ideal.main_v26) = v4 c
          ∧ r.2.mem ((c.tc : Thread Cert.Reference4Ideal.nD Cert.Reference4Ideal.τ).loc Cert.Reference4Ideal.main_v24) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v4_0)) (v2 : (c : Dev Cert.Kernel5Ideal.nD) → Buf (Elt Ideal) ((c.tc : Thread Cert.Kernel5Ideal.nD Cert.Kernel5Ideal.τ).loc Cert.Kernel5Ideal.main_v5)) (v3 : (c : Dev Cert.Kernel5Ideal.nD) → Buf (Elt Ideal) ((c.tc : Thread Cert.Kernel5Ideal.nD Cert.Kernel5Ideal.τ).loc Cert.Kernel5Ideal.main_v4_2)) (v4 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v4_0) = v1 c
          ∧ r.2.mem ((c.tc : Thread Cert.Kernel5Ideal.nD Cert.Kernel5Ideal.τ).loc Cert.Kernel5Ideal.main_v5) = v2 c
          ∧ r.2.mem ((c.tc : Thread Cert.Kernel5Ideal.nD Cert.Kernel5Ideal.τ).loc Cert.Kernel5Ideal.main_v4_2) = v3 c
          ∧ r.2.mem ((c.tc : Thread Cert.Kernel5Ideal.nD Cert.Kernel5Ideal.τ).loc Cert.Kernel5Ideal.main_v3) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_v52) = v1 c
          ∧ r.2.mem ((c.tc : Thread Cert.Reference5Ideal.nD Cert.Reference5Ideal.τ).loc Cert.Reference5Ideal.main_v30) = v2 c
          ∧ r.2.mem ((c.tc : Thread Cert.Reference5Ideal.nD Cert.Reference5Ideal.τ).loc Cert.Reference5Ideal.main_v51) = v3 c
          ∧ r.2.mem ((c.tc : Thread Cert.Reference5Ideal.nD Cert.Reference5Ideal.τ).loc Cert.Reference5Ideal.main_v24) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)
      ∧ m' ((c.tc : Thread Cert.Reference6Ideal.nD Cert.Reference6Ideal.τ).loc Cert.Reference6Ideal.main_arg15) = m ((c.tc : Thread Cert.Kernel6Ideal.nD Cert.Kernel6Ideal.τ).loc Cert.Kernel6Ideal.main_arg15)
      ∧ m' ((c.tc : Thread Cert.Reference6Ideal.nD Cert.Reference6Ideal.τ).loc Cert.Reference6Ideal.main_arg16) = m ((c.tc : Thread Cert.Kernel6Ideal.nD Cert.Kernel6Ideal.τ).loc Cert.Kernel6Ideal.main_arg16)
      ∧ m' ((c.tc : Thread Cert.Reference6Ideal.nD Cert.Reference6Ideal.τ).loc Cert.Reference6Ideal.main_arg17) = m ((c.tc : Thread Cert.Kernel6Ideal.nD Cert.Kernel6Ideal.τ).loc Cert.Kernel6Ideal.main_arg17)
      ∧ m' ((c.tc : Thread Cert.Reference6Ideal.nD Cert.Reference6Ideal.τ).loc Cert.Reference6Ideal.main_arg18) = m ((c.tc : Thread Cert.Kernel6Ideal.nD Cert.Kernel6Ideal.τ).loc Cert.Kernel6Ideal.main_arg18)
      ∧ m' ((c.tc : Thread Cert.Reference6Ideal.nD Cert.Reference6Ideal.τ).loc Cert.Reference6Ideal.main_arg19) = m ((c.tc : Thread Cert.Kernel6Ideal.nD Cert.Kernel6Ideal.τ).loc Cert.Kernel6Ideal.main_arg19)
      ∧ m' ((c.tc : Thread Cert.Reference6Ideal.nD Cert.Reference6Ideal.τ).loc Cert.Reference6Ideal.main_arg20) = m ((c.tc : Thread Cert.Kernel6Ideal.nD Cert.Kernel6Ideal.τ).loc Cert.Kernel6Ideal.main_arg20)
      ∧ m' ((c.tc : Thread Cert.Reference6Ideal.nD Cert.Reference6Ideal.τ).loc Cert.Reference6Ideal.main_arg21) = m ((c.tc : Thread Cert.Kernel6Ideal.nD Cert.Kernel6Ideal.τ).loc Cert.Kernel6Ideal.main_arg21)
      ∧ m' ((c.tc : Thread Cert.Reference6Ideal.nD Cert.Reference6Ideal.τ).loc Cert.Reference6Ideal.main_arg22) = m ((c.tc : Thread Cert.Kernel6Ideal.nD Cert.Kernel6Ideal.τ).loc Cert.Kernel6Ideal.main_arg22)
      ∧ m' ((c.tc : Thread Cert.Reference6Ideal.nD Cert.Reference6Ideal.τ).loc Cert.Reference6Ideal.main_arg23) = m ((c.tc : Thread Cert.Kernel6Ideal.nD Cert.Kernel6Ideal.τ).loc Cert.Kernel6Ideal.main_arg23)
      ∧ m' ((c.tc : Thread Cert.Reference6Ideal.nD Cert.Reference6Ideal.τ).loc Cert.Reference6Ideal.main_arg24) = m ((c.tc : Thread Cert.Kernel6Ideal.nD Cert.Kernel6Ideal.τ).loc Cert.Kernel6Ideal.main_arg24)
      ∧ m' ((c.tc : Thread Cert.Reference6Ideal.nD Cert.Reference6Ideal.τ).loc Cert.Reference6Ideal.main_arg25) = m ((c.tc : Thread Cert.Kernel6Ideal.nD Cert.Kernel6Ideal.τ).loc Cert.Kernel6Ideal.main_arg25)
      ∧ m' ((c.tc : Thread Cert.Reference6Ideal.nD Cert.Reference6Ideal.τ).loc Cert.Reference6Ideal.main_arg26) = m ((c.tc : Thread Cert.Kernel6Ideal.nD Cert.Kernel6Ideal.τ).loc Cert.Kernel6Ideal.main_arg26)
      ∧ m' ((c.tc : Thread Cert.Reference6Ideal.nD Cert.Reference6Ideal.τ).loc Cert.Reference6Ideal.main_arg27) = m ((c.tc : Thread Cert.Kernel6Ideal.nD Cert.Kernel6Ideal.τ).loc Cert.Kernel6Ideal.main_arg27)
      ∧ m' ((c.tc : Thread Cert.Reference6Ideal.nD Cert.Reference6Ideal.τ).loc Cert.Reference6Ideal.main_arg28) = m ((c.tc : Thread Cert.Kernel6Ideal.nD Cert.Kernel6Ideal.τ).loc Cert.Kernel6Ideal.main_arg28)
      ∧ m' ((c.tc : Thread Cert.Reference6Ideal.nD Cert.Reference6Ideal.τ).loc Cert.Reference6Ideal.main_arg29) = m ((c.tc : Thread Cert.Kernel6Ideal.nD Cert.Kernel6Ideal.τ).loc Cert.Kernel6Ideal.main_arg29)
      ∧ m' ((c.tc : Thread Cert.Reference6Ideal.nD Cert.Reference6Ideal.τ).loc Cert.Reference6Ideal.main_arg30) = m ((c.tc : Thread Cert.Kernel6Ideal.nD Cert.Kernel6Ideal.τ).loc Cert.Kernel6Ideal.main_arg30)
      ∧ m' ((c.tc : Thread Cert.Reference6Ideal.nD Cert.Reference6Ideal.τ).loc Cert.Reference6Ideal.main_arg31) = m ((c.tc : Thread Cert.Kernel6Ideal.nD Cert.Kernel6Ideal.τ).loc Cert.Kernel6Ideal.main_arg31)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v1_0)) (v4 : (c : Dev Cert.Kernel6Ideal.nD) → Buf (Elt Ideal) ((c.tc : Thread Cert.Kernel6Ideal.nD Cert.Kernel6Ideal.τ).loc Cert.Kernel6Ideal.main_v1_1)) (v5 : (c : Dev Cert.Kernel6Ideal.nD) → Buf (Elt Ideal) ((c.tc : Thread Cert.Kernel6Ideal.nD Cert.Kernel6Ideal.τ).loc Cert.Kernel6Ideal.main_v1_2)) (v6 : (c : Dev Cert.Kernel6Ideal.nD) → Buf (Elt Ideal) ((c.tc : Thread Cert.Kernel6Ideal.nD Cert.Kernel6Ideal.τ).loc Cert.Kernel6Ideal.main_v2_0)) (v7 : (c : Dev Cert.Kernel6Ideal.nD) → Buf (Elt Ideal) ((c.tc : Thread Cert.Kernel6Ideal.nD Cert.Kernel6Ideal.τ).loc Cert.Kernel6Ideal.main_v2_1)) (v8 : (c : Dev Cert.Kernel6Ideal.nD) → Buf (Elt Ideal) ((c.tc : Thread Cert.Kernel6Ideal.nD Cert.Kernel6Ideal.τ).loc Cert.Kernel6Ideal.main_v2_2)) (v9 : (c : Dev Cert.Kernel6Ideal.nD) → Buf (Elt Ideal) ((c.tc : Thread Cert.Kernel6Ideal.nD Cert.Kernel6Ideal.τ).loc Cert.Kernel6Ideal.main_v3_0)) (v10 : (c : Dev Cert.Kernel6Ideal.nD) → Buf (Elt Ideal) ((c.tc : Thread Cert.Kernel6Ideal.nD Cert.Kernel6Ideal.τ).loc Cert.Kernel6Ideal.main_v3_1)) (v11 : (c : Dev Cert.Kernel6Ideal.nD) → Buf (Elt Ideal) ((c.tc : Thread Cert.Kernel6Ideal.nD Cert.Kernel6Ideal.τ).loc Cert.Kernel6Ideal.main_v3_2)) (v12 : (c : Dev Cert.Kernel6Ideal.nD) → Buf (Elt Ideal) ((c.tc : Thread Cert.Kernel6Ideal.nD Cert.Kernel6Ideal.τ).loc Cert.Kernel6Ideal.main_v4_0)) (v13 : (c : Dev Cert.Kernel6Ideal.nD) → Buf (Elt Ideal) ((c.tc : Thread Cert.Kernel6Ideal.nD Cert.Kernel6Ideal.τ).loc Cert.Kernel6Ideal.main_v4_1)) (v14 : (c : Dev Cert.Kernel6Ideal.nD) → Buf (Elt Ideal) ((c.tc : Thread Cert.Kernel6Ideal.nD Cert.Kernel6Ideal.τ).loc Cert.Kernel6Ideal.main_v4_2)) (v15 : (c : Dev Cert.Kernel6Ideal.nD) → Buf (Elt Ideal) ((c.tc : Thread Cert.Kernel6Ideal.nD Cert.Kernel6Ideal.τ).loc Cert.Kernel6Ideal.main_v5_0)) (v16 : (c : Dev Cert.Kernel6Ideal.nD) → Buf (Elt Ideal) ((c.tc : Thread Cert.Kernel6Ideal.nD Cert.Kernel6Ideal.τ).loc Cert.Kernel6Ideal.main_v5_1)) (v17 : (c : Dev Cert.Kernel6Ideal.nD) → Buf (Elt Ideal) ((c.tc : Thread Cert.Kernel6Ideal.nD Cert.Kernel6Ideal.τ).loc Cert.Kernel6Ideal.main_v5_2)) (v18 : (c : Dev Cert.Kernel6Ideal.nD) → Buf (Elt Ideal) ((c.tc : Thread Cert.Kernel6Ideal.nD Cert.Kernel6Ideal.τ).loc Cert.Kernel6Ideal.main_v6_0)) (v19 : (c : Dev Cert.Kernel6Ideal.nD) → Buf (Elt Ideal) ((c.tc : Thread Cert.Kernel6Ideal.nD Cert.Kernel6Ideal.τ).loc Cert.Kernel6Ideal.main_v6_1)) (v20 : (c : Dev Cert.Kernel6Ideal.nD) → Buf (Elt Ideal) ((c.tc : Thread Cert.Kernel6Ideal.nD Cert.Kernel6Ideal.τ).loc Cert.Kernel6Ideal.main_v6_2)) (v21 : (c : Dev Cert.Kernel6Ideal.nD) → Buf (Elt Ideal) ((c.tc : Thread Cert.Kernel6Ideal.nD Cert.Kernel6Ideal.τ).loc Cert.Kernel6Ideal.main_v7_0)) (v22 : (c : Dev Cert.Kernel6Ideal.nD) → Buf (Elt Ideal) ((c.tc : Thread Cert.Kernel6Ideal.nD Cert.Kernel6Ideal.τ).loc Cert.Kernel6Ideal.main_v7_1)) (v23 : (c : Dev Cert.Kernel6Ideal.nD) → Buf (Elt Ideal) ((c.tc : Thread Cert.Kernel6Ideal.nD Cert.Kernel6Ideal.τ).loc Cert.Kernel6Ideal.main_v7_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v1_0) = v3 c
          ∧ r.2.mem ((c.tc : Thread Cert.Kernel6Ideal.nD Cert.Kernel6Ideal.τ).loc Cert.Kernel6Ideal.main_v1_1) = v4 c
          ∧ r.2.mem ((c.tc : Thread Cert.Kernel6Ideal.nD Cert.Kernel6Ideal.τ).loc Cert.Kernel6Ideal.main_v1_2) = v5 c
          ∧ r.2.mem ((c.tc : Thread Cert.Kernel6Ideal.nD Cert.Kernel6Ideal.τ).loc Cert.Kernel6Ideal.main_v2_0) = v6 c
          ∧ r.2.mem ((c.tc : Thread Cert.Kernel6Ideal.nD Cert.Kernel6Ideal.τ).loc Cert.Kernel6Ideal.main_v2_1) = v7 c
          ∧ r.2.mem ((c.tc : Thread Cert.Kernel6Ideal.nD Cert.Kernel6Ideal.τ).loc Cert.Kernel6Ideal.main_v2_2) = v8 c
          ∧ r.2.mem ((c.tc : Thread Cert.Kernel6Ideal.nD Cert.Kernel6Ideal.τ).loc Cert.Kernel6Ideal.main_v3_0) = v9 c
          ∧ r.2.mem ((c.tc : Thread Cert.Kernel6Ideal.nD Cert.Kernel6Ideal.τ).loc Cert.Kernel6Ideal.main_v3_1) = v10 c
          ∧ r.2.mem ((c.tc : Thread Cert.Kernel6Ideal.nD Cert.Kernel6Ideal.τ).loc Cert.Kernel6Ideal.main_v3_2) = v11 c
          ∧ r.2.mem ((c.tc : Thread Cert.Kernel6Ideal.nD Cert.Kernel6Ideal.τ).loc Cert.Kernel6Ideal.main_v4_0) = v12 c
          ∧ r.2.mem ((c.tc : Thread Cert.Kernel6Ideal.nD Cert.Kernel6Ideal.τ).loc Cert.Kernel6Ideal.main_v4_1) = v13 c
          ∧ r.2.mem ((c.tc : Thread Cert.Kernel6Ideal.nD Cert.Kernel6Ideal.τ).loc Cert.Kernel6Ideal.main_v4_2) = v14 c
          ∧ r.2.mem ((c.tc : Thread Cert.Kernel6Ideal.nD Cert.Kernel6Ideal.τ).loc Cert.Kernel6Ideal.main_v5_0) = v15 c
          ∧ r.2.mem ((c.tc : Thread Cert.Kernel6Ideal.nD Cert.Kernel6Ideal.τ).loc Cert.Kernel6Ideal.main_v5_1) = v16 c
          ∧ r.2.mem ((c.tc : Thread Cert.Kernel6Ideal.nD Cert.Kernel6Ideal.τ).loc Cert.Kernel6Ideal.main_v5_2) = v17 c
          ∧ r.2.mem ((c.tc : Thread Cert.Kernel6Ideal.nD Cert.Kernel6Ideal.τ).loc Cert.Kernel6Ideal.main_v6_0) = v18 c
          ∧ r.2.mem ((c.tc : Thread Cert.Kernel6Ideal.nD Cert.Kernel6Ideal.τ).loc Cert.Kernel6Ideal.main_v6_1) = v19 c
          ∧ r.2.mem ((c.tc : Thread Cert.Kernel6Ideal.nD Cert.Kernel6Ideal.τ).loc Cert.Kernel6Ideal.main_v6_2) = v20 c
          ∧ r.2.mem ((c.tc : Thread Cert.Kernel6Ideal.nD Cert.Kernel6Ideal.τ).loc Cert.Kernel6Ideal.main_v7_0) = v21 c
          ∧ r.2.mem ((c.tc : Thread Cert.Kernel6Ideal.nD Cert.Kernel6Ideal.τ).loc Cert.Kernel6Ideal.main_v7_1) = v22 c
          ∧ r.2.mem ((c.tc : Thread Cert.Kernel6Ideal.nD Cert.Kernel6Ideal.τ).loc Cert.Kernel6Ideal.main_v7_2) = v23 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
          ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
          ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
          ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
          ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
          ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19)
          ∧ r.2.mem ((c.tc : Thread Cert.Kernel6Ideal.nD Cert.Kernel6Ideal.τ).loc Cert.Kernel6Ideal.main_arg20) = m ((c.tc : Thread Cert.Kernel6Ideal.nD Cert.Kernel6Ideal.τ).loc Cert.Kernel6Ideal.main_arg20)
          ∧ r.2.mem ((c.tc : Thread Cert.Kernel6Ideal.nD Cert.Kernel6Ideal.τ).loc Cert.Kernel6Ideal.main_arg21) = m ((c.tc : Thread Cert.Kernel6Ideal.nD Cert.Kernel6Ideal.τ).loc Cert.Kernel6Ideal.main_arg21)
          ∧ r.2.mem ((c.tc : Thread Cert.Kernel6Ideal.nD Cert.Kernel6Ideal.τ).loc Cert.Kernel6Ideal.main_arg22) = m ((c.tc : Thread Cert.Kernel6Ideal.nD Cert.Kernel6Ideal.τ).loc Cert.Kernel6Ideal.main_arg22)
          ∧ r.2.mem ((c.tc : Thread Cert.Kernel6Ideal.nD Cert.Kernel6Ideal.τ).loc Cert.Kernel6Ideal.main_arg23) = m ((c.tc : Thread Cert.Kernel6Ideal.nD Cert.Kernel6Ideal.τ).loc Cert.Kernel6Ideal.main_arg23)
          ∧ r.2.mem ((c.tc : Thread Cert.Kernel6Ideal.nD Cert.Kernel6Ideal.τ).loc Cert.Kernel6Ideal.main_arg24) = m ((c.tc : Thread Cert.Kernel6Ideal.nD Cert.Kernel6Ideal.τ).loc Cert.Kernel6Ideal.main_arg24)
          ∧ r.2.mem ((c.tc : Thread Cert.Kernel6Ideal.nD Cert.Kernel6Ideal.τ).loc Cert.Kernel6Ideal.main_arg25) = m ((c.tc : Thread Cert.Kernel6Ideal.nD Cert.Kernel6Ideal.τ).loc Cert.Kernel6Ideal.main_arg25)
          ∧ r.2.mem ((c.tc : Thread Cert.Kernel6Ideal.nD Cert.Kernel6Ideal.τ).loc Cert.Kernel6Ideal.main_arg26) = m ((c.tc : Thread Cert.Kernel6Ideal.nD Cert.Kernel6Ideal.τ).loc Cert.Kernel6Ideal.main_arg26)
          ∧ r.2.mem ((c.tc : Thread Cert.Kernel6Ideal.nD Cert.Kernel6Ideal.τ).loc Cert.Kernel6Ideal.main_arg27) = m ((c.tc : Thread Cert.Kernel6Ideal.nD Cert.Kernel6Ideal.τ).loc Cert.Kernel6Ideal.main_arg27)
          ∧ r.2.mem ((c.tc : Thread Cert.Kernel6Ideal.nD Cert.Kernel6Ideal.τ).loc Cert.Kernel6Ideal.main_arg28) = m ((c.tc : Thread Cert.Kernel6Ideal.nD Cert.Kernel6Ideal.τ).loc Cert.Kernel6Ideal.main_arg28)
          ∧ r.2.mem ((c.tc : Thread Cert.Kernel6Ideal.nD Cert.Kernel6Ideal.τ).loc Cert.Kernel6Ideal.main_arg29) = m ((c.tc : Thread Cert.Kernel6Ideal.nD Cert.Kernel6Ideal.τ).loc Cert.Kernel6Ideal.main_arg29)
          ∧ r.2.mem ((c.tc : Thread Cert.Kernel6Ideal.nD Cert.Kernel6Ideal.τ).loc Cert.Kernel6Ideal.main_arg30) = m ((c.tc : Thread Cert.Kernel6Ideal.nD Cert.Kernel6Ideal.τ).loc Cert.Kernel6Ideal.main_arg30)
          ∧ r.2.mem ((c.tc : Thread Cert.Kernel6Ideal.nD Cert.Kernel6Ideal.τ).loc Cert.Kernel6Ideal.main_arg31) = m ((c.tc : Thread Cert.Kernel6Ideal.nD Cert.Kernel6Ideal.τ).loc Cert.Kernel6Ideal.main_arg31))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_v10) = v2 c
          ∧ r.2.mem ((c.tc : Thread Cert.Reference6Ideal.nD Cert.Reference6Ideal.τ).loc Cert.Reference6Ideal.main_v47) = v3 c
          ∧ r.2.mem ((c.tc : Thread Cert.Reference6Ideal.nD Cert.Reference6Ideal.τ).loc Cert.Reference6Ideal.main_v28) = v4 c
          ∧ r.2.mem ((c.tc : Thread Cert.Reference6Ideal.nD Cert.Reference6Ideal.τ).loc Cert.Reference6Ideal.main_v34) = v5 c
          ∧ r.2.mem ((c.tc : Thread Cert.Reference6Ideal.nD Cert.Reference6Ideal.τ).loc Cert.Reference6Ideal.main_v71) = v6 c
          ∧ r.2.mem ((c.tc : Thread Cert.Reference6Ideal.nD Cert.Reference6Ideal.τ).loc Cert.Reference6Ideal.main_v52) = v7 c
          ∧ r.2.mem ((c.tc : Thread Cert.Reference6Ideal.nD Cert.Reference6Ideal.τ).loc Cert.Reference6Ideal.main_v58) = v8 c
          ∧ r.2.mem ((c.tc : Thread Cert.Reference6Ideal.nD Cert.Reference6Ideal.τ).loc Cert.Reference6Ideal.main_v95) = v9 c
          ∧ r.2.mem ((c.tc : Thread Cert.Reference6Ideal.nD Cert.Reference6Ideal.τ).loc Cert.Reference6Ideal.main_v76) = v10 c
          ∧ r.2.mem ((c.tc : Thread Cert.Reference6Ideal.nD Cert.Reference6Ideal.τ).loc Cert.Reference6Ideal.main_v82) = v11 c
          ∧ r.2.mem ((c.tc : Thread Cert.Reference6Ideal.nD Cert.Reference6Ideal.τ).loc Cert.Reference6Ideal.main_v119) = v12 c
          ∧ r.2.mem ((c.tc : Thread Cert.Reference6Ideal.nD Cert.Reference6Ideal.τ).loc Cert.Reference6Ideal.main_v100) = v13 c
          ∧ r.2.mem ((c.tc : Thread Cert.Reference6Ideal.nD Cert.Reference6Ideal.τ).loc Cert.Reference6Ideal.main_v106) = v14 c
          ∧ r.2.mem ((c.tc : Thread Cert.Reference6Ideal.nD Cert.Reference6Ideal.τ).loc Cert.Reference6Ideal.main_v143) = v15 c
          ∧ r.2.mem ((c.tc : Thread Cert.Reference6Ideal.nD Cert.Reference6Ideal.τ).loc Cert.Reference6Ideal.main_v124) = v16 c
          ∧ r.2.mem ((c.tc : Thread Cert.Reference6Ideal.nD Cert.Reference6Ideal.τ).loc Cert.Reference6Ideal.main_v130) = v17 c
          ∧ r.2.mem ((c.tc : Thread Cert.Reference6Ideal.nD Cert.Reference6Ideal.τ).loc Cert.Reference6Ideal.main_v167) = v18 c
          ∧ r.2.mem ((c.tc : Thread Cert.Reference6Ideal.nD Cert.Reference6Ideal.τ).loc Cert.Reference6Ideal.main_v148) = v19 c
          ∧ r.2.mem ((c.tc : Thread Cert.Reference6Ideal.nD Cert.Reference6Ideal.τ).loc Cert.Reference6Ideal.main_v154) = v20 c
          ∧ r.2.mem ((c.tc : Thread Cert.Reference6Ideal.nD Cert.Reference6Ideal.τ).loc Cert.Reference6Ideal.main_v191) = v21 c
          ∧ r.2.mem ((c.tc : Thread Cert.Reference6Ideal.nD Cert.Reference6Ideal.τ).loc Cert.Reference6Ideal.main_v172) = v22 c
          ∧ r.2.mem ((c.tc : Thread Cert.Reference6Ideal.nD Cert.Reference6Ideal.τ).loc Cert.Reference6Ideal.main_v178) = v23 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14)
          ∧ r.2.mem ((c.tc : Thread Cert.Reference6Ideal.nD Cert.Reference6Ideal.τ).loc Cert.Reference6Ideal.main_arg15) = m' ((c.tc : Thread Cert.Reference6Ideal.nD Cert.Reference6Ideal.τ).loc Cert.Reference6Ideal.main_arg15)
          ∧ r.2.mem ((c.tc : Thread Cert.Reference6Ideal.nD Cert.Reference6Ideal.τ).loc Cert.Reference6Ideal.main_arg16) = m' ((c.tc : Thread Cert.Reference6Ideal.nD Cert.Reference6Ideal.τ).loc Cert.Reference6Ideal.main_arg16)
          ∧ r.2.mem ((c.tc : Thread Cert.Reference6Ideal.nD Cert.Reference6Ideal.τ).loc Cert.Reference6Ideal.main_arg17) = m' ((c.tc : Thread Cert.Reference6Ideal.nD Cert.Reference6Ideal.τ).loc Cert.Reference6Ideal.main_arg17)
          ∧ r.2.mem ((c.tc : Thread Cert.Reference6Ideal.nD Cert.Reference6Ideal.τ).loc Cert.Reference6Ideal.main_arg18) = m' ((c.tc : Thread Cert.Reference6Ideal.nD Cert.Reference6Ideal.τ).loc Cert.Reference6Ideal.main_arg18)
          ∧ r.2.mem ((c.tc : Thread Cert.Reference6Ideal.nD Cert.Reference6Ideal.τ).loc Cert.Reference6Ideal.main_arg19) = m' ((c.tc : Thread Cert.Reference6Ideal.nD Cert.Reference6Ideal.τ).loc Cert.Reference6Ideal.main_arg19)
          ∧ r.2.mem ((c.tc : Thread Cert.Reference6Ideal.nD Cert.Reference6Ideal.τ).loc Cert.Reference6Ideal.main_arg20) = m' ((c.tc : Thread Cert.Reference6Ideal.nD Cert.Reference6Ideal.τ).loc Cert.Reference6Ideal.main_arg20)
          ∧ r.2.mem ((c.tc : Thread Cert.Reference6Ideal.nD Cert.Reference6Ideal.τ).loc Cert.Reference6Ideal.main_arg21) = m' ((c.tc : Thread Cert.Reference6Ideal.nD Cert.Reference6Ideal.τ).loc Cert.Reference6Ideal.main_arg21)
          ∧ r.2.mem ((c.tc : Thread Cert.Reference6Ideal.nD Cert.Reference6Ideal.τ).loc Cert.Reference6Ideal.main_arg22) = m' ((c.tc : Thread Cert.Reference6Ideal.nD Cert.Reference6Ideal.τ).loc Cert.Reference6Ideal.main_arg22)
          ∧ r.2.mem ((c.tc : Thread Cert.Reference6Ideal.nD Cert.Reference6Ideal.τ).loc Cert.Reference6Ideal.main_arg23) = m' ((c.tc : Thread Cert.Reference6Ideal.nD Cert.Reference6Ideal.τ).loc Cert.Reference6Ideal.main_arg23)
          ∧ r.2.mem ((c.tc : Thread Cert.Reference6Ideal.nD Cert.Reference6Ideal.τ).loc Cert.Reference6Ideal.main_arg24) = m' ((c.tc : Thread Cert.Reference6Ideal.nD Cert.Reference6Ideal.τ).loc Cert.Reference6Ideal.main_arg24)
          ∧ r.2.mem ((c.tc : Thread Cert.Reference6Ideal.nD Cert.Reference6Ideal.τ).loc Cert.Reference6Ideal.main_arg25) = m' ((c.tc : Thread Cert.Reference6Ideal.nD Cert.Reference6Ideal.τ).loc Cert.Reference6Ideal.main_arg25)
          ∧ r.2.mem ((c.tc : Thread Cert.Reference6Ideal.nD Cert.Reference6Ideal.τ).loc Cert.Reference6Ideal.main_arg26) = m' ((c.tc : Thread Cert.Reference6Ideal.nD Cert.Reference6Ideal.τ).loc Cert.Reference6Ideal.main_arg26)
          ∧ r.2.mem ((c.tc : Thread Cert.Reference6Ideal.nD Cert.Reference6Ideal.τ).loc Cert.Reference6Ideal.main_arg27) = m' ((c.tc : Thread Cert.Reference6Ideal.nD Cert.Reference6Ideal.τ).loc Cert.Reference6Ideal.main_arg27)
          ∧ r.2.mem ((c.tc : Thread Cert.Reference6Ideal.nD Cert.Reference6Ideal.τ).loc Cert.Reference6Ideal.main_arg28) = m' ((c.tc : Thread Cert.Reference6Ideal.nD Cert.Reference6Ideal.τ).loc Cert.Reference6Ideal.main_arg28)
          ∧ r.2.mem ((c.tc : Thread Cert.Reference6Ideal.nD Cert.Reference6Ideal.τ).loc Cert.Reference6Ideal.main_arg29) = m' ((c.tc : Thread Cert.Reference6Ideal.nD Cert.Reference6Ideal.τ).loc Cert.Reference6Ideal.main_arg29)
          ∧ r.2.mem ((c.tc : Thread Cert.Reference6Ideal.nD Cert.Reference6Ideal.τ).loc Cert.Reference6Ideal.main_arg30) = m' ((c.tc : Thread Cert.Reference6Ideal.nD Cert.Reference6Ideal.τ).loc Cert.Reference6Ideal.main_arg30)
          ∧ r.2.mem ((c.tc : Thread Cert.Reference6Ideal.nD Cert.Reference6Ideal.τ).loc Cert.Reference6Ideal.main_arg31) = m' ((c.tc : Thread Cert.Reference6Ideal.nD Cert.Reference6Ideal.τ).loc Cert.Reference6Ideal.main_arg31))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)
      ∧ m' ((c.tc : Thread Cert.Reference7Ideal.nD Cert.Reference7Ideal.τ).loc Cert.Reference7Ideal.main_arg14) = m ((c.tc : Thread Cert.Kernel7Ideal.nD Cert.Kernel7Ideal.τ).loc Cert.Kernel7Ideal.main_arg14)
      ∧ m' ((c.tc : Thread Cert.Reference7Ideal.nD Cert.Reference7Ideal.τ).loc Cert.Reference7Ideal.main_arg15) = m ((c.tc : Thread Cert.Kernel7Ideal.nD Cert.Kernel7Ideal.τ).loc Cert.Kernel7Ideal.main_arg15)
      ∧ m' ((c.tc : Thread Cert.Reference7Ideal.nD Cert.Reference7Ideal.τ).loc Cert.Reference7Ideal.main_arg16) = m ((c.tc : Thread Cert.Kernel7Ideal.nD Cert.Kernel7Ideal.τ).loc Cert.Kernel7Ideal.main_arg16)
      ∧ m' ((c.tc : Thread Cert.Reference7Ideal.nD Cert.Reference7Ideal.τ).loc Cert.Reference7Ideal.main_arg17) = m ((c.tc : Thread Cert.Kernel7Ideal.nD Cert.Kernel7Ideal.τ).loc Cert.Kernel7Ideal.main_arg17)
      ∧ m' ((c.tc : Thread Cert.Reference7Ideal.nD Cert.Reference7Ideal.τ).loc Cert.Reference7Ideal.main_arg18) = m ((c.tc : Thread Cert.Kernel7Ideal.nD Cert.Kernel7Ideal.τ).loc Cert.Kernel7Ideal.main_arg18)
      ∧ m' ((c.tc : Thread Cert.Reference7Ideal.nD Cert.Reference7Ideal.τ).loc Cert.Reference7Ideal.main_arg19) = m ((c.tc : Thread Cert.Kernel7Ideal.nD Cert.Kernel7Ideal.τ).loc Cert.Kernel7Ideal.main_arg19)
      ∧ m' ((c.tc : Thread Cert.Reference7Ideal.nD Cert.Reference7Ideal.τ).loc Cert.Reference7Ideal.main_arg20) = m ((c.tc : Thread Cert.Kernel7Ideal.nD Cert.Kernel7Ideal.τ).loc Cert.Kernel7Ideal.main_arg20)
      ∧ m' ((c.tc : Thread Cert.Reference7Ideal.nD Cert.Reference7Ideal.τ).loc Cert.Reference7Ideal.main_arg21) = m ((c.tc : Thread Cert.Kernel7Ideal.nD Cert.Kernel7Ideal.τ).loc Cert.Kernel7Ideal.main_arg21)
      ∧ m' ((c.tc : Thread Cert.Reference7Ideal.nD Cert.Reference7Ideal.τ).loc Cert.Reference7Ideal.main_arg22) = m ((c.tc : Thread Cert.Kernel7Ideal.nD Cert.Kernel7Ideal.τ).loc Cert.Kernel7Ideal.main_arg22)
      ∧ m' ((c.tc : Thread Cert.Reference7Ideal.nD Cert.Reference7Ideal.τ).loc Cert.Reference7Ideal.main_arg23) = m ((c.tc : Thread Cert.Kernel7Ideal.nD Cert.Kernel7Ideal.τ).loc Cert.Kernel7Ideal.main_arg23)
      ∧ m' ((c.tc : Thread Cert.Reference7Ideal.nD Cert.Reference7Ideal.τ).loc Cert.Reference7Ideal.main_arg24) = m ((c.tc : Thread Cert.Kernel7Ideal.nD Cert.Kernel7Ideal.τ).loc Cert.Kernel7Ideal.main_arg24)
      ∧ m' ((c.tc : Thread Cert.Reference7Ideal.nD Cert.Reference7Ideal.τ).loc Cert.Reference7Ideal.main_arg25) = m ((c.tc : Thread Cert.Kernel7Ideal.nD Cert.Kernel7Ideal.τ).loc Cert.Kernel7Ideal.main_arg25)
      ∧ m' ((c.tc : Thread Cert.Reference7Ideal.nD Cert.Reference7Ideal.τ).loc Cert.Reference7Ideal.main_arg26) = m ((c.tc : Thread Cert.Kernel7Ideal.nD Cert.Kernel7Ideal.τ).loc Cert.Kernel7Ideal.main_arg26)
      ∧ m' ((c.tc : Thread Cert.Reference7Ideal.nD Cert.Reference7Ideal.τ).loc Cert.Reference7Ideal.main_arg27) = m ((c.tc : Thread Cert.Kernel7Ideal.nD Cert.Kernel7Ideal.τ).loc Cert.Kernel7Ideal.main_arg27)
      ∧ m' ((c.tc : Thread Cert.Reference7Ideal.nD Cert.Reference7Ideal.τ).loc Cert.Reference7Ideal.main_arg28) = m ((c.tc : Thread Cert.Kernel7Ideal.nD Cert.Kernel7Ideal.τ).loc Cert.Kernel7Ideal.main_arg28)
      ∧ m' ((c.tc : Thread Cert.Reference7Ideal.nD Cert.Reference7Ideal.τ).loc Cert.Reference7Ideal.main_arg29) = m ((c.tc : Thread Cert.Kernel7Ideal.nD Cert.Kernel7Ideal.τ).loc Cert.Kernel7Ideal.main_arg29)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)) (v4 : (c : Dev Cert.Kernel7Ideal.nD) → Buf (Elt Ideal) ((c.tc : Thread Cert.Kernel7Ideal.nD Cert.Kernel7Ideal.τ).loc Cert.Kernel7Ideal.main_v1_0)) (v5 : (c : Dev Cert.Kernel7Ideal.nD) → Buf (Elt Ideal) ((c.tc : Thread Cert.Kernel7Ideal.nD Cert.Kernel7Ideal.τ).loc Cert.Kernel7Ideal.main_v1_1)) (v6 : (c : Dev Cert.Kernel7Ideal.nD) → Buf (Elt Ideal) ((c.tc : Thread Cert.Kernel7Ideal.nD Cert.Kernel7Ideal.τ).loc Cert.Kernel7Ideal.main_v1_2)) (v7 : (c : Dev Cert.Kernel7Ideal.nD) → Buf (Elt Ideal) ((c.tc : Thread Cert.Kernel7Ideal.nD Cert.Kernel7Ideal.τ).loc Cert.Kernel7Ideal.main_v1_3)) (v8 : (c : Dev Cert.Kernel7Ideal.nD) → Buf (Elt Ideal) ((c.tc : Thread Cert.Kernel7Ideal.nD Cert.Kernel7Ideal.τ).loc Cert.Kernel7Ideal.main_v2_0)) (v9 : (c : Dev Cert.Kernel7Ideal.nD) → Buf (Elt Ideal) ((c.tc : Thread Cert.Kernel7Ideal.nD Cert.Kernel7Ideal.τ).loc Cert.Kernel7Ideal.main_v2_1)) (v10 : (c : Dev Cert.Kernel7Ideal.nD) → Buf (Elt Ideal) ((c.tc : Thread Cert.Kernel7Ideal.nD Cert.Kernel7Ideal.τ).loc Cert.Kernel7Ideal.main_v2_2)) (v11 : (c : Dev Cert.Kernel7Ideal.nD) → Buf (Elt Ideal) ((c.tc : Thread Cert.Kernel7Ideal.nD Cert.Kernel7Ideal.τ).loc Cert.Kernel7Ideal.main_v2_3)) (v12 : (c : Dev Cert.Kernel7Ideal.nD) → Buf (Elt Ideal) ((c.tc : Thread Cert.Kernel7Ideal.nD Cert.Kernel7Ideal.τ).loc Cert.Kernel7Ideal.main_v3_0)) (v13 : (c : Dev Cert.Kernel7Ideal.nD) → Buf (Elt Ideal) ((c.tc : Thread Cert.Kernel7Ideal.nD Cert.Kernel7Ideal.τ).loc Cert.Kernel7Ideal.main_v3_1)) (v14 : (c : Dev Cert.Kernel7Ideal.nD) → Buf (Elt Ideal) ((c.tc : Thread Cert.Kernel7Ideal.nD Cert.Kernel7Ideal.τ).loc Cert.Kernel7Ideal.main_v3_2)) (v15 : (c : Dev Cert.Kernel7Ideal.nD) → Buf (Elt Ideal) ((c.tc : Thread Cert.Kernel7Ideal.nD Cert.Kernel7Ideal.τ).loc Cert.Kernel7Ideal.main_v3_3)) (v16 : (c : Dev Cert.Kernel7Ideal.nD) → Buf (Elt Ideal) ((c.tc : Thread Cert.Kernel7Ideal.nD Cert.Kernel7Ideal.τ).loc Cert.Kernel7Ideal.main_v4_0)) (v17 : (c : Dev Cert.Kernel7Ideal.nD) → Buf (Elt Ideal) ((c.tc : Thread Cert.Kernel7Ideal.nD Cert.Kernel7Ideal.τ).loc Cert.Kernel7Ideal.main_v4_1)) (v18 : (c : Dev Cert.Kernel7Ideal.nD) → Buf (Elt Ideal) ((c.tc : Thread Cert.Kernel7Ideal.nD Cert.Kernel7Ideal.τ).loc Cert.Kernel7Ideal.main_v4_2)) (v19 : (c : Dev Cert.Kernel7Ideal.nD) → Buf (Elt Ideal) ((c.tc : Thread Cert.Kernel7Ideal.nD Cert.Kernel7Ideal.τ).loc Cert.Kernel7Ideal.main_v4_3)) (v20 : (c : Dev Cert.Kernel7Ideal.nD) → Buf (Elt Ideal) ((c.tc : Thread Cert.Kernel7Ideal.nD Cert.Kernel7Ideal.τ).loc Cert.Kernel7Ideal.main_v5_0)) (v21 : (c : Dev Cert.Kernel7Ideal.nD) → Buf (Elt Ideal) ((c.tc : Thread Cert.Kernel7Ideal.nD Cert.Kernel7Ideal.τ).loc Cert.Kernel7Ideal.main_v5_1)) (v22 : (c : Dev Cert.Kernel7Ideal.nD) → Buf (Elt Ideal) ((c.tc : Thread Cert.Kernel7Ideal.nD Cert.Kernel7Ideal.τ).loc Cert.Kernel7Ideal.main_v5_2)) (v23 : (c : Dev Cert.Kernel7Ideal.nD) → Buf (Elt Ideal) ((c.tc : Thread Cert.Kernel7Ideal.nD Cert.Kernel7Ideal.τ).loc Cert.Kernel7Ideal.main_v5_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_v1_0) = v4 c
          ∧ r.2.mem ((c.tc : Thread Cert.Kernel7Ideal.nD Cert.Kernel7Ideal.τ).loc Cert.Kernel7Ideal.main_v1_1) = v5 c
          ∧ r.2.mem ((c.tc : Thread Cert.Kernel7Ideal.nD Cert.Kernel7Ideal.τ).loc Cert.Kernel7Ideal.main_v1_2) = v6 c
          ∧ r.2.mem ((c.tc : Thread Cert.Kernel7Ideal.nD Cert.Kernel7Ideal.τ).loc Cert.Kernel7Ideal.main_v1_3) = v7 c
          ∧ r.2.mem ((c.tc : Thread Cert.Kernel7Ideal.nD Cert.Kernel7Ideal.τ).loc Cert.Kernel7Ideal.main_v2_0) = v8 c
          ∧ r.2.mem ((c.tc : Thread Cert.Kernel7Ideal.nD Cert.Kernel7Ideal.τ).loc Cert.Kernel7Ideal.main_v2_1) = v9 c
          ∧ r.2.mem ((c.tc : Thread Cert.Kernel7Ideal.nD Cert.Kernel7Ideal.τ).loc Cert.Kernel7Ideal.main_v2_2) = v10 c
          ∧ r.2.mem ((c.tc : Thread Cert.Kernel7Ideal.nD Cert.Kernel7Ideal.τ).loc Cert.Kernel7Ideal.main_v2_3) = v11 c
          ∧ r.2.mem ((c.tc : Thread Cert.Kernel7Ideal.nD Cert.Kernel7Ideal.τ).loc Cert.Kernel7Ideal.main_v3_0) = v12 c
          ∧ r.2.mem ((c.tc : Thread Cert.Kernel7Ideal.nD Cert.Kernel7Ideal.τ).loc Cert.Kernel7Ideal.main_v3_1) = v13 c
          ∧ r.2.mem ((c.tc : Thread Cert.Kernel7Ideal.nD Cert.Kernel7Ideal.τ).loc Cert.Kernel7Ideal.main_v3_2) = v14 c
          ∧ r.2.mem ((c.tc : Thread Cert.Kernel7Ideal.nD Cert.Kernel7Ideal.τ).loc Cert.Kernel7Ideal.main_v3_3) = v15 c
          ∧ r.2.mem ((c.tc : Thread Cert.Kernel7Ideal.nD Cert.Kernel7Ideal.τ).loc Cert.Kernel7Ideal.main_v4_0) = v16 c
          ∧ r.2.mem ((c.tc : Thread Cert.Kernel7Ideal.nD Cert.Kernel7Ideal.τ).loc Cert.Kernel7Ideal.main_v4_1) = v17 c
          ∧ r.2.mem ((c.tc : Thread Cert.Kernel7Ideal.nD Cert.Kernel7Ideal.τ).loc Cert.Kernel7Ideal.main_v4_2) = v18 c
          ∧ r.2.mem ((c.tc : Thread Cert.Kernel7Ideal.nD Cert.Kernel7Ideal.τ).loc Cert.Kernel7Ideal.main_v4_3) = v19 c
          ∧ r.2.mem ((c.tc : Thread Cert.Kernel7Ideal.nD Cert.Kernel7Ideal.τ).loc Cert.Kernel7Ideal.main_v5_0) = v20 c
          ∧ r.2.mem ((c.tc : Thread Cert.Kernel7Ideal.nD Cert.Kernel7Ideal.τ).loc Cert.Kernel7Ideal.main_v5_1) = v21 c
          ∧ r.2.mem ((c.tc : Thread Cert.Kernel7Ideal.nD Cert.Kernel7Ideal.τ).loc Cert.Kernel7Ideal.main_v5_2) = v22 c
          ∧ r.2.mem ((c.tc : Thread Cert.Kernel7Ideal.nD Cert.Kernel7Ideal.τ).loc Cert.Kernel7Ideal.main_v5_3) = v23 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
          ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
          ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
          ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16)
          ∧ r.2.mem ((c.tc : Thread Cert.Kernel7Ideal.nD Cert.Kernel7Ideal.τ).loc Cert.Kernel7Ideal.main_arg17) = m ((c.tc : Thread Cert.Kernel7Ideal.nD Cert.Kernel7Ideal.τ).loc Cert.Kernel7Ideal.main_arg17)
          ∧ r.2.mem ((c.tc : Thread Cert.Kernel7Ideal.nD Cert.Kernel7Ideal.τ).loc Cert.Kernel7Ideal.main_arg18) = m ((c.tc : Thread Cert.Kernel7Ideal.nD Cert.Kernel7Ideal.τ).loc Cert.Kernel7Ideal.main_arg18)
          ∧ r.2.mem ((c.tc : Thread Cert.Kernel7Ideal.nD Cert.Kernel7Ideal.τ).loc Cert.Kernel7Ideal.main_arg19) = m ((c.tc : Thread Cert.Kernel7Ideal.nD Cert.Kernel7Ideal.τ).loc Cert.Kernel7Ideal.main_arg19)
          ∧ r.2.mem ((c.tc : Thread Cert.Kernel7Ideal.nD Cert.Kernel7Ideal.τ).loc Cert.Kernel7Ideal.main_arg20) = m ((c.tc : Thread Cert.Kernel7Ideal.nD Cert.Kernel7Ideal.τ).loc Cert.Kernel7Ideal.main_arg20)
          ∧ r.2.mem ((c.tc : Thread Cert.Kernel7Ideal.nD Cert.Kernel7Ideal.τ).loc Cert.Kernel7Ideal.main_arg21) = m ((c.tc : Thread Cert.Kernel7Ideal.nD Cert.Kernel7Ideal.τ).loc Cert.Kernel7Ideal.main_arg21)
          ∧ r.2.mem ((c.tc : Thread Cert.Kernel7Ideal.nD Cert.Kernel7Ideal.τ).loc Cert.Kernel7Ideal.main_arg22) = m ((c.tc : Thread Cert.Kernel7Ideal.nD Cert.Kernel7Ideal.τ).loc Cert.Kernel7Ideal.main_arg22)
          ∧ r.2.mem ((c.tc : Thread Cert.Kernel7Ideal.nD Cert.Kernel7Ideal.τ).loc Cert.Kernel7Ideal.main_arg23) = m ((c.tc : Thread Cert.Kernel7Ideal.nD Cert.Kernel7Ideal.τ).loc Cert.Kernel7Ideal.main_arg23)
          ∧ r.2.mem ((c.tc : Thread Cert.Kernel7Ideal.nD Cert.Kernel7Ideal.τ).loc Cert.Kernel7Ideal.main_arg24) = m ((c.tc : Thread Cert.Kernel7Ideal.nD Cert.Kernel7Ideal.τ).loc Cert.Kernel7Ideal.main_arg24)
          ∧ r.2.mem ((c.tc : Thread Cert.Kernel7Ideal.nD Cert.Kernel7Ideal.τ).loc Cert.Kernel7Ideal.main_arg25) = m ((c.tc : Thread Cert.Kernel7Ideal.nD Cert.Kernel7Ideal.τ).loc Cert.Kernel7Ideal.main_arg25)
          ∧ r.2.mem ((c.tc : Thread Cert.Kernel7Ideal.nD Cert.Kernel7Ideal.τ).loc Cert.Kernel7Ideal.main_arg26) = m ((c.tc : Thread Cert.Kernel7Ideal.nD Cert.Kernel7Ideal.τ).loc Cert.Kernel7Ideal.main_arg26)
          ∧ r.2.mem ((c.tc : Thread Cert.Kernel7Ideal.nD Cert.Kernel7Ideal.τ).loc Cert.Kernel7Ideal.main_arg27) = m ((c.tc : Thread Cert.Kernel7Ideal.nD Cert.Kernel7Ideal.τ).loc Cert.Kernel7Ideal.main_arg27)
          ∧ r.2.mem ((c.tc : Thread Cert.Kernel7Ideal.nD Cert.Kernel7Ideal.τ).loc Cert.Kernel7Ideal.main_arg28) = m ((c.tc : Thread Cert.Kernel7Ideal.nD Cert.Kernel7Ideal.τ).loc Cert.Kernel7Ideal.main_arg28)
          ∧ r.2.mem ((c.tc : Thread Cert.Kernel7Ideal.nD Cert.Kernel7Ideal.τ).loc Cert.Kernel7Ideal.main_arg29) = m ((c.tc : Thread Cert.Kernel7Ideal.nD Cert.Kernel7Ideal.τ).loc Cert.Kernel7Ideal.main_arg29))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_v27) = v1 c
          ∧ r.2.mem ((c.tc : Thread Cert.Reference7Ideal.nD Cert.Reference7Ideal.τ).loc Cert.Reference7Ideal.main_v8) = v2 c
          ∧ r.2.mem ((c.tc : Thread Cert.Reference7Ideal.nD Cert.Reference7Ideal.τ).loc Cert.Reference7Ideal.main_v14) = v3 c
          ∧ r.2.mem ((c.tc : Thread Cert.Reference7Ideal.nD Cert.Reference7Ideal.τ).loc Cert.Reference7Ideal.main_v31) = v4 c
          ∧ r.2.mem ((c.tc : Thread Cert.Reference7Ideal.nD Cert.Reference7Ideal.τ).loc Cert.Reference7Ideal.main_v55) = v5 c
          ∧ r.2.mem ((c.tc : Thread Cert.Reference7Ideal.nD Cert.Reference7Ideal.τ).loc Cert.Reference7Ideal.main_v36) = v6 c
          ∧ r.2.mem ((c.tc : Thread Cert.Reference7Ideal.nD Cert.Reference7Ideal.τ).loc Cert.Reference7Ideal.main_v42) = v7 c
          ∧ r.2.mem ((c.tc : Thread Cert.Reference7Ideal.nD Cert.Reference7Ideal.τ).loc Cert.Reference7Ideal.main_v59) = v8 c
          ∧ r.2.mem ((c.tc : Thread Cert.Reference7Ideal.nD Cert.Reference7Ideal.τ).loc Cert.Reference7Ideal.main_v83) = v9 c
          ∧ r.2.mem ((c.tc : Thread Cert.Reference7Ideal.nD Cert.Reference7Ideal.τ).loc Cert.Reference7Ideal.main_v64) = v10 c
          ∧ r.2.mem ((c.tc : Thread Cert.Reference7Ideal.nD Cert.Reference7Ideal.τ).loc Cert.Reference7Ideal.main_v70) = v11 c
          ∧ r.2.mem ((c.tc : Thread Cert.Reference7Ideal.nD Cert.Reference7Ideal.τ).loc Cert.Reference7Ideal.main_v87) = v12 c
          ∧ r.2.mem ((c.tc : Thread Cert.Reference7Ideal.nD Cert.Reference7Ideal.τ).loc Cert.Reference7Ideal.main_v111) = v13 c
          ∧ r.2.mem ((c.tc : Thread Cert.Reference7Ideal.nD Cert.Reference7Ideal.τ).loc Cert.Reference7Ideal.main_v92) = v14 c
          ∧ r.2.mem ((c.tc : Thread Cert.Reference7Ideal.nD Cert.Reference7Ideal.τ).loc Cert.Reference7Ideal.main_v98) = v15 c
          ∧ r.2.mem ((c.tc : Thread Cert.Reference7Ideal.nD Cert.Reference7Ideal.τ).loc Cert.Reference7Ideal.main_v115) = v16 c
          ∧ r.2.mem ((c.tc : Thread Cert.Reference7Ideal.nD Cert.Reference7Ideal.τ).loc Cert.Reference7Ideal.main_v139) = v17 c
          ∧ r.2.mem ((c.tc : Thread Cert.Reference7Ideal.nD Cert.Reference7Ideal.τ).loc Cert.Reference7Ideal.main_v120) = v18 c
          ∧ r.2.mem ((c.tc : Thread Cert.Reference7Ideal.nD Cert.Reference7Ideal.τ).loc Cert.Reference7Ideal.main_v126) = v19 c
          ∧ r.2.mem ((c.tc : Thread Cert.Reference7Ideal.nD Cert.Reference7Ideal.τ).loc Cert.Reference7Ideal.main_v143) = v20 c
          ∧ r.2.mem ((c.tc : Thread Cert.Reference7Ideal.nD Cert.Reference7Ideal.τ).loc Cert.Reference7Ideal.main_v167) = v21 c
          ∧ r.2.mem ((c.tc : Thread Cert.Reference7Ideal.nD Cert.Reference7Ideal.τ).loc Cert.Reference7Ideal.main_v148) = v22 c
          ∧ r.2.mem ((c.tc : Thread Cert.Reference7Ideal.nD Cert.Reference7Ideal.τ).loc Cert.Reference7Ideal.main_v154) = v23 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13)
          ∧ r.2.mem ((c.tc : Thread Cert.Reference7Ideal.nD Cert.Reference7Ideal.τ).loc Cert.Reference7Ideal.main_arg14) = m' ((c.tc : Thread Cert.Reference7Ideal.nD Cert.Reference7Ideal.τ).loc Cert.Reference7Ideal.main_arg14)
          ∧ r.2.mem ((c.tc : Thread Cert.Reference7Ideal.nD Cert.Reference7Ideal.τ).loc Cert.Reference7Ideal.main_arg15) = m' ((c.tc : Thread Cert.Reference7Ideal.nD Cert.Reference7Ideal.τ).loc Cert.Reference7Ideal.main_arg15)
          ∧ r.2.mem ((c.tc : Thread Cert.Reference7Ideal.nD Cert.Reference7Ideal.τ).loc Cert.Reference7Ideal.main_arg16) = m' ((c.tc : Thread Cert.Reference7Ideal.nD Cert.Reference7Ideal.τ).loc Cert.Reference7Ideal.main_arg16)
          ∧ r.2.mem ((c.tc : Thread Cert.Reference7Ideal.nD Cert.Reference7Ideal.τ).loc Cert.Reference7Ideal.main_arg17) = m' ((c.tc : Thread Cert.Reference7Ideal.nD Cert.Reference7Ideal.τ).loc Cert.Reference7Ideal.main_arg17)
          ∧ r.2.mem ((c.tc : Thread Cert.Reference7Ideal.nD Cert.Reference7Ideal.τ).loc Cert.Reference7Ideal.main_arg18) = m' ((c.tc : Thread Cert.Reference7Ideal.nD Cert.Reference7Ideal.τ).loc Cert.Reference7Ideal.main_arg18)
          ∧ r.2.mem ((c.tc : Thread Cert.Reference7Ideal.nD Cert.Reference7Ideal.τ).loc Cert.Reference7Ideal.main_arg19) = m' ((c.tc : Thread Cert.Reference7Ideal.nD Cert.Reference7Ideal.τ).loc Cert.Reference7Ideal.main_arg19)
          ∧ r.2.mem ((c.tc : Thread Cert.Reference7Ideal.nD Cert.Reference7Ideal.τ).loc Cert.Reference7Ideal.main_arg20) = m' ((c.tc : Thread Cert.Reference7Ideal.nD Cert.Reference7Ideal.τ).loc Cert.Reference7Ideal.main_arg20)
          ∧ r.2.mem ((c.tc : Thread Cert.Reference7Ideal.nD Cert.Reference7Ideal.τ).loc Cert.Reference7Ideal.main_arg21) = m' ((c.tc : Thread Cert.Reference7Ideal.nD Cert.Reference7Ideal.τ).loc Cert.Reference7Ideal.main_arg21)
          ∧ r.2.mem ((c.tc : Thread Cert.Reference7Ideal.nD Cert.Reference7Ideal.τ).loc Cert.Reference7Ideal.main_arg22) = m' ((c.tc : Thread Cert.Reference7Ideal.nD Cert.Reference7Ideal.τ).loc Cert.Reference7Ideal.main_arg22)
          ∧ r.2.mem ((c.tc : Thread Cert.Reference7Ideal.nD Cert.Reference7Ideal.τ).loc Cert.Reference7Ideal.main_arg23) = m' ((c.tc : Thread Cert.Reference7Ideal.nD Cert.Reference7Ideal.τ).loc Cert.Reference7Ideal.main_arg23)
          ∧ r.2.mem ((c.tc : Thread Cert.Reference7Ideal.nD Cert.Reference7Ideal.τ).loc Cert.Reference7Ideal.main_arg24) = m' ((c.tc : Thread Cert.Reference7Ideal.nD Cert.Reference7Ideal.τ).loc Cert.Reference7Ideal.main_arg24)
          ∧ r.2.mem ((c.tc : Thread Cert.Reference7Ideal.nD Cert.Reference7Ideal.τ).loc Cert.Reference7Ideal.main_arg25) = m' ((c.tc : Thread Cert.Reference7Ideal.nD Cert.Reference7Ideal.τ).loc Cert.Reference7Ideal.main_arg25)
          ∧ r.2.mem ((c.tc : Thread Cert.Reference7Ideal.nD Cert.Reference7Ideal.τ).loc Cert.Reference7Ideal.main_arg26) = m' ((c.tc : Thread Cert.Reference7Ideal.nD Cert.Reference7Ideal.τ).loc Cert.Reference7Ideal.main_arg26)
          ∧ r.2.mem ((c.tc : Thread Cert.Reference7Ideal.nD Cert.Reference7Ideal.τ).loc Cert.Reference7Ideal.main_arg27) = m' ((c.tc : Thread Cert.Reference7Ideal.nD Cert.Reference7Ideal.τ).loc Cert.Reference7Ideal.main_arg27)
          ∧ r.2.mem ((c.tc : Thread Cert.Reference7Ideal.nD Cert.Reference7Ideal.τ).loc Cert.Reference7Ideal.main_arg28) = m' ((c.tc : Thread Cert.Reference7Ideal.nD Cert.Reference7Ideal.τ).loc Cert.Reference7Ideal.main_arg28)
          ∧ r.2.mem ((c.tc : Thread Cert.Reference7Ideal.nD Cert.Reference7Ideal.τ).loc Cert.Reference7Ideal.main_arg29) = m' ((c.tc : Thread Cert.Reference7Ideal.nD Cert.Reference7Ideal.τ).loc Cert.Reference7Ideal.main_arg29))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S2048x768 : Shape := ⟨2, ![2048, 768]⟩
abbrev S2048x256 : Shape := ⟨2, ![2048, 256]⟩
abbrev S2048x3840 : Shape := ⟨2, ![2048, 3840]⟩
abbrev S_ : Shape := ⟨0, ![]⟩

class Facts : Prop where
  concatenates_S2048x768_S2048x768_S2048x768_S2048x256_S2048x256_S2048x256_S2048x256_S2048x256_S2048x256_S2048x3840_d1 : Shape.Concatenates [S2048x768, S2048x768, S2048x768, S2048x256, S2048x256, S2048x256, S2048x256, S2048x256, S2048x256] S2048x3840 1
  bcast_S_S2048x3840 : S_.BroadcastsInDim S2048x3840 (![] : Fin 0 → Fin S2048x3840.rank)

variable [Facts]

def fn {F : FTy → Type} [FloatOps F] (main_arg0 : FVec F S2048x768 .f32) (main_arg1 : FVec F S2048x768 .f32) (main_arg2 : FVec F S2048x768 .f32) (main_arg3 : FVec F S2048x256 .f32) (main_arg4 : FVec F S2048x256 .f32) (main_arg5 : FVec F S2048x256 .f32) (main_arg6 : FVec F S2048x256 .f32) (main_arg7 : FVec F S2048x256 .f32) (main_arg8 : FVec F S2048x256 .f32) : IVec S2048x3840 1 :=
  let main_v0 : FVec F S2048x3840 .f32 := concatenate S2048x3840 1 [⟨S2048x768, main_arg0⟩, ⟨S2048x768, main_arg1⟩, ⟨S2048x768, main_arg2⟩, ⟨S2048x256, main_arg3⟩, ⟨S2048x256, main_arg4⟩, ⟨S2048x256, main_arg5⟩, ⟨S2048x256, main_arg6⟩, ⟨S2048x256, main_arg7⟩, ⟨S2048x256, main_arg8⟩] concatenates_S2048x768_S2048x768_S2048x768_S2048x256_S2048x256_S2048x256_S2048x256_S2048x256_S2048x256_S2048x3840_d1
  let main_v1 : FVec F S2048x3840 .f32 := Host.absf main_v0
  let main_cst : FVec F S_ .f32 := constant S_ .f32 0x7F800000#32
  let main_v2 : FVec F S2048x3840 .f32 := broadcastInDim S2048x3840 ![] bcast_S_S2048x3840 main_cst
  let main_v3 : IVec S2048x3840 1 := cmpf .olt main_v1 main_v2
  main_v3
-- ==== Pre_finite2.lean ====
abbrev S2048x1024 : Shape := ⟨2, ![2048, 1024]⟩
abbrev S1x1024 : Shape := ⟨2, ![1, 1024]⟩
abbrev S1024x2816 : Shape := ⟨2, ![1024, 2816]⟩
abbrev S2816x1024 : Shape := ⟨2, ![2816, 1024]⟩
abbrev S12545x1024 : Shape := ⟨2, ![12545, 1024]⟩
abbrev S_ : Shape := ⟨0, ![]⟩

class Facts : Prop where
  shapeCasts_S1024x2816_S2816x1024 : S1024x2816.ShapeCasts S2816x1024
  concatenates_S2048x1024_S1x1024_S2816x1024_S2816x1024_S2816x1024_S2048x1024_S12545x1024_d0 : Shape.Concatenates [S2048x1024, S1x1024, S2816x1024, S2816x1024, S2816x1024, S2048x1024] S12545x1024 0
  bcast_S_S12545x1024 : S_.BroadcastsInDim S12545x1024 (![] : Fin 0 → Fin S12545x1024.rank)

variable [Facts]

def fn {F : FTy → Type} [FloatOps F] (main_arg0 : FVec F S2048x1024 .f32) (main_arg1 : FVec F S1x1024 .f32) (main_arg2 : FVec F S1024x2816 .f32) (main_arg3 : FVec F S1024x2816 .f32) (main_arg4 : FVec F S2816x1024 .f32) (main_arg5 : FVec F S2048x1024 .f32) : IVec S12545x1024 1 :=
  let main_v0 : FVec F S2816x1024 .f32 := shapeCast S2816x1024 main_arg2 shapeCasts_S1024x2816_S2816x1024
  let main_v1 : FVec F S2816x1024 .f32 := shapeCast S2816x1024 main_arg3 shapeCasts_S1024x2816_S2816x1024
  let main_v2 : FVec F S12545x1024 .f32 := concatenate S12545x1024 0 [⟨S2048x1024, main_arg0⟩, ⟨S1x1024, main_arg1⟩, ⟨S2816x1024, main_v0⟩, ⟨S2816x1024, main_v1⟩, ⟨S2816x1024, main_arg4⟩, ⟨S2048x1024, main_arg5⟩] concatenates_S2048x1024_S1x1024_S2816x1024_S2816x1024_S2816x1024_S2048x1024_S12545x1024_d0
  let main_v3 : FVec F S12545x1024 .f32 := Host.absf main_v2
  let main_cst : FVec F S_ .f32 := constant S_ .f32 0x7F800000#32
  let main_v4 : FVec F S12545x1024 .f32 := broadcastInDim S12545x1024 ![] bcast_S_S12545x1024 main_cst
  let main_v5 : IVec S12545x1024 1 := cmpf .olt main_v3 main_v4
  main_v5
-- ==== Kernel.lean ====
abbrev S2048x768 : Shape := ⟨2, ![2048, 768]⟩
abbrev S2048x256 : Shape := ⟨2, ![2048, 256]⟩
abbrev S2048x1x256 : Shape := ⟨3, ![2048, 1, 256]⟩
abbrev S1x2048x256 : Shape := ⟨3, ![1, 2048, 256]⟩
abbrev S512x4x256 : Shape := ⟨3, ![512, 4, 256]⟩
abbrev S4x512x256 : Shape := ⟨3, ![4, 512, 256]⟩
abbrev S128x16x256 : Shape := ⟨3, ![128, 16, 256]⟩
abbrev S16x128x256 : Shape := ⟨3, ![16, 128, 256]⟩
abbrev S3x2048x256 : Shape := ⟨3, ![3, 2048, 256]⟩
abbrev S_ : Shape := ⟨0, ![]⟩
abbrev S3x16x256x256 : Shape := ⟨4, ![3, 16, 256, 256]⟩
abbrev S1x128x256 : Shape := ⟨3, ![1, 128, 256]⟩
abbrev S1x1x256x256 : Shape := ⟨4, ![1, 1, 256, 256]⟩
abbrev S128x256 : Shape := ⟨2, ![128, 256]⟩
abbrev S128x64 : Shape := ⟨2, ![128, 64]⟩
abbrev S256x64 : Shape := ⟨2, ![256, 64]⟩
abbrev S128 : Shape := ⟨1, ![128]⟩
abbrev S128x1 : Shape := ⟨2, ![128, 1]⟩
abbrev S256x256 : Shape := ⟨2, ![256, 256]⟩
abbrev S3x16x128x256 : Shape := ⟨4, ![3, 16, 128, 256]⟩
abbrev S3x15x128x256 : Shape := ⟨4, ![3, 15, 128, 256]⟩

abbrev nBuf : Space → Nat
  | .hbm => 159
  | .vmem => 20
  | .smem => 0
  | _ => 0

abbrev hbmTy0_0 (i : Nat) : BufTy := match i % 128 with
  | 0 => ⟨S2048x768, .f32⟩
  | 1 => ⟨S2048x768, .f32⟩
  | 2 => ⟨S2048x768, .f32⟩
  | 3 => ⟨S2048x256, .f32⟩
  | 4 => ⟨S2048x256, .f32⟩
  | 5 => ⟨S2048x256, .f32⟩
  | 6 => ⟨S2048x256, .f32⟩
  | 7 => ⟨S2048x256, .f32⟩
  | 8 => ⟨S2048x256, .f32⟩
  | 9 => ⟨S2048x256, .f32⟩
  | 10 => ⟨S2048x1x256, .f32⟩
  | 11 => ⟨S1x2048x256, .f32⟩
  | 12 => ⟨S2048x256, .f32⟩
  | 13 => ⟨S512x4x256, .f32⟩
  | 14 => ⟨S4x512x256, .f32⟩
  | 15 => ⟨S1x2048x256, .f32⟩
  | 16 => ⟨S2048x256, .f32⟩
  | 17 => ⟨S128x16x256, .f32⟩
  | 18 => ⟨S16x128x256, .f32⟩
  | 19 => ⟨S1x2048x256, .f32⟩
  | 20 => ⟨S3x2048x256, .f32⟩
  | 21 => ⟨S2048x256, .f32⟩
  | 22 => ⟨S2048x1x256, .f32⟩
  | 23 => ⟨S1x2048x256, .f32⟩
  | 24 => ⟨S2048x256, .f32⟩
  | 25 => ⟨S512x4x256, .f32⟩
  | 26 => ⟨S4x512x256, .f32⟩
  | 27 => ⟨S1x2048x256, .f32⟩
  | 28 => ⟨S2048x256, .f32⟩
  | 29 => ⟨S128x16x256, .f32⟩
  | 30 => ⟨S16x128x256, .f32⟩
  | 31 => ⟨S1x2048x256, .f32⟩
  | 32 => ⟨S3x2048x256, .f32⟩
  | 33 => ⟨S2048x256, .f32⟩
  | 34 => ⟨S2048x1x256, .f32⟩
  | 35 => ⟨S1x2048x256, .f32⟩
  | 36 => ⟨S2048x256, .f32⟩
  | 37 => ⟨S512x4x256, .f32⟩
  | 38 => ⟨S4x512x256, .f32⟩
  | 39 => ⟨S1x2048x256, .f32⟩
  | 40 => ⟨S2048x256, .f32⟩
  | 41 => ⟨S128x16x256, .f32⟩
  | 42 => ⟨S16x128x256, .f32⟩
  | 43 => ⟨S1x2048x256, .f32⟩
  | 44 => ⟨S3x2048x256, .f32⟩
  | 45 => ⟨S128x16x256, .f32⟩
  | 46 => ⟨S16x128x256, .f32⟩
  | 47 => ⟨S2048x256, .f32⟩
  | 48 => ⟨S1x2048x256, .f32⟩
  | 49 => ⟨S_, .f32⟩
  | 50 => ⟨S3x2048x256, .f32⟩
  | 51 => ⟨S512x4x256, .f32⟩
  | 52 => ⟨S4x512x256, .f32⟩
  | 53 => ⟨S2048x256, .f32⟩
  | 54 => ⟨S1x2048x256, .f32⟩
  | 55 => ⟨S_, .f32⟩
  | 56 => ⟨S3x2048x256, .f32⟩
  | 57 => ⟨S3x2048x256, .f32⟩
  | 58 => ⟨S2048x1x256, .f32⟩
  | 59 => ⟨S1x2048x256, .f32⟩
  | 60 => ⟨S2048x256, .f32⟩
  | 61 => ⟨S1x2048x256, .f32⟩
  | 62 => ⟨S_, .f32⟩
  | 63 => ⟨S3x2048x256, .f32⟩
  | 64 => ⟨S3x2048x256, .f32⟩
  | 65 => ⟨S128x16x256, .f32⟩
  | 66 => ⟨S16x128x256, .f32⟩
  | 67 => ⟨S2048x256, .f32⟩
  | 68 => ⟨S1x2048x256, .f32⟩
  | 69 => ⟨S_, .f32⟩
  | 70 => ⟨S3x2048x256, .f32⟩
  | 71 => ⟨S512x4x256, .f32⟩
  | 72 => ⟨S4x512x256, .f32⟩
  | 73 => ⟨S2048x256, .f32⟩
  | 74 => ⟨S1x2048x256, .f32⟩
  | 75 => ⟨S_, .f32⟩
  | 76 => ⟨S3x2048x256, .f32⟩
  | 77 => ⟨S3x2048x256, .f32⟩
  | 78 => ⟨S2048x1x256, .f32⟩
  | 79 => ⟨S1x2048x256, .f32⟩
  | 80 => ⟨S2048x256, .f32⟩
  | 81 => ⟨S1x2048x256, .f32⟩
  | 82 => ⟨S_, .f32⟩
  | 83 => ⟨S3x2048x256, .f32⟩
  | 84 => ⟨S3x2048x256, .f32⟩
  | 85 => ⟨S3x2048x256, .f32⟩
  | 86 => ⟨S3x16x256x256, .f32⟩
  | 87 => ⟨S3x16x256x256, .f32⟩
  | 88 => ⟨S3x16x128x256, .f32⟩
  | 89 => ⟨S3x15x128x256, .f32⟩
  | 90 => ⟨S_, .i32⟩
  | 91 => ⟨S_, .f32⟩
  | 92 => ⟨S3x16x128x256, .f32⟩
  | 93 => ⟨S3x16x128x256, .f32⟩
  | 94 => ⟨S3x2048x256, .f32⟩
  | 95 => ⟨S3x16x128x256, .f32⟩
  | 96 => ⟨S3x15x128x256, .f32⟩
  | 97 => ⟨S_, .i32⟩
  | 98 => ⟨S_, .f32⟩
  | 99 => ⟨S3x16x128x256, .f32⟩
  | 100 => ⟨S3x16x128x256, .f32⟩
  | 101 => ⟨S3x2048x256, .f32⟩
  | 102 => ⟨S1x2048x256, .f32⟩
  | 103 => ⟨S1x2048x256, .f32⟩
  | 104 => ⟨S1x2048x256, .f32⟩
  | 105 => ⟨S16x128x256, .f32⟩
  | 106 => ⟨S128x16x256, .f32⟩
  | 107 => ⟨S2048x256, .f32⟩
  | 108 => ⟨S_, .f32⟩
  | 109 => ⟨S2048x768, .f32⟩
  | 110 => ⟨S4x512x256, .f32⟩
  | 111 => ⟨S512x4x256, .f32⟩
  | 112 => ⟨S2048x256, .f32⟩
  | 113 => ⟨S_, .f32⟩
  | 114 => ⟨S2048x768, .f32⟩
  | 115 => ⟨S2048x768, .f32⟩
  | 116 => ⟨S2048x1x256, .f32⟩
  | 117 => ⟨S2048x256, .f32⟩
  | 118 => ⟨S_, .f32⟩
  | 119 => ⟨S2048x768, .f32⟩
  | 120 => ⟨S2048x768, .f32⟩
  | 121 => ⟨S1x2048x256, .f32⟩
  | 122 => ⟨S1x2048x256, .f32⟩
  | 123 => ⟨S1x2048x256, .f32⟩
  | 124 => ⟨S16x128x256, .f32⟩
  | 125 => ⟨S128x16x256, .f32⟩
  | 126 => ⟨S2048x256, .f32⟩
  | 127 => ⟨S_, .f32⟩
  | _ => ⟨S2048x768, .f32⟩

abbrev hbmTy0_1 (i : Nat) : BufTy := match i % 128 with
  | 0 => ⟨S2048x768, .f32⟩
  | 1 => ⟨S4x512x256, .f32⟩
  | 2 => ⟨S512x4x256, .f32⟩
  | 3 => ⟨S2048x256, .f32⟩
  | 4 => ⟨S_, .f32⟩
  | 5 => ⟨S2048x768, .f32⟩
  | 6 => ⟨S2048x768, .f32⟩
  | 7 => ⟨S2048x1x256, .f32⟩
  | 8 => ⟨S2048x256, .f32⟩
  | 9 => ⟨S_, .f32⟩
  | 10 => ⟨S2048x768, .f32⟩
  | 11 => ⟨S2048x768, .f32⟩
  | 12 => ⟨S1x2048x256, .f32⟩
  | 13 => ⟨S1x2048x256, .f32⟩
  | 14 => ⟨S1x2048x256, .f32⟩
  | 15 => ⟨S16x128x256, .f32⟩
  | 16 => ⟨S128x16x256, .f32⟩
  | 17 => ⟨S2048x256, .f32⟩
  | 18 => ⟨S_, .f32⟩
  | 19 => ⟨S2048x768, .f32⟩
  | 20 => ⟨S4x512x256, .f32⟩
  | 21 => ⟨S512x4x256, .f32⟩
  | 22 => ⟨S2048x256, .f32⟩
  | 23 => ⟨S_, .f32⟩
  | 24 => ⟨S2048x768, .f32⟩
  | 25 => ⟨S2048x768, .f32⟩
  | 26 => ⟨S2048x1x256, .f32⟩
  | 27 => ⟨S2048x256, .f32⟩
  | 28 => ⟨S_, .f32⟩
  | 29 => ⟨S2048x768, .f32⟩
  | 30 => ⟨S2048x768, .f32⟩
  | _ => ⟨S2048x768, .f32⟩

abbrev hbmTy (i : Nat) : BufTy := match i / 128 with
  | 0 => hbmTy0_0 i
  | 1 => hbmTy0_1 i
  | _ => ⟨S2048x768, .f32⟩

abbrev bufTy : (tb : Table) → Fin (tcTables nBuf tb) → BufTy
  | .hbm, ⟨i, _⟩ => hbmTy i
  | .local _ .vmem, ⟨0, _⟩ => ⟨S1x128x256, .f32⟩
  | .local _ .vmem, ⟨1, _⟩ => ⟨S1x128x256, .f32⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S1x128x256, .f32⟩
  | .local _ .vmem, ⟨11, _⟩ => ⟨S1x128x256, .f32⟩
  | .local _ .vmem, ⟨12, _⟩ => ⟨S1x128x256, .f32⟩
  | .local _ .vmem, ⟨13, _⟩ => ⟨S1x128x256, .f32⟩
  | .local _ .vmem, ⟨14, _⟩ => ⟨S1x128x256, .f32⟩
  | .local _ .vmem, ⟨15, _⟩ => ⟨S1x128x256, .f32⟩
  | .local _ .vmem, ⟨16, _⟩ => ⟨S1x1x256x256, .f32⟩
  | .local _ .vmem, ⟨17, _⟩ => ⟨S1x1x256x256, .f32⟩
  | .local _ .vmem, ⟨18, _⟩ => ⟨S1x1x256x256, .f32⟩
  | .local _ .vmem, ⟨19, _⟩ => ⟨S1x1x256x256, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_0 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_1 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_2 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_3 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_4 : Ref sig .tc := ⟨.hbm, 82, rfl⟩
abbrev main_v68 : Ref sig .tc := ⟨.hbm, 83, rfl⟩
abbrev main_v69 : Ref sig .tc := ⟨.hbm, 84, rfl⟩
abbrev main_v70_0 : Ref sig .tc := ⟨.hbm, 85, rfl⟩
abbrev main_v70_1 : Ref sig .tc := ⟨.hbm, 86, rfl⟩
abbrev main_v70_2 : Ref sig .tc := ⟨.hbm, 87, rfl⟩
abbrev main_v71 : Ref sig .tc := ⟨.hbm, 88, rfl⟩
abbrev main_v72 : Ref sig .tc := ⟨.hbm, 89, rfl⟩
abbrev main_c : Ref sig .tc := ⟨.hbm, 90, rfl⟩
abbrev main_call0_v0 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_c_5 : Ref sig .tc := ⟨.hbm, 97, rfl⟩
abbrev main_call1_v0 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_6 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_7 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_cst_8 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_cst_9 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_cst_10 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_cst_11 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_cst_12 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_cst_13 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_cst_14 : Ref sig .tc := ⟨.hbm, 156, rfl⟩
abbrev main_v127 : Ref sig .tc := ⟨.hbm, 157, rfl⟩
abbrev main_v128 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![3, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2048x768 : Shape := ⟨2, ![2048, 768]⟩
abbrev S2048x256 : Shape := ⟨2, ![2048, 256]⟩
abbrev S2048x3x4x64 : Shape := ⟨4, ![2048, 3, 4, 64]⟩
abbrev S3x4x2048x2048 : Shape := ⟨4, ![3, 4, 2048, 2048]⟩
abbrev S_ : Shape := ⟨0, ![]⟩
abbrev S3x2048x2048 : Shape := ⟨3, ![3, 2048, 2048]⟩
abbrev S3x1x2048x2048 : Shape := ⟨4, ![3, 1, 2048, 2048]⟩
abbrev S3x4x2048 : Shape := ⟨3, ![3, 4, 2048]⟩
abbrev S3x4x2048x1 : Shape := ⟨4, ![3, 4, 2048, 1]⟩
abbrev S3x4x64x2048 : Shape := ⟨4, ![3, 4, 64, 2048]⟩
abbrev S2048x3x4 : Shape := ⟨3, ![2048, 3, 4]⟩
abbrev S2048x3x4x1 : Shape := ⟨4, ![2048, 3, 4, 1]⟩
abbrev S3x4x2048x64 : Shape := ⟨4, ![3, 4, 2048, 64]⟩

abbrev nBuf : Space → Nat
  | .hbm => 152
  | .vmem => 0
  | .smem => 0
  | _ => 0

abbrev hbmTy0_0 (i : Nat) : BufTy := match i % 128 with
  | 0 => ⟨S2048x768, .f32⟩
  | 1 => ⟨S2048x768, .f32⟩
  | 2 => ⟨S2048x768, .f32⟩
  | 3 => ⟨S2048x256, .f32⟩
  | 4 => ⟨S2048x256, .f32⟩
  | 5 => ⟨S2048x256, .f32⟩
  | 6 => ⟨S2048x256, .f32⟩
  | 7 => ⟨S2048x256, .f32⟩
  | 8 => ⟨S2048x256, .f32⟩
  | 9 => ⟨S2048x768, .f32⟩
  | 10 => ⟨S2048x768, .f32⟩
  | 11 => ⟨S2048x3x4x64, .f32⟩
  | 12 => ⟨S2048x3x4x64, .f32⟩
  | 13 => ⟨S2048x3x4x64, .f32⟩
  | 14 => ⟨S3x4x2048x2048, .f32⟩
  | 15 => ⟨S_, .f32⟩
  | 16 => ⟨S3x4x2048x2048, .f32⟩
  | 17 => ⟨S3x4x2048x2048, .f32⟩
  | 18 => ⟨S3x2048x2048, .i32⟩
  | 19 => ⟨S3x2048x2048, .i32⟩
  | 20 => ⟨S3x2048x2048, .i32⟩
  | 21 => ⟨S3x2048x2048, .i32⟩
  | 22 => ⟨S_, .i32⟩
  | 23 => ⟨S3x2048x2048, .i32⟩
  | 24 => ⟨S_, .i32⟩
  | 25 => ⟨S3x2048x2048, .i32⟩
  | 26 => ⟨S_, .i32⟩
  | 27 => ⟨S3x2048x2048, .i32⟩
  | 28 => ⟨S_, .i32⟩
  | 29 => ⟨S3x2048x2048, .i32⟩
  | 30 => ⟨S3x2048x2048, .i1⟩
  | 31 => ⟨S_, .i32⟩
  | 32 => ⟨S3x2048x2048, .i32⟩
  | 33 => ⟨S3x2048x2048, .i1⟩
  | 34 => ⟨S3x2048x2048, .i32⟩
  | 35 => ⟨S3x2048x2048, .i32⟩
  | 36 => ⟨S_, .i32⟩
  | 37 => ⟨S3x2048x2048, .i32⟩
  | 38 => ⟨S_, .i32⟩
  | 39 => ⟨S3x2048x2048, .i32⟩
  | 40 => ⟨S_, .i32⟩
  | 41 => ⟨S3x2048x2048, .i32⟩
  | 42 => ⟨S_, .i32⟩
  | 43 => ⟨S3x2048x2048, .i32⟩
  | 44 => ⟨S3x2048x2048, .i1⟩
  | 45 => ⟨S_, .i32⟩
  | 46 => ⟨S3x2048x2048, .i32⟩
  | 47 => ⟨S3x2048x2048, .i1⟩
  | 48 => ⟨S3x2048x2048, .i32⟩
  | 49 => ⟨S3x2048x2048, .i32⟩
  | 50 => ⟨S_, .i32⟩
  | 51 => ⟨S3x2048x2048, .i32⟩
  | 52 => ⟨S3x2048x2048, .i1⟩
  | 53 => ⟨S3x2048x2048, .i1⟩
  | 54 => ⟨S3x2048x2048, .i1⟩
  | 55 => ⟨S3x2048x2048, .i32⟩
  | 56 => ⟨S_, .i32⟩
  | 57 => ⟨S3x2048x2048, .i32⟩
  | 58 => ⟨S3x2048x2048, .i1⟩
  | 59 => ⟨S3x2048x2048, .i1⟩
  | 60 => ⟨S3x1x2048x2048, .i1⟩
  | 61 => ⟨S_, .f32⟩
  | 62 => ⟨S_, .f32⟩
  | 63 => ⟨S3x4x2048x2048, .i1⟩
  | 64 => ⟨S3x4x2048x2048, .f32⟩
  | 65 => ⟨S3x4x2048x2048, .f32⟩
  | 66 => ⟨S_, .f32⟩
  | 67 => ⟨S3x4x2048x2048, .f32⟩
  | 68 => ⟨S_, .f32⟩
  | 69 => ⟨S3x4x2048, .f32⟩
  | 70 => ⟨S3x4x2048x1, .f32⟩
  | 71 => ⟨S3x4x2048x2048, .f32⟩
  | 72 => ⟨S3x4x2048x2048, .i1⟩
  | 73 => ⟨S3x4x2048x2048, .f32⟩
  | 74 => ⟨S_, .f32⟩
  | 75 => ⟨S3x4x2048, .f32⟩
  | 76 => ⟨S3x4x2048x1, .f32⟩
  | 77 => ⟨S3x4x2048x2048, .f32⟩
  | 78 => ⟨S3x4x2048x2048, .f32⟩
  | 79 => ⟨S3x4x2048x2048, .f32⟩
  | 80 => ⟨S_, .f32⟩
  | 81 => ⟨S3x4x2048, .f32⟩
  | 82 => ⟨S3x4x2048x1, .f32⟩
  | 83 => ⟨S3x4x2048x2048, .f32⟩
  | 84 => ⟨S3x4x2048x2048, .f32⟩
  | 85 => ⟨S3x4x2048x1, .f32⟩
  | 86 => ⟨S_, .f32⟩
  | 87 => ⟨S3x4x2048x1, .f32⟩
  | 88 => ⟨S3x4x2048x1, .f32⟩
  | 89 => ⟨S3x4x64x2048, .f32⟩
  | 90 => ⟨S2048x3x4x64, .f32⟩
  | 91 => ⟨S3x4x2048x1, .f32⟩
  | 92 => ⟨S3x4x2048x1, .f32⟩
  | 93 => ⟨S3x4x2048, .f32⟩
  | 94 => ⟨S2048x3x4, .f32⟩
  | 95 => ⟨S2048x3x4x1, .f32⟩
  | 96 => ⟨S2048x3x4x64, .f32⟩
  | 97 => ⟨S2048x768, .f32⟩
  | 98 => ⟨S2048x768, .f32⟩
  | 99 => ⟨S2048x3x4x64, .f32⟩
  | 100 => ⟨S2048x3x4x64, .f32⟩
  | 101 => ⟨S_, .f32⟩
  | 102 => ⟨S2048x3x4, .f32⟩
  | 103 => ⟨S2048x3x4x1, .f32⟩
  | 104 => ⟨S_, .f32⟩
  | 105 => ⟨S2048x3x4, .f32⟩
  | 106 => ⟨S3x4x2048, .f32⟩
  | 107 => ⟨S3x4x2048x1, .f32⟩
  | 108 => ⟨S3x4x2048x1, .f32⟩
  | 109 => ⟨S3x4x64x2048, .f32⟩
  | 110 => ⟨S3x4x2048x2048, .f32⟩
  | 111 => ⟨S3x4x64x2048, .f32⟩
  | 112 => ⟨S2048x3x4x64, .f32⟩
  | 113 => ⟨S3x4x2048x2048, .f32⟩
  | 114 => ⟨S3x4x2048x2048, .f32⟩
  | 115 => ⟨S3x4x2048x2048, .f32⟩
  | 116 => ⟨S_, .f32⟩
  | 117 => ⟨S3x4x2048, .f32⟩
  | 118 => ⟨S3x4x2048x1, .f32⟩
  | 119 => ⟨S3x4x2048x1, .f32⟩
  | 120 => ⟨S3x4x2048x1, .f32⟩
  | 121 => ⟨S3x4x2048x2048, .f32⟩
  | 122 => ⟨S3x4x2048x2048, .f32⟩
  | 123 => ⟨S_, .f32⟩
  | 124 => ⟨S3x4x2048, .f32⟩
  | 125 => ⟨S3x4x2048x2048, .f32⟩
  | 126 => ⟨S3x4x2048x2048, .f32⟩
  | 127 => ⟨S3x4x2048x2048, .f32⟩
  | _ => ⟨S2048x768, .f32⟩

abbrev hbmTy0_1 (i : Nat) : BufTy := match i % 128 with
  | 0 => ⟨S3x4x2048x2048, .f32⟩
  | 1 => ⟨S_, .f32⟩
  | 2 => ⟨S3x4x2048, .f32⟩
  | 3 => ⟨S3x4x2048x1, .f32⟩
  | 4 => ⟨S3x4x2048x1, .f32⟩
  | 5 => ⟨S_, .f32⟩
  | 6 => ⟨S3x4x2048, .f32⟩
  | 7 => ⟨S3x4x2048, .f32⟩
  | 8 => ⟨S3x4x2048x2048, .f32⟩
  | 9 => ⟨S3x4x2048x2048, .f32⟩
  | 10 => ⟨S3x4x2048x2048, .f32⟩
  | 11 => ⟨S_, .f32⟩
  | 12 => ⟨S3x4x2048x2048, .f32⟩
  | 13 => ⟨S3x4x2048x2048, .f32⟩
  | 14 => ⟨S_, .f32⟩
  | 15 => ⟨S3x4x2048x2048, .f32⟩
  | 16 => ⟨S3x4x2048x2048, .f32⟩
  | 17 => ⟨S3x4x2048x64, .f32⟩
  | 18 => ⟨S2048x3x4x64, .f32⟩
  | 19 => ⟨S3x4x2048x64, .f32⟩
  | 20 => ⟨S2048x3x4x64, .f32⟩
  | 21 => ⟨S2048x768, .f32⟩
  | 22 => ⟨S2048x768, .f32⟩
  | 23 => ⟨S2048x768, .f32⟩
  | _ => ⟨S2048x768, .f32⟩

abbrev hbmTy (i : Nat) : BufTy := match i / 128 with
  | 0 => hbmTy0_0 i
  | 1 => hbmTy0_1 i
  | _ => ⟨S2048x768, .f32⟩

abbrev bufTy : (tb : Table) → Fin (tcTables nBuf tb) → BufTy
  | .hbm, ⟨i, _⟩ => hbmTy i
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_c_7 : Ref sig .tc := ⟨.hbm, 42, rfl⟩
abbrev main_v24 : Ref sig .tc := ⟨.hbm, 43, rfl⟩
abbrev main_v25 : Ref sig .tc := ⟨.hbm, 44, rfl⟩
abbrev main_c_8 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_9 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_10 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_11 : Ref sig .tc := ⟨.hbm, 61, rfl⟩
abbrev main_call0_v0 : Ref sig .tc := ⟨.hbm, 62, rfl⟩
abbrev main_v39_1 : Ref sig .tc := ⟨.hbm, 63, rfl⟩
abbrev main_call0_v2 : Ref sig .tc := ⟨.hbm, 64, rfl⟩
abbrev main_v39_0 : Ref sig .tc := ⟨.hbm, 65, rfl⟩
abbrev main_call0_cst : Ref sig .tc := ⟨.hbm, 66, rfl⟩
abbrev main_v39_2 : Ref sig .tc := ⟨.hbm, 67, rfl⟩
abbrev main_cst_12 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_13 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_14 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_15 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_16 : Ref sig .tc := ⟨.hbm, 101, rfl⟩
abbrev main_v69 : Ref sig .tc := ⟨.hbm, 102, rfl⟩
abbrev main_v70 : Ref sig .tc := ⟨.hbm, 103, rfl⟩
abbrev main_cst_17 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_18 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_19 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_20 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_21 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_call1_cst : Ref sig .tc := ⟨.hbm, 139, rfl⟩
abbrev main_call1_v0 : Ref sig .tc := ⟨.hbm, 140, rfl⟩
abbrev main_v101 : Ref sig .tc := ⟨.hbm, 141, rfl⟩
abbrev main_cst_22 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩

abbrev nD : Nat := 1
abbrev τ : Topo := Topo.v7x

variable {F : FTy → Type} [FloatOps F]
-- ==== Kernel2.lean ====
abbrev S2048x1024 : Shape := ⟨2, ![2048, 1024]⟩
abbrev S1x1024 : Shape := ⟨2, ![1, 1024]⟩
abbrev S1024x2816 : Shape := ⟨2, ![1024, 2816]⟩
abbrev S2816x1024 : Shape := ⟨2, ![2816, 1024]⟩
abbrev S11x256x1024 : Shape := ⟨3, ![11, 256, 1024]⟩
abbrev S11x2048x256 : Shape := ⟨3, ![11, 2048, 256]⟩
abbrev S512x1024 : Shape := ⟨2, ![512, 1024]⟩
abbrev S11x512x256 : Shape := ⟨3, ![11, 512, 256]⟩
abbrev S512 : Shape := ⟨1, ![512]⟩
abbrev S512x1 : Shape := ⟨2, ![512, 1]⟩
abbrev S1x256x1024 : Shape := ⟨3, ![1, 256, 1024]⟩
abbrev S256x1024 : Shape := ⟨2, ![256, 1024]⟩
abbrev S512x256 : Shape := ⟨2, ![512, 256]⟩
abbrev S1x512x256 : Shape := ⟨3, ![1, 512, 256]⟩
abbrev S11x256x256 : Shape := ⟨3, ![11, 256, 256]⟩
abbrev S256 : Shape := ⟨1, ![256]⟩
abbrev S256x1 : Shape := ⟨2, ![256, 1]⟩
abbrev S256x256 : Shape := ⟨2, ![256, 256]⟩
abbrev S1x256x256 : Shape := ⟨3, ![1, 256, 256]⟩
abbrev S1024 : Shape := ⟨1, ![1024]⟩
abbrev S1x2048x256 : Shape := ⟨3, ![1, 2048, 256]⟩
abbrev S2048x256 : Shape := ⟨2, ![2048, 256]⟩

abbrev nBuf : Space → Nat
  | .hbm => 32
  | .vmem => 51
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2048x1024, .f32⟩
  | .hbm, ⟨6, _⟩ => ⟨S2816x1024, .f32⟩
  | .hbm, ⟨7, _⟩ => ⟨S11x256x1024, .f32⟩
  | .hbm, ⟨8, _⟩ => ⟨S11x256x1024, .bf16⟩
  | .hbm, ⟨9, _⟩ => ⟨S2816x1024, .f32⟩
  | .hbm, ⟨10, _⟩ => ⟨S11x256x1024, .f32⟩
  | .hbm, ⟨11, _⟩ => ⟨S11x256x1024, .bf16⟩
  | .hbm, ⟨12, _⟩ => ⟨S11x256x1024, .f32⟩
  | .hbm, ⟨13, _⟩ => ⟨S11x256x1024, .bf16⟩
  | .hbm, ⟨14, _⟩ => ⟨S2048x1024, .f32⟩
  | .hbm, ⟨15, _⟩ => ⟨S11x2048x256, .bf16⟩
  | .hbm, ⟨16, _⟩ => ⟨S11x2048x256, .bf16⟩
  | .hbm, ⟨17, _⟩ => ⟨S2048x1024, .f32⟩
  | .hbm, ⟨18, _⟩ => ⟨S1x1024, .f32⟩
  | .hbm, ⟨19, _⟩ => ⟨S2048x1024, .bf16⟩
  | .hbm, ⟨20, _⟩ => ⟨S2048x1024, .bf16⟩
  | .hbm, ⟨21, _⟩ => ⟨S11x2048x256, .bf16⟩
  | .hbm, ⟨22, _⟩ => ⟨S11x2048x256, .bf16⟩
  | .hbm, ⟨23, _⟩ => ⟨S11x2048x256, .bf16⟩
  | .hbm, ⟨24, _⟩ => ⟨S11x256x1024, .f32⟩
  | .hbm, ⟨25, _⟩ => ⟨S11x256x1024, .f32⟩
  | .hbm, ⟨26, _⟩ => ⟨S11x256x1024, .f32⟩
  | .hbm, ⟨27, _⟩ => ⟨S2816x1024, .f32⟩
  | .hbm, ⟨28, _⟩ => ⟨S1024x2816, .f32⟩
  | .hbm, ⟨29, _⟩ => ⟨S2816x1024, .f32⟩
  | .hbm, ⟨30, _⟩ => ⟨S1024x2816, .f32⟩
  | .hbm, ⟨31, _⟩ => ⟨S2816x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S11x256x1024, .bf16⟩
  | .local _ .vmem, ⟨4, _⟩ => ⟨S11x256x1024, .bf16⟩
  | .local _ .vmem, ⟨5, _⟩ => ⟨S11x256x1024, .bf16⟩
  | .local _ .vmem, ⟨6, _⟩ => ⟨S512x1024, .f32⟩
  | .local _ .vmem, ⟨7, _⟩ => ⟨S512x1024, .f32⟩
  | .local _ .vmem, ⟨8, _⟩ => ⟨S11x512x256, .bf16⟩
  | .local _ .vmem, ⟨9, _⟩ => ⟨S11x512x256, .bf16⟩
  | .local _ .vmem, ⟨10, _⟩ => ⟨S11x512x256, .bf16⟩
  | .local _ .vmem, ⟨11, _⟩ => ⟨S11x512x256, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S11x256x256, .bf16⟩
  | .local _ .vmem, ⟨18, _⟩ => ⟨S11x256x256, .bf16⟩
  | .local _ .vmem, ⟨19, _⟩ => ⟨S11x256x256, .bf16⟩
  | .local _ .vmem, ⟨20, _⟩ => ⟨S11x256x256, .bf16⟩
  | .local _ .vmem, ⟨21, _⟩ => ⟨S11x256x1024, .bf16⟩
  | .local _ .vmem, ⟨22, _⟩ => ⟨S11x256x1024, .bf16⟩
  | .local _ .vmem, ⟨23, _⟩ => ⟨S11x256x1024, .bf16⟩
  | .local _ .vmem, ⟨24, _⟩ => ⟨S256x1024, .f32⟩
  | .local _ .vmem, ⟨25, _⟩ => ⟨S256x1024, .f32⟩
  | .local _ .vmem, ⟨26, _⟩ => ⟨S1x1024, .f32⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S11x256x256, .bf16⟩
  | .local _ .vmem, ⟨32, _⟩ => ⟨S11x256x256, .bf16⟩
  | .local _ .vmem, ⟨33, _⟩ => ⟨S11x256x256, .bf16⟩
  | .local _ .vmem, ⟨34, _⟩ => ⟨S11x256x256, .bf16⟩
  | .local _ .vmem, ⟨35, _⟩ => ⟨S11x256x256, .bf16⟩
  | .local _ .vmem, ⟨36, _⟩ => ⟨S11x256x256, .bf16⟩
  | .local _ .vmem, ⟨37, _⟩ => ⟨S2048x1024, .bf16⟩
  | .local _ .vmem, ⟨38, _⟩ => ⟨S2048x1024, .bf16⟩
  | .local _ .vmem, ⟨39, _⟩ => ⟨S1x2048x256, .bf16⟩
  | .local _ .vmem, ⟨40, _⟩ => ⟨S1x2048x256, .bf16⟩
  | .local _ .vmem, ⟨41, _⟩ => ⟨S1x2048x256, .bf16⟩
  | .local _ .vmem, ⟨42, _⟩ => ⟨S1x2048x256, .bf16⟩
  | .local _ .vmem, ⟨43, _⟩ => ⟨S1x2048x256, .bf16⟩
  | .local _ .vmem, ⟨44, _⟩ => ⟨S1x2048x256, .bf16⟩
  | .local _ .vmem, ⟨45, _⟩ => ⟨S1x256x1024, .f32⟩
  | .local _ .vmem, ⟨46, _⟩ => ⟨S1x256x1024, .f32⟩
  | .local _ .vmem, ⟨47, _⟩ => ⟨S1x256x1024, .f32⟩
  | .local _ .vmem, ⟨48, _⟩ => ⟨S1x256x1024, .f32⟩
  | .local _ .vmem, ⟨49, _⟩ => ⟨S1x256x1024, .f32⟩
  | .local _ .vmem, ⟨50, _⟩ => ⟨S1x256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev main_v9_5 : Ref sig .tc := ⟨.hbm, 22, rfl⟩
abbrev main_v9_6 : Ref sig .tc := ⟨.hbm, 23, rfl⟩
abbrev main_v10_0 : Ref sig .tc := ⟨.hbm, 24, rfl⟩
abbrev main_v10_1 : Ref sig .tc := ⟨.hbm, 25, rfl⟩
abbrev main_v10_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg10_1 : Ref sig .tc := ⟨.vmem, 28, rfl⟩
abbrev cc1_stg11_0 : Ref sig .tc := ⟨.vmem, 29, rfl⟩
abbrev cc1_stg11_1 : Ref sig .tc := ⟨.vmem, 30, rfl⟩
abbrev cc1_stg12_0 : Ref sig .tc := ⟨.vmem, 31, rfl⟩
abbrev cc1_stg12_1 : Ref sig .tc := ⟨.vmem, 32, rfl⟩
abbrev cc1_stg13_0 : Ref sig .tc := ⟨.vmem, 33, rfl⟩
abbrev cc1_stg13_1 : Ref sig .tc := ⟨.vmem, 34, rfl⟩
abbrev cc1_stg14_0 : Ref sig .tc := ⟨.vmem, 35, rfl⟩
abbrev cc1_stg14_1 : Ref sig .tc := ⟨.vmem, 36, rfl⟩
abbrev cc2_stg0_0 : Ref sig .tc := ⟨.vmem, 37, rfl⟩
abbrev cc2_stg1_0 : Ref sig .tc := ⟨.vmem, 38, rfl⟩
abbrev cc2_stg2_0 : Ref sig .tc := ⟨.vmem, 39, rfl⟩
abbrev cc2_stg2_1 : Ref sig .tc := ⟨.vmem, 40, rfl⟩
abbrev cc2_stg3_0 : Ref sig .tc := ⟨.vmem, 41, rfl⟩
abbrev cc2_stg3_1 : Ref sig .tc := ⟨.vmem, 42, rfl⟩
abbrev cc2_stg4_0 : Ref sig .tc := ⟨.vmem, 43, rfl⟩
abbrev cc2_stg4_1 : Ref sig .tc := ⟨.vmem, 44, rfl⟩
abbrev cc2_stg5_0 : Ref sig .tc := ⟨.vmem, 45, rfl⟩
abbrev cc2_stg5_1 : Ref sig .tc := ⟨.vmem, 46, rfl⟩
abbrev cc2_stg6_0 : Ref sig .tc := ⟨.vmem, 47, rfl⟩
abbrev cc2_stg6_1 : Ref sig .tc := ⟨.vmem, 48, rfl⟩
abbrev cc2_stg7_0 : Ref sig .tc := ⟨.vmem, 49, rfl⟩
abbrev cc2_stg7_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25
abbrev cc1_sem9_0 : DmaSem sig := 26
abbrev cc1_sem10_0 : DmaSem sig := 27
abbrev cc1_sem10_1 : DmaSem sig := 28
abbrev cc1_sem11_0 : DmaSem sig := 29
abbrev cc1_sem11_1 : DmaSem sig := 30
abbrev cc1_sem12_0 : DmaSem sig := 31
abbrev cc1_sem12_1 : DmaSem sig := 32
abbrev cc1_sem13_0 : DmaSem sig := 33
abbrev cc1_sem13_1 : DmaSem sig := 34
abbrev cc1_sem14_0 : DmaSem sig := 35
abbrev cc1_sem14_1 : DmaSem sig := 36
abbrev cc2_sem0_0 : DmaSem sig := 37
abbrev cc2_sem1_0 : DmaSem sig := 38
abbrev cc2_sem2_0 : DmaSem sig := 39
abbrev cc2_sem2_1 : DmaSem sig := 40
abbrev cc2_sem3_0 : DmaSem sig := 41
abbrev cc2_sem3_1 : DmaSem sig := 42
abbrev cc2_sem4_0 : DmaSem sig := 43
abbrev cc2_sem4_1 : DmaSem sig := 44
abbrev cc2_sem5_0 : DmaSem sig := 45
abbrev cc2_sem5_1 : DmaSem sig := 46
abbrev cc2_sem6_0 : DmaSem sig := 47
abbrev cc2_sem6_1 : DmaSem sig := 48
abbrev cc2_sem7_0 : DmaSem sig := 49
abbrev cc2_sem7_1 : DmaSem sig := 50

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S11x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S11x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S11x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S11x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S11x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S11x256x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S11x256x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S11x256x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S11x256x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S11x256x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S256x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S11x256x256 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S11x256x256 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S11x256x256 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev grid2 : Pipeline.Grid := ⟨1, ![11], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .vmem S2048x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S2048x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x2048x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x2048x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x2048x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x256x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x256x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== Reference2Ideal.lean ====
abbrev S2048x1024 : Shape := ⟨2, ![2048, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S2048x2816 : Shape := ⟨2, ![2048, 2816]⟩

abbrev nBuf : Space → Nat
  | .hbm => 95
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S_, .f32⟩
  | .hbm, ⟨31, _⟩ => ⟨S2048x2816, .f32⟩
  | .hbm, ⟨32, _⟩ => ⟨S2048x2816, .f32⟩
  | .hbm, ⟨33, _⟩ => ⟨S_, .f32⟩
  | .hbm, ⟨34, _⟩ => ⟨S2048x2816, .f32⟩
  | .hbm, ⟨35, _⟩ => ⟨S2048x2816, .f32⟩
  | .hbm, ⟨36, _⟩ => ⟨S_, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S2048x2816, .f32⟩
  | .hbm, ⟨42, _⟩ => ⟨S2048x2816, .f32⟩
  | .hbm, ⟨43, _⟩ => ⟨S2048x1024, .f32⟩
  | .hbm, ⟨44, _⟩ => ⟨S_, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S2048x1024, .f32⟩
  | .hbm, ⟨51, _⟩ => ⟨S2048x1024, .f32⟩
  | .hbm, ⟨52, _⟩ => ⟨S1024x2816, .f32⟩
  | .hbm, ⟨53, _⟩ => ⟨S2816x1024, .f32⟩
  | .hbm, ⟨54, _⟩ => ⟨S2048x2816, .f32⟩
  | .hbm, ⟨55, _⟩ => ⟨S2048x2816, .f32⟩
  | .hbm, ⟨56, _⟩ => ⟨S2048x2816, .f32⟩
  | .hbm, ⟨57, _⟩ => ⟨S2816x1024, .f32⟩
  | .hbm, ⟨58, _⟩ => ⟨S1024x2816, .f32⟩
  | .hbm, ⟨59, _⟩ => ⟨S2048x1024, .f32⟩
  | .hbm, ⟨60, _⟩ => ⟨S2048x2816, .f32⟩
  | .hbm, ⟨61, _⟩ => ⟨S2048x2816, .f32⟩
  | .hbm, ⟨62, _⟩ => ⟨S2048x2816, .f32⟩
  | .hbm, ⟨63, _⟩ => ⟨S2048x2816, .f32⟩
  | .hbm, ⟨64, _⟩ => ⟨S2816x1024, .f32⟩
  | .hbm, ⟨65, _⟩ => ⟨S1024x2816, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S2048x1024, .f32⟩
  | .hbm, ⟨73, _⟩ => ⟨S2048x1024, .f32⟩
  | .hbm, ⟨74, _⟩ => ⟨S_, .f32⟩
  | .hbm, ⟨75, _⟩ => ⟨S1024, .f32⟩
  | .hbm, ⟨76, _⟩ => ⟨S2048x1024, .f32⟩
  | .hbm, ⟨77, _⟩ => ⟨S_, .f32⟩
  | .hbm, ⟨78, _⟩ => ⟨S2048, .f32⟩
  | .hbm, ⟨79, _⟩ => ⟨S2048x1, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S2048x1, .f32⟩
  | .hbm, ⟨84, _⟩ => ⟨S_, .f32⟩
  | .hbm, ⟨85, _⟩ => ⟨S2048x1, .f32⟩
  | .hbm, ⟨86, _⟩ => ⟨S2048x1, .f32⟩
  | .hbm, ⟨87, _⟩ => ⟨S_, .f32⟩
  | .hbm, ⟨88, _⟩ => ⟨S2048, .f32⟩
  | .hbm, ⟨89, _⟩ => ⟨S2048x1024, .f32⟩
  | .hbm, ⟨90, _⟩ => ⟨S2048x1024, .f32⟩
  | .hbm, ⟨91, _⟩ => ⟨S2048x1024, .f32⟩
  | .hbm, ⟨92, _⟩ => ⟨S2048x1024, .f32⟩
  | .hbm, ⟨93, _⟩ => ⟨S2048x1024, .f32⟩
  | .hbm, ⟨94, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_4 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_5 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_6 : Ref sig .tc := ⟨.hbm, 74, rfl⟩
abbrev main_v46 : Ref sig .tc := ⟨.hbm, 75, rfl⟩
abbrev main_v47 : Ref sig .tc := ⟨.hbm, 76, rfl⟩
abbrev main_cst_7 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_8 : Ref sig .tc := ⟨.hbm, 84, rfl⟩
abbrev main_v54 : Ref sig .tc := ⟨.hbm, 85, rfl⟩
abbrev main_v55 : Ref sig .tc := ⟨.hbm, 86, rfl⟩
abbrev main_cst_9 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩

abbrev nD : Nat := 1
abbrev τ : Topo := Topo.v7x

variable {F : FTy → Type} [FloatOps F]
-- ==== Kernel3.lean ====
abbrev S2048x1024 : Shape := ⟨2, ![2048, 1024]⟩
abbrev S1x1024 : Shape := ⟨2, ![1, 1024]⟩
abbrev S1024x8464 : Shape := ⟨2, ![1024, 8464]⟩
abbrev S2048x768 : Shape := ⟨2, ![2048, 768]⟩
abbrev S2048x3072 : Shape := ⟨2, ![2048, 3072]⟩
abbrev S2048x8 : Shape := ⟨2, ![2048, 8]⟩
abbrev S8464x1024 : Shape := ⟨2, ![8464, 1024]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S256x1024 : Shape := ⟨2, ![256, 1024]⟩
abbrev S256x128 : Shape := ⟨2, ![256, 128]⟩
abbrev S256x768 : Shape := ⟨2, ![256, 768]⟩
abbrev S256x3072 : Shape := ⟨2, ![256, 3072]⟩
abbrev S256 : Shape := ⟨1, ![256]⟩
abbrev S256x1 : Shape := ⟨2, ![256, 1]⟩
abbrev S768x1024 : Shape := ⟨2, ![768, 1024]⟩
abbrev S3072x1024 : Shape := ⟨2, ![3072, 1024]⟩
abbrev S128x1024 : Shape := ⟨2, ![128, 1024]⟩
abbrev S1024x1024 : Shape := ⟨2, ![1024, 1024]⟩
abbrev S1024 : Shape := ⟨1, ![1024]⟩

abbrev nBuf : Space → Nat
  | .hbm => 63
  | .vmem => 59
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x8464, .f32⟩
  | .hbm, ⟨3, _⟩ => ⟨S2048x1024, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x3072, .f32⟩
  | .hbm, ⟨8, _⟩ => ⟨S2048x8, .f32⟩
  | .hbm, ⟨9, _⟩ => ⟨S2048x8, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S8464x1024, .f32⟩
  | .hbm, ⟨14, _⟩ => ⟨S8464x1024, .bf16⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S2048, .f32⟩
  | .hbm, ⟨24, _⟩ => ⟨S2048x1, .f32⟩
  | .hbm, ⟨25, _⟩ => ⟨S1x32, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S2048x32, .f32⟩
  | .hbm, ⟨31, _⟩ => ⟨S2048x64, .f32⟩
  | .hbm, ⟨32, _⟩ => ⟨S1x2048x1x64, .f32⟩
  | .hbm, ⟨33, _⟩ => ⟨S1x2048x2x64, .f32⟩
  | .hbm, ⟨34, _⟩ => ⟨S2048x128, .f32⟩
  | .hbm, ⟨35, _⟩ => ⟨S2048x32, .f32⟩
  | .hbm, ⟨36, _⟩ => ⟨S2048x64, .f32⟩
  | .hbm, ⟨37, _⟩ => ⟨S1x2048x1x64, .f32⟩
  | .hbm, ⟨38, _⟩ => ⟨S1x2048x2x64, .f32⟩
  | .hbm, ⟨39, _⟩ => ⟨S2048x128, .f32⟩
  | .hbm, ⟨40, _⟩ => ⟨S2048x768, .f32⟩
  | .hbm, ⟨41, _⟩ => ⟨S2048x768, .f32⟩
  | .hbm, ⟨42, _⟩ => ⟨S2048x768, .f32⟩
  | .hbm, ⟨43, _⟩ => ⟨S2048x3072, .f32⟩
  | .hbm, ⟨44, _⟩ => ⟨S2048x128, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x8, .f32⟩
  | .hbm, ⟨49, _⟩ => ⟨S2048x8, .f32⟩
  | .hbm, ⟨50, _⟩ => ⟨S_, .f32⟩
  | .hbm, ⟨51, _⟩ => ⟨S2048x128, .f32⟩
  | .hbm, ⟨52, _⟩ => ⟨S_, .f32⟩
  | .hbm, ⟨53, _⟩ => ⟨S2048x128, .f32⟩
  | .hbm, ⟨54, _⟩ => ⟨S2048x128, .f32⟩
  | .hbm, ⟨55, _⟩ => ⟨S2048x1024, .bf16⟩
  | .hbm, ⟨56, _⟩ => ⟨S2048x1024, .bf16⟩
  | .hbm, ⟨57, _⟩ => ⟨S2048x1024, .bf16⟩
  | .hbm, ⟨58, _⟩ => ⟨S2048x1024, .f32⟩
  | .hbm, ⟨59, _⟩ => ⟨S1x1024, .f32⟩
  | .hbm, ⟨60, _⟩ => ⟨S2048x1024, .bf16⟩
  | .hbm, ⟨61, _⟩ => ⟨S2048x768, .bf16⟩
  | .hbm, ⟨62, _⟩ => ⟨S2048x768, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8464x1024, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x3072, .f32⟩
  | .local _ .vmem, ⟨15, _⟩ => ⟨S256x3072, .f32⟩
  | .local _ .vmem, ⟨16, _⟩ => ⟨S256x128, .f32⟩
  | .local _ .vmem, ⟨17, _⟩ => ⟨S256x128, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S1x1024, .f32⟩
  | .local _ .vmem, ⟨27, _⟩ => ⟨S256x1024, .f32⟩
  | .local _ .vmem, ⟨28, _⟩ => ⟨S256x1024, .f32⟩
  | .local _ .vmem, ⟨29, _⟩ => ⟨S256x128, .f32⟩
  | .local _ .vmem, ⟨30, _⟩ => ⟨S256x128, .f32⟩
  | .local _ .vmem, ⟨31, _⟩ => ⟨S256x128, .f32⟩
  | .local _ .vmem, ⟨32, _⟩ => ⟨S256x128, .f32⟩
  | .local _ .vmem, ⟨33, _⟩ => ⟨S256x768, .f32⟩
  | .local _ .vmem, ⟨34, _⟩ => ⟨S256x768, .f32⟩
  | .local _ .vmem, ⟨35, _⟩ => ⟨S256x768, .f32⟩
  | .local _ .vmem, ⟨36, _⟩ => ⟨S256x768, .f32⟩
  | .local _ .vmem, ⟨37, _⟩ => ⟨S256x768, .f32⟩
  | .local _ .vmem, ⟨38, _⟩ => ⟨S256x768, .f32⟩
  | .local _ .vmem, ⟨39, _⟩ => ⟨S256x3072, .f32⟩
  | .local _ .vmem, ⟨40, _⟩ => ⟨S256x3072, .f32⟩
  | .local _ .vmem, ⟨41, _⟩ => ⟨S256x128, .f32⟩
  | .local _ .vmem, ⟨42, _⟩ => ⟨S256x128, .f32⟩
  | .local _ .vmem, ⟨43, _⟩ => ⟨S256x1024, .bf16⟩
  | .local _ .vmem, ⟨44, _⟩ => ⟨S256x1024, .bf16⟩
  | .local _ .vmem, ⟨45, _⟩ => ⟨S256x1024, .bf16⟩
  | .local _ .vmem, ⟨46, _⟩ => ⟨S256x1024, .bf16⟩
  | .local _ .vmem, ⟨47, _⟩ => ⟨S256x1024, .bf16⟩
  | .local _ .vmem, ⟨48, _⟩ => ⟨S256x1024, .bf16⟩
  | .local _ .vmem, ⟨49, _⟩ => ⟨S8464x1024, .bf16⟩
  | .local _ .vmem, ⟨50, _⟩ => ⟨S256x1024, .f32⟩
  | .local _ .vmem, ⟨51, _⟩ => ⟨S256x1024, .f32⟩
  | .local _ .vmem, ⟨52, _⟩ => ⟨S1x1024, .f32⟩
  | .local _ .vmem, ⟨53, _⟩ => ⟨S256x1024, .bf16⟩
  | .local _ .vmem, ⟨54, _⟩ => ⟨S256x1024, .bf16⟩
  | .local _ .vmem, ⟨55, _⟩ => ⟨S256x768, .bf16⟩
  | .local _ .vmem, ⟨56, _⟩ => ⟨S256x768, .bf16⟩
  | .local _ .vmem, ⟨57, _⟩ => ⟨S256x768, .bf16⟩
  | .local _ .vmem, ⟨58, _⟩ => ⟨S256x768, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25_0 : Ref sig .tc := ⟨.hbm, 40, rfl⟩
abbrev main_v25_1 : Ref sig .tc := ⟨.hbm, 41, rfl⟩
abbrev main_v25_2 : Ref sig .tc := ⟨.hbm, 42, rfl⟩
abbrev main_v25_3 : Ref sig .tc := ⟨.hbm, 43, rfl⟩
abbrev main_v25_4 : Ref sig .tc := ⟨.hbm, 44, rfl⟩
abbrev main_v25_5 : Ref sig .tc := ⟨.hbm, 45, rfl⟩
abbrev main_v25_6 : Ref sig .tc := ⟨.hbm, 46, rfl⟩
abbrev main_v25_7 : Ref sig .tc := ⟨.hbm, 47, rfl⟩
abbrev main_v26 : Ref sig .tc := ⟨.hbm, 48, rfl⟩
abbrev main_v27 : Ref sig .tc := ⟨.hbm, 49, rfl⟩
abbrev main_cst_1 : Ref sig .tc := ⟨.hbm, 50, rfl⟩
abbrev main_v28 : Ref sig .tc := ⟨.hbm, 51, rfl⟩
abbrev main_cst_2 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34_0 : Ref sig .tc := ⟨.hbm, 58, rfl⟩
abbrev main_v34_1 : Ref sig .tc := ⟨.hbm, 59, rfl⟩
abbrev main_v34_2 : Ref sig .tc := ⟨.hbm, 60, rfl⟩
abbrev main_v34_3 : Ref sig .tc := ⟨.hbm, 61, rfl⟩
abbrev main_v34_4 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg2_0 : Ref sig .tc := ⟨.vmem, 27, rfl⟩
abbrev cc1_stg2_1 : Ref sig .tc := ⟨.vmem, 28, rfl⟩
abbrev cc1_stg3_0 : Ref sig .tc := ⟨.vmem, 29, rfl⟩
abbrev cc1_stg3_1 : Ref sig .tc := ⟨.vmem, 30, rfl⟩
abbrev cc1_stg4_0 : Ref sig .tc := ⟨.vmem, 31, rfl⟩
abbrev cc1_stg4_1 : Ref sig .tc := ⟨.vmem, 32, rfl⟩
abbrev cc1_stg5_0 : Ref sig .tc := ⟨.vmem, 33, rfl⟩
abbrev cc1_stg5_1 : Ref sig .tc := ⟨.vmem, 34, rfl⟩
abbrev cc1_stg6_0 : Ref sig .tc := ⟨.vmem, 35, rfl⟩
abbrev cc1_stg6_1 : Ref sig .tc := ⟨.vmem, 36, rfl⟩
abbrev cc1_stg7_0 : Ref sig .tc := ⟨.vmem, 37, rfl⟩
abbrev cc1_stg7_1 : Ref sig .tc := ⟨.vmem, 38, rfl⟩
abbrev cc1_stg8_0 : Ref sig .tc := ⟨.vmem, 39, rfl⟩
abbrev cc1_stg8_1 : Ref sig .tc := ⟨.vmem, 40, rfl⟩
abbrev cc1_stg9_0 : Ref sig .tc := ⟨.vmem, 41, rfl⟩
abbrev cc1_stg9_1 : Ref sig .tc := ⟨.vmem, 42, rfl⟩
abbrev cc1_stg10_0 : Ref sig .tc := ⟨.vmem, 43, rfl⟩
abbrev cc1_stg10_1 : Ref sig .tc := ⟨.vmem, 44, rfl⟩
abbrev cc1_stg11_0 : Ref sig .tc := ⟨.vmem, 45, rfl⟩
abbrev cc1_stg11_1 : Ref sig .tc := ⟨.vmem, 46, rfl⟩
abbrev cc1_stg12_0 : Ref sig .tc := ⟨.vmem, 47, rfl⟩
abbrev cc1_stg12_1 : Ref sig .tc := ⟨.vmem, 48, rfl⟩
abbrev cc1_stg13_0 : Ref sig .tc := ⟨.vmem, 49, rfl⟩
abbrev cc1_stg14_0 : Ref sig .tc := ⟨.vmem, 50, rfl⟩
abbrev cc1_stg14_1 : Ref sig .tc := ⟨.vmem, 51, rfl⟩
abbrev cc1_stg15_0 : Ref sig .tc := ⟨.vmem, 52, rfl⟩
abbrev cc1_stg16_0 : Ref sig .tc := ⟨.vmem, 53, rfl⟩
abbrev cc1_stg16_1 : Ref sig .tc := ⟨.vmem, 54, rfl⟩
abbrev cc1_stg17_0 : Ref sig .tc := ⟨.vmem, 55, rfl⟩
abbrev cc1_stg17_1 : Ref sig .tc := ⟨.vmem, 56, rfl⟩
abbrev cc1_stg18_0 : Ref sig .tc := ⟨.vmem, 57, rfl⟩
abbrev cc1_stg18_1 : Ref sig .tc := ⟨.vmem, 58, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc1_sem0_0 : DmaSem sig := 24
abbrev cc1_sem0_1 : DmaSem sig := 25
abbrev cc1_sem1_0 : DmaSem sig := 26
abbrev cc1_sem2_0 : DmaSem sig := 27
abbrev cc1_sem2_1 : DmaSem sig := 28
abbrev cc1_sem3_0 : DmaSem sig := 29
abbrev cc1_sem3_1 : DmaSem sig := 30
abbrev cc1_sem4_0 : DmaSem sig := 31
abbrev cc1_sem4_1 : DmaSem sig := 32
abbrev cc1_sem5_0 : DmaSem sig := 33
abbrev cc1_sem5_1 : DmaSem sig := 34
abbrev cc1_sem6_0 : DmaSem sig := 35
abbrev cc1_sem6_1 : DmaSem sig := 36
abbrev cc1_sem7_0 : DmaSem sig := 37
abbrev cc1_sem7_1 : DmaSem sig := 38
abbrev cc1_sem8_0 : DmaSem sig := 39
abbrev cc1_sem8_1 : DmaSem sig := 40
abbrev cc1_sem9_0 : DmaSem sig := 41
abbrev cc1_sem9_1 : DmaSem sig := 42
abbrev cc1_sem10_0 : DmaSem sig := 43
abbrev cc1_sem10_1 : DmaSem sig := 44
abbrev cc1_sem11_0 : DmaSem sig := 45
abbrev cc1_sem11_1 : DmaSem sig := 46
abbrev cc1_sem12_0 : DmaSem sig := 47
abbrev cc1_sem12_1 : DmaSem sig := 48
abbrev cc1_sem13_0 : DmaSem sig := 49
abbrev cc1_sem14_0 : DmaSem sig := 50
abbrev cc1_sem14_1 : DmaSem sig := 51
abbrev cc1_sem15_0 : DmaSem sig := 52
abbrev cc1_sem16_0 : DmaSem sig := 53
abbrev cc1_sem16_1 : DmaSem sig := 54
abbrev cc1_sem17_0 : DmaSem sig := 55
abbrev cc1_sem17_1 : DmaSem sig := 56
abbrev cc1_sem18_0 : DmaSem sig := 57
abbrev cc1_sem18_1 : DmaSem sig := 58

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8464x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_18 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x768 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x768 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x3072 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 1 → Memref sig .tc .vmem S8464x1024 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S256x1024 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 1 → Memref sig .tc .vmem S1x1024 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 2 → Memref sig .tc .vmem S256x1024 .bf16 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S256x768 .bf16 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 2 → Memref sig .tc .vmem S256x768 .bf16 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]
-- ==== Reference3Ideal.lean ====
abbrev S2048x1024 : Shape := ⟨2, ![2048, 1024]⟩
abbrev S1x1024 : Shape := ⟨2, ![1, 1024]⟩
abbrev S1024x8464 : Shape := ⟨2, ![1024, 8464]⟩
abbrev S2048x768 : Shape := ⟨2, ![2048, 768]⟩
abbrev S2048x3072 : Shape := ⟨2, ![2048, 3072]⟩
abbrev S2048x8 : Shape := ⟨2, ![2048, 8]⟩
abbrev S1024 : Shape := ⟨1, ![1024]⟩
abbrev S_ : Shape := ⟨0, ![]⟩
abbrev S2048 : Shape := ⟨1, ![2048]⟩
abbrev S2048x1 : Shape := ⟨2, ![2048, 1]⟩
abbrev S2048x8464 : Shape := ⟨2, ![2048, 8464]⟩
abbrev S32 : Shape := ⟨1, ![32]⟩
abbrev S1x32 : Shape := ⟨2, ![1, 32]⟩
abbrev S2048x32 : Shape := ⟨2, ![2048, 32]⟩
abbrev S2048x1x32 : Shape := ⟨3, ![2048, 1, 32]⟩
abbrev S2048x12x64 : Shape := ⟨3, ![2048, 12, 64]⟩
abbrev S2048x12x32 : Shape := ⟨3, ![2048, 12, 32]⟩

abbrev nBuf : Space → Nat
  | .hbm => 181
  | .vmem => 0
  | .smem => 0
  | _ => 0

abbrev hbmTy0_0 (i : Nat) : BufTy := match i % 128 with
  | 0 => ⟨S2048x1024, .f32⟩
  | 1 => ⟨S1x1024, .f32⟩
  | 2 => ⟨S1024x8464, .f32⟩
  | 3 => ⟨S2048x1024, .f32⟩
  | 4 => ⟨S2048x768, .f32⟩
  | 5 => ⟨S2048x768, .f32⟩
  | 6 => ⟨S2048x768, .f32⟩
  | 7 => ⟨S2048x3072, .f32⟩
  | 8 => ⟨S2048x8, .f32⟩
  | 9 => ⟨S2048x8, .f32⟩
  | 10 => ⟨S2048x1024, .f32⟩
  | 11 => ⟨S2048x1024, .f32⟩
  | 12 => ⟨S2048x1024, .f32⟩
  | 13 => ⟨S1024, .f32⟩
  | 14 => ⟨S2048x1024, .f32⟩
  | 15 => ⟨S_, .f32⟩
  | 16 => ⟨S2048, .f32⟩
  | 17 => ⟨S2048x1, .f32⟩
  | 18 => ⟨S_, .f32⟩
  | 19 => ⟨S2048x1, .f32⟩
  | 20 => ⟨S2048x1, .f32⟩
  | 21 => ⟨S_, .f32⟩
  | 22 => ⟨S2048x1, .f32⟩
  | 23 => ⟨S2048x1, .f32⟩
  | 24 => ⟨S2048x1, .f32⟩
  | 25 => ⟨S2048x1, .f32⟩
  | 26 => ⟨S_, .f32⟩
  | 27 => ⟨S2048x1, .f32⟩
  | 28 => ⟨S2048x1, .f32⟩
  | 29 => ⟨S2048x1024, .f32⟩
  | 30 => ⟨S2048x1024, .f32⟩
  | 31 => ⟨S1x1024, .f32⟩
  | 32 => ⟨S2048x1024, .f32⟩
  | 33 => ⟨S2048x1024, .f32⟩
  | 34 => ⟨S2048x8464, .f32⟩
  | 35 => ⟨S2048x768, .f32⟩
  | 36 => ⟨S2048x768, .f32⟩
  | 37 => ⟨S2048x768, .f32⟩
  | 38 => ⟨S2048x3072, .f32⟩
  | 39 => ⟨S2048x8, .f32⟩
  | 40 => ⟨S2048x8, .f32⟩
  | 41 => ⟨S2048x1024, .f32⟩
  | 42 => ⟨S2048x1024, .f32⟩
  | 43 => ⟨S2048x1024, .f32⟩
  | 44 => ⟨S32, .f32⟩
  | 45 => ⟨S32, .f32⟩
  | 46 => ⟨S_, .f32⟩
  | 47 => ⟨S32, .f32⟩
  | 48 => ⟨S32, .f32⟩
  | 49 => ⟨S_, .f32⟩
  | 50 => ⟨S32, .f32⟩
  | 51 => ⟨S32, .f32⟩
  | 52 => ⟨S2048, .i32⟩
  | 53 => ⟨S2048, .f32⟩
  | 54 => ⟨S2048x1, .f32⟩
  | 55 => ⟨S1x32, .f32⟩
  | 56 => ⟨S2048x32, .f32⟩
  | 57 => ⟨S2048x32, .f32⟩
  | 58 => ⟨S2048x32, .f32⟩
  | 59 => ⟨S2048x32, .f32⟩
  | 60 => ⟨S2048x1x32, .f32⟩
  | 61 => ⟨S2048x32, .f32⟩
  | 62 => ⟨S2048x1x32, .f32⟩
  | 63 => ⟨S2048x12x64, .f32⟩
  | 64 => ⟨S2048x12x32, .f32⟩
  | 65 => ⟨S2048x12x32, .f32⟩
  | 66 => ⟨S2048x12x32, .f32⟩
  | 67 => ⟨S2048x12x32, .f32⟩
  | 68 => ⟨S2048x12x32, .f32⟩
  | 69 => ⟨S2048x12x32, .f32⟩
  | 70 => ⟨S2048x12x32, .f32⟩
  | 71 => ⟨S2048x12x32, .f32⟩
  | 72 => ⟨S2048x12x32, .f32⟩
  | 73 => ⟨S2048x12x32, .f32⟩
  | 74 => ⟨S2048x12x32, .f32⟩
  | 75 => ⟨S2048x12x32, .f32⟩
  | 76 => ⟨S2048x12x64, .f32⟩
  | 77 => ⟨S2048x768, .f32⟩
  | 78 => ⟨S32, .f32⟩
  | 79 => ⟨S32, .f32⟩
  | 80 => ⟨S_, .f32⟩
  | 81 => ⟨S32, .f32⟩
  | 82 => ⟨S32, .f32⟩
  | 83 => ⟨S_, .f32⟩
  | 84 => ⟨S32, .f32⟩
  | 85 => ⟨S32, .f32⟩
  | 86 => ⟨S2048, .i32⟩
  | 87 => ⟨S2048, .f32⟩
  | 88 => ⟨S2048x1, .f32⟩
  | 89 => ⟨S1x32, .f32⟩
  | 90 => ⟨S2048x32, .f32⟩
  | 91 => ⟨S2048x32, .f32⟩
  | 92 => ⟨S2048x32, .f32⟩
  | 93 => ⟨S2048x32, .f32⟩
  | 94 => ⟨S2048x1x32, .f32⟩
  | 95 => ⟨S2048x32, .f32⟩
  | 96 => ⟨S2048x1x32, .f32⟩
  | 97 => ⟨S2048x12x64, .f32⟩
  | 98 => ⟨S2048x12x32, .f32⟩
  | 99 => ⟨S2048x12x32, .f32⟩
  | 100 => ⟨S2048x12x32, .f32⟩
  | 101 => ⟨S2048x12x32, .f32⟩
  | 102 => ⟨S2048x12x32, .f32⟩
  | 103 => ⟨S2048x12x32, .f32⟩
  | 104 => ⟨S2048x12x32, .f32⟩
  | 105 => ⟨S2048x12x32, .f32⟩
  | 106 => ⟨S2048x12x32, .f32⟩
  | 107 => ⟨S2048x12x32, .f32⟩
  | 108 => ⟨S2048x12x32, .f32⟩
  | 109 => ⟨S2048x12x32, .f32⟩
  | 110 => ⟨S2048x12x64, .f32⟩
  | 111 => ⟨S2048x768, .f32⟩
  | 112 => ⟨S2048x12x64, .f32⟩
  | 113 => ⟨S2048x12x32, .f32⟩
  | 114 => ⟨S2048x12x32, .f32⟩
  | 115 => ⟨S2048x12x32, .f32⟩
  | 116 => ⟨S2048x12x32, .f32⟩
  | 117 => ⟨S2048x12x32, .f32⟩
  | 118 => ⟨S2048x12x32, .f32⟩
  | 119 => ⟨S2048x12x32, .f32⟩
  | 120 => ⟨S2048x12x32, .f32⟩
  | 121 => ⟨S2048x12x32, .f32⟩
  | 122 => ⟨S2048x12x32, .f32⟩
  | 123 => ⟨S2048x12x32, .f32⟩
  | 124 => ⟨S2048x12x32, .f32⟩
  | 125 => ⟨S2048x12x32, .f32⟩
  | 126 => ⟨S_, .f32⟩
  | 127 => ⟨S2048x12x64, .f32⟩
  | _ => ⟨S2048x1024, .f32⟩

abbrev hbmTy0_1 (i : Nat) : BufTy := match i % 128 with
  | 0 => ⟨S_, .f32⟩
  | 1 => ⟨S2048x12x64, .f32⟩
  | 2 => ⟨S2048x12x64, .f32⟩
  | 3 => ⟨S2048x768, .f32⟩
  | 4 => ⟨S2048x12x64, .f32⟩
  | 5 => ⟨S2048x12x32, .f32⟩
  | 6 => ⟨S2048x12x32, .f32⟩
  | 7 => ⟨S2048x12x32, .f32⟩
  | 8 => ⟨S2048x12x32, .f32⟩
  | 9 => ⟨S2048x12x32, .f32⟩
  | 10 => ⟨S2048x12x32, .f32⟩
  | 11 => ⟨S2048x12x32, .f32⟩
  | 12 => ⟨S2048x12x32, .f32⟩
  | 13 => ⟨S2048x12x32, .f32⟩
  | 14 => ⟨S2048x12x32, .f32⟩
  | 15 => ⟨S2048x12x32, .f32⟩
  | 16 => ⟨S2048x12x32, .f32⟩
  | 17 => ⟨S2048x12x32, .f32⟩
  | 18 => ⟨S_, .f32⟩
  | 19 => ⟨S2048x12x64, .f32⟩
  | 20 => ⟨S_, .f32⟩
  | 21 => ⟨S2048x12x64, .f32⟩
  | 22 => ⟨S2048x12x64, .f32⟩
  | 23 => ⟨S2048x768, .f32⟩
  | 24 => ⟨S2048x8464, .f32⟩
  | 25 => ⟨S2048x1024, .f32⟩
  | 26 => ⟨S2048x1024, .f32⟩
  | 27 => ⟨S_, .f32⟩
  | 28 => ⟨S1024, .f32⟩
  | 29 => ⟨S1x1024, .f32⟩
  | 30 => ⟨S2048x1024, .f32⟩
  | 31 => ⟨S2048x1024, .f32⟩
  | 32 => ⟨S_, .f32⟩
  | 33 => ⟨S1024, .f32⟩
  | 34 => ⟨S2048x1024, .f32⟩
  | 35 => ⟨S_, .f32⟩
  | 36 => ⟨S2048, .f32⟩
  | 37 => ⟨S2048x1, .f32⟩
  | 38 => ⟨S2048x1024, .f32⟩
  | 39 => ⟨S2048x1024, .f32⟩
  | 40 => ⟨S2048x1024, .f32⟩
  | 41 => ⟨S2048x1, .f32⟩
  | 42 => ⟨S_, .f32⟩
  | 43 => ⟨S2048x1, .f32⟩
  | 44 => ⟨S2048x1, .f32⟩
  | 45 => ⟨S_, .f32⟩
  | 46 => ⟨S2048, .f32⟩
  | 47 => ⟨S2048x1024, .f32⟩
  | 48 => ⟨S2048x1024, .f32⟩
  | 49 => ⟨S2048x1024, .f32⟩
  | 50 => ⟨S2048x1024, .f32⟩
  | 51 => ⟨S2048x1024, .f32⟩
  | 52 => ⟨S1x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_5 : Ref sig .tc := ⟨.hbm, 80, rfl⟩
abbrev main_v61 : Ref sig .tc := ⟨.hbm, 81, rfl⟩
abbrev main_v62 : Ref sig .tc := ⟨.hbm, 82, rfl⟩
abbrev main_cst_6 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_cst_7 : Ref sig .tc := ⟨.hbm, 126, rfl⟩
abbrev main_v105 : Ref sig .tc := ⟨.hbm, 127, rfl⟩
abbrev main_cst_8 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_cst_9 : Ref sig .tc := ⟨.hbm, 146, rfl⟩
abbrev main_v123 : Ref sig .tc := ⟨.hbm, 147, rfl⟩
abbrev main_cst_10 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_cst_11 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_cst_12 : Ref sig .tc := ⟨.hbm, 160, rfl⟩
abbrev main_v134 : Ref sig .tc := ⟨.hbm, 161, rfl⟩
abbrev main_v135 : Ref sig .tc := ⟨.hbm, 162, rfl⟩
abbrev main_cst_13 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_cst_14 : Ref sig .tc := ⟨.hbm, 170, rfl⟩
abbrev main_v142 : Ref sig .tc := ⟨.hbm, 171, rfl⟩
abbrev main_v143 : Ref sig .tc := ⟨.hbm, 172, rfl⟩
abbrev main_cst_15 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩

abbrev nD : Nat := 1
abbrev τ : Topo := Topo.v7x

variable {F : FTy → Type} [FloatOps F]
-- ==== Kernel4.lean ====
abbrev S2048x1024 : Shape := ⟨2, ![2048, 1024]⟩
abbrev S1024x1024 : Shape := ⟨2, ![1024, 1024]⟩
abbrev S256x1024 : Shape := ⟨2, ![256, 1024]⟩
abbrev S2048x512 : Shape := ⟨2, ![2048, 512]⟩
abbrev S512x512 : Shape := ⟨2, ![512, 512]⟩

abbrev nBuf : Space → Nat
  | .hbm => 19
  | .vmem => 40
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S1024x1024, .bf16⟩
  | .hbm, ⟨8, _⟩ => ⟨S2048x1024, .f32⟩
  | .hbm, ⟨9, _⟩ => ⟨S2048x1024, .bf16⟩
  | .hbm, ⟨10, _⟩ => ⟨S1024x1024, .f32⟩
  | .hbm, ⟨11, _⟩ => ⟨S2048x1024, .bf16⟩
  | .hbm, ⟨12, _⟩ => ⟨S2048x1024, .bf16⟩
  | .hbm, ⟨13, _⟩ => ⟨S2048x1024, .bf16⟩
  | .hbm, ⟨14, _⟩ => ⟨S2048x1024, .bf16⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1024x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S2048x512, .bf16⟩
  | .local _ .vmem, ⟨16, _⟩ => ⟨S2048x512, .bf16⟩
  | .local _ .vmem, ⟨17, _⟩ => ⟨S2048x512, .f32⟩
  | .local _ .vmem, ⟨18, _⟩ => ⟨S2048x512, .f32⟩
  | .local _ .vmem, ⟨19, _⟩ => ⟨S512x512, .f32⟩
  | .local _ .vmem, ⟨20, _⟩ => ⟨S512x512, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S1024x1024, .bf16⟩
  | .local _ .vmem, ⟨30, _⟩ => ⟨S256x1024, .f32⟩
  | .local _ .vmem, ⟨31, _⟩ => ⟨S256x1024, .f32⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S256x1024, .bf16⟩
  | .local _ .vmem, ⟨36, _⟩ => ⟨S256x1024, .bf16⟩
  | .local _ .vmem, ⟨37, _⟩ => ⟨S256x1024, .bf16⟩
  | .local _ .vmem, ⟨38, _⟩ => ⟨S256x1024, .bf16⟩
  | .local _ .vmem, ⟨39, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc2_stg8_0 : Ref sig .tc := ⟨.vmem, 36, rfl⟩
abbrev cc2_stg8_1 : Ref sig .tc := ⟨.vmem, 37, rfl⟩
abbrev cc2_stg9_0 : Ref sig .tc := ⟨.vmem, 38, rfl⟩
abbrev cc2_stg9_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28
abbrev cc2_sem4_0 : DmaSem sig := 29
abbrev cc2_sem5_0 : DmaSem sig := 30
abbrev cc2_sem5_1 : DmaSem sig := 31
abbrev cc2_sem6_0 : DmaSem sig := 32
abbrev cc2_sem6_1 : DmaSem sig := 33
abbrev cc2_sem7_0 : DmaSem sig := 34
abbrev cc2_sem7_1 : DmaSem sig := 35
abbrev cc2_sem8_0 : DmaSem sig := 36
abbrev cc2_sem8_1 : DmaSem sig := 37
abbrev cc2_sem9_0 : DmaSem sig := 38
abbrev cc2_sem9_1 : DmaSem sig := 39

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1024x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x1024 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x1024 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S256x1024 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S256x1024 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]
-- ==== Reference4Ideal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S1024x1024, .f32⟩
  | .hbm, ⟨37, _⟩ => ⟨S1024x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel5.lean ====
abbrev S2048x1024 : Shape := ⟨2, ![2048, 1024]⟩
abbrev S1x128 : Shape := ⟨2, ![1, 128]⟩
abbrev S1024x1024 : Shape := ⟨2, ![1024, 1024]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S2048x512 : Shape := ⟨2, ![2048, 512]⟩
abbrev S512x512 : Shape := ⟨2, ![512, 512]⟩
abbrev S128 : Shape := ⟨1, ![128]⟩

abbrev nBuf : Space → Nat
  | .hbm => 14
  | .vmem => 29
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x128, .f32⟩
  | .hbm, ⟨3, _⟩ => ⟨S1024x1024, .f32⟩
  | .hbm, ⟨4, _⟩ => ⟨S2048x1024, .f32⟩
  | .hbm, ⟨5, _⟩ => ⟨S1024x1024, .bf16⟩
  | .hbm, ⟨6, _⟩ => ⟨S2048x1024, .bf16⟩
  | .hbm, ⟨7, _⟩ => ⟨S2048x1024, .f32⟩
  | .hbm, ⟨8, _⟩ => ⟨S2048x1024, .bf16⟩
  | .hbm, ⟨9, _⟩ => ⟨S1024x1024, .f32⟩
  | .hbm, ⟨10, _⟩ => ⟨S2048x1024, .f32⟩
  | .hbm, ⟨11, _⟩ => ⟨S2048x1024, .bf16⟩
  | .hbm, ⟨12, _⟩ => ⟨S1x128, .f32⟩
  | .hbm, ⟨13, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x128, .f32⟩
  | .local _ .vmem, ⟨5, _⟩ => ⟨S1024x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S512x512, .f32⟩
  | .local _ .vmem, ⟨15, _⟩ => ⟨S512x512, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S1x128, .f32⟩
  | .local _ .vmem, ⟨21, _⟩ => ⟨S1024x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .f32⟩
  | .local _ .vmem, ⟨25, _⟩ => ⟨S256x1024, .f32⟩
  | .local _ .vmem, ⟨26, _⟩ => ⟨S256x1024, .bf16⟩
  | .local _ .vmem, ⟨27, _⟩ => ⟨S256x1024, .bf16⟩
  | .local _ .vmem, ⟨28, _⟩ => ⟨S1x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg6_1 : Ref sig .tc := ⟨.vmem, 27, rfl⟩
abbrev cc2_stg7_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc2_sem5_0 : DmaSem sig := 24
abbrev cc2_sem5_1 : DmaSem sig := 25
abbrev cc2_sem6_0 : DmaSem sig := 26
abbrev cc2_sem6_1 : DmaSem sig := 27
abbrev cc2_sem7_0 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x1024 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]
-- ==== Reference5Ideal.lean ====
abbrev S2048x1024 : Shape := ⟨2, ![2048, 1024]⟩
abbrev S1x128 : Shape := ⟨2, ![1, 128]⟩
abbrev S1024x1024 : Shape := ⟨2, ![1024, 1024]⟩
abbrev S16384x128 : Shape := ⟨2, ![16384, 128]⟩
abbrev S128 : Shape := ⟨1, ![128]⟩
abbrev S_ : Shape := ⟨0, ![]⟩
abbrev S16384 : Shape := ⟨1, ![16384]⟩
abbrev S16384x1 : Shape := ⟨2, ![16384, 1]⟩

abbrev nBuf : Space → Nat
  | .hbm => 82
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x128, .f32⟩
  | .hbm, ⟨3, _⟩ => ⟨S1024x1024, .f32⟩
  | .hbm, ⟨4, _⟩ => ⟨S2048x1024, .f32⟩
  | .hbm, ⟨5, _⟩ => ⟨S16384x128, .f32⟩
  | .hbm, ⟨6, _⟩ => ⟨S128, .f32⟩
  | .hbm, ⟨7, _⟩ => ⟨S16384x128, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x128, .f32⟩
  | .hbm, ⟨23, _⟩ => ⟨S16384x128, .f32⟩
  | .hbm, ⟨24, _⟩ => ⟨S1x128, .f32⟩
  | .hbm, ⟨25, _⟩ => ⟨S16384x128, .f32⟩
  | .hbm, ⟨26, _⟩ => ⟨S16384x128, .f32⟩
  | .hbm, ⟨27, _⟩ => ⟨S16384x128, .f32⟩
  | .hbm, ⟨28, _⟩ => ⟨S16384x128, .f32⟩
  | .hbm, ⟨29, _⟩ => ⟨S16384x128, .f32⟩
  | .hbm, ⟨30, _⟩ => ⟨S_, .f32⟩
  | .hbm, ⟨31, _⟩ => ⟨S16384x128, .f32⟩
  | .hbm, ⟨32, _⟩ => ⟨S16384x128, .f32⟩
  | .hbm, ⟨33, _⟩ => ⟨S_, .f32⟩
  | .hbm, ⟨34, _⟩ => ⟨S16384x128, .f32⟩
  | .hbm, ⟨35, _⟩ => ⟨S16384x128, .f32⟩
  | .hbm, ⟨36, _⟩ => ⟨S_, .f32⟩
  | .hbm, ⟨37, _⟩ => ⟨S16384x128, .f32⟩
  | .hbm, ⟨38, _⟩ => ⟨S16384x128, .f32⟩
  | .hbm, ⟨39, _⟩ => ⟨S16384x128, .f32⟩
  | .hbm, ⟨40, _⟩ => ⟨S16384x128, .f32⟩
  | .hbm, ⟨41, _⟩ => ⟨S16384x128, .f32⟩
  | .hbm, ⟨42, _⟩ => ⟨S2048x1024, .f32⟩
  | .hbm, ⟨43, _⟩ => ⟨S2048x1024, .f32⟩
  | .hbm, ⟨44, _⟩ => ⟨S1024x1024, .f32⟩
  | .hbm, ⟨45, _⟩ => ⟨S1024x1024, .f32⟩
  | .hbm, ⟨46, _⟩ => ⟨S2048x1024, .f32⟩
  | .hbm, ⟨47, _⟩ => ⟨S16384x128, .f32⟩
  | .hbm, ⟨48, _⟩ => ⟨S16384x128, .f32⟩
  | .hbm, ⟨49, _⟩ => ⟨S16384x128, .f32⟩
  | .hbm, ⟨50, _⟩ => ⟨S16384x128, .f32⟩
  | .hbm, ⟨51, _⟩ => ⟨S16384x128, .f32⟩
  | .hbm, ⟨52, _⟩ => ⟨S16384x128, .f32⟩
  | .hbm, ⟨53, _⟩ => ⟨S16384x128, .f32⟩
  | .hbm, ⟨54, _⟩ => ⟨S2048x1024, .f32⟩
  | .hbm, ⟨55, _⟩ => ⟨S16384x128, .f32⟩
  | .hbm, ⟨56, _⟩ => ⟨S_, .f32⟩
  | .hbm, ⟨57, _⟩ => ⟨S128, .f32⟩
  | .hbm, ⟨58, _⟩ => ⟨S1x128, .f32⟩
  | .hbm, ⟨59, _⟩ => ⟨S16384x128, .f32⟩
  | .hbm, ⟨60, _⟩ => ⟨S16384x128, .f32⟩
  | .hbm, ⟨61, _⟩ => ⟨S_, .f32⟩
  | .hbm, ⟨62, _⟩ => ⟨S128, .f32⟩
  | .hbm, ⟨63, _⟩ => ⟨S16384x128, .f32⟩
  | .hbm, ⟨64, _⟩ => ⟨S_, .f32⟩
  | .hbm, ⟨65, _⟩ => ⟨S16384, .f32⟩
  | .hbm, ⟨66, _⟩ => ⟨S16384x1, .f32⟩
  | .hbm, ⟨67, _⟩ => ⟨S16384x128, .f32⟩
  | .hbm, ⟨68, _⟩ => ⟨S16384x128, .f32⟩
  | .hbm, ⟨69, _⟩ => ⟨S16384x1, .f32⟩
  | .hbm, ⟨70, _⟩ => ⟨S_, .f32⟩
  | .hbm, ⟨71, _⟩ => ⟨S16384x1, .f32⟩
  | .hbm, ⟨72, _⟩ => ⟨S16384x1, .f32⟩
  | .hbm, ⟨73, _⟩ => ⟨S_, .f32⟩
  | .hbm, ⟨74, _⟩ => ⟨S16384, .f32⟩
  | .hbm, ⟨75, _⟩ => ⟨S16384x128, .f32⟩
  | .hbm, ⟨76, _⟩ => ⟨S16384x128, .f32⟩
  | .hbm, ⟨77, _⟩ => ⟨S16384x128, .f32⟩
  | .hbm, ⟨78, _⟩ => ⟨S16384x128, .f32⟩
  | .hbm, ⟨79, _⟩ => ⟨S16384x128, .f32⟩
  | .hbm, ⟨80, _⟩ => ⟨S1x128, .f32⟩
  | .hbm, ⟨81, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_3 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_4 : Ref sig .tc := ⟨.hbm, 61, rfl⟩
abbrev main_v36 : Ref sig .tc := ⟨.hbm, 62, rfl⟩
abbrev main_v37 : Ref sig .tc := ⟨.hbm, 63, rfl⟩
abbrev main_cst_5 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩

abbrev nD : Nat := 1
abbrev τ : Topo := Topo.v7x

variable {F : FTy → Type} [FloatOps F]
-- ==== Kernel6.lean ====
abbrev S1x1024 : Shape := ⟨2, ![1, 1024]⟩
abbrev S4x384 : Shape := ⟨2, ![4, 384]⟩
abbrev S1x8 : Shape := ⟨2, ![1, 8]⟩
abbrev S1x128 : Shape := ⟨2, ![1, 128]⟩

abbrev nBuf : Space → Nat
  | .hbm => 56
  | .vmem => 56
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4x384, .f32⟩
  | .hbm, ⟨9, _⟩ => ⟨S4x384, .f32⟩
  | .hbm, ⟨10, _⟩ => ⟨S4x384, .f32⟩
  | .hbm, ⟨11, _⟩ => ⟨S4x384, .f32⟩
  | .hbm, ⟨12, _⟩ => ⟨S1x8, .f32⟩
  | .hbm, ⟨13, _⟩ => ⟨S1x8, .f32⟩
  | .hbm, ⟨14, _⟩ => ⟨S1x8, .f32⟩
  | .hbm, ⟨15, _⟩ => ⟨S1x8, .f32⟩
  | .hbm, ⟨16, _⟩ => ⟨S1x8, .f32⟩
  | .hbm, ⟨17, _⟩ => ⟨S1x8, .f32⟩
  | .hbm, ⟨18, _⟩ => ⟨S1x8, .f32⟩
  | .hbm, ⟨19, _⟩ => ⟨S1x8, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S4x384, .f32⟩
  | .hbm, ⟨39, _⟩ => ⟨S4x384, .f32⟩
  | .hbm, ⟨40, _⟩ => ⟨S4x384, .f32⟩
  | .hbm, ⟨41, _⟩ => ⟨S1x8, .f32⟩
  | .hbm, ⟨42, _⟩ => ⟨S1x8, .f32⟩
  | .hbm, ⟨43, _⟩ => ⟨S1x8, .f32⟩
  | .hbm, ⟨44, _⟩ => ⟨S1x8, .f32⟩
  | .hbm, ⟨45, _⟩ => ⟨S1x8, .f32⟩
  | .hbm, ⟨46, _⟩ => ⟨S1x8, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S4x384, .f32⟩
  | .local _ .vmem, ⟨15, _⟩ => ⟨S4x384, .f32⟩
  | .local _ .vmem, ⟨16, _⟩ => ⟨S4x384, .f32⟩
  | .local _ .vmem, ⟨17, _⟩ => ⟨S4x384, .f32⟩
  | .local _ .vmem, ⟨18, _⟩ => ⟨S4x384, .f32⟩
  | .local _ .vmem, ⟨19, _⟩ => ⟨S4x384, .f32⟩
  | .local _ .vmem, ⟨20, _⟩ => ⟨S4x384, .f32⟩
  | .local _ .vmem, ⟨21, _⟩ => ⟨S1x8, .f32⟩
  | .local _ .vmem, ⟨22, _⟩ => ⟨S1x8, .f32⟩
  | .local _ .vmem, ⟨23, _⟩ => ⟨S1x8, .f32⟩
  | .local _ .vmem, ⟨24, _⟩ => ⟨S1x8, .f32⟩
  | .local _ .vmem, ⟨25, _⟩ => ⟨S1x8, .f32⟩
  | .local _ .vmem, ⟨26, _⟩ => ⟨S1x8, .f32⟩
  | .local _ .vmem, ⟨27, _⟩ => ⟨S1x8, .f32⟩
  | .local _ .vmem, ⟨28, _⟩ => ⟨S1x8, .f32⟩
  | .local _ .vmem, ⟨29, _⟩ => ⟨S1x8, .f32⟩
  | .local _ .vmem, ⟨30, _⟩ => ⟨S1x8, .f32⟩
  | .local _ .vmem, ⟨31, _⟩ => ⟨S1x8, .f32⟩
  | .local _ .vmem, ⟨32, _⟩ => ⟨S1x8, .f32⟩
  | .local _ .vmem, ⟨33, _⟩ => ⟨S1x8, .f32⟩
  | .local _ .vmem, ⟨34, _⟩ => ⟨S1x8, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S1x1024, .f32⟩
  | .local _ .vmem, ⟨43, _⟩ => ⟨S1x1024, .f32⟩
  | .local _ .vmem, ⟨44, _⟩ => ⟨S1x1024, .f32⟩
  | .local _ .vmem, ⟨45, _⟩ => ⟨S1x1024, .f32⟩
  | .local _ .vmem, ⟨46, _⟩ => ⟨S1x1024, .f32⟩
  | .local _ .vmem, ⟨47, _⟩ => ⟨S1x1024, .f32⟩
  | .local _ .vmem, ⟨48, _⟩ => ⟨S1x1024, .f32⟩
  | .local _ .vmem, ⟨49, _⟩ => ⟨S1x1024, .f32⟩
  | .local _ .vmem, ⟨50, _⟩ => ⟨S1x1024, .f32⟩
  | .local _ .vmem, ⟨51, _⟩ => ⟨S1x1024, .f32⟩
  | .local _ .vmem, ⟨52, _⟩ => ⟨S1x1024, .f32⟩
  | .local _ .vmem, ⟨53, _⟩ => ⟨S1x1024, .f32⟩
  | .local _ .vmem, ⟨54, _⟩ => ⟨S1x1024, .f32⟩
  | .local _ .vmem, ⟨55, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0_0 : Ref sig .tc := ⟨.hbm, 32, rfl⟩
abbrev main_v0_1 : Ref sig .tc := ⟨.hbm, 33, rfl⟩
abbrev main_v0_2 : Ref sig .tc := ⟨.hbm, 34, rfl⟩
abbrev main_v1_0 : Ref sig .tc := ⟨.hbm, 35, rfl⟩
abbrev main_v1_1 : Ref sig .tc := ⟨.hbm, 36, rfl⟩
abbrev main_v1_2 : Ref sig .tc := ⟨.hbm, 37, rfl⟩
abbrev main_v2_0 : Ref sig .tc := ⟨.hbm, 38, rfl⟩
abbrev main_v2_1 : Ref sig .tc := ⟨.hbm, 39, rfl⟩
abbrev main_v2_2 : Ref sig .tc := ⟨.hbm, 40, rfl⟩
abbrev main_v3_0 : Ref sig .tc := ⟨.hbm, 41, rfl⟩
abbrev main_v3_1 : Ref sig .tc := ⟨.hbm, 42, rfl⟩
abbrev main_v3_2 : Ref sig .tc := ⟨.hbm, 43, rfl⟩
abbrev main_v4_0 : Ref sig .tc := ⟨.hbm, 44, rfl⟩
abbrev main_v4_1 : Ref sig .tc := ⟨.hbm, 45, rfl⟩
abbrev main_v4_2 : Ref sig .tc := ⟨.hbm, 46, rfl⟩
abbrev main_v5_0 : Ref sig .tc := ⟨.hbm, 47, rfl⟩
abbrev main_v5_1 : Ref sig .tc := ⟨.hbm, 48, rfl⟩
abbrev main_v5_2 : Ref sig .tc := ⟨.hbm, 49, rfl⟩
abbrev main_v6_0 : Ref sig .tc := ⟨.hbm, 50, rfl⟩
abbrev main_v6_1 : Ref sig .tc := ⟨.hbm, 51, rfl⟩
abbrev main_v6_2 : Ref sig .tc := ⟨.hbm, 52, rfl⟩
abbrev main_v7_0 : Ref sig .tc := ⟨.hbm, 53, rfl⟩
abbrev main_v7_1 : Ref sig .tc := ⟨.hbm, 54, rfl⟩
abbrev main_v7_2 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc3_stg0_0 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg6_0 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg6_0 : Ref sig .tc := ⟨.vmem, 34, rfl⟩
abbrev cc5_stg0_0 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg4_0 : Ref sig .tc := ⟨.vmem, 39, rfl⟩
abbrev cc5_stg5_0 : Ref sig .tc := ⟨.vmem, 40, rfl⟩
abbrev cc5_stg6_0 : Ref sig .tc := ⟨.vmem, 41, rfl⟩
abbrev cc6_stg0_0 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg5_0 : Ref sig .tc := ⟨.vmem, 47, rfl⟩
abbrev cc6_stg6_0 : Ref sig .tc := ⟨.vmem, 48, rfl⟩
abbrev cc7_stg0_0 : Ref sig .tc := ⟨.vmem, 49, rfl⟩
abbrev cc7_stg1_0 : Ref sig .tc := ⟨.vmem, 50, rfl⟩
abbrev cc7_stg2_0 : Ref sig .tc := ⟨.vmem, 51, rfl⟩
abbrev cc7_stg3_0 : Ref sig .tc := ⟨.vmem, 52, rfl⟩
abbrev cc7_stg4_0 : Ref sig .tc := ⟨.vmem, 53, rfl⟩
abbrev cc7_stg5_0 : Ref sig .tc := ⟨.vmem, 54, rfl⟩
abbrev cc7_stg6_0 : Ref sig .tc := ⟨.vmem, 55, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc3_sem0_0 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem6_0 : DmaSem sig := 27
abbrev cc4_sem0_0 : DmaSem sig := 28
abbrev cc4_sem1_0 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem6_0 : DmaSem sig := 34
abbrev cc5_sem0_0 : DmaSem sig := 35
abbrev cc5_sem1_0 : DmaSem sig := 36
abbrev cc5_sem2_0 : DmaSem sig := 37
abbrev cc5_sem3_0 : DmaSem sig := 38
abbrev cc5_sem4_0 : DmaSem sig := 39
abbrev cc5_sem5_0 : DmaSem sig := 40
abbrev cc5_sem6_0 : DmaSem sig := 41
abbrev cc6_sem0_0 : DmaSem sig := 42
abbrev cc6_sem1_0 : DmaSem sig := 43
abbrev cc6_sem2_0 : DmaSem sig := 44
abbrev cc6_sem3_0 : DmaSem sig := 45
abbrev cc6_sem4_0 : DmaSem sig := 46
abbrev cc6_sem5_0 : DmaSem sig := 47
abbrev cc6_sem6_0 : DmaSem sig := 48
abbrev cc7_sem0_0 : DmaSem sig := 49
abbrev cc7_sem1_0 : DmaSem sig := 50
abbrev cc7_sem2_0 : DmaSem sig := 51
abbrev cc7_sem3_0 : DmaSem sig := 52
abbrev cc7_sem4_0 : DmaSem sig := 53
abbrev cc7_sem5_0 : DmaSem sig := 54
abbrev cc7_sem6_0 : DmaSem sig := 55

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S4x384 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S4x384 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S4x384 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S4x384 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S4x384 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S4x384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S4x384 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S1x8 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S1x8 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S1x8 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S1x8 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S1x8 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true]

abbrev stage3_5 : Fin 1 → Memref sig .tc .vmem S1x8 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev stage3_6 : Fin 1 → Memref sig .tc .vmem S1x8 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S1x8 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S1x8 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true]

abbrev stage4_2 : Fin 1 → Memref sig .tc .vmem S1x8 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev stage4_3 : Fin 1 → Memref sig .tc .vmem S1x8 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

abbrev stage4_4 : Fin 1 → Memref sig .tc .vmem S1x8 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true]

abbrev stage4_5 : Fin 1 → Memref sig .tc .vmem S1x8 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![true]

abbrev stage4_6 : Fin 1 → Memref sig .tc .vmem S1x8 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S1x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![true]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![true]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S1x1024 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S1x1024 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true]

abbrev stage6_2 : Fin 1 → Memref sig .tc .vmem S1x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true]

abbrev stage6_3 : Fin 1 → Memref sig .tc .vmem S1x1024 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

abbrev stage6_4 : Fin 1 → Memref sig .tc .vmem S1x1024 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![true]

abbrev stage6_5 : Fin 1 → Memref sig .tc .vmem S1x1024 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![true]

abbrev stage6_6 : Fin 1 → Memref sig .tc .vmem S1x1024 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S1x1024 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S1x1024 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true]

abbrev stage7_2 : Fin 1 → Memref sig .tc .vmem S1x1024 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true]

abbrev stage7_3 : Fin 1 → Memref sig .tc .vmem S1x1024 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![true]

abbrev stage7_4 : Fin 1 → Memref sig .tc .vmem S1x1024 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![true]

abbrev stage7_5 : Fin 1 → Memref sig .tc .vmem S1x1024 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![true]

abbrev stage7_6 : Fin 1 → Memref sig .tc .vmem S1x1024 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![true]
-- ==== Reference6Ideal.lean ====
abbrev S1x1024 : Shape := ⟨2, ![1, 1024]⟩
abbrev S4x384 : Shape := ⟨2, ![4, 384]⟩
abbrev S1x8 : Shape := ⟨2, ![1, 8]⟩
abbrev S1x128 : Shape := ⟨2, ![1, 128]⟩
abbrev S_ : Shape := ⟨0, ![]⟩

abbrev nBuf : Space → Nat
  | .hbm => 296
  | .vmem => 0
  | .smem => 0
  | _ => 0

abbrev hbmTy0_0 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1x1024, .f32⟩
  | 8 => ⟨S4x384, .f32⟩
  | 9 => ⟨S4x384, .f32⟩
  | 10 => ⟨S4x384, .f32⟩
  | 11 => ⟨S4x384, .f32⟩
  | 12 => ⟨S1x8, .f32⟩
  | 13 => ⟨S1x8, .f32⟩
  | 14 => ⟨S1x8, .f32⟩
  | 15 => ⟨S1x8, .f32⟩
  | 16 => ⟨S1x8, .f32⟩
  | 17 => ⟨S1x8, .f32⟩
  | 18 => ⟨S1x8, .f32⟩
  | 19 => ⟨S1x8, .f32⟩
  | 20 => ⟨S1x128, .f32⟩
  | 21 => ⟨S1x128, .f32⟩
  | 22 => ⟨S1x128, .f32⟩
  | 23 => ⟨S1x128, .f32⟩
  | 24 => ⟨S1x1024, .f32⟩
  | 25 => ⟨S1x1024, .f32⟩
  | 26 => ⟨S1x1024, .f32⟩
  | 27 => ⟨S1x1024, .f32⟩
  | 28 => ⟨S1x1024, .f32⟩
  | 29 => ⟨S1x1024, .f32⟩
  | 30 => ⟨S1x1024, .f32⟩
  | 31 => ⟨S1x1024, .f32⟩
  | 32 => ⟨S_, .f32⟩
  | 33 => ⟨S1x1024, .f32⟩
  | 34 => ⟨S1x1024, .f32⟩
  | 35 => ⟨S_, .f32⟩
  | 36 => ⟨S1x1024, .f32⟩
  | 37 => ⟨S1x1024, .f32⟩
  | 38 => ⟨S1x1024, .f32⟩
  | 39 => ⟨S_, .f32⟩
  | 40 => ⟨S1x1024, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S_, .f32⟩
  | 51 => ⟨S1x1024, .f32⟩
  | 52 => ⟨S1x1024, .f32⟩
  | 53 => ⟨S1x1024, .f32⟩
  | 54 => ⟨S_, .f32⟩
  | 55 => ⟨S1x1024, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S1x1024, .f32⟩
  | 62 => ⟨S_, .f32⟩
  | 63 => ⟨S1x1024, .f32⟩
  | 64 => ⟨S1x1024, .f32⟩
  | 65 => ⟨S_, .f32⟩
  | 66 => ⟨S1x1024, .f32⟩
  | 67 => ⟨S1x1024, .f32⟩
  | 68 => ⟨S_, .f32⟩
  | 69 => ⟨S1x1024, .f32⟩
  | 70 => ⟨S1x1024, .f32⟩
  | 71 => ⟨S1x1024, .f32⟩
  | 72 => ⟨S_, .f32⟩
  | 73 => ⟨S1x1024, .f32⟩
  | 74 => ⟨S1x1024, .f32⟩
  | 75 => ⟨S1x1024, .f32⟩
  | 76 => ⟨S_, .f32⟩
  | 77 => ⟨S1x1024, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S_, .f32⟩
  | 84 => ⟨S1x1024, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S1x1024, .f32⟩
  | 91 => ⟨S_, .f32⟩
  | 92 => ⟨S1x1024, .f32⟩
  | 93 => ⟨S1x1024, .f32⟩
  | 94 => ⟨S1x1024, .f32⟩
  | 95 => ⟨S_, .f32⟩
  | 96 => ⟨S1x1024, .f32⟩
  | 97 => ⟨S1x1024, .f32⟩
  | 98 => ⟨S_, .f32⟩
  | 99 => ⟨S4x384, .f32⟩
  | 100 => ⟨S4x384, .f32⟩
  | 101 => ⟨S_, .f32⟩
  | 102 => ⟨S4x384, .f32⟩
  | 103 => ⟨S4x384, .f32⟩
  | 104 => ⟨S4x384, .f32⟩
  | 105 => ⟨S_, .f32⟩
  | 106 => ⟨S4x384, .f32⟩
  | 107 => ⟨S4x384, .f32⟩
  | 108 => ⟨S4x384, .f32⟩
  | 109 => ⟨S_, .f32⟩
  | 110 => ⟨S4x384, .f32⟩
  | 111 => ⟨S4x384, .f32⟩
  | 112 => ⟨S4x384, .f32⟩
  | 113 => ⟨S_, .f32⟩
  | 114 => ⟨S4x384, .f32⟩
  | 115 => ⟨S4x384, .f32⟩
  | 116 => ⟨S_, .f32⟩
  | 117 => ⟨S4x384, .f32⟩
  | 118 => ⟨S4x384, .f32⟩
  | 119 => ⟨S4x384, .f32⟩
  | 120 => ⟨S_, .f32⟩
  | 121 => ⟨S4x384, .f32⟩
  | 122 => ⟨S4x384, .f32⟩
  | 123 => ⟨S4x384, .f32⟩
  | 124 => ⟨S_, .f32⟩
  | 125 => ⟨S4x384, .f32⟩
  | 126 => ⟨S4x384, .f32⟩
  | 127 => ⟨S4x384, .f32⟩
  | _ => ⟨S1x1024, .f32⟩

abbrev hbmTy0_1 (i : Nat) : BufTy := match i % 128 with
  | 0 => ⟨S_, .f32⟩
  | 1 => ⟨S4x384, .f32⟩
  | 2 => ⟨S4x384, .f32⟩
  | 3 => ⟨S_, .f32⟩
  | 4 => ⟨S1x8, .f32⟩
  | 5 => ⟨S1x8, .f32⟩
  | 6 => ⟨S_, .f32⟩
  | 7 => ⟨S1x8, .f32⟩
  | 8 => ⟨S1x8, .f32⟩
  | 9 => ⟨S1x8, .f32⟩
  | 10 => ⟨S_, .f32⟩
  | 11 => ⟨S1x8, .f32⟩
  | 12 => ⟨S1x8, .f32⟩
  | 13 => ⟨S1x8, .f32⟩
  | 14 => ⟨S_, .f32⟩
  | 15 => ⟨S1x8, .f32⟩
  | 16 => ⟨S1x8, .f32⟩
  | 17 => ⟨S1x8, .f32⟩
  | 18 => ⟨S_, .f32⟩
  | 19 => ⟨S1x8, .f32⟩
  | 20 => ⟨S1x8, .f32⟩
  | 21 => ⟨S_, .f32⟩
  | 22 => ⟨S1x8, .f32⟩
  | 23 => ⟨S1x8, .f32⟩
  | 24 => ⟨S1x8, .f32⟩
  | 25 => ⟨S_, .f32⟩
  | 26 => ⟨S1x8, .f32⟩
  | 27 => ⟨S1x8, .f32⟩
  | 28 => ⟨S1x8, .f32⟩
  | 29 => ⟨S_, .f32⟩
  | 30 => ⟨S1x8, .f32⟩
  | 31 => ⟨S1x8, .f32⟩
  | 32 => ⟨S1x8, .f32⟩
  | 33 => ⟨S_, .f32⟩
  | 34 => ⟨S1x8, .f32⟩
  | 35 => ⟨S1x8, .f32⟩
  | 36 => ⟨S_, .f32⟩
  | 37 => ⟨S1x8, .f32⟩
  | 38 => ⟨S1x8, .f32⟩
  | 39 => ⟨S_, .f32⟩
  | 40 => ⟨S1x8, .f32⟩
  | 41 => ⟨S1x8, .f32⟩
  | 42 => ⟨S1x8, .f32⟩
  | 43 => ⟨S_, .f32⟩
  | 44 => ⟨S1x8, .f32⟩
  | 45 => ⟨S1x8, .f32⟩
  | 46 => ⟨S1x8, .f32⟩
  | 47 => ⟨S_, .f32⟩
  | 48 => ⟨S1x8, .f32⟩
  | 49 => ⟨S1x8, .f32⟩
  | 50 => ⟨S1x8, .f32⟩
  | 51 => ⟨S_, .f32⟩
  | 52 => ⟨S1x8, .f32⟩
  | 53 => ⟨S1x8, .f32⟩
  | 54 => ⟨S_, .f32⟩
  | 55 => ⟨S1x8, .f32⟩
  | 56 => ⟨S1x8, .f32⟩
  | 57 => ⟨S1x8, .f32⟩
  | 58 => ⟨S_, .f32⟩
  | 59 => ⟨S1x8, .f32⟩
  | 60 => ⟨S1x8, .f32⟩
  | 61 => ⟨S1x8, .f32⟩
  | 62 => ⟨S_, .f32⟩
  | 63 => ⟨S1x8, .f32⟩
  | 64 => ⟨S1x8, .f32⟩
  | 65 => ⟨S1x8, .f32⟩
  | 66 => ⟨S_, .f32⟩
  | 67 => ⟨S1x8, .f32⟩
  | 68 => ⟨S1x8, .f32⟩
  | 69 => ⟨S_, .f32⟩
  | 70 => ⟨S1x128, .f32⟩
  | 71 => ⟨S1x128, .f32⟩
  | 72 => ⟨S_, .f32⟩
  | 73 => ⟨S1x128, .f32⟩
  | 74 => ⟨S1x128, .f32⟩
  | 75 => ⟨S1x128, .f32⟩
  | 76 => ⟨S_, .f32⟩
  | 77 => ⟨S1x128, .f32⟩
  | 78 => ⟨S1x128, .f32⟩
  | 79 => ⟨S1x128, .f32⟩
  | 80 => ⟨S_, .f32⟩
  | 81 => ⟨S1x128, .f32⟩
  | 82 => ⟨S1x128, .f32⟩
  | 83 => ⟨S1x128, .f32⟩
  | 84 => ⟨S_, .f32⟩
  | 85 => ⟨S1x128, .f32⟩
  | 86 => ⟨S1x128, .f32⟩
  | 87 => ⟨S_, .f32⟩
  | 88 => ⟨S1x128, .f32⟩
  | 89 => ⟨S1x128, .f32⟩
  | 90 => ⟨S1x128, .f32⟩
  | 91 => ⟨S_, .f32⟩
  | 92 => ⟨S1x128, .f32⟩
  | 93 => ⟨S1x128, .f32⟩
  | 94 => ⟨S1x128, .f32⟩
  | 95 => ⟨S_, .f32⟩
  | 96 => ⟨S1x128, .f32⟩
  | 97 => ⟨S1x128, .f32⟩
  | 98 => ⟨S1x128, .f32⟩
  | 99 => ⟨S_, .f32⟩
  | 100 => ⟨S1x128, .f32⟩
  | 101 => ⟨S1x128, .f32⟩
  | 102 => ⟨S_, .f32⟩
  | 103 => ⟨S1x1024, .f32⟩
  | 104 => ⟨S1x1024, .f32⟩
  | 105 => ⟨S_, .f32⟩
  | 106 => ⟨S1x1024, .f32⟩
  | 107 => ⟨S1x1024, .f32⟩
  | 108 => ⟨S1x1024, .f32⟩
  | 109 => ⟨S_, .f32⟩
  | 110 => ⟨S1x1024, .f32⟩
  | 111 => ⟨S1x1024, .f32⟩
  | 112 => ⟨S1x1024, .f32⟩
  | 113 => ⟨S_, .f32⟩
  | 114 => ⟨S1x1024, .f32⟩
  | 115 => ⟨S1x1024, .f32⟩
  | 116 => ⟨S1x1024, .f32⟩
  | 117 => ⟨S_, .f32⟩
  | 118 => ⟨S1x1024, .f32⟩
  | 119 => ⟨S1x1024, .f32⟩
  | 120 => ⟨S_, .f32⟩
  | 121 => ⟨S1x1024, .f32⟩
  | 122 => ⟨S1x1024, .f32⟩
  | 123 => ⟨S1x1024, .f32⟩
  | 124 => ⟨S_, .f32⟩
  | 125 => ⟨S1x1024, .f32⟩
  | 126 => ⟨S1x1024, .f32⟩
  | 127 => ⟨S1x1024, .f32⟩
  | _ => ⟨S1x1024, .f32⟩

abbrev hbmTy0_2 (i : Nat) : BufTy := match i % 128 with
  | 0 => ⟨S_, .f32⟩
  | 1 => ⟨S1x1024, .f32⟩
  | 2 => ⟨S1x1024, .f32⟩
  | 3 => ⟨S1x1024, .f32⟩
  | 4 => ⟨S_, .f32⟩
  | 5 => ⟨S1x1024, .f32⟩
  | 6 => ⟨S1x1024, .f32⟩
  | 7 => ⟨S_, .f32⟩
  | 8 => ⟨S1x1024, .f32⟩
  | 9 => ⟨S1x1024, .f32⟩
  | 10 => ⟨S_, .f32⟩
  | 11 => ⟨S1x1024, .f32⟩
  | 12 => ⟨S1x1024, .f32⟩
  | 13 => ⟨S1x1024, .f32⟩
  | 14 => ⟨S_, .f32⟩
  | 15 => ⟨S1x1024, .f32⟩
  | 16 => ⟨S1x1024, .f32⟩
  | 17 => ⟨S1x1024, .f32⟩
  | 18 => ⟨S_, .f32⟩
  | 19 => ⟨S1x1024, .f32⟩
  | 20 => ⟨S1x1024, .f32⟩
  | 21 => ⟨S1x1024, .f32⟩
  | 22 => ⟨S_, .f32⟩
  | 23 => ⟨S1x1024, .f32⟩
  | 24 => ⟨S1x1024, .f32⟩
  | 25 => ⟨S_, .f32⟩
  | 26 => ⟨S1x1024, .f32⟩
  | 27 => ⟨S1x1024, .f32⟩
  | 28 => ⟨S1x1024, .f32⟩
  | 29 => ⟨S_, .f32⟩
  | 30 => ⟨S1x1024, .f32⟩
  | 31 => ⟨S1x1024, .f32⟩
  | 32 => ⟨S1x1024, .f32⟩
  | 33 => ⟨S_, .f32⟩
  | 34 => ⟨S1x1024, .f32⟩
  | 35 => ⟨S1x1024, .f32⟩
  | 36 => ⟨S1x1024, .f32⟩
  | 37 => ⟨S_, .f32⟩
  | 38 => ⟨S1x1024, .f32⟩
  | 39 => ⟨S1x1024, .f32⟩
  | _ => ⟨S1x1024, .f32⟩

abbrev hbmTy (i : Nat) : BufTy := match i / 128 with
  | 0 => hbmTy0_0 i
  | 1 => hbmTy0_1 i
  | 2 => hbmTy0_2 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_cst : Ref sig .tc := ⟨.hbm, 32, rfl⟩
abbrev main_v0 : Ref sig .tc := ⟨.hbm, 33, rfl⟩
abbrev main_v1 : Ref sig .tc := ⟨.hbm, 34, rfl⟩
abbrev main_cst_0 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_cst_1 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_2 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst_3 : Ref sig .tc := ⟨.hbm, 47, rfl⟩
abbrev main_v11 : Ref sig .tc := ⟨.hbm, 48, rfl⟩
abbrev main_v12 : Ref sig .tc := ⟨.hbm, 49, rfl⟩
abbrev main_cst_4 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_cst_5 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst_6 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_7 : Ref sig .tc := ⟨.hbm, 62, rfl⟩
abbrev main_v22 : Ref sig .tc := ⟨.hbm, 63, rfl⟩
abbrev main_v23 : Ref sig .tc := ⟨.hbm, 64, rfl⟩
abbrev main_cst_8 : Ref sig .tc := ⟨.hbm, 65, rfl⟩
abbrev main_v24 : Ref sig .tc := ⟨.hbm, 66, rfl⟩
abbrev main_v25 : Ref sig .tc := ⟨.hbm, 67, rfl⟩
abbrev main_cst_9 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_cst_10 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_cst_11 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_12 : Ref sig .tc := ⟨.hbm, 80, rfl⟩
abbrev main_v35 : Ref sig .tc := ⟨.hbm, 81, rfl⟩
abbrev main_v36 : Ref sig .tc := ⟨.hbm, 82, rfl⟩
abbrev main_cst_13 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_cst_14 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_cst_15 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_cst_16 : Ref sig .tc := ⟨.hbm, 95, rfl⟩
abbrev main_v46 : Ref sig .tc := ⟨.hbm, 96, rfl⟩
abbrev main_v47 : Ref sig .tc := ⟨.hbm, 97, rfl⟩
abbrev main_cst_17 : Ref sig .tc := ⟨.hbm, 98, rfl⟩
abbrev main_v48 : Ref sig .tc := ⟨.hbm, 99, rfl⟩
abbrev main_v49 : Ref sig .tc := ⟨.hbm, 100, rfl⟩
abbrev main_cst_18 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_cst_19 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_cst_20 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_cst_21 : Ref sig .tc := ⟨.hbm, 113, rfl⟩
abbrev main_v59 : Ref sig .tc := ⟨.hbm, 114, rfl⟩
abbrev main_v60 : Ref sig .tc := ⟨.hbm, 115, rfl⟩
abbrev main_cst_22 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_cst_23 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_cst_24 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_cst_25 : Ref sig .tc := ⟨.hbm, 128, rfl⟩
abbrev main_v70 : Ref sig .tc := ⟨.hbm, 129, rfl⟩
abbrev main_v71 : Ref sig .tc := ⟨.hbm, 130, rfl⟩
abbrev main_cst_26 : Ref sig .tc := ⟨.hbm, 131, rfl⟩
abbrev main_v72 : Ref sig .tc := ⟨.hbm, 132, rfl⟩
abbrev main_v73 : Ref sig .tc := ⟨.hbm, 133, rfl⟩
abbrev main_cst_27 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_cst_28 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_cst_29 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_cst_30 : Ref sig .tc := ⟨.hbm, 146, rfl⟩
abbrev main_v83 : Ref sig .tc := ⟨.hbm, 147, rfl⟩
abbrev main_v84 : Ref sig .tc := ⟨.hbm, 148, rfl⟩
abbrev main_cst_31 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_cst_32 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_cst_33 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_cst_34 : Ref sig .tc := ⟨.hbm, 161, rfl⟩
abbrev main_v94 : Ref sig .tc := ⟨.hbm, 162, rfl⟩
abbrev main_v95 : Ref sig .tc := ⟨.hbm, 163, rfl⟩
abbrev main_cst_35 : Ref sig .tc := ⟨.hbm, 164, rfl⟩
abbrev main_v96 : Ref sig .tc := ⟨.hbm, 165, rfl⟩
abbrev main_v97 : Ref sig .tc := ⟨.hbm, 166, rfl⟩
abbrev main_cst_36 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_cst_37 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_cst_38 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_cst_39 : Ref sig .tc := ⟨.hbm, 179, rfl⟩
abbrev main_v107 : Ref sig .tc := ⟨.hbm, 180, rfl⟩
abbrev main_v108 : Ref sig .tc := ⟨.hbm, 181, rfl⟩
abbrev main_cst_40 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_cst_41 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_cst_42 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_cst_43 : Ref sig .tc := ⟨.hbm, 194, rfl⟩
abbrev main_v118 : Ref sig .tc := ⟨.hbm, 195, rfl⟩
abbrev main_v119 : Ref sig .tc := ⟨.hbm, 196, rfl⟩
abbrev main_cst_44 : Ref sig .tc := ⟨.hbm, 197, rfl⟩
abbrev main_v120 : Ref sig .tc := ⟨.hbm, 198, rfl⟩
abbrev main_v121 : Ref sig .tc := ⟨.hbm, 199, rfl⟩
abbrev main_cst_45 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_cst_46 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_cst_47 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_cst_48 : Ref sig .tc := ⟨.hbm, 212, rfl⟩
abbrev main_v131 : Ref sig .tc := ⟨.hbm, 213, rfl⟩
abbrev main_v132 : Ref sig .tc := ⟨.hbm, 214, rfl⟩
abbrev main_cst_49 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_cst_50 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_cst_51 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_cst_52 : Ref sig .tc := ⟨.hbm, 227, rfl⟩
abbrev main_v142 : Ref sig .tc := ⟨.hbm, 228, rfl⟩
abbrev main_v143 : Ref sig .tc := ⟨.hbm, 229, rfl⟩
abbrev main_cst_53 : Ref sig .tc := ⟨.hbm, 230, rfl⟩
abbrev main_v144 : Ref sig .tc := ⟨.hbm, 231, rfl⟩
abbrev main_v145 : Ref sig .tc := ⟨.hbm, 232, rfl⟩
abbrev main_cst_54 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_cst_55 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_cst_56 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_cst_57 : Ref sig .tc := ⟨.hbm, 245, rfl⟩
abbrev main_v155 : Ref sig .tc := ⟨.hbm, 246, rfl⟩
abbrev main_v156 : Ref sig .tc := ⟨.hbm, 247, rfl⟩
abbrev main_cst_58 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_cst_59 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_cst_60 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_cst_61 : Ref sig .tc := ⟨.hbm, 260, rfl⟩
abbrev main_v166 : Ref sig .tc := ⟨.hbm, 261, rfl⟩
abbrev main_v167 : Ref sig .tc := ⟨.hbm, 262, rfl⟩
abbrev main_cst_62 : Ref sig .tc := ⟨.hbm, 263, rfl⟩
abbrev main_v168 : Ref sig .tc := ⟨.hbm, 264, rfl⟩
abbrev main_v169 : Ref sig .tc := ⟨.hbm, 265, rfl⟩
abbrev main_cst_63 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_cst_64 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_cst_65 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_cst_66 : Ref sig .tc := ⟨.hbm, 278, rfl⟩
abbrev main_v179 : Ref sig .tc := ⟨.hbm, 279, rfl⟩
abbrev main_v180 : Ref sig .tc := ⟨.hbm, 280, rfl⟩
abbrev main_cst_67 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_cst_68 : Ref sig .tc := ⟨.hbm, 285, rfl⟩
abbrev main_v184 : Ref sig .tc := ⟨.hbm, 286, rfl⟩
abbrev main_v185 : Ref sig .tc := ⟨.hbm, 287, rfl⟩
abbrev main_v186 : Ref sig .tc := ⟨.hbm, 288, rfl⟩
abbrev main_cst_69 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_cst_70 : Ref sig .tc := ⟨.hbm, 293, rfl⟩
abbrev main_v190 : Ref sig .tc := ⟨.hbm, 294, rfl⟩
abbrev main_v191 : Ref sig .tc := ⟨.hbm, 295, rfl⟩

abbrev nD : Nat := 1
abbrev τ : Topo := Topo.v7x

variable {F : FTy → Type} [FloatOps F]
-- ==== Kernel7.lean ====
abbrev S1x352x1024 : Shape := ⟨3, ![1, 352, 1024]⟩
abbrev S7x352x1024 : Shape := ⟨3, ![7, 352, 1024]⟩
abbrev S1x256x128 : Shape := ⟨3, ![1, 256, 128]⟩
abbrev S7x256x128 : Shape := ⟨3, ![7, 256, 128]⟩
abbrev S1x128x1024 : Shape := ⟨3, ![1, 128, 1024]⟩
abbrev S7x128x1024 : Shape := ⟨3, ![7, 128, 1024]⟩
abbrev S352x1024 : Shape := ⟨2, ![352, 1024]⟩
abbrev S256x128 : Shape := ⟨2, ![256, 128]⟩
abbrev S128x1024 : Shape := ⟨2, ![128, 1024]⟩

abbrev nBuf : Space → Nat
  | .hbm => 54
  | .vmem => 54
  | .smem => 0
  | _ => 0

abbrev bufTy : (tb : Table) → Fin (tcTables nBuf tb) → BufTy
  | .hbm, ⟨0, _⟩ => ⟨S1x352x1024, .f32⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S7x352x1024, .bf16⟩
  | .hbm, ⟨5, _⟩ => ⟨S1x352x1024, .f32⟩
  | .hbm, ⟨6, _⟩ => ⟨S1x352x1024, .f32⟩
  | .hbm, ⟨7, _⟩ => ⟨S1x352x1024, .f32⟩
  | .hbm, ⟨8, _⟩ => ⟨S1x352x1024, .f32⟩
  | .hbm, ⟨9, _⟩ => ⟨S7x352x1024, .bf16⟩
  | .hbm, ⟨10, _⟩ => ⟨S1x352x1024, .f32⟩
  | .hbm, ⟨11, _⟩ => ⟨S1x352x1024, .f32⟩
  | .hbm, ⟨12, _⟩ => ⟨S1x352x1024, .f32⟩
  | .hbm, ⟨13, _⟩ => ⟨S1x352x1024, .f32⟩
  | .hbm, ⟨14, _⟩ => ⟨S7x352x1024, .bf16⟩
  | .hbm, ⟨15, _⟩ => ⟨S1x256x128, .f32⟩
  | .hbm, ⟨16, _⟩ => ⟨S1x256x128, .f32⟩
  | .hbm, ⟨17, _⟩ => ⟨S1x256x128, .f32⟩
  | .hbm, ⟨18, _⟩ => ⟨S1x256x128, .f32⟩
  | .hbm, ⟨19, _⟩ => ⟨S7x256x128, .bf16⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S1x128x1024, .f32⟩
  | .hbm, ⟨24, _⟩ => ⟨S7x128x1024, .bf16⟩
  | .hbm, ⟨25, _⟩ => ⟨S1x128x1024, .f32⟩
  | .hbm, ⟨26, _⟩ => ⟨S1x128x1024, .f32⟩
  | .hbm, ⟨27, _⟩ => ⟨S1x128x1024, .f32⟩
  | .hbm, ⟨28, _⟩ => ⟨S1x128x1024, .f32⟩
  | .hbm, ⟨29, _⟩ => ⟨S7x128x1024, .bf16⟩
  | .hbm, ⟨30, _⟩ => ⟨S1x352x1024, .f32⟩
  | .hbm, ⟨31, _⟩ => ⟨S1x352x1024, .f32⟩
  | .hbm, ⟨32, _⟩ => ⟨S1x352x1024, .f32⟩
  | .hbm, ⟨33, _⟩ => ⟨S1x352x1024, .f32⟩
  | .hbm, ⟨34, _⟩ => ⟨S1x352x1024, .f32⟩
  | .hbm, ⟨35, _⟩ => ⟨S1x352x1024, .f32⟩
  | .hbm, ⟨36, _⟩ => ⟨S1x352x1024, .f32⟩
  | .hbm, ⟨37, _⟩ => ⟨S1x352x1024, .f32⟩
  | .hbm, ⟨38, _⟩ => ⟨S1x352x1024, .f32⟩
  | .hbm, ⟨39, _⟩ => ⟨S1x352x1024, .f32⟩
  | .hbm, ⟨40, _⟩ => ⟨S1x352x1024, .f32⟩
  | .hbm, ⟨41, _⟩ => ⟨S1x352x1024, .f32⟩
  | .hbm, ⟨42, _⟩ => ⟨S1x256x128, .f32⟩
  | .hbm, ⟨43, _⟩ => ⟨S1x256x128, .f32⟩
  | .hbm, ⟨44, _⟩ => ⟨S1x256x128, .f32⟩
  | .hbm, ⟨45, _⟩ => ⟨S1x256x128, .f32⟩
  | .hbm, ⟨46, _⟩ => ⟨S1x128x1024, .f32⟩
  | .hbm, ⟨47, _⟩ => ⟨S1x128x1024, .f32⟩
  | .hbm, ⟨48, _⟩ => ⟨S1x128x1024, .f32⟩
  | .hbm, ⟨49, _⟩ => ⟨S1x128x1024, .f32⟩
  | .hbm, ⟨50, _⟩ => ⟨S1x128x1024, .f32⟩
  | .hbm, ⟨51, _⟩ => ⟨S1x128x1024, .f32⟩
  | .hbm, ⟨52, _⟩ => ⟨S1x128x1024, .f32⟩
  | .hbm, ⟨53, _⟩ => ⟨S1x128x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S7x352x1024, .bf16⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S7x352x1024, .bf16⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | .local _ .vmem, ⟨18, _⟩ => ⟨S1x352x1024, .f32⟩
  | .local _ .vmem, ⟨19, _⟩ => ⟨S1x352x1024, .f32⟩
  | .local _ .vmem, ⟨20, _⟩ => ⟨S1x352x1024, .f32⟩
  | .local _ .vmem, ⟨21, _⟩ => ⟨S1x352x1024, .f32⟩
  | .local _ .vmem, ⟨22, _⟩ => ⟨S7x352x1024, .bf16⟩
  | .local _ .vmem, ⟨23, _⟩ => ⟨S1x352x1024, .f32⟩
  | .local _ .vmem, ⟨24, _⟩ => ⟨S1x352x1024, .f32⟩
  | .local _ .vmem, ⟨25, _⟩ => ⟨S1x352x1024, .f32⟩
  | .local _ .vmem, ⟨26, _⟩ => ⟨S1x352x1024, .f32⟩
  | .local _ .vmem, ⟨27, _⟩ => ⟨S1x256x128, .f32⟩
  | .local _ .vmem, ⟨28, _⟩ => ⟨S1x256x128, .f32⟩
  | .local _ .vmem, ⟨29, _⟩ => ⟨S1x256x128, .f32⟩
  | .local _ .vmem, ⟨30, _⟩ => ⟨S1x256x128, .f32⟩
  | .local _ .vmem, ⟨31, _⟩ => ⟨S7x256x128, .bf16⟩
  | .local _ .vmem, ⟨32, _⟩ => ⟨S1x256x128, .f32⟩
  | .local _ .vmem, ⟨33, _⟩ => ⟨S1x256x128, .f32⟩
  | .local _ .vmem, ⟨34, _⟩ => ⟨S1x256x128, .f32⟩
  | .local _ .vmem, ⟨35, _⟩ => ⟨S1x256x128, .f32⟩
  | .local _ .vmem, ⟨36, _⟩ => ⟨S1x128x1024, .f32⟩
  | .local _ .vmem, ⟨37, _⟩ => ⟨S1x128x1024, .f32⟩
  | .local _ .vmem, ⟨38, _⟩ => ⟨S1x128x1024, .f32⟩
  | .local _ .vmem, ⟨39, _⟩ => ⟨S1x128x1024, .f32⟩
  | .local _ .vmem, ⟨40, _⟩ => ⟨S7x128x1024, .bf16⟩
  | .local _ .vmem, ⟨41, _⟩ => ⟨S1x128x1024, .f32⟩
  | .local _ .vmem, ⟨42, _⟩ => ⟨S1x128x1024, .f32⟩
  | .local _ .vmem, ⟨43, _⟩ => ⟨S1x128x1024, .f32⟩
  | .local _ .vmem, ⟨44, _⟩ => ⟨S1x128x1024, .f32⟩
  | .local _ .vmem, ⟨45, _⟩ => ⟨S1x128x1024, .f32⟩
  | .local _ .vmem, ⟨46, _⟩ => ⟨S1x128x1024, .f32⟩
  | .local _ .vmem, ⟨47, _⟩ => ⟨S1x128x1024, .f32⟩
  | .local _ .vmem, ⟨48, _⟩ => ⟨S1x128x1024, .f32⟩
  | .local _ .vmem, ⟨49, _⟩ => ⟨S7x128x1024, .bf16⟩
  | .local _ .vmem, ⟨50, _⟩ => ⟨S1x128x1024, .f32⟩
  | .local _ .vmem, ⟨51, _⟩ => ⟨S1x128x1024, .f32⟩
  | .local _ .vmem, ⟨52, _⟩ => ⟨S1x128x1024, .f32⟩
  | .local _ .vmem, ⟨53, _⟩ => ⟨S1x128x1024, .f32⟩
  | _, _ => ⟨S1x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0_0 : Ref sig .tc := ⟨.hbm, 30, rfl⟩
abbrev main_v0_1 : Ref sig .tc := ⟨.hbm, 31, rfl⟩
abbrev main_v0_2 : Ref sig .tc := ⟨.hbm, 32, rfl⟩
abbrev main_v0_3 : Ref sig .tc := ⟨.hbm, 33, rfl⟩
abbrev main_v1_0 : Ref sig .tc := ⟨.hbm, 34, rfl⟩
abbrev main_v1_1 : Ref sig .tc := ⟨.hbm, 35, rfl⟩
abbrev main_v1_2 : Ref sig .tc := ⟨.hbm, 36, rfl⟩
abbrev main_v1_3 : Ref sig .tc := ⟨.hbm, 37, rfl⟩
abbrev main_v2_0 : Ref sig .tc := ⟨.hbm, 38, rfl⟩
abbrev main_v2_1 : Ref sig .tc := ⟨.hbm, 39, rfl⟩
abbrev main_v2_2 : Ref sig .tc := ⟨.hbm, 40, rfl⟩
abbrev main_v2_3 : Ref sig .tc := ⟨.hbm, 41, rfl⟩
abbrev main_v3_0 : Ref sig .tc := ⟨.hbm, 42, rfl⟩
abbrev main_v3_1 : Ref sig .tc := ⟨.hbm, 43, rfl⟩
abbrev main_v3_2 : Ref sig .tc := ⟨.hbm, 44, rfl⟩
abbrev main_v3_3 : Ref sig .tc := ⟨.hbm, 45, rfl⟩
abbrev main_v4_0 : Ref sig .tc := ⟨.hbm, 46, rfl⟩
abbrev main_v4_1 : Ref sig .tc := ⟨.hbm, 47, rfl⟩
abbrev main_v4_2 : Ref sig .tc := ⟨.hbm, 48, rfl⟩
abbrev main_v4_3 : Ref sig .tc := ⟨.hbm, 49, rfl⟩
abbrev main_v5_0 : Ref sig .tc := ⟨.hbm, 50, rfl⟩
abbrev main_v5_1 : Ref sig .tc := ⟨.hbm, 51, rfl⟩
abbrev main_v5_2 : Ref sig .tc := ⟨.hbm, 52, rfl⟩
abbrev main_v5_3 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg8_0 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg8_0 : Ref sig .tc := ⟨.vmem, 35, rfl⟩
abbrev cc4_stg0_0 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg6_0 : Ref sig .tc := ⟨.vmem, 42, rfl⟩
abbrev cc4_stg7_0 : Ref sig .tc := ⟨.vmem, 43, rfl⟩
abbrev cc4_stg8_0 : Ref sig .tc := ⟨.vmem, 44, rfl⟩
abbrev cc5_stg0_0 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg6_0 : Ref sig .tc := ⟨.vmem, 51, rfl⟩
abbrev cc5_stg7_0 : Ref sig .tc := ⟨.vmem, 52, rfl⟩
abbrev cc5_stg8_0 : Ref sig .tc := ⟨.vmem, 53, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc3_sem0_0 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem8_0 : DmaSem sig := 35
abbrev cc4_sem0_0 : DmaSem sig := 36
abbrev cc4_sem1_0 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem6_0 : DmaSem sig := 42
abbrev cc4_sem7_0 : DmaSem sig := 43
abbrev cc4_sem8_0 : DmaSem sig := 44
abbrev cc5_sem0_0 : DmaSem sig := 45
abbrev cc5_sem1_0 : DmaSem sig := 46
abbrev cc5_sem2_0 : DmaSem sig := 47
abbrev cc5_sem3_0 : DmaSem sig := 48
abbrev cc5_sem4_0 : DmaSem sig := 49
abbrev cc5_sem5_0 : DmaSem sig := 50
abbrev cc5_sem6_0 : DmaSem sig := 51
abbrev cc5_sem7_0 : DmaSem sig := 52
abbrev cc5_sem8_0 : DmaSem sig := 53

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S1x352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S7x352x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x352x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev grid1 : Pipeline.Grid := ⟨2, ![1, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage1_0 : Fin 1 → Memref sig .tc .vmem S1x352x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true]

abbrev stage1_1 : Fin 1 → Memref sig .tc .vmem S1x352x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true]

abbrev stage1_2 : Fin 1 → Memref sig .tc .vmem S1x352x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev stage1_3 : Fin 1 → Memref sig .tc .vmem S1x352x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true]

abbrev stage1_4 : Fin 1 → Memref sig .tc .vmem S7x352x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, true]

abbrev stage1_5 : Fin 1 → Memref sig .tc .vmem S1x352x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, true]

abbrev stage1_6 : Fin 1 → Memref sig .tc .vmem S1x352x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, true]

abbrev stage1_7 : Fin 1 → Memref sig .tc .vmem S1x352x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, true]

abbrev stage1_8 : Fin 1 → Memref sig .tc .vmem S1x352x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true, true]

abbrev grid2 : Pipeline.Grid := ⟨2, ![1, 1], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage2_0 : Fin 1 → Memref sig .tc .vmem S1x352x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, true]

abbrev stage2_1 : Fin 1 → Memref sig .tc .vmem S1x352x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, true]

abbrev stage2_2 : Fin 1 → Memref sig .tc .vmem S1x352x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true]

abbrev stage2_3 : Fin 1 → Memref sig .tc .vmem S1x352x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true, true]

abbrev stage2_4 : Fin 1 → Memref sig .tc .vmem S7x352x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true, true]

abbrev stage2_5 : Fin 1 → Memref sig .tc .vmem S1x352x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true, true]

abbrev stage2_6 : Fin 1 → Memref sig .tc .vmem S1x352x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true, true]

abbrev stage2_7 : Fin 1 → Memref sig .tc .vmem S1x352x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![true, true]

abbrev stage2_8 : Fin 1 → Memref sig .tc .vmem S1x352x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![true, true]

abbrev grid3 : Pipeline.Grid := ⟨2, ![1, 1], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc3_transform_8 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage3_0 : Fin 1 → Memref sig .tc .vmem S1x256x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, true]

abbrev stage3_1 : Fin 1 → Memref sig .tc .vmem S1x256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, true]

abbrev stage3_2 : Fin 1 → Memref sig .tc .vmem S1x256x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true]

abbrev stage3_3 : Fin 1 → Memref sig .tc .vmem S1x256x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true, true]

abbrev stage3_4 : Fin 1 → Memref sig .tc .vmem S7x256x128 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true, true]

abbrev stage3_5 : Fin 1 → Memref sig .tc .vmem S1x256x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true, true]

abbrev stage3_6 : Fin 1 → Memref sig .tc .vmem S1x256x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true, true]

abbrev stage3_7 : Fin 1 → Memref sig .tc .vmem S1x256x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![true, true]

abbrev stage3_8 : Fin 1 → Memref sig .tc .vmem S1x256x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![true, true]

abbrev grid4 : Pipeline.Grid := ⟨2, ![1, 1], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc4_transform_4 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc4_transform_5 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc4_transform_6 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc4_transform_7 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc4_transform_8 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage4_0 : Fin 1 → Memref sig .tc .vmem S1x128x1024 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, true]

abbrev stage4_1 : Fin 1 → Memref sig .tc .vmem S1x128x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, true]

abbrev stage4_2 : Fin 1 → Memref sig .tc .vmem S1x128x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true]

abbrev stage4_3 : Fin 1 → Memref sig .tc .vmem S1x128x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true, true]

abbrev stage4_4 : Fin 1 → Memref sig .tc .vmem S7x128x1024 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true, true]

abbrev stage4_5 : Fin 1 → Memref sig .tc .vmem S1x128x1024 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![true, true]

abbrev stage4_6 : Fin 1 → Memref sig .tc .vmem S1x128x1024 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![true, true]

abbrev stage4_7 : Fin 1 → Memref sig .tc .vmem S1x128x1024 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![true, true]

abbrev stage4_8 : Fin 1 → Memref sig .tc .vmem S1x128x1024 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![true, true]

abbrev grid5 : Pipeline.Grid := ⟨2, ![1, 1], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc5_transform_3 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc5_transform_4 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc5_transform_5 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc5_transform_6 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc5_transform_7 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc5_transform_8 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage5_0 : Fin 1 → Memref sig .tc .vmem S1x128x1024 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, true]

abbrev stage5_1 : Fin 1 → Memref sig .tc .vmem S1x128x1024 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true, true]

abbrev stage5_2 : Fin 1 → Memref sig .tc .vmem S1x128x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, true]

abbrev stage5_3 : Fin 1 → Memref sig .tc .vmem S1x128x1024 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true, true]

abbrev stage5_4 : Fin 1 → Memref sig .tc .vmem S7x128x1024 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![true, true]

abbrev stage5_5 : Fin 1 → Memref sig .tc .vmem S1x128x1024 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![true, true]

abbrev stage5_6 : Fin 1 → Memref sig .tc .vmem S1x128x1024 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![true, true]

abbrev stage5_7 : Fin 1 → Memref sig .tc .vmem S1x128x1024 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![true, true]

abbrev stage5_8 : Fin 1 → Memref sig .tc .vmem S1x128x1024 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![true, true]
-- ==== Reference7Ideal.lean ====
abbrev S1x352x1024 : Shape := ⟨3, ![1, 352, 1024]⟩
abbrev S7x352x1024 : Shape := ⟨3, ![7, 352, 1024]⟩
abbrev S1x256x128 : Shape := ⟨3, ![1, 256, 128]⟩
abbrev S7x256x128 : Shape := ⟨3, ![7, 256, 128]⟩
abbrev S1x128x1024 : Shape := ⟨3, ![1, 128, 1024]⟩
abbrev S7x128x1024 : Shape := ⟨3, ![7, 128, 1024]⟩
abbrev S_ : Shape := ⟨0, ![]⟩
abbrev S352x1024 : Shape := ⟨2, ![352, 1024]⟩
abbrev S256x128 : Shape := ⟨2, ![256, 128]⟩
abbrev S128x1024 : Shape := ⟨2, ![128, 1024]⟩

abbrev nBuf : Space → Nat
  | .hbm => 258
  | .vmem => 0
  | .smem => 0
  | _ => 0

abbrev hbmTy0_0 (i : Nat) : BufTy := match i % 128 with
  | 0 => ⟨S1x352x1024, .f32⟩
  | 1 => ⟨S1x352x1024, .f32⟩
  | 2 => ⟨S1x352x1024, .f32⟩
  | 3 => ⟨S1x352x1024, .f32⟩
  | 4 => ⟨S7x352x1024, .bf16⟩
  | 5 => ⟨S1x352x1024, .f32⟩
  | 6 => ⟨S1x352x1024, .f32⟩
  | 7 => ⟨S1x352x1024, .f32⟩
  | 8 => ⟨S1x352x1024, .f32⟩
  | 9 => ⟨S7x352x1024, .bf16⟩
  | 10 => ⟨S1x352x1024, .f32⟩
  | 11 => ⟨S1x352x1024, .f32⟩
  | 12 => ⟨S1x352x1024, .f32⟩
  | 13 => ⟨S1x352x1024, .f32⟩
  | 14 => ⟨S7x352x1024, .bf16⟩
  | 15 => ⟨S1x256x128, .f32⟩
  | 16 => ⟨S1x256x128, .f32⟩
  | 17 => ⟨S1x256x128, .f32⟩
  | 18 => ⟨S1x256x128, .f32⟩
  | 19 => ⟨S7x256x128, .bf16⟩
  | 20 => ⟨S1x128x1024, .f32⟩
  | 21 => ⟨S1x128x1024, .f32⟩
  | 22 => ⟨S1x128x1024, .f32⟩
  | 23 => ⟨S1x128x1024, .f32⟩
  | 24 => ⟨S7x128x1024, .bf16⟩
  | 25 => ⟨S1x128x1024, .f32⟩
  | 26 => ⟨S1x128x1024, .f32⟩
  | 27 => ⟨S1x128x1024, .f32⟩
  | 28 => ⟨S1x128x1024, .f32⟩
  | 29 => ⟨S7x128x1024, .bf16⟩
  | 30 => ⟨S7x352x1024, .f32⟩
  | 31 => ⟨S_, .f32⟩
  | 32 => ⟨S352x1024, .f32⟩
  | 33 => ⟨S1x352x1024, .f32⟩
  | 34 => ⟨S1x352x1024, .f32⟩
  | 35 => ⟨S_, .f32⟩
  | 36 => ⟨S1x352x1024, .f32⟩
  | 37 => ⟨S1x352x1024, .f32⟩
  | 38 => ⟨S_, .f32⟩
  | 39 => ⟨S1x352x1024, .f32⟩
  | 40 => ⟨S1x352x1024, .f32⟩
  | 41 => ⟨S1x352x1024, .f32⟩
  | 42 => ⟨S_, .f32⟩
  | 43 => ⟨S1x352x1024, .f32⟩
  | 44 => ⟨S1x352x1024, .f32⟩
  | 45 => ⟨S1x352x1024, .f32⟩
  | 46 => ⟨S_, .f32⟩
  | 47 => ⟨S1x352x1024, .f32⟩
  | 48 => ⟨S1x352x1024, .f32⟩
  | 49 => ⟨S1x352x1024, .f32⟩
  | 50 => ⟨S_, .f32⟩
  | 51 => ⟨S1x352x1024, .f32⟩
  | 52 => ⟨S1x352x1024, .f32⟩
  | 53 => ⟨S_, .f32⟩
  | 54 => ⟨S1x352x1024, .f32⟩
  | 55 => ⟨S1x352x1024, .f32⟩
  | 56 => ⟨S1x352x1024, .f32⟩
  | 57 => ⟨S_, .f32⟩
  | 58 => ⟨S1x352x1024, .f32⟩
  | 59 => ⟨S1x352x1024, .f32⟩
  | 60 => ⟨S1x352x1024, .f32⟩
  | 61 => ⟨S_, .f32⟩
  | 62 => ⟨S1x352x1024, .f32⟩
  | 63 => ⟨S1x352x1024, .f32⟩
  | 64 => ⟨S1x352x1024, .f32⟩
  | 65 => ⟨S_, .f32⟩
  | 66 => ⟨S1x352x1024, .f32⟩
  | 67 => ⟨S1x352x1024, .f32⟩
  | 68 => ⟨S7x352x1024, .f32⟩
  | 69 => ⟨S_, .f32⟩
  | 70 => ⟨S352x1024, .f32⟩
  | 71 => ⟨S1x352x1024, .f32⟩
  | 72 => ⟨S1x352x1024, .f32⟩
  | 73 => ⟨S_, .f32⟩
  | 74 => ⟨S1x352x1024, .f32⟩
  | 75 => ⟨S1x352x1024, .f32⟩
  | 76 => ⟨S_, .f32⟩
  | 77 => ⟨S1x352x1024, .f32⟩
  | 78 => ⟨S1x352x1024, .f32⟩
  | 79 => ⟨S1x352x1024, .f32⟩
  | 80 => ⟨S_, .f32⟩
  | 81 => ⟨S1x352x1024, .f32⟩
  | 82 => ⟨S1x352x1024, .f32⟩
  | 83 => ⟨S1x352x1024, .f32⟩
  | 84 => ⟨S_, .f32⟩
  | 85 => ⟨S1x352x1024, .f32⟩
  | 86 => ⟨S1x352x1024, .f32⟩
  | 87 => ⟨S1x352x1024, .f32⟩
  | 88 => ⟨S_, .f32⟩
  | 89 => ⟨S1x352x1024, .f32⟩
  | 90 => ⟨S1x352x1024, .f32⟩
  | 91 => ⟨S_, .f32⟩
  | 92 => ⟨S1x352x1024, .f32⟩
  | 93 => ⟨S1x352x1024, .f32⟩
  | 94 => ⟨S1x352x1024, .f32⟩
  | 95 => ⟨S_, .f32⟩
  | 96 => ⟨S1x352x1024, .f32⟩
  | 97 => ⟨S1x352x1024, .f32⟩
  | 98 => ⟨S1x352x1024, .f32⟩
  | 99 => ⟨S_, .f32⟩
  | 100 => ⟨S1x352x1024, .f32⟩
  | 101 => ⟨S1x352x1024, .f32⟩
  | 102 => ⟨S1x352x1024, .f32⟩
  | 103 => ⟨S_, .f32⟩
  | 104 => ⟨S1x352x1024, .f32⟩
  | 105 => ⟨S1x352x1024, .f32⟩
  | 106 => ⟨S7x352x1024, .f32⟩
  | 107 => ⟨S_, .f32⟩
  | 108 => ⟨S352x1024, .f32⟩
  | 109 => ⟨S1x352x1024, .f32⟩
  | 110 => ⟨S1x352x1024, .f32⟩
  | 111 => ⟨S_, .f32⟩
  | 112 => ⟨S1x352x1024, .f32⟩
  | 113 => ⟨S1x352x1024, .f32⟩
  | 114 => ⟨S_, .f32⟩
  | 115 => ⟨S1x352x1024, .f32⟩
  | 116 => ⟨S1x352x1024, .f32⟩
  | 117 => ⟨S1x352x1024, .f32⟩
  | 118 => ⟨S_, .f32⟩
  | 119 => ⟨S1x352x1024, .f32⟩
  | 120 => ⟨S1x352x1024, .f32⟩
  | 121 => ⟨S1x352x1024, .f32⟩
  | 122 => ⟨S_, .f32⟩
  | 123 => ⟨S1x352x1024, .f32⟩
  | 124 => ⟨S1x352x1024, .f32⟩
  | 125 => ⟨S1x352x1024, .f32⟩
  | 126 => ⟨S_, .f32⟩
  | 127 => ⟨S1x352x1024, .f32⟩
  | _ => ⟨S1x352x1024, .f32⟩

abbrev hbmTy0_1 (i : Nat) : BufTy := match i % 128 with
  | 0 => ⟨S1x352x1024, .f32⟩
  | 1 => ⟨S_, .f32⟩
  | 2 => ⟨S1x352x1024, .f32⟩
  | 3 => ⟨S1x352x1024, .f32⟩
  | 4 => ⟨S1x352x1024, .f32⟩
  | 5 => ⟨S_, .f32⟩
  | 6 => ⟨S1x352x1024, .f32⟩
  | 7 => ⟨S1x352x1024, .f32⟩
  | 8 => ⟨S1x352x1024, .f32⟩
  | 9 => ⟨S_, .f32⟩
  | 10 => ⟨S1x352x1024, .f32⟩
  | 11 => ⟨S1x352x1024, .f32⟩
  | 12 => ⟨S1x352x1024, .f32⟩
  | 13 => ⟨S_, .f32⟩
  | 14 => ⟨S1x352x1024, .f32⟩
  | 15 => ⟨S1x352x1024, .f32⟩
  | 16 => ⟨S7x256x128, .f32⟩
  | 17 => ⟨S_, .f32⟩
  | 18 => ⟨S256x128, .f32⟩
  | 19 => ⟨S1x256x128, .f32⟩
  | 20 => ⟨S1x256x128, .f32⟩
  | 21 => ⟨S_, .f32⟩
  | 22 => ⟨S1x256x128, .f32⟩
  | 23 => ⟨S1x256x128, .f32⟩
  | 24 => ⟨S_, .f32⟩
  | 25 => ⟨S1x256x128, .f32⟩
  | 26 => ⟨S1x256x128, .f32⟩
  | 27 => ⟨S1x256x128, .f32⟩
  | 28 => ⟨S_, .f32⟩
  | 29 => ⟨S1x256x128, .f32⟩
  | 30 => ⟨S1x256x128, .f32⟩
  | 31 => ⟨S1x256x128, .f32⟩
  | 32 => ⟨S_, .f32⟩
  | 33 => ⟨S1x256x128, .f32⟩
  | 34 => ⟨S1x256x128, .f32⟩
  | 35 => ⟨S1x256x128, .f32⟩
  | 36 => ⟨S_, .f32⟩
  | 37 => ⟨S1x256x128, .f32⟩
  | 38 => ⟨S1x256x128, .f32⟩
  | 39 => ⟨S_, .f32⟩
  | 40 => ⟨S1x256x128, .f32⟩
  | 41 => ⟨S1x256x128, .f32⟩
  | 42 => ⟨S1x256x128, .f32⟩
  | 43 => ⟨S_, .f32⟩
  | 44 => ⟨S1x256x128, .f32⟩
  | 45 => ⟨S1x256x128, .f32⟩
  | 46 => ⟨S1x256x128, .f32⟩
  | 47 => ⟨S_, .f32⟩
  | 48 => ⟨S1x256x128, .f32⟩
  | 49 => ⟨S1x256x128, .f32⟩
  | 50 => ⟨S1x256x128, .f32⟩
  | 51 => ⟨S_, .f32⟩
  | 52 => ⟨S1x256x128, .f32⟩
  | 53 => ⟨S1x256x128, .f32⟩
  | 54 => ⟨S7x128x1024, .f32⟩
  | 55 => ⟨S_, .f32⟩
  | 56 => ⟨S128x1024, .f32⟩
  | 57 => ⟨S1x128x1024, .f32⟩
  | 58 => ⟨S1x128x1024, .f32⟩
  | 59 => ⟨S_, .f32⟩
  | 60 => ⟨S1x128x1024, .f32⟩
  | 61 => ⟨S1x128x1024, .f32⟩
  | 62 => ⟨S_, .f32⟩
  | 63 => ⟨S1x128x1024, .f32⟩
  | 64 => ⟨S1x128x1024, .f32⟩
  | 65 => ⟨S1x128x1024, .f32⟩
  | 66 => ⟨S_, .f32⟩
  | 67 => ⟨S1x128x1024, .f32⟩
  | 68 => ⟨S1x128x1024, .f32⟩
  | 69 => ⟨S1x128x1024, .f32⟩
  | 70 => ⟨S_, .f32⟩
  | 71 => ⟨S1x128x1024, .f32⟩
  | 72 => ⟨S1x128x1024, .f32⟩
  | 73 => ⟨S1x128x1024, .f32⟩
  | 74 => ⟨S_, .f32⟩
  | 75 => ⟨S1x128x1024, .f32⟩
  | 76 => ⟨S1x128x1024, .f32⟩
  | 77 => ⟨S_, .f32⟩
  | 78 => ⟨S1x128x1024, .f32⟩
  | 79 => ⟨S1x128x1024, .f32⟩
  | 80 => ⟨S1x128x1024, .f32⟩
  | 81 => ⟨S_, .f32⟩
  | 82 => ⟨S1x128x1024, .f32⟩
  | 83 => ⟨S1x128x1024, .f32⟩
  | 84 => ⟨S1x128x1024, .f32⟩
  | 85 => ⟨S_, .f32⟩
  | 86 => ⟨S1x128x1024, .f32⟩
  | 87 => ⟨S1x128x1024, .f32⟩
  | 88 => ⟨S1x128x1024, .f32⟩
  | 89 => ⟨S_, .f32⟩
  | 90 => ⟨S1x128x1024, .f32⟩
  | 91 => ⟨S1x128x1024, .f32⟩
  | 92 => ⟨S7x128x1024, .f32⟩
  | 93 => ⟨S_, .f32⟩
  | 94 => ⟨S128x1024, .f32⟩
  | 95 => ⟨S1x128x1024, .f32⟩
  | 96 => ⟨S1x128x1024, .f32⟩
  | 97 => ⟨S_, .f32⟩
  | 98 => ⟨S1x128x1024, .f32⟩
  | 99 => ⟨S1x128x1024, .f32⟩
  | 100 => ⟨S_, .f32⟩
  | 101 => ⟨S1x128x1024, .f32⟩
  | 102 => ⟨S1x128x1024, .f32⟩
  | 103 => ⟨S1x128x1024, .f32⟩
  | 104 => ⟨S_, .f32⟩
  | 105 => ⟨S1x128x1024, .f32⟩
  | 106 => ⟨S1x128x1024, .f32⟩
  | 107 => ⟨S1x128x1024, .f32⟩
  | 108 => ⟨S_, .f32⟩
  | 109 => ⟨S1x128x1024, .f32⟩
  | 110 => ⟨S1x128x1024, .f32⟩
  | 111 => ⟨S1x128x1024, .f32⟩
  | 112 => ⟨S_, .f32⟩
  | 113 => ⟨S1x128x1024, .f32⟩
  | 114 => ⟨S1x128x1024, .f32⟩
  | 115 => ⟨S_, .f32⟩
  | 116 => ⟨S1x128x1024, .f32⟩
  | 117 => ⟨S1x128x1024, .f32⟩
  | 118 => ⟨S1x128x1024, .f32⟩
  | 119 => ⟨S_, .f32⟩
  | 120 => ⟨S1x128x1024, .f32⟩
  | 121 => ⟨S1x128x1024, .f32⟩
  | 122 => ⟨S1x128x1024, .f32⟩
  | 123 => ⟨S_, .f32⟩
  | 124 => ⟨S1x128x1024, .f32⟩
  | 125 => ⟨S1x128x1024, .f32⟩
  | 126 => ⟨S1x128x1024, .f32⟩
  | 127 => ⟨S_, .f32⟩
  | _ => ⟨S1x352x1024, .f32⟩

abbrev hbmTy0_2 (i : Nat) : BufTy := match i % 128 with
  | 0 => ⟨S1x128x1024, .f32⟩
  | 1 => ⟨S1x128x1024, .f32⟩
  | _ => ⟨S1x352x1024, .f32⟩

abbrev hbmTy (i : Nat) : BufTy := match i / 128 with
  | 0 => hbmTy0_0 i
  | 1 => hbmTy0_1 i
  | 2 => hbmTy0_2 i
  | _ => ⟨S1x352x1024, .f32⟩

abbrev bufTy : (tb : Table) → Fin (tcTables nBuf tb) → BufTy
  | .hbm, ⟨i, _⟩ => hbmTy i
  | _, _ => ⟨S1x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_cst : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_cst_0 : Ref sig .tc := ⟨.hbm, 35, rfl⟩
abbrev main_v4 : Ref sig .tc := ⟨.hbm, 36, rfl⟩
abbrev main_v5 : Ref sig .tc := ⟨.hbm, 37, rfl⟩
abbrev main_cst_1 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_cst_2 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_cst_3 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_cst_4 : Ref sig .tc := ⟨.hbm, 50, rfl⟩
abbrev main_v15 : Ref sig .tc := ⟨.hbm, 51, rfl⟩
abbrev main_v16 : Ref sig .tc := ⟨.hbm, 52, rfl⟩
abbrev main_cst_5 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_cst_6 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_cst_7 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_cst_8 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_cst_9 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_cst_10 : Ref sig .tc := ⟨.hbm, 73, rfl⟩
abbrev main_v32 : Ref sig .tc := ⟨.hbm, 74, rfl⟩
abbrev main_v33 : Ref sig .tc := ⟨.hbm, 75, rfl⟩
abbrev main_cst_11 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_cst_12 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_cst_13 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_cst_14 : Ref sig .tc := ⟨.hbm, 88, rfl⟩
abbrev main_v43 : Ref sig .tc := ⟨.hbm, 89, rfl⟩
abbrev main_v44 : Ref sig .tc := ⟨.hbm, 90, rfl⟩
abbrev main_cst_15 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_cst_16 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_cst_17 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_cst_18 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_cst_19 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_cst_20 : Ref sig .tc := ⟨.hbm, 111, rfl⟩
abbrev main_v60 : Ref sig .tc := ⟨.hbm, 112, rfl⟩
abbrev main_v61 : Ref sig .tc := ⟨.hbm, 113, rfl⟩
abbrev main_cst_21 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_cst_22 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_cst_23 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_cst_24 : Ref sig .tc := ⟨.hbm, 126, rfl⟩
abbrev main_v71 : Ref sig .tc := ⟨.hbm, 127, rfl⟩
abbrev main_v72 : Ref sig .tc := ⟨.hbm, 128, rfl⟩
abbrev main_cst_25 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_cst_26 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_cst_27 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_cst_28 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_cst_29 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_cst_30 : Ref sig .tc := ⟨.hbm, 149, rfl⟩
abbrev main_v88 : Ref sig .tc := ⟨.hbm, 150, rfl⟩
abbrev main_v89 : Ref sig .tc := ⟨.hbm, 151, rfl⟩
abbrev main_cst_31 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_cst_32 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_cst_33 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_cst_34 : Ref sig .tc := ⟨.hbm, 164, rfl⟩
abbrev main_v99 : Ref sig .tc := ⟨.hbm, 165, rfl⟩
abbrev main_v100 : Ref sig .tc := ⟨.hbm, 166, rfl⟩
abbrev main_cst_35 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_cst_36 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_cst_37 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_cst_38 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_cst_39 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_cst_40 : Ref sig .tc := ⟨.hbm, 187, rfl⟩
abbrev main_v116 : Ref sig .tc := ⟨.hbm, 188, rfl⟩
abbrev main_v117 : Ref sig .tc := ⟨.hbm, 189, rfl⟩
abbrev main_cst_41 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_cst_42 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_cst_43 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_cst_44 : Ref sig .tc := ⟨.hbm, 202, rfl⟩
abbrev main_v127 : Ref sig .tc := ⟨.hbm, 203, rfl⟩
abbrev main_v128 : Ref sig .tc := ⟨.hbm, 204, rfl⟩
abbrev main_cst_45 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_cst_46 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_cst_47 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_cst_48 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_cst_49 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_cst_50 : Ref sig .tc := ⟨.hbm, 225, rfl⟩
abbrev main_v144 : Ref sig .tc := ⟨.hbm, 226, rfl⟩
abbrev main_v145 : Ref sig .tc := ⟨.hbm, 227, rfl⟩
abbrev main_cst_51 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩
abbrev main_cst_52 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev main_cst_53 : Ref sig .tc := ⟨.hbm, 236, rfl⟩
abbrev main_v152 : Ref sig .tc := ⟨.hbm, 237, rfl⟩
abbrev main_v153 : Ref sig .tc := ⟨.hbm, 238, rfl⟩
abbrev main_v154 : Ref sig .tc := ⟨.hbm, 239, rfl⟩
abbrev main_cst_54 : Ref sig .tc := ⟨.hbm, 240, rfl⟩
abbrev main_v155 : Ref sig .tc := ⟨.hbm, 241, rfl⟩
abbrev main_v156 : Ref sig .tc := ⟨.hbm, 242, rfl⟩
abbrev main_cst_55 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_cst_56 : Ref sig .tc := ⟨.hbm, 247, rfl⟩
abbrev main_v160 : Ref sig .tc := ⟨.hbm, 248, rfl⟩
abbrev main_v161 : Ref sig .tc := ⟨.hbm, 249, rfl⟩
abbrev main_v162 : Ref sig .tc := ⟨.hbm, 250, rfl⟩
abbrev main_cst_57 : Ref sig .tc := ⟨.hbm, 251, rfl⟩
abbrev main_v163 : Ref sig .tc := ⟨.hbm, 252, rfl⟩
abbrev main_v164 : Ref sig .tc := ⟨.hbm, 253, rfl⟩
abbrev main_v165 : Ref sig .tc := ⟨.hbm, 254, rfl⟩
abbrev main_cst_58 : Ref sig .tc := ⟨.hbm, 255, rfl⟩
abbrev main_v166 : Ref sig .tc := ⟨.hbm, 256, rfl⟩
abbrev main_v167 : Ref sig .tc := ⟨.hbm, 257, rfl⟩

abbrev nD : Nat := 1
abbrev τ : Topo := Topo.v7x

variable {F : FTy → Type} [FloatOps F]
-- ==== Proof.Rows.lean ====
/- One row of a masked softmax and of its gradient, over the extended reals and over the reals: what the exponentials,
   their quotient and the gradient's formulas are when the scores of the row are real numbers where the mask allows a key and
   `⊥` where it does not. Nothing here knows of a program. -/
module

public import Idealize.ShloMosaic.PureOps.Ideal.Laws

@[expose] public section

noncomputable section

namespace Cert.Attn

open Idealize.ShloMosaic

variable {ι κ : Type} [Fintype ι] [Fintype κ]

/-- A finite sum of real numbers, taken in the extended reals, is the real sum. -/
theorem coe_sum (f : ι → ℝ) : ∑ i, ((f i : ℝ) : EReal) = ((∑ i, f i : ℝ) : EReal) :=
  (map_sum (⟨⟨fun r : ℝ => (r : EReal), EReal.coe_zero⟩, EReal.coe_add⟩ : ℝ →+ EReal) f Finset.univ).symm

/-- A sum of products of real numbers. -/
theorem sum_mul_coe (a b : ι → EReal) (a' b' : ι → ℝ) (ha : ∀ i, a i = ((a' i : ℝ) : EReal))
    (hb : ∀ i, b i = ((b' i : ℝ) : EReal)) : ∑ i, a i * b i = ((∑ i, a' i * b' i : ℝ) : EReal) := by
  simp only [ha, hb, ← EReal.coe_mul]
  exact coe_sum _

/-- The quotient of two real numbers, the divisor not zero, is the real quotient. -/
theorem div_real (a : ℝ) {b : ℝ} (hb : b ≠ 0) : Ideal.div (a : EReal) (b : EReal) = ((a / b : ℝ) : EReal) := by
  rw [Ideal.div_coe hb, ← EReal.coe_mul, mul_one_div]

/-- The weights of a masked softmax before they are normalised: `exp` of the score where the key is allowed, `0` elsewhere. -/
def weight (ok : ι → Prop) [DecidablePred ok] (x : ι → ℝ) (i : ι) : ℝ := if ok i then Real.exp (x i) else 0

/-- The masked softmax of a row of scores. -/
def soft (ok : ι → Prop) [DecidablePred ok] (x : ι → ℝ) (i : ι) : ℝ := weight ok x i / ∑ j, weight ok x j

/-- A masked row in the extended reals: the score where the key is allowed, `⊥` elsewhere. -/
def masked (ok : ι → Prop) [DecidablePred ok] (x : ι → ℝ) (i : ι) : EReal := if ok i then ((x i : ℝ) : EReal) else ⊥

theorem weight_sum_pos (ok : ι → Prop) [DecidablePred ok] (x : ι → ℝ) (h : ∃ i, ok i) : 0 < ∑ j, weight ok x j := by
  obtain ⟨i, hi⟩ := h
  refine Finset.sum_pos' (fun j _ => ?_) ⟨i, Finset.mem_univ i, ?_⟩
  · unfold weight; split
    · exact (Real.exp_pos _).le
    · exact le_refl _
  · rw [weight, if_pos hi]; exact Real.exp_pos _

/-- Outside the mask the softmax is zero. -/
theorem soft_of_not (ok : ι → Prop) [DecidablePred ok] (x : ι → ℝ) {i : ι} (h : ¬ ok i) : soft ok x i = 0 := by
  rw [soft, weight, if_neg h, zero_div]

/-- The softmax's values sum to one where some key is allowed. -/
theorem soft_sum (ok : ι → Prop) [DecidablePred ok] (x : ι → ℝ) (h : ∃ i, ok i) : ∑ i, soft ok x i = 1 := by
  simp only [soft]
  rw [← Finset.sum_div, div_self (weight_sum_pos ok x h).ne']

/-- Shifting every score by one number does not change the softmax. -/
theorem soft_shift (ok : ι → Prop) [DecidablePred ok] (x : ι → ℝ) (μ : ℝ) (i : ι) :
    soft ok (fun j => x j - μ) i = soft ok x i := by
  have hw : ∀ j, weight ok (fun j => x j - μ) j = weight ok x j * Real.exp (-μ) := by
    intro j; unfold weight
    split
    · show Real.exp (x j - μ) = _
      rw [sub_eq_add_neg, Real.exp_add]
    · rw [zero_mul]
  unfold soft
  rw [hw, Finset.sum_congr rfl fun j _ => hw j, ← Finset.sum_mul]
  exact mul_div_mul_right _ _ (Real.exp_pos _).ne'

/-- The maximum of a masked row with an allowed key is the score of an allowed key. -/
theorem fold_max_masked (ok : ι → Prop) [DecidablePred ok] (x : ι → ℝ) (h : ∃ i, ok i) :
    ∃ i, ok i ∧ (Finset.univ : Finset ι).fold max ⊥ (masked ok x) = ((x i : ℝ) : EReal) := by
  obtain ⟨i0, hi0⟩ := h
  obtain ⟨i, -, hi⟩ := Finset.exists_mem_eq_sup (Finset.univ : Finset ι) ⟨i0, Finset.mem_univ _⟩ (masked ok x)
  have hfold : (Finset.univ : Finset ι).fold max ⊥ (masked ok x) = masked ok x i := hi
  have hle : masked ok x i0 ≤ masked ok x i := hi ▸ Finset.le_sup (f := masked ok x) (Finset.mem_univ i0)
  by_cases hok : ok i
  · exact ⟨i, hok, by rw [hfold, masked, if_pos hok]⟩
  · rw [masked, masked, if_pos hi0, if_neg hok] at hle
    exact absurd (le_bot_iff.mp hle) (EReal.coe_ne_bot _)

/-- `exp` of a masked score less a real number is the weight of the shifted score. -/
theorem exp_masked (ok : ι → Prop) [DecidablePred ok] (x : ι → ℝ) (μ : ℝ) (i : ι) :
    Ideal.exp (masked ok x i - (μ : EReal)) = ((weight ok (fun j => x j - μ) i : ℝ) : EReal) := by
  unfold masked weight
  split
  · rw [← EReal.coe_sub, Ideal.exp_coe]
  · rw [EReal.bot_sub, Ideal.exp_bot, EReal.coe_zero]

/-- The row of a softmax as it is computed — the exponentials of the scores less their maximum, over their sum — is the
    masked softmax. -/
theorem softmax_row (ok : ι → Prop) [DecidablePred ok] (x : ι → ℝ) (h : ∃ i, ok i) (i : ι) :
    Ideal.div (Ideal.exp (masked ok x i - (Finset.univ : Finset ι).fold max ⊥ (masked ok x)))
        (∑ j, Ideal.exp (masked ok x j - (Finset.univ : Finset ι).fold max ⊥ (masked ok x)))
      = ((soft ok x i : ℝ) : EReal) := by
  obtain ⟨k, -, hk⟩ := fold_max_masked ok x h
  rw [hk]
  simp only [exp_masked]
  rw [coe_sum, div_real _ (weight_sum_pos ok _ h).ne']
  exact congrArg _ (soft_shift ok x (x k) i)

/-- The gradient of the scores of one row before the scale: `p (dp − Σ dp p + dl)`. -/
def dscore (p dp : ι → ℝ) (dl : ℝ) (i : ι) : ℝ := p i * (dp i - ∑ j, dp j * p j + dl)

/-- The gradient of a row of scores in the order the kernel computes it, on real numbers. -/
theorem dscore_row (p dp : ι → ℝ) (dl c : ℝ) (i : ι) :
    (p i : EReal) * ((dp i : EReal) - ∑ j, (dp j : EReal) * (p j : EReal) + (dl : EReal)) * (c : EReal)
      = ((dscore p dp dl i * c : ℝ) : EReal) := by
  simp only [← EReal.coe_mul]
  rw [coe_sum]
  simp only [← EReal.coe_sub, ← EReal.coe_add, ← EReal.coe_mul]
  rfl

/-- The part of the gradient of a row of scores that comes through the exponentials, as the derivative of the quotient writes
    it, on real weights `e` with sum `l`. -/
theorem through_exp (e dp : ι → ℝ) (dl l : ℝ) (hl : l ≠ 0) (i : ι) :
    (Ideal.div (dp i : EReal) (l : EReal) + (Ideal.div (dl : EReal) (l : EReal)
        + -(∑ j, (dp j : EReal) * Ideal.div 1 ((l : EReal) * (l : EReal)) * (e j : EReal)))) * (e i : EReal)
      = ((dscore (fun j => e j / l) dp dl i : ℝ) : EReal) := by
  rw [← EReal.coe_mul, ← EReal.coe_one, div_real _ hl, div_real _ hl, div_real _ (mul_ne_zero hl hl)]
  simp only [← EReal.coe_mul]
  rw [coe_sum]
  simp only [← EReal.coe_neg, ← EReal.coe_add, ← EReal.coe_mul]
  congr 1
  have : ∑ j, dp j * (1 / (l * l)) * e j = (∑ j, dp j * (e j / l)) / l := by
    rw [Finset.sum_div]; exact Finset.sum_congr rfl fun j _ => by field_simp
  rw [dscore, this]
  field_simp
  ring

/-- The gradients of the scores of a row of a softmax sum to the gradient of its log-sum-exp. -/
theorem dscore_sum (p dp : ι → ℝ) (dl : ℝ) (hp : ∑ i, p i = 1) : ∑ i, dscore p dp dl i = dl := by
  have : ∀ i, dscore p dp dl i = dp i * p i + (dl - ∑ j, dp j * p j) * p i := fun i => by rw [dscore]; ring
  simp only [this]
  rw [Finset.sum_add_distrib, ← Finset.mul_sum, hp]
  ring

/-- So what the derivative sends through the row's maximum is zero. -/
theorem through_max (p dp : ι → ℝ) (dl : ℝ) (hp : ∑ i, p i = 1) :
    (dl : EReal) + ∑ i, -((dscore p dp dl i : ℝ) : EReal) = 0 := by
  simp only [← EReal.coe_neg]
  rw [coe_sum, ← EReal.coe_add, Finset.sum_neg_distrib, dscore_sum p dp dl hp, add_neg_cancel, EReal.coe_zero]

/-- A choice by a mask's word is the choice by its condition. -/
theorem select_ofBool {α : Type} (p : Prop) [Decidable p] (a b : α) :
    Scalar.select (BitVec.ofBool (decide p)) a b = if p then a else b := by
  by_cases h : p <;> simp [Scalar.select, h]

end Cert.Attn

end
-- ==== Proof.Tokens.lean ====
/- The dilated windows as sets of tokens, and the blocks of 128 rows the kernel walks them in. A group of heads with dilation `d`
   lists its tokens sequence by sequence (all tokens of one residue mod `d`, in order): `tok` is that list. A block of 128 queries
   then meets exactly two blocks of keys, and a block of keys exactly two blocks of queries: the sums over all tokens are sums
   over 256 places. -/
module

public import Mathlib.Algebra.BigOperators.Fin
public import Mathlib.Data.Fin.VecNotation
public import Mathlib.Tactic.FinCases

@[expose] public section

namespace Cert.Attn

/-- The dilation of a group of heads. -/
def dil : Fin 3 → ℕ := ![1, 4, 16]

/-- The tokens one sequence of a group holds. -/
def len : Fin 3 → ℕ := ![2048, 512, 128]

/-- Token `t` attends to token `s`: `s` is not later, at most 128 steps of the group's dilation back, a whole number of steps. -/
def valid (g : Fin 3) (t s : Fin 2048) : Prop := s.val ≤ t.val ∧ t.val - s.val ≤ 128 * dil g ∧ (t.val - s.val) % dil g = 0

instance (g : Fin 3) (t : Fin 2048) : DecidablePred (valid g t) := fun _ => by unfold valid; infer_instance

/-- The token at place `a` of a group's list. -/
def tok (g : Fin 3) (a : Fin 2048) : Fin 2048 :=
  ⟨a.val % len g * dil g + a.val / len g, by
    have := a.isLt
    fin_cases g <;> simp [len, dil] <;> omega⟩

/-- The place of a token in a group's list. -/
def pos (g : Fin 3) (t : Fin 2048) : Fin 2048 :=
  ⟨t.val % dil g * len g + t.val / dil g, by
    have := t.isLt
    fin_cases g <;> simp [len, dil] <;> omega⟩

theorem dil_mul_len (g : Fin 3) : dil g * len g = 2048 := by fin_cases g <;> rfl
theorem dil_pos (g : Fin 3) : 0 < dil g := by fin_cases g <;> decide
theorem len_pos (g : Fin 3) : 0 < len g := by fin_cases g <;> decide

theorem mul_add_mod_of_lt {x y d : ℕ} (h : x < d) : (y * d + x) % d = x := by
  rw [Nat.mul_comm, Nat.mul_add_mod, Nat.mod_eq_of_lt h]
theorem mul_add_div_of_lt {x y d : ℕ} (h : x < d) : (y * d + x) / d = y := by
  rw [Nat.mul_comm, Nat.mul_add_div (Nat.lt_of_le_of_lt (Nat.zero_le x) h), Nat.div_eq_of_lt h, Nat.add_zero]

theorem tok_pos (g : Fin 3) (t : Fin 2048) : tok g (pos g t) = t := by
  have h : t.val / dil g < len g := Nat.div_lt_of_lt_mul (by rw [dil_mul_len]; exact t.isLt)
  apply Fin.ext
  show (t.val % dil g * len g + t.val / dil g) % len g * dil g + (t.val % dil g * len g + t.val / dil g) / len g = t.val
  rw [mul_add_mod_of_lt h, mul_add_div_of_lt h, Nat.div_add_mod']

theorem pos_tok (g : Fin 3) (a : Fin 2048) : pos g (tok g a) = a := by
  have h : a.val / len g < dil g := Nat.div_lt_of_lt_mul (by rw [Nat.mul_comm, dil_mul_len]; exact a.isLt)
  apply Fin.ext
  show (a.val % len g * dil g + a.val / len g) % dil g * len g + (a.val % len g * dil g + a.val / len g) / dil g = a.val
  rw [mul_add_mod_of_lt h, mul_add_div_of_lt h, Nat.div_add_mod']

theorem tok_inj {g : Fin 3} {a b : Fin 2048} (h : tok g a = tok g b) : a = b := by
  rw [← pos_tok g a, h, pos_tok]

/-- In a group's list the window of a place is the 129 places up to it that lie in its own sequence. -/
theorem valid_tok (g : Fin 3) (a b : Fin 2048) :
    valid g (tok g a) (tok g b) ↔ a.val / len g = b.val / len g ∧ b.val ≤ a.val ∧ a.val ≤ b.val + 128 := by
  have ha : a.val / len g < dil g := Nat.div_lt_of_lt_mul (by rw [Nat.mul_comm, dil_mul_len]; exact a.isLt)
  have hb : b.val / len g < dil g := Nat.div_lt_of_lt_mul (by rw [Nat.mul_comm, dil_mul_len]; exact b.isLt)
  have ea := Nat.div_add_mod' a.val (len g)
  have eb := Nat.div_add_mod' b.val (len g)
  have la := Nat.mod_lt a.val (len_pos g)
  have lb := Nat.mod_lt b.val (len_pos g)
  show (b.val % len g * dil g + b.val / len g ≤ a.val % len g * dil g + a.val / len g
      ∧ a.val % len g * dil g + a.val / len g - (b.val % len g * dil g + b.val / len g) ≤ 128 * dil g
      ∧ (a.val % len g * dil g + a.val / len g - (b.val % len g * dil g + b.val / len g)) % dil g = 0) ↔ _
  revert ha hb ea eb la lb
  generalize a.val / len g = x, a.val % len g = y, b.val / len g = x', b.val % len g = y', a.val = a, b.val = b
  have hg : (dil g = 1 ∧ len g = 2048) ∨ (dil g = 4 ∧ len g = 512) ∨ (dil g = 16 ∧ len g = 128) := by
    fin_cases g
    · exact .inl ⟨rfl, rfl⟩
    · exact .inr (.inl ⟨rfl, rfl⟩)
    · exact .inr (.inr ⟨rfl, rfl⟩)
  rcases hg with ⟨h1, h2⟩ | ⟨h1, h2⟩ | ⟨h1, h2⟩ <;> rw [h1, h2] <;> intro ha hb ea eb la lb <;> omega

/-- Row `i` of block `n`, as a place in a group's list. -/
def row (n : Fin 16) (i : Fin 128) : Fin 2048 := ⟨n.val * 128 + i.val, by omega⟩

/-- The place of key `j` of the 256 that block `n` reads: the block before it (block 0 for block 0), then the block itself. -/
def keyRow (n : Fin 16) (j : Fin 256) : Fin 2048 :=
  ⟨(if j.val < 128 then (n.val - 1) * 128 + j.val else n.val * 128 + (j.val - 128)), by split <;> omega⟩

/-- Query `i` of block `n` may look at key `j` of the 256: the key is at most 128 places back, not ahead, and not in the block
    before where block `n` begins a sequence. -/
def ok (g : Fin 3) (n : Fin 16) (i : Fin 128) (j : Fin 256) : Prop :=
  j.val ≤ i.val + 128 ∧ i.val ≤ j.val ∧ (128 ≤ j.val ∨ n.val % (len g / 128) ≠ 0)

instance (g : Fin 3) (n : Fin 16) (i : Fin 128) : DecidablePred (ok g n i) := fun _ => by unfold ok; infer_instance

/-- Every query may look at itself. -/
theorem ok_self (g : Fin 3) (n : Fin 16) (i : Fin 128) : ∃ j, ok g n i j :=
  ⟨⟨i.val + 128, by omega⟩, le_refl _, Nat.le_add_right _ _, Or.inl (Nat.le_add_left _ _)⟩

theorem valid_self (g : Fin 3) (t : Fin 2048) : ∃ s, valid g t s := ⟨t, le_refl _, by omega, by simp⟩

/-- An allowed key of a block is in the query's window. -/
theorem valid_of_ok {g : Fin 3} {n : Fin 16} {i : Fin 128} {j : Fin 256} (h : ok g n i j) :
    valid g (tok g (row n i)) (tok g (keyRow n j)) := by
  rw [valid_tok]
  obtain ⟨h1, h2, h3⟩ := h
  have := i.isLt; have := j.isLt; have := n.isLt
  by_cases hj : j.val < 128 <;> fin_cases g <;> simp [row, keyRow, len, hj] at h3 ⊢ <;> omega

/-- A sum whose terms live on the image of an injective family of places is the sum over the family. -/
theorem sum_of_places {τ κ M : Type} [Fintype τ] [Fintype κ] [AddCommMonoid M] (F : τ → M) (f : κ → τ) (c : κ → Prop)
    [DecidablePred c] (inj : ∀ k k', c k → c k' → f k = f k' → k = k') (surj : ∀ t, F t ≠ 0 → ∃ k, c k ∧ f k = t) :
    ∑ t, F t = ∑ k, if c k then F (f k) else 0 := by
  classical
  rw [← Finset.sum_filter, ← Finset.sum_image (f := F) (g := f) (s := Finset.univ.filter c)]
  · symm
    apply Finset.sum_subset (Finset.subset_univ _)
    intro t _ ht
    by_contra hF
    obtain ⟨k, hk, rfl⟩ := surj t hF
    exact ht (Finset.mem_image_of_mem f (Finset.mem_filter.mpr ⟨Finset.mem_univ k, hk⟩))
  · intro k hk k' hk' h
    exact inj k k' (Finset.mem_filter.mp hk).2 (Finset.mem_filter.mp hk').2 h

/-- A sum over the keys in a query's window is the sum over the allowed ones of the 256 keys its block reads. -/
theorem sum_keys {M : Type} [AddCommMonoid M] (g : Fin 3) (n : Fin 16) (i : Fin 128) (F : Fin 2048 → M)
    (hF : ∀ s, ¬ valid g (tok g (row n i)) s → F s = 0) :
    ∑ s, F s = ∑ j, if ok g n i j then F (tok g (keyRow n j)) else 0 := by
  refine sum_of_places F _ _ (fun j j' hj hj' h => ?_) (fun s hs => ?_)
  · have h := congrArg Fin.val (tok_inj h)
    have := j.isLt; have := j'.isLt; have := n.isLt
    obtain ⟨-, -, h3⟩ := hj
    obtain ⟨-, -, h3'⟩ := hj'
    have hn : n.val = 0 → n.val % (len g / 128) = 0 := fun h => by rw [h, Nat.zero_mod]
    apply Fin.ext
    simp only [keyRow] at h
    split at h <;> split at h <;> omega
  · have hv : valid g (tok g (row n i)) s := by by_contra hv; exact hs (hF s hv)
    rw [← tok_pos g s] at hv ⊢
    generalize pos g s = b at hv
    rw [valid_tok] at hv
    have := b.isLt; have := i.isLt; have := n.isLt
    have hb : n.val * 128 ≤ b.val + 128 ∧ b.val < n.val * 128 + 128 ∧ i.val ≤ b.val + 128 - n.val * 128 ∧ b.val ≤ n.val * 128 + i.val := by
      obtain ⟨-, h1, h2⟩ := hv
      simp only [row] at h1 h2
      omega
    refine ⟨⟨b.val + 128 - n.val * 128, by omega⟩, ⟨?_, hb.2.2.1, ?_⟩, congrArg _ (Fin.ext ?_)⟩
    · show b.val + 128 - n.val * 128 ≤ i.val + 128
      omega
    · show 128 ≤ b.val + 128 - n.val * 128 ∨ _
      obtain ⟨h0, -, -⟩ := hv
      clear hs
      fin_cases g <;> simp [row, len] at h0 ⊢ <;> omega
    · show (if b.val + 128 - n.val * 128 < 128 then _ else _) = b.val
      split
      · show (n.val - 1) * 128 + (b.val + 128 - n.val * 128) = b.val
        omega
      · show n.val * 128 + (b.val + 128 - n.val * 128 - 128) = b.val
        omega

/-- Half of the 256 places of a block: its own rows as keys. -/
def own (j : Fin 128) : Fin 256 := ⟨128 + j.val, by omega⟩

/-- The other half: the rows of the block before it. -/
def before (j : Fin 128) : Fin 256 := ⟨j.val, by omega⟩

theorem keyRow_own (n : Fin 16) (j : Fin 128) : keyRow n (own j) = row n j := by
  apply Fin.ext
  have : ¬ 128 + j.val < 128 := by omega
  show (if 128 + j.val < 128 then _ else n.val * 128 + (128 + j.val - 128)) = n.val * 128 + j.val
  rw [if_neg this]
  omega

theorem keyRow_before (n : Fin 16) (h : n.val + 1 < 16) (j : Fin 128) : keyRow ⟨n.val + 1, h⟩ (before j) = row n j := by
  apply Fin.ext
  show (if j.val < 128 then (n.val + 1 - 1) * 128 + j.val else _) = n.val * 128 + j.val
  rw [if_pos j.isLt]
  omega

/-- A sum over the queries that look at one key is the sum over the allowed queries of the key's own block and over those of the
    block after it, where there is one. -/
theorem sum_queries {M : Type} [AddCommMonoid M] (g : Fin 3) (n : Fin 16) (j : Fin 128) (F : Fin 2048 → M)
    (hF : ∀ t, ¬ valid g t (tok g (row n j)) → F t = 0) :
    ∑ t, F t = (∑ i, if ok g n i (own j) then F (tok g (row n i)) else 0)
      + if h : n.val + 1 < 16 then (∑ i, if ok g ⟨n.val + 1, h⟩ i (before j) then F (tok g (row ⟨n.val + 1, h⟩ i)) else 0) else 0 := by
  have hfst : ∀ i, ok g n i (own j) ↔ valid g (tok g (row n i)) (tok g (row n j)) := fun i => by
    have := i.isLt; have := j.isLt; have := n.isLt
    rw [valid_tok]
    fin_cases g <;> simp [ok, row, own, len] <;> omega
  have hsnd : ∀ (h : n.val + 1 < 16) i, ok g ⟨n.val + 1, h⟩ i (before j)
      ↔ valid g (tok g (row ⟨n.val + 1, h⟩ i)) (tok g (row n j)) := fun h i => by
    have := i.isLt; have := j.isLt; have := n.isLt
    rw [valid_tok]
    fin_cases g <;> simp [ok, row, before, len] <;> omega
  have hcond : ∀ a, ¬ valid g (tok g a) (tok g (row n j)) → F (tok g a) = 0 := fun a h => hF _ h
  have e1 : ∀ i, (if ok g n i (own j) then F (tok g (row n i)) else 0) = F (tok g (row n i)) := fun i => by
    split
    · rfl
    · next h => exact (hF _ (fun hv => h ((hfst i).mpr hv))).symm
  simp only [e1]
  split
  · next hn =>
    have e2 : ∀ i, (if ok g ⟨n.val + 1, hn⟩ i (before j) then F (tok g (row ⟨n.val + 1, hn⟩ i)) else 0)
        = F (tok g (row ⟨n.val + 1, hn⟩ i)) := fun i => by
      split
      · rfl
      · next h => exact (hF _ (fun hv => h ((hsnd hn i).mpr hv))).symm
    simp only [e2]
    refine Eq.trans ?_ (Fintype.sum_sum_type (Sum.elim (fun i => F (tok g (row n i))) fun i => F (tok g (row ⟨n.val + 1, hn⟩ i))))
    rw [sum_of_places F (Sum.elim (fun i : Fin 128 => tok g (row n i)) fun i : Fin 128 => tok g (row ⟨n.val + 1, hn⟩ i))
      (fun _ => True)]
    · refine Finset.sum_congr rfl fun k _ => ?_
      rw [if_pos trivial]
      cases k <;> rfl
    · rintro (i | i) (i' | i') - - h
      all_goals
        have h := congrArg Fin.val (tok_inj h)
        have := i.isLt; have := i'.isLt
        simp only [row] at h
      · exact congrArg Sum.inl (Fin.ext (by omega))
      · omega
      · omega
      · exact congrArg Sum.inr (Fin.ext (by omega))
    · intro t ht
      have hv : valid g t (tok g (row n j)) := by by_contra hv; exact ht (hF t hv)
      rw [← tok_pos g t] at hv ⊢
      generalize pos g t = a at hv
      rw [valid_tok] at hv
      obtain ⟨-, h1, h2⟩ := hv
      simp only [row] at h1 h2
      have := j.isLt
      by_cases ha : a.val < (n.val + 1) * 128
      · exact ⟨.inl ⟨a.val - n.val * 128, by omega⟩, trivial, congrArg (tok g) (Fin.ext (by
          show n.val * 128 + (a.val - n.val * 128) = a.val
          omega))⟩
      · exact ⟨.inr ⟨a.val - (n.val + 1) * 128, by omega⟩, trivial, congrArg (tok g) (Fin.ext (by
          show (n.val + 1) * 128 + (a.val - (n.val + 1) * 128) = a.val
          omega))⟩
  · next hn =>
    rw [add_zero]
    rw [sum_of_places F (fun i : Fin 128 => tok g (row n i)) (fun _ => True)]
    · exact Finset.sum_congr rfl fun k _ => if_pos trivial
    · intro i i' _ _ h
      have h := congrArg Fin.val (tok_inj h)
      simp only [row] at h
      exact Fin.ext (by omega)
    · intro t ht
      have hv : valid g t (tok g (row n j)) := by by_contra hv; exact ht (hF t hv)
      rw [← tok_pos g t] at hv ⊢
      generalize pos g t = a at hv
      rw [valid_tok] at hv
      obtain ⟨-, h1, h2⟩ := hv
      simp only [row] at h1 h2
      have := j.isLt; have := a.isLt
      exact ⟨⟨a.val - n.val * 128, by omega⟩, trivial, congrArg _ (Fin.ext (by simp only [row]; omega))⟩

end Cert.Attn
-- ==== Proof.Spec.lean ====
/- The gradients of the attention's queries, keys and values as formulas over the reals, and the same gradients block by block:
   what a block of 128 queries computes from the 256 keys it reads, and how the blocks' parts add up. -/
module

public import proofs.«01_k».proof.Proof.Rows
public import proofs.«01_k».proof.Proof.Tokens

@[expose] public section

noncomputable section

namespace Cert.Attn

/-- One real number per group, head, token and coordinate of the head. -/
abbrev Heads := Fin 3 → Fin 4 → Fin 2048 → Fin 64 → ℝ

/-- The attention's arguments and the cotangents of its two results, over the reals: `q`, `k`, `v`, the cotangent of the output, and the
    cotangent of the log-sum-exp, which the step holds once per coordinate of the head. -/
structure Args where
  q : Heads
  k : Heads
  v : Heads
  dO : Heads
  dL : Heads

namespace Args

variable (A : Args) (g : Fin 3) (h : Fin 4)

/-- The score of a query and a key. -/
def score (t s : Fin 2048) : ℝ := (∑ e, A.q g h t e * A.k g h s e) * (1 / 8)
/-- The probability a query gives a key. -/
def prob (t s : Fin 2048) : ℝ := soft (valid g t) (A.score g h t) s
/-- The cotangent of a probability. -/
def dprob (t s : Fin 2048) : ℝ := ∑ e, A.dO g h t e * A.v g h s e
/-- The cotangent of a query's log-sum-exp. -/
def dlse (t : Fin 2048) : ℝ := ∑ e, A.dL g h t e
/-- The cotangent of the product of a query and a key. -/
def ds (t s : Fin 2048) : ℝ := dscore (A.prob g h t) (A.dprob g h t) (A.dlse g h t) s * (1 / 8)
/-- The gradient of the queries. -/
def gradQ (t : Fin 2048) (e : Fin 64) : ℝ := ∑ s, A.ds g h t s * A.k g h s e
/-- The gradient of the keys. -/
def gradK (s : Fin 2048) (e : Fin 64) : ℝ := ∑ t, A.ds g h t s * A.q g h t e
/-- The gradient of the values. -/
def gradV (s : Fin 2048) (e : Fin 64) : ℝ := ∑ t, A.prob g h t s * A.dO g h t e

theorem prob_of_not {t s : Fin 2048} (hv : ¬ valid g t s) : A.prob g h t s = 0 := soft_of_not _ _ hv

theorem ds_of_not {t s : Fin 2048} (hv : ¬ valid g t s) : A.ds g h t s = 0 := by
  rw [ds, dscore, A.prob_of_not g h hv, zero_mul, zero_mul]

/-! ## One block -/

variable (n : Fin 16) (i : Fin 128)

/-- The probabilities block `n` computes for its query `i`, over its 256 keys. -/
def blockProb (j : Fin 256) : ℝ := soft (ok g n i) (fun j => A.score g h (tok g (row n i)) (tok g (keyRow n j))) j
/-- The cotangents of the products block `n` computes for its query `i`. -/
def blockDs (j : Fin 256) : ℝ :=
  dscore (A.blockProb g h n i) (fun j => A.dprob g h (tok g (row n i)) (tok g (keyRow n j))) (A.dlse g h (tok g (row n i))) j * (1 / 8)

/-- A block's probability is the attention's, at the allowed keys. -/
theorem blockProb_eq (j : Fin 256) :
    A.blockProb g h n i j = if ok g n i j then A.prob g h (tok g (row n i)) (tok g (keyRow n j)) else 0 := by
  split
  · next hj =>
    have hsum : ∑ s, weight (valid g (tok g (row n i))) (A.score g h (tok g (row n i))) s
        = ∑ j, weight (ok g n i) (fun j => A.score g h (tok g (row n i)) (tok g (keyRow n j))) j := by
      rw [sum_keys g n i (weight (valid g (tok g (row n i))) (A.score g h (tok g (row n i)))) fun s hs => if_neg hs]
      refine Finset.sum_congr rfl fun j _ => ?_
      unfold weight
      split
      · next hj => rw [if_pos (valid_of_ok hj)]
      · rfl
    rw [blockProb, prob, soft, soft, hsum, weight, weight, if_pos hj, if_pos (valid_of_ok hj)]
  · next hj => exact soft_of_not _ _ hj

/-- A block's sum over its keys, of terms that vanish with the probability, is the sum over all tokens. -/
theorem sum_blockProb (f : Fin 2048 → ℝ) :
    ∑ j, f (tok g (keyRow n j)) * A.blockProb g h n i j = ∑ s, f s * A.prob g h (tok g (row n i)) s := by
  rw [sum_keys g n i _ fun s hs => by rw [A.prob_of_not g h hs, mul_zero]]
  refine Finset.sum_congr rfl fun j _ => ?_
  rw [blockProb_eq]
  split
  · rfl
  · rw [mul_zero]

/-- A block's cotangent is the attention's, at the allowed keys. -/
theorem blockDs_eq (j : Fin 256) :
    A.blockDs g h n i j = if ok g n i j then A.ds g h (tok g (row n i)) (tok g (keyRow n j)) else 0 := by
  rw [blockDs, dscore, A.sum_blockProb g h n i (A.dprob g h (tok g (row n i))), blockProb_eq]
  split
  · rw [ds, dscore]
  · rw [zero_mul, zero_mul]

/-- The gradient of a block's queries is the block's sum. -/
theorem gradQ_block (e : Fin 64) :
    ∑ j, A.blockDs g h n i j * A.k g h (tok g (keyRow n j)) e = A.gradQ g h (tok g (row n i)) e := by
  rw [gradQ, sum_keys g n i _ fun s hs => by rw [A.ds_of_not g h hs, zero_mul]]
  refine Finset.sum_congr rfl fun j _ => ?_
  rw [blockDs_eq]
  split
  · rfl
  · rw [zero_mul]

/-- What block `n` adds to the gradient of key `j` of its 256. -/
def partK (j : Fin 256) (e : Fin 64) : ℝ := ∑ i, A.blockDs g h n i j * A.q g h (tok g (row n i)) e
/-- What block `n` adds to the gradient of value `j` of its 256. -/
def partV (j : Fin 256) (e : Fin 64) : ℝ := ∑ i, A.blockProb g h n i j * A.dO g h (tok g (row n i)) e

/-- The gradient of a block's keys: the block's own part and the part of the block after it. -/
theorem gradK_block (j : Fin 128) (e : Fin 64) :
    A.partK g h n (own j) e + (if hn : n.val + 1 < 16 then A.partK g h ⟨n.val + 1, hn⟩ (before j) e else 0)
      = A.gradK g h (tok g (row n j)) e := by
  rw [gradK, sum_queries g n j _ fun t ht => by rw [A.ds_of_not g h ht, zero_mul]]
  congr 1
  · refine Finset.sum_congr rfl fun i _ => ?_
    rw [blockDs_eq, keyRow_own]
    split
    · rfl
    · rw [zero_mul]
  · split
    · next hn =>
      refine Finset.sum_congr rfl fun i _ => ?_
      rw [blockDs_eq, keyRow_before]
      split
      · rfl
      · rw [zero_mul]
    · rfl

/-- The gradient of a block's values: the block's own part and the part of the block after it. -/
theorem gradV_block (j : Fin 128) (e : Fin 64) :
    A.partV g h n (own j) e + (if hn : n.val + 1 < 16 then A.partV g h ⟨n.val + 1, hn⟩ (before j) e else 0)
      = A.gradV g h (tok g (row n j)) e := by
  rw [gradV, sum_queries g n j _ fun t ht => by rw [A.prob_of_not g h ht, zero_mul]]
  congr 1
  · refine Finset.sum_congr rfl fun i _ => ?_
    rw [blockProb_eq, keyRow_own]
    split
    · rfl
    · rw [zero_mul]
  · split
    · next hn =>
      refine Finset.sum_congr rfl fun i _ => ?_
      rw [blockProb_eq, keyRow_before]
      split
      · rfl
      · rw [zero_mul]
    · rfl

end Args

end Cert.Attn

end
-- ==== Proof.Inputs.lean ====
/- The programs' arguments, read as the real numbers of the formulas: `q`, `k` and `v` hold all heads' columns side by side, the
   cotangents come as one array per group of heads. -/
module

public import Idealize.ShloMosaic.Lib.ValueIdx
public import proofs.«01_k».proof.Proof.Spec

@[expose] public section

noncomputable section

namespace Cert.Attn

open Idealize.ShloMosaic Idealize.ShloMosaic.ValueIdx

/-- The column of coordinate `e` of head `h` inside its group. -/
def lane (h : Fin 4) (e : Fin 64) : Fin 256 := ⟨h.val * 64 + e.val, by omega⟩

/-- The column of a group's lane among all heads' columns. -/
def wide (g : Fin 3) (c : Fin 256) : Fin 768 := ⟨g.val * 256 + c.val, by omega⟩

/-- Every lane is a head's coordinate. -/
theorem lane_eq (c : Fin 256) : c = lane ⟨c.val / 64, by omega⟩ ⟨c.val % 64, by omega⟩ :=
  Fin.ext (show c.val = c.val / 64 * 64 + c.val % 64 by omega)

/-- Every column is a lane of a group. -/
theorem wide_eq (c : Fin 768) : c = wide ⟨c.val / 256, by omega⟩ ⟨c.val % 256, by omega⟩ :=
  Fin.ext (show c.val = c.val / 256 * 256 + c.val % 256 by omega)

/-- Arrays over all heads' columns, and over one group's. -/
abbrev Full := (⟨2, ![2048, 768]⟩ : Shape).Idx → EReal
abbrev Group := (⟨2, ![2048, 256]⟩ : Shape).Idx → EReal

/-- The nine arguments hold the real numbers `A`. -/
structure Args.Reads (A : Args) (x0 x1 x2 : Full) (x3 x4 x5 x6 x7 x8 : Group) : Prop where
  q : ∀ g h t e, x0 (ix2 t (wide g (lane h e))) = ((A.q g h t e : ℝ) : EReal)
  k : ∀ g h t e, x1 (ix2 t (wide g (lane h e))) = ((A.k g h t e : ℝ) : EReal)
  v : ∀ g h t e, x2 (ix2 t (wide g (lane h e))) = ((A.v g h t e : ℝ) : EReal)
  dO : ∀ g h t e, (![x3, x4, x5] g : Group) (ix2 t (lane h e)) = ((A.dO g h t e : ℝ) : EReal)
  dL : ∀ g h t e, (![x6, x7, x8] g : Group) (ix2 t (lane h e)) = ((A.dL g h t e : ℝ) : EReal)

/-- Finite arguments are real numbers. -/
theorem exists_args (x0 x1 x2 : Full) (x3 x4 x5 x6 x7 x8 : Group) (h0 : ∀ i, ∃ r : ℝ, x0 i = r) (h1 : ∀ i, ∃ r : ℝ, x1 i = r)
    (h2 : ∀ i, ∃ r : ℝ, x2 i = r) (h3 : ∀ i, ∃ r : ℝ, x3 i = r) (h4 : ∀ i, ∃ r : ℝ, x4 i = r) (h5 : ∀ i, ∃ r : ℝ, x5 i = r)
    (h6 : ∀ i, ∃ r : ℝ, x6 i = r) (h7 : ∀ i, ∃ r : ℝ, x7 i = r) (h8 : ∀ i, ∃ r : ℝ, x8 i = r) :
    ∃ A : Args, A.Reads x0 x1 x2 x3 x4 x5 x6 x7 x8 := by
  have real : ∀ {y : EReal}, (∃ r : ℝ, y = r) → y = ((y.toReal : ℝ) : EReal) := by
    rintro y ⟨r, rfl⟩
    rw [EReal.toReal_coe]
  have pick : ∀ (a b c : Group), (∀ i, ∃ r : ℝ, a i = r) → (∀ i, ∃ r : ℝ, b i = r) → (∀ i, ∃ r : ℝ, c i = r) →
      ∀ g i, ∃ r : ℝ, (![a, b, c] g : Group) i = r := by
    intro a b c ha hb hc g
    fin_cases g
    · exact ha
    · exact hb
    · exact hc
  exact ⟨⟨fun g h t e => (x0 (ix2 t (wide g (lane h e)))).toReal, fun g h t e => (x1 (ix2 t (wide g (lane h e)))).toReal,
      fun g h t e => (x2 (ix2 t (wide g (lane h e)))).toReal, fun g h t e => ((![x3, x4, x5] g : Group) (ix2 t (lane h e))).toReal,
      fun g h t e => ((![x6, x7, x8] g : Group) (ix2 t (lane h e))).toReal⟩,
    ⟨fun _ _ _ _ => real (h0 _), fun _ _ _ _ => real (h1 _), fun _ _ _ _ => real (h2 _),
      fun g _ _ _ => real (pick _ _ _ h3 h4 h5 g _), fun g _ _ _ => real (pick _ _ _ h6 h7 h8 g _)⟩⟩

end Cert.Attn
end
-- ==== Proof.Consts.lean ====
/- The values of the float constants the programs write, and the masks' integer arithmetic. -/
module

public import Idealize.ShloMosaic.PureOps.Ideal.Laws
public import Idealize.ShloMosaic.Lib.IdealHost
public import proofs.«01_k».proof.Proof.Tokens

@[expose] public section

noncomputable section

namespace Cert.Attn

open Idealize.ShloMosaic

/-- The scale of the scores, one over the square root of the head's width. -/
theorem ofBits_eighth : Ideal.ofBits .f32 0x3E000000#32 = ((1 / 8 : ℝ) : EReal) := by
  simp [Ideal.ofBits, Ideal.ieee, -EReal.coe_mul]; norm_num

/-- Minus infinity is `⊥`. -/
theorem ofBits_neg_inf : Ideal.ofBits .f32 0xFF800000#32 = ⊥ := by simp [Ideal.ofBits, Ideal.ieee]

/-- Plus infinity is `⊤`. -/
theorem ofBits_inf : Ideal.ofBits .f32 0x7F800000#32 = ⊤ := by simp [Ideal.ofBits, Ideal.ieee]

end Cert.Attn
end
-- ==== Proof.KerOps.lean ====
/- The operations of one block of the kernel, each read at an index. -/
module

public import proofs.«01_k».proof.Proof.Spec
public import proofs.«01_k».proof.Proof.Inputs
public import proofs.«01_k».proof.Proof.Consts
public import proofs.«01_k».proof.Proof.Gen.KernelIdeal.Skeleton
public import Idealize.ShloMosaic.Lib.Pipeline.Value

@[expose] public section

noncomputable section

namespace Cert.Attn

open Idealize.ShloMosaic Idealize.ShloMosaic.ValueIdx Cert.KernelIdeal Cert.KernelIdeal.Gen

/-- One head's lanes of a loaded block. -/
theorem head_slice (x : Vec Ideal S1x128x256 .f32) (hc : Shape.ShapeCasts S1x128x256 S128x256) (h : Fin 4) (o : ℕ) (ho : o = h.val * 64)
    (hs : Shape.Slices S128x256 ![0, o] S128x64) (i : Fin 128) (e : Fin 64) :
    extractStridedSlice S128x64 ![0, o] (shapeCast S128x256 x hc) hs (ix2 i e) = x (ix3 0 i (lane h e)) := by
  rw [extractStridedSlice_apply ![0, o] _ hs (ix2 i e) (ix2 i (lane h e)) (fun a => ?_)]
  · refine shapeCast_apply x hc _ _ ?_
    rw [Shape.rowMajor_val_three, Shape.rowMajor_val_two]
    show (0 * 128 + i.val) * 256 + (lane h e).val = i.val * 256 + (lane h e).val
    omega
  · match a with
    | ⟨0, _⟩ => exact (Nat.zero_add _).symm
    | ⟨1, _⟩ => exact congrArg (· + e.val) ho.symm

/-- Two arrays of 128 rows, one on top of the other: the upper rows. -/
theorem rows_before (y z : FVec Ideal S128x64 .f32) (hc : Shape.Concatenates [S128x64, S128x64] S256x64 0) (j : Fin 128) (e : Fin 64) :
    concatenate S256x64 0 [⟨S128x64, y⟩, ⟨S128x64, z⟩] hc (ix2 (before j) e) = y (ix2 j e) :=
  concatenate_pair_apply_left 0 y z hc _ rfl (ix2 j e) fun b => match b with
    | ⟨0, _⟩ => rfl
    | ⟨1, _⟩ => rfl

/-- Two arrays of 128 rows, one on top of the other: the lower rows. -/
theorem rows_own (y z : FVec Ideal S128x64 .f32) (hc : Shape.Concatenates [S128x64, S128x64] S256x64 0) (j : Fin 128) (e : Fin 64) :
    concatenate S256x64 0 [⟨S128x64, y⟩, ⟨S128x64, z⟩] hc (ix2 (own j) e) = z (ix2 j e) :=
  concatenate_pair_apply_right 0 y z hc _ rfl rfl (ix2 j e) (fun b => match b with
    | ⟨0, _⟩ => fun hb => absurd rfl hb
    | ⟨1, _⟩ => fun _ => rfl) (Nat.add_comm _ _)

/-- Each of a block's 256 keys is in one half or the other. -/
theorem key_cases (j : Fin 256) : (∃ i, j = before i) ∨ ∃ i, j = own i := by
  by_cases h : j.val < 128
  · exact .inl ⟨⟨j.val, h⟩, rfl⟩
  · exact .inr ⟨⟨j.val - 128, by omega⟩, Fin.ext (by show j.val = 128 + (j.val - 128); omega)⟩

/-- A product of rows with rows. -/
theorem matmul_rows_rows (y : FVec Ideal S128x64 .bf16) (z : FVec Ideal S256x64 .bf16) (i : Fin 128) (j : Fin 256) :
    matmul dot_S128x64_S256x64_S128x256_1_1_0_0_n_n none y z (constant S128x256 .f32 0x00000000#32) (ix2 i j)
      = ∑ e : Fin 64, (y (ix2 i e) : EReal) * (z (ix2 j e) : EReal) := by
  refine (Ideal.matmul_constant_zero_apply _ none y z _).trans ?_
  rw [← Equiv.sum_comp (contrEquiv1 dot_S128x64_S256x64_S128x256_1_1_0_0_n_n 64 rfl rfl).symm]
  refine Finset.sum_congr rfl fun k _ => congrArg₂ (fun a b : EReal => a * b) (congrArg y ?_) (congrArg z ?_)
  · refine funext fun a => Fin.ext ?_
    match a with
    | ⟨0, _⟩ => unfold DotDims.lhsIdx; rfl
    | ⟨1, _⟩ => exact (DotDims.lhsIdx_val_of_single _ rfl _ _).trans (contrEquiv1_symm_val _ 64 rfl rfl k)
  · refine funext fun a => Fin.ext ?_
    match a with
    | ⟨0, _⟩ => unfold DotDims.rhsIdx; rfl
    | ⟨1, _⟩ => exact (DotDims.rhsIdx_val_of_single _ rfl _ _).trans (contrEquiv1_symm_val _ 64 rfl rfl k)

/-- A product of rows with columns. -/
theorem matmul_rows_cols (y : FVec Ideal S128x256 .bf16) (z : FVec Ideal S256x64 .bf16) (i : Fin 128) (e : Fin 64) :
    matmul dot_S128x256_S256x64_S128x64_1_0_0_1_n_n none y z (constant S128x64 .f32 0x00000000#32) (ix2 i e)
      = ∑ j : Fin 256, (y (ix2 i j) : EReal) * (z (ix2 j e) : EReal) := by
  refine (Ideal.matmul_constant_zero_apply _ none y z _).trans ?_
  rw [← Equiv.sum_comp (contrEquiv1 dot_S128x256_S256x64_S128x64_1_0_0_1_n_n 256 rfl rfl).symm]
  refine Finset.sum_congr rfl fun k _ => congrArg₂ (fun a b : EReal => a * b) (congrArg y ?_) (congrArg z ?_)
  · refine funext fun a => Fin.ext ?_
    match a with
    | ⟨0, _⟩ => unfold DotDims.lhsIdx; rfl
    | ⟨1, _⟩ => exact (DotDims.lhsIdx_val_of_single _ rfl _ _).trans (contrEquiv1_symm_val _ 256 rfl rfl k)
  · refine funext fun a => Fin.ext ?_
    match a with
    | ⟨0, _⟩ => exact (DotDims.rhsIdx_val_of_single _ rfl _ _).trans (contrEquiv1_symm_val _ 256 rfl rfl k)
    | ⟨1, _⟩ => unfold DotDims.rhsIdx; rfl

/-- A product of columns with columns. -/
theorem matmul_cols_cols (y : FVec Ideal S128x256 .bf16) (z : FVec Ideal S128x64 .bf16) (j : Fin 256) (e : Fin 64) :
    matmul dot_S128x256_S128x64_S256x64_0_0_1_1_n_n none y z (constant S256x64 .f32 0x00000000#32) (ix2 j e)
      = ∑ i : Fin 128, (y (ix2 i j) : EReal) * (z (ix2 i e) : EReal) := by
  refine (Ideal.matmul_constant_zero_apply _ none y z _).trans ?_
  rw [← Equiv.sum_comp (contrEquiv1 dot_S128x256_S128x64_S256x64_0_0_1_1_n_n 128 rfl rfl).symm]
  refine Finset.sum_congr rfl fun k _ => congrArg₂ (fun a b : EReal => a * b) (congrArg y ?_) (congrArg z ?_)
  · refine funext fun a => Fin.ext ?_
    match a with
    | ⟨0, _⟩ => exact (DotDims.lhsIdx_val_of_single _ rfl _ _).trans (contrEquiv1_symm_val _ 128 rfl rfl k)
    | ⟨1, _⟩ => unfold DotDims.lhsIdx; rfl
  · refine funext fun a => Fin.ext ?_
    match a with
    | ⟨0, _⟩ => exact (DotDims.rhsIdx_val_of_single _ rfl _ _).trans (contrEquiv1_symm_val _ 128 rfl rfl k)
    | ⟨1, _⟩ => unfold DotDims.rhsIdx; rfl

/-- A row's number spread over the row. -/
theorem spread_apply (x : FVec Ideal S128 .f32) (hc : Shape.ShapeCasts S128 S128x1) (hb : Shape.Broadcasts S128x1 S128x256) (i : Fin 128)
    (j : Fin 256) : broadcastTo S128x256 (shapeCast S128x1 x hc) hb (ix2 i j) = x (ix1 i) := by
  rw [broadcastTo_apply _ hb (ix2 i j) (ix2 i (0 : Fin 1)) (fun a => by
    match a with
    | ⟨0, _⟩ => rfl
    | ⟨1, _⟩ => rfl)]
  refine shapeCast_apply x hc _ _ ?_
  rw [Shape.rowMajor_val_one, Shape.rowMajor_val_two]
  show i.val = i.val * 1 + 0
  omega

/-- The sum of a row. -/
theorem row_sum {n : ℕ} (x : FVec Ideal (⟨2, ![128, n]⟩ : Shape) .f32) (h : Shape.Reduces (⟨2, ![128, n]⟩ : Shape) [1] S128)
    (hf : FKind.Formats .f32) (ha : 0x00000000#32 = FKind.add.neutral .f32 hf) (i : Fin 128) :
    multiReduction .add [1] S128 x 0x00000000#32 h hf ha (ix1 i) = ∑ j : Fin n, (x (ix2 i j) : EReal) := by
  refine (Ideal.multiReduction_add_single x _ h hf ha _).trans (Finset.sum_congr rfl fun k _ => congrArg x ?_)
  refine funext fun a => Fin.ext ?_
  match a with
  | ⟨0, _⟩ => rfl
  | ⟨1, _⟩ => rfl

/-- The maximum of a row. -/
theorem row_max (x : FVec Ideal S128x256 .f32) (h : Shape.Reduces S128x256 [1] S128) (hf : FKind.Formats .f32)
    (ha : 0xFF800000#32 = FKind.maximumf.neutral .f32 hf) (i : Fin 128) :
    multiReduction .maximumf [1] S128 x 0xFF800000#32 h hf ha (ix1 i)
      = (Finset.univ : Finset (Fin 256)).fold max (⊥ : EReal) (fun j => x (ix2 i j)) := by
  refine (Ideal.multiReduction_maximumf_single x _ h hf ha _).trans ?_
  refine congrArg₂ (fun (b : EReal) (f : Fin 256 → EReal) => (Finset.univ : Finset (Fin 256)).fold max b f) ofBits_neg_inf
    (funext fun k => congrArg x (funext fun a => Fin.ext ?_))
  match a with
  | ⟨0, _⟩ => rfl
  | ⟨1, _⟩ => rfl

end Cert.Attn

end
-- ==== Proof.KerMask.lean ====
/- The mask of one block of the kernel. -/
module

public import proofs.«01_k».proof.Proof.Tokens
public import proofs.«01_k».proof.Proof.Gen.KernelIdeal.Skeleton
public import Idealize.ShloMosaic.Lib.Pipeline.Value
public import Idealize.ShloMosaic.Lib.ValueIdxCore

@[expose] public section

noncomputable section

namespace Cert.Attn

open Idealize.ShloMosaic Idealize.ShloMosaic.ValueIdx Cert.KernelIdeal Cert.KernelIdeal.Gen

/-- The kernel's test, in 32-bit words, that a block does not begin a sequence. -/
def notFirstWord (arg0 arg1 : BitVec 32) : BitVec 1 :=
  let d : BitVec 32 := Scalar.select (Scalar.cmpi .eq arg0 0#32) 16#32 (Scalar.select (Scalar.cmpi .eq arg0 1#32) 4#32 1#32)
  let b : BitVec 32 := Scalar.select (Scalar.cmpi .eq d 0#32) 1#32 d
  let r : BitVec 32 := Scalar.remsi arg1 b
  Scalar.xori (Scalar.cmpi .eq
    (Scalar.select (Scalar.andi (Scalar.xori (Scalar.cmpi .slt r 0#32) (Scalar.cmpi .slt b 0#32)) (Scalar.cmpi .ne r 0#32)) (Scalar.addi r b) r)
    0#32) 1#1

theorem notFirstWord_eq : ∀ (g : Fin 3) (n : Fin 16),
    notFirstWord (BitVec.ofNat 32 g.val) (BitVec.ofNat 32 n.val) = BitVec.ofBool (decide (n.val % (len g / 128) ≠ 0)) := by
  decide +kernel

/-- The kernel's test, in 32-bit words, of a distance. -/
def distWord (d : BitVec 32) : BitVec 1 := IntOp.andi (IntOp.cmpi .sge d 0#32) (IntOp.cmpi .sle d 128#32)

theorem distWord_nonneg : ∀ u : Fin 256, distWord (BitVec.ofNat 32 u.val) = BitVec.ofBool (decide (u.val ≤ 128)) := by
  decide +kernel

theorem distWord_neg : ∀ u : Fin 256, u.val ≠ 0 → distWord (-BitVec.ofNat 32 u.val) = 0#1 := by
  decide +kernel

/-- Of a query's row, shifted by a block, and a key's place. -/
theorem distWord_eq (i : Fin 128) (j : Fin 256) :
    distWord (IntOp.subi (IntOp.addi (BitVec.ofNat 32 i.val) 128#32) (BitVec.ofNat 32 j.val))
      = BitVec.ofBool (decide (j.val ≤ i.val + 128 ∧ i.val ≤ j.val)) := by
  have hi := i.isLt
  have hj := j.isLt
  by_cases h : j.val ≤ i.val + 128
  · have e : IntOp.subi (IntOp.addi (BitVec.ofNat 32 i.val) 128#32) (BitVec.ofNat 32 j.val) = BitVec.ofNat 32 (i.val + 128 - j.val) := by
      apply BitVec.eq_of_toNat_eq
      simp only [IntOp.subi, IntOp.addi, BitVec.toNat_sub, BitVec.toNat_add, BitVec.toNat_ofNat]
      omega
    rw [e, distWord_nonneg ⟨i.val + 128 - j.val, by omega⟩]
    refine congrArg BitVec.ofBool (decide_eq_decide.2 ?_)
    show i.val + 128 - j.val ≤ 128 ↔ _
    omega
  · have e : IntOp.subi (IntOp.addi (BitVec.ofNat 32 i.val) 128#32) (BitVec.ofNat 32 j.val) = -BitVec.ofNat 32 (j.val - (i.val + 128)) := by
      apply BitVec.eq_of_toNat_eq
      simp only [IntOp.subi, IntOp.addi, BitVec.toNat_sub, BitVec.toNat_add, BitVec.toNat_neg, BitVec.toNat_ofNat]
      omega
    rw [e, distWord_neg ⟨j.val - (i.val + 128), by omega⟩ (by show j.val - (i.val + 128) ≠ 0; omega), decide_eq_false fun hv => h hv.1]
    rfl

theorem ownWord_eq : ∀ j : Fin 256, IntOp.cmpi .sge (BitVec.ofNat 32 j.val) 128#32 = BitVec.ofBool (decide (128 ≤ j.val)) := by
  decide +kernel

theorem and_or_ofBool : ∀ a b c : Bool, IntOp.andi (BitVec.ofBool a) (IntOp.ori (BitVec.ofBool b) (BitVec.ofBool c)) = BitVec.ofBool (a && (b || c)) := by
  decide

theorem mask_words (a b : BitVec 32) (i : Fin 128) (j : Fin 256) :
    k0_pay20 a b (ix2 i j)
      = IntOp.andi (distWord (IntOp.subi (IntOp.addi (BitVec.ofNat 32 i.val) 128#32) (BitVec.ofNat 32 j.val)))
          (IntOp.ori (IntOp.cmpi .sge (BitVec.ofNat 32 j.val) 128#32) (notFirstWord a b)) := by
  have h0 : iota .tc S128x256 32 [0] iota_S128x256_d0_w32 (ix2 i j) = BitVec.ofNat 32 i.val :=
    congrArg (BitVec.ofNat 32) (by show 0 * 128 + i.val = i.val; omega)
  have h1 : iota .tc S128x256 32 [1] iota_S128x256_d1_w32 (ix2 i j) = BitVec.ofNat 32 j.val :=
    congrArg (BitVec.ofNat 32) (by show 0 * 256 + j.val = j.val; omega)
  rw [← h0, ← h1]
  rfl

/-- The mask of a block of the kernel. -/
theorem block_mask_apply (g : Fin 3) (n : Fin 16) (i : Fin 128) (j : Fin 256) :
    k0_pay20 (BitVec.ofNat 32 g.val) (BitVec.ofNat 32 n.val) (ix2 i j) = BitVec.ofBool (decide (ok g n i j)) := by
  rw [mask_words, distWord_eq, ownWord_eq, notFirstWord_eq, and_or_ofBool]
  refine congrArg BitVec.ofBool (Bool.eq_iff_iff.2 ?_)
  simp only [Bool.and_eq_true, Bool.or_eq_true, decide_eq_true_eq, ok, and_assoc]
  exact decide_eq_true_iff.symm

end Cert.Attn

end
-- ==== Proof.KerBlock.lean ====
/- What one block of the kernel computes: its heads' probabilities and the cotangents of its products. -/
module

public import proofs.«01_k».proof.Proof.KerOps
public import proofs.«01_k».proof.Proof.KerMask
public import proofs.«01_k».proof.Proof.Gen.KernelIdeal.Frame

@[expose] public section

noncomputable section

namespace Cert.Attn

open Idealize.ShloMosaic Idealize.ShloMosaic.ValueIdx Cert.KernelIdeal Cert.KernelIdeal.Gen

/-- A loaded block. -/
abbrev Blk := Vec Ideal S1x128x256 .f32

/-- The blocks that block `n` of group `g` loads hold the arguments at its rows and at its 256 keys. -/
structure Args.Loads (A : Args) (g : Fin 3) (n : Fin 16) (x0 x1 x2 x3 x4 x5 x6 : Blk) : Prop where
  q : ∀ h i e, x0 (ix3 0 i (lane h e)) = ((A.q g h (tok g (row n i)) e : ℝ) : EReal)
  kBefore : ∀ h i e, x1 (ix3 0 i (lane h e)) = ((A.k g h (tok g (keyRow n (before i))) e : ℝ) : EReal)
  kOwn : ∀ h i e, x2 (ix3 0 i (lane h e)) = ((A.k g h (tok g (keyRow n (own i))) e : ℝ) : EReal)
  vBefore : ∀ h i e, x3 (ix3 0 i (lane h e)) = ((A.v g h (tok g (keyRow n (before i))) e : ℝ) : EReal)
  vOwn : ∀ h i e, x4 (ix3 0 i (lane h e)) = ((A.v g h (tok g (keyRow n (own i))) e : ℝ) : EReal)
  dO : ∀ h i e, x5 (ix3 0 i (lane h e)) = ((A.dO g h (tok g (row n i)) e : ℝ) : EReal)
  dL : ∀ h i e, x6 (ix3 0 i (lane h e)) = ((A.dL g h (tok g (row n i)) e : ℝ) : EReal)

/-! ## One head at a time -/

/-- The heads of a block of 128 rows. -/
def rows4 (x : Blk) : Fin 4 → FVec Ideal S128x64 .f32 := ![k0_pay5 x, k0_pay6 x, k0_pay7 x, k0_pay8 x]

theorem rows4_apply (x : Blk) (h : Fin 4) (i : Fin 128) (e : Fin 64) : rows4 x h (ix2 i e) = x (ix3 0 i (lane h e)) :=
  match h with
  | 0 => head_slice x _ 0 0 rfl slices_S128x256_o0_0_S128x64 i e
  | 1 => head_slice x _ 1 64 rfl slices_S128x256_o0_64_S128x64 i e
  | 2 => head_slice x _ 2 128 rfl slices_S128x256_o0_128_S128x64 i e
  | 3 => head_slice x _ 3 192 rfl slices_S128x256_o0_192_S128x64 i e

/-- The heads of two blocks of 128 rows, one on top of the other. -/
def keys4 (x y : Blk) : Fin 4 → FVec Ideal S256x64 .bf16 := ![k0_pay11 x y, k0_pay12 x y, k0_pay13 x y, k0_pay14 x y]

theorem keys4_before (x y : Blk) (h : Fin 4) (i : Fin 128) (e : Fin 64) : keys4 x y h (ix2 (before i) e) = x (ix3 0 i (lane h e)) :=
  match h with
  | 0 => (rows_before _ _ concatenates_S128x64_S128x64_S256x64_d0 i e).trans (head_slice x _ 0 0 rfl slices_S128x256_o0_0_S128x64 i e)
  | 1 => (rows_before _ _ concatenates_S128x64_S128x64_S256x64_d0 i e).trans (head_slice x _ 1 64 rfl slices_S128x256_o0_64_S128x64 i e)
  | 2 => (rows_before _ _ concatenates_S128x64_S128x64_S256x64_d0 i e).trans (head_slice x _ 2 128 rfl slices_S128x256_o0_128_S128x64 i e)
  | 3 => (rows_before _ _ concatenates_S128x64_S128x64_S256x64_d0 i e).trans (head_slice x _ 3 192 rfl slices_S128x256_o0_192_S128x64 i e)

theorem keys4_own (x y : Blk) (h : Fin 4) (i : Fin 128) (e : Fin 64) : keys4 x y h (ix2 (own i) e) = y (ix3 0 i (lane h e)) :=
  match h with
  | 0 => (rows_own _ _ concatenates_S128x64_S128x64_S256x64_d0 i e).trans (head_slice y _ 0 0 rfl slices_S128x256_o0_0_S128x64 i e)
  | 1 => (rows_own _ _ concatenates_S128x64_S128x64_S256x64_d0 i e).trans (head_slice y _ 1 64 rfl slices_S128x256_o0_64_S128x64 i e)
  | 2 => (rows_own _ _ concatenates_S128x64_S128x64_S256x64_d0 i e).trans (head_slice y _ 2 128 rfl slices_S128x256_o0_128_S128x64 i e)
  | 3 => (rows_own _ _ concatenates_S128x64_S128x64_S256x64_d0 i e).trans (head_slice y _ 3 192 rfl slices_S128x256_o0_192_S128x64 i e)

/-- A head's scores in the kernel: the product of its queries and keys, scaled and masked. -/
def scoreOf (a b : BitVec 32) (q : FVec Ideal S128x64 .f32) (k : FVec Ideal S256x64 .bf16) : FVec Ideal S128x256 .f32 :=
  select (k0_pay20 a b)
    (mulf (matmul dot_S128x64_S256x64_S128x256_1_1_0_0_n_n none (truncf .bf16 q bitsLt_bf16_f32) k (constant S128x256 .f32 0x00000000#32))
      (broadcast S128x256 (Scalar.ofBits .f32 0x3E000000#32)))
    (broadcast S128x256 (Named.named κ "mask" 0xF149F2CA#32))

/-- The kernel's scores of real queries and keys are the masked row. -/
theorem scoreOf_apply (g : Fin 3) (n : Fin 16) (q : FVec Ideal S128x64 .f32) (k : FVec Ideal S256x64 .bf16) (i : Fin 128) (j : Fin 256)
    (Q : Fin 64 → ℝ) (K : Fin 64 → ℝ) (hq : ∀ e, q (ix2 i e) = ((Q e : ℝ) : EReal)) (hk : ∀ e, k (ix2 j e) = ((K e : ℝ) : EReal)) :
    scoreOf (BitVec.ofNat 32 g.val) (BitVec.ofNat 32 n.val) q k (ix2 i j)
      = if ok g n i j then (((∑ e, Q e * K e) * (1 / 8) : ℝ) : EReal) else ⊥ := by
  have hm : matmul dot_S128x64_S256x64_S128x256_1_1_0_0_n_n none (truncf (F := Ideal) .bf16 q bitsLt_bf16_f32) k
      (constant S128x256 .f32 0x00000000#32) (ix2 i j) = ((∑ e, Q e * K e : ℝ) : EReal) :=
    (matmul_rows_rows _ k i j).trans (sum_mul_coe _ _ Q K hq hk)
  have e : scoreOf (BitVec.ofNat 32 g.val) (BitVec.ofNat 32 n.val) q k (ix2 i j)
      = Scalar.select (k0_pay20 (BitVec.ofNat 32 g.val) (BitVec.ofNat 32 n.val) (ix2 i j))
          (matmul dot_S128x64_S256x64_S128x256_1_1_0_0_n_n none (truncf (F := Ideal) .bf16 q bitsLt_bf16_f32) k
            (constant S128x256 .f32 0x00000000#32) (ix2 i j) * Ideal.ofBits .f32 0x3E000000#32 : EReal)
          (Named.named (F := Ideal) κ "mask" 0xF149F2CA#32 : EReal) := rfl
  rw [e, block_mask_apply, select_ofBool, hm, ofBits_eighth, EReal.coe_mul]
  split
  · rfl
  · exact IdealRules.named_const.ideal_named_scalar _ _ _ _ rfl

/-- The softmax of a row in the kernel. -/
theorem soft_apply (ok : Fin 256 → Prop) [DecidablePred ok] (hok : ∃ j, ok j) (s : FVec Ideal S128x256 .f32) (S : Fin 256 → ℝ) (i : Fin 128)
    (hs : ∀ j, s (ix2 i j) = masked ok S j) (j : Fin 256) : k0_pay25 s (ix2 i j) = ((soft ok S j : ℝ) : EReal) := by
  have hM : ∀ j, broadcastTo S128x256 (shapeCast S128x1 (multiReduction (F := Ideal) .maximumf [1] S128 s 0xFF800000#32 reduces_S128x256_S128 (.inl rfl) rfl)
      shapeCasts_S128_S128x1) broadcasts_S128x1_S128x256 (ix2 i j) = (Finset.univ : Finset (Fin 256)).fold max (⊥ : EReal) (masked ok S) := fun j => by
    rw [spread_apply]
    refine (row_max s _ _ _ i).trans ?_
    rw [show (fun j => s (ix2 i j)) = masked ok S from funext hs]
  have hE : ∀ j, exp (F := Ideal) (subf s (broadcastTo S128x256 (shapeCast S128x1 (multiReduction (F := Ideal) .maximumf [1] S128 s 0xFF800000#32
      reduces_S128x256_S128 (.inl rfl) rfl) shapeCasts_S128_S128x1) broadcasts_S128x1_S128x256)) (ix2 i j)
      = Ideal.exp (masked ok S j - (Finset.univ : Finset (Fin 256)).fold max (⊥ : EReal) (masked ok S)) := fun j =>
    congrArg Ideal.exp (congrArg₂ (fun a b : EReal => a - b) (hs j) (hM j))
  rw [← softmax_row ok S hok j]
  refine congrArg₂ Ideal.div (hE j) ?_
  rw [spread_apply]
  refine (row_sum _ _ _ _ i).trans ?_
  exact Finset.sum_congr rfl fun k _ => hE k

/-- The cotangent of a row of products in the kernel. -/
theorem ds_apply (p dp : FVec Ideal S128x256 .f32) (dl : FVec Ideal S128x1 .f32) (P D : Fin 256 → ℝ) (L : ℝ) (i : Fin 128)
    (hp : ∀ j, p (ix2 i j) = ((P j : ℝ) : EReal)) (hd : ∀ j, dp (ix2 i j) = ((D j : ℝ) : EReal)) (hl : dl (ix2 i (0 : Fin 1)) = ((L : ℝ) : EReal))
    (j : Fin 256) : k0_pay57 p dp dl (ix2 i j) = ((dscore P D L j * (1 / 8) : ℝ) : EReal) := by
  rw [← dscore_row, ← ofBits_eighth]
  refine congrArg₂ (fun a b : EReal => a * b) (congrArg₂ (fun a b : EReal => a * b) (hp j)
    (congrArg₂ (fun a b : EReal => a + b) (congrArg₂ (fun a b : EReal => a - b) (hd j) ?_) ?_)) rfl
  · rw [spread_apply]
    refine (row_sum _ _ _ _ i).trans ?_
    exact Finset.sum_congr rfl fun k _ => congrArg₂ (fun a b : EReal => a * b) (hd k) (hp k)
  · rw [broadcastTo_apply _ _ (ix2 i j) (ix2 i (0 : Fin 1)) (fun a => by
      match a with
      | ⟨0, _⟩ => rfl
      | ⟨1, _⟩ => rfl), hl]

/-! ## The heads together -/

variable {A : Args} {g : Fin 3} {n : Fin 16} {x0 x1 x2 x3 x4 x5 x6 : Blk} (H : A.Loads g n x0 x1 x2 x3 x4 x5 x6)

/-- The kernel's probabilities of its four heads. -/
def probs4 (a b : BitVec 32) (x0 x1 x2 : Blk) (h : Fin 4) : FVec Ideal S128x256 .f32 :=
  k0_pay25 (scoreOf a b (rows4 x0 h) (keys4 x1 x2 h))

/-- The cotangents of the probabilities of the kernel's four heads. -/
def dprobs4 (x3 x4 x5 : Blk) (h : Fin 4) : FVec Ideal S128x256 .f32 :=
  matmul dot_S128x64_S256x64_S128x256_1_1_0_0_n_n none (truncf .bf16 (rows4 x5 h) bitsLt_bf16_f32) (keys4 x3 x4 h)
    (constant S128x256 .f32 0x00000000#32)

/-- The cotangents of the products of the kernel's four heads. -/
def ds4 (a b : BitVec 32) (x0 x1 x2 x3 x4 x5 x6 : Blk) (h : Fin 4) : FVec Ideal S128x256 .bf16 :=
  k0_pay58 (probs4 a b x0 x1 x2 h) (dprobs4 x3 x4 x5 h) (rows4 x6 h)

section
include H

theorem keys4_k (h : Fin 4) (j : Fin 256) (e : Fin 64) :
    keys4 x1 x2 h (ix2 j e) = ((A.k g h (tok g (keyRow n j)) e : ℝ) : EReal) := by
  rcases key_cases j with ⟨i, rfl⟩ | ⟨i, rfl⟩
  · exact (keys4_before _ _ _ _ _).trans (H.kBefore h i e)
  · exact (keys4_own _ _ _ _ _).trans (H.kOwn h i e)

theorem keys4_v (h : Fin 4) (j : Fin 256) (e : Fin 64) :
    keys4 x3 x4 h (ix2 j e) = ((A.v g h (tok g (keyRow n j)) e : ℝ) : EReal) := by
  rcases key_cases j with ⟨i, rfl⟩ | ⟨i, rfl⟩
  · exact (keys4_before _ _ _ _ _).trans (H.vBefore h i e)
  · exact (keys4_own _ _ _ _ _).trans (H.vOwn h i e)

/-- The kernel's probabilities are the block's. -/
theorem probs4_apply (h : Fin 4) (i : Fin 128) (j : Fin 256) :
    probs4 (BitVec.ofNat 32 g.val) (BitVec.ofNat 32 n.val) x0 x1 x2 h (ix2 i j) = ((A.blockProb g h n i j : ℝ) : EReal) :=
  soft_apply (ok g n i) (ok_self g n i) _ (fun j => A.score g h (tok g (row n i)) (tok g (keyRow n j))) i
    (fun j => scoreOf_apply g n _ _ i j (A.q g h (tok g (row n i))) (A.k g h (tok g (keyRow n j)))
      (fun e => (rows4_apply _ _ _ _).trans (H.q h i e)) (fun e => keys4_k H h j e)) j

/-- The kernel's cotangents of the probabilities are the attention's. -/
theorem dprobs4_apply (h : Fin 4) (i : Fin 128) (j : Fin 256) :
    dprobs4 x3 x4 x5 h (ix2 i j) = ((A.dprob g h (tok g (row n i)) (tok g (keyRow n j)) : ℝ) : EReal) :=
  (matmul_rows_rows _ _ i j).trans (sum_mul_coe _ _ (A.dO g h (tok g (row n i))) (A.v g h (tok g (keyRow n j)))
    (fun e => (rows4_apply _ _ _ _).trans (H.dO h i e)) (fun e => keys4_v H h j e))

/-- The kernel's cotangents of the products are the block's. -/
theorem ds4_apply (h : Fin 4) (i : Fin 128) (j : Fin 256) :
    ds4 (BitVec.ofNat 32 g.val) (BitVec.ofNat 32 n.val) x0 x1 x2 x3 x4 x5 x6 h (ix2 i j) = ((A.blockDs g h n i j : ℝ) : EReal) := by
  refine ds_apply _ _ (shapeCast S128x1 (multiReduction (F := Ideal) .add [1] S128 (rows4 x6 h) 0x00000000#32 reduces_S128x64_S128 (.inl rfl) rfl)
      shapeCasts_S128_S128x1) (A.blockProb g h n i) (fun j => A.dprob g h (tok g (row n i)) (tok g (keyRow n j)))
      (A.dlse g h (tok g (row n i))) i (fun j => probs4_apply H h i j) (fun j => dprobs4_apply H h i j) ?_ j
  rw [shapeCast_apply _ _ (ix2 i (0 : Fin 1)) (ix1 i) (by
    rw [Shape.rowMajor_val_one, Shape.rowMajor_val_two]
    show i.val = i.val * 1 + 0
    omega)]
  refine (row_sum (rows4 x6 h) _ _ _ i).trans ?_
  rw [Args.dlse, ← coe_sum]
  exact Finset.sum_congr rfl fun e _ => (rows4_apply _ _ _ _).trans (H.dL h i e)

/-- The gradient of the queries of a block, at one head. -/
theorem dq4_apply (h : Fin 4) (i : Fin 128) (e : Fin 64) :
    matmul dot_S128x256_S256x64_S128x64_1_0_0_1_n_n none
      (ds4 (BitVec.ofNat 32 g.val) (BitVec.ofNat 32 n.val) x0 x1 x2 x3 x4 x5 x6 h) (keys4 x1 x2 h) (constant S128x64 .f32 0x00000000#32) (ix2 i e)
      = ((A.gradQ g h (tok g (row n i)) e : ℝ) : EReal) := by
  rw [← A.gradQ_block]
  exact (matmul_rows_cols _ _ i e).trans (sum_mul_coe _ _ (A.blockDs g h n i) (fun j => A.k g h (tok g (keyRow n j)) e)
    (fun j => ds4_apply H h i j) (fun j => keys4_k H h j e))

/-- A block's part of the gradient of its 256 keys, at one head. -/
theorem dk4_apply (h : Fin 4) (j : Fin 256) (e : Fin 64) :
    matmul dot_S128x256_S128x64_S256x64_0_0_1_1_n_n none
      (ds4 (BitVec.ofNat 32 g.val) (BitVec.ofNat 32 n.val) x0 x1 x2 x3 x4 x5 x6 h) (truncf .bf16 (rows4 x0 h) bitsLt_bf16_f32)
      (constant S256x64 .f32 0x00000000#32) (ix2 j e)
      = ((A.partK g h n j e : ℝ) : EReal) :=
  (matmul_cols_cols _ _ j e).trans (sum_mul_coe _ _ (fun i => A.blockDs g h n i j) (fun i => A.q g h (tok g (row n i)) e)
    (fun i => ds4_apply H h i j) (fun i => (rows4_apply _ _ _ _).trans (H.q h i e)))

/-- A block's part of the gradient of its 256 values, at one head. -/
theorem dv4_apply (h : Fin 4) (j : Fin 256) (e : Fin 64) :
    matmul dot_S128x256_S128x64_S256x64_0_0_1_1_n_n none
      (truncf .bf16 (probs4 (BitVec.ofNat 32 g.val) (BitVec.ofNat 32 n.val) x0 x1 x2 h) bitsLt_bf16_f32)
      (truncf .bf16 (rows4 x5 h) bitsLt_bf16_f32) (constant S256x64 .f32 0x00000000#32) (ix2 j e)
      = ((A.partV g h n j e : ℝ) : EReal) :=
  (matmul_cols_cols _ _ j e).trans (sum_mul_coe _ _ (fun i => A.blockProb g h n i j) (fun i => A.dO g h (tok g (row n i)) e)
    (fun i => probs4_apply H h i j) (fun i => (rows4_apply _ _ _ _).trans (H.dO h i e)))

end

end Cert.Attn

end
-- ==== Proof.KerGrads.lean ====
/- What one block of the kernel stores: the gradient of its 128 queries, and its parts of the gradients of its 256 keys and values. -/
module

public import proofs.«01_k».proof.Proof.KerBlock
public import proofs.«01_k».proof.Proof.Gen.KernelIdeal.Frame

@[expose] public section

noncomputable section

namespace Cert.Attn

open Idealize.ShloMosaic Idealize.ShloMosaic.ValueIdx Cert.KernelIdeal Cert.KernelIdeal.Gen

/-- Four heads' arrays side by side, as the block of rows that is stored. -/
theorem heads_rows (y0 y1 y2 y3 : FVec Ideal S128x64 .f32) (hc : Shape.Concatenates [S128x64, S128x64, S128x64, S128x64] S128x256 1)
    (hs : Shape.ShapeCasts S128x256 S1x128x256) (h : Fin 4) (i : Fin 128) (e : Fin 64) :
    shapeCast S1x128x256 (concatenate S128x256 1 [⟨S128x64, y0⟩, ⟨S128x64, y1⟩, ⟨S128x64, y2⟩, ⟨S128x64, y3⟩] hc) hs (ix3 0 i (lane h e))
      = (![y0, y1, y2, y3] h : FVec Ideal S128x64 .f32) (ix2 i e) := by
  rw [shapeCast_apply _ hs (ix3 0 i (lane h e)) (ix2 i (lane h e)) (by
    rw [Shape.rowMajor_val_three, Shape.rowMajor_val_two]
    show i.val * 256 + (lane h e).val = (0 * 128 + i.val) * 256 + (lane h e).val
    omega)]
  refine concatenate_ofFn_apply (s₁ := S128x64) (t := S128x256) 1 ![y0, y1, y2, y3] hc rfl 64 rfl (ix2 i (lane h e)) h ?_ (ix2 i e) ?_ ?_
  · show (h.val * 64 + e.val) / 64 = h.val
    omega
  · show e.val = (h.val * 64 + e.val) % 64
    omega
  · intro b hb
    match b with
    | ⟨0, _⟩ => rfl
    | ⟨1, _⟩ => exact absurd rfl hb

/-- Four heads' arrays side by side, as the block of keys that is stored. -/
theorem heads_keys (y0 y1 y2 y3 : FVec Ideal S256x64 .f32) (hc : Shape.Concatenates [S256x64, S256x64, S256x64, S256x64] S256x256 1)
    (hs : Shape.ShapeCasts S256x256 S1x1x256x256) (h : Fin 4) (j : Fin 256) (e : Fin 64) :
    shapeCast S1x1x256x256 (concatenate S256x256 1 [⟨S256x64, y0⟩, ⟨S256x64, y1⟩, ⟨S256x64, y2⟩, ⟨S256x64, y3⟩] hc) hs (ix4 0 0 j (lane h e))
      = (![y0, y1, y2, y3] h : FVec Ideal S256x64 .f32) (ix2 j e) := by
  rw [shapeCast_apply _ hs (ix4 0 0 j (lane h e)) (ix2 j (lane h e)) (by
    rw [Shape.rowMajor_val_four, Shape.rowMajor_val_two]
    show j.val * 256 + (lane h e).val = ((0 * 1 + 0) * 256 + j.val) * 256 + (lane h e).val
    omega)]
  refine concatenate_ofFn_apply (s₁ := S256x64) (t := S256x256) 1 ![y0, y1, y2, y3] hc rfl 64 rfl (ix2 j (lane h e)) h ?_ (ix2 j e) ?_ ?_
  · show (h.val * 64 + e.val) / 64 = h.val
    omega
  · show e.val = (h.val * 64 + e.val) % 64
    omega
  · intro b hb
    match b with
    | ⟨0, _⟩ => rfl
    | ⟨1, _⟩ => exact absurd rfl hb

theorem zeros3 : (![0, 0, 0] : Fin 3 → ℕ) = fun _ => 0 := funext fun a => by fin_cases a <;> rfl
theorem zeros4 : (![0, 0, 0, 0] : Fin 4 → ℕ) = fun _ => 0 := funext fun a => by fin_cases a <;> rfl

/-- A whole block loaded is the block. -/
theorem load_block (x : Blk) : View.ld x (r0_0 : Rect S1x128x256) = x := View.ld_unit_zero (S := S1x128x256) zeros3 inb_S1x128x256_S1x128x256_0_0_0 x

/-- The block of query gradients that is stored, over the heads. -/
theorem out0_7_eq (i : grid0.Coords) (x0 x1 x2 x3 x4 x5 x6 : Blk) :
    out0_7 i x0 x1 x2 x3 x4 x5 x6
      = shapeCast S1x128x256 (concatenate S128x256 1 (List.ofFn fun h => (⟨S128x64, matmul dot_S128x256_S256x64_S128x64_1_0_0_1_n_n none
          (ds4 (BitVec.ofNat 32 (i 0).val) (BitVec.ofNat 32 (i 1).val) x0 x1 x2 x3 x4 x5 x6 h) (keys4 x1 x2 h)
          (constant S128x64 .f32 0x00000000#32)⟩ : (s : Shape) × FVec Ideal s .f32)) concatenates_S128x64_S128x64_S128x64_S128x64_S128x256_d1)
          shapeCasts_S128x256_S1x128x256 := by
  unfold_out out0_7
  rw [View.canon_unit_zero (S := S1x128x256) zeros3 inb_S1x128x256_S1x128x256_0_0_0]
  simp only [load_block]
  rfl

/-- The block of key gradients that is stored, over the heads. -/
theorem out0_8_eq (i : grid0.Coords) (x0 x1 x2 x3 x4 x5 x6 : Blk) :
    out0_8 i x0 x1 x2 x3 x4 x5 x6
      = shapeCast S1x1x256x256 (concatenate S256x256 1 (List.ofFn fun h => (⟨S256x64, matmul dot_S128x256_S128x64_S256x64_0_0_1_1_n_n none
          (ds4 (BitVec.ofNat 32 (i 0).val) (BitVec.ofNat 32 (i 1).val) x0 x1 x2 x3 x4 x5 x6 h) (truncf .bf16 (rows4 x0 h) bitsLt_bf16_f32)
          (constant S256x64 .f32 0x00000000#32)⟩ : (s : Shape) × FVec Ideal s .f32)) concatenates_S256x64_S256x64_S256x64_S256x64_S256x256_d1)
          shapeCasts_S256x256_S1x1x256x256 := by
  unfold_out out0_8
  rw [View.canon_unit_zero (S := S1x1x256x256) zeros4 inb_S1x1x256x256_S1x1x256x256_0_0_0_0]
  simp only [load_block]
  rfl

/-- The block of value gradients that is stored, over the heads. -/
theorem out0_9_eq (i : grid0.Coords) (x0 x1 x2 x3 x4 x5 x6 : Blk) :
    out0_9 i x0 x1 x2 x3 x4 x5 x6
      = shapeCast S1x1x256x256 (concatenate S256x256 1 (List.ofFn fun h => (⟨S256x64, matmul dot_S128x256_S128x64_S256x64_0_0_1_1_n_n none
          (truncf .bf16 (probs4 (BitVec.ofNat 32 (i 0).val) (BitVec.ofNat 32 (i 1).val) x0 x1 x2 h) bitsLt_bf16_f32)
          (truncf .bf16 (rows4 x5 h) bitsLt_bf16_f32)
          (constant S256x64 .f32 0x00000000#32)⟩ : (s : Shape) × FVec Ideal s .f32)) concatenates_S256x64_S256x64_S256x64_S256x64_S256x256_d1)
          shapeCasts_S256x256_S1x1x256x256 := by
  unfold_out out0_9
  rw [View.canon_unit_zero (S := S1x1x256x256) zeros4 inb_S1x1x256x256_S1x1x256x256_0_0_0_0]
  simp only [load_block]
  rfl

variable {A : Args} {g : Fin 3} {n : Fin 16} {x0 x1 x2 x3 x4 x5 x6 : Blk} (H : A.Loads g n x0 x1 x2 x3 x4 x5 x6)
include H

/-- What a block stores for its queries is their gradient. -/
theorem out_q (c : grid0.Coords) (hg : (c 0).val = g.val) (hn : (c 1).val = n.val) (h : Fin 4) (i : Fin 128) (e : Fin 64) :
    out0_7 c x0 x1 x2 x3 x4 x5 x6 (ix3 0 i (lane h e)) = ((A.gradQ g h (tok g (row n i)) e : ℝ) : EReal) := by
  rw [out0_7_eq, hg, hn]
  refine (heads_rows _ _ _ _ _ _ h i e).trans ?_
  match h with
  | 0 => exact dq4_apply H 0 i e
  | 1 => exact dq4_apply H 1 i e
  | 2 => exact dq4_apply H 2 i e
  | 3 => exact dq4_apply H 3 i e

/-- What a block stores for its keys is its part of their gradient. -/
theorem out_k (c : grid0.Coords) (hg : (c 0).val = g.val) (hn : (c 1).val = n.val) (h : Fin 4) (j : Fin 256) (e : Fin 64) :
    out0_8 c x0 x1 x2 x3 x4 x5 x6 (ix4 0 0 j (lane h e)) = ((A.partK g h n j e : ℝ) : EReal) := by
  rw [out0_8_eq, hg, hn]
  refine (heads_keys _ _ _ _ _ _ h j e).trans ?_
  match h with
  | 0 => exact dk4_apply H 0 j e
  | 1 => exact dk4_apply H 1 j e
  | 2 => exact dk4_apply H 2 j e
  | 3 => exact dk4_apply H 3 j e

/-- What a block stores for its values is its part of their gradient. -/
theorem out_v (c : grid0.Coords) (hg : (c 0).val = g.val) (hn : (c 1).val = n.val) (h : Fin 4) (j : Fin 256) (e : Fin 64) :
    out0_9 c x0 x1 x2 x3 x4 x5 x6 (ix4 0 0 j (lane h e)) = ((A.partV g h n j e : ℝ) : EReal) := by
  rw [out0_9_eq, hg, hn]
  refine (heads_keys _ _ _ _ _ _ h j e).trans ?_
  match h with
  | 0 => exact dv4_apply H 0 j e
  | 1 => exact dv4_apply H 1 j e
  | 2 => exact dv4_apply H 2 j e
  | 3 => exact dv4_apply H 3 j e

end Cert.Attn
-- ==== Proof.Layout.lean ====
/- The kernel's layout of the arrays: each group's tokens listed sequence by sequence. What its preparation of the arguments and its
   reading of the results do, at an index. -/
module

public import proofs.«01_k».proof.Proof.Inputs
public import proofs.«01_k».proof.Proof.Gen.KernelIdeal
public import Idealize.ShloMosaic.Lib.Pipeline.Value
public import Idealize.ShloMosaic.Lib.KernelVsHost
public import Idealize.ShloMosaic.Lib.IdealHost

@[expose] public section

noncomputable section

namespace Cert.Attn

open Idealize.ShloMosaic Idealize.ShloMosaic.ValueIdx Cert.KernelIdeal Cert.KernelIdeal.Gen

/-- The three groups' lists of 2048 places. -/
abbrev Lists := FVec Ideal S3x2048x256 .f32

/-- The parts of the gradient of 256 keys that each block of each group computes. -/
abbrev Parts := FVec Ideal S3x16x256x256 .f32

section
variable {α : Type} {d L : ℕ}

/-- Tokens cut into rows of `d` and transposed: the `r`-th token of row `s`. -/
theorem rows_transposed (y : S2048x256.Idx → α) (h1 : S2048x256.ShapeCasts ⟨3, ![L, d, 256]⟩)
    (h2 : (⟨3, ![L, d, 256]⟩ : Shape).Transposes [1, 0, 2] ⟨3, ![d, L, 256]⟩) (r : Fin d) (s : Fin L) (c : Fin 256) (t : Fin 2048)
    (ht : t.val = s.val * d + r.val) :
    transpose ⟨3, ![d, L, 256]⟩ [1, 0, 2] (shapeCast ⟨3, ![L, d, 256]⟩ y h1) h2 (ix3 r s c) = y (ix2 t c) := by
  rw [transpose_apply [1, 0, 2] _ h2 (ix3 r s c) (ix3 s r c) (fun b => match b with
    | ⟨0, _⟩ => rfl
    | ⟨1, _⟩ => rfl
    | ⟨2, _⟩ => rfl)]
  refine shapeCast_apply y h1 _ _ ?_
  rw [Shape.rowMajor_val_three, Shape.rowMajor_val_two]
  show t.val * 256 + c.val = (s.val * d + r.val) * 256 + c.val
  rw [ht]

/-- A list of `d` sequences of `L` tokens put back in the order of the tokens. -/
theorem lists_transposed (z : S1x2048x256.Idx → α) (h1 : S1x2048x256.ShapeCasts ⟨3, ![d, L, 256]⟩)
    (h2 : (⟨3, ![d, L, 256]⟩ : Shape).Transposes [1, 0, 2] ⟨3, ![L, d, 256]⟩) (h3 : (⟨3, ![L, d, 256]⟩ : Shape).ShapeCasts S2048x256)
    (t : Fin 2048) (c : Fin 256) (s : Fin L) (r : Fin d) (a : Fin 2048) (ht : t.val = s.val * d + r.val) (ha : a.val = r.val * L + s.val) :
    shapeCast S2048x256 (transpose ⟨3, ![L, d, 256]⟩ [1, 0, 2] (shapeCast ⟨3, ![d, L, 256]⟩ z h1) h2) h3 (ix2 t c) = z (ix3 0 a c) := by
  rw [shapeCast_apply _ h3 (ix2 t c) (ix3 s r c) (by
    rw [Shape.rowMajor_val_three, Shape.rowMajor_val_two]
    show (s.val * d + r.val) * 256 + c.val = t.val * 256 + c.val
    rw [ht])]
  rw [transpose_apply [1, 0, 2] _ h2 (ix3 s r c) (ix3 r s c) (fun b => match b with
    | ⟨0, _⟩ => rfl
    | ⟨1, _⟩ => rfl
    | ⟨2, _⟩ => rfl)]
  refine shapeCast_apply z h1 _ _ ?_
  rw [Shape.rowMajor_val_three, Shape.rowMajor_val_three]
  show (0 * 2048 + a.val) * 256 + c.val = (r.val * L + s.val) * 256 + c.val
  rw [ha, Nat.zero_mul, Nat.zero_add]

/-- `d` sequences of `L` tokens as one list. -/
theorem one_list (y : (⟨3, ![d, L, 256]⟩ : Shape).Idx → α) (h : (⟨3, ![d, L, 256]⟩ : Shape).ShapeCasts S1x2048x256) (a : Fin 2048) (c : Fin 256)
    (r : Fin d) (s : Fin L) (ha : a.val = r.val * L + s.val) : shapeCast S1x2048x256 y h (ix3 0 a c) = y (ix3 r s c) := by
  refine shapeCast_apply y h _ _ ?_
  rw [Shape.rowMajor_val_three, Shape.rowMajor_val_three]
  show (r.val * L + s.val) * 256 + c.val = (0 * 2048 + a.val) * 256 + c.val
  rw [ha, Nat.zero_mul, Nat.zero_add]

/-- The same without the unit axis, and the unit axis put in front. -/
theorem one_list_front (y : (⟨3, ![d, L, 256]⟩ : Shape).Idx → α) (h : (⟨3, ![d, L, 256]⟩ : Shape).ShapeCasts S2048x256)
    (hb : S2048x256.BroadcastsInDim S1x2048x256 ![1, 2]) (a : Fin 2048) (c : Fin 256)
    (r : Fin d) (s : Fin L) (ha : a.val = r.val * L + s.val) :
    broadcastInDim S1x2048x256 ![1, 2] hb (shapeCast S2048x256 y h) (ix3 0 a c) = y (ix3 r s c) := by
  rw [broadcastInDim_apply ![1, 2] hb _ (ix3 0 a c) (ix2 a c) (fun b => match b with
    | ⟨0, _⟩ => rfl
    | ⟨1, _⟩ => rfl)]
  refine shapeCast_apply y h _ _ ?_
  rw [Shape.rowMajor_val_three, Shape.rowMajor_val_two]
  show (r.val * L + s.val) * 256 + c.val = a.val * 256 + c.val
  rw [ha]

/-- One group's columns. -/
theorem group_slice (x : S2048x768.Idx → α) (g : Fin 3) (o : ℕ) (ho : o = g.val * 256) (h : S2048x768.Slices ![0, o] S2048x256) (t : Fin 2048)
    (c : Fin 256) : extractStridedSlice S2048x256 ![0, o] x h (ix2 t c) = x (ix2 t (wide g c)) :=
  extractStridedSlice_apply ![0, o] x h _ _ fun b => match b with
    | ⟨0, _⟩ => (Nat.zero_add _).symm
    | ⟨1, _⟩ => congrArg (· + c.val) ho.symm

/-- One group's list. -/
theorem list_slice (x : S3x2048x256.Idx → α) (g : Fin 3) (o : ℕ) (ho : o = g.val) (h : S3x2048x256.Slices ![o, 0, 0] S1x2048x256) (a : Fin 2048)
    (c : Fin 256) : extractStridedSlice S1x2048x256 ![o, 0, 0] x h (ix3 0 a c) = x (ix3 g a c) :=
  extractStridedSlice_apply ![o, 0, 0] x h _ _ fun b => match b with
    | ⟨0, _⟩ => ho.symm
    | ⟨1, _⟩ => (Nat.zero_add _).symm
    | ⟨2, _⟩ => (Nat.zero_add _).symm
end

/-- The zero that pads. -/
theorem pad_zero : (constant (F := Ideal) S_ .f32 0x00000000#32 (Shape.Idx.first h_S_) : EReal) = 0 := Ideal.ofBits_zero_f32

/-- A group's list among zeros. -/
theorem pad_list (x : FVec Ideal S1x2048x256 .f32) (p : Fin 3) (lo hi : ℕ) (hlo : lo = p.val)
    (h : S1x2048x256.Pads ![lo, 0, 0] ![hi, 0, 0] ![0, 0, 0] S3x2048x256) (g : Fin 3) (a : Fin 2048) (c : Fin 256) :
    (pad S3x2048x256 ![lo, 0, 0] ![hi, 0, 0] ![0, 0, 0] x (constant (F := Ideal) S_ .f32 0x00000000#32) h h_S_ (ix3 g a c) : EReal)
      = if g = p then x (ix3 0 a c) else 0 := by
  subst hlo
  by_cases hg : g = p
  · rw [if_pos hg]
    subst hg
    exact pad_apply_of_inside _ _ _ x _ h _ _ _ fun b => match b with
      | ⟨0, _⟩ => rfl
      | ⟨1, _⟩ => by show a.val = 0 + a.val * (0 + 1); omega
      | ⟨2, _⟩ => by show c.val = 0 + c.val * (0 + 1); omega
  · rw [if_neg hg, ← pad_zero]
    refine pad_apply_of_not_inside _ _ _ x _ h _ _ 0 ?_
    show ¬(p.val ≤ g.val ∧ (g.val - p.val) % (0 + 1) = 0 ∧ (g.val - p.val) / (0 + 1) < 1)
    have : g.val ≠ p.val := fun e => hg (Fin.ext e)
    omega

/-- A group's columns among zeros. -/
theorem pad_cols (x : FVec Ideal S2048x256 .f32) (p : Fin 3) (lo hi : ℕ) (hlo : lo = p.val * 256)
    (h : S2048x256.Pads ![0, lo] ![0, hi] ![0, 0] S2048x768) (g : Fin 3) (t : Fin 2048) (c : Fin 256) :
    (pad S2048x768 ![0, lo] ![0, hi] ![0, 0] x (constant (F := Ideal) S_ .f32 0x00000000#32) h h_S_ (ix2 t (wide g c)) : EReal)
      = if g = p then x (ix2 t c) else 0 := by
  by_cases hg : g = p
  · rw [if_pos hg]
    subst hg
    exact pad_apply_of_inside _ _ _ x _ h _ _ _ fun b => match b with
      | ⟨0, _⟩ => by show t.val = 0 + t.val * (0 + 1); omega
      | ⟨1, _⟩ => by show g.val * 256 + c.val = lo + c.val * (0 + 1); omega
  · rw [if_neg hg, ← pad_zero]
    refine pad_apply_of_not_inside _ _ _ x _ h _ _ 1 ?_
    show ¬(lo ≤ g.val * 256 + c.val ∧ (g.val * 256 + c.val - lo) % (0 + 1) = 0 ∧ (g.val * 256 + c.val - lo) / (0 + 1) < 256)
    have : g.val ≠ p.val := fun e => hg (Fin.ext e)
    omega

/-- The queries, keys or values of all heads, as the groups' lists. -/
def lists (x : FVec Ideal S2048x768 .f32) : Lists :=
  concatenate S3x2048x256 0
    [⟨S1x2048x256, transpose S1x2048x256 [1, 0, 2] (shapeCast S2048x1x256 (extractStridedSlice S2048x256 ![0, 0] x slices_S2048x768_S2048x256_0_0)
        shapeCasts_S2048x256_S2048x1x256) transposes_S2048x1x256_S1x2048x256_1_0_2⟩,
      ⟨S1x2048x256, shapeCast S1x2048x256 (transpose S4x512x256 [1, 0, 2] (shapeCast S512x4x256 (extractStridedSlice S2048x256 ![0, 256] x
        slices_S2048x768_S2048x256_0_256) shapeCasts_S2048x256_S512x4x256) transposes_S512x4x256_S4x512x256_1_0_2) shapeCasts_S4x512x256_S1x2048x256⟩,
      ⟨S1x2048x256, shapeCast S1x2048x256 (transpose S16x128x256 [1, 0, 2] (shapeCast S128x16x256 (extractStridedSlice S2048x256 ![0, 512] x
        slices_S2048x768_S2048x256_0_512) shapeCasts_S2048x256_S128x16x256) transposes_S128x16x256_S16x128x256_1_0_2) shapeCasts_S16x128x256_S1x2048x256⟩]
    concatenates_S1x2048x256_S1x2048x256_S1x2048x256_S3x2048x256_d0

/-- Three lists one after the other. -/
theorem lists_concat (y0 y1 y2 : FVec Ideal S1x2048x256 .f32)
    (h : Shape.Concatenates [S1x2048x256, S1x2048x256, S1x2048x256] S3x2048x256 0) (g : Fin 3) (a : Fin 2048) (c : Fin 256) :
    concatenate S3x2048x256 0 [⟨S1x2048x256, y0⟩, ⟨S1x2048x256, y1⟩, ⟨S1x2048x256, y2⟩] h (ix3 g a c)
      = (![y0, y1, y2] g : FVec Ideal S1x2048x256 .f32) (ix3 0 a c) := by
  refine concatenate_ofFn_apply (s₁ := S1x2048x256) (t := S3x2048x256) 0 ![y0, y1, y2] h rfl 1 rfl (ix3 g a c) g (Nat.div_one _) (ix3 0 a c)
    (Nat.mod_one _).symm fun b hb => ?_
  match b with
  | ⟨0, _⟩ => exact absurd rfl hb
  | ⟨1, _⟩ => rfl
  | ⟨2, _⟩ => rfl

/-- A place of a group's list holds its token's columns of that group. -/
theorem lists_apply (x : FVec Ideal S2048x768 .f32) (g : Fin 3) (a : Fin 2048) (c : Fin 256) :
    lists x (ix3 g a c) = x (ix2 (tok g a) (wide g c)) := by
  refine (lists_concat _ _ _ _ g a c).trans ?_
  match g with
  | 0 =>
    exact (rows_transposed _ _ _ 0 a c (tok 0 a) (by show a.val % 2048 * 1 + a.val / 2048 = a.val * 1 + 0; omega)).trans
      (group_slice x 0 0 rfl slices_S2048x768_S2048x256_0_0 _ c)
  | 1 =>
    exact ((one_list _ _ a c (⟨a.val / 512, by omega⟩ : Fin 4) (⟨a.val % 512, by omega⟩ : Fin 512)
      (by show a.val = a.val / 512 * 512 + a.val % 512; omega)).trans (rows_transposed _ _ _ _ _ c (tok 1 a) rfl)).trans
      (group_slice x 1 256 rfl slices_S2048x768_S2048x256_0_256 _ c)
  | 2 =>
    exact ((one_list _ _ a c (⟨a.val / 128, by omega⟩ : Fin 16) (⟨a.val % 128, by omega⟩ : Fin 128)
      (by show a.val = a.val / 128 * 128 + a.val % 128; omega)).trans (rows_transposed _ _ _ _ _ c (tok 2 a) rfl)).trans
      (group_slice x 2 512 rfl slices_S2048x768_S2048x256_0_512 _ c)

/-- Three groups' cotangents, as the groups' lists. -/
def stack (y0 y1 y2 : FVec Ideal S2048x256 .f32) : Lists :=
  addf (addf
    (pad S3x2048x256 ![2, 0, 0] ![0, 0, 0] ![0, 0, 0] (broadcastInDim S1x2048x256 ![1, 2] bcast_S2048x256_S1x2048x256_1_2 (shapeCast S2048x256
      (transpose S16x128x256 [1, 0, 2] (shapeCast S128x16x256 y2 shapeCasts_S2048x256_S128x16x256) transposes_S128x16x256_S16x128x256_1_0_2)
      shapeCasts_S16x128x256_S2048x256)) (constant S_ .f32 0x00000000#32) pads_S1x2048x256_S3x2048x256_200_000_000 h_S_)
    (pad S3x2048x256 ![1, 0, 0] ![1, 0, 0] ![0, 0, 0] (broadcastInDim S1x2048x256 ![1, 2] bcast_S2048x256_S1x2048x256_1_2 (shapeCast S2048x256
      (transpose S4x512x256 [1, 0, 2] (shapeCast S512x4x256 y1 shapeCasts_S2048x256_S512x4x256) transposes_S512x4x256_S4x512x256_1_0_2)
      shapeCasts_S4x512x256_S2048x256)) (constant S_ .f32 0x00000000#32) pads_S1x2048x256_S3x2048x256_110_000_000 h_S_))
    (pad S3x2048x256 ![0, 0, 0] ![2, 0, 0] ![0, 0, 0] (broadcastInDim S1x2048x256 ![1, 2] bcast_S2048x256_S1x2048x256_1_2 (shapeCast S2048x256
      (transpose S1x2048x256 [1, 0, 2] (shapeCast S2048x1x256 y0 shapeCasts_S2048x256_S2048x1x256) transposes_S2048x1x256_S1x2048x256_1_0_2)
      shapeCasts_S1x2048x256_S2048x256)) (constant S_ .f32 0x00000000#32) pads_S1x2048x256_S3x2048x256_020_000_000 h_S_)

/-- A place of a group's list holds its token's cotangents of that group. -/
theorem stack_apply (y0 y1 y2 : FVec Ideal S2048x256 .f32) (g : Fin 3) (a : Fin 2048) (c : Fin 256) :
    stack y0 y1 y2 (ix3 g a c) = (![y0, y1, y2] g : FVec Ideal S2048x256 .f32) (ix2 (tok g a) c) := by
  refine (congrArg₂ (fun u v : EReal => u + v) (congrArg₂ (fun u v : EReal => u + v)
    (pad_list _ 2 2 0 rfl pads_S1x2048x256_S3x2048x256_200_000_000 g a c)
    (pad_list _ 1 1 1 rfl pads_S1x2048x256_S3x2048x256_110_000_000 g a c))
    (pad_list _ 0 0 2 rfl pads_S1x2048x256_S3x2048x256_020_000_000 g a c)).trans ?_
  match g with
  | 0 =>
    rw [if_neg (by decide), if_neg (by decide), if_pos rfl, zero_add, zero_add]
    exact (one_list_front _ _ _ a c (0 : Fin 1) a (by show a.val = 0 * 2048 + a.val; omega)).trans
      (rows_transposed y0 _ _ 0 a c (tok 0 a) (by show a.val % 2048 * 1 + a.val / 2048 = a.val * 1 + 0; omega))
  | 1 =>
    rw [if_neg (by decide), if_pos rfl, if_neg (by decide), zero_add, add_zero]
    exact (one_list_front _ _ _ a c (⟨a.val / 512, by omega⟩ : Fin 4) (⟨a.val % 512, by omega⟩ : Fin 512)
        (by show a.val = a.val / 512 * 512 + a.val % 512; omega)).trans (rows_transposed y1 _ _ _ _ c (tok 1 a) rfl)
  | 2 =>
    rw [if_pos rfl, if_neg (by decide), if_neg (by decide), add_zero, add_zero]
    exact (one_list_front _ _ _ a c (⟨a.val / 128, by omega⟩ : Fin 16) (⟨a.val % 128, by omega⟩ : Fin 128)
        (by show a.val = a.val / 128 * 128 + a.val % 128; omega)).trans (rows_transposed y2 _ _ _ _ c (tok 2 a) rfl)

/-- The groups' lists put back as all heads' columns of the tokens. -/
def unlist (z : Lists) : FVec Ideal S2048x768 .f32 :=
  addf (addf
    (pad S2048x768 ![0, 512] ![0, 0] ![0, 0] (shapeCast S2048x256 (transpose S128x16x256 [1, 0, 2] (shapeCast S16x128x256
      (extractStridedSlice S1x2048x256 ![2, 0, 0] z slices_S3x2048x256_S1x2048x256_2_0_0) shapeCasts_S1x2048x256_S16x128x256)
      transposes_S16x128x256_S128x16x256_1_0_2) shapeCasts_S128x16x256_S2048x256) (constant S_ .f32 0x00000000#32) pads_S2048x256_S2048x768_000_51200 h_S_)
    (pad S2048x768 ![0, 256] ![0, 256] ![0, 0] (shapeCast S2048x256 (transpose S512x4x256 [1, 0, 2] (shapeCast S4x512x256
      (extractStridedSlice S1x2048x256 ![1, 0, 0] z slices_S3x2048x256_S1x2048x256_1_0_0) shapeCasts_S1x2048x256_S4x512x256)
      transposes_S4x512x256_S512x4x256_1_0_2) shapeCasts_S512x4x256_S2048x256) (constant S_ .f32 0x00000000#32) pads_S2048x256_S2048x768_000_2562560 h_S_))
    (pad S2048x768 ![0, 0] ![0, 512] ![0, 0] (shapeCast S2048x256 (transpose S2048x1x256 [1, 0, 2]
      (extractStridedSlice S1x2048x256 ![0, 0, 0] z slices_S3x2048x256_S1x2048x256_0_0_0)
      transposes_S1x2048x256_S2048x1x256_1_0_2) shapeCasts_S2048x1x256_S2048x256) (constant S_ .f32 0x00000000#32) pads_S2048x256_S2048x768_000_05120 h_S_)

/-- A token's columns of a group come from its place in the group's list. -/
theorem unlist_apply (z : Lists) (g : Fin 3) (t : Fin 2048) (c : Fin 256) : unlist z (ix2 t (wide g c)) = z (ix3 g (pos g t) c) := by
  refine (congrArg₂ (fun u v : EReal => u + v) (congrArg₂ (fun u v : EReal => u + v)
    (pad_cols _ 2 512 0 rfl pads_S2048x256_S2048x768_000_51200 g t c)
    (pad_cols _ 1 256 256 rfl pads_S2048x256_S2048x768_000_2562560 g t c))
    (pad_cols _ 0 0 512 rfl pads_S2048x256_S2048x768_000_05120 g t c)).trans ?_
  match g with
  | 0 =>
    rw [if_neg (by decide), if_neg (by decide), if_pos rfl, zero_add, zero_add]
    rw [shapeCast_apply _ shapeCasts_S2048x1x256_S2048x256 (ix2 t c) (ix3 t (0 : Fin 1) c) (by
      rw [Shape.rowMajor_val_three, Shape.rowMajor_val_two]
      show (t.val * 1 + 0) * 256 + c.val = t.val * 256 + c.val
      omega)]
    rw [transpose_apply [1, 0, 2] _ transposes_S1x2048x256_S2048x1x256_1_0_2 (ix3 t (0 : Fin 1) c) (ix3 (0 : Fin 1) t c) (fun b => match b with
      | ⟨0, _⟩ => rfl
      | ⟨1, _⟩ => rfl
      | ⟨2, _⟩ => rfl)]
    refine (list_slice z 0 0 rfl slices_S3x2048x256_S1x2048x256_0_0_0 t c).trans ?_
    rw [show pos 0 t = t from Fin.ext (by show t.val % 1 * 2048 + t.val / 1 = t.val; omega)]
  | 1 =>
    rw [if_neg (by decide), if_pos rfl, if_neg (by decide), zero_add, add_zero]
    exact (lists_transposed _ _ _ _ t c (⟨t.val / 4, by omega⟩ : Fin 512) (⟨t.val % 4, by omega⟩ : Fin 4) (pos 1 t)
      (by show t.val = t.val / 4 * 4 + t.val % 4; omega) rfl).trans (list_slice z 1 1 rfl slices_S3x2048x256_S1x2048x256_1_0_0 _ c)
  | 2 =>
    rw [if_pos rfl, if_neg (by decide), if_neg (by decide), add_zero, add_zero]
    exact (lists_transposed _ _ _ _ t c (⟨t.val / 16, by omega⟩ : Fin 128) (⟨t.val % 16, by omega⟩ : Fin 16) (pos 2 t)
      (by show t.val = t.val / 16 * 16 + t.val % 16; omega) rfl).trans (list_slice z 2 2 rfl slices_S3x2048x256_S1x2048x256_2_0_0 _ c)

/-- The two blocks' parts of each key's gradient added. -/
def fold (w : Parts) : Lists :=
  shapeCast S3x2048x256 (addf (extractStridedSlice S3x16x128x256 ![0, 0, 128, 0] w slices_S3x16x256x256_S3x16x128x256_0_0_128_0)
    (pad S3x16x128x256 ![0, 0, 0, 0] ![0, 1, 0, 0] ![0, 0, 0, 0]
      (extractStridedSlice S3x15x128x256 ![0, 1, 0, 0] w slices_S3x16x256x256_S3x15x128x256_0_1_0_0) (sitofp .f32 (constantI S_ 32 0#32))
      pads_S3x15x128x256_S3x16x128x256_000_010_000_000 h_S_)) shapeCasts_S3x16x128x256_S3x2048x256

/-- Row `j` of block `n` takes its own block's part and the next block's. -/
theorem fold_apply (w : Parts) (g : Fin 3) (n : Fin 16) (j : Fin 128) (c : Fin 256) :
    (fold w (ix3 g (row n j) c) : EReal)
      = (w (ix4 g n (own j) c) : EReal) + (if hn : n.val + 1 < 16 then w (ix4 g ⟨n.val + 1, hn⟩ (before j) c) else 0 : EReal) := by
  unfold fold
  rw [shapeCast_apply _ shapeCasts_S3x16x128x256_S3x2048x256 (ix3 g (row n j) c) (ix4 g n j c) (by
    rw [Shape.rowMajor_val_three, Shape.rowMajor_val_four]
    show ((g.val * 16 + n.val) * 128 + j.val) * 256 + c.val = (g.val * 2048 + (n.val * 128 + j.val)) * 256 + c.val
    omega)]
  refine congrArg₂ (fun u v : EReal => u + v) (extractStridedSlice_apply _ w _ _ _ fun b => ?_) ?_
  · match b with
    | ⟨0, _⟩ => exact (Nat.zero_add _).symm
    | ⟨1, _⟩ => exact (Nat.zero_add _).symm
    | ⟨2, _⟩ => rfl
    | ⟨3, _⟩ => exact (Nat.zero_add _).symm
  · by_cases hn : n.val + 1 < 16
    · rw [dif_pos hn]
      refine (pad_apply_of_inside _ _ _ _ _ pads_S3x15x128x256_S3x16x128x256_000_010_000_000 h_S_ (ix4 g n j c)
        (ix4 g (⟨n.val, by omega⟩ : Fin 15) j c) (fun b => match b with
        | ⟨0, _⟩ => by show g.val = 0 + g.val * (0 + 1); omega
        | ⟨1, _⟩ => by show n.val = 0 + n.val * (0 + 1); omega
        | ⟨2, _⟩ => by show j.val = 0 + j.val * (0 + 1); omega
        | ⟨3, _⟩ => by show c.val = 0 + c.val * (0 + 1); omega)).trans ?_
      exact extractStridedSlice_apply _ w _ _ _ fun b => match b with
        | ⟨0, _⟩ => (Nat.zero_add _).symm
        | ⟨1, _⟩ => Nat.add_comm _ _
        | ⟨2, _⟩ => (Nat.zero_add _).symm
        | ⟨3, _⟩ => (Nat.zero_add _).symm
    · rw [dif_neg hn]
      refine (pad_apply_of_not_inside _ _ _ _ _ pads_S3x15x128x256_S3x16x128x256_000_010_000_000 h_S_ (ix4 g n j c) 1 ?_).trans
        (sitofp_zero (φ := .f32))
      show ¬(0 ≤ n.val ∧ (n.val - 0) % (0 + 1) = 0 ∧ (n.val - 0) / (0 + 1) < 15)
      omega

end Cert.Attn
-- ==== Proof.Entry.lean ====
/- The arrays the kernel's blocks are cut from, as the kernel finds them: the arguments, listed group by group. -/
module

public import proofs.«01_k».proof.Proof.Layout
public import proofs.«01_k».proof.Proof.Gen.KernelIdeal.Frame
public import Idealize.ShloMosaic.Lib.Pipeline.ValueKit
public import Idealize.ShloMosaic.Lib.StableHlo.RunRead

@[expose] public section

set_option maxRecDepth 16384

noncomputable section

namespace Cert.Attn

open Idealize.ShloMosaic hiding ix1 ix2 ix3 ix4
open Idealize.ShloMosaic.TcCoe Idealize.SL.Sem Idealize.ShloMosaic.ValueIdx Cert.KernelIdeal Cert.KernelIdeal.Gen

variable (m : (ℓ : Loc nD τ sig) → Buf (Elt Ideal) ℓ) (c : Dev nD)

/-- The queries' array. -/
theorem entry_q : V m c main_v11 = lists (m ((c : Thread nD τ).loc main_arg0)) := by
  show StableHlo.after hostOps0 _ _ = _
  after_reads_simp
  rfl

/-- The keys' array. -/
theorem entry_k : V m c main_v23 = lists (m ((c : Thread nD τ).loc main_arg1)) := by
  show StableHlo.after hostOps0 _ _ = _
  after_reads_simp
  rfl

/-- The values' array. -/
theorem entry_v : V m c main_v35 = lists (m ((c : Thread nD τ).loc main_arg2)) := by
  show StableHlo.after hostOps0 _ _ = _
  after_reads_simp
  rfl

/-- The array of the outputs' cotangents. -/
theorem entry_do : V m c main_v69 = stack (m ((c : Thread nD τ).loc main_arg3)) (m ((c : Thread nD τ).loc main_arg4)) (m ((c : Thread nD τ).loc main_arg5)) := by
  show StableHlo.after hostOps0 _ _ = _
  after_reads_simp
  rfl

/-- The array of the log-sums' cotangents. -/
theorem entry_dl : V m c main_v52 = stack (m ((c : Thread nD τ).loc main_arg6)) (m ((c : Thread nD τ).loc main_arg7)) (m ((c : Thread nD τ).loc main_arg8)) := by
  show StableHlo.after hostOps0 _ _ = _
  after_reads_simp
  rfl

/-! ## The blocks -/

/-- Where the windows stand at a point of the grid: the block of rows `n` of group `g`, and for two windows the block before it. -/
theorem places : ∀ t : Fin cfg0.N,
    win0_0.index t = ![(grid0.coords t 0).val, (grid0.coords t 1).val, 0]
    ∧ win0_1.index t = ![(grid0.coords t 0).val, (grid0.coords t 1).val - 1, 0]
    ∧ win0_2.index t = ![(grid0.coords t 0).val, (grid0.coords t 1).val, 0]
    ∧ win0_3.index t = ![(grid0.coords t 0).val, (grid0.coords t 1).val - 1, 0]
    ∧ win0_4.index t = ![(grid0.coords t 0).val, (grid0.coords t 1).val, 0]
    ∧ win0_5.index t = ![(grid0.coords t 0).val, (grid0.coords t 1).val, 0]
    ∧ win0_6.index t = ![(grid0.coords t 0).val, (grid0.coords t 1).val, 0]
    ∧ win0_7.index t = ![(grid0.coords t 0).val, (grid0.coords t 1).val, 0]
    ∧ win0_8.index t = ![(grid0.coords t 0).val, (grid0.coords t 1).val, 0, 0]
    ∧ win0_9.index t = ![(grid0.coords t 0).val, (grid0.coords t 1).val, 0, 0] :=
  (by decide +kernel : ∀ t : Fin grid0.N, _)

variable (t : Fin cfg0.N) (g : Fin 3) (n : Fin 16) (hg : (grid0.coords t 0).val = g.val) (hn : (grid0.coords t 1).val = n.val)
include hg hn

/-- The first window's block is the block's own rows of its array. -/
theorem block_0 (i : Fin 128) (l : Fin 256) : (iblk m c 0 t : Vec Ideal S1x128x256 .f32) (ix3 0 i l) = V m c main_v11 (ix3 g (row n i) l) := by
  obtain ⟨h, -⟩ := places t
  blk_ext [iblk, h, hg, hn, row]

/-- The second window's block is the rows before the block's own. -/
theorem block_1 (i : Fin 128) (l : Fin 256) : (iblk m c 1 t : Vec Ideal S1x128x256 .f32) (ix3 0 i l) = V m c main_v23 (ix3 g (keyRow n (before i)) l) := by
  obtain ⟨-, h, -⟩ := places t
  have hb : (keyRow n (before i)).val = (n.val - 1) * 128 + i.val := if_pos i.isLt
  blk_ext [iblk, h, hg, hn, hb]

/-- The third window's block is the block's own rows of its array. -/
theorem block_2 (i : Fin 128) (l : Fin 256) : (iblk m c 2 t : Vec Ideal S1x128x256 .f32) (ix3 0 i l) = V m c main_v23 (ix3 g (row n i) l) := by
  obtain ⟨-, -, h, -⟩ := places t
  blk_ext [iblk, h, hg, hn, row]

/-- The fourth window's block is the rows before the block's own. -/
theorem block_3 (i : Fin 128) (l : Fin 256) : (iblk m c 3 t : Vec Ideal S1x128x256 .f32) (ix3 0 i l) = V m c main_v35 (ix3 g (keyRow n (before i)) l) := by
  obtain ⟨-, -, -, h, -⟩ := places t
  have hb : (keyRow n (before i)).val = (n.val - 1) * 128 + i.val := if_pos i.isLt
  blk_ext [iblk, h, hg, hn, hb]

/-- The fifth window's block is the block's own rows of its array. -/
theorem block_4 (i : Fin 128) (l : Fin 256) : (iblk m c 4 t : Vec Ideal S1x128x256 .f32) (ix3 0 i l) = V m c main_v35 (ix3 g (row n i) l) := by
  obtain ⟨-, -, -, -, h, -⟩ := places t
  blk_ext [iblk, h, hg, hn, row]

/-- The sixth window's block is the block's own rows of its array. -/
theorem block_5 (i : Fin 128) (l : Fin 256) : (iblk m c 5 t : Vec Ideal S1x128x256 .f32) (ix3 0 i l) = V m c main_v69 (ix3 g (row n i) l) := by
  obtain ⟨-, -, -, -, -, h, -⟩ := places t
  blk_ext [iblk, h, hg, hn, row]

/-- The seventh window's block is the block's own rows of its array. -/
theorem block_6 (i : Fin 128) (l : Fin 256) : (iblk m c 6 t : Vec Ideal S1x128x256 .f32) (ix3 0 i l) = V m c main_v52 (ix3 g (row n i) l) := by
  obtain ⟨-, -, -, -, -, -, h, -⟩ := places t
  blk_ext [iblk, h, hg, hn, row]

end Cert.Attn
-- ==== Proof.Arrays.lean ====
/- The arrays the kernel's blocks fill: the gradient of the queries, and the blocks' parts of the gradients of the keys and values;
   and what the kernel's reading of them makes of them: the three gradients. -/
module

public import proofs.«01_k».proof.Proof.KerGrads
public import proofs.«01_k».proof.Proof.Entry

@[expose] public section

set_option maxRecDepth 16384

noncomputable section

namespace Cert.Attn

open Idealize.ShloMosaic hiding ix1 ix2 ix3 ix4
open Idealize.ShloMosaic.TcCoe Idealize.SL.Sem Idealize.ShloMosaic.ValueIdx Cert.KernelIdeal Cert.KernelIdeal.Gen

/-- The head of a lane, and its coordinate in the head. -/
def headOf (l : Fin 256) : Fin 4 := ⟨l.val / 64, by omega⟩
def coordOf (l : Fin 256) : Fin 64 := ⟨l.val % 64, by omega⟩

theorem headOf_lane (h : Fin 4) (e : Fin 64) : headOf (lane h e) = h := Fin.ext (show (h.val * 64 + e.val) / 64 = h.val by omega)
theorem coordOf_lane (h : Fin 4) (e : Fin 64) : coordOf (lane h e) = e := Fin.ext (show (h.val * 64 + e.val) % 64 = e.val by omega)

/-- The lists of the groups' query gradients. -/
def listQ (A : Args) : Lists := fun i => ((A.gradQ (i 0) (headOf (i 2)) (tok (i 0) (i 1)) (coordOf (i 2)) : ℝ) : EReal)

/-- The blocks' parts of the key gradients. -/
def partsK (A : Args) : Parts := fun i => ((A.partK (i 0) (headOf (i 3)) (i 1) (i 2) (coordOf (i 3)) : ℝ) : EReal)

/-- The blocks' parts of the value gradients. -/
def partsV (A : Args) : Parts := fun i => ((A.partV (i 0) (headOf (i 3)) (i 1) (i 2) (coordOf (i 3)) : ℝ) : EReal)

theorem listQ_apply (A : Args) (g : Fin 3) (a : Fin 2048) (h : Fin 4) (e : Fin 64) :
    listQ A (ix3 g a (lane h e)) = ((A.gradQ g h (tok g a) e : ℝ) : EReal) := by
  show ((A.gradQ g (headOf (lane h e)) (tok g a) (coordOf (lane h e)) : ℝ) : EReal) = _
  rw [headOf_lane, coordOf_lane]

theorem partsK_apply (A : Args) (g : Fin 3) (n : Fin 16) (j : Fin 256) (h : Fin 4) (e : Fin 64) :
    partsK A (ix4 g n j (lane h e)) = ((A.partK g h n j e : ℝ) : EReal) := by
  show ((A.partK g (headOf (lane h e)) n j (coordOf (lane h e)) : ℝ) : EReal) = _
  rw [headOf_lane, coordOf_lane]

theorem partsV_apply (A : Args) (g : Fin 3) (n : Fin 16) (j : Fin 256) (h : Fin 4) (e : Fin 64) :
    partsV A (ix4 g n j (lane h e)) = ((A.partV g h n j e : ℝ) : EReal) := by
  show ((A.partV g (headOf (lane h e)) n j (coordOf (lane h e)) : ℝ) : EReal) = _
  rw [headOf_lane, coordOf_lane]

/-! ## The results read off the arrays -/

/-- Every place is a row of a block. -/
theorem place_cases (a : Fin 2048) : ∃ n i, a = row n i :=
  ⟨⟨a.val / 128, by omega⟩, ⟨a.val % 128, by omega⟩, Fin.ext (by show a.val = a.val / 128 * 128 + a.val % 128; omega)⟩

theorem result_q (A : Args) (g : Fin 3) (t : Fin 2048) (h : Fin 4) (e : Fin 64) :
    unlist (listQ A) (ix2 t (wide g (lane h e))) = ((A.gradQ g h t e : ℝ) : EReal) := by
  rw [unlist_apply, listQ_apply, tok_pos]

/-- Two parts of a gradient added are real where both are. -/
theorem add_parts (p : Prop) [Decidable p] (x : ℝ) (y : p → ℝ) (y' : p → EReal) (hy : ∀ hp, y' hp = ((y hp : ℝ) : EReal)) :
    ((x : ℝ) : EReal) + (if hp : p then y' hp else 0 : EReal) = ((x + (if hp : p then y hp else 0) : ℝ) : EReal) := by
  by_cases hp : p
  · rw [dif_pos hp, dif_pos hp, hy, EReal.coe_add]
  · rw [dif_neg hp, dif_neg hp, add_zero, add_zero]

theorem result_k (A : Args) (g : Fin 3) (t : Fin 2048) (h : Fin 4) (e : Fin 64) :
    unlist (fold (partsK A)) (ix2 t (wide g (lane h e))) = ((A.gradK g h t e : ℝ) : EReal) := by
  obtain ⟨n, j, hj⟩ := place_cases (pos g t)
  rw [unlist_apply, hj]
  refine (fold_apply _ g n j (lane h e)).trans ?_
  rw [partsK_apply, add_parts _ _ (fun hn => A.partK g h ⟨n.val + 1, hn⟩ (before j) e) _ fun hn => partsK_apply A g _ _ h e,
    A.gradK_block, ← hj, tok_pos]

theorem result_v (A : Args) (g : Fin 3) (t : Fin 2048) (h : Fin 4) (e : Fin 64) :
    unlist (fold (partsV A)) (ix2 t (wide g (lane h e))) = ((A.gradV g h t e : ℝ) : EReal) := by
  obtain ⟨n, j, hj⟩ := place_cases (pos g t)
  rw [unlist_apply, hj]
  refine (fold_apply _ g n j (lane h e)).trans ?_
  rw [partsV_apply, add_parts _ _ (fun hn => A.partV g h ⟨n.val + 1, hn⟩ (before j) e) _ fun hn => partsV_apply A g _ _ h e,
    A.gradV_block, ← hj, tok_pos]

/-- Every point of the grid is a group and a block. -/
theorem coords_cases (t : Fin cfg0.N) :
    ∃ (g : Fin 3) (n : Fin 16), (grid0.coords t 0).val = g.val ∧ (grid0.coords t 1).val = n.val :=
  ⟨⟨(grid0.coords t 0).val, (grid0.coords t 0).isLt⟩, ⟨(grid0.coords t 1).val, (grid0.coords t 1).isLt⟩, rfl, rfl⟩

/-- An index of a three-axis block with a first axis of one. -/
theorem idx3 {a b : ℕ} (y : (⟨3, ![1, a, b]⟩ : Shape).Idx) : ∃ (i : Fin a) (l : Fin b), y = ix3 0 i l :=
  ⟨y 1, y 2, funext fun k => match k with
    | 0 => Fin.ext (by show (y 0).val = 0; have : (y 0).val < 1 := (y 0).isLt; omega)
    | 1 => rfl
    | 2 => rfl⟩

/-- An index of a four-axis block with two first axes of one. -/
theorem idx4 {a b : ℕ} (y : (⟨4, ![1, 1, a, b]⟩ : Shape).Idx) : ∃ (i : Fin a) (l : Fin b), y = ix4 0 0 i l :=
  ⟨y 2, y 3, funext fun k => match k with
    | 0 => Fin.ext (by show (y 0).val = 0; have : (y 0).val < 1 := (y 0).isLt; omega)
    | 1 => Fin.ext (by show (y 1).val = 0; have : (y 1).val < 1 := (y 1).isLt; omega)
    | 2 => rfl
    | 3 => rfl⟩

/-! ## The arrays after the run -/

variable (m : (ℓ : Loc nD τ sig) → Buf (Elt Ideal) ℓ) (c : Dev nD) {A : Args}
  (H : A.Reads (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)))
include H

/-- What a block loads. -/
theorem loads (t : Fin cfg0.N) (g : Fin 3) (n : Fin 16) (hg : (grid0.coords t 0).val = g.val) (hn : (grid0.coords t 1).val = n.val) :
    A.Loads g n (iblk m c 0 t) (iblk m c 1 t) (iblk m c 2 t) (iblk m c 3 t) (iblk m c 4 t) (iblk m c 5 t) (iblk m c 6 t) where
  q h i e := by
    rw [block_0 m c t g n hg hn, entry_q, lists_apply]
    exact H.q g h _ e
  kBefore h i e := by
    rw [block_1 m c t g n hg hn, entry_k, lists_apply]
    exact H.k g h _ e
  kOwn h i e := by
    rw [block_2 m c t g n hg hn, entry_k, lists_apply, keyRow_own]
    exact H.k g h _ e
  vBefore h i e := by
    rw [block_3 m c t g n hg hn, entry_v, lists_apply]
    exact H.v g h _ e
  vOwn h i e := by
    rw [block_4 m c t g n hg hn, entry_v, lists_apply, keyRow_own]
    exact H.v g h _ e
  dO h i e := by
    rw [block_5 m c t g n hg hn, entry_do, stack_apply]
    exact H.dO g h _ e
  dL h i e := by
    rw [block_6 m c t g n hg hn, entry_dl, stack_apply]
    exact H.dL g h _ e

/-- The array of the query gradients after the run. -/
theorem array_q : (dats m 0 c).arrAt 7 (cfgs 0).N = listQ A := by
  refine (dats m 0 c).arrAt_eq_of_covers 7 _ (by decide +kernel) fun t hf y => ?_
  obtain ⟨-, -, -, -, -, -, -, h, -⟩ := places t
  blk_simp
  rw [after0_7]
  obtain ⟨i, l, rfl⟩ := idx3 (a := 128) (b := 256) y
  obtain ⟨g, n, hg, hn⟩ := coords_cases t
  have hi : (win0_7.blk t).view.emb (ix3 0 i l) = ix3 g (row n i) l := by
    blk_ext [h, hg, hn, row]
  rw [hi, lane_eq l, listQ_apply]
  exact out_q (loads m c H t g n hg hn) _ hg hn _ i _

/-- The array of the parts of the key gradients after the run. -/
theorem array_k : (dats m 0 c).arrAt 8 (cfgs 0).N = partsK A := by
  refine (dats m 0 c).arrAt_eq_of_covers 8 _ (by decide +kernel) fun t hf y => ?_
  obtain ⟨-, -, -, -, -, -, -, -, h, -⟩ := places t
  blk_simp
  rw [after0_8]
  obtain ⟨j, l, rfl⟩ := idx4 (a := 256) (b := 256) y
  obtain ⟨g, n, hg, hn⟩ := coords_cases t
  have hi : (win0_8.blk t).view.emb (ix4 0 0 j l) = ix4 g n j l := by
    blk_ext [h, hg, hn]
  rw [hi, lane_eq l, partsK_apply]
  exact out_k (loads m c H t g n hg hn) _ hg hn _ j _

/-- The array of the parts of the value gradients after the run. -/
theorem array_v : (dats m 0 c).arrAt 9 (cfgs 0).N = partsV A := by
  refine (dats m 0 c).arrAt_eq_of_covers 9 _ (by decide +kernel) fun t hf y => ?_
  obtain ⟨-, -, -, -, -, -, -, -, -, h⟩ := places t
  blk_simp
  rw [after0_9]
  obtain ⟨j, l, rfl⟩ := idx4 (a := 256) (b := 256) y
  obtain ⟨g, n, hg, hn⟩ := coords_cases t
  have hi : (win0_9.blk t).view.emb (ix4 0 0 j l) = ix4 g n j l := by
    blk_ext [h, hg, hn]
  rw [hi, lane_eq l, partsV_apply]
  exact out_v (loads m c H t g n hg hn) _ hg hn _ j _

end Cert.Attn
-- ==== Proof.Results.lean ====
/- The kernel's results: what the lines after the call make of the call's arrays. -/
module

public import proofs.«01_k».proof.Proof.Arrays

@[expose] public section

set_option maxRecDepth 16384

noncomputable section

namespace Cert.Attn

open Idealize.ShloMosaic hiding ix1 ix2 ix3 ix4
open Idealize.ShloMosaic.TcCoe Idealize.SL.Sem Idealize.ShloMosaic.ValueIdx Cert.KernelIdeal Cert.KernelIdeal.Gen

variable (m : (ℓ : Loc nD τ sig) → Buf (Elt Ideal) ℓ) (c : Dev nD)

/-- The lines after the call. -/
abbrev lines : List (HloOp τ sig (Elt Ideal)) := [hostOps1, hostOps1_1, hostOps1_2, hostOps1_3, hostOps1_4].flatten

/-- The lines after the call make the first result of the call's first array. -/
theorem lines_q (W : Valuation τ sig (Elt Ideal)) :
    StableHlo.after lines W (Proc.devRef .tc main_v128) = unlist (W (Proc.devRef .tc main_v70_0)) := by
  after_reads_simp
  rfl

/-- The lines after the call make the second result of the call's second array. -/
theorem lines_k (W : Valuation τ sig (Elt Ideal)) :
    StableHlo.after lines W (Proc.devRef .tc main_v112) = unlist (fold (W (Proc.devRef .tc main_v70_1))) := by
  after_reads_simp
  rfl

/-- The lines after the call make the third result of the call's third array. -/
theorem lines_v (W : Valuation τ sig (Elt Ideal)) :
    StableHlo.after lines W (Proc.devRef .tc main_v96) = unlist (fold (W (Proc.devRef .tc main_v70_2))) := by
  after_reads_simp
  rfl

/-- The memory of a device after the lines that follow the call. -/
abbrev tail (r : Ref sig .tc) : Buf (Elt Ideal) ((c : Thread nD τ).loc r) :=
  Pipeline.afterTail₀ cfgs (dats m) 0 (V0 m) [hostOps1, hostOps1_1, hostOps1_2, hostOps1_3, hostOps1_4] c r

/-- The call's arrays as the lines that follow it find them. -/
theorem found (w : Fin 10) :
    Pipeline.withArrays spec0 c (V0 m c) (fun w => (dats m 0 c).arrAt w (cfgs 0).N) (Proc.devRef .tc (Pipeline.arrRef spec0 w))
      = (dats m 0 c).arrAt w (cfgs 0).N :=
  Pipeline.withArrays_arr_shared spec0 c (V0 m c) _
    ((dats m 0 c).arrAt_sharedIn sharedIn0 (V0 m c) (A_eq m c) (cfgs 0).N) w

theorem tail_q : tail m c main_v128 = unlist ((dats m 0 c).arrAt 7 (cfgs 0).N) :=
  (lines_q _).trans (congrArg unlist (found m c 7))

theorem tail_k : tail m c main_v112 = unlist (fold ((dats m 0 c).arrAt 8 (cfgs 0).N)) :=
  (lines_k _).trans (congrArg (fun z => unlist (fold z)) (found m c 8))

theorem tail_v : tail m c main_v96 = unlist (fold ((dats m 0 c).arrAt 9 (cfgs 0).N)) :=
  (lines_v _).trans (congrArg (fun z => unlist (fold z)) (found m c 9))

end Cert.Attn
-- ==== Proof.RefMask.lean ====
/- The mask the reference computes in 32-bit words is the window of the dilated attention. -/
module

public import proofs.«01_k».proof.Proof.Gen.ReferenceIdeal.Read
public import proofs.«01_k».proof.Proof.Tokens

@[expose] public section

noncomputable section

namespace Cert.Attn

open Idealize.ShloMosaic Idealize.ShloMosaic.ValueIdx Cert.ReferenceIdeal Cert.ReferenceIdeal.Read

/-- The reference's test of a distance in 32-bit words: not negative, at most the group's window, a multiple of its dilation. -/
def windowWord (g : Fin 3) (d : BitVec 32) : BitVec 1 :=
  IntOp.andi
    (IntOp.andi (IntOp.cmpi .sge d 0#32)
      (IntOp.cmpi .sle d (Scalar.select (IntOp.cmpi .slt (BitVec.ofNat 32 g.val) 1#32) 128#32
        (Scalar.select (IntOp.cmpi .slt (BitVec.ofNat 32 g.val) 2#32) 512#32 2048#32))))
    (IntOp.cmpi .eq
      (IntOp.remsi .host d (Scalar.select (IntOp.cmpi .slt (BitVec.ofNat 32 g.val) 1#32) 1#32
        (Scalar.select (IntOp.cmpi .slt (BitVec.ofNat 32 g.val) 2#32) 4#32 16#32))) 0#32)

theorem windowWord_nonneg : ∀ (g : Fin 3) (u : Fin 2048),
    windowWord g (BitVec.ofNat 32 u.val) = BitVec.ofBool (decide (u.val ≤ 128 * dil g ∧ u.val % dil g = 0)) := by
  decide +kernel

theorem windowWord_neg : ∀ (g : Fin 3) (u : Fin 2048), u.val ≠ 0 → windowWord g (-BitVec.ofNat 32 u.val) = 0#1 := by
  decide +kernel

/-- Of two tokens the test is the window. -/
theorem windowWord_sub (g : Fin 3) (t s : Fin 2048) :
    windowWord g (IntOp.subi (BitVec.ofNat 32 t.val) (BitVec.ofNat 32 s.val)) = BitVec.ofBool (decide (valid g t s)) := by
  have ht := t.isLt
  have hs := s.isLt
  by_cases h : s.val ≤ t.val
  · have e : IntOp.subi (BitVec.ofNat 32 t.val) (BitVec.ofNat 32 s.val) = BitVec.ofNat 32 (t.val - s.val) := by
      apply BitVec.eq_of_toNat_eq
      simp only [IntOp.subi, BitVec.toNat_sub, BitVec.toNat_ofNat]
      omega
    rw [e, windowWord_nonneg g ⟨t.val - s.val, by omega⟩]
    simp only [valid, h, true_and]
  · have e : IntOp.subi (BitVec.ofNat 32 t.val) (BitVec.ofNat 32 s.val) = -BitVec.ofNat 32 (s.val - t.val) := by
      apply BitVec.eq_of_toNat_eq
      simp only [IntOp.subi, BitVec.toNat_sub, BitVec.toNat_neg, BitVec.toNat_ofNat]
      omega
    rw [e, windowWord_neg g ⟨s.val - t.val, by omega⟩ (by show s.val - t.val ≠ 0; omega)]
    have hv : ¬ valid g t s := fun hv => h hv.1
    rw [decide_eq_false hv]
    rfl

/-- The reference's mask at a group and two tokens. -/
theorem mask_apply (g : Fin 3) (t s : Fin 2048) :
    val_main_v37 (F := Ideal) (ix3 g t s) = BitVec.ofBool (decide (valid g t s)) := by
  rw [← windowWord_sub]
  simp only [val_main_v37_apply, val_main_v33_apply, val_main_v31_apply, val_main_v32_apply, val_main_v36_apply, val_main_v34_apply,
    val_main_v11_apply, val_main_v9_apply, val_main_v10_apply, val_main_v30_apply, val_main_v29_apply, val_main_v20_apply,
    val_main_v25_apply, val_main_v28_apply, val_main_v27_apply, val_main_v16_apply, val_main_v19_apply, val_main_v18_apply,
    val_main_v8_apply, val_main_v35_apply, val_main_v12_apply, val_main_v13_apply, val_main_v14_apply, val_main_v15_apply,
    val_main_v17_apply, val_main_v21_apply, val_main_v22_apply, val_main_v23_apply, val_main_v24_apply, val_main_v26_apply,
    val_main_c_apply, val_main_c_0_apply, val_main_c_1_apply, val_main_c_2_apply, val_main_c_3_apply, val_main_c_4_apply,
    val_main_c_5_apply, val_main_c_6_apply, val_main_c_7_apply, val_main_c_8_apply, val_main_c_9_apply, val_main_c_10_apply]
  rfl

/-- The same, read at a head. -/
theorem headMask_apply (g : Fin 3) (h : Fin 4) (t s : Fin 2048) :
    val_main_v39_1 (F := Ideal) (ix4 g h t s) = BitVec.ofBool (decide (valid g t s)) := by
  rw [val_main_v39_1_apply, val_main_v38_apply, ← mask_apply]
  exact congrArg _ (eq_ix3 _)

end Cert.Attn
end
-- ==== Proof.RefRows.lean ====
/- What the reference computes: its scores, probabilities and the cotangent of its scores are the formulas. -/
module

public import proofs.«01_k».proof.Proof.RefMask
public import proofs.«01_k».proof.Proof.Inputs
public import proofs.«01_k».proof.Proof.Consts

@[expose] public section

noncomputable section

namespace Cert.Attn

open Idealize.ShloMosaic Idealize.ShloMosaic.ValueIdx Cert.ReferenceIdeal Cert.ReferenceIdeal.Read

/-- A rank-2 index is the one with its coordinates' values. -/
theorem ix2_of_val {a b : ℕ} (i : (⟨2, ![a, b]⟩ : Shape).Idx) (r : Fin a) (c : Fin b) (h0 : (i 0).val = r.val) (h1 : (i 1).val = c.val) :
    i = ix2 r c := by
  rw [eq_ix2 i]
  exact congrArg₂ ix2 (Fin.ext h0) (Fin.ext h1)

/-- A rank-4 index is the one with its coordinates' values. -/
theorem ix4_of_val {a b c d : ℕ} (i : (⟨4, ![a, b, c, d]⟩ : Shape).Idx) (i0 : Fin a) (i1 : Fin b) (i2 : Fin c) (i3 : Fin d)
    (h0 : (i 0).val = i0.val) (h1 : (i 1).val = i1.val) (h2 : (i 2).val = i2.val) (h3 : (i 3).val = i3.val) : i = ix4 i0 i1 i2 i3 := by
  rw [eq_ix4 i, show i 0 = i0 from Fin.ext h0, show i 1 = i1 from Fin.ext h1, show i 2 = i2 from Fin.ext h2, show i 3 = i3 from Fin.ext h3]
  rfl

/-- Three groups' arrays side by side. -/
theorem concat_apply (y0 y1 y2 : Group) (h : Shape.Concatenates [S2048x256, S2048x256, S2048x256] S2048x768 1) (g : Fin 3) (t : Fin 2048)
    (c : Fin 256) :
    concatenate S2048x768 1 [⟨S2048x256, y0⟩, ⟨S2048x256, y1⟩, ⟨S2048x256, y2⟩] h (ix2 t (wide g c)) = (![y0, y1, y2] g : Group) (ix2 t c) := by
  refine concatenate_ofFn_apply (s₁ := S2048x256) (t := S2048x768) 1 ![y0, y1, y2] h rfl 256 rfl (ix2 t (wide g c)) g ?_ (ix2 t c) ?_ ?_
  · show (g.val * 256 + c.val) / 256 = g.val
    omega
  · show c.val = (g.val * 256 + c.val) % 256
    omega
  · intro b hb
    match b with
    | ⟨0, _⟩ => rfl
    | ⟨1, _⟩ => exact absurd rfl hb

section

variable {A : Args} {x0 x1 x2 : Full} {x3 x4 x5 x6 x7 x8 : Group} (H : A.Reads x0 x1 x2 x3 x4 x5 x6 x7 x8)
include H

theorem ref_q (t : Fin 2048) (g : Fin 3) (h : Fin 4) (e : Fin 64) : val_main_v2 (F := Ideal) x0 (ix4 t g h e) = ((A.q g h t e : ℝ) : EReal) := by
  rw [val_main_v2_apply, ← H.q]
  refine congrArg x0 (ix2_of_val _ _ _ ?_ ?_)
  · show (((t.val * 3 + g.val) * 4 + h.val) * 64 + e.val) / 768 = t.val
    omega
  · show (((t.val * 3 + g.val) * 4 + h.val) * 64 + e.val) % 768 = g.val * 256 + (h.val * 64 + e.val)
    omega

theorem ref_k (t : Fin 2048) (g : Fin 3) (h : Fin 4) (e : Fin 64) : val_main_v3 (F := Ideal) x1 (ix4 t g h e) = ((A.k g h t e : ℝ) : EReal) := by
  rw [val_main_v3_apply, ← H.k]
  refine congrArg x1 (ix2_of_val _ _ _ ?_ ?_)
  · show (((t.val * 3 + g.val) * 4 + h.val) * 64 + e.val) / 768 = t.val
    omega
  · show (((t.val * 3 + g.val) * 4 + h.val) * 64 + e.val) % 768 = g.val * 256 + (h.val * 64 + e.val)
    omega

theorem ref_v (t : Fin 2048) (g : Fin 3) (h : Fin 4) (e : Fin 64) : val_main_v4 (F := Ideal) x2 (ix4 t g h e) = ((A.v g h t e : ℝ) : EReal) := by
  rw [val_main_v4_apply, ← H.v]
  refine congrArg x2 (ix2_of_val _ _ _ ?_ ?_)
  · show (((t.val * 3 + g.val) * 4 + h.val) * 64 + e.val) / 768 = t.val
    omega
  · show (((t.val * 3 + g.val) * 4 + h.val) * 64 + e.val) % 768 = g.val * 256 + (h.val * 64 + e.val)
    omega

theorem ref_dO (t : Fin 2048) (g : Fin 3) (h : Fin 4) (e : Fin 64) :
    val_main_v68 (F := Ideal) x3 x4 x5 (ix4 t g h e) = ((A.dO g h t e : ℝ) : EReal) := by
  rw [val_main_v68_apply, ← H.dO, ← concat_apply x3 x4 x5 Cert.ReferenceIdeal.Gen.facts.concatenates_S2048x256_S2048x256_S2048x256_S2048x768_d1]
  refine congrArg (val_main_v0 (F := Ideal) x3 x4 x5) (ix2_of_val _ _ _ ?_ ?_)
  · show (((t.val * 3 + g.val) * 4 + h.val) * 64 + e.val) / 768 = t.val
    omega
  · show (((t.val * 3 + g.val) * 4 + h.val) * 64 + e.val) % 768 = g.val * 256 + (h.val * 64 + e.val)
    omega

theorem ref_dL (t : Fin 2048) (g : Fin 3) (h : Fin 4) (e : Fin 64) :
    val_main_v67 (F := Ideal) x6 x7 x8 (ix4 t g h e) = ((A.dL g h t e : ℝ) : EReal) := by
  rw [val_main_v67_apply, ← H.dL, ← concat_apply x6 x7 x8 Cert.ReferenceIdeal.Gen.facts.concatenates_S2048x256_S2048x256_S2048x256_S2048x768_d1]
  refine congrArg (val_main_v1 (F := Ideal) x6 x7 x8) (ix2_of_val _ _ _ ?_ ?_)
  · show (((t.val * 3 + g.val) * 4 + h.val) * 64 + e.val) / 768 = t.val
    omega
  · show (((t.val * 3 + g.val) * 4 + h.val) * 64 + e.val) % 768 = g.val * 256 + (h.val * 64 + e.val)
    omega

/-- The reference's scores. -/
theorem ref_score (g : Fin 3) (h : Fin 4) (t s : Fin 2048) :
    val_main_v7 (F := Ideal) x0 x1 (ix4 g h t s) = ((A.score g h t s : ℝ) : EReal) := by
  have hs : val_main_v5 (F := Ideal) x0 x1 (ix4 g h t s) = ((∑ e, A.q g h t e * A.k g h s e : ℝ) : EReal) := by
    rw [val_main_v5_apply]
    exact sum_mul_coe _ _ (fun e => A.q g h t e) (fun e => A.k g h s e) (fun e => (congrArg _ (eq_ix4 _)).trans (ref_q H t g h e))
      (fun e => (congrArg _ (eq_ix4 _)).trans (ref_k H s g h e))
  rw [val_main_v7_apply, hs, val_main_v6_apply, val_main_cst_apply]
  exact (congrArg (fun z : EReal => _ * z) ofBits_eighth).trans (EReal.coe_mul _ _).symm

/-- The reference's masked scores. -/
theorem ref_masked (g : Fin 3) (h : Fin 4) (t s : Fin 2048) :
    val_main_v39_0 (F := Ideal) x0 x1 (ix4 g h t s) = masked (valid g t) (A.score g h t) s := by
  rw [val_main_v39_0_apply, headMask_apply, select_ofBool, ref_score H, val_main_call0_v2_apply, val_main_call0_v0_apply,
    val_main_cst_11_apply]
  unfold masked
  split
  · rfl
  · exact ofBits_neg_inf

/-- The reference's row maximum. -/
theorem ref_max (g : Fin 3) (h : Fin 4) (t : Fin 2048) :
    val_main_v40 (F := Ideal) x0 x1 (ix3 g h t) = (Finset.univ : Finset (Fin 2048)).fold max ⊥ (masked (valid g t) (A.score g h t)) := by
  unfold val_main_v40
  have hr : Shape.Reduces S3x4x2048x2048 [3] S3x4x2048 := by decide
  refine (Host.reduce_eq_fold_single (α := EReal) max _ _ _ hr _ _).trans ?_
  rw [show (val_main_cst_12 (F := Ideal)) (Shape.Idx.first Cert.ReferenceIdeal.Gen.facts.h_S_) = (⊥ : EReal) from ofBits_neg_inf]
  refine congrArg (fun f : Fin 2048 → EReal => (Finset.univ : Finset (Fin 2048)).fold max ⊥ f) (funext fun s => ?_)
  refine Eq.trans ?_ (ref_masked H g h t s)
  exact congrArg (val_main_v39_0 (F := Ideal) x0 x1) (ix4_of_val _ _ _ _ _ rfl rfl rfl rfl)

/-- The reference's weights: the exponentials of the scores less the row's maximum, which is some real number. -/
theorem ref_weight (g : Fin 3) (h : Fin 4) (t : Fin 2048) : ∃ μ : ℝ,
    (∃ s, valid g t s ∧ A.score g h t s = μ)
    ∧ (val_main_v40 (F := Ideal) x0 x1 (ix3 g h t) = (μ : EReal))
    ∧ (∀ s, val_main_v49 (F := Ideal) x0 x1 (ix4 g h t s) = ((weight (valid g t) (fun s => A.score g h t s - μ) s : ℝ) : EReal))
    ∧ val_main_v51 (F := Ideal) x0 x1 (ix4 g h t 0)
        = ((∑ s, weight (valid g t) (fun s => A.score g h t s - μ) s : ℝ) : EReal) := by
  obtain ⟨k, hk, hm⟩ := fold_max_masked (valid g t) (A.score g h t) (valid_self g t)
  have hmax : val_main_v40 (F := Ideal) x0 x1 (ix3 g h t) = ((A.score g h t k : ℝ) : EReal) := (ref_max H g h t).trans hm
  have hw : ∀ s, val_main_v49 (F := Ideal) x0 x1 (ix4 g h t s)
      = ((weight (valid g t) (fun s => A.score g h t s - A.score g h t k) s : ℝ) : EReal) := fun s => by
    rw [val_main_v49_apply, val_main_v48_apply, val_main_v47_apply, val_main_v46_apply, ref_masked H,
      show val_main_v40 (F := Ideal) x0 x1 (idx_main_v46 (idx_main_v47 (ix4 g h t s))) = _ from
        (congrArg _ (eq_ix3 _)).trans hmax]
    exact exp_masked _ _ _ _
  refine ⟨_, ⟨k, hk, rfl⟩, hmax, hw, ?_⟩
  rw [val_main_v51_apply, val_main_v50_apply, val_main_cst_14_apply, ← coe_sum]
  refine (congrArg (fun z : EReal => z + _) Ideal.ofBits_zero_f32).trans ((zero_add _).trans (Finset.sum_congr rfl fun s _ => ?_))
  exact (congrArg _ (eq_ix4 _)).trans (hw s)

/-- The reference's probabilities. -/
theorem ref_prob (g : Fin 3) (h : Fin 4) (t s : Fin 2048) :
    val_main_v53 (F := Ideal) x0 x1 (ix4 g h t s) = ((A.prob g h t s : ℝ) : EReal) := by
  obtain ⟨μ, -, -, hw, hl⟩ := ref_weight H g h t
  rw [val_main_v53_apply, hw, val_main_v52_apply,
    show val_main_v51 (F := Ideal) x0 x1 (idx_main_v52 (ix4 g h t s)) = _ from (congrArg _ (eq_ix4 _)).trans hl]
  refine (div_real _ (weight_sum_pos _ _ (valid_self g t)).ne').trans (congrArg _ ?_)
  exact soft_shift (valid g t) (A.score g h t) μ s

/-- The reference's cotangents of the probabilities. -/
theorem ref_dprob (g : Fin 3) (h : Fin 4) (t s : Fin 2048) :
    val_main_v76 (F := Ideal) x2 x3 x4 x5 (ix4 g h t s) = ((A.dprob g h t s : ℝ) : EReal) := by
  rw [val_main_v76_apply]
  refine sum_mul_coe _ _ (fun e => A.dO g h t e) (fun e => A.v g h s e) (fun e => ?_) (fun e => ?_)
  · rw [val_main_v75_apply]
    exact (congrArg _ (eq_ix4 _)).trans (ref_dO H t g h e)
  · exact (congrArg _ (eq_ix4 _)).trans (ref_v H s g h e)

/-- The reference's cotangents of the log-sum-exp. -/
theorem ref_dlse (g : Fin 3) (h : Fin 4) (t : Fin 2048) :
    val_main_v73 (F := Ideal) x6 x7 x8 (ix4 g h t 0) = ((A.dlse g h t : ℝ) : EReal) := by
  rw [val_main_v73_apply, val_main_v72_apply, val_main_v71_apply, val_main_cst_17_apply]
  refine (congrArg (fun z : EReal => z + _) Ideal.ofBits_zero_f32).trans ((zero_add _).trans ?_)
  rw [Fin.sum_univ_one, val_main_v70_apply, val_main_v69_apply, val_main_cst_16_apply]
  refine (congrArg (fun z : EReal => z + _) Ideal.ofBits_zero_f32).trans ((zero_add _).trans ?_)
  rw [Args.dlse, ← coe_sum]
  exact Finset.sum_congr rfl fun e _ => (congrArg _ (eq_ix4 _)).trans (ref_dL H t g h e)

/-- What the reference's derivative sends to the scores through the exponentials. -/
theorem ref_through_exp (g : Fin 3) (h : Fin 4) (t s : Fin 2048) :
    val_main_v91 (F := Ideal) x0 x1 x2 x3 x4 x5 x6 x7 x8 (ix4 g h t s)
      = ((dscore (A.prob g h t) (A.dprob g h t) (A.dlse g h t) s : ℝ) : EReal) := by
  obtain ⟨μ, -, -, hw, hl⟩ := ref_weight H g h t
  have hl0 := (weight_sum_pos (valid g t) (fun s => A.score g h t s - μ) (valid_self g t)).ne'
  have hp : ∀ s, A.prob g h t s = weight (valid g t) (fun s => A.score g h t s - μ) s
      / ∑ s, weight (valid g t) (fun s => A.score g h t s - μ) s := fun s => (soft_shift (valid g t) (A.score g h t) μ s).symm
  rw [show A.prob g h t = _ from funext hp]
  refine Eq.trans ?_ (through_exp _ (A.dprob g h t) (A.dlse g h t) _ hl0 s)
  have hl' : ∀ i : S3x4x2048x1.Idx, i = ix4 g h t 0 → val_main_v51 (F := Ideal) x0 x1 i = _ := fun i hi => hi ▸ hl
  rw [val_main_v91_apply, val_main_v90_apply, val_main_v87_apply, ref_dprob H, val_main_v86_apply, hl' _ (eq_ix4 _), val_main_v89_apply,
    val_main_v88_apply, val_main_cst_19_apply, Fin.sum_univ_one, hw]
  refine congrArg₂ (fun a b : EReal => a * b) (congrArg₂ (fun a b : EReal => a + b) rfl ?_) rfl
  refine (congrArg (fun z : EReal => z + _) Ideal.ofBits_zero_f32).trans ((zero_add _).trans ?_)
  rw [val_main_v85_apply, val_main_v74_apply, hl' _ (eq_ix4 _), val_main_v84_apply, val_main_v83_apply, val_main_v82_apply,
    val_main_cst_18_apply,
    show val_main_v73 (F := Ideal) x6 x7 x8 _ = _ from (congrArg _ (eq_ix4 _)).trans (ref_dlse H g h t)]
  refine congrArg₂ (fun a b : EReal => a + -b) rfl ?_
  refine (congrArg (fun z : EReal => z + _) Ideal.ofBits_zero_f32).trans ((zero_add _).trans (Finset.sum_congr rfl fun j _ => ?_))
  refine (congrArg (val_main_v81 (F := Ideal) x0 x1 x2 x3 x4 x5)
    (ix4_of_val _ g h t j ?_ ?_ ?_ rfl)).trans ?_
  · show (((g.val * 4 + h.val) * 2048 + t.val) * 1 + 0) / 8192 = g.val
    omega
  · show (((g.val * 4 + h.val) * 2048 + t.val) * 1 + 0) / 2048 % 4 = h.val
    omega
  · show (((g.val * 4 + h.val) * 2048 + t.val) * 1 + 0) % 2048 = t.val
    omega
  rw [val_main_v81_apply, val_main_v80_apply, ref_dprob H, hw, val_main_v79_apply, val_main_v56_apply, val_main_v55_apply,
    val_main_cst_15_apply, val_main_v54_apply, hl' _ (eq_ix4 _)]
  exact congrArg₂ (fun a b : EReal => a * b) (congrArg₂ (fun a b : EReal => a * b) rfl
    (congrArg₂ Ideal.div Ideal.ofBits_one_f32 rfl)) rfl

end

end Cert.Attn
end
-- ==== Proof.RefGrads.lean ====
/- The gradients the reference computes. -/
module

public import proofs.«01_k».proof.Proof.RefRows

@[expose] public section

noncomputable section

namespace Cert.Attn

open Idealize.ShloMosaic Idealize.ShloMosaic.ValueIdx Cert.ReferenceIdeal Cert.ReferenceIdeal.Read

variable {A : Args} {x0 x1 x2 : Full} {x3 x4 x5 x6 x7 x8 : Group} (H : A.Reads x0 x1 x2 x3 x4 x5 x6 x7 x8)

/-- Which coordinates a rank-4 index with a last axis of length one has after that axis is dropped. -/
theorem ix3_of_ix4 (i : S3x4x2048.Idx) (g : Fin 3) (h : Fin 4) (t : Fin 2048)
    (h0 : (i 0).val = (((g.val * 4 + h.val) * 2048 + t.val) * 1 + 0) / 8192)
    (h1 : (i 1).val = (((g.val * 4 + h.val) * 2048 + t.val) * 1 + 0) / 2048 % 4)
    (h2 : (i 2).val = (((g.val * 4 + h.val) * 2048 + t.val) * 1 + 0) % 2048) : i = ix3 g h t := by
  rw [eq_ix3 i, show i 0 = g from Fin.ext (by rw [h0]; omega), show i 1 = h from Fin.ext (by rw [h1]; omega),
    show i 2 = t from Fin.ext (by rw [h2]; omega)]
  rfl

section
include H

/-- The number of keys whose score is the row's maximum is not zero. -/
theorem ref_count (g : Fin 3) (h : Fin 4) (t : Fin 2048) : val_main_v45 (F := Ideal) x0 x1 (ix3 g h t) ≠ 0 := by
  obtain ⟨μ, ⟨k, hk, hs⟩, hm, -, -⟩ := ref_weight H g h t
  have h44 : ∀ s, val_main_v44 (F := Ideal) x0 x1 (ix4 g h t s)
      = (((Ideal.cmp .oeq (masked (valid g t) (A.score g h t) s) (μ : EReal)).toNat : ℝ) : EReal) := fun s => by
    rw [val_main_v44_apply, val_main_v43_apply, ref_masked H, val_main_v42_apply, val_main_v41_apply,
      show val_main_v40 (F := Ideal) x0 x1 (idx_main_v41 (idx_main_v42 (ix4 g h t s))) = _ from
        (congrArg _ (ix3_of_ix4 _ g h t rfl rfl rfl)).trans hm]
    rfl
  have h1 : (1 : EReal) ≤ ∑ s, val_main_v44 (F := Ideal) x0 x1 (ix4 g h t s) := by
    refine le_trans ?_ (Finset.single_le_sum (fun s _ => ?_) (Finset.mem_univ k))
    · rw [h44, masked, if_pos hk, hs]
      simp [Ideal.cmp]
    · show (0 : EReal) ≤ val_main_v44 (F := Ideal) x0 x1 (ix4 g h t s)
      rw [h44]
      exact EReal.coe_nonneg.2 (Nat.cast_nonneg _)
  have h2 : val_main_v45 (F := Ideal) x0 x1 (ix3 g h t) = ∑ s, val_main_v44 (F := Ideal) x0 x1 (ix4 g h t s) := by
    rw [val_main_v45_apply, val_main_cst_13_apply]
    refine (congrArg (fun z : EReal => z + _) Ideal.ofBits_zero_f32).trans ((zero_add _).trans (Finset.sum_congr rfl fun s _ => ?_))
    exact congrArg _ (eq_ix4 _)
  rw [h2]
  exact (lt_of_lt_of_le (by exact_mod_cast one_pos) h1).ne'

/-- Nothing flows through the row's maximum. -/
theorem ref_through_max (g : Fin 3) (h : Fin 4) (t s : Fin 2048) :
    val_main_v99 (F := Ideal) x0 x1 x2 x3 x4 x5 x6 x7 x8 (ix4 g h t s) = (0 : EReal) := by
  have h94 : ∀ i : S3x4x2048x1.Idx, i = ix4 g h t 0 → val_main_v95 (F := Ideal) x0 x1 x2 x3 x4 x5 x6 x7 x8 i = (0 : EReal) := by
    rintro _ rfl
    rw [val_main_v95_apply, ref_dlse H, val_main_v94_apply, ix3_of_ix4 (idx_main_v94 (ix4 g h t 0)) g h t rfl rfl rfl, val_main_v93_apply,
      val_main_cst_20_apply]
    refine Eq.trans ?_ (through_max (A.prob g h t) (A.dprob g h t) (A.dlse g h t) (soft_sum _ _ (valid_self g t)))
    refine congrArg₂ (fun a b : EReal => a + b) rfl ?_
    refine (congrArg (fun z : EReal => z + _) Ideal.ofBits_zero_f32).trans ((zero_add _).trans (Finset.sum_congr rfl fun s _ => ?_))
    rw [val_main_v92_apply, eq_ix4 (idx_main_v93 (ix3 g h t) s)]
    exact congrArg (fun z : EReal => -z) (ref_through_exp H g h t s)
  have h97 : val_main_v97 (F := Ideal) x0 x1 x2 x3 x4 x5 x6 x7 x8 (ix3 g h t) = (0 : EReal) := by
    have h96 : val_main_v96 (F := Ideal) x0 x1 x2 x3 x4 x5 x6 x7 x8 (ix3 g h t) = (0 : EReal) := by
      rw [val_main_v96_apply, val_main_cst_21_apply, Fin.sum_univ_one, h94 _ (eq_ix4 _)]
      exact (add_zero _).trans Ideal.ofBits_zero_f32
    rw [val_main_v97_apply, h96]
    show Ideal.div 0 _ = 0
    rw [Ideal.div, if_neg (ref_count H g h t), zero_mul]
  rw [val_main_v99_apply, val_main_v98_apply, eq_ix3 (idx_main_v98 (ix4 g h t s))]
  exact (congrArg (fun z : EReal => z * _) h97).trans (zero_mul _)

/-- The reference's cotangents of the products of queries and keys. -/
theorem ref_ds (g : Fin 3) (h : Fin 4) (t s : Fin 2048) :
    val_main_v103 (F := Ideal) x0 x1 x2 x3 x4 x5 x6 x7 x8 (ix4 g h t s) = ((A.ds g h t s : ℝ) : EReal) := by
  have h101 : val_main_v101 (F := Ideal) x0 x1 x2 x3 x4 x5 x6 x7 x8 (ix4 g h t s)
      = ((dscore (A.prob g h t) (A.dprob g h t) (A.dlse g h t) s : ℝ) : EReal) := by
    rw [val_main_v101_apply, headMask_apply, select_ofBool, val_main_v100_apply, ref_through_exp H, ref_through_max H]
    split
    · exact add_zero _
    · next hv =>
      rw [dscore, A.prob_of_not g h hv, zero_mul, val_main_call1_v0_apply, val_main_call1_cst_apply]
      exact Ideal.ofBits_zero_f32
  rw [val_main_v103_apply, h101, val_main_v102_apply, val_main_cst_22_apply, Args.ds, EReal.coe_mul, ← ofBits_eighth]
  rfl

/-- The reference's gradient of the queries. -/
theorem ref_gradQ (t : Fin 2048) (g : Fin 3) (h : Fin 4) (e : Fin 64) :
    val_main_v110 (F := Ideal) x0 x1 x2 x3 x4 x5 x6 x7 x8 (ix2 t (wide g (lane h e))) = ((A.gradQ g h t e : ℝ) : EReal) := by
  rw [val_main_v110_apply, ix4_of_val (idx_main_v110 (ix2 t (wide g (lane h e)))) t g h e ?_ ?_ ?_ ?_, val_main_v107_apply,
    ix4_of_val (idx_main_v107 (ix4 t g h e)) g h t e rfl rfl rfl rfl, val_main_v106_apply]
  · exact sum_mul_coe _ _ (fun s => A.ds g h t s) (fun s => A.k g h s e) (fun s => (congrArg _ (eq_ix4 _)).trans (ref_ds H g h t s))
      (fun s => (congrArg _ (eq_ix4 _)).trans (ref_k H s g h e))
  · show (t.val * 768 + (g.val * 256 + (h.val * 64 + e.val))) / 768 = t.val
    omega
  · show (t.val * 768 + (g.val * 256 + (h.val * 64 + e.val))) / 256 % 3 = g.val
    omega
  · show (t.val * 768 + (g.val * 256 + (h.val * 64 + e.val))) / 64 % 4 = h.val
    omega
  · show (t.val * 768 + (g.val * 256 + (h.val * 64 + e.val))) % 64 = e.val
    omega

/-- The reference's gradient of the keys. -/
theorem ref_gradK (s : Fin 2048) (g : Fin 3) (h : Fin 4) (e : Fin 64) :
    val_main_v109 (F := Ideal) x0 x1 x2 x3 x4 x5 x6 x7 x8 (ix2 s (wide g (lane h e))) = ((A.gradK g h s e : ℝ) : EReal) := by
  rw [val_main_v109_apply, ix4_of_val (idx_main_v109 (ix2 s (wide g (lane h e)))) s g h e ?_ ?_ ?_ ?_, val_main_v105_apply,
    ix4_of_val (idx_main_v105 (ix4 s g h e)) g h s e rfl rfl rfl rfl, val_main_v104_apply]
  · exact sum_mul_coe _ _ (fun t => A.ds g h t s) (fun t => A.q g h t e) (fun t => (congrArg _ (eq_ix4 _)).trans (ref_ds H g h t s))
      (fun t => (congrArg _ (eq_ix4 _)).trans (ref_q H t g h e))
  · show (s.val * 768 + (g.val * 256 + (h.val * 64 + e.val))) / 768 = s.val
    omega
  · show (s.val * 768 + (g.val * 256 + (h.val * 64 + e.val))) / 256 % 3 = g.val
    omega
  · show (s.val * 768 + (g.val * 256 + (h.val * 64 + e.val))) / 64 % 4 = h.val
    omega
  · show (s.val * 768 + (g.val * 256 + (h.val * 64 + e.val))) % 64 = e.val
    omega

/-- The reference's gradient of the values. -/
theorem ref_gradV (s : Fin 2048) (g : Fin 3) (h : Fin 4) (e : Fin 64) :
    val_main_v108 (F := Ideal) x0 x1 x3 x4 x5 (ix2 s (wide g (lane h e))) = ((A.gradV g h s e : ℝ) : EReal) := by
  rw [val_main_v108_apply, ix4_of_val (idx_main_v108 (ix2 s (wide g (lane h e)))) s g h e ?_ ?_ ?_ ?_, val_main_v78_apply,
    ix4_of_val (idx_main_v78 (ix4 s g h e)) g h e s rfl rfl rfl rfl, val_main_v77_apply]
  · refine (sum_mul_coe _ _ (fun t => A.dO g h t e) (fun t => A.prob g h t s) (fun t => ?_)
      (fun t => (congrArg _ (eq_ix4 _)).trans (ref_prob H g h t s))).trans (congrArg _ (Finset.sum_congr rfl fun t _ => mul_comm _ _))
    rw [val_main_v75_apply]
    exact (congrArg _ (eq_ix4 _)).trans (ref_dO H t g h e)
  · show (s.val * 768 + (g.val * 256 + (h.val * 64 + e.val))) / 768 = s.val
    omega
  · show (s.val * 768 + (g.val * 256 + (h.val * 64 + e.val))) / 256 % 3 = g.val
    omega
  · show (s.val * 768 + (g.val * 256 + (h.val * 64 + e.val))) / 64 % 4 = h.val
    omega
  · show (s.val * 768 + (g.val * 256 + (h.val * 64 + e.val))) % 64 = e.val
    omega

end

end Cert.Attn

end
-- ==== Proof.Finite.lean ====
/- The precondition read: every element of the arguments is a real number. -/
module

public import proofs.«01_k».proof.Proof.Inputs
public import proofs.«01_k».proof.Proof.Consts
public import proofs.«01_k».proof.Pre_finite
public import Idealize.ShloMosaic.Lib.Pipeline.Value

@[expose] public section

set_option maxRecDepth 16384

noncomputable section

namespace Cert.Attn

open Idealize.ShloMosaic Idealize.ShloMosaic.ValueIdx Cert.Pre_finite

instance finiteFacts : Cert.Pre_finite.Facts where
  concatenates_S2048x768_S2048x768_S2048x768_S2048x256_S2048x256_S2048x256_S2048x256_S2048x256_S2048x256_S2048x3840_d1 := by decide
  bcast_S_S2048x3840 := by decide

/-- An extended real whose absolute value is below infinity is real. -/
theorem real_of_abs_lt (x : EReal) (h : max x (-x) < ⊤) : ∃ r : ℝ, x = r := by
  induction x with
  | bot => exact absurd h (by simp)
  | coe r => exact ⟨r, rfl⟩
  | top => exact absurd h (by simp)

/-- Where the elements of arrays side by side are real, so are each array's. -/
theorem real_of_piece (xs : List ((s : Shape) × (s.Idx → EReal))) (h : Shape.Concatenates (xs.map (·.1)) S2048x3840 1)
    (H : ∀ j, ∃ r : ℝ, concatenate S2048x3840 1 xs h j = r)
    (k : ℕ) (hk : k < xs.length) (w : ℕ) (x : (⟨2, ![2048, w]⟩ : Shape).Idx → EReal) (hx : xs[k] = ⟨⟨2, ![2048, w]⟩, x⟩) (before : ℕ)
    (hb : (((xs.take k).map (·.1)).map fun s : Shape => if h : s.rank = 2 then s.size ((1 : Fin 2).cast h.symm) else 0).sum = before)
    (hw : before + w ≤ 3840) (i : (⟨2, ![2048, w]⟩ : Shape).Idx) : ∃ r : ℝ, x i = r := by
  have h1 : (i 1).val < w := (i 1).isLt
  obtain ⟨r, hr⟩ := H (ix2 (i 0) ⟨before + (i 1).val, by omega⟩)
  refine ⟨r, Eq.trans (Eq.symm ?_) hr⟩
  refine concatenate_apply_piece (t := S2048x3840) 1 xs h _ k hk _ x hx rfl before hb i (fun b hb' => ?_) rfl
  match b with
  | 0 => rfl
  | 1 => exact absurd rfl hb'

/-- Where the precondition holds every element of the arguments is real. -/
theorem finite_reals (x0 x1 x2 : FVec Ideal S2048x768 .f32) (x3 x4 x5 x6 x7 x8 : FVec Ideal S2048x256 .f32)
    (h : Cert.Pre_finite.fn (F := Ideal) x0 x1 x2 x3 x4 x5 x6 x7 x8 = fun _ => 1#1) :
    (∀ i, ∃ r : ℝ, x0 i = r) ∧ (∀ i, ∃ r : ℝ, x1 i = r) ∧ (∀ i, ∃ r : ℝ, x2 i = r) ∧ (∀ i, ∃ r : ℝ, x3 i = r)
      ∧ (∀ i, ∃ r : ℝ, x4 i = r) ∧ (∀ i, ∃ r : ℝ, x5 i = r) ∧ (∀ i, ∃ r : ℝ, x6 i = r) ∧ (∀ i, ∃ r : ℝ, x7 i = r)
      ∧ (∀ i, ∃ r : ℝ, x8 i = r) := by
  have H : ∀ j, ∃ r : ℝ, concatenate S2048x3840 1 [⟨S2048x768, x0⟩, ⟨S2048x768, x1⟩, ⟨S2048x768, x2⟩, ⟨S2048x256, x3⟩,
      ⟨S2048x256, x4⟩, ⟨S2048x256, x5⟩, ⟨S2048x256, x6⟩, ⟨S2048x256, x7⟩, ⟨S2048x256, x8⟩]
      Facts.concatenates_S2048x768_S2048x768_S2048x768_S2048x256_S2048x256_S2048x256_S2048x256_S2048x256_S2048x256_S2048x3840_d1 j = r := by
    intro j
    have hj := congrFun h j
    refine real_of_abs_lt _ ?_
    by_contra hlt
    have hlt' := hlt
    rw [← ofBits_inf] at hlt'
    have : (0 : BitVec 1) = 1#1 := Eq.trans (Eq.symm ?_) hj
    · exact absurd this (by decide)
    · exact congrArg BitVec.ofBool (decide_eq_false hlt')
  exact ⟨real_of_piece _ _ H 0 (by simp) 768 x0 rfl 0 rfl (by decide), real_of_piece _ _ H 1 (by simp) 768 x1 rfl 768 rfl (by decide),
    real_of_piece _ _ H 2 (by simp) 768 x2 rfl 1536 rfl (by decide), real_of_piece _ _ H 3 (by simp) 256 x3 rfl 2304 rfl (by decide),
    real_of_piece _ _ H 4 (by simp) 256 x4 rfl 2560 rfl (by decide), real_of_piece _ _ H 5 (by simp) 256 x5 rfl 2816 rfl (by decide),
    real_of_piece _ _ H 6 (by simp) 256 x6 rfl 3072 rfl (by decide), real_of_piece _ _ H 7 (by simp) 256 x7 rfl 3328 rfl (by decide),
    real_of_piece _ _ H 8 (by simp) 256 x8 rfl 3584 rfl (by decide)⟩

end Cert.Attn
-- ==== Proof.Equation.lean ====
/- The equation: where the arguments are real the kernel's three results are the reference's. -/
module

public import proofs.«01_k».proof.Proof.Results
public import proofs.«01_k».proof.Proof.RefGrads
public import proofs.«01_k».proof.Proof.Finite

@[expose] public section

set_option maxRecDepth 16384

noncomputable section

namespace Cert.Attn

open Idealize.ShloMosaic hiding ix1 ix2 ix3 ix4
open Idealize.ShloMosaic.TcCoe Idealize.SL.Sem Idealize.ShloMosaic.ValueIdx Cert.KernelIdeal Cert.KernelIdeal.Gen

/-- Two arrays are equal where they are at every lane of every group's heads. -/
theorem full_ext (x y : Full) (h : ∀ (t : Fin 2048) (g : Fin 3) (h : Fin 4) (e : Fin 64),
    x (ix2 t (wide g (lane h e))) = y (ix2 t (wide g (lane h e)))) : x = y := by
  funext i
  have hi : i = ix2 (i 0) (i 1) := ValueIdx.eq_ix2 i
  rw [hi, wide_eq (i 1), lane_eq ⟨(i 1).val % 256, _⟩]
  exact h _ _ _ _

variable (m : (ℓ : Loc nD τ sig) → Buf (Elt Ideal) ℓ) (c : Dev nD) {A : Args}
  (H : A.Reads (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)))
include H

/-- The first result: the gradient of the queries. -/
theorem equation_q : tail m c main_v128 = Cert.ReferenceIdeal.Read.val_main_v110 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) := by
  rw [tail_q, array_q m c H]
  exact full_ext _ _ fun t g h e => (result_q A g t h e).trans (ref_gradQ H t g h e).symm

/-- The second result: the gradient of the keys. -/
theorem equation_k : tail m c main_v112 = Cert.ReferenceIdeal.Read.val_main_v109 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) := by
  rw [tail_k, array_k m c H]
  exact full_ext _ _ fun t g h e => (result_k A g t h e).trans (ref_gradK H t g h e).symm

/-- The third result: the gradient of the values. -/
theorem equation_v : tail m c main_v96 = Cert.ReferenceIdeal.Read.val_main_v108 (F := Ideal)
    (m ((c : Thread nD τ).loc main_arg0)) (m ((c : Thread nD τ).loc main_arg1))
    (m ((c : Thread nD τ).loc main_arg3)) (m ((c : Thread nD τ).loc main_arg4)) (m ((c : Thread nD τ).loc main_arg5)) := by
  rw [tail_v, array_v m c H]
  exact full_ext _ _ fun t g h e => (result_v A g t h e).trans (ref_gradV H t g h e).symm

end Cert.Attn
-- ==== Proof.FfnSpec.lean ====
/- The gated feed-forward layer and its gradient as formulas over the reals: the normalised rows, the two projections, the gate,
   the layer's output, and the gradients of the layer's input, gain and weights. Nothing here knows of a program. -/
module

public import proofs.«01_k».proof.Proof.Rows

@[expose] public section

noncomputable section

namespace Cert.Ffn

/-- One real number per token and lane, and one per hidden unit and lane. -/
abbrev Tokens := Fin 2048 → Fin 1024 → ℝ
abbrev Weights := Fin 2816 → Fin 1024 → ℝ

/-- The layer's arguments over the reals, and the cotangent of its output. Each weight is listed by hidden unit. -/
structure Args where
  x : Tokens
  gain : Fin 1024 → ℝ
  wg : Weights
  wu : Weights
  wd : Weights
  dy : Tokens

/-- The constant under the square root. -/
def eps : ℝ := 8796093 / 8796093022208

theorem eps_pos : 0 < eps := by unfold eps; norm_num

/-- The logistic function, and a number times its logistic. -/
def sgm (z : ℝ) : ℝ := (1 + Real.exp (-z))⁻¹
def silu (z : ℝ) : ℝ := z * sgm z

namespace Args

variable (A : Args)

/-- The mean square of a token's row, and the reciprocal of its root. -/
def ms (t : Fin 2048) : ℝ := (∑ d, A.x t d * A.x t d) / 1024 + eps
def scale (t : Fin 2048) : ℝ := (Real.sqrt (A.ms t))⁻¹
/-- The normalised row, before and after the gain. -/
def xhat (t : Fin 2048) (d : Fin 1024) : ℝ := A.x t d * A.scale t
def h (t : Fin 2048) (d : Fin 1024) : ℝ := A.xhat t d * A.gain d
/-- The two projections and the gated product. -/
def g (t : Fin 2048) (f : Fin 2816) : ℝ := ∑ d, A.h t d * A.wg f d
def u (t : Fin 2048) (f : Fin 2816) : ℝ := ∑ d, A.h t d * A.wu f d
def a (t : Fin 2048) (f : Fin 2816) : ℝ := silu (A.g t f) * A.u t f
/-- The layer's output. -/
def out (t : Fin 2048) (d : Fin 1024) : ℝ := A.x t d + 1 / 2 * ∑ f, A.a t f * A.wd f d

/-- The cotangent of the product with the last weight, of the gated product, and of the two projections. -/
def dyh (t : Fin 2048) (d : Fin 1024) : ℝ := 1 / 2 * A.dy t d
def da (t : Fin 2048) (f : Fin 2816) : ℝ := ∑ d, A.dyh t d * A.wd f d
def dg (t : Fin 2048) (f : Fin 2816) : ℝ :=
  A.da t f * A.u t f * (sgm (A.g t f) + silu (A.g t f) * (1 - sgm (A.g t f)))
def du (t : Fin 2048) (f : Fin 2816) : ℝ := A.da t f * silu (A.g t f)
/-- The cotangent of the normalised row, after and before the gain. -/
def dh (t : Fin 2048) (d : Fin 1024) : ℝ := ∑ f, (A.dg t f * A.wg f d + A.du t f * A.wu f d)
def dxhat (t : Fin 2048) (d : Fin 1024) : ℝ := A.dh t d * A.gain d
/-- The gradients of the input, the gain and the three weights. -/
def dx (t : Fin 2048) (d : Fin 1024) : ℝ :=
  A.dy t d + A.scale t * (A.dxhat t d - A.xhat t d * ((∑ e, A.dxhat t e * A.xhat t e) / 1024))
def dgain (d : Fin 1024) : ℝ := ∑ t, A.dh t d * A.xhat t d
def dwg (f : Fin 2816) (d : Fin 1024) : ℝ := ∑ t, A.dg t f * A.h t d
def dwu (f : Fin 2816) (d : Fin 1024) : ℝ := ∑ t, A.du t f * A.h t d
def dwd (f : Fin 2816) (d : Fin 1024) : ℝ := ∑ t, A.a t f * A.dyh t d

theorem ms_pos (t : Fin 2048) : 0 < A.ms t :=
  add_pos_of_nonneg_of_pos (div_nonneg (Finset.sum_nonneg fun d _ => mul_self_nonneg _) (by norm_num)) eps_pos

/-- The square of the scale is the reciprocal of the mean square. -/
theorem scale_sq (t : Fin 2048) : A.scale t * A.scale t = 1 / A.ms t := by
  rw [scale, ← mul_inv, Real.mul_self_sqrt (A.ms_pos t).le, one_div]

end Args

/-! ## The hidden units by chunk, the tokens by tile -/

/-- Hidden unit `k` of chunk `j`. -/
def hid (j : Fin 11) (k : Fin 256) : Fin 2816 := ⟨j.val * 256 + k.val, by omega⟩

/-- Every hidden unit is a chunk's. -/
theorem hid_cases (f : Fin 2816) : ∃ j k, f = hid j k :=
  ⟨⟨f.val / 256, by omega⟩, ⟨f.val % 256, by omega⟩, Fin.ext (by show f.val = f.val / 256 * 256 + f.val % 256; omega)⟩

/-- Row `p` of tile `i`, of four tiles of 512 rows and of eight of 256. -/
def row4 (i : Fin 4) (p : Fin 512) : Fin 2048 := ⟨i.val * 512 + p.val, by omega⟩
def row8 (i : Fin 8) (p : Fin 256) : Fin 2048 := ⟨i.val * 256 + p.val, by omega⟩

/-- A sum over `m * n` numbers, `n` at a time. -/
theorem sum_split {m n l : ℕ} (hl : l = m * n) (f : Fin l → ℝ) (e : Fin m → Fin n → Fin l)
    (he : ∀ i k, (e i k).val = i.val * n + k.val) : ∑ i, ∑ k, f (e i k) = ∑ x, f x := by
  subst hl
  rw [← Equiv.sum_comp finProdFinEquiv, Fintype.sum_prod_type]
  refine Finset.sum_congr rfl fun i _ => Finset.sum_congr rfl fun k _ => congrArg f (Fin.ext ?_)
  rw [he]
  show i.val * n + k.val = k.val + n * i.val
  rw [Nat.mul_comm, Nat.add_comm]

/-- A sum over the hidden units, chunk by chunk. -/
theorem sum_hid (f : Fin 2816 → ℝ) : ∑ j, ∑ k, f (hid j k) = ∑ x, f x := sum_split rfl f hid fun _ _ => rfl

/-- A sum over the tokens, tile by tile. -/
theorem sum_row8 (f : Fin 2048 → ℝ) : ∑ i, ∑ p, f (row8 i p) = ∑ x, f x := sum_split rfl f row8 fun _ _ => rfl

end Cert.Ffn

end
-- ==== Proof.FfnOps.lean ====
/- The operations of the feed-forward layer's blocks, each read at an index, for any number of rows; and the constants. -/
module

public import proofs.«01_k».proof.Proof.FfnSpec
public import Idealize.ShloMosaic.PureOps.Ideal.Laws
public import Idealize.ShloMosaic.Lib.IdealHost
public import Idealize.ShloMosaic.Lib.MatmulPlain
public import Idealize.ShloMosaic.Lib.Pipeline.Value

@[expose] public section

noncomputable section

namespace Cert.Ffn

open Idealize.ShloMosaic Idealize.ShloMosaic.ValueIdx

theorem ofBits_half : Ideal.ofBits .f32 0x3F000000#32 = ((1 / 2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_width : Ideal.ofBits .f32 0x44800000#32 = ((1024 : ℝ) : EReal) := by
  simp [Ideal.ofBits, Ideal.ieee, -EReal.coe_mul]; norm_num

theorem ofBits_eps : Ideal.ofBits .f32 0x358637BD#32 = ((eps : ℝ) : EReal) := by
  simp [Ideal.ofBits, Ideal.ieee, -EReal.coe_mul, eps]; norm_num

/-- The reciprocal root of a positive number. -/
theorem rsqrt_real {r : ℝ} (h : 0 < r) : Ideal.rsqrt (r : EReal) = (((Real.sqrt r)⁻¹ : ℝ) : EReal) := by
  rw [Ideal.rsqrt_coe, if_neg h.not_gt, if_neg h.ne']

/-- The logistic function of a real number. -/
theorem logistic_real (z : ℝ) : Ideal.logistic (z : EReal) = ((sgm z : ℝ) : EReal) := Ideal.logistic_coe z

variable {R M N : ℕ}

/-- A product of rows with rows, of rows with columns, and of columns with columns. -/
theorem rows_rows {φ₁ φ₂ : FTy} (y : FVec Ideal ⟨2, ![R, M]⟩ φ₁) (z : FVec Ideal ⟨2, ![N, M]⟩ φ₂) (y' : Fin R → Fin M → ℝ)
    (z' : Fin N → Fin M → ℝ) (hy : ∀ i k, y (ix2 i k) = ((y' i k : ℝ) : EReal)) (hz : ∀ j k, z (ix2 j k) = ((z' j k : ℝ) : EReal))
    (i : Fin R) (j : Fin N) :
    matmul (DotDims.transposedRhs R M N) none y z (constant ⟨2, ![R, N]⟩ .f32 0x00000000#32) (ix2 i j)
      = ((∑ k, y' i k * z' j k : ℝ) : EReal) := by
  refine (Ideal.matmul_transposedRhs_apply none y z _ i j).trans ?_
  rw [show (constant ⟨2, ![R, N]⟩ .f32 0x00000000#32 : FVec Ideal ⟨2, ![R, N]⟩ .f32) (ix2 i j) = (0 : EReal) from Ideal.ofBits_zero_f32, zero_add]
  exact Cert.Attn.sum_mul_coe _ _ _ _ (hy i) (hz j)

theorem rows_cols {φ₁ φ₂ : FTy} (y : FVec Ideal ⟨2, ![R, M]⟩ φ₁) (z : FVec Ideal ⟨2, ![M, N]⟩ φ₂) (y' : Fin R → Fin M → ℝ)
    (z' : Fin M → Fin N → ℝ) (hy : ∀ i k, y (ix2 i k) = ((y' i k : ℝ) : EReal)) (hz : ∀ k j, z (ix2 k j) = ((z' k j : ℝ) : EReal))
    (i : Fin R) (j : Fin N) :
    matmul (DotDims.plain R M N) none y z (constant ⟨2, ![R, N]⟩ .f32 0x00000000#32) (ix2 i j)
      = ((∑ k, y' i k * z' k j : ℝ) : EReal) := by
  refine (Ideal.matmul_plain_apply none y z _ i j).trans ?_
  rw [show (constant ⟨2, ![R, N]⟩ .f32 0x00000000#32 : FVec Ideal ⟨2, ![R, N]⟩ .f32) (ix2 i j) = (0 : EReal) from Ideal.ofBits_zero_f32, zero_add]
  exact Cert.Attn.sum_mul_coe _ _ _ _ (hy i) (fun k => hz k j)

/-- A number per row spread over the row, and a row spread over the rows. -/
theorem spread_col (x : FVec Ideal ⟨2, ![R, 1]⟩ .f32) (hb : Shape.Broadcasts ⟨2, ![R, 1]⟩ ⟨2, ![R, M]⟩) (i : Fin R) (j : Fin M) :
    broadcastTo ⟨2, ![R, M]⟩ x hb (ix2 i j) = x (ix2 i 0) :=
  broadcastTo_apply _ hb (ix2 i j) (ix2 i (0 : Fin 1)) fun a => by
    match a with
    | ⟨0, _⟩ =>
      show i.val = if R = 1 then 0 else i.val
      split <;> omega
    | ⟨1, _⟩ => rfl

theorem spread_row (x : FVec Ideal ⟨2, ![1, M]⟩ .f32) (hb : Shape.Broadcasts ⟨2, ![1, M]⟩ ⟨2, ![R, M]⟩) (i : Fin R) (j : Fin M) :
    broadcastTo ⟨2, ![R, M]⟩ x hb (ix2 i j) = x (ix2 0 j) :=
  broadcastTo_apply _ hb (ix2 i j) (ix2 (0 : Fin 1) j) fun a => by
    match a with
    | ⟨0, _⟩ => rfl
    | ⟨1, _⟩ =>
      show j.val = if M = 1 then 0 else j.val
      split <;> omega

/-- The sum of a row, kept as a column; and the sum of a column, kept as a row. -/
theorem row_sum (x : FVec Ideal ⟨2, ![R, M]⟩ .f32) (x' : Fin R → Fin M → ℝ) (hx : ∀ i k, x (ix2 i k) = ((x' i k : ℝ) : EReal))
    (h : Shape.Reduces ⟨2, ![R, M]⟩ [1] ⟨1, ![R]⟩) (hf : FKind.Formats .f32) (ha : 0x00000000#32 = FKind.add.neutral .f32 hf)
    (hc : Shape.ShapeCasts ⟨1, ![R]⟩ ⟨2, ![R, 1]⟩) (i : Fin R) :
    shapeCast ⟨2, ![R, 1]⟩ (multiReduction .add [1] ⟨1, ![R]⟩ x 0x00000000#32 h hf ha) hc (ix2 i 0) = ((∑ k, x' i k : ℝ) : EReal) := by
  rw [shapeCast_apply (k := ix1 i) _ hc _ (by
    rw [Shape.rowMajor_val_one, Shape.rowMajor_val_two]
    show i.val = i.val * 1 + 0
    omega)]
  refine (Ideal.multiReduction_add_single x _ h hf ha _).trans ?_
  rw [← Cert.Attn.coe_sum]
  refine Finset.sum_congr rfl fun k _ => (congrArg x ?_).trans (hx i k)
  refine funext fun a => Fin.ext ?_
  match a with
  | ⟨0, _⟩ => rfl
  | ⟨1, _⟩ => rfl

theorem col_sum (x : FVec Ideal ⟨2, ![R, M]⟩ .f32) (x' : Fin R → Fin M → ℝ) (hx : ∀ i k, x (ix2 i k) = ((x' i k : ℝ) : EReal))
    (h : Shape.Reduces ⟨2, ![R, M]⟩ [0] ⟨1, ![M]⟩) (hf : FKind.Formats .f32) (ha : 0x00000000#32 = FKind.add.neutral .f32 hf)
    (hc : Shape.ShapeCasts ⟨1, ![M]⟩ ⟨2, ![1, M]⟩) (j : Fin M) :
    shapeCast ⟨2, ![1, M]⟩ (multiReduction .add [0] ⟨1, ![M]⟩ x 0x00000000#32 h hf ha) hc (ix2 0 j) = ((∑ i, x' i j : ℝ) : EReal) := by
  rw [shapeCast_apply (k := ix1 j) _ hc _ (by
    rw [Shape.rowMajor_val_one, Shape.rowMajor_val_two]
    show j.val = 0 * M + j.val
    omega)]
  refine (Ideal.multiReduction_add_single x _ h hf ha _).trans ?_
  rw [← Cert.Attn.coe_sum]
  refine Finset.sum_congr rfl fun k _ => (congrArg x ?_).trans (hx k j)
  refine funext fun a => Fin.ext ?_
  match a with
  | ⟨0, _⟩ => rfl
  | ⟨1, _⟩ => rfl

/-- A block under a leading axis of one, read without it; and a block put under one. -/
theorem drop_one {α : Type} (x : (⟨3, ![1, R, M]⟩ : Shape).Idx → α) (hc : Shape.ShapeCasts ⟨3, ![1, R, M]⟩ ⟨2, ![R, M]⟩) (i : Fin R) (j : Fin M) :
    shapeCast ⟨2, ![R, M]⟩ x hc (ix2 i j) = x (ix3 0 i j) := by
  refine shapeCast_apply x hc _ _ ?_
  rw [Shape.rowMajor_val_three, Shape.rowMajor_val_two]
  show (0 * R + i.val) * M + j.val = i.val * M + j.val
  rw [Nat.zero_mul, Nat.zero_add]

theorem add_one {α : Type} (x : (⟨2, ![R, M]⟩ : Shape).Idx → α) (hc : Shape.ShapeCasts ⟨2, ![R, M]⟩ ⟨3, ![1, R, M]⟩) (i : Fin R) (j : Fin M) :
    shapeCast ⟨3, ![1, R, M]⟩ x hc (ix3 0 i j) = x (ix2 i j) := by
  refine shapeCast_apply x hc _ _ ?_
  rw [Shape.rowMajor_val_three, Shape.rowMajor_val_two]
  show i.val * M + j.val = (0 * R + i.val) * M + j.val
  rw [Nat.zero_mul, Nat.zero_add]

end Cert.Ffn

end
-- ==== Proof.FfnRows.lean ====
/- The root-mean-square normalisation of a block of rows, for any number of rows, and arrays of eleven blocks. -/
module

public import proofs.«01_k».proof.Proof.FfnOps
public import Idealize.ShloMosaic.Lib.Pipeline.ValueKit

@[expose] public section

noncomputable section

namespace Cert.Ffn

open Idealize.ShloMosaic hiding ix1 ix2 ix3 ix4
open Idealize.ShloMosaic.ValueIdx Cert.Attn

variable {R M : ℕ}

/-- The column of the rows' scales. -/
def rootCol (x : FVec Ideal ⟨2, ![R, 1024]⟩ .f32) (h : Shape.Reduces ⟨2, ![R, 1024]⟩ [1] ⟨1, ![R]⟩)
    (hc : Shape.ShapeCasts ⟨1, ![R]⟩ ⟨2, ![R, 1]⟩) : FVec Ideal ⟨2, ![R, 1]⟩ .f32 :=
  rsqrt (addf (divf (shapeCast ⟨2, ![R, 1]⟩ (multiReduction .add [1] ⟨1, ![R]⟩ (mulf x x) 0x00000000#32 h (.inl rfl) rfl) hc)
    (broadcast ⟨2, ![R, 1]⟩ (Scalar.ofBits .f32 0x44800000#32))) (broadcast ⟨2, ![R, 1]⟩ (Scalar.ofBits .f32 0x358637BD#32)))

theorem rootCol_apply (A : Args) (τ : Fin R → Fin 2048) (x : FVec Ideal ⟨2, ![R, 1024]⟩ .f32)
    (hx : ∀ p d, x (ix2 p d) = ((A.x (τ p) d : ℝ) : EReal)) (h : Shape.Reduces ⟨2, ![R, 1024]⟩ [1] ⟨1, ![R]⟩)
    (hc : Shape.ShapeCasts ⟨1, ![R]⟩ ⟨2, ![R, 1]⟩) (p : Fin R) : rootCol x h hc (ix2 p 0) = ((A.scale (τ p) : ℝ) : EReal) := by
  show Ideal.rsqrt (Ideal.div (shapeCast ⟨2, ![R, 1]⟩ (multiReduction .add [1] ⟨1, ![R]⟩ (mulf x x) 0x00000000#32 h (.inl rfl) rfl) hc (ix2 p 0))
    (Ideal.ofBits .f32 0x44800000#32) + Ideal.ofBits .f32 0x358637BD#32) = _
  rw [row_sum (mulf x x) (fun p d => A.x (τ p) d * A.x (τ p) d) (fun p d => by
      show x (ix2 p d) * x (ix2 p d) = _
      rw [hx, ← EReal.coe_mul]) h (.inl rfl) rfl hc p,
    ofBits_width, ofBits_eps, div_real _ (by norm_num), ← EReal.coe_add]
  exact rsqrt_real (A.ms_pos (τ p))

/-! ## Arrays of eleven blocks -/

/-- The place of a block in an array of eleven. -/
theorem chunk_inb (j : Fin 11) : ∀ a, (![j.val, 0, 0] : Fin 3 → ℕ) a + (![1, R, M] : Fin 3 → ℕ) a ≤ (![11, R, M] : Fin 3 → ℕ) a := fun a =>
  match a with
  | ⟨0, _⟩ => j.isLt
  | ⟨1, _⟩ => le_of_eq (Nat.zero_add _)
  | ⟨2, _⟩ => le_of_eq (Nat.zero_add _)

/-- Block `j` of an array of eleven. -/
def place (R M : ℕ) (j : Fin 11) : Rect ⟨3, ![11, R, M]⟩ := Rect.unit (s := ⟨3, ![11, R, M]⟩) ![j.val, 0, 0] ![1, R, M] (chunk_inb j)

theorem place_emb (j : Fin 11) (p : Fin R) (k : Fin M) : (place R M j).emb (ix3 0 p k) = ix3 j p k :=
  funext fun a => match a with
    | ⟨0, _⟩ => rfl
    | ⟨1, _⟩ => Fin.ext (by show 0 + 1 * p.val = p.val; omega)
    | ⟨2, _⟩ => Fin.ext (by show 0 + 1 * k.val = k.val; omega)

/-- One block of an array of eleven, as rows and lanes. -/
def slab (w : FVec Ideal ⟨3, ![11, R, M]⟩ .bf16) (hc : Shape.ShapeCasts ⟨3, ![1, R, M]⟩ ⟨2, ![R, M]⟩) (j : Fin 11) :
    FVec Ideal ⟨2, ![R, M]⟩ .bf16 := shapeCast ⟨2, ![R, M]⟩ (View.ld (Val := Elt Ideal) (e' := .bf16) w (place R M j)) hc

theorem slab_apply (w : FVec Ideal ⟨3, ![11, R, M]⟩ .bf16) (hc : Shape.ShapeCasts ⟨3, ![1, R, M]⟩ ⟨2, ![R, M]⟩) (j : Fin 11) (p : Fin R)
    (k : Fin M) : slab w hc j (ix2 p k) = w (ix3 j p k) := by
  refine (drop_one _ hc p k).trans ?_
  refine View.ld_unit_apply_of _ _ _ _ _ _ fun a => ?_
  match a with
  | ⟨0, _⟩ => rfl
  | ⟨1, _⟩ => exact (Nat.zero_add _).symm
  | ⟨2, _⟩ => exact (Nat.zero_add _).symm

/-- An array of eleven blocks of 256 hidden units, with a real number per row and hidden unit. -/
def byChunk (f : Fin R → Fin 2816 → ℝ) : (⟨3, ![11, R, 256]⟩ : Shape).Idx → EReal := fun y => ((f (y 1) (hid (y 0) (y 2)) : ℝ) : EReal)

/-- An index of one block. -/
theorem one_block (y : (⟨3, ![1, R, M]⟩ : Shape).Idx) : ∃ (p : Fin R) (k : Fin M), y = ix3 0 p k :=
  ⟨y 1, y 2, funext fun a => match a with
    | ⟨0, _⟩ => Fin.ext (by show (y 0).val = 0; have : (y 0).val < 1 := (y 0).isLt; omega)
    | ⟨1, _⟩ => rfl
    | ⟨2, _⟩ => rfl⟩

/-- A block stored at its place has the array's numbers there. -/
theorem piece_byChunk (f : Fin R → Fin 2816 → ℝ) (j : Fin 11) (b : (⟨3, ![1, R, 256]⟩ : Shape).Idx → EReal)
    (h : ∀ p k, b (ix3 0 p k) = ((f p (hid j k) : ℝ) : EReal)) (y : (⟨3, ![1, R, 256]⟩ : Shape).Idx) :
    b y = byChunk f ((place R 256 j).emb y) := by
  obtain ⟨p, k, rfl⟩ := one_block y
  rw [place_emb]
  exact h p k

end Cert.Ffn

end
-- ==== Proof.FfnChunks.lean ====
/- A chunk of 256 hidden units as the forward kernel computes it for a block of rows, the chunks one after the other, and their values. -/
module

public import proofs.«01_k».proof.Proof.FfnRows
public import proofs.«01_k».proof.Proof.Gen.Kernel2Ideal.Skeleton

@[expose] public section

noncomputable section

namespace Cert.Ffn

open Idealize.ShloMosaic hiding ix1 ix2 ix3 ix4
open Idealize.ShloMosaic.ValueIdx Cert.Kernel2Ideal Cert.Kernel2Ideal.Gen

/-! ## The forward kernel -/

/-- A chunk's projection of a block of rows. -/
def proj (h : FVec Ideal S512x1024 .bf16) (w : FVec Ideal S11x256x1024 .bf16) (j : Fin 11) : FVec Ideal S512x256 .f32 :=
  matmul dot_S512x1024_S256x1024_S512x256_1_1_0_0_n_n none h (slab w shapeCasts_S1x256x1024_S256x1024 j) (constant S512x256 .f32 0x00000000#32)

/-- A chunk's gated product. -/
def act (h : FVec Ideal S512x1024 .bf16) (w v : FVec Ideal S11x256x1024 .bf16) (j : Fin 11) : FVec Ideal S512x256 .bf16 :=
  truncf .bf16 (mulf (mulf (proj h w j) (logistic (proj h w j))) (proj h v j)) bitsLt_bf16_f32

/-- The product with the last weight after `n` chunks. -/
def acc (h : FVec Ideal S512x1024 .bf16) (w v d : FVec Ideal S11x256x1024 .bf16) : (n : ℕ) → n ≤ 11 → FVec Ideal S512x1024 .f32
  | 0, _ => broadcast S512x1024 (Scalar.ofBits .f32 0x00000000#32)
  | n + 1, hn => addf (acc h w v d n (Nat.le_of_succ_le hn))
      (matmul dot_S512x256_S256x1024_S512x1024_1_0_0_1_n_n none (act h w v ⟨n, hn⟩) (slab d shapeCasts_S1x256x1024_S256x1024 ⟨n, hn⟩)
        (constant S512x1024 .f32 0x00000000#32))

/-- What the forward kernel leaves of a block of rows. -/
def fwdOut (x : FVec Ideal S512x1024 .f32) (n : FVec Ideal S1x1024 .f32) (w v d : FVec Ideal S11x256x1024 .bf16) : FVec Ideal S512x1024 .f32 :=
  addf x (mulf (broadcast S512x1024 (Scalar.ofBits .f32 0x3F000000#32)) (acc (k0_pay2 x n) w v d 11 le_rfl))

/-- What it leaves of a chunk's projection. -/
def fwdProj (h : FVec Ideal S512x1024 .bf16) (w : FVec Ideal S11x256x1024 .bf16) (j : Fin 11) : FVec Ideal S1x512x256 .bf16 :=
  shapeCast S1x512x256 (truncf .bf16 (proj h w j) bitsLt_bf16_f32) shapeCasts_S512x256_S1x512x256

/-! ## The values -/

/-- What the forward kernel loads, over the reals: the tokens `τ` of the input, the gain and the weights. -/
structure FwdReads (A : Args) (τ : Fin 512 → Fin 2048) (x : FVec Ideal S512x1024 .f32) (n : FVec Ideal S1x1024 .f32)
    (w v d : FVec Ideal S11x256x1024 .bf16) : Prop where
  x : ∀ p e, x (ix2 p e) = ((A.x (τ p) e : ℝ) : EReal)
  gain : ∀ e, n (ix2 0 e) = ((A.gain e : ℝ) : EReal)
  wg : ∀ j k e, w (ix3 j k e) = ((A.wg (hid j k) e : ℝ) : EReal)
  wu : ∀ j k e, v (ix3 j k e) = ((A.wu (hid j k) e : ℝ) : EReal)
  wd : ∀ j k e, d (ix3 j k e) = ((A.wd (hid j k) e : ℝ) : EReal)

variable {A : Args} {τ : Fin 512 → Fin 2048} {x : FVec Ideal S512x1024 .f32} {n : FVec Ideal S1x1024 .f32}
  {w v d : FVec Ideal S11x256x1024 .bf16} (H : FwdReads A τ x n w v d)

include H

theorem norm_apply (p : Fin 512) (e : Fin 1024) : k0_pay2 (F := Ideal) x n (ix2 p e) = ((A.h (τ p) e : ℝ) : EReal) := by
  show x (ix2 p e) * broadcastTo S512x1024 (rootCol x reduces_S512x1024_S512 shapeCasts_S512_S512x1) broadcasts_S512x1_S512x1024 (ix2 p e)
    * broadcastTo S512x1024 n broadcasts_S1x1024_S512x1024 (ix2 p e) = _
  rw [spread_col, spread_row, H.x, H.gain, rootCol_apply A τ x H.x, ← EReal.coe_mul, ← EReal.coe_mul]
  rfl

theorem projG_apply (j : Fin 11) (p : Fin 512) (k : Fin 256) : proj (k0_pay2 x n) w j (ix2 p k) = ((A.g (τ p) (hid j k) : ℝ) : EReal) :=
  rows_rows (R := 512) (M := 1024) (N := 256) _ _ (fun p e => A.h (τ p) e) (fun k e => A.wg (hid j k) e) (norm_apply H)
    (fun k e => (slab_apply w _ j k e).trans (H.wg j k e)) p k

theorem projU_apply (j : Fin 11) (p : Fin 512) (k : Fin 256) : proj (k0_pay2 x n) v j (ix2 p k) = ((A.u (τ p) (hid j k) : ℝ) : EReal) :=
  rows_rows (R := 512) (M := 1024) (N := 256) _ _ (fun p e => A.h (τ p) e) (fun k e => A.wu (hid j k) e) (norm_apply H)
    (fun k e => (slab_apply v _ j k e).trans (H.wu j k e)) p k

theorem act_apply (j : Fin 11) (p : Fin 512) (k : Fin 256) : act (k0_pay2 x n) w v j (ix2 p k) = ((A.a (τ p) (hid j k) : ℝ) : EReal) := by
  show proj (k0_pay2 x n) w j (ix2 p k) * Ideal.logistic (proj (k0_pay2 x n) w j (ix2 p k)) * proj (k0_pay2 x n) v j (ix2 p k) = _
  rw [projG_apply H, projU_apply H, logistic_real, ← EReal.coe_mul, ← EReal.coe_mul]
  rfl

theorem acc_apply (p : Fin 512) (e : Fin 1024) : (m : ℕ) → (hm : m ≤ 11) → acc (k0_pay2 x n) w v d m hm (ix2 p e)
    = ((∑ i : Fin m, ∑ k, A.a (τ p) (hid (i.castLE hm) k) * A.wd (hid (i.castLE hm) k) e : ℝ) : EReal)
  | 0, _ => by
    show Ideal.ofBits .f32 0x00000000#32 = _
    rw [Ideal.ofBits_zero_f32]
    simp
  | m + 1, hm => by
    show acc (k0_pay2 x n) w v d m (Nat.le_of_succ_le hm) (ix2 p e)
      + matmul (DotDims.plain 512 256 1024) none (act (k0_pay2 x n) w v ⟨m, hm⟩) (slab d shapeCasts_S1x256x1024_S256x1024 ⟨m, hm⟩)
        (constant S512x1024 .f32 0x00000000#32) (ix2 p e) = _
    rw [acc_apply p e m, Fin.sum_univ_castSucc, EReal.coe_add]
    refine congrArg₂ (· + ·) rfl ?_
    exact rows_cols (R := 512) (M := 256) (N := 1024) _ _ (fun p k => A.a (τ p) (hid ⟨m, hm⟩ k)) (fun k e => A.wd (hid ⟨m, hm⟩ k) e)
      (fun p k => act_apply H ⟨m, hm⟩ p k) (fun k e => (slab_apply d _ ⟨m, hm⟩ k e).trans (H.wd ⟨m, hm⟩ k e)) p e

theorem fwdOut_apply (p : Fin 512) (e : Fin 1024) : fwdOut x n w v d (ix2 p e) = ((A.out (τ p) e : ℝ) : EReal) := by
  show x (ix2 p e) + Ideal.ofBits .f32 0x3F000000#32 * acc (k0_pay2 x n) w v d 11 le_rfl (ix2 p e) = _
  rw [acc_apply H, H.x, ofBits_half, ← EReal.coe_mul, ← EReal.coe_add]
  exact congrArg (fun z : ℝ => ((A.x (τ p) e + 1 / 2 * z : ℝ) : EReal)) (sum_hid fun f => A.a (τ p) f * A.wd f e)

theorem fwdProjG_apply (j : Fin 11) (p : Fin 512) (k : Fin 256) :
    fwdProj (k0_pay2 x n) w j (ix3 0 p k) = ((A.g (τ p) (hid j k) : ℝ) : EReal) := (add_one _ _ p k).trans (projG_apply H j p k)

theorem fwdProjU_apply (j : Fin 11) (p : Fin 512) (k : Fin 256) :
    fwdProj (k0_pay2 x n) v j (ix3 0 p k) = ((A.u (τ p) (hid j k) : ℝ) : EReal) := (add_one _ _ p k).trans (projU_apply H j p k)

end Cert.Ffn

end
-- ==== Proof.FfnFwd.lean ====
/- The forward kernel's stored blocks, chunk by chunk. -/
module

public import proofs.«01_k».proof.Proof.FfnChunks
public import proofs.«01_k».proof.Proof.Gen.Kernel2Ideal.Frame.Region0

@[expose] public section

set_option maxRecDepth 16384

noncomputable section

namespace Cert.Ffn

open Idealize.ShloMosaic hiding ix1 ix2 ix3 ix4
open Idealize.ShloMosaic.ValueIdx Cert.Kernel2Ideal Cert.Kernel2Ideal.Gen

section
variable (h : FVec Ideal S512x1024 .bf16) (w v d : FVec Ideal S11x256x1024 .bf16)

/-! The accumulator through the kernel's groups of chunks. -/

theorem acc_two : k0_pay13 (F := Ideal) h (k0_pay3 (F := Ideal)) (act h w v 0) (View.ld d r0_2) (View.ld w r0_4) (View.ld v r0_4) (View.ld d r0_4) =
    acc h w v d 2 (by decide) := rfl

theorem acc_three : k0_pay18 (F := Ideal) h (acc h w v d 2 (by decide)) (k0_pay14 h (View.ld w r0_6)) (View.ld v r0_6) (View.ld d r0_6) =
    acc h w v d 3 (by decide) := rfl

theorem acc_five : k0_pay27 (F := Ideal) h (acc h w v d 3 (by decide)) (k0_pay19 h (View.ld w r0_8)) (k0_pay20 h (View.ld v r0_8)) (View.ld d r0_8)
    (View.ld w r0_10) (View.ld v r0_10) (View.ld d r0_10) = acc h w v d 5 (by decide) := rfl

theorem acc_six : k0_pay33 (F := Ideal) h (acc h w v d 5 (by decide)) (k0_pay28 (View.ld w r0_12)) (View.ld v r0_12) (View.ld d r0_12) =
    acc h w v d 6 (by decide) := rfl

theorem acc_seven : k0_pay39 (F := Ideal) (acc h w v d 6 (by decide)) (k0_pay34 h (View.ld w r0_14)) (k0_pay35 h (View.ld v r0_14)) (View.ld d r0_14) =
    acc h w v d 7 (by decide) := rfl

theorem acc_nine : k0_pay49 (F := Ideal) h (acc h w v d 7 (by decide)) (k0_pay44 h (View.ld w r0_16) (View.ld v r0_16) (View.ld d r0_16))
    (View.ld w r0_18) (View.ld v r0_18) (View.ld d r0_18) = acc h w v d 9 (by decide) := rfl

theorem acc_ten : k0_pay55 (F := Ideal) (acc h w v d 9 (by decide)) (k0_pay50 h (View.ld w r0_20)) (k0_pay51 h (View.ld v r0_20)) (View.ld d r0_20) =
    acc h w v d 10 (by decide) := rfl

end

section
variable (x : FVec Ideal S512x1024 .f32) (n : FVec Ideal S1x1024 .f32) (w v d : FVec Ideal S11x256x1024 .bf16)

theorem ld_x : View.ld (Val := Elt Ideal) (e' := .f32) x r0_0 = x := by rw [View.ld_unit_lit _ _ (by decide)]

theorem ld_n : View.ld (Val := Elt Ideal) (e' := .f32) n r0_1 = n := by rw [View.ld_unit_lit _ _ (by decide)]

theorem norm_ld : k0_pay61 (F := Ideal) x n w v d = k0_pay2 x n := by
  rw [k0_pay61, ld_x, ld_n]

theorem act_zero : k0_pay8 (F := Ideal) x n (View.ld w r0_2) (View.ld v r0_2) = act (k0_pay2 x n) w v 0 := rfl

theorem act_ten (h : FVec Ideal S512x1024 .bf16) : k0_pay60 (F := Ideal) h (View.ld w r0_22) (View.ld v r0_22) = act h w v 10 := rfl

theorem fwdOut_ten : k0_pay1 (F := Ideal) x (acc (k0_pay2 x n) w v d 10 (by decide)) (act (k0_pay2 x n) w v 10) (View.ld d r0_22) = fwdOut x n w v d := rfl

/-- The block of rows the forward kernel leaves. -/
theorem out_eq : out0_5 (F := Ideal) x n w v d = fwdOut x n w v d := by
  unfold out0_5
  rw [View.canon_cons_unit_lit _ _ _ (by decide), k0_pay62, k0_pay63, k0_pay64, norm_ld, ld_x, ld_n,
    act_zero, acc_two, acc_three, acc_five, acc_six, acc_seven, acc_nine, acc_ten, act_ten, fwdOut_ten]

/-- The projections it leaves with the first weight, as pieces. -/
theorem proj_eq : out0_6 (F := Ideal) x n w v d =
    View.canon [⟨r0_23, fwdProj (k0_pay2 x n) w 10⟩, ⟨r0_21, fwdProj (k0_pay2 x n) w 9⟩, ⟨r0_19, fwdProj (k0_pay2 x n) w 8⟩,
      ⟨r0_17, fwdProj (k0_pay2 x n) w 7⟩, ⟨r0_15, fwdProj (k0_pay2 x n) w 6⟩, ⟨r0_13, fwdProj (k0_pay2 x n) w 5⟩,
      ⟨r0_11, fwdProj (k0_pay2 x n) w 4⟩, ⟨r0_9, fwdProj (k0_pay2 x n) w 3⟩, ⟨r0_7, fwdProj (k0_pay2 x n) w 2⟩,
      ⟨r0_5, fwdProj (k0_pay2 x n) w 1⟩, ⟨r0_3, fwdProj (k0_pay2 x n) w 0⟩] := by
  have h0 : k0_pay6 (F := Ideal) x n (View.ld w r0_2) = fwdProj (k0_pay2 x n) w 0 := rfl
  have h1 (h) : k0_pay11 (F := Ideal) h (View.ld w r0_4) = fwdProj h w 1 := rfl
  have h2 (h) : k0_pay16 (F := Ideal) (k0_pay14 h (View.ld w r0_6)) = fwdProj h w 2 := rfl
  have h3 (h) : k0_pay21 (F := Ideal) h (View.ld w r0_8) = fwdProj h w 3 := rfl
  have h4 (h) : k0_pay25 (F := Ideal) h (View.ld w r0_10) = fwdProj h w 4 := rfl
  have h5 (h) : k0_pay31 (F := Ideal) h (k0_pay28 (View.ld w r0_12)) = fwdProj h w 5 := rfl
  have h6 (h) : k0_pay36 (F := Ideal) h (View.ld w r0_14) = fwdProj h w 6 := rfl
  have h7 (h) : k0_pay42 (F := Ideal) h (View.ld w r0_16) = fwdProj h w 7 := rfl
  have h8 (h) : k0_pay47 (F := Ideal) h (View.ld w r0_18) = fwdProj h w 8 := rfl
  have h9 (h) : k0_pay53 (F := Ideal) (k0_pay52 h (View.ld w r0_20)) = fwdProj h w 9 := rfl
  have h10 (h) : k0_pay58 (F := Ideal) h (View.ld w r0_22) = fwdProj h w 10 := rfl
  unfold out0_6
  rw [k0_pay62, k0_pay63, norm_ld, ld_x, ld_n, h0, h1, h2, h3, h4, h5, h6, h7, h8, h9, h10]

/-- The projections it leaves with the second weight, as pieces. -/
theorem proj_eq' : out0_7 (F := Ideal) x n w v d =
    View.canon [⟨r0_23, fwdProj (k0_pay2 x n) v 10⟩, ⟨r0_21, fwdProj (k0_pay2 x n) v 9⟩, ⟨r0_19, fwdProj (k0_pay2 x n) v 8⟩,
      ⟨r0_17, fwdProj (k0_pay2 x n) v 7⟩, ⟨r0_15, fwdProj (k0_pay2 x n) v 6⟩, ⟨r0_13, fwdProj (k0_pay2 x n) v 5⟩,
      ⟨r0_11, fwdProj (k0_pay2 x n) v 4⟩, ⟨r0_9, fwdProj (k0_pay2 x n) v 3⟩, ⟨r0_7, fwdProj (k0_pay2 x n) v 2⟩,
      ⟨r0_5, fwdProj (k0_pay2 x n) v 1⟩, ⟨r0_3, fwdProj (k0_pay2 x n) v 0⟩] := by
  have h0 : k0_pay7 (F := Ideal) x n (View.ld v r0_2) = fwdProj (k0_pay2 x n) v 0 := rfl
  have h1 (h) : k0_pay12 (F := Ideal) h (View.ld v r0_4) = fwdProj h v 1 := rfl
  have h2 (h) : k0_pay17 (F := Ideal) h (View.ld v r0_6) = fwdProj h v 2 := rfl
  have h3 (h) : k0_pay22 (F := Ideal) h (View.ld v r0_8) = fwdProj h v 3 := rfl
  have h4 (h) : k0_pay26 (F := Ideal) h (View.ld v r0_10) = fwdProj h v 4 := rfl
  have h5 (h) : k0_pay32 (F := Ideal) h (View.ld v r0_12) = fwdProj h v 5 := rfl
  have h6 (h) : k0_pay38 (F := Ideal) (k0_pay37 h (View.ld v r0_14)) = fwdProj h v 6 := rfl
  have h7 (h) : k0_pay43 (F := Ideal) h (View.ld v r0_16) = fwdProj h v 7 := rfl
  have h8 (h) : k0_pay48 (F := Ideal) h (View.ld v r0_18) = fwdProj h v 8 := rfl
  have h9 (h) : k0_pay54 (F := Ideal) (k0_pay51 h (View.ld v r0_20)) = fwdProj h v 9 := rfl
  have h10 (h) : k0_pay59 (F := Ideal) h (View.ld v r0_22) = fwdProj h v 10 := rfl
  unfold out0_7
  rw [k0_pay64, norm_ld, ld_x, ld_n, h0, h1, h2, h3, h4, h5, h6, h7, h8, h9, h10]

end

section
variable {A : Args} {τ : Fin 512 → Fin 2048} {x : FVec Ideal S512x1024 .f32} {n : FVec Ideal S1x1024 .f32}
  {w v d : FVec Ideal S11x256x1024 .bf16} (H : FwdReads A τ x n w v d)

include H

theorem out_value (p : Fin 512) (e : Fin 1024) : out0_5 (F := Ideal) x n w v d (ix2 p e) = ((A.out (τ p) e : ℝ) : EReal) := by
  rw [out_eq]
  exact fwdOut_apply H p e

theorem g_value (y : S11x512x256.Idx) : out0_6 (F := Ideal) x n w v d y = byChunk (fun p => A.g (τ p)) y := by
  have hp (j) := piece_byChunk (fun p => A.g (τ p)) j _ (fwdProjG_apply H j)
  rw [proj_eq]
  refine View.canon_apply_of_pieces (byChunk fun p => A.g (τ p)) _ ?_ y (cover0_6 (F := Ideal) _ _ _ _ _ _ _ _ _ _ _ y)
  simp only [List.forall_mem_cons]
  exact ⟨hp 10, hp 9, hp 8, hp 7, hp 6, hp 5, hp 4, hp 3, hp 2, hp 1, hp 0, fun _ h => absurd h List.not_mem_nil⟩

theorem u_value (y : S11x512x256.Idx) : out0_7 (F := Ideal) x n w v d y = byChunk (fun p => A.u (τ p)) y := by
  have hp (j) := piece_byChunk (fun p => A.u (τ p)) j _ (fwdProjU_apply H j)
  rw [proj_eq']
  refine View.canon_apply_of_pieces (byChunk fun p => A.u (τ p)) _ ?_ y (cover0_7 (F := Ideal) _ _ _ _ _ _ _ _ _ _ _ y)
  simp only [List.forall_mem_cons]
  exact ⟨hp 10, hp 9, hp 8, hp 7, hp 6, hp 5, hp 4, hp 3, hp 2, hp 1, hp 0, fun _ h => absurd h List.not_mem_nil⟩

end

end Cert.Ffn

end
-- ==== Proof.FfnArrays.lean ====
/- The layer's arrays over the reals. -/
module

public import proofs.«01_k».proof.Proof.FfnRows

@[expose] public section

noncomputable section

namespace Cert.Ffn

open Idealize.ShloMosaic hiding ix1 ix2 ix3 ix4
open Idealize.ShloMosaic.ValueIdx

/-- Rows of lanes, one row, and the weights by chunk of hidden units. -/
def rowsOf (f : Tokens) : (⟨2, ![2048, 1024]⟩ : Shape).Idx → EReal := fun y => ((f (y 0) (y 1) : ℝ) : EReal)
def rowOf (f : Fin 1024 → ℝ) : (⟨2, ![1, 1024]⟩ : Shape).Idx → EReal := fun y => ((f (y 1) : ℝ) : EReal)
def weightsOf (f : Weights) : (⟨3, ![11, 256, 1024]⟩ : Shape).Idx → EReal := fun y => ((f (hid (y 0) (y 1)) (y 2) : ℝ) : EReal)

/-- Indices by their coordinates. -/
theorem two {a b : ℕ} (y : (⟨2, ![a, b]⟩ : Shape).Idx) : ∃ (i : Fin a) (l : Fin b), y = ix2 i l := ⟨y 0, y 1, ValueIdx.eq_ix2 y⟩

theorem three {a b e : ℕ} (y : (⟨3, ![a, b, e]⟩ : Shape).Idx) : ∃ (i : Fin a) (k : Fin b) (l : Fin e), y = ix3 i k l :=
  ⟨y 0, y 1, y 2, funext fun k => match k with
    | 0 => rfl
    | 1 => rfl
    | 2 => rfl⟩

end Cert.Ffn

end
-- ==== Proof.FfnRegion0.lean ====
/- The forward kernel's arrays after its run. -/
module

public import proofs.«01_k».proof.Proof.FfnFwd
public import proofs.«01_k».proof.Proof.FfnArrays

@[expose] public section

set_option maxRecDepth 16384

noncomputable section

namespace Cert.Ffn

open Idealize.ShloMosaic hiding ix1 ix2 ix3 ix4
open Idealize.ShloMosaic.TcCoe Idealize.SL.Sem
open Idealize.ShloMosaic.ValueIdx Cert.Attn Cert.Kernel2Ideal Cert.Kernel2Ideal.Gen

variable (V : (c : Dev nD) → (b : Ref sig .tc) → Buf (Elt Ideal) ((c : Thread nD τ).loc b)) (c : Dev nD)

/-- What the kernel's arrays hold before its run. -/
structure FwdHolds (A : Args) : Prop where
  x : V c main_arg0 = rowsOf A.x
  gain : V c main_arg1 = rowOf A.gain
  wg : V c main_v2 = weightsOf A.wg
  wu : V c main_v5 = weightsOf A.wu
  wd : V c main_v7 = weightsOf A.wd

/-- Where the windows stand at a point of the grid. -/
theorem places0 : ∀ t : Fin cfg0.N,
    win0_0.index t = ![t.val, 0] ∧ win0_1.index t = ![0, 0] ∧ win0_2.index t = ![0, 0, 0] ∧ win0_3.index t = ![0, 0, 0]
    ∧ win0_4.index t = ![0, 0, 0] ∧ win0_5.index t = ![t.val, 0] ∧ win0_6.index t = ![0, t.val, 0] ∧ win0_7.index t = ![0, t.val, 0] :=
  (by decide +kernel : ∀ t : Fin grid0.N, _)

/-- The point's tile of tokens. -/
def tile0 (t : Fin cfg0.N) (p : Fin 512) : Fin 2048 := row4 ⟨t.val, t.isLt⟩ p

variable {A : Args} (H : FwdHolds V c A)

include H

theorem reads0 (t : Fin cfg0.N) : FwdReads A (tile0 t) (iblk0 V c 0 t) (iblk0 V c 1 t) (iblk0 V c 2 t) (iblk0 V c 3 t) (iblk0 V c 4 t) := by
  obtain ⟨h0, h1, h2, h3, h4, -⟩ := places0 t
  refine ⟨fun p e => ?_, fun e => ?_, fun j k e => ?_, fun j k e => ?_, fun j k e => ?_⟩
  · refine Eq.trans (b := V c main_arg0 (ix2 (tile0 t p) e)) ?_ (congrFun H.x _)
    blk_ext [iblk0, h0, tile0, row4]
  · refine Eq.trans (b := V c main_arg1 (ix2 0 e)) ?_ (congrFun H.gain _)
    blk_ext [iblk0, h1]
  · refine Eq.trans (b := V c main_v2 (ix3 j k e)) ?_ (congrFun H.wg _)
    blk_ext [iblk0, h2]
  · refine Eq.trans (b := V c main_v5 (ix3 j k e)) ?_ (congrFun H.wu _)
    blk_ext [iblk0, h3]
  · refine Eq.trans (b := V c main_v7 (ix3 j k e)) ?_ (congrFun H.wd _)
    blk_ext [iblk0, h4]

theorem array_out : (dat0 V c).arrAt 5 cfg0.N = rowsOf A.out := by
  refine (dat0 V c).arrAt_eq_of_covers 5 _ (by decide +kernel) fun t hf y => ?_
  obtain ⟨-, -, -, -, -, h, -⟩ := places0 t
  blk_simp
  rw [after0_5]
  obtain ⟨p, l, rfl⟩ := two (a := 512) (b := 1024) y
  have hi : (win0_5.blk t).view.emb (ix2 p l) = ix2 (tile0 t p) l := by
    blk_ext [h, tile0, row4]
  rw [hi]
  exact out_value (reads0 V c H t) p l

theorem array_g : (dat0 V c).arrAt 6 cfg0.N = byChunk (R := 2048) A.g := by
  refine (dat0 V c).arrAt_eq_of_covers 6 _ (by decide +kernel) fun t hf y => ?_
  obtain ⟨-, -, -, -, -, -, h, -⟩ := places0 t
  blk_simp
  rw [after0_6]
  obtain ⟨j, p, k, rfl⟩ := three (a := 11) (b := 512) (e := 256) y
  have hi : (win0_6.blk t).view.emb (ix3 j p k) = ix3 j (tile0 t p) k := by
    blk_ext [h, tile0, row4]
  rw [hi]
  exact g_value (reads0 V c H t) (ix3 j p k)

theorem array_u : (dat0 V c).arrAt 7 cfg0.N = byChunk (R := 2048) A.u := by
  refine (dat0 V c).arrAt_eq_of_covers 7 _ (by decide +kernel) fun t hf y => ?_
  obtain ⟨-, -, -, -, -, -, -, h⟩ := places0 t
  blk_simp
  rw [after0_7]
  obtain ⟨j, p, k, rfl⟩ := three (a := 11) (b := 512) (e := 256) y
  have hi : (win0_7.blk t).view.emb (ix3 j p k) = ix3 j (tile0 t p) k := by
    blk_ext [h, tile0, row4]
  rw [hi]
  exact u_value (reads0 V c H t) (ix3 j p k)

end Cert.Ffn

end
-- ==== Proof.FfnBackChunks.lean ====
/- A chunk of 256 hidden units as the backward kernel computes it for a block of rows, the chunks one after the other, and their values. -/
module

public import proofs.«01_k».proof.Proof.FfnRows
public import proofs.«01_k».proof.Proof.Gen.Kernel2Ideal.Skeleton

@[expose] public section

noncomputable section

namespace Cert.Ffn

open Idealize.ShloMosaic hiding ix1 ix2 ix3 ix4
open Idealize.ShloMosaic.ValueIdx Cert.Attn Cert.Kernel2Ideal Cert.Kernel2Ideal.Gen

section
variable (y : FVec Ideal S256x1024 .bf16) (g u : FVec Ideal S11x256x256 .bf16) (p q d : FVec Ideal S11x256x1024 .bf16) (j : Fin 11)

/-- A saved projection of a chunk, its logistic and its gate. -/
def saved : FVec Ideal S256x256 .f32 := extf .f32 (slab g shapeCasts_S1x256x256_S256x256 j) bitsLt_bf16_f32
def savedSgm : FVec Ideal S256x256 .f32 := logistic (saved g j)
def savedSilu : FVec Ideal S256x256 .f32 := mulf (saved g j) (savedSgm g j)

/-- The cotangent of a chunk's gated product. -/
def back : FVec Ideal S256x256 .f32 :=
  matmul dot_S256x1024_S256x1024_S256x256_1_1_0_0_n_n none y (slab d shapeCasts_S1x256x1024_S256x1024 j) (constant S256x256 .f32 0x00000000#32)

/-- The gated product, and the cotangents of the two projections. -/
def backA : FVec Ideal S256x256 .bf16 := truncf .bf16 (mulf (savedSilu g j) (saved u j)) bitsLt_bf16_f32
def backG : FVec Ideal S256x256 .bf16 :=
  truncf .bf16 (mulf (mulf (back y d j) (saved u j)) (addf (savedSgm g j) (mulf (savedSilu g j)
    (subf (broadcast S256x256 (Scalar.ofBits .f32 0x3F800000#32)) (savedSgm g j))))) bitsLt_bf16_f32
def backU : FVec Ideal S256x256 .bf16 := truncf .bf16 (mulf (back y d j) (savedSilu g j)) bitsLt_bf16_f32

/-- A block of a chunk as it is stored. -/
def stored (z : FVec Ideal S256x256 .bf16) : FVec Ideal S1x256x256 .bf16 := shapeCast S1x256x256 z shapeCasts_S256x256_S1x256x256

/-- The cotangent of the normalised rows after `n` chunks. -/
def backH : (n : ℕ) → n ≤ 11 → FVec Ideal S256x1024 .f32
  | 0, _ => broadcast S256x1024 (Scalar.ofBits .f32 0x00000000#32)
  | n + 1, hn => addf (addf (backH n (Nat.le_of_succ_le hn))
      (matmul dot_S256x256_S256x1024_S256x1024_1_0_0_1_n_n none (backG y g u d ⟨n, hn⟩) (slab p shapeCasts_S1x256x1024_S256x1024 ⟨n, hn⟩)
        (constant S256x1024 .f32 0x00000000#32)))
      (matmul dot_S256x256_S256x1024_S256x1024_1_0_0_1_n_n none (backU y g d ⟨n, hn⟩) (slab q shapeCasts_S1x256x1024_S256x1024 ⟨n, hn⟩)
        (constant S256x1024 .f32 0x00000000#32))

end

/-- The gradient of a block of rows from the cotangent of the normalised rows. -/
def backX (x e : FVec Ideal S256x1024 .f32) (n : FVec Ideal S1x1024 .f32) (h : FVec Ideal S256x1024 .f32) : FVec Ideal S256x1024 .f32 :=
  addf e (mulf (broadcastTo S256x1024 (k1_pay2 x) broadcasts_S256x1_S256x1024)
    (subf (mulf h (broadcastTo S256x1024 n broadcasts_S1x1024_S256x1024))
      (mulf (k1_pay3 x) (broadcastTo S256x1024 (divf (shapeCast S256x1 (multiReduction .add [1] S256
          (mulf (mulf h (broadcastTo S256x1024 n broadcasts_S1x1024_S256x1024)) (k1_pay3 x)) 0x00000000#32 reduces_S256x1024_S256 (.inl rfl) rfl)
          shapeCasts_S256_S256x1) (broadcast S256x1 (Scalar.ofBits .f32 0x44800000#32))) broadcasts_S256x1_S256x1024))))

/-- The block's part of the gain's gradient, added to what was there. -/
def backN (z : FVec Ideal S1x1024 .f32) (x h : FVec Ideal S256x1024 .f32) : FVec Ideal S1x1024 .f32 := k1_pay1 z (mulf h (k1_pay3 x))

/-! ## The values -/

/-- What the backward kernel loads, over the reals: the tokens `τ` of the input, of the cotangent and of the saved projections, the gain and the weights. -/
structure BackReads (A : Args) (τ : Fin 256 → Fin 2048) (x : FVec Ideal S256x1024 .f32) (n : FVec Ideal S1x1024 .f32)
    (e : FVec Ideal S256x1024 .f32) (g u : FVec Ideal S11x256x256 .bf16) (p q d : FVec Ideal S11x256x1024 .bf16) : Prop where
  x : ∀ i l, x (ix2 i l) = ((A.x (τ i) l : ℝ) : EReal)
  gain : ∀ l, n (ix2 0 l) = ((A.gain l : ℝ) : EReal)
  dy : ∀ i l, e (ix2 i l) = ((A.dy (τ i) l : ℝ) : EReal)
  g : ∀ j i k, g (ix3 j i k) = ((A.g (τ i) (hid j k) : ℝ) : EReal)
  u : ∀ j i k, u (ix3 j i k) = ((A.u (τ i) (hid j k) : ℝ) : EReal)
  wg : ∀ j k l, p (ix3 j k l) = ((A.wg (hid j k) l : ℝ) : EReal)
  wu : ∀ j k l, q (ix3 j k l) = ((A.wu (hid j k) l : ℝ) : EReal)
  wd : ∀ j k l, d (ix3 j k l) = ((A.wd (hid j k) l : ℝ) : EReal)

variable {A : Args} {τ : Fin 256 → Fin 2048} {x : FVec Ideal S256x1024 .f32} {n : FVec Ideal S1x1024 .f32}
  {e : FVec Ideal S256x1024 .f32} {g u : FVec Ideal S11x256x256 .bf16} {p q d : FVec Ideal S11x256x1024 .bf16}
  (H : BackReads A τ x n e g u p q d)

include H

theorem scale_col (i : Fin 256) : k1_pay2 (F := Ideal) x (ix2 i 0) = ((A.scale (τ i) : ℝ) : EReal) :=
  rootCol_apply A τ x H.x reduces_S256x1024_S256 shapeCasts_S256_S256x1 i

theorem xhat_apply (i : Fin 256) (l : Fin 1024) : k1_pay3 (F := Ideal) x (ix2 i l) = ((A.xhat (τ i) l : ℝ) : EReal) := by
  show x (ix2 i l) * broadcastTo S256x1024 (k1_pay2 (F := Ideal) x) broadcasts_S256x1_S256x1024 (ix2 i l) = _
  rw [spread_col, H.x, scale_col H, ← EReal.coe_mul]
  rfl

theorem h_apply (i : Fin 256) (l : Fin 1024) : k1_pay4 (F := Ideal) x n (ix2 i l) = ((A.h (τ i) l : ℝ) : EReal) := by
  show k1_pay3 (F := Ideal) x (ix2 i l) * broadcastTo S256x1024 n broadcasts_S1x1024_S256x1024 (ix2 i l) = _
  rw [spread_row, H.gain, xhat_apply H, ← EReal.coe_mul]
  rfl

theorem dyh_apply (i : Fin 256) (l : Fin 1024) : k1_pay5 (F := Ideal) e (ix2 i l) = ((A.dyh (τ i) l : ℝ) : EReal) := by
  show Ideal.ofBits .f32 0x3F000000#32 * e (ix2 i l) = _
  rw [H.dy, ofBits_half, ← EReal.coe_mul]
  rfl

theorem savedG_apply (j : Fin 11) (i k : Fin 256) : saved g j (ix2 i k) = ((A.g (τ i) (hid j k) : ℝ) : EReal) :=
  (slab_apply g _ j i k).trans (H.g j i k)

theorem savedU_apply (j : Fin 11) (i k : Fin 256) : saved u j (ix2 i k) = ((A.u (τ i) (hid j k) : ℝ) : EReal) :=
  (slab_apply u _ j i k).trans (H.u j i k)

theorem sgm_apply (j : Fin 11) (i k : Fin 256) : savedSgm g j (ix2 i k) = ((sgm (A.g (τ i) (hid j k)) : ℝ) : EReal) := by
  show Ideal.logistic (saved g j (ix2 i k)) = _
  rw [savedG_apply H, logistic_real]

theorem silu_apply (j : Fin 11) (i k : Fin 256) : savedSilu g j (ix2 i k) = ((silu (A.g (τ i) (hid j k)) : ℝ) : EReal) := by
  show saved g j (ix2 i k) * savedSgm g j (ix2 i k) = _
  rw [savedG_apply H, sgm_apply H, ← EReal.coe_mul]
  rfl

theorem back_apply (j : Fin 11) (i k : Fin 256) : back (k1_pay5 e) d j (ix2 i k) = ((A.da (τ i) (hid j k) : ℝ) : EReal) :=
  rows_rows (R := 256) (M := 1024) (N := 256) _ _ (fun i l => A.dyh (τ i) l) (fun k l => A.wd (hid j k) l) (dyh_apply H)
    (fun k l => (slab_apply d _ j k l).trans (H.wd j k l)) i k

theorem backA_apply (j : Fin 11) (i k : Fin 256) : backA g u j (ix2 i k) = ((A.a (τ i) (hid j k) : ℝ) : EReal) := by
  show savedSilu g j (ix2 i k) * saved u j (ix2 i k) = _
  rw [silu_apply H, savedU_apply H, ← EReal.coe_mul]
  rfl

theorem backG_apply (j : Fin 11) (i k : Fin 256) : backG (k1_pay5 e) g u d j (ix2 i k) = ((A.dg (τ i) (hid j k) : ℝ) : EReal) := by
  show back (k1_pay5 e) d j (ix2 i k) * saved u j (ix2 i k) * (savedSgm g j (ix2 i k) + savedSilu g j (ix2 i k)
    * (Ideal.ofBits .f32 0x3F800000#32 - savedSgm g j (ix2 i k))) = _
  rw [back_apply H, savedU_apply H, sgm_apply H, silu_apply H, ofBits_one, ← EReal.coe_sub, ← EReal.coe_mul, ← EReal.coe_mul, ← EReal.coe_add,
    ← EReal.coe_mul]
  rfl

theorem backU_apply (j : Fin 11) (i k : Fin 256) : backU (k1_pay5 e) g d j (ix2 i k) = ((A.du (τ i) (hid j k) : ℝ) : EReal) := by
  show back (k1_pay5 e) d j (ix2 i k) * savedSilu g j (ix2 i k) = _
  rw [back_apply H, silu_apply H, ← EReal.coe_mul]
  rfl

theorem backH_upto (i : Fin 256) (l : Fin 1024) : (m : ℕ) → (hm : m ≤ 11) → backH (k1_pay5 e) g u p q d m hm (ix2 i l)
    = ((∑ c : Fin m, ∑ k, (A.dg (τ i) (hid (c.castLE hm) k) * A.wg (hid (c.castLE hm) k) l
        + A.du (τ i) (hid (c.castLE hm) k) * A.wu (hid (c.castLE hm) k) l) : ℝ) : EReal)
  | 0, _ => by
    show Ideal.ofBits .f32 0x00000000#32 = _
    rw [Ideal.ofBits_zero_f32]
    simp
  | m + 1, hm => by
    have h₁ := rows_cols (R := 256) (M := 256) (N := 1024) _ _ (fun i k => A.dg (τ i) (hid ⟨m, hm⟩ k)) (fun k l => A.wg (hid ⟨m, hm⟩ k) l)
      (fun i k => backG_apply H ⟨m, hm⟩ i k) (fun k l => (slab_apply p shapeCasts_S1x256x1024_S256x1024 ⟨m, hm⟩ k l).trans (H.wg ⟨m, hm⟩ k l)) i l
    have h₂ := rows_cols (R := 256) (M := 256) (N := 1024) _ _ (fun i k => A.du (τ i) (hid ⟨m, hm⟩ k)) (fun k l => A.wu (hid ⟨m, hm⟩ k) l)
      (fun i k => backU_apply H ⟨m, hm⟩ i k) (fun k l => (slab_apply q shapeCasts_S1x256x1024_S256x1024 ⟨m, hm⟩ k l).trans (H.wu ⟨m, hm⟩ k l)) i l
    rw [Fin.sum_univ_castSucc, Finset.sum_add_distrib, ← add_assoc, EReal.coe_add, EReal.coe_add]
    exact congrArg₂ (· + ·) (congrArg₂ (· + ·) (backH_upto i l m _) h₁) h₂

theorem backH_apply (i : Fin 256) (l : Fin 1024) : backH (k1_pay5 e) g u p q d 11 le_rfl (ix2 i l) = ((A.dh (τ i) l : ℝ) : EReal) :=
  (backH_upto H i l 11 le_rfl).trans
    (congrArg (fun z : ℝ => (z : EReal)) (sum_hid fun f => A.dg (τ i) f * A.wg f l + A.du (τ i) f * A.wu f l))

theorem backX_apply (i : Fin 256) (l : Fin 1024) :
    backX x e n (backH (k1_pay5 e) g u p q d 11 le_rfl) (ix2 i l) = ((A.dx (τ i) l : ℝ) : EReal) := by
  have hd (i : Fin 256) (l : Fin 1024) : mulf (backH (k1_pay5 e) g u p q d 11 le_rfl) (broadcastTo S256x1024 n broadcasts_S1x1024_S256x1024) (ix2 i l)
      = ((A.dxhat (τ i) l : ℝ) : EReal) := by
    show backH (k1_pay5 e) g u p q d 11 le_rfl (ix2 i l) * broadcastTo S256x1024 n broadcasts_S1x1024_S256x1024 (ix2 i l) = _
    rw [spread_row, backH_apply H, H.gain, ← EReal.coe_mul]
    rfl
  have hs := row_sum (mulf (mulf (backH (k1_pay5 e) g u p q d 11 le_rfl) (broadcastTo S256x1024 n broadcasts_S1x1024_S256x1024)) (k1_pay3 (F := Ideal) x))
    (fun i l => A.dxhat (τ i) l * A.xhat (τ i) l)
    (fun i l => (congrArg₂ (· * ·) (hd i l) (xhat_apply H i l)).trans (EReal.coe_mul _ _).symm) reduces_S256x1024_S256 (.inl rfl) rfl shapeCasts_S256_S256x1 i
  unfold backX
  show e (ix2 i l) + broadcastTo S256x1024 (k1_pay2 (F := Ideal) x) broadcasts_S256x1_S256x1024 (ix2 i l)
    * (mulf (backH (k1_pay5 e) g u p q d 11 le_rfl) (broadcastTo S256x1024 n broadcasts_S1x1024_S256x1024) (ix2 i l)
      - k1_pay3 (F := Ideal) x (ix2 i l) * broadcastTo S256x1024 (divf _ _) broadcasts_S256x1_S256x1024 (ix2 i l)) = _
  rw [spread_col, spread_col, hd, H.dy, scale_col H, xhat_apply H]
  refine (congrArg (fun z : EReal => ((A.dy (τ i) l : ℝ) : EReal) + ((A.scale (τ i) : ℝ) : EReal) * (((A.dxhat (τ i) l : ℝ) : EReal)
    - ((A.xhat (τ i) l : ℝ) : EReal) * z)) ((congrArg₂ Ideal.div hs ofBits_width).trans (div_real _ (by norm_num)))).trans ?_
  rw [← EReal.coe_mul, ← EReal.coe_sub, ← EReal.coe_mul, ← EReal.coe_add]
  rfl

theorem backN_apply (z : FVec Ideal S1x1024 .f32) (l : Fin 1024) :
    backN z x (backH (k1_pay5 e) g u p q d 11 le_rfl) (ix2 0 l) = z (ix2 0 l) + ((∑ i, A.dh (τ i) l * A.xhat (τ i) l : ℝ) : EReal) :=
  congrArg (z (ix2 0 l) + ·) (col_sum _ (fun i l => A.dh (τ i) l * A.xhat (τ i) l)
    (fun i l => (congrArg₂ (· * ·) (backH_apply H i l) (xhat_apply H i l)).trans (EReal.coe_mul _ _).symm)
    reduces_S256x1024_S1024 (.inl rfl) rfl shapeCasts_S1024_S1x1024 l)

end Cert.Ffn

end
-- ==== Proof.FfnBack.lean ====
/- The backward kernel's stored blocks, chunk by chunk. -/
module

public import proofs.«01_k».proof.Proof.FfnBackChunks

@[expose] public section

set_option maxRecDepth 16384

noncomputable section

namespace Cert.Ffn

open Idealize.ShloMosaic hiding ix1 ix2 ix3 ix4
open Idealize.ShloMosaic.ValueIdx Cert.Kernel2Ideal Cert.Kernel2Ideal.Gen

/-- A chunk of the weights, and of the saved projections, as loaded. -/
abbrev ldW (w : FVec Ideal S11x256x1024 .bf16) (j : ℕ) (h : ∀ a, (![j, 0, 0] : Fin 3 → ℕ) a + S1x256x1024.size a ≤ S11x256x1024.size a) :
    FVec Ideal S1x256x1024 .bf16 := View.ld (Val := Elt Ideal) (e' := .bf16) w (Rect.unit (s := S11x256x1024) ![j, 0, 0] S1x256x1024.size h)
abbrev ldG (g : FVec Ideal S11x256x256 .bf16) (j : ℕ) (h : ∀ a, (![j, 0, 0] : Fin 3 → ℕ) a + S1x256x256.size a ≤ S11x256x256.size a) :
    FVec Ideal S1x256x256 .bf16 := View.ld (Val := Elt Ideal) (e' := .bf16) g (Rect.unit (s := S11x256x256) ![j, 0, 0] S1x256x256.size h)

/-- Eleven blocks stored one after the other. -/
def pieces (b : Fin 11 → FVec Ideal S1x256x256 .bf16) : List (View.Piece (Elt Ideal) S11x256x256 .bf16) :=
  [⟨place 256 256 10, b 10⟩, ⟨place 256 256 9, b 9⟩, ⟨place 256 256 8, b 8⟩, ⟨place 256 256 7, b 7⟩, ⟨place 256 256 6, b 6⟩,
    ⟨place 256 256 5, b 5⟩, ⟨place 256 256 4, b 4⟩, ⟨place 256 256 3, b 3⟩, ⟨place 256 256 2, b 2⟩, ⟨place 256 256 1, b 1⟩, ⟨place 256 256 0, b 0⟩]

def blocks (b : Fin 11 → FVec Ideal S1x256x256 .bf16) : FVec Ideal S11x256x256 .bf16 := View.canon (pieces b)

theorem blocks_apply (f : Fin 256 → Fin 2816 → ℝ) (b : Fin 11 → FVec Ideal S1x256x256 .bf16)
    (hb : ∀ j p k, b j (ix3 0 p k) = ((f p (hid j k) : ℝ) : EReal)) (y : S11x256x256.Idx) : blocks b y = byChunk f y := by
  have hp (j) := piece_byChunk f j _ (hb j)
  unfold blocks
  refine View.canon_apply_of_pieces (byChunk f) _ ?_ y (View.cover_of_tiled (pieces b) S1x256x256.size (by rfl) y)
  simp only [pieces, List.forall_mem_cons]
  exact ⟨hp 10, hp 9, hp 8, hp 7, hp 6, hp 5, hp 4, hp 3, hp 2, hp 1, hp 0, fun _ h => absurd h List.not_mem_nil⟩

section
variable (e : FVec Ideal S256x1024 .f32) (y : FVec Ideal S256x1024 .bf16) (g u : FVec Ideal S11x256x256 .bf16) (p q d : FVec Ideal S11x256x1024 .bf16)

theorem backH_1 : k1_pay17 (F := Ideal) k1_pay6 (k1_pay7 e (ldW d 0 inb_S11x256x1024_S1x256x1024_0_0_0)) (k1_pay8 (ldG g 0 inb_S11x256x256_S1x256x256_0_0_0)) (k1_pay9 (ldG u 0 inb_S11x256x256_S1x256x256_0_0_0)) (k1_pay10 (ldG g 0 inb_S11x256x256_S1x256x256_0_0_0)) (ldW p 0 inb_S11x256x1024_S1x256x1024_0_0_0) (ldW q 0 inb_S11x256x1024_S1x256x1024_0_0_0) =
    backH (k1_pay5 e) g u p q d 1 (by decide) := rfl

theorem backH_2 : k1_pay28 (F := Ideal) (backH y g u p q d 1 (by decide)) (k1_pay18 y (ldW d 1 inb_S11x256x1024_S1x256x1024_1_0_0)) (ldG g 1 inb_S11x256x256_S1x256x256_1_0_0) (ldG u 1 inb_S11x256x256_S1x256x256_1_0_0) (ldW p 1 inb_S11x256x1024_S1x256x1024_1_0_0) (ldW q 1 inb_S11x256x1024_S1x256x1024_1_0_0) =
    backH y g u p q d 2 (by decide) := rfl

theorem backH_3 : k1_pay40 (F := Ideal) (backH y g u p q d 2 (by decide)) (k1_pay35 y (ldW d 2 inb_S11x256x1024_S1x256x1024_2_0_0) (ldG g 2 inb_S11x256x256_S1x256x256_2_0_0) (ldG u 2 inb_S11x256x256_S1x256x256_2_0_0)) (k1_pay36 y (ldW d 2 inb_S11x256x1024_S1x256x1024_2_0_0) (ldG g 2 inb_S11x256x256_S1x256x256_2_0_0)) (k1_pay39 (ldW p 2 inb_S11x256x1024_S1x256x1024_2_0_0)) (constant S256x1024 .f32 0x00000000#32) (ldW q 2 inb_S11x256x1024_S1x256x1024_2_0_0) =
    backH y g u p q d 3 (by decide) := rfl

theorem backH_4 : k1_pay51 (F := Ideal) (backH y g u p q d 3 (by decide)) (k1_pay47 y (ldW d 3 inb_S11x256x1024_S1x256x1024_3_0_0) (ldG g 3 inb_S11x256x256_S1x256x256_3_0_0) (ldG u 3 inb_S11x256x256_S1x256x256_3_0_0)) (k1_pay48 y (ldW d 3 inb_S11x256x1024_S1x256x1024_3_0_0) (ldG g 3 inb_S11x256x256_S1x256x256_3_0_0)) (ldW p 3 inb_S11x256x1024_S1x256x1024_3_0_0) (ldW q 3 inb_S11x256x1024_S1x256x1024_3_0_0) =
    backH y g u p q d 4 (by decide) := rfl

theorem backH_5 : k1_pay62 (F := Ideal) (backH y g u p q d 4 (by decide)) (k1_pay58 y (ldW d 4 inb_S11x256x1024_S1x256x1024_4_0_0) (ldG g 4 inb_S11x256x256_S1x256x256_4_0_0) (ldG u 4 inb_S11x256x256_S1x256x256_4_0_0)) (k1_pay59 y (ldW d 4 inb_S11x256x1024_S1x256x1024_4_0_0) (ldG g 4 inb_S11x256x256_S1x256x256_4_0_0)) (ldW p 4 inb_S11x256x1024_S1x256x1024_4_0_0) (ldW q 4 inb_S11x256x1024_S1x256x1024_4_0_0) =
    backH y g u p q d 5 (by decide) := rfl

theorem backH_6 : k1_pay73 (F := Ideal) (backH y g u p q d 5 (by decide)) (k1_pay63 y (ldW d 5 inb_S11x256x1024_S1x256x1024_5_0_0)) (k1_pay65 (ldG u 5 inb_S11x256x256_S1x256x256_5_0_0)) (k1_pay66 (ldG g 5 inb_S11x256x256_S1x256x256_5_0_0)) (k1_pay67 (ldG g 5 inb_S11x256x256_S1x256x256_5_0_0)) (ldW p 5 inb_S11x256x1024_S1x256x1024_5_0_0) (ldW q 5 inb_S11x256x1024_S1x256x1024_5_0_0) =
    backH y g u p q d 6 (by decide) := rfl

theorem backH_7 : k1_pay84 (F := Ideal) (backH y g u p q d 6 (by decide)) (k1_pay74 y (ldW d 6 inb_S11x256x1024_S1x256x1024_6_0_0)) (k1_pay75 (ldG g 6 inb_S11x256x256_S1x256x256_6_0_0)) (k1_pay76 (ldG u 6 inb_S11x256x256_S1x256x256_6_0_0)) (k1_pay77 (ldG g 6 inb_S11x256x256_S1x256x256_6_0_0)) (ldW p 6 inb_S11x256x1024_S1x256x1024_6_0_0) (ldW q 6 inb_S11x256x1024_S1x256x1024_6_0_0) =
    backH y g u p q d 7 (by decide) := rfl

theorem backH_8 : k1_pay95 (F := Ideal) (backH y g u p q d 7 (by decide)) (k1_pay85 y (ldW d 7 inb_S11x256x1024_S1x256x1024_7_0_0)) (ldG g 7 inb_S11x256x256_S1x256x256_7_0_0) (ldG u 7 inb_S11x256x256_S1x256x256_7_0_0) (ldW p 7 inb_S11x256x1024_S1x256x1024_7_0_0) (ldW q 7 inb_S11x256x1024_S1x256x1024_7_0_0) =
    backH y g u p q d 8 (by decide) := rfl

theorem backH_9 : k1_pay107 (F := Ideal) (backH y g u p q d 8 (by decide)) (k1_pay102 y (ldW d 8 inb_S11x256x1024_S1x256x1024_8_0_0) (ldG g 8 inb_S11x256x256_S1x256x256_8_0_0) (ldG u 8 inb_S11x256x256_S1x256x256_8_0_0)) (k1_pay103 y (ldW d 8 inb_S11x256x1024_S1x256x1024_8_0_0) (ldG g 8 inb_S11x256x256_S1x256x256_8_0_0)) (k1_pay106 (ldW p 8 inb_S11x256x1024_S1x256x1024_8_0_0)) (constant S256x1024 .f32 0x00000000#32) (ldW q 8 inb_S11x256x1024_S1x256x1024_8_0_0) =
    backH y g u p q d 9 (by decide) := rfl

theorem backH_10 : k1_pay118 (F := Ideal) (backH y g u p q d 9 (by decide)) (k1_pay114 y (ldW d 9 inb_S11x256x1024_S1x256x1024_9_0_0) (ldG g 9 inb_S11x256x256_S1x256x256_9_0_0) (ldG u 9 inb_S11x256x256_S1x256x256_9_0_0)) (k1_pay115 y (ldW d 9 inb_S11x256x1024_S1x256x1024_9_0_0) (ldG g 9 inb_S11x256x256_S1x256x256_9_0_0)) (ldW p 9 inb_S11x256x1024_S1x256x1024_9_0_0) (ldW q 9 inb_S11x256x1024_S1x256x1024_9_0_0) =
    backH y g u p q d 10 (by decide) := rfl

theorem backX_eq (x : FVec Ideal S256x1024 .f32) (n : FVec Ideal S1x1024 .f32) :
    k1_pay130 (F := Ideal) e n (k1_pay2 x) (k1_pay3 x) (backH (k1_pay5 e) g u p q d 10 (by decide)) (k1_pay125 (k1_pay5 e) (ldW d 10 inb_S11x256x1024_S1x256x1024_10_0_0) (ldG g 10 inb_S11x256x256_S1x256x256_10_0_0) (ldG u 10 inb_S11x256x256_S1x256x256_10_0_0)) (k1_pay126 (k1_pay5 e) (ldW d 10 inb_S11x256x1024_S1x256x1024_10_0_0) (ldG g 10 inb_S11x256x256_S1x256x256_10_0_0)) (ldW p 10 inb_S11x256x1024_S1x256x1024_10_0_0) (ldW q 10 inb_S11x256x1024_S1x256x1024_10_0_0) =
    backX x e n (backH (k1_pay5 e) g u p q d 11 le_rfl) := rfl

theorem backN_eq (x : FVec Ideal S256x1024 .f32) (z : FVec Ideal S1x1024 .f32) :
    k1_pay1 (F := Ideal) z (k1_pay133 (k1_pay3 x) (backH (k1_pay5 e) g u p q d 10 (by decide)) (k1_pay125 (k1_pay5 e) (ldW d 10 inb_S11x256x1024_S1x256x1024_10_0_0) (ldG g 10 inb_S11x256x256_S1x256x256_10_0_0) (ldG u 10 inb_S11x256x256_S1x256x256_10_0_0)) (k1_pay126 (k1_pay5 e) (ldW d 10 inb_S11x256x1024_S1x256x1024_10_0_0) (ldG g 10 inb_S11x256x256_S1x256x256_10_0_0)) (ldW p 10 inb_S11x256x1024_S1x256x1024_10_0_0) (ldW q 10 inb_S11x256x1024_S1x256x1024_10_0_0)) =
    backN z x (backH (k1_pay5 e) g u p q d 11 le_rfl) := rfl

/-! The three arrays the kernel leaves for the weights' gradients, a chunk at a time. -/

/-- The gated products. -/
theorem canonA : View.canon (Val := Elt Ideal) (e := .bf16) [⟨Rect.unit (s := S11x256x256) ![10, 0, 0] S1x256x256.size inb_S11x256x256_S1x256x256_10_0_0, k1_pay124 (F := Ideal) (ldG g 10 inb_S11x256x256_S1x256x256_10_0_0) (ldG u 10 inb_S11x256x256_S1x256x256_10_0_0)⟩,
      ⟨Rect.unit (s := S11x256x256) ![9, 0, 0] S1x256x256.size inb_S11x256x256_S1x256x256_9_0_0, k1_pay113 (F := Ideal) (ldG g 9 inb_S11x256x256_S1x256x256_9_0_0) (ldG u 9 inb_S11x256x256_S1x256x256_9_0_0)⟩,
      ⟨Rect.unit (s := S11x256x256) ![8, 0, 0] S1x256x256.size inb_S11x256x256_S1x256x256_8_0_0, k1_pay101 (F := Ideal) (ldG g 8 inb_S11x256x256_S1x256x256_8_0_0) (ldG u 8 inb_S11x256x256_S1x256x256_8_0_0)⟩,
      ⟨Rect.unit (s := S11x256x256) ![7, 0, 0] S1x256x256.size inb_S11x256x256_S1x256x256_7_0_0, k1_pay90 (F := Ideal) (ldG g 7 inb_S11x256x256_S1x256x256_7_0_0) (ldG u 7 inb_S11x256x256_S1x256x256_7_0_0)⟩,
      ⟨Rect.unit (s := S11x256x256) ![6, 0, 0] S1x256x256.size inb_S11x256x256_S1x256x256_6_0_0, k1_pay79 (F := Ideal) (k1_pay75 (ldG g 6 inb_S11x256x256_S1x256x256_6_0_0)) (k1_pay76 (ldG u 6 inb_S11x256x256_S1x256x256_6_0_0)) (k1_pay77 (ldG g 6 inb_S11x256x256_S1x256x256_6_0_0))⟩,
      ⟨Rect.unit (s := S11x256x256) ![5, 0, 0] S1x256x256.size inb_S11x256x256_S1x256x256_5_0_0, k1_pay68 (F := Ideal) (ldG g 5 inb_S11x256x256_S1x256x256_5_0_0) (ldG u 5 inb_S11x256x256_S1x256x256_5_0_0)⟩,
      ⟨Rect.unit (s := S11x256x256) ![4, 0, 0] S1x256x256.size inb_S11x256x256_S1x256x256_4_0_0, k1_pay57 (F := Ideal) (ldG g 4 inb_S11x256x256_S1x256x256_4_0_0) (ldG u 4 inb_S11x256x256_S1x256x256_4_0_0)⟩,
      ⟨Rect.unit (s := S11x256x256) ![3, 0, 0] S1x256x256.size inb_S11x256x256_S1x256x256_3_0_0, k1_pay46 (F := Ideal) (ldG g 3 inb_S11x256x256_S1x256x256_3_0_0) (ldG u 3 inb_S11x256x256_S1x256x256_3_0_0)⟩,
      ⟨Rect.unit (s := S11x256x256) ![2, 0, 0] S1x256x256.size inb_S11x256x256_S1x256x256_2_0_0, k1_pay34 (F := Ideal) (ldG g 2 inb_S11x256x256_S1x256x256_2_0_0) (ldG u 2 inb_S11x256x256_S1x256x256_2_0_0)⟩,
      ⟨Rect.unit (s := S11x256x256) ![1, 0, 0] S1x256x256.size inb_S11x256x256_S1x256x256_1_0_0, k1_pay23 (F := Ideal) (ldG g 1 inb_S11x256x256_S1x256x256_1_0_0) (ldG u 1 inb_S11x256x256_S1x256x256_1_0_0)⟩,
      ⟨Rect.unit (s := S11x256x256) ![0, 0, 0] S1x256x256.size inb_S11x256x256_S1x256x256_0_0_0, k1_pay12 (F := Ideal) (k1_pay8 (ldG g 0 inb_S11x256x256_S1x256x256_0_0_0)) (k1_pay9 (ldG u 0 inb_S11x256x256_S1x256x256_0_0_0)) (k1_pay10 (ldG g 0 inb_S11x256x256_S1x256x256_0_0_0))⟩] =
    blocks fun j => stored (backA g u j) := by
  have h0 : k1_pay12 (F := Ideal) (k1_pay8 (ldG g 0 inb_S11x256x256_S1x256x256_0_0_0)) (k1_pay9 (ldG u 0 inb_S11x256x256_S1x256x256_0_0_0)) (k1_pay10 (ldG g 0 inb_S11x256x256_S1x256x256_0_0_0)) = stored (backA g u 0) := rfl
  have h1 : k1_pay23 (F := Ideal) (ldG g 1 inb_S11x256x256_S1x256x256_1_0_0) (ldG u 1 inb_S11x256x256_S1x256x256_1_0_0) = stored (backA g u 1) := rfl
  have h2 : k1_pay34 (F := Ideal) (ldG g 2 inb_S11x256x256_S1x256x256_2_0_0) (ldG u 2 inb_S11x256x256_S1x256x256_2_0_0) = stored (backA g u 2) := rfl
  have h3 : k1_pay46 (F := Ideal) (ldG g 3 inb_S11x256x256_S1x256x256_3_0_0) (ldG u 3 inb_S11x256x256_S1x256x256_3_0_0) = stored (backA g u 3) := rfl
  have h4 : k1_pay57 (F := Ideal) (ldG g 4 inb_S11x256x256_S1x256x256_4_0_0) (ldG u 4 inb_S11x256x256_S1x256x256_4_0_0) = stored (backA g u 4) := rfl
  have h5 : k1_pay68 (F := Ideal) (ldG g 5 inb_S11x256x256_S1x256x256_5_0_0) (ldG u 5 inb_S11x256x256_S1x256x256_5_0_0) = stored (backA g u 5) := rfl
  have h6 : k1_pay79 (F := Ideal) (k1_pay75 (ldG g 6 inb_S11x256x256_S1x256x256_6_0_0)) (k1_pay76 (ldG u 6 inb_S11x256x256_S1x256x256_6_0_0)) (k1_pay77 (ldG g 6 inb_S11x256x256_S1x256x256_6_0_0)) = stored (backA g u 6) := rfl
  have h7 : k1_pay90 (F := Ideal) (ldG g 7 inb_S11x256x256_S1x256x256_7_0_0) (ldG u 7 inb_S11x256x256_S1x256x256_7_0_0) = stored (backA g u 7) := rfl
  have h8 : k1_pay101 (F := Ideal) (ldG g 8 inb_S11x256x256_S1x256x256_8_0_0) (ldG u 8 inb_S11x256x256_S1x256x256_8_0_0) = stored (backA g u 8) := rfl
  have h9 : k1_pay113 (F := Ideal) (ldG g 9 inb_S11x256x256_S1x256x256_9_0_0) (ldG u 9 inb_S11x256x256_S1x256x256_9_0_0) = stored (backA g u 9) := rfl
  have h10 : k1_pay124 (F := Ideal) (ldG g 10 inb_S11x256x256_S1x256x256_10_0_0) (ldG u 10 inb_S11x256x256_S1x256x256_10_0_0) = stored (backA g u 10) := rfl
  rw [h0, h1, h2, h3, h4, h5, h6, h7, h8, h9, h10]
  rfl

/-- The cotangents of the first projection. -/
theorem canonG : View.canon (Val := Elt Ideal) (e := .bf16) [⟨Rect.unit (s := S11x256x256) ![10, 0, 0] S1x256x256.size inb_S11x256x256_S1x256x256_10_0_0, k1_pay127 (F := Ideal) (k1_pay125 (k1_pay5 e) (ldW d 10 inb_S11x256x1024_S1x256x1024_10_0_0) (ldG g 10 inb_S11x256x256_S1x256x256_10_0_0) (ldG u 10 inb_S11x256x256_S1x256x256_10_0_0))⟩,
      ⟨Rect.unit (s := S11x256x256) ![9, 0, 0] S1x256x256.size inb_S11x256x256_S1x256x256_9_0_0, k1_pay116 (F := Ideal) (k1_pay5 e) (ldW d 9 inb_S11x256x1024_S1x256x1024_9_0_0) (ldG g 9 inb_S11x256x256_S1x256x256_9_0_0) (ldG u 9 inb_S11x256x256_S1x256x256_9_0_0)⟩,
      ⟨Rect.unit (s := S11x256x256) ![8, 0, 0] S1x256x256.size inb_S11x256x256_S1x256x256_8_0_0, k1_pay104 (F := Ideal) (k1_pay5 e) (ldW d 8 inb_S11x256x1024_S1x256x1024_8_0_0) (ldG g 8 inb_S11x256x256_S1x256x256_8_0_0) (ldG u 8 inb_S11x256x256_S1x256x256_8_0_0)⟩,
      ⟨Rect.unit (s := S11x256x256) ![7, 0, 0] S1x256x256.size inb_S11x256x256_S1x256x256_7_0_0, k1_pay93 (F := Ideal) (k1_pay85 (k1_pay5 e) (ldW d 7 inb_S11x256x1024_S1x256x1024_7_0_0)) (ldG g 7 inb_S11x256x256_S1x256x256_7_0_0) (ldG u 7 inb_S11x256x256_S1x256x256_7_0_0)⟩,
      ⟨Rect.unit (s := S11x256x256) ![6, 0, 0] S1x256x256.size inb_S11x256x256_S1x256x256_6_0_0, k1_pay82 (F := Ideal) (k1_pay74 (k1_pay5 e) (ldW d 6 inb_S11x256x1024_S1x256x1024_6_0_0)) (k1_pay75 (ldG g 6 inb_S11x256x256_S1x256x256_6_0_0)) (k1_pay76 (ldG u 6 inb_S11x256x256_S1x256x256_6_0_0)) (k1_pay77 (ldG g 6 inb_S11x256x256_S1x256x256_6_0_0))⟩,
      ⟨Rect.unit (s := S11x256x256) ![5, 0, 0] S1x256x256.size inb_S11x256x256_S1x256x256_5_0_0, k1_pay71 (F := Ideal) (k1_pay63 (k1_pay5 e) (ldW d 5 inb_S11x256x1024_S1x256x1024_5_0_0)) (k1_pay65 (ldG u 5 inb_S11x256x256_S1x256x256_5_0_0)) (k1_pay66 (ldG g 5 inb_S11x256x256_S1x256x256_5_0_0)) (k1_pay67 (ldG g 5 inb_S11x256x256_S1x256x256_5_0_0))⟩,
      ⟨Rect.unit (s := S11x256x256) ![4, 0, 0] S1x256x256.size inb_S11x256x256_S1x256x256_4_0_0, k1_pay60 (F := Ideal) (k1_pay58 (k1_pay5 e) (ldW d 4 inb_S11x256x1024_S1x256x1024_4_0_0) (ldG g 4 inb_S11x256x256_S1x256x256_4_0_0) (ldG u 4 inb_S11x256x256_S1x256x256_4_0_0))⟩,
      ⟨Rect.unit (s := S11x256x256) ![3, 0, 0] S1x256x256.size inb_S11x256x256_S1x256x256_3_0_0, k1_pay49 (F := Ideal) (k1_pay5 e) (ldW d 3 inb_S11x256x1024_S1x256x1024_3_0_0) (ldG g 3 inb_S11x256x256_S1x256x256_3_0_0) (ldG u 3 inb_S11x256x256_S1x256x256_3_0_0)⟩,
      ⟨Rect.unit (s := S11x256x256) ![2, 0, 0] S1x256x256.size inb_S11x256x256_S1x256x256_2_0_0, k1_pay37 (F := Ideal) (k1_pay5 e) (ldW d 2 inb_S11x256x1024_S1x256x1024_2_0_0) (ldG g 2 inb_S11x256x256_S1x256x256_2_0_0) (ldG u 2 inb_S11x256x256_S1x256x256_2_0_0)⟩,
      ⟨Rect.unit (s := S11x256x256) ![1, 0, 0] S1x256x256.size inb_S11x256x256_S1x256x256_1_0_0, k1_pay26 (F := Ideal) (k1_pay18 (k1_pay5 e) (ldW d 1 inb_S11x256x1024_S1x256x1024_1_0_0)) (ldG g 1 inb_S11x256x256_S1x256x256_1_0_0) (ldG u 1 inb_S11x256x256_S1x256x256_1_0_0)⟩,
      ⟨Rect.unit (s := S11x256x256) ![0, 0, 0] S1x256x256.size inb_S11x256x256_S1x256x256_0_0_0, k1_pay15 (F := Ideal) (k1_pay7 e (ldW d 0 inb_S11x256x1024_S1x256x1024_0_0_0)) (k1_pay8 (ldG g 0 inb_S11x256x256_S1x256x256_0_0_0)) (k1_pay9 (ldG u 0 inb_S11x256x256_S1x256x256_0_0_0)) (k1_pay10 (ldG g 0 inb_S11x256x256_S1x256x256_0_0_0))⟩] =
    blocks fun j => stored (backG (k1_pay5 e) g u d j) := by
  have h0 : k1_pay15 (F := Ideal) (k1_pay7 e (ldW d 0 inb_S11x256x1024_S1x256x1024_0_0_0)) (k1_pay8 (ldG g 0 inb_S11x256x256_S1x256x256_0_0_0)) (k1_pay9 (ldG u 0 inb_S11x256x256_S1x256x256_0_0_0)) (k1_pay10 (ldG g 0 inb_S11x256x256_S1x256x256_0_0_0)) = stored (backG (k1_pay5 e) g u d 0) := rfl
  have h1 : k1_pay26 (F := Ideal) (k1_pay18 (k1_pay5 e) (ldW d 1 inb_S11x256x1024_S1x256x1024_1_0_0)) (ldG g 1 inb_S11x256x256_S1x256x256_1_0_0) (ldG u 1 inb_S11x256x256_S1x256x256_1_0_0) = stored (backG (k1_pay5 e) g u d 1) := rfl
  have h2 : k1_pay37 (F := Ideal) (k1_pay5 e) (ldW d 2 inb_S11x256x1024_S1x256x1024_2_0_0) (ldG g 2 inb_S11x256x256_S1x256x256_2_0_0) (ldG u 2 inb_S11x256x256_S1x256x256_2_0_0) = stored (backG (k1_pay5 e) g u d 2) := rfl
  have h3 : k1_pay49 (F := Ideal) (k1_pay5 e) (ldW d 3 inb_S11x256x1024_S1x256x1024_3_0_0) (ldG g 3 inb_S11x256x256_S1x256x256_3_0_0) (ldG u 3 inb_S11x256x256_S1x256x256_3_0_0) = stored (backG (k1_pay5 e) g u d 3) := rfl
  have h4 : k1_pay60 (F := Ideal) (k1_pay58 (k1_pay5 e) (ldW d 4 inb_S11x256x1024_S1x256x1024_4_0_0) (ldG g 4 inb_S11x256x256_S1x256x256_4_0_0) (ldG u 4 inb_S11x256x256_S1x256x256_4_0_0)) = stored (backG (k1_pay5 e) g u d 4) := rfl
  have h5 : k1_pay71 (F := Ideal) (k1_pay63 (k1_pay5 e) (ldW d 5 inb_S11x256x1024_S1x256x1024_5_0_0)) (k1_pay65 (ldG u 5 inb_S11x256x256_S1x256x256_5_0_0)) (k1_pay66 (ldG g 5 inb_S11x256x256_S1x256x256_5_0_0)) (k1_pay67 (ldG g 5 inb_S11x256x256_S1x256x256_5_0_0)) = stored (backG (k1_pay5 e) g u d 5) := rfl
  have h6 : k1_pay82 (F := Ideal) (k1_pay74 (k1_pay5 e) (ldW d 6 inb_S11x256x1024_S1x256x1024_6_0_0)) (k1_pay75 (ldG g 6 inb_S11x256x256_S1x256x256_6_0_0)) (k1_pay76 (ldG u 6 inb_S11x256x256_S1x256x256_6_0_0)) (k1_pay77 (ldG g 6 inb_S11x256x256_S1x256x256_6_0_0)) = stored (backG (k1_pay5 e) g u d 6) := rfl
  have h7 : k1_pay93 (F := Ideal) (k1_pay85 (k1_pay5 e) (ldW d 7 inb_S11x256x1024_S1x256x1024_7_0_0)) (ldG g 7 inb_S11x256x256_S1x256x256_7_0_0) (ldG u 7 inb_S11x256x256_S1x256x256_7_0_0) = stored (backG (k1_pay5 e) g u d 7) := rfl
  have h8 : k1_pay104 (F := Ideal) (k1_pay5 e) (ldW d 8 inb_S11x256x1024_S1x256x1024_8_0_0) (ldG g 8 inb_S11x256x256_S1x256x256_8_0_0) (ldG u 8 inb_S11x256x256_S1x256x256_8_0_0) = stored (backG (k1_pay5 e) g u d 8) := rfl
  have h9 : k1_pay116 (F := Ideal) (k1_pay5 e) (ldW d 9 inb_S11x256x1024_S1x256x1024_9_0_0) (ldG g 9 inb_S11x256x256_S1x256x256_9_0_0) (ldG u 9 inb_S11x256x256_S1x256x256_9_0_0) = stored (backG (k1_pay5 e) g u d 9) := rfl
  have h10 : k1_pay127 (F := Ideal) (k1_pay125 (k1_pay5 e) (ldW d 10 inb_S11x256x1024_S1x256x1024_10_0_0) (ldG g 10 inb_S11x256x256_S1x256x256_10_0_0) (ldG u 10 inb_S11x256x256_S1x256x256_10_0_0)) = stored (backG (k1_pay5 e) g u d 10) := rfl
  rw [h0, h1, h2, h3, h4, h5, h6, h7, h8, h9, h10]
  rfl

/-- The cotangents of the second projection. -/
theorem canonU : View.canon (Val := Elt Ideal) (e := .bf16) [⟨Rect.unit (s := S11x256x256) ![10, 0, 0] S1x256x256.size inb_S11x256x256_S1x256x256_10_0_0, k1_pay128 (F := Ideal) (k1_pay126 (k1_pay5 e) (ldW d 10 inb_S11x256x1024_S1x256x1024_10_0_0) (ldG g 10 inb_S11x256x256_S1x256x256_10_0_0))⟩,
      ⟨Rect.unit (s := S11x256x256) ![9, 0, 0] S1x256x256.size inb_S11x256x256_S1x256x256_9_0_0, k1_pay117 (F := Ideal) (k1_pay115 (k1_pay5 e) (ldW d 9 inb_S11x256x1024_S1x256x1024_9_0_0) (ldG g 9 inb_S11x256x256_S1x256x256_9_0_0))⟩,
      ⟨Rect.unit (s := S11x256x256) ![8, 0, 0] S1x256x256.size inb_S11x256x256_S1x256x256_8_0_0, k1_pay105 (F := Ideal) (k1_pay5 e) (ldW d 8 inb_S11x256x1024_S1x256x1024_8_0_0) (ldG g 8 inb_S11x256x256_S1x256x256_8_0_0)⟩,
      ⟨Rect.unit (s := S11x256x256) ![7, 0, 0] S1x256x256.size inb_S11x256x256_S1x256x256_7_0_0, k1_pay94 (F := Ideal) (k1_pay85 (k1_pay5 e) (ldW d 7 inb_S11x256x1024_S1x256x1024_7_0_0)) (ldG g 7 inb_S11x256x256_S1x256x256_7_0_0)⟩,
      ⟨Rect.unit (s := S11x256x256) ![6, 0, 0] S1x256x256.size inb_S11x256x256_S1x256x256_6_0_0, k1_pay83 (F := Ideal) (k1_pay74 (k1_pay5 e) (ldW d 6 inb_S11x256x1024_S1x256x1024_6_0_0)) (k1_pay75 (ldG g 6 inb_S11x256x256_S1x256x256_6_0_0)) (k1_pay77 (ldG g 6 inb_S11x256x256_S1x256x256_6_0_0))⟩,
      ⟨Rect.unit (s := S11x256x256) ![5, 0, 0] S1x256x256.size inb_S11x256x256_S1x256x256_5_0_0, k1_pay72 (F := Ideal) (k1_pay63 (k1_pay5 e) (ldW d 5 inb_S11x256x1024_S1x256x1024_5_0_0)) (k1_pay67 (ldG g 5 inb_S11x256x256_S1x256x256_5_0_0))⟩,
      ⟨Rect.unit (s := S11x256x256) ![4, 0, 0] S1x256x256.size inb_S11x256x256_S1x256x256_4_0_0, k1_pay61 (F := Ideal) (k1_pay59 (k1_pay5 e) (ldW d 4 inb_S11x256x1024_S1x256x1024_4_0_0) (ldG g 4 inb_S11x256x256_S1x256x256_4_0_0))⟩,
      ⟨Rect.unit (s := S11x256x256) ![3, 0, 0] S1x256x256.size inb_S11x256x256_S1x256x256_3_0_0, k1_pay50 (F := Ideal) (k1_pay48 (k1_pay5 e) (ldW d 3 inb_S11x256x1024_S1x256x1024_3_0_0) (ldG g 3 inb_S11x256x256_S1x256x256_3_0_0))⟩,
      ⟨Rect.unit (s := S11x256x256) ![2, 0, 0] S1x256x256.size inb_S11x256x256_S1x256x256_2_0_0, k1_pay38 (F := Ideal) (k1_pay5 e) (ldW d 2 inb_S11x256x1024_S1x256x1024_2_0_0) (ldG g 2 inb_S11x256x256_S1x256x256_2_0_0)⟩,
      ⟨Rect.unit (s := S11x256x256) ![1, 0, 0] S1x256x256.size inb_S11x256x256_S1x256x256_1_0_0, k1_pay27 (F := Ideal) (k1_pay18 (k1_pay5 e) (ldW d 1 inb_S11x256x1024_S1x256x1024_1_0_0)) (ldG g 1 inb_S11x256x256_S1x256x256_1_0_0)⟩,
      ⟨Rect.unit (s := S11x256x256) ![0, 0, 0] S1x256x256.size inb_S11x256x256_S1x256x256_0_0_0, k1_pay16 (F := Ideal) (k1_pay7 e (ldW d 0 inb_S11x256x1024_S1x256x1024_0_0_0)) (k1_pay8 (ldG g 0 inb_S11x256x256_S1x256x256_0_0_0)) (k1_pay10 (ldG g 0 inb_S11x256x256_S1x256x256_0_0_0))⟩] =
    blocks fun j => stored (backU (k1_pay5 e) g d j) := by
  have h0 : k1_pay16 (F := Ideal) (k1_pay7 e (ldW d 0 inb_S11x256x1024_S1x256x1024_0_0_0)) (k1_pay8 (ldG g 0 inb_S11x256x256_S1x256x256_0_0_0)) (k1_pay10 (ldG g 0 inb_S11x256x256_S1x256x256_0_0_0)) = stored (backU (k1_pay5 e) g d 0) := rfl
  have h1 : k1_pay27 (F := Ideal) (k1_pay18 (k1_pay5 e) (ldW d 1 inb_S11x256x1024_S1x256x1024_1_0_0)) (ldG g 1 inb_S11x256x256_S1x256x256_1_0_0) = stored (backU (k1_pay5 e) g d 1) := rfl
  have h2 : k1_pay38 (F := Ideal) (k1_pay5 e) (ldW d 2 inb_S11x256x1024_S1x256x1024_2_0_0) (ldG g 2 inb_S11x256x256_S1x256x256_2_0_0) = stored (backU (k1_pay5 e) g d 2) := rfl
  have h3 : k1_pay50 (F := Ideal) (k1_pay48 (k1_pay5 e) (ldW d 3 inb_S11x256x1024_S1x256x1024_3_0_0) (ldG g 3 inb_S11x256x256_S1x256x256_3_0_0)) = stored (backU (k1_pay5 e) g d 3) := rfl
  have h4 : k1_pay61 (F := Ideal) (k1_pay59 (k1_pay5 e) (ldW d 4 inb_S11x256x1024_S1x256x1024_4_0_0) (ldG g 4 inb_S11x256x256_S1x256x256_4_0_0)) = stored (backU (k1_pay5 e) g d 4) := rfl
  have h5 : k1_pay72 (F := Ideal) (k1_pay63 (k1_pay5 e) (ldW d 5 inb_S11x256x1024_S1x256x1024_5_0_0)) (k1_pay67 (ldG g 5 inb_S11x256x256_S1x256x256_5_0_0)) = stored (backU (k1_pay5 e) g d 5) := rfl
  have h6 : k1_pay83 (F := Ideal) (k1_pay74 (k1_pay5 e) (ldW d 6 inb_S11x256x1024_S1x256x1024_6_0_0)) (k1_pay75 (ldG g 6 inb_S11x256x256_S1x256x256_6_0_0)) (k1_pay77 (ldG g 6 inb_S11x256x256_S1x256x256_6_0_0)) = stored (backU (k1_pay5 e) g d 6) := rfl
  have h7 : k1_pay94 (F := Ideal) (k1_pay85 (k1_pay5 e) (ldW d 7 inb_S11x256x1024_S1x256x1024_7_0_0)) (ldG g 7 inb_S11x256x256_S1x256x256_7_0_0) = stored (backU (k1_pay5 e) g d 7) := rfl
  have h8 : k1_pay105 (F := Ideal) (k1_pay5 e) (ldW d 8 inb_S11x256x1024_S1x256x1024_8_0_0) (ldG g 8 inb_S11x256x256_S1x256x256_8_0_0) = stored (backU (k1_pay5 e) g d 8) := rfl
  have h9 : k1_pay117 (F := Ideal) (k1_pay115 (k1_pay5 e) (ldW d 9 inb_S11x256x1024_S1x256x1024_9_0_0) (ldG g 9 inb_S11x256x256_S1x256x256_9_0_0)) = stored (backU (k1_pay5 e) g d 9) := rfl
  have h10 : k1_pay128 (F := Ideal) (k1_pay126 (k1_pay5 e) (ldW d 10 inb_S11x256x1024_S1x256x1024_10_0_0) (ldG g 10 inb_S11x256x256_S1x256x256_10_0_0)) = stored (backU (k1_pay5 e) g d 10) := rfl
  rw [h0, h1, h2, h3, h4, h5, h6, h7, h8, h9, h10]
  rfl

end

end Cert.Ffn

end
-- ==== Proof.FfnPoint.lean ====
/- What the backward kernel leaves at each point of its grid. -/
module

public import proofs.«01_k».proof.Proof.FfnBack
public import proofs.«01_k».proof.Proof.Gen.Kernel2Ideal.Frame.Region1
public import Idealize.ShloMosaic.Lib.Pipeline.ValueKit

@[expose] public section

set_option maxRecDepth 16384

noncomputable section

namespace Cert.Ffn

open Idealize.ShloMosaic hiding ix1 ix2 ix3 ix4
open Idealize.ShloMosaic.TcCoe Idealize.SL.Sem
open Idealize.ShloMosaic.ValueIdx Cert.Attn Cert.Kernel2Ideal Cert.Kernel2Ideal.Gen

variable (V : (c : Dev nD) → (b : Ref sig .tc) → Buf (Elt Ideal) ((c : Thread nD τ).loc b)) (c : Dev nD) (t : Fin cfg1.N)

/-- The cotangent of the normalised rows at a point. -/
def pointH : FVec Ideal S256x1024 .f32 :=
  backH (k1_pay5 (iblk1 V c 2 t)) (iblk1 V c 3 t) (iblk1 V c 4 t) (iblk1 V c 5 t) (iblk1 V c 6 t) (iblk1 V c 7 t) 11 le_rfl

theorem at_dx : (outsAt1 (F := Ideal) V c t.val t.isLt).1 = backX (iblk1 V c 0 t) (iblk1 V c 2 t) (iblk1 V c 1 t) (pointH V c t) := by
  by_cases h : t.val % 8 = 0
  · rw [outsAt1_A V c t h]; frame_out
    rw [backH_1, backH_2, backH_3, backH_4, backH_5, backH_6, backH_7, backH_8, backH_9, backH_10, backX_eq]
    rfl
  · rw [outsAt1_B V c t h]; frame_out
    rw [backH_1, backH_2, backH_3, backH_4, backH_5, backH_6, backH_7, backH_8, backH_9, backH_10, backX_eq]
    rfl

theorem at_first (h : t.val % 8 = 0) : (outsAt1 (F := Ideal) V c t.val t.isLt).2.1 =
    backN (k1_pay132 (k1_pay131 (F := Ideal))) (iblk1 V c 0 t) (pointH V c t) := by
  rw [outsAt1_A V c t h]; frame_out
  rw [backH_1, backH_2, backH_3, backH_4, backH_5, backH_6, backH_7, backH_8, backH_9, backH_10, backN_eq]
  rfl

theorem at_next (h : ¬ t.val % 8 = 0) : (outsAt1 (F := Ideal) V c t.val t.isLt).2.1 =
    backN (k1_pay132 (outsAt1 (F := Ideal) V c (t.val - 1) (Nat.lt_of_le_of_lt (Nat.sub_le _ _) t.isLt)).2.1) (iblk1 V c 0 t) (pointH V c t) := by
  rw [outsAt1_B V c t h]; frame_out
  rw [backH_1, backH_2, backH_3, backH_4, backH_5, backH_6, backH_7, backH_8, backH_9, backH_10, backN_eq]
  rfl

theorem at_h : (outsAt1 (F := Ideal) V c t.val t.isLt).2.2.1 = k1_pay4 (iblk1 V c 0 t) (iblk1 V c 1 t) := by
  by_cases h : t.val % 8 = 0
  · rw [outsAt1_A V c t h]; frame_out
  · rw [outsAt1_B V c t h]; frame_out

theorem at_dyh : (outsAt1 (F := Ideal) V c t.val t.isLt).2.2.2.1 = k1_pay5 (iblk1 V c 2 t) := by
  by_cases h : t.val % 8 = 0
  · rw [outsAt1_A V c t h]; frame_out
  · rw [outsAt1_B V c t h]; frame_out

theorem at_a : (outsAt1 (F := Ideal) V c t.val t.isLt).2.2.2.2.1 = blocks fun j => stored (backA (iblk1 V c 3 t) (iblk1 V c 4 t) j) := by
  by_cases h : t.val % 8 = 0
  · rw [outsAt1_A V c t h]; frame_out; exact canonA _ _
  · rw [outsAt1_B V c t h]; frame_out; exact canonA _ _

theorem at_dg : (outsAt1 (F := Ideal) V c t.val t.isLt).2.2.2.2.2.1 =
    blocks fun j => stored (backG (k1_pay5 (iblk1 V c 2 t)) (iblk1 V c 3 t) (iblk1 V c 4 t) (iblk1 V c 7 t) j) := by
  by_cases h : t.val % 8 = 0
  · rw [outsAt1_A V c t h]; frame_out; exact canonG _ _ _ _
  · rw [outsAt1_B V c t h]; frame_out; exact canonG _ _ _ _

theorem at_du : (outsAt1 (F := Ideal) V c t.val t.isLt).2.2.2.2.2.2 =
    blocks fun j => stored (backU (k1_pay5 (iblk1 V c 2 t)) (iblk1 V c 3 t) (iblk1 V c 7 t) j) := by
  by_cases h : t.val % 8 = 0
  · rw [outsAt1_A V c t h]; frame_out; exact canonU _ _ _
  · rw [outsAt1_B V c t h]; frame_out; exact canonU _ _ _

/-! ## The values -/

/-- The point's tile of tokens. -/
def tile (t : Fin cfg1.N) (p : Fin 256) : Fin 2048 := row8 ⟨t.val, t.isLt⟩ p

variable {A : Args} (H : ∀ t : Fin cfg1.N, BackReads A (tile t) (iblk1 V c 0 t) (iblk1 V c 1 t) (iblk1 V c 2 t) (iblk1 V c 3 t) (iblk1 V c 4 t)
  (iblk1 V c 5 t) (iblk1 V c 6 t) (iblk1 V c 7 t))

include H

theorem dx_point (p : Fin 256) (l : Fin 1024) : (outsAt1 (F := Ideal) V c t.val t.isLt).1 (ix2 p l) = ((A.dx (tile t p) l : ℝ) : EReal) := by
  rw [at_dx]
  exact backX_apply (H t) p l

theorem h_point (p : Fin 256) (l : Fin 1024) : (outsAt1 (F := Ideal) V c t.val t.isLt).2.2.1 (ix2 p l) = ((A.h (tile t p) l : ℝ) : EReal) := by
  rw [at_h]
  exact h_apply (H t) p l

theorem dyh_point (p : Fin 256) (l : Fin 1024) :
    (outsAt1 (F := Ideal) V c t.val t.isLt).2.2.2.1 (ix2 p l) = ((A.dyh (tile t p) l : ℝ) : EReal) := by
  rw [at_dyh]
  exact dyh_apply (H t) p l

theorem a_point (y : S11x256x256.Idx) :
    (outsAt1 (F := Ideal) V c t.val t.isLt).2.2.2.2.1 y = byChunk (fun p => A.a (tile t p)) y := by
  rw [at_a]
  exact blocks_apply _ _ (fun j p k => (add_one _ _ p k).trans (backA_apply (H t) j p k)) y

theorem dg_point (y : S11x256x256.Idx) :
    (outsAt1 (F := Ideal) V c t.val t.isLt).2.2.2.2.2.1 y = byChunk (fun p => A.dg (tile t p)) y := by
  rw [at_dg]
  exact blocks_apply _ _ (fun j p k => (add_one _ _ p k).trans (backG_apply (H t) j p k)) y

theorem du_point (y : S11x256x256.Idx) :
    (outsAt1 (F := Ideal) V c t.val t.isLt).2.2.2.2.2.2 y = byChunk (fun p => A.du (tile t p)) y := by
  rw [at_du]
  exact blocks_apply _ _ (fun j p k => (add_one _ _ p k).trans (backU_apply (H t) j p k)) y

omit H in
/-- A cast to the same shape. -/
theorem same (z : FVec Ideal S1x1024 .f32) : k1_pay132 (F := Ideal) z = z :=
  funext fun j => shapeCast_apply z shapeCasts_S1x1024_S1x1024 j j rfl

/-- After the last point: the gain's gradient. -/
theorem dgain_point (ht : t.val + 1 = cfg1.N) (l : Fin 1024) :
    (outsAt1 (F := Ideal) V c t.val t.isLt).2.1 (ix2 0 l) = ((A.dgain l : ℝ) : EReal) := by
  refine (Pipeline.eq_sum_fin_of_reset_step_apply_last (fun n h (l : Fin 1024) => (outsAt1 (F := Ideal) V c n h).2.1 (ix2 0 l)) 8 (fun _ => (0 : EReal))
    (fun t l => ((∑ p, A.dh (tile t p) l * A.xhat (tile t p) l : ℝ) : EReal)) (fun t h l => ?_) (fun t h l => ?_) (by decide) t ht l).trans ?_
  · show (outsAt1 (F := Ideal) V c t.val t.isLt).2.1 (ix2 0 l) = _
    rw [at_first V c t h, same]
    refine (backN_apply (H t) _ l).trans (congrArg (· + _) ?_)
    exact Ideal.ofBits_zero_f32
  · show (outsAt1 (F := Ideal) V c t.val t.isLt).2.1 (ix2 0 l) = _
    rw [at_next V c t h, same]
    exact backN_apply (H t) _ l
  · rw [zero_add]
    refine (coe_sum _).trans (congrArg (fun z : ℝ => (z : EReal)) ?_)
    exact sum_row8 fun t => A.dh t l * A.xhat t l

end Cert.Ffn

end
-- ==== Proof.FfnRegion1.lean ====
/- The backward kernel's arrays after its run. -/
module

public import proofs.«01_k».proof.Proof.FfnPoint
public import proofs.«01_k».proof.Proof.FfnArrays

@[expose] public section

set_option maxRecDepth 16384

noncomputable section

namespace Cert.Ffn

open Idealize.ShloMosaic hiding ix1 ix2 ix3 ix4
open Idealize.ShloMosaic.TcCoe Idealize.SL.Sem
open Idealize.ShloMosaic.ValueIdx Cert.Attn Cert.Kernel2Ideal Cert.Kernel2Ideal.Gen

variable (V : (c : Dev nD) → (b : Ref sig .tc) → Buf (Elt Ideal) ((c : Thread nD τ).loc b)) (c : Dev nD)

/-- What the kernel's arrays hold before its run. -/
structure BackHolds (A : Args) : Prop where
  x : V c main_arg0 = rowsOf A.x
  gain : V c main_arg1 = rowOf A.gain
  dy : V c main_arg5 = rowsOf A.dy
  g : V c main_v8_1 = byChunk (R := 2048) A.g
  u : V c main_v8_2 = byChunk (R := 2048) A.u
  wg : V c main_v2 = weightsOf A.wg
  wu : V c main_v5 = weightsOf A.wu
  wd : V c main_v7 = weightsOf A.wd

/-- Where the windows stand at a point of the grid. -/
theorem places1 : ∀ t : Fin cfg1.N,
    win1_0.index t = ![t.val, 0] ∧ win1_1.index t = ![0, 0] ∧ win1_2.index t = ![t.val, 0] ∧ win1_3.index t = ![0, t.val, 0]
    ∧ win1_4.index t = ![0, t.val, 0] ∧ win1_5.index t = ![0, 0, 0] ∧ win1_6.index t = ![0, 0, 0] ∧ win1_7.index t = ![0, 0, 0]
    ∧ win1_8.index t = ![t.val, 0] ∧ win1_9.index t = ![0, 0] ∧ win1_10.index t = ![t.val, 0] ∧ win1_11.index t = ![t.val, 0]
    ∧ win1_12.index t = ![0, t.val, 0] ∧ win1_13.index t = ![0, t.val, 0] ∧ win1_14.index t = ![0, t.val, 0] :=
  (by decide +kernel : ∀ t : Fin grid1.N, _)

variable {A : Args} (H : BackHolds V c A)

include H

theorem reads1 (t : Fin cfg1.N) : BackReads A (tile t) (iblk1 V c 0 t) (iblk1 V c 1 t) (iblk1 V c 2 t) (iblk1 V c 3 t) (iblk1 V c 4 t)
    (iblk1 V c 5 t) (iblk1 V c 6 t) (iblk1 V c 7 t) := by
  obtain ⟨h0, h1, h2, h3, h4, h5, h6, h7, -⟩ := places1 t
  refine ⟨fun p e => ?_, fun e => ?_, fun p e => ?_, fun j p k => ?_, fun j p k => ?_, fun j k e => ?_, fun j k e => ?_, fun j k e => ?_⟩
  · refine Eq.trans (b := V c main_arg0 (ix2 (tile t p) e)) ?_ (congrFun H.x _)
    blk_ext [iblk1, h0, tile, row8]
  · refine Eq.trans (b := V c main_arg1 (ix2 0 e)) ?_ (congrFun H.gain _)
    blk_ext [iblk1, h1]
  · refine Eq.trans (b := V c main_arg5 (ix2 (tile t p) e)) ?_ (congrFun H.dy _)
    blk_ext [iblk1, h2, tile, row8]
  · refine Eq.trans (b := V c main_v8_1 (ix3 j (tile t p) k)) ?_ (congrFun H.g _)
    blk_ext [iblk1, h3, tile, row8]
  · refine Eq.trans (b := V c main_v8_2 (ix3 j (tile t p) k)) ?_ (congrFun H.u _)
    blk_ext [iblk1, h4, tile, row8]
  · refine Eq.trans (b := V c main_v2 (ix3 j k e)) ?_ (congrFun H.wg _)
    blk_ext [iblk1, h5]
  · refine Eq.trans (b := V c main_v5 (ix3 j k e)) ?_ (congrFun H.wu _)
    blk_ext [iblk1, h6]
  · refine Eq.trans (b := V c main_v7 (ix3 j k e)) ?_ (congrFun H.wd _)
    blk_ext [iblk1, h7]

theorem array_dx : (dat1 V c).arrAt 8 cfg1.N = rowsOf A.dx := by
  refine (dat1 V c).arrAt_eq_of_covers 8 _ (by decide +kernel) fun t hf y => ?_
  obtain ⟨-, -, -, -, -, -, -, -, h, -⟩ := places1 t
  blk_simp
  rw [after1_8]
  obtain ⟨p, l, rfl⟩ := two (a := 256) (b := 1024) y
  have hi : (win1_8.blk t).view.emb (ix2 p l) = ix2 (tile t p) l := by
    blk_ext [h, tile, row8]
  rw [hi]
  exact dx_point V c t (reads1 V c H) p l

theorem array_h : (dat1 V c).arrAt 10 cfg1.N = rowsOf A.h := by
  refine (dat1 V c).arrAt_eq_of_covers 10 _ (by decide +kernel) fun t hf y => ?_
  obtain ⟨-, -, -, -, -, -, -, -, -, -, h, -⟩ := places1 t
  blk_simp
  rw [after1_10]
  obtain ⟨p, l, rfl⟩ := two (a := 256) (b := 1024) y
  have hi : (win1_10.blk t).view.emb (ix2 p l) = ix2 (tile t p) l := by
    blk_ext [h, tile, row8]
  rw [hi]
  exact h_point V c t (reads1 V c H) p l

theorem array_dyh : (dat1 V c).arrAt 11 cfg1.N = rowsOf A.dyh := by
  refine (dat1 V c).arrAt_eq_of_covers 11 _ (by decide +kernel) fun t hf y => ?_
  obtain ⟨-, -, -, -, -, -, -, -, -, -, -, h, -⟩ := places1 t
  blk_simp
  rw [after1_11]
  obtain ⟨p, l, rfl⟩ := two (a := 256) (b := 1024) y
  have hi : (win1_11.blk t).view.emb (ix2 p l) = ix2 (tile t p) l := by
    blk_ext [h, tile, row8]
  rw [hi]
  exact dyh_point V c t (reads1 V c H) p l

theorem array_a : (dat1 V c).arrAt 12 cfg1.N = byChunk (R := 2048) A.a := by
  refine (dat1 V c).arrAt_eq_of_covers 12 _ (by decide +kernel) fun t hf y => ?_
  obtain ⟨-, -, -, -, -, -, -, -, -, -, -, -, h, -⟩ := places1 t
  blk_simp
  rw [after1_12]
  obtain ⟨j, p, k, rfl⟩ := three (a := 11) (b := 256) (e := 256) y
  have hi : (win1_12.blk t).view.emb (ix3 j p k) = ix3 j (tile t p) k := by
    blk_ext [h, tile, row8]
  rw [hi]
  exact a_point V c t (reads1 V c H) (ix3 j p k)

theorem array_dg : (dat1 V c).arrAt 13 cfg1.N = byChunk (R := 2048) A.dg := by
  refine (dat1 V c).arrAt_eq_of_covers 13 _ (by decide +kernel) fun t hf y => ?_
  obtain ⟨-, -, -, -, -, -, -, -, -, -, -, -, -, h, -⟩ := places1 t
  blk_simp
  rw [after1_13]
  obtain ⟨j, p, k, rfl⟩ := three (a := 11) (b := 256) (e := 256) y
  have hi : (win1_13.blk t).view.emb (ix3 j p k) = ix3 j (tile t p) k := by
    blk_ext [h, tile, row8]
  rw [hi]
  exact dg_point V c t (reads1 V c H) (ix3 j p k)

theorem array_du : (dat1 V c).arrAt 14 cfg1.N = byChunk (R := 2048) A.du := by
  refine (dat1 V c).arrAt_eq_of_covers 14 _ (by decide +kernel) fun t hf y => ?_
  obtain ⟨-, -, -, -, -, -, -, -, -, -, -, -, -, -, h⟩ := places1 t
  blk_simp
  rw [after1_14]
  obtain ⟨j, p, k, rfl⟩ := three (a := 11) (b := 256) (e := 256) y
  have hi : (win1_14.blk t).view.emb (ix3 j p k) = ix3 j (tile t p) k := by
    blk_ext [h, tile, row8]
  rw [hi]
  exact du_point V c t (reads1 V c H) (ix3 j p k)

theorem array_dgain : (dat1 V c).arrAt 9 cfg1.N = rowOf A.dgain := by
  refine (dat1 V c).arrAt_eq_of_after_last 9 t1_7 (by decide +kernel) _ fun y => ?_
  rw [after1_9]
  obtain ⟨i, l, rfl⟩ := two (a := 1) (b := 1024) y
  obtain rfl : i = 0 := Subsingleton.elim _ _
  exact dgain_point V c t1_7 (reads1 V c H) (by decide) l

end Cert.Ffn

end
-- ==== Proof.FfnRegion2.lean ====
/- The weights' gradients: a chunk of 256 hidden units at a time, and the arrays after the run. -/
module

public import proofs.«01_k».proof.Proof.FfnArrays
public import proofs.«01_k».proof.Proof.Gen.Kernel2Ideal.Frame.Region2

@[expose] public section

set_option maxRecDepth 16384

noncomputable section

namespace Cert.Ffn

open Idealize.ShloMosaic hiding ix1 ix2 ix3 ix4
open Idealize.ShloMosaic.TcCoe Idealize.SL.Sem
open Idealize.ShloMosaic.ValueIdx Cert.Attn Cert.Kernel2Ideal Cert.Kernel2Ideal.Gen

/-- A product of columns with columns. -/
theorem cols_cols (y : FVec Ideal S2048x256 .bf16) (z : FVec Ideal S2048x1024 .bf16) (y' : Fin 2048 → Fin 256 → ℝ) (z' : Fin 2048 → Fin 1024 → ℝ)
    (hy : ∀ i k, y (ix2 i k) = ((y' i k : ℝ) : EReal)) (hz : ∀ i l, z (ix2 i l) = ((z' i l : ℝ) : EReal)) (k : Fin 256) (l : Fin 1024) :
    matmul dot_S2048x256_S2048x1024_S256x1024_0_0_1_1_n_n none y z (constant S256x1024 .f32 0x00000000#32) (ix2 k l)
      = ((∑ i, y' i k * z' i l : ℝ) : EReal) := by
  refine (Ideal.matmul_constant_zero_apply _ none y z _).trans ?_
  rw [← Equiv.sum_comp (contrEquiv1 dot_S2048x256_S2048x1024_S256x1024_0_0_1_1_n_n 2048 rfl rfl).symm]
  refine sum_mul_coe _ _ (fun i => y' i k) (fun i => z' i l) (fun i => (congrArg y ?_).trans (hy i k)) fun i => (congrArg z ?_).trans (hz i l)
  · refine funext fun a => Fin.ext ?_
    match a with
    | ⟨0, _⟩ => exact (DotDims.lhsIdx_val_of_single _ rfl _ _).trans (contrEquiv1_symm_val _ 2048 rfl rfl i)
    | ⟨1, _⟩ => unfold DotDims.lhsIdx; rfl
  · refine funext fun a => Fin.ext ?_
    match a with
    | ⟨0, _⟩ => exact (DotDims.rhsIdx_val_of_single _ rfl _ _).trans (contrEquiv1_symm_val _ 2048 rfl rfl i)
    | ⟨1, _⟩ => unfold DotDims.rhsIdx; rfl

/-- A chunk's product, as it is stored. -/
def chunkGrad (w : FVec Ideal S1x2048x256 .bf16) (y : FVec Ideal S2048x1024 .bf16) : FVec Ideal S1x256x1024 .f32 :=
  shapeCast S1x256x1024 (matmul dot_S2048x256_S2048x1024_S256x1024_0_0_1_1_n_n none (shapeCast S2048x256 w shapeCasts_S1x2048x256_S2048x256)
    (shapeCast S2048x1024 y shapeCasts_S2048x1024_S2048x1024) (constant S256x1024 .f32 0x00000000#32)) shapeCasts_S256x1024_S1x256x1024

theorem chunkGrad_apply (w : FVec Ideal S1x2048x256 .bf16) (y : FVec Ideal S2048x1024 .bf16) (w' : Fin 2048 → Fin 256 → ℝ)
    (y' : Fin 2048 → Fin 1024 → ℝ) (hw : ∀ i k, w (ix3 0 i k) = ((w' i k : ℝ) : EReal)) (hy : ∀ i l, y (ix2 i l) = ((y' i l : ℝ) : EReal))
    (k : Fin 256) (l : Fin 1024) : chunkGrad w y (ix3 0 k l) = ((∑ i, w' i k * y' i l : ℝ) : EReal) :=
  (add_one _ _ k l).trans (cols_cols _ _ w' y' (fun i k => (drop_one w _ i k).trans (hw i k))
    (fun i l => (shapeCast_apply y shapeCasts_S2048x1024_S2048x1024 _ _ rfl).trans (hy i l)) k l)

section
variable (h y : FVec Ideal S2048x1024 .bf16) (a g u : FVec Ideal S1x2048x256 .bf16)

theorem gate_eq : out2_5 (F := Ideal) h y a g u = chunkGrad g h := by
  unfold out2_5
  rw [View.canon_cons_unit_lit _ _ _ (by decide), View.ld_unit_lit _ _ (by decide), View.ld_unit_lit _ _ (by decide)]
  rfl

theorem up_eq : out2_6 (F := Ideal) h y a g u = chunkGrad u h := by
  unfold out2_6
  rw [View.canon_cons_unit_lit _ _ _ (by decide), View.ld_unit_lit _ _ (by decide), View.ld_unit_lit _ _ (by decide)]
  rfl

theorem down_eq : out2_7 (F := Ideal) h y a g u = chunkGrad a y := by
  unfold out2_7
  rw [View.canon_cons_unit_lit _ _ _ (by decide), View.ld_unit_lit _ _ (by decide), View.ld_unit_lit _ _ (by decide)]
  rfl

end

variable (V : (c : Dev nD) → (b : Ref sig .tc) → Buf (Elt Ideal) ((c : Thread nD τ).loc b)) (c : Dev nD)

/-- What the kernel's arrays hold before its run. -/
structure GradHolds (A : Args) : Prop where
  h : V c main_v9_2 = rowsOf A.h
  dyh : V c main_v9_3 = rowsOf A.dyh
  a : V c main_v9_4 = byChunk (R := 2048) A.a
  dg : V c main_v9_5 = byChunk (R := 2048) A.dg
  du : V c main_v9_6 = byChunk (R := 2048) A.du

/-- Where the windows stand at a point of the grid. -/
theorem places2 : ∀ t : Fin cfg2.N,
    win2_0.index t = ![0, 0] ∧ win2_1.index t = ![0, 0] ∧ win2_2.index t = ![t.val, 0, 0] ∧ win2_3.index t = ![t.val, 0, 0]
    ∧ win2_4.index t = ![t.val, 0, 0] ∧ win2_5.index t = ![t.val, 0, 0] ∧ win2_6.index t = ![t.val, 0, 0] ∧ win2_7.index t = ![t.val, 0, 0] :=
  (by decide +kernel : ∀ t : Fin grid2.N, _)

/-- The point's chunk. -/
def chunk (t : Fin cfg2.N) : Fin 11 := ⟨t.val, t.isLt⟩

variable {A : Args} (H : GradHolds V c A) (t : Fin cfg2.N)

include H

theorem load_h (i : Fin 2048) (l : Fin 1024) : (iblk2 V c 0 t : Vec Ideal S2048x1024 .bf16) (ix2 i l) = ((A.h i l : ℝ) : EReal) := by
  obtain ⟨h, -⟩ := places2 t
  refine Eq.trans (b := V c main_v9_2 (ix2 i l)) ?_ (congrFun H.h _)
  blk_ext [iblk2, h]

theorem load_dyh (i : Fin 2048) (l : Fin 1024) : (iblk2 V c 1 t : Vec Ideal S2048x1024 .bf16) (ix2 i l) = ((A.dyh i l : ℝ) : EReal) := by
  obtain ⟨-, h, -⟩ := places2 t
  refine Eq.trans (b := V c main_v9_3 (ix2 i l)) ?_ (congrFun H.dyh _)
  blk_ext [iblk2, h]

theorem load_a (i : Fin 2048) (k : Fin 256) :
    (iblk2 V c 2 t : Vec Ideal S1x2048x256 .bf16) (ix3 0 i k) = ((A.a i (hid (chunk t) k) : ℝ) : EReal) := by
  obtain ⟨-, -, h, -⟩ := places2 t
  refine Eq.trans (b := V c main_v9_4 (ix3 (chunk t) i k)) ?_ (congrFun H.a _)
  blk_ext [iblk2, h, chunk]

theorem load_dg (i : Fin 2048) (k : Fin 256) :
    (iblk2 V c 3 t : Vec Ideal S1x2048x256 .bf16) (ix3 0 i k) = ((A.dg i (hid (chunk t) k) : ℝ) : EReal) := by
  obtain ⟨-, -, -, h, -⟩ := places2 t
  refine Eq.trans (b := V c main_v9_5 (ix3 (chunk t) i k)) ?_ (congrFun H.dg _)
  blk_ext [iblk2, h, chunk]

theorem load_du (i : Fin 2048) (k : Fin 256) :
    (iblk2 V c 4 t : Vec Ideal S1x2048x256 .bf16) (ix3 0 i k) = ((A.du i (hid (chunk t) k) : ℝ) : EReal) := by
  obtain ⟨-, -, -, -, h, -⟩ := places2 t
  refine Eq.trans (b := V c main_v9_6 (ix3 (chunk t) i k)) ?_ (congrFun H.du _)
  blk_ext [iblk2, h, chunk]

theorem array_dwg : (dat2 V c).arrAt 5 cfg2.N = weightsOf A.dwg := by
  refine (dat2 V c).arrAt_eq_of_covers 5 _ (by decide +kernel) fun t hf y => ?_
  obtain ⟨-, -, -, -, -, h, -⟩ := places2 t
  blk_simp
  rw [after2_5, gate_eq]
  obtain ⟨k, l, rfl⟩ := one_block (R := 256) (M := 1024) y
  have hi : (win2_5.blk t).view.emb (ix3 0 k l) = ix3 (chunk t) k l := by
    blk_ext [h, chunk]
  rw [hi]
  exact chunkGrad_apply _ _ _ _ (load_dg V c H t) (load_h V c H t) k l

theorem array_dwu : (dat2 V c).arrAt 6 cfg2.N = weightsOf A.dwu := by
  refine (dat2 V c).arrAt_eq_of_covers 6 _ (by decide +kernel) fun t hf y => ?_
  obtain ⟨-, -, -, -, -, -, h, -⟩ := places2 t
  blk_simp
  rw [after2_6, up_eq]
  obtain ⟨k, l, rfl⟩ := one_block (R := 256) (M := 1024) y
  have hi : (win2_6.blk t).view.emb (ix3 0 k l) = ix3 (chunk t) k l := by
    blk_ext [h, chunk]
  rw [hi]
  exact chunkGrad_apply _ _ _ _ (load_du V c H t) (load_h V c H t) k l

theorem array_dwd : (dat2 V c).arrAt 7 cfg2.N = weightsOf A.dwd := by
  refine (dat2 V c).arrAt_eq_of_covers 7 _ (by decide +kernel) fun t hf y => ?_
  obtain ⟨-, -, -, -, -, -, -, h⟩ := places2 t
  blk_simp
  rw [after2_7, down_eq]
  obtain ⟨k, l, rfl⟩ := one_block (R := 256) (M := 1024) y
  have hi : (win2_7.blk t).view.emb (ix3 0 k l) = ix3 (chunk t) k l := by
    blk_ext [h, chunk]
  rw [hi]
  exact chunkGrad_apply _ _ _ _ (load_a V c H t) (load_dyh V c H t) k l

end Cert.Ffn

end
-- ==== Proof.FfnInputs.lean ====
/- The programs' arguments, read as the real numbers of the formulas, and the results' arrays over the reals. -/
module

public import proofs.«01_k».proof.Proof.FfnArrays
public import Idealize.ShloMosaic.Lib.ValueLayout

@[expose] public section

noncomputable section

namespace Cert.Ffn

open Idealize.ShloMosaic hiding ix1 ix2 ix3 ix4
open Idealize.ShloMosaic.ValueIdx

/-- Arrays of the arguments' shapes. -/
abbrev RowsArr := (⟨2, ![2048, 1024]⟩ : Shape).Idx → EReal
abbrev RowArr := (⟨2, ![1, 1024]⟩ : Shape).Idx → EReal
abbrev ColumnsArr := (⟨2, ![1024, 2816]⟩ : Shape).Idx → EReal
abbrev UnitsArr := (⟨2, ![2816, 1024]⟩ : Shape).Idx → EReal

/-- A weight with one column, and with one row, per hidden unit. -/
def columnsOf (f : Weights) : ColumnsArr := fun y => ((f (y 1) (y 0) : ℝ) : EReal)
def unitsOf (f : Weights) : UnitsArr := fun y => ((f (y 0) (y 1) : ℝ) : EReal)

theorem eq_columnsOf {f : Weights} {z : ColumnsArr} (h : ∀ d i, z (ix2 d i) = ((f i d : ℝ) : EReal)) : z = columnsOf f := by
  funext y
  obtain ⟨d, i, rfl⟩ := two y
  exact h d i

theorem eq_unitsOf {f : Weights} {z : UnitsArr} (h : ∀ i d, z (ix2 i d) = ((f i d : ℝ) : EReal)) : z = unitsOf f := by
  funext y
  obtain ⟨i, d, rfl⟩ := two y
  exact h i d

theorem eq_rowsOf {f : Tokens} {z : RowsArr} (h : ∀ t d, z (ix2 t d) = ((f t d : ℝ) : EReal)) : z = rowsOf f := by
  funext y
  obtain ⟨t, d, rfl⟩ := two y
  exact h t d

theorem eq_rowOf {f : Fin 1024 → ℝ} {z : RowArr} (h : ∀ d, z (ix2 0 d) = ((f d : ℝ) : EReal)) : z = rowOf f := by
  funext y
  obtain ⟨t, d, rfl⟩ := two y
  have ht : t = 0 := Subsingleton.elim _ _
  subst ht
  exact h d

/-- The six arguments hold the real numbers `A`. -/
structure Args.Reads (A : Args) (x : RowsArr) (gain : RowArr) (wg wu : ColumnsArr) (wd : UnitsArr) (dy : RowsArr) : Prop where
  x : ∀ t d, x (ix2 t d) = ((A.x t d : ℝ) : EReal)
  gain : ∀ d, gain (ix2 0 d) = ((A.gain d : ℝ) : EReal)
  wg : ∀ d i, wg (ix2 d i) = ((A.wg i d : ℝ) : EReal)
  wu : ∀ d i, wu (ix2 d i) = ((A.wu i d : ℝ) : EReal)
  wd : ∀ i d, wd (ix2 i d) = ((A.wd i d : ℝ) : EReal)
  dy : ∀ t d, dy (ix2 t d) = ((A.dy t d : ℝ) : EReal)

namespace Args.Reads

variable {A : Args} {x : RowsArr} {gain : RowArr} {wg wu : ColumnsArr} {wd : UnitsArr} {dy : RowsArr} (H : A.Reads x gain wg wu wd dy)
include H

theorem rows_x : x = rowsOf A.x := eq_rowsOf H.x
theorem rows_dy : dy = rowsOf A.dy := eq_rowsOf H.dy
theorem row_gain : gain = rowOf A.gain := eq_rowOf H.gain

end Args.Reads

/-- Finite arguments are real numbers. -/
theorem exists_args (x : RowsArr) (gain : RowArr) (wg wu : ColumnsArr) (wd : UnitsArr) (dy : RowsArr) (h0 : ∀ i, ∃ r : ℝ, x i = r)
    (h1 : ∀ i, ∃ r : ℝ, gain i = r) (h2 : ∀ i, ∃ r : ℝ, wg i = r) (h3 : ∀ i, ∃ r : ℝ, wu i = r) (h4 : ∀ i, ∃ r : ℝ, wd i = r)
    (h5 : ∀ i, ∃ r : ℝ, dy i = r) : ∃ A : Args, A.Reads x gain wg wu wd dy := by
  have real : ∀ {y : EReal}, (∃ r : ℝ, y = r) → y = ((y.toReal : ℝ) : EReal) := by
    rintro y ⟨r, rfl⟩
    rw [EReal.toReal_coe]
  exact ⟨⟨fun t d => (x (ix2 t d)).toReal, fun d => (gain (ix2 0 d)).toReal, fun i d => (wg (ix2 d i)).toReal,
      fun i d => (wu (ix2 d i)).toReal, fun i d => (wd (ix2 i d)).toReal, fun t d => (dy (ix2 t d)).toReal⟩,
    ⟨fun _ _ => real (h0 _), fun _ => real (h1 _), fun _ _ => real (h2 _), fun _ _ => real (h3 _), fun _ _ => real (h4 _),
      fun _ _ => real (h5 _)⟩⟩

end Cert.Ffn

end
-- ==== Proof.FfnChain.lean ====
/- The kernel's arrays from call to call: what each call finds, what it leaves, and the results. -/
module

public import proofs.«01_k».proof.Proof.FfnRegion0
public import proofs.«01_k».proof.Proof.FfnRegion1
public import proofs.«01_k».proof.Proof.FfnRegion2
public import proofs.«01_k».proof.Proof.FfnInputs
public import proofs.«01_k».proof.Proof.Gen.Kernel2Ideal.Frame.Fold0
public import Idealize.ShloMosaic.Lib.Pipeline.ValueKit
public import Idealize.ShloMosaic.Lib.StableHlo.RunRead

@[expose] public section

set_option maxRecDepth 16384

noncomputable section

namespace Cert.Ffn

open Idealize.ShloMosaic hiding ix1 ix2 ix3 ix4
open Idealize.ShloMosaic.TcCoe Idealize.SL.Sem Idealize.ShloMosaic.ValueIdx Cert.Kernel2Ideal Cert.Kernel2Ideal.Gen

/-! ## The host's preparation of the weights, and its reading of their gradients -/

/-- Rows by chunk: row `j * 256 + k` is row `k` of chunk `j`. -/
theorem chunked (z : FVec Ideal S2816x1024 .f32) (hc : Shape.ShapeCasts S2816x1024 S11x256x1024) (f : Weights)
    (hz : ∀ i d, z (ix2 i d) = ((f i d : ℝ) : EReal)) : (shapeCast S11x256x1024 z hc : FVec Ideal S11x256x1024 .f32) = weightsOf f := by
  funext y
  obtain ⟨j, k, d, rfl⟩ := three y
  refine (shapeCast_apply z hc _ (ix2 (hid j k) d) ?_).trans (hz _ _)
  rw [Shape.rowMajor_val_two, Shape.rowMajor_val_three]
  rfl

/-- Chunks read back as rows. -/
theorem unchunked (hc : Shape.ShapeCasts S11x256x1024 S2816x1024) (f : Weights) (i : Fin 2816) (d : Fin 1024) :
    (shapeCast S2816x1024 (weightsOf f : FVec Ideal S11x256x1024 .f32) hc : FVec Ideal S2816x1024 .f32) (ix2 i d) = ((f i d : ℝ) : EReal) := by
  obtain ⟨j, k, rfl⟩ := hid_cases i
  refine (shapeCast_apply _ hc _ (ix3 j k d) ?_).trans rfl
  rw [Shape.rowMajor_val_two, Shape.rowMajor_val_three]
  rfl

variable (m : (ℓ : Loc nD τ sig) → Buf (Elt Ideal) ℓ) (ρ : Dev nD → PrngReg) (c : Dev nD)

theorem entry_wg : V1 m ρ c main_v2 = shapeCast S11x256x1024 (transpose S2816x1024 [1, 0] (m ((c : Thread nD τ).loc main_arg2))
    transposes_S1024x2816_S2816x1024_1_0) shapeCasts_S2816x1024_S11x256x1024 := by
  show StableHlo.after hostOps0 _ _ = _
  after_reads_simp
  rfl

theorem entry_wu : V1 m ρ c main_v5 = shapeCast S11x256x1024 (transpose S2816x1024 [1, 0] (m ((c : Thread nD τ).loc main_arg3))
    transposes_S1024x2816_S2816x1024_1_0) shapeCasts_S2816x1024_S11x256x1024 := by
  show StableHlo.after hostOps0 _ _ = _
  after_reads_simp
  rfl

theorem entry_wd : V1 m ρ c main_v7 = shapeCast S11x256x1024 (m ((c : Thread nD τ).loc main_arg4)) shapeCasts_S2816x1024_S11x256x1024 := by
  show StableHlo.after hostOps0 _ _ = _
  after_reads_simp
  rfl

theorem lines_dwg (W : Valuation τ sig (Elt Ideal)) : StableHlo.after hostOps3 W (Proc.devRef .tc main_v12)
    = transpose S1024x2816 [1, 0] (shapeCast S2816x1024 (W (Proc.devRef .tc main_v10_0)) shapeCasts_S11x256x1024_S2816x1024)
        transposes_S2816x1024_S1024x2816_1_0 := by
  after_reads_simp
  rfl

theorem lines_dwu (W : Valuation τ sig (Elt Ideal)) : StableHlo.after hostOps3 W (Proc.devRef .tc main_v14)
    = transpose S1024x2816 [1, 0] (shapeCast S2816x1024 (W (Proc.devRef .tc main_v10_1)) shapeCasts_S11x256x1024_S2816x1024)
        transposes_S2816x1024_S1024x2816_1_0 := by
  after_reads_simp
  rfl

theorem lines_dwd (W : Valuation τ sig (Elt Ideal)) : StableHlo.after hostOps3 W (Proc.devRef .tc main_v15)
    = shapeCast S2816x1024 (W (Proc.devRef .tc main_v10_2)) shapeCasts_S11x256x1024_S2816x1024 := by
  after_reads_simp
  rfl

/-! ## From call to call -/

variable {A : Args} (H : A.Reads (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)))
include H

/-- What the forward call finds. -/
theorem fwdHolds : FwdHolds (V1 m ρ) c A where
  x := (W1_args m ρ c main_arg0 (by decide)).trans (H.rows_x)
  gain := (W1_args m ρ c main_arg1 (by decide)).trans (H.row_gain)
  wg := (entry_wg m ρ c).trans (chunked _ _ _ fun i d => (transpose_ix2_apply _ _ i d).trans (H.wg d i))
  wu := (entry_wu m ρ c).trans (chunked _ _ _ fun i d => (transpose_ix2_apply _ _ i d).trans (H.wu d i))
  wd := (entry_wd m ρ c).trans (chunked _ _ _ H.wd)

/-- What the backward call for the rows finds. -/
theorem backHolds : BackHolds (V2 m ρ) c A where
  x := (W2_of m ρ c main_arg0 (by decide)).trans (fwdHolds m ρ c H).x
  gain := (W2_of m ρ c main_arg1 (by decide)).trans (fwdHolds m ρ c H).gain
  dy := (W2_args m ρ c main_arg5 (by decide)).trans (H.rows_dy)
  g := (W2_arr m ρ c 6).trans (array_g (V1 m ρ) c (fwdHolds m ρ c H))
  u := (W2_arr m ρ c 7).trans (array_u (V1 m ρ) c (fwdHolds m ρ c H))
  wg := (W2_of m ρ c main_v2 (by decide)).trans (fwdHolds m ρ c H).wg
  wu := (W2_of m ρ c main_v5 (by decide)).trans (fwdHolds m ρ c H).wu
  wd := (W2_of m ρ c main_v7 (by decide)).trans (fwdHolds m ρ c H).wd

/-- What the backward call for the weights finds. -/
theorem gradHolds : GradHolds (V3 m ρ) c A where
  h := (W3_arr m ρ c 10).trans (array_h (V2 m ρ) c (backHolds m ρ c H))
  dyh := (W3_arr m ρ c 11).trans (array_dyh (V2 m ρ) c (backHolds m ρ c H))
  a := (W3_arr m ρ c 12).trans (array_a (V2 m ρ) c (backHolds m ρ c H))
  dg := (W3_arr m ρ c 13).trans (array_dg (V2 m ρ) c (backHolds m ρ c H))
  du := (W3_arr m ρ c 14).trans (array_du (V2 m ρ) c (backHolds m ρ c H))

/-! ## The results -/

theorem result_out : W5 m ρ c (Proc.devRef .tc main_v8_0) = rowsOf A.out :=
  (W5_of m ρ c main_v8_0 (by decide)).trans ((W4_of m ρ c main_v8_0 (by decide)).trans ((W3_of m ρ c main_v8_0 (by decide)).trans
    ((W2_arr m ρ c 5).trans (array_out (V1 m ρ) c (fwdHolds m ρ c H)))))

theorem result_dx : W5 m ρ c (Proc.devRef .tc main_v9_0) = rowsOf A.dx :=
  (W5_of m ρ c main_v9_0 (by decide)).trans ((W4_of m ρ c main_v9_0 (by decide)).trans
    ((W3_arr m ρ c 8).trans (array_dx (V2 m ρ) c (backHolds m ρ c H))))

theorem result_dgain : W5 m ρ c (Proc.devRef .tc main_v9_1) = rowOf A.dgain :=
  (W5_of m ρ c main_v9_1 (by decide)).trans ((W4_of m ρ c main_v9_1 (by decide)).trans
    ((W3_arr m ρ c 9).trans (array_dgain (V2 m ρ) c (backHolds m ρ c H))))

theorem left_dwg : W4 m ρ c (Proc.devRef .tc main_v10_0) = weightsOf A.dwg :=
  (W4_arr m ρ c 5).trans (array_dwg (V3 m ρ) c (gradHolds m ρ c H))

theorem left_dwu : W4 m ρ c (Proc.devRef .tc main_v10_1) = weightsOf A.dwu :=
  (W4_arr m ρ c 6).trans (array_dwu (V3 m ρ) c (gradHolds m ρ c H))

theorem left_dwd : W4 m ρ c (Proc.devRef .tc main_v10_2) = weightsOf A.dwd :=
  (W4_arr m ρ c 7).trans (array_dwd (V3 m ρ) c (gradHolds m ρ c H))

theorem result_dwg : W5 m ρ c (Proc.devRef .tc main_v12) = columnsOf A.dwg := by
  refine (lines_dwg _).trans ?_
  rw [left_dwg m ρ c H]
  refine eq_columnsOf fun d i => ?_
  exact (transpose_ix2_apply _ _ d i).trans (unchunked _ _ i d)

theorem result_dwu : W5 m ρ c (Proc.devRef .tc main_v14) = columnsOf A.dwu := by
  refine (lines_dwu _).trans ?_
  rw [left_dwu m ρ c H]
  refine eq_columnsOf fun d i => ?_
  exact (transpose_ix2_apply _ _ d i).trans (unchunked _ _ i d)

theorem result_dwd : W5 m ρ c (Proc.devRef .tc main_v15) = unitsOf A.dwd := by
  refine (lines_dwd _).trans ?_
  rw [left_dwd m ρ c H]
  exact eq_unitsOf fun i d => unchunked _ _ i d

end Cert.Ffn

end
-- ==== Proof.FfnRun.lean ====
/- The kernel's run: its results are what the host's last lines leave. -/
module

public import proofs.«01_k».proof.Proof.Gen.Kernel2Ideal.Frame

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unfolding plain definitions
set_option backward.isDefEq.respectTransparency.types false in
/-- Every run ends with the six results at what the last lines leave. -/
theorem run_results : θ_run defs (onTc (τ := τ) (main (F := F))) ⟨m, fun _ => 0, ρ⟩ (fun r => ∀ c : Dev nD,
      r.2.mem ((c.tc : Thread nD τ).loc main_v8_0) = W5 m ρ c (Proc.devRef .tc main_v8_0)
      ∧ r.2.mem ((c.tc : Thread nD τ).loc main_v9_0) = W5 m ρ c (Proc.devRef .tc main_v9_0)
      ∧ r.2.mem ((c.tc : Thread nD τ).loc main_v9_1) = W5 m ρ c (Proc.devRef .tc main_v9_1)
      ∧ r.2.mem ((c.tc : Thread nD τ).loc main_v12) = W5 m ρ c (Proc.devRef .tc main_v12)
      ∧ r.2.mem ((c.tc : Thread nD τ).loc main_v14) = W5 m ρ c (Proc.devRef .tc main_v14)
      ∧ r.2.mem ((c.tc : Thread nD τ).loc main_v15) = W5 m ρ c (Proc.devRef .tc main_v15)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ c =>
      ⟨h c _ (mem_uc main_v8_0 (by decide)),
       h c _ (mem_uc main_v9_0 (by decide)),
       h c _ (mem_uc main_v9_1 (by decide)),
       h c _ (mem_uc main_v12 (by decide)),
       h c _ (mem_uc main_v14 (by decide)),
       h c _ (mem_uc main_v15 (by decide))⟩)

end Cert.Ffn

end
-- ==== Proof.FfnRef.lean ====
/- What the reference computes on the way to the layer's output: each line is its formula over the reals. -/
module

public import proofs.«01_k».proof.Proof.FfnOps
public import proofs.«01_k».proof.Proof.FfnInputs
public import proofs.«01_k».proof.Proof.Gen.Reference2Ideal.Read

@[expose] public section

noncomputable section

namespace Cert.Ffn

open Idealize.ShloMosaic hiding ix1 ix2 ix3 ix4
open Idealize.ShloMosaic.ValueIdx Cert.Reference2Ideal Cert.Reference2Ideal.Read Cert.Attn

/-! ## The operations on real numbers -/

section
variable {a b : EReal} {a' b' : ℝ}

theorem mul_of (ha : a = (a' : EReal)) (hb : b = (b' : EReal)) : FloatOps.mulf (F := Ideal) (φ := .f32) a b = ((a' * b' : ℝ) : EReal) := by
  rw [ha, hb]
  exact (EReal.coe_mul _ _).symm

theorem add_of (ha : a = (a' : EReal)) (hb : b = (b' : EReal)) : FloatOps.addf (F := Ideal) (φ := .f32) a b = ((a' + b' : ℝ) : EReal) := by
  rw [ha, hb]
  exact (EReal.coe_add _ _).symm

theorem sub_of (ha : a = (a' : EReal)) (hb : b = (b' : EReal)) : FloatOps.subf (F := Ideal) (φ := .f32) a b = ((a' - b' : ℝ) : EReal) := by
  rw [ha, hb]
  exact (EReal.coe_sub _ _).symm

theorem div_of (ha : a = (a' : EReal)) (hb : b = (b' : EReal)) (h : b' ≠ 0) :
    FloatOps.hostDivf (F := Ideal) (φ := .f32) a b = ((a' / b' : ℝ) : EReal) := by
  rw [ha, hb]
  exact div_real _ h

theorem zero_sum_of {ι : Type} [Fintype ι] {f : ι → EReal} (z : EReal) (hz : z = 0) (f' : ι → ℝ) (h : ∀ i, f i = ((f' i : ℝ) : EReal)) :
    z + ∑ i, f i = ((∑ i, f' i : ℝ) : EReal) := by
  rw [hz, zero_add, ← coe_sum]
  exact Finset.sum_congr rfl fun i _ => h i

end

theorem ofBits_neg_half : Ideal.ofBits .f32 0xBF000000#32 = ((-(1 / 2) : ℝ) : EReal) := by
  simp [Ideal.ofBits, Ideal.ieee, -EReal.coe_mul]; norm_num

/-! ## The lines -/

namespace Args.Reads

variable {A : Args} {x0 : RowsArr} {x1 : RowArr} {x2 x3 : ColumnsArr} {x4 : UnitsArr} {x5 : RowsArr} (H : A.Reads x0 x1 x2 x3 x4 x5)
include H

theorem at_x (i : S2048x1024.Idx) : x0 i = ((A.x (i 0) (i 1) : ℝ) : EReal) := congrFun H.rows_x i
theorem at_dy (i : S2048x1024.Idx) : x5 i = ((A.dy (i 0) (i 1) : ℝ) : EReal) := congrFun H.rows_dy i
theorem at_gain (i : S1x1024.Idx) : x1 i = ((A.gain (i 1) : ℝ) : EReal) := congrFun H.row_gain i
theorem at_wg (i : S1024x2816.Idx) : x2 i = ((A.wg (i 1) (i 0) : ℝ) : EReal) := congrFun (eq_columnsOf H.wg) i
theorem at_wu (i : S1024x2816.Idx) : x3 i = ((A.wu (i 1) (i 0) : ℝ) : EReal) := congrFun (eq_columnsOf H.wu) i
theorem at_wd (i : S2816x1024.Idx) : x4 i = ((A.wd (i 0) (i 1) : ℝ) : EReal) := congrFun (eq_unitsOf H.wd) i

theorem ref_sumsq (i : S2048.Idx) : val_main_v2 (F := Ideal) x0 i = ((∑ d, A.x (i 0) d * A.x (i 0) d : ℝ) : EReal) := by
  rw [val_main_v2_apply]
  exact zero_sum_of _ Ideal.ofBits_zero_f32 (fun d => A.x (i 0) d * A.x (i 0) d)
    fun d => (val_main_v1_apply (F := Ideal) x0 _).trans (mul_of (H.at_x _) (H.at_x _))

theorem ref_ms (i : S2048x1.Idx) : val_main_v7 (F := Ideal) x0 i = ((A.ms (i 0) : ℝ) : EReal) := by
  rw [val_main_v7_apply, val_main_v5_apply, val_main_v3_apply, val_main_v4_apply, val_main_v6_apply]
  exact add_of (div_of (H.ref_sumsq _) ofBits_width (by norm_num)) ofBits_eps

theorem ref_scale (i : S2048x1.Idx) : val_main_v8 (F := Ideal) x0 i = ((A.scale (i 0) : ℝ) : EReal) := by
  rw [val_main_v8_apply, H.ref_ms]
  exact rsqrt_real (A.ms_pos _)

theorem ref_xhat (i : S2048x1024.Idx) : val_main_v13 (F := Ideal) x0 i = ((A.xhat (i 0) (i 1) : ℝ) : EReal) := by
  rw [val_main_v13_apply, val_main_v12_apply]
  exact mul_of (H.at_x i) (H.ref_scale _)

theorem ref_gain (i : S1x1024.Idx) : val_main_v14 (F := Ideal) x1 i = ((A.gain (i 1) : ℝ) : EReal) := by
  rw [val_main_v14_apply, val_main_v0_apply]
  refine (H.at_gain _).trans (congrArg (fun d : Fin 1024 => ((A.gain d : ℝ) : EReal)) (Fin.ext ?_))
  exact Nat.mod_eq_of_lt (i 1).isLt

theorem ref_h (i : S2048x1024.Idx) : val_main_v16 (F := Ideal) x0 x1 i = ((A.h (i 0) (i 1) : ℝ) : EReal) := by
  rw [val_main_v16_apply, val_main_v15_apply]
  exact mul_of (H.ref_xhat i) (H.ref_gain _)

theorem ref_g (i : S2048x2816.Idx) : val_main_v17 (F := Ideal) x0 x1 x2 i = ((A.g (i 0) (i 1) : ℝ) : EReal) := by
  rw [val_main_v17_apply]
  exact sum_mul_coe _ _ (fun d => A.h (i 0) d) (fun d => A.wg (i 1) d) (fun d => H.ref_h _) fun d => H.at_wg _

theorem ref_u (i : S2048x2816.Idx) : val_main_v19 (F := Ideal) x0 x1 x3 i = ((A.u (i 0) (i 1) : ℝ) : EReal) := by
  rw [val_main_v19_apply]
  exact sum_mul_coe _ _ (fun d => A.h (i 0) d) (fun d => A.wu (i 1) d) (fun d => H.ref_h _) fun d => H.at_wu _

theorem ref_sgm (i : S2048x2816.Idx) : val_main_v18_2 (F := Ideal) x0 x1 x2 i = ((sgm (A.g (i 0) (i 1)) : ℝ) : EReal) := by
  have he : val_main_call0_v1 (F := Ideal) x0 x1 x2 i = ((Real.exp (-A.g (i 0) (i 1)) : ℝ) : EReal) := by
    rw [val_main_call0_v1_apply, val_main_call0_v0_apply, H.ref_g]
    exact (congrArg Ideal.exp (EReal.coe_neg _).symm).trans (Ideal.exp_coe _)
  rw [val_main_v18_2_apply, val_main_call0_v4_apply, val_main_call0_v3_apply, val_main_call0_v2_apply]
  refine (div_of ofBits_one (add_of ofBits_one he) ?_).trans (congrArg (fun r : ℝ => (r : EReal)) (one_div _))
  exact (add_pos one_pos (Real.exp_pos _)).ne'

theorem ref_silu (i : S2048x2816.Idx) : val_main_v18_0 (F := Ideal) x0 x1 x2 i = ((silu (A.g (i 0) (i 1)) : ℝ) : EReal) := by
  rw [val_main_v18_0_apply]
  exact mul_of (H.ref_g i) (H.ref_sgm i)

theorem ref_slope (i : S2048x2816.Idx) : val_main_v18_1 (F := Ideal) x0 x1 x2 i
    = ((sgm (A.g (i 0) (i 1)) * (1 - sgm (A.g (i 0) (i 1))) : ℝ) : EReal) := by
  rw [val_main_v18_1_apply, val_main_call0_v7_apply, val_main_call0_v6_apply]
  exact mul_of (H.ref_sgm i) (sub_of ofBits_one (H.ref_sgm i))

theorem ref_a (i : S2048x2816.Idx) : val_main_v20 (F := Ideal) x0 x1 x2 x3 i = ((A.a (i 0) (i 1) : ℝ) : EReal) := by
  rw [val_main_v20_apply]
  exact mul_of (H.ref_silu i) (H.ref_u i)

/-- The layer's output. -/
theorem ref_out : val_main_v24 (F := Ideal) x0 x1 x2 x3 x4 = rowsOf A.out := by
  funext i
  have hs : val_main_v21 (F := Ideal) x0 x1 x2 x3 x4 i = ((∑ f, A.a (i 0) f * A.wd f (i 1) : ℝ) : EReal) := by
    rw [val_main_v21_apply]
    exact sum_mul_coe _ _ (fun f => A.a (i 0) f) (fun f => A.wd f (i 1)) (fun f => H.ref_a _) fun f => H.at_wd _
  rw [val_main_v24_apply, val_main_v23_apply, val_main_v22_apply]
  exact add_of (H.at_x i) (mul_of ofBits_half hs)

end Args.Reads

end Cert.Ffn

end
-- ==== Proof.FfnRefBack.lean ====
/- What the reference's backward pass computes: each line is its formula over the reals. -/
module

public import proofs.«01_k».proof.Proof.FfnRef

@[expose] public section

noncomputable section

namespace Cert.Ffn

open Idealize.ShloMosaic hiding ix1 ix2 ix3 ix4
open Idealize.ShloMosaic.ValueIdx Cert.Reference2Ideal Cert.Reference2Ideal.Read Cert.Attn

/-- The gradient of the input as differentiating the mean square's reciprocal root gives it. -/
theorem Args.dx_eq (A : Args) (t : Fin 2048) (d : Fin 1024) :
    A.dy t d + A.dxhat t d * A.scale t
        + A.x t d * ((∑ e, A.x t e * A.dxhat t e) * (-(1 / 2) * (A.scale t / A.ms t)) / 1024)
        + (∑ e, A.x t e * A.dxhat t e) * (-(1 / 2) * (A.scale t / A.ms t)) / 1024 * A.x t d = A.dx t d := by
  have hs : ∑ e, A.dxhat t e * A.xhat t e = A.scale t * ∑ e, A.x t e * A.dxhat t e := by
    rw [Finset.mul_sum]
    exact Finset.sum_congr rfl fun e _ => by unfold Args.xhat; ring
  have hm : A.scale t / A.ms t = A.scale t * (A.scale t * A.scale t) := by rw [A.scale_sq, mul_one_div]
  rw [hm]
  unfold Args.dx
  rw [hs]
  unfold Args.xhat
  ring

namespace Args.Reads

variable {A : Args} {x0 : RowsArr} {x1 : RowArr} {x2 x3 : ColumnsArr} {x4 : UnitsArr} {x5 : RowsArr} (H : A.Reads x0 x1 x2 x3 x4 x5)
include H

theorem ref_dyh (i : S2048x1024.Idx) : val_main_v27 (F := Ideal) x5 i = ((A.dyh (i 0) (i 1) : ℝ) : EReal) := by
  have hi : idx_main_v25 i = i := by
    have h0 : (i 0).val < 2048 := (i 0).isLt
    have h1 : (i 1).val < 1024 := (i 1).isLt
    refine funext fun a => Fin.ext ?_
    match a with
    | ⟨0, _⟩ => show ((i 0).val * 1024 + (i 1).val) / 1024 = (i 0).val; omega
    | ⟨1, _⟩ => show ((i 0).val * 1024 + (i 1).val) % 1024 = (i 1).val; omega
  rw [val_main_v27_apply, val_main_v26_apply, val_main_v25_apply, hi]
  exact mul_of ofBits_half (H.at_dy i)

/-- The gradient of the last weight. -/
theorem ref_dwd : val_main_v29 (F := Ideal) x0 x1 x2 x3 x5 = unitsOf A.dwd := by
  funext i
  rw [val_main_v29_apply, val_main_v28_apply]
  refine (sum_mul_coe _ _ (fun t => A.dyh t (i 1)) (fun t => A.a t (i 0)) (fun t => H.ref_dyh _) fun t => H.ref_a _).trans ?_
  exact congrArg (fun r : ℝ => (r : EReal)) (Finset.sum_congr rfl fun t _ => mul_comm _ _)

theorem ref_da (i : S2048x2816.Idx) : val_main_v30 (F := Ideal) x4 x5 i = ((A.da (i 0) (i 1) : ℝ) : EReal) := by
  rw [val_main_v30_apply]
  exact sum_mul_coe _ _ (fun d => A.dyh (i 0) d) (fun d => A.wd (i 1) d) (fun d => H.ref_dyh _) fun d => H.at_wd _

theorem ref_du (i : S2048x2816.Idx) : val_main_v31 (F := Ideal) x0 x1 x2 x4 x5 i = ((A.du (i 0) (i 1) : ℝ) : EReal) := by
  rw [val_main_v31_apply]
  exact (mul_of (H.ref_silu i) (H.ref_da i)).trans (congrArg (fun r : ℝ => (r : EReal)) (mul_comm _ _))

/-- The gradient of the second projection's weight. -/
theorem ref_dwu : val_main_v34 (F := Ideal) x0 x1 x2 x4 x5 = columnsOf A.dwu := by
  funext i
  rw [val_main_v34_apply, val_main_v33_apply]
  exact sum_mul_coe _ _ (fun t => A.du t (i 1)) (fun t => A.h t (i 0)) (fun t => H.ref_du _) fun t => H.ref_h _

theorem ref_dg (i : S2048x2816.Idx) : val_main_v36 (F := Ideal) x0 x1 x2 x3 x4 x5 i = ((A.dg (i 0) (i 1) : ℝ) : EReal) := by
  have hu : val_main_v32 (F := Ideal) x0 x1 x3 x4 x5 i = ((A.da (i 0) (i 1) * A.u (i 0) (i 1) : ℝ) : EReal) := by
    rw [val_main_v32_apply]
    exact mul_of (H.ref_da i) (H.ref_u i)
  rw [val_main_v36_apply, val_main_call1_v1_apply, val_main_call1_v2_apply, val_main_call1_v0_apply]
  refine (add_of (mul_of hu (H.ref_sgm i)) (mul_of (mul_of (H.ref_g i) hu) (H.ref_slope i))).trans
    (congrArg (fun r : ℝ => (r : EReal)) ?_)
  unfold Args.dg silu
  ring

/-- The gradient of the gate's weight. -/
theorem ref_dwg : val_main_v38 (F := Ideal) x0 x1 x2 x3 x4 x5 = columnsOf A.dwg := by
  funext i
  rw [val_main_v38_apply, val_main_v37_apply]
  exact sum_mul_coe _ _ (fun t => A.dg t (i 1)) (fun t => A.h t (i 0)) (fun t => H.ref_dg _) fun t => H.ref_h _

theorem ref_dh (i : S2048x1024.Idx) : val_main_v40 (F := Ideal) x0 x1 x2 x3 x4 x5 i = ((A.dh (i 0) (i 1) : ℝ) : EReal) := by
  have hu : val_main_v35 (F := Ideal) x0 x1 x2 x3 x4 x5 i = ((∑ f, A.du (i 0) f * A.wu f (i 1) : ℝ) : EReal) := by
    rw [val_main_v35_apply]
    exact sum_mul_coe _ _ (fun f => A.du (i 0) f) (fun f => A.wu f (i 1)) (fun f => H.ref_du _) fun f => H.at_wu _
  have hg : val_main_v39 (F := Ideal) x0 x1 x2 x3 x4 x5 i = ((∑ f, A.dg (i 0) f * A.wg f (i 1) : ℝ) : EReal) := by
    rw [val_main_v39_apply]
    exact sum_mul_coe _ _ (fun f => A.dg (i 0) f) (fun f => A.wg f (i 1)) (fun f => H.ref_dg _) fun f => H.at_wg _
  rw [val_main_v40_apply]
  refine (add_of hu hg).trans (congrArg (fun r : ℝ => (r : EReal)) ?_)
  rw [add_comm, ← Finset.sum_add_distrib]
  rfl

theorem ref_colsum (i : S1024.Idx) : val_main_v42 (F := Ideal) x0 x1 x2 x3 x4 x5 i = ((A.dgain (i 0) : ℝ) : EReal) := by
  rw [val_main_v42_apply]
  exact zero_sum_of _ Ideal.ofBits_zero_f32 (fun t => A.dh t (i 0) * A.xhat t (i 0)) fun t =>
    (val_main_v41_apply (F := Ideal) x0 x1 x2 x3 x4 x5 _).trans
      ((mul_of (H.ref_xhat _) (H.ref_dh _)).trans (congrArg (fun r : ℝ => (r : EReal)) (mul_comm _ _)))

/-- The gradient of the gain. -/
theorem ref_dgain : val_main_v62 (F := Ideal) x0 x1 x2 x3 x4 x5 = rowOf A.dgain := by
  funext i
  rw [val_main_v62_apply, val_main_v46_apply]
  refine (zero_sum_of _ Ideal.ofBits_zero_f32 (fun _ : Fin 1 => A.dgain (i 1)) fun k => ?_).trans
    (congrArg (fun r : ℝ => (r : EReal)) (Fin.sum_univ_one _))
  rw [val_main_v43_apply, H.ref_colsum]
  refine congrArg (fun d : Fin 1024 => ((A.dgain d : ℝ) : EReal)) (Fin.ext ?_)
  have hk : k.val < 1 := k.isLt
  show k.val * 1024 + (i 1).val = (i 1).val
  omega

theorem ref_dxhat (i : S2048x1024.Idx) : val_main_v45 (F := Ideal) x0 x1 x2 x3 x4 x5 i = ((A.dxhat (i 0) (i 1) : ℝ) : EReal) := by
  rw [val_main_v45_apply, val_main_v44_apply]
  exact mul_of (H.ref_dh i) (H.ref_gain _)

theorem ref_rowsum (i : S2048.Idx) : val_main_v48 (F := Ideal) x0 x1 x2 x3 x4 x5 i
    = ((∑ e, A.x (i 0) e * A.dxhat (i 0) e : ℝ) : EReal) := by
  rw [val_main_v48_apply]
  exact zero_sum_of _ Ideal.ofBits_zero_f32 (fun e => A.x (i 0) e * A.dxhat (i 0) e) fun e =>
    (val_main_v47_apply (F := Ideal) x0 x1 x2 x3 x4 x5 _).trans (mul_of (H.at_x _) (H.ref_dxhat _))

theorem ref_pull (i : S2048x1.Idx) : val_main_v55 (F := Ideal) x0 x1 x2 x3 x4 x5 i
    = (((∑ e, A.x (i 0) e * A.dxhat (i 0) e) * (-(1 / 2) * (A.scale (i 0) / A.ms (i 0))) / 1024 : ℝ) : EReal) := by
  have hi : (idx_main_v49 i 0 : Fin 2048) = i 0 := Fin.ext (by
    have h1 : (i 1).val < 1 := (i 1).isLt
    show (i 0).val * 1 + (i 1).val = (i 0).val
    omega)
  have hs : val_main_v49 (F := Ideal) x0 x1 x2 x3 x4 x5 i = ((∑ e, A.x (i 0) e * A.dxhat (i 0) e : ℝ) : EReal) := by
    rw [val_main_v49_apply, H.ref_rowsum]
    exact congrArg (fun t : Fin 2048 => ((∑ e, A.x t e * A.dxhat t e : ℝ) : EReal)) hi
  rw [val_main_v55_apply, val_main_v53_apply, val_main_v54_apply, val_main_v11_apply, val_main_v10_apply, val_main_v9_apply]
  exact div_of (mul_of hs (mul_of ofBits_neg_half (div_of (H.ref_scale i) (H.ref_ms i) (A.ms_pos _).ne'))) ofBits_width (by norm_num)

theorem ref_spread (i : S2048x1024.Idx) : val_main_v57 (F := Ideal) x0 x1 x2 x3 x4 x5 i
    = (((∑ e, A.x (i 0) e * A.dxhat (i 0) e) * (-(1 / 2) * (A.scale (i 0) / A.ms (i 0))) / 1024 : ℝ) : EReal) := by
  rw [val_main_v57_apply, val_main_v56_apply]
  exact (zero_sum_of _ Ideal.ofBits_zero_f32
      (fun _ : Fin 1 => (∑ e, A.x (i 0) e * A.dxhat (i 0) e) * (-(1 / 2) * (A.scale (i 0) / A.ms (i 0))) / 1024) fun k => H.ref_pull _).trans
    (congrArg (fun r : ℝ => (r : EReal)) (Fin.sum_univ_one _))

/-- The gradient of the input. -/
theorem ref_dx : val_main_v61 (F := Ideal) x0 x1 x2 x3 x4 x5 = rowsOf A.dx := by
  funext i
  rw [val_main_v61_apply, val_main_v59_apply, val_main_v60_apply, val_main_v58_apply, val_main_v52_apply, val_main_v51_apply,
    val_main_v50_apply]
  refine (add_of (add_of (add_of (H.at_dy i) (mul_of (H.ref_dxhat i) (H.ref_scale _))) (mul_of (H.at_x i) (H.ref_spread i)))
    (mul_of (H.ref_spread i) (H.at_x i))).trans ?_
  exact congrArg (fun r : ℝ => (r : EReal)) (A.dx_eq _ _)

end Args.Reads

end Cert.Ffn

end
-- ==== Proof.FfnFinite.lean ====
/- The precondition of the feed-forward claim read: every element of the arguments is a real number. -/
module

public import proofs.«01_k».proof.Proof.Finite
public import proofs.«01_k».proof.Proof.FfnInputs
public import proofs.«01_k».proof.Pre_finite2

@[expose] public section

set_option maxRecDepth 16384

noncomputable section

namespace Cert.Ffn

open Idealize.ShloMosaic hiding ix1 ix2 ix3 ix4
open Idealize.ShloMosaic.ValueIdx Cert.Pre_finite2 Cert.Attn

instance finiteFacts : Cert.Pre_finite2.Facts where
  shapeCasts_S1024x2816_S2816x1024 := by decide
  concatenates_S2048x1024_S1x1024_S2816x1024_S2816x1024_S2816x1024_S2048x1024_S12545x1024_d0 := by decide
  bcast_S_S12545x1024 := by decide

/-- Where the elements of arrays on top of one another are real, so are each array's. -/
theorem real_of_layer (xs : List ((s : Shape) × (s.Idx → EReal))) (h : Shape.Concatenates (xs.map (·.1)) S12545x1024 0)
    (H : ∀ j, ∃ r : ℝ, concatenate S12545x1024 0 xs h j = r)
    (k : ℕ) (hk : k < xs.length) (n : ℕ) (x : (⟨2, ![n, 1024]⟩ : Shape).Idx → EReal) (hx : xs[k] = ⟨⟨2, ![n, 1024]⟩, x⟩) (above : ℕ)
    (hb : (((xs.take k).map (·.1)).map fun s : Shape => if h : s.rank = 2 then s.size ((0 : Fin 2).cast h.symm) else 0).sum = above)
    (hn : above + n ≤ 12545) (i : (⟨2, ![n, 1024]⟩ : Shape).Idx) : ∃ r : ℝ, x i = r := by
  have h0 : (i 0).val < n := (i 0).isLt
  obtain ⟨r, hr⟩ := H (ix2 ⟨above + (i 0).val, by omega⟩ (i 1))
  refine ⟨r, Eq.trans (Eq.symm ?_) hr⟩
  refine concatenate_apply_piece (t := S12545x1024) 0 xs h _ k hk _ x hx rfl above hb i (fun b hb' => ?_) rfl
  match b with
  | 0 => exact absurd rfl hb'
  | 1 => rfl

/-- Where the elements of a reshaped weight are real, so are the weight's. -/
theorem real_of_reshaped (x : FVec Ideal S1024x2816 .f32) (hc : Shape.ShapeCasts S1024x2816 S2816x1024)
    (H : ∀ j, ∃ r : ℝ, (shapeCast S2816x1024 x hc : S2816x1024.Idx → EReal) j = r) (i : S1024x2816.Idx) : ∃ r : ℝ, x i = r := by
  have h0 : (i 0).val < 1024 := (i 0).isLt
  have h1 : (i 1).val < 2816 := (i 1).isLt
  obtain ⟨r, hr⟩ := H (ix2 ⟨((i 0).val * 2816 + (i 1).val) / 1024, by omega⟩ ⟨((i 0).val * 2816 + (i 1).val) % 1024, by omega⟩)
  refine ⟨r, Eq.trans (Eq.symm ?_) hr⟩
  refine shapeCast_apply x hc _ i ?_
  rw [Shape.rowMajor_val_two, Shape.rowMajor_val_two]
  show (i 0).val * 2816 + (i 1).val = ((i 0).val * 2816 + (i 1).val) / 1024 * 1024 + ((i 0).val * 2816 + (i 1).val) % 1024
  omega

/-- Where the precondition holds every element of the arguments is real. -/
theorem finite_reals (x0 : FVec Ideal S2048x1024 .f32) (x1 : FVec Ideal S1x1024 .f32) (x2 x3 : FVec Ideal S1024x2816 .f32)
    (x4 : FVec Ideal S2816x1024 .f32) (x5 : FVec Ideal S2048x1024 .f32)
    (h : Cert.Pre_finite2.fn (F := Ideal) x0 x1 x2 x3 x4 x5 = fun _ => 1#1) :
    (∀ i, ∃ r : ℝ, x0 i = r) ∧ (∀ i, ∃ r : ℝ, x1 i = r) ∧ (∀ i, ∃ r : ℝ, x2 i = r) ∧ (∀ i, ∃ r : ℝ, x3 i = r)
      ∧ (∀ i, ∃ r : ℝ, x4 i = r) ∧ (∀ i, ∃ r : ℝ, x5 i = r) := by
  have H : ∀ j, ∃ r : ℝ, concatenate S12545x1024 0 [⟨S2048x1024, x0⟩, ⟨S1x1024, x1⟩,
      ⟨S2816x1024, shapeCast S2816x1024 x2 Facts.shapeCasts_S1024x2816_S2816x1024⟩,
      ⟨S2816x1024, shapeCast S2816x1024 x3 Facts.shapeCasts_S1024x2816_S2816x1024⟩, ⟨S2816x1024, x4⟩, ⟨S2048x1024, x5⟩]
      Facts.concatenates_S2048x1024_S1x1024_S2816x1024_S2816x1024_S2816x1024_S2048x1024_S12545x1024_d0 j = r := by
    intro j
    have hj := congrFun h j
    refine real_of_abs_lt _ ?_
    by_contra hlt
    have hlt' := hlt
    rw [← ofBits_inf] at hlt'
    have : (0 : BitVec 1) = 1#1 := Eq.trans (Eq.symm ?_) hj
    · exact absurd this (by decide)
    · exact congrArg BitVec.ofBool (decide_eq_false hlt')
  exact ⟨real_of_layer _ _ H 0 (by simp) 2048 x0 rfl 0 rfl (by decide), real_of_layer _ _ H 1 (by simp) 1 x1 rfl 2048 (by simp) (by decide),
    real_of_reshaped x2 _ (real_of_layer _ _ H 2 (by simp) 2816 _ rfl 2049 (by simp) (by decide)),
    real_of_reshaped x3 _ (real_of_layer _ _ H 3 (by simp) 2816 _ rfl 4865 (by simp) (by decide)),
    real_of_layer _ _ H 4 (by simp) 2816 x4 rfl 7681 (by simp) (by decide), real_of_layer _ _ H 5 (by simp) 2048 x5 rfl 10497 (by simp) (by decide)⟩

end Cert.Ffn

end
-- ==== Proof.FfnClaim.lean ====
/- The feed-forward layer: on real arguments the kernel's output and five gradients are the reference's. -/
module

public import proofs.«01_k».proof.Defs
public import proofs.«01_k».proof.Proof.FfnChain
public import proofs.«01_k».proof.Proof.FfnRun
public import proofs.«01_k».proof.Proof.FfnRefBack
public import proofs.«01_k».proof.Proof.FfnFinite
public import proofs.«01_k».proof.Proof.Gen.Reference2Ideal
public import proofs.«01_k».proof.Proof.Gen.Reference2Ideal.Run
public import Idealize.ShloMosaic.Adequacy

@[expose] public section

set_option maxRecDepth 16384

noncomputable section

namespace Cert.Ffn

open Idealize.ShloMosaic Idealize.ShloMosaic.TcCoe Idealize.SL.Sem

/-- The reference's run leaves its arguments, and every counter at zero: it has none. -/
theorem reference_frame [Cert.Reference2Ideal.Facts] : quiescent_Reference2Ideal := fun m g _ =>
  (θ_run (Cert.Reference2Ideal.defs (F := Ideal)) _ _).mono
    (fun r h => And.intro (fun c => (h c).2.2.2.2.2.2) (sem_eq_zero_of_no_sems (by decide) r.2)) (Cert.Reference2Ideal.Value.run m g)

/-- On real arguments the kernel's results are the reference's. -/
theorem equal_results [Cert.Kernel2Ideal.Facts] [Cert.Reference2Ideal.Facts] :
    algebraic_Kernel2Ideal_Reference2Ideal_pre_finite2 := by
  intro m g m' g' hpre hargs
  refine ⟨fun c => Cert.Kernel2Ideal.Gen.W5 m g c (Proc.devRef .tc Cert.Kernel2Ideal.main_v8_0),
    fun c => Cert.Kernel2Ideal.Gen.W5 m g c (Proc.devRef .tc Cert.Kernel2Ideal.main_v9_0),
    fun c => Cert.Kernel2Ideal.Gen.W5 m g c (Proc.devRef .tc Cert.Kernel2Ideal.main_v9_1),
    fun c => Cert.Kernel2Ideal.Gen.W5 m g c (Proc.devRef .tc Cert.Kernel2Ideal.main_v12),
    fun c => Cert.Kernel2Ideal.Gen.W5 m g c (Proc.devRef .tc Cert.Kernel2Ideal.main_v14),
    fun c => Cert.Kernel2Ideal.Gen.W5 m g c (Proc.devRef .tc Cert.Kernel2Ideal.main_v15), ?_, ?_⟩
  · refine (θ_run Cert.Kernel2Ideal.defs _ _).mono (fun r h c => ?_)
      (θ_run_and (run_results m g) (Cert.Kernel2Ideal.Gen.unchanged m g))
    obtain ⟨h0, h1, h2, h3, h4, h5⟩ := h.1 c
    exact ⟨h0, h1, h2, h3, h4, h5, h.2 c⟩
  · refine (θ_run Cert.Reference2Ideal.defs _ _).mono (fun r h c => ?_) (Cert.Reference2Ideal.Value.run m' g')
    obtain ⟨r0, r1, r2, r3, r4, r5⟩ := finite_reals _ _ _ _ _ _ (hpre c)
    obtain ⟨A, H⟩ := exists_args _ _ _ _ _ _ r0 r1 r2 r3 r4 r5
    obtain ⟨a0, a1, a2, a3, a4, a5⟩ := hargs c
    obtain ⟨e0, e1, e2, e3, e4, e5, e⟩ := h c
    refine ⟨e0.trans ?_, e1.trans ?_, e2.trans ?_, e3.trans ?_, e4.trans ?_, e5.trans ?_, e⟩
    · rw [Cert.Reference2Ideal.Read.val_main_v24_eq, a0, a1, a2, a3, a4]
      exact H.ref_out.trans (result_out m g c H).symm
    · rw [Cert.Reference2Ideal.Read.val_main_v61_eq, a0, a1, a2, a3, a4, a5]
      exact H.ref_dx.trans (result_dx m g c H).symm
    · rw [Cert.Reference2Ideal.Read.val_main_v62_eq, a0, a1, a2, a3, a4, a5]
      exact H.ref_dgain.trans (result_dgain m g c H).symm
    · rw [Cert.Reference2Ideal.Read.val_main_v38_eq, a0, a1, a2, a3, a4, a5]
      exact H.ref_dwg.trans (result_dwg m g c H).symm
    · rw [Cert.Reference2Ideal.Read.val_main_v34_eq, a0, a1, a2, a4, a5]
      exact H.ref_dwu.trans (result_dwu m g c H).symm
    · rw [Cert.Reference2Ideal.Read.val_main_v29_eq, a0, a1, a2, a3, a5]
      exact H.ref_dwd.trans (result_dwd m g c H).symm

end Cert.Ffn

end
-- ==== Proof.ProjRun.lean ====
/- The kernel's run: its results are what its last call leaves. -/
module

public import proofs.«01_k».proof.Proof.Gen.Kernel3Ideal.Frame

@[expose] public section

set_option maxRecDepth 16384

noncomputable section

namespace Cert.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unfolding plain definitions
set_option backward.isDefEq.respectTransparency.types false in
/-- Every run ends with the eleven results at what the last call leaves. -/
theorem run_results : θ_run defs (onTc (τ := τ) (main (F := F))) ⟨m, fun _ => 0, ρ⟩ (fun r => ∀ c : Dev nD,
      r.2.mem ((c.tc : Thread nD τ).loc main_v25_0) = W4 m ρ c (Proc.devRef .tc main_v25_0)
      ∧ r.2.mem ((c.tc : Thread nD τ).loc main_v25_1) = W4 m ρ c (Proc.devRef .tc main_v25_1)
      ∧ r.2.mem ((c.tc : Thread nD τ).loc main_v25_2) = W4 m ρ c (Proc.devRef .tc main_v25_2)
      ∧ r.2.mem ((c.tc : Thread nD τ).loc main_v25_3) = W4 m ρ c (Proc.devRef .tc main_v25_3)
      ∧ r.2.mem ((c.tc : Thread nD τ).loc main_v26) = W4 m ρ c (Proc.devRef .tc main_v26)
      ∧ r.2.mem ((c.tc : Thread nD τ).loc main_v27) = W4 m ρ c (Proc.devRef .tc main_v27)
      ∧ r.2.mem ((c.tc : Thread nD τ).loc main_v25_5) = W4 m ρ c (Proc.devRef .tc main_v25_5)
      ∧ r.2.mem ((c.tc : Thread nD τ).loc main_v25_6) = W4 m ρ c (Proc.devRef .tc main_v25_6)
      ∧ r.2.mem ((c.tc : Thread nD τ).loc main_v25_7) = W4 m ρ c (Proc.devRef .tc main_v25_7)
      ∧ r.2.mem ((c.tc : Thread nD τ).loc main_v34_0) = W4 m ρ c (Proc.devRef .tc main_v34_0)
      ∧ r.2.mem ((c.tc : Thread nD τ).loc main_v34_1) = W4 m ρ c (Proc.devRef .tc main_v34_1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ c =>
      ⟨h c _ (mem_uc main_v25_0 (by decide)),
       h c _ (mem_uc main_v25_1 (by decide)),
       h c _ (mem_uc main_v25_2 (by decide)),
       h c _ (mem_uc main_v25_3 (by decide)),
       h c _ (mem_uc main_v26 (by decide)),
       h c _ (mem_uc main_v27 (by decide)),
       h c _ (mem_uc main_v25_5 (by decide)),
       h c _ (mem_uc main_v25_6 (by decide)),
       h c _ (mem_uc main_v25_7 (by decide)),
       h c _ (mem_uc main_v34_0 (by decide)),
       h c _ (mem_uc main_v34_1 (by decide))⟩)

end Cert.Proj

end
-- ==== Proof.ProjSpec.lean ====
/- The input projection with its rotated lanes and its gradient as formulas over the extended reals: the normalised rows, the projected
   lanes, the rotation, and the gradients of the rows and of the gain. Nothing here knows of a program. -/
module

public import proofs.«01_k».proof.Proof.FfnSpec
public import Idealize.ShloMosaic.PureOps.Ideal.Laws
public import Idealize.ShloMosaic.Lib.IdealHost

@[expose] public section

noncomputable section

namespace Cert.Proj

open Idealize.ShloMosaic

/-- One extended real per token and lane. -/
abbrev Lanes (n : ℕ) := Fin 2048 → Fin n → EReal

/-- The projection's arguments, its weight listed by projected lane, and the cotangents: of the rows themselves, of the rotated queries
    and keys, of the values, and of the other projected lanes in their order. -/
structure Args where
  x : Lanes 1024
  gain : Fin 1024 → EReal
  w : Fin 8464 → Fin 1024 → EReal
  dres : Lanes 1024
  dq : Lanes 768
  dk : Lanes 768
  dv : Lanes 768
  dqkvb : Lanes 3072
  dbeta : Lanes 8
  ddecay : Lanes 8
  dggate : Lanes 1024
  dgatea : Lanes 1024
  dgateb : Lanes 1024

/-! ## The rotation -/

/-- The frequency of a lane of a half head, and the cosine and sine of its angle at a token. -/
def freq (i : Fin 32) : EReal :=
  FloatOps.hostPowf (F := Ideal) (φ := .f32) (FloatOps.ofBits (F := Ideal) .f32 0x461C4000#32)
    (FloatOps.hostDivf (F := Ideal) (φ := .f32) (FloatOps.hostNegf (F := Ideal) (φ := .f32)
      (FloatOps.sitofp (F := Ideal) .f32 (BitVec.ofNat 32 i.val))) (FloatOps.ofBits (F := Ideal) .f32 0x42000000#32))
def angle (t : Fin 2048) (i : Fin 32) : EReal :=
  FloatOps.mulf (F := Ideal) (φ := .f32) (FloatOps.sitofp (F := Ideal) .f32 (BitVec.ofNat 32 t.val)) (freq i)
def cosine (t : Fin 2048) (i : Fin 32) : EReal := FloatOps.hostUnary (F := Ideal) (φ := .f32) .cos (angle t i)
def sine (t : Fin 2048) (i : Fin 32) : EReal := FloatOps.hostUnary (F := Ideal) (φ := .f32) .sin (angle t i)

/-- A lane's place in its half head. -/
def inHalf (n : ℕ) : Fin 32 := ⟨n % 32, Nat.mod_lt _ (by decide)⟩
/-- The cosine at a lane; and the sine, negative in the lower halves. -/
def cosAt (t : Fin 2048) (n : ℕ) : EReal := cosine t (inHalf n)
def sinAt (t : Fin 2048) (n : ℕ) : EReal := if n % 64 < 32 then -sine t (inHalf n) else sine t (inHalf n)

/-- The lane at the same place of the other half. -/
def other (n : ℕ) : ℕ := if n % 64 < 32 then n + 32 else n - 32

theorem other_lt {m : ℕ} (hm : m % 64 = 0) {n : ℕ} (h : n < m) : other n < m := by
  unfold other
  split <;> omega

def swap (j : Fin 768) : Fin 768 := ⟨other j.val, other_lt (by decide) j.isLt⟩

/-- A row of lanes rotated forward and back. -/
def rotate (t : Fin 2048) (z : Fin 768 → EReal) (j : Fin 768) : EReal := z j * cosAt t j.val + z (swap j) * sinAt t j.val
def rotateBack (t : Fin 2048) (z : Fin 768 → EReal) (j : Fin 768) : EReal := z j * cosAt t j.val + z (swap j) * -sinAt t j.val

namespace Args

variable (A : Args)

/-! ## The projection -/

/-- The mean square of a token's row, and the reciprocal of its root. -/
def ms (t : Fin 2048) : EReal := Ideal.div (∑ d, A.x t d * A.x t d) ((1024 : ℝ) : EReal) + ((Cert.Ffn.eps : ℝ) : EReal)
def scale (t : Fin 2048) : EReal := Ideal.rsqrt (A.ms t)
/-- The normalised row, before and after the gain. -/
def xhat (t : Fin 2048) (d : Fin 1024) : EReal := A.x t d * A.scale t
def h (t : Fin 2048) (d : Fin 1024) : EReal := A.xhat t d * A.gain d
/-- The projected lanes. -/
def z (t : Fin 2048) (f : Fin 8464) : EReal := ∑ d, A.h t d * A.w f d
/-- `n` projected lanes from lane `o` on. -/
def piece (o n : ℕ) (hn : o + n ≤ 8464) (t : Fin 2048) (k : Fin n) : EReal := A.z t ⟨o + k.val, by omega⟩
/-- The rotated queries and keys. -/
def q (t : Fin 2048) : Fin 768 → EReal := rotate t (A.piece 0 768 (by decide) t)
def k (t : Fin 2048) : Fin 768 → EReal := rotate t (A.piece 768 768 (by decide) t)

/-! ## The gradients -/

/-- The cotangents of the queries and keys before their rotation. -/
def dzq (t : Fin 2048) : Fin 768 → EReal := rotateBack t (A.dq t)
def dzk (t : Fin 2048) : Fin 768 → EReal := rotateBack t (A.dk t)

/-- What cotangents of `n` lanes, from lane `o` on, send back through the weight. -/
def back {n : ℕ} (dz : Fin n → EReal) (o : ℕ) (hn : o + n ≤ 8464) (d : Fin 1024) : EReal := ∑ k, dz k * A.w ⟨o + k.val, by omega⟩ d

/-- The cotangent of the normalised row, after the gain and before it. -/
def dh (t : Fin 2048) (d : Fin 1024) : EReal :=
  A.back (A.dzq t) 0 (by decide) d + A.back (A.dzk t) 768 (by decide) d + A.back (A.dv t) 1536 (by decide) d
    + A.back (A.dqkvb t) 2304 (by decide) d + (A.back (A.dbeta t) 5376 (by decide) d + A.back (A.ddecay t) 5384 (by decide) d)
    + A.back (A.dggate t) 5392 (by decide) d + A.back (A.dgatea t) 6416 (by decide) d + A.back (A.dgateb t) 7440 (by decide) d
def dxhat (t : Fin 2048) (d : Fin 1024) : EReal := A.dh t d * A.gain d
/-- The gradient of the gain and of the rows. -/
def dgain (d : Fin 1024) : EReal := ∑ t, A.dh t d * A.xhat t d
def dx (t : Fin 2048) (d : Fin 1024) : EReal :=
  A.dres t d + A.scale t * (A.dxhat t d - A.xhat t d * Ideal.div (∑ e, A.dxhat t e * A.xhat t e) ((1024 : ℝ) : EReal))

end Args

/-! ## Sums -/

/-- A sum over `a + b` numbers, taken at natural places. -/
theorem sum_append (g : ℕ → EReal) (a b : ℕ) : ∑ i : Fin (a + b), g i.val = ∑ i : Fin a, g i.val + ∑ i : Fin b, g (a + i.val) := by
  rw [Fin.sum_univ_add]
  rfl

/-- A nonnegative real number comes out of a sum. -/
theorem pull_sum {ι : Type} (s : Finset ι) {r : ℝ} (hr : 0 ≤ r) (f : ι → EReal) : ∑ i ∈ s, (r : EReal) * f i = (r : EReal) * ∑ i ∈ s, f i := by
  classical
  induction s using Finset.induction_on with
  | empty => simp
  | insert a s ha ih =>
    rw [Finset.sum_insert ha, Finset.sum_insert ha, ih,
      EReal.left_distrib_of_nonneg_of_ne_top (EReal.coe_nonneg.2 hr) (EReal.coe_ne_top r)]

/-- A square is not negative; and a sum of squares with an infinite term is infinite. -/
theorem square_nonneg (a : EReal) : 0 ≤ a * a := by
  rcases le_total 0 a with h | h
  · exact mul_nonneg h h
  · have h' : 0 ≤ -a := by simpa using h
    have := mul_nonneg h' h'
    rwa [neg_mul_neg] at this

theorem sum_squares_top {ι : Type} [Fintype ι] (f : ι → EReal) (i : ι) (h : f i = ⊤ ∨ f i = ⊥) : ∑ j, f j * f j = ⊤ := by
  classical
  rw [← Finset.add_sum_erase _ _ (Finset.mem_univ i)]
  have hi : f i * f i = ⊤ := by
    rcases h with h | h <;> rw [h]
    · exact EReal.top_mul_top
    · exact EReal.bot_mul_bot
  rw [hi]
  refine EReal.top_add_of_ne_bot (ne_of_gt (lt_of_lt_of_le EReal.bot_lt_zero (Finset.sum_nonneg fun j _ => square_nonneg _)))

namespace Args

variable (A : Args)

/-- The gradient of the rows as differentiating the mean square's reciprocal root gives it. -/
theorem dx_eq (t : Fin 2048) (d : Fin 1024) :
    A.dres t d + A.dxhat t d * A.scale t
        + A.x t d * Ideal.div ((∑ e, A.x t e * A.dxhat t e) * (((-(1 / 2) : ℝ) : EReal) * Ideal.div (A.scale t) (A.ms t))) ((1024 : ℝ) : EReal)
        + Ideal.div ((∑ e, A.x t e * A.dxhat t e) * (((-(1 / 2) : ℝ) : EReal) * Ideal.div (A.scale t) (A.ms t))) ((1024 : ℝ) : EReal) * A.x t d
      = A.dx t d := by
  unfold dx
  by_cases hx : ∀ e, A.x t e ≠ ⊤ ∧ A.x t e ≠ ⊥
  · have hr : ∀ e, ∃ r : ℝ, A.x t e = r := fun e => ⟨(A.x t e).toReal, (EReal.coe_toReal (hx e).1 (hx e).2).symm⟩
    choose X hX using hr
    have hpos : (0 : ℝ) < (∑ e, X e * X e) / 1024 + Cert.Ffn.eps :=
      add_pos_of_nonneg_of_pos (div_nonneg (Finset.sum_nonneg fun e _ => mul_self_nonneg _) (by norm_num)) Cert.Ffn.eps_pos
    have hm : A.ms t = (((∑ e, X e * X e) / 1024 + Cert.Ffn.eps : ℝ) : EReal) := by
      unfold ms
      rw [Ideal.div_coe (by norm_num), show ∑ e, A.x t e * A.x t e = ((∑ e, X e * X e : ℝ) : EReal) from by
        rw [← Cert.Attn.coe_sum]
        exact Finset.sum_congr rfl fun e _ => by rw [hX, EReal.coe_mul], ← EReal.coe_mul, ← EReal.coe_add, mul_one_div]
    generalize (∑ e, X e * X e) / 1024 + Cert.Ffn.eps = m at hm hpos
    have hs : A.scale t = (((Real.sqrt m)⁻¹ : ℝ) : EReal) := by
      unfold scale
      rw [hm, Ideal.rsqrt_coe, if_neg hpos.not_gt, if_neg hpos.ne']
    have hrr : (1 / m : ℝ) = (Real.sqrt m)⁻¹ * (Real.sqrt m)⁻¹ := by
      rw [← mul_inv, Real.mul_self_sqrt hpos.le, one_div]
    have hr0 : (0 : ℝ) ≤ (Real.sqrt m)⁻¹ := inv_nonneg.2 (Real.sqrt_nonneg _)
    have hS : ∑ e, A.dxhat t e * A.xhat t e = (((Real.sqrt m)⁻¹ : ℝ) : EReal) * ∑ e, A.x t e * A.dxhat t e := by
      rw [← pull_sum _ hr0]
      refine Finset.sum_congr rfl fun e _ => ?_
      unfold xhat
      rw [hs]
      rw [mul_comm (A.x t e) (((Real.sqrt m)⁻¹ : ℝ) : EReal), mul_left_comm, mul_comm (A.dxhat t e)]
    rw [hS]
    unfold xhat
    rw [hm, hs, Ideal.div_coe hpos.ne', Ideal.div_coe (by norm_num), Ideal.div_coe (by norm_num), hrr, hX d]
    generalize (Real.sqrt m)⁻¹ = r at hr0
    generalize ∑ e, A.x t e * A.dxhat t e = S
    generalize A.dxhat t d = D
    generalize A.dres t d = B
    generalize X d = x
    have e1 : S * (((-(1 / 2) : ℝ) : EReal) * ((r : EReal) * ((r * r : ℝ) : EReal))) * ((1 / 1024 : ℝ) : EReal)
        = S * ((-(1 / 2) * (r * (r * r)) * (1 / 1024) : ℝ) : EReal) := by
      rw [← EReal.coe_mul, ← EReal.coe_mul, mul_assoc, ← EReal.coe_mul]
    have e2 : (x : EReal) * (r : EReal) * ((r : EReal) * S * ((1 / 1024 : ℝ) : EReal)) = S * ((x * r * r * (1 / 1024) : ℝ) : EReal) := by
      rw [mul_comm (r : EReal) S, mul_assoc S, mul_left_comm, ← EReal.coe_mul, ← EReal.coe_mul, ← EReal.coe_mul]
      congr 2
      ring
    rw [e1, e2, sub_eq_add_neg, EReal.left_distrib_of_nonneg_of_ne_top (EReal.coe_nonneg.2 hr0) (EReal.coe_ne_top r),
      ← mul_neg, ← EReal.coe_neg, mul_left_comm (r : EReal) S, ← EReal.coe_mul, mul_left_comm (x : EReal) S, mul_assoc S,
      ← EReal.coe_mul, ← EReal.coe_mul, mul_comm (r : EReal) D]
    have e3 : S * ((x * (-(1 / 2) * (r * (r * r)) * (1 / 1024)) : ℝ) : EReal) + S * ((-(1 / 2) * (r * (r * r)) * (1 / 1024) * x : ℝ) : EReal)
        = S * ((r * -(x * r * r * (1 / 1024)) : ℝ) : EReal) := by
      have h2 : ((r * -(x * r * r * (1 / 1024)) : ℝ) : EReal) = ((2 : ℝ) : EReal) * ((x * (-(1 / 2) * (r * (r * r)) * (1 / 1024)) : ℝ) : EReal) := by
        rw [← EReal.coe_mul]
        congr 1
        ring
      have h3 : (-(1 / 2) * (r * (r * r)) * (1 / 1024) * x : ℝ) = x * (-(1 / 2) * (r * (r * r)) * (1 / 1024)) := by ring
      rw [h3, h2]
      generalize ((x * (-(1 / 2) * (r * (r * r)) * (1 / 1024)) : ℝ) : EReal) = c
      rw [mul_left_comm, show ((2 : ℝ) : EReal) = 1 + 1 from by norm_cast, EReal.right_distrib_of_nonneg zero_le_one zero_le_one, one_mul]
    rw [add_assoc (B + D * (r : EReal)), e3, add_assoc]
  · have hq : ∑ e, A.x t e * A.x t e = ⊤ := by
      push Not at hx
      obtain ⟨e, he⟩ := hx
      refine sum_squares_top _ e ?_
      by_cases h : A.x t e = ⊤
      · exact .inl h
      · exact .inr (he h)
    have hm : A.ms t = ⊤ := by
      unfold ms
      rw [hq, Ideal.div_coe (by norm_num), EReal.top_mul_coe_of_pos (by norm_num), EReal.top_add_coe]
    have hs : A.scale t = 0 := by
      unfold scale
      rw [hm]
      rfl
    have h0 : ∀ y : EReal, Ideal.div 0 y = 0 ∨ y = 0 := fun y => by
      unfold Ideal.div
      by_cases h : y = 0
      · exact .inr h
      · rw [if_neg h, zero_mul]
        exact .inl rfl
    have h1 : Ideal.div (0 : EReal) ⊤ = 0 := (h0 ⊤).resolve_right (by simp)
    have h2 : Ideal.div (0 : EReal) ((1024 : ℝ) : EReal) = 0 := by rw [Ideal.div_coe (by norm_num), zero_mul]
    rw [hm, hs, h1, mul_zero, mul_zero, mul_zero, h2]
    simp

end Args

/-- A sum over 2048 rows, 256 at a time. -/
theorem sum_row8 (f : Fin 2048 → EReal) : ∑ i : Fin 8, ∑ p : Fin 256, f (Cert.Ffn.row8 i p) = ∑ x, f x := by
  rw [← Equiv.sum_comp (finProdFinEquiv (m := 8) (n := 256)), Fintype.sum_prod_type]
  refine Finset.sum_congr rfl fun i _ => Finset.sum_congr rfl fun k _ => congrArg f (Fin.ext ?_)
  show i.val * 256 + k.val = k.val + 256 * i.val
  omega

end Cert.Proj

end
-- ==== Proof.ProjOps.lean ====
/- The operations of the input projection's blocks, each read at an index: products and sums of extended reals, the rotation of the
   lanes of a block, 128 at a time, and the normalised block. -/
module

public import proofs.«01_k».proof.Proof.FfnOps
public import proofs.«01_k».proof.Proof.ProjSpec
public import proofs.«01_k».proof.Proof.Gen.Kernel3Ideal.Skeleton
public import Idealize.ShloMosaic.Lib.KernelVsHost
public import Idealize.ShloMosaic.Lib.Pipeline.ValueKit

@[expose] public section

set_option maxRecDepth 16384

noncomputable section

namespace Cert.Proj

open Idealize.ShloMosaic hiding ix1 ix2 ix3 ix4
open Idealize.ShloMosaic.ValueIdx Cert.Kernel3Ideal Cert.Kernel3Ideal.Gen

section
variable {R M N : ℕ}

/-- A product of rows with rows, and of rows with columns. -/
theorem rows_rows {φ₁ φ₂ : FTy} (y : FVec Ideal ⟨2, ![R, M]⟩ φ₁) (z : FVec Ideal ⟨2, ![N, M]⟩ φ₂) (i : Fin R) (j : Fin N) :
    matmul (DotDims.transposedRhs R M N) none y z (constant ⟨2, ![R, N]⟩ .f32 0x00000000#32) (ix2 i j)
      = ∑ k : Fin M, (y (ix2 i k) * z (ix2 j k) : EReal) := by
  refine (Ideal.matmul_transposedRhs_apply none y z _ i j).trans ?_
  rw [show (constant ⟨2, ![R, N]⟩ .f32 0x00000000#32 : FVec Ideal ⟨2, ![R, N]⟩ .f32) (ix2 i j) = (0 : EReal) from Ideal.ofBits_zero_f32, zero_add]

theorem rows_cols {φ₁ φ₂ : FTy} (y : FVec Ideal ⟨2, ![R, M]⟩ φ₁) (z : FVec Ideal ⟨2, ![M, N]⟩ φ₂) (i : Fin R) (j : Fin N) :
    matmul (DotDims.plain R M N) none y z (constant ⟨2, ![R, N]⟩ .f32 0x00000000#32) (ix2 i j)
      = ∑ k : Fin M, (y (ix2 i k) * z (ix2 k j) : EReal) := by
  refine (Ideal.matmul_plain_apply none y z _ i j).trans ?_
  rw [show (constant ⟨2, ![R, N]⟩ .f32 0x00000000#32 : FVec Ideal ⟨2, ![R, N]⟩ .f32) (ix2 i j) = (0 : EReal) from Ideal.ofBits_zero_f32, zero_add]

/-- The sum of a row, kept as a column; and the sum of a column, kept as a row. -/
theorem row_sum (x : FVec Ideal ⟨2, ![R, M]⟩ .f32)
    (h : Shape.Reduces ⟨2, ![R, M]⟩ [1] ⟨1, ![R]⟩) (hf : FKind.Formats .f32) (ha : 0x00000000#32 = FKind.add.neutral .f32 hf)
    (hc : Shape.ShapeCasts ⟨1, ![R]⟩ ⟨2, ![R, 1]⟩) (i : Fin R) :
    shapeCast ⟨2, ![R, 1]⟩ (multiReduction .add [1] ⟨1, ![R]⟩ x 0x00000000#32 h hf ha) hc (ix2 i 0)
      = ∑ k : Fin M, (x (ix2 i k) : EReal) := by
  rw [shapeCast_apply (k := ix1 i) _ hc _ (by
    rw [Shape.rowMajor_val_one, Shape.rowMajor_val_two]
    show i.val = i.val * 1 + 0
    omega)]
  refine (Ideal.multiReduction_add_single x _ h hf ha _).trans ?_
  refine Finset.sum_congr rfl fun k _ => congrArg x ?_
  refine funext fun a => Fin.ext ?_
  match a with
  | ⟨0, _⟩ => rfl
  | ⟨1, _⟩ => rfl

theorem col_sum (x : FVec Ideal ⟨2, ![R, M]⟩ .f32)
    (h : Shape.Reduces ⟨2, ![R, M]⟩ [0] ⟨1, ![M]⟩) (hf : FKind.Formats .f32) (ha : 0x00000000#32 = FKind.add.neutral .f32 hf)
    (hc : Shape.ShapeCasts ⟨1, ![M]⟩ ⟨2, ![1, M]⟩) (j : Fin M) :
    shapeCast ⟨2, ![1, M]⟩ (multiReduction .add [0] ⟨1, ![M]⟩ x 0x00000000#32 h hf ha) hc (ix2 0 j)
      = ∑ i : Fin R, (x (ix2 i j) : EReal) := by
  rw [shapeCast_apply (k := ix1 j) _ hc _ (by
    rw [Shape.rowMajor_val_one, Shape.rowMajor_val_two]
    show j.val = 0 * M + j.val
    omega)]
  refine (Ideal.multiReduction_add_single x _ h hf ha _).trans ?_
  refine Finset.sum_congr rfl fun k _ => congrArg x ?_
  refine funext fun a => Fin.ext ?_
  match a with
  | ⟨0, _⟩ => rfl
  | ⟨1, _⟩ => rfl

end

/-! ## The rotation -/

/-- The kernel's test, in 32-bit words, of a lane: whether it lies in a lower half. -/
def lowerWord (l : BitVec 32) : BitVec 1 :=
  let b : BitVec 32 := Scalar.select (Scalar.cmpi .eq 64#32 0#32) 1#32 64#32
  let r : BitVec 32 := IntOp.remsi .vector l b
  IntOp.cmpi .slt (Scalar.select (IntOp.andi (IntOp.xori (IntOp.cmpi .slt r 0#32) (Scalar.cmpi .slt b 0#32)) (IntOp.cmpi .ne r 0#32)) (IntOp.addi r b) r) 32#32

theorem lowerWord_eq : ∀ l : Fin 128, lowerWord (BitVec.ofNat 32 l.val) = BitVec.ofBool (decide (l.val % 64 < 32)) := by
  decide +kernel

/-- The mask of the lower halves' lanes. -/
def lower : IVec S256x128 1 := k1_pay27

theorem lower_apply (p : Fin 256) (l : Fin 128) : lower (ix2 p l) = BitVec.ofBool (decide (l.val % 64 < 32)) := by
  have hi : iota .tc S256x128 32 [1] iota_S256x128_d1_w32 (ix2 p l) = BitVec.ofNat 32 l.val :=
    congrArg (BitVec.ofNat 32) (by show 0 * 128 + l.val = l.val; omega)
  rw [← lowerWord_eq, ← hi]
  rfl

/-- 128 lanes of a block, rotated by tables of factors: each lane by the first, the other half's by the second. -/
def slab (z : FVec Ideal S256x768 .f32) (C U : FVec Ideal S256x128 .f32) (o : ℕ) (hs : S256x768.Slices ![0, o] S256x128) : FVec Ideal S256x128 .f32 :=
  addf (mulf (extractStridedSlice S256x128 ![0, o] z hs) C)
    (mulf (select lower (dynamicRotate 1 96#32 none (extractStridedSlice S256x128 ![0, o] z hs) rotates_S256x128_d1)
      (dynamicRotate 1 32#32 none (extractStridedSlice S256x128 ![0, o] z hs) rotates_S256x128_d1)) U)

theorem slab_apply (z : FVec Ideal S256x768 .f32) (C U : FVec Ideal S256x128 .f32) (o : ℕ) (hs : S256x768.Slices ![0, o] S256x128)
    (ho : o % 128 = 0) (h5 : o ≤ 640) (p : Fin 256) (l : Fin 128) :
    slab z C U o hs (ix2 p l) = (z (ix2 p (⟨o + l.val, by omega⟩ : Fin 768)) * C (ix2 p l)
      + z (ix2 p (swap ⟨o + l.val, by omega⟩)) * U (ix2 p l) : EReal) := by
  have hv (m : Fin 128) : extractStridedSlice S256x128 ![0, o] z hs (ix2 p m) = z (ix2 p (⟨o + m.val, by omega⟩ : Fin 768)) :=
    extractStridedSlice_apply _ _ _ _ _ fun a => by
      match a with
      | ⟨0, _⟩ => show p.val = 0 + p.val; omega
      | ⟨1, _⟩ => rfl
  have hw : (select lower (dynamicRotate 1 96#32 none (extractStridedSlice S256x128 ![0, o] z hs) rotates_S256x128_d1)
      (dynamicRotate 1 32#32 none (extractStridedSlice S256x128 ![0, o] z hs) rotates_S256x128_d1)) (ix2 p l)
      = z (ix2 p (swap ⟨o + l.val, by omega⟩)) := by
    show Scalar.select (lower (ix2 p l)) _ _ = _
    rw [lower_apply]
    by_cases h : l.val % 64 < 32
    · rw [decide_eq_true h]
      refine (dynamicRotate_apply 1 96#32 _ rotates_S256x128_d1 (ix2 p l) (ix2 p (⟨l.val + 32, by omega⟩ : Fin 128)) fun b => ?_).trans ((hv _).trans ?_)
      · match b with
        | ⟨0, _⟩ => rfl
        | ⟨1, _⟩ => show l.val + 32 = (l.val + 128 - 96 % 128) % 128; omega
      · refine congrArg (fun k => z (ix2 p k)) (Fin.ext ?_)
        show o + (l.val + 32) = other (o + l.val)
        rw [other, if_pos (by omega)]
        omega
    · rw [decide_eq_false h]
      refine (dynamicRotate_apply 1 32#32 _ rotates_S256x128_d1 (ix2 p l) (ix2 p (⟨l.val - 32, by omega⟩ : Fin 128)) fun b => ?_).trans ((hv _).trans ?_)
      · match b with
        | ⟨0, _⟩ => rfl
        | ⟨1, _⟩ => show l.val - 32 = (l.val + 128 - 32 % 128) % 128; omega
      · refine congrArg (fun k => z (ix2 p k)) (Fin.ext ?_)
        show o + (l.val - 32) = other (o + l.val)
        rw [other, if_neg (by omega)]
        omega
  unfold slab
  show (extractStridedSlice S256x128 ![0, o] z hs (ix2 p l) * C (ix2 p l) + _ * U (ix2 p l) : EReal) = _
  rw [hv, ← hw]

theorem slices_at (n : Fin 6) : S256x768.Slices ![0, 128 * n.val] S256x128 :=
  (by decide : ∀ n : Fin 6, S256x768.Slices ![0, 128 * n.val] S256x128) n

/-- The whole block, rotated. -/
def slabs (z : FVec Ideal S256x768 .f32) (C U : FVec Ideal S256x128 .f32) : FVec Ideal S256x768 .f32 :=
  concatenate S256x768 1 (List.ofFn fun n : Fin 6 => (⟨S256x128, slab z C U (128 * n.val) (slices_at n)⟩ : (s : Shape) × (s.Idx → Ideal .f32)))
    concatenates_S256x128_S256x128_S256x128_S256x128_S256x128_S256x128_S256x768_d1

theorem slabs_apply (z : FVec Ideal S256x768 .f32) (C U : FVec Ideal S256x128 .f32) (p : Fin 256) (j : Fin 768) (l : Fin 128) (hl : l.val = j.val % 128) :
    slabs z C U (ix2 p j) = (z (ix2 p j) * C (ix2 p l) + z (ix2 p (swap j)) * U (ix2 p l) : EReal) := by
  have hn : j.val / 128 < 6 := by omega
  unfold slabs
  refine (concatenate_ofFn_apply (t := S256x768) (s₁ := S256x128) 1 (fun n : Fin 6 => slab z C U (128 * n.val) (slices_at n)) _ rfl 128 rfl (ix2 p j) ⟨j.val / 128, hn⟩ rfl (ix2 p l)
    hl (fun b hb => by
      match b with
      | ⟨0, _⟩ => rfl
      | ⟨1, _⟩ => exact absurd rfl hb)).trans ?_
  rw [slab_apply z C U _ _ (by show 128 * (j.val / 128) % 128 = 0; omega) (by show 128 * (j.val / 128) ≤ 640; omega)]
  have hj : (⟨128 * (j.val / 128) + l.val, by omega⟩ : Fin 768) = j := Fin.ext (by show 128 * (j.val / 128) + l.val = j.val; omega)
  rw [hj]

end Cert.Proj

end
-- ==== Proof.ProjFwd.lean ====
/- The forward kernel's blocks. -/
module

public import proofs.«01_k».proof.Proof.ProjOps
public import proofs.«01_k».proof.Proof.Gen.Kernel3Ideal.Frame.Region0

@[expose] public section

set_option maxRecDepth 16384

noncomputable section

namespace Cert.Proj

open Idealize.ShloMosaic hiding ix1 ix2 ix3 ix4
open Idealize.ShloMosaic.ValueIdx Cert.Kernel3Ideal Cert.Kernel3Ideal.Gen

/-! ## The normalised block -/

section
variable {A : Args} {τ : Fin 256 → Fin 2048} {x : FVec Ideal S256x1024 .f32} {n : FVec Ideal S1x1024 .f32}

theorem scale_apply (hx : ∀ p d, x (ix2 p d) = A.x (τ p) d) (p : Fin 256) : k1_pay5 (F := Ideal) x (ix2 p 0) = A.scale (τ p) := by
  show Ideal.rsqrt (Ideal.div (shapeCast S256x1 (multiReduction .add [1] S256 (mulf x x) 0x00000000#32 reduces_S256x1024_S256 (.inl rfl) rfl)
    shapeCasts_S256_S256x1 (ix2 p 0)) (Ideal.ofBits .f32 0x44800000#32) + Ideal.ofBits .f32 0x358637BD#32) = _
  rw [Cert.Ffn.ofBits_width, Cert.Ffn.ofBits_eps]
  refine congrArg (fun s => Ideal.rsqrt (Ideal.div s _ + _)) ((row_sum _ _ _ _ _ p).trans (Finset.sum_congr rfl fun k _ => ?_))
  show (x (ix2 p k) * x (ix2 p k) : EReal) = _
  rw [hx]

theorem xhat_apply (hx : ∀ p d, x (ix2 p d) = A.x (τ p) d) (p : Fin 256) (d : Fin 1024) : k1_pay6 (F := Ideal) x (ix2 p d) = A.xhat (τ p) d := by
  show (x (ix2 p d) * broadcastTo S256x1024 (k1_pay5 (F := Ideal) x) broadcasts_S256x1_S256x1024 (ix2 p d) : EReal) = _
  rw [Cert.Ffn.spread_col, scale_apply hx, hx]
  rfl

theorem norm_apply (hx : ∀ p d, x (ix2 p d) = A.x (τ p) d) (hn : ∀ d, n (ix2 0 d) = A.gain d) (p : Fin 256) (d : Fin 1024) :
    k0_pay5 (F := Ideal) x n (ix2 p d) = A.h (τ p) d := by
  show (k1_pay6 (F := Ideal) x (ix2 p d) * broadcastTo S256x1024 n broadcasts_S1x1024_S256x1024 (ix2 p d) : EReal) = _
  rw [Cert.Ffn.spread_row, xhat_apply hx, hn]
  rfl

end

/-! ## Rows of the weight -/

/-- `n` rows of the weight from row `o` on. -/
def cut (w : FVec Ideal S8464x1024 .bf16) (o n : ℕ)
    (inb : ∀ a, (![o, 0] : Fin 2 → ℕ) a + (⟨2, ![n, 1024]⟩ : Shape).size a ≤ S8464x1024.size a) : FVec Ideal ⟨2, ![n, 1024]⟩ .bf16 :=
  View.ld (Val := Elt Ideal) (e' := .bf16) w (Rect.unit (s := S8464x1024) ![o, 0] (⟨2, ![n, 1024]⟩ : Shape).size inb)

theorem cut_apply (w : FVec Ideal S8464x1024 .bf16) (o n : ℕ)
    (inb : ∀ a, (![o, 0] : Fin 2 → ℕ) a + (⟨2, ![n, 1024]⟩ : Shape).size a ≤ S8464x1024.size a) (hn : o + n ≤ 8464)
    (hc : Shape.ShapeCasts ⟨2, ![n, 1024]⟩ ⟨2, ![n, 1024]⟩) (k : Fin n) (d : Fin 1024) :
    shapeCast ⟨2, ![n, 1024]⟩ (cut w o n inb) hc (ix2 k d) = w (ix2 (⟨o + k.val, by omega⟩ : Fin 8464) d) := by
  rw [shapeCast_self]
  unfold cut
  refine View.ld_unit_apply_of _ _ _ _ _ _ fun a => ?_
  match a with
  | ⟨0, _⟩ => rfl
  | ⟨1, _⟩ => exact (Nat.zero_add _).symm

section
variable {A : Args} {τ : Fin 256 → Fin 2048}

/-- A product of the normalised block with rows of the weight. -/
theorem lanes_value {h : FVec Ideal S256x1024 .bf16} {w : FVec Ideal S8464x1024 .bf16} (hh : ∀ p d, h (ix2 p d) = A.h (τ p) d)
    (hw : ∀ f d, w (ix2 f d) = A.w f d) (o n : ℕ) (hn : o + n ≤ 8464)
    (inb : ∀ a, (![o, 0] : Fin 2 → ℕ) a + (⟨2, ![n, 1024]⟩ : Shape).size a ≤ S8464x1024.size a)
    (hc : Shape.ShapeCasts ⟨2, ![n, 1024]⟩ ⟨2, ![n, 1024]⟩) (p : Fin 256) (k : Fin n) :
    matmul (DotDims.transposedRhs 256 1024 n) none h (shapeCast ⟨2, ![n, 1024]⟩ (cut w o n inb) hc)
      (constant ⟨2, ![256, n]⟩ .f32 0x00000000#32) (ix2 p k) = A.piece o n hn (τ p) k := by
  refine (rows_rows (φ₁ := .bf16) (φ₂ := .bf16) h _ p k).trans ?_
  unfold Args.piece Args.z
  refine Finset.sum_congr rfl fun d _ => ?_
  show (h (ix2 p d) * shapeCast ⟨2, ![n, 1024]⟩ (cut w o n inb) hc (ix2 k d) : EReal) = _
  rw [hh, cut_apply w o n inb hn, hw]

/-! ## The stored blocks -/

/-- What the kernel reads at a tile of tokens. -/
structure FwdReads (A : Args) (τ : Fin 256 → Fin 2048) (x : FVec Ideal S256x1024 .f32) (n : FVec Ideal S1x1024 .f32)
    (w : FVec Ideal S8464x1024 .bf16) (C U : FVec Ideal S256x128 .f32) : Prop where
  x : ∀ p d, x (ix2 p d) = A.x (τ p) d
  gain : ∀ d, n (ix2 0 d) = A.gain d
  w : ∀ f d, w (ix2 f d) = A.w f d
  cos : ∀ p l, C (ix2 p l) = cosAt (τ p) l.val
  sin : ∀ p l, U (ix2 p l) = sinAt (τ p) l.val

theorem inHalf_mod {l j : ℕ} (h : l = j % 128) : inHalf l = inHalf j := Fin.ext (by show l % 32 = j % 32; omega)

theorem cosAt_mod (t : Fin 2048) {l j : ℕ} (h : l = j % 128) : cosAt t l = cosAt t j := by rw [cosAt, inHalf_mod h, cosAt]

theorem sinAt_mod (t : Fin 2048) {l j : ℕ} (h : l = j % 128) : sinAt t l = sinAt t j := by
  rw [sinAt, inHalf_mod h, sinAt, show l % 64 = j % 64 by omega]

/-- A block rotated by the tables. -/
theorem rotated_value {C U : FVec Ideal S256x128 .f32} {z : FVec Ideal S256x768 .f32} {z' : Fin 256 → Fin 768 → EReal}
    (hC : ∀ p l, C (ix2 p l) = cosAt (τ p) l.val) (hU : ∀ p l, U (ix2 p l) = sinAt (τ p) l.val) (hz : ∀ p j, z (ix2 p j) = z' p j)
    (p : Fin 256) (j : Fin 768) : slabs z C U (ix2 p j) = rotate (τ p) (z' p) j := by
  rw [slabs_apply z C U p j ⟨j.val % 128, Nat.mod_lt _ (by decide)⟩ rfl, hz, hz, hC, hU, cosAt_mod (τ p) (j := j.val) rfl, sinAt_mod (τ p) (j := j.val) rfl]
  rfl

variable {x : FVec Ideal S256x1024 .f32} {n : FVec Ideal S1x1024 .f32} {w : FVec Ideal S8464x1024 .bf16} {C U : FVec Ideal S256x128 .f32}

theorem ld_x (x : FVec Ideal S256x1024 .f32) : View.ld (Val := Elt Ideal) (e' := .f32) x r0_0 = x := by rw [View.ld_unit_lit _ _ (by decide)]

theorem ld_n (n : FVec Ideal S1x1024 .f32) : View.ld (Val := Elt Ideal) (e' := .f32) n r0_1 = n := by rw [View.ld_unit_lit _ _ (by decide)]

theorem ld_t (C : FVec Ideal S256x128 .f32) : View.ld (Val := Elt Ideal) (e' := .f32) C r0_3 = C := by rw [View.ld_unit_lit _ _ (by decide)]

theorem cast_t (C : FVec Ideal S256x128 .f32) : k0_pay7 (F := Ideal) C = C := shapeCast_self _ _

theorem cast_t' (C : FVec Ideal S256x128 .f32) : k0_pay8 (F := Ideal) C = C := shapeCast_self _ _

theorem cast_t12 (C : FVec Ideal S256x128 .f32) : k0_pay12 (F := Ideal) C = C := shapeCast_self _ _

theorem cast_t13 (C : FVec Ideal S256x128 .f32) : k0_pay13 (F := Ideal) C = C := shapeCast_self _ _

theorem rotated_q (z : FVec Ideal S256x768 .f32) (C U : FVec Ideal S256x128 .f32) : k0_pay10 (F := Ideal) z C U k0_pay9 = slabs z C U := rfl

theorem slab_k0 (h : FVec Ideal S256x1024 .bf16) (v : FVec Ideal S768x1024 .bf16) (C U : FVec Ideal S256x128 .f32) :
    k0_pay15 (F := Ideal) h v C U = slab (k0_pay11 h v) C U 0 slices_S256x768_o0_0_S256x128 := by
  unfold k0_pay15
  rw [cast_t12, cast_t13]
  rfl

theorem slab_k1 (h : FVec Ideal S256x1024 .bf16) (v : FVec Ideal S768x1024 .bf16) (C U : FVec Ideal S256x128 .f32) :
    k0_pay16 (F := Ideal) h v C U = slab (k0_pay11 h v) C U 128 slices_S256x768_o0_128_S256x128 := by
  unfold k0_pay16
  rw [cast_t12, cast_t13]
  rfl

theorem rotated_k (z : FVec Ideal S256x768 .f32) (C U : FVec Ideal S256x128 .f32) :
    k0_pay17 (F := Ideal) z C U k0_pay14 (slab z C U 0 slices_S256x768_o0_0_S256x128) (slab z C U 128 slices_S256x768_o0_128_S256x128)
      = slabs z C U := rfl

theorem q_eq : out0_5 (F := Ideal) x n w C U = slabs (k0_pay6 x n (View.ld (Val := Elt Ideal) (e' := .bf16) w r0_2)) C U := by
  unfold out0_5
  rw [View.canon_cons_unit_lit _ _ _ (by decide), ld_x, ld_n, ld_t, ld_t, cast_t, cast_t', rotated_q]

theorem k_eq : out0_6 (F := Ideal) x n w C U = slabs (k0_pay11 (k0_pay5 x n) (View.ld (Val := Elt Ideal) (e' := .bf16) w r0_5)) C U := by
  unfold out0_6
  rw [View.canon_cons_unit_lit _ _ _ (by decide), k0_pay20, ld_x, ld_n, ld_t, ld_t, slab_k0, slab_k1, cast_t12, cast_t13, rotated_k]

variable (H : FwdReads A τ x n w C U)

include H

theorem q_value (p : Fin 256) (j : Fin 768) : out0_5 (F := Ideal) x n w C U (ix2 p j) = A.q (τ p) j := by
  rw [q_eq]
  exact rotated_value H.cos H.sin (fun p j => lanes_value (norm_apply H.x H.gain) H.w 0 768 (by decide) inb_S8464x1024_S768x1024_0_0 _ p j) p j

theorem k_value (p : Fin 256) (j : Fin 768) : out0_6 (F := Ideal) x n w C U (ix2 p j) = A.k (τ p) j := by
  rw [k_eq]
  exact rotated_value H.cos H.sin (fun p j => lanes_value (norm_apply H.x H.gain) H.w 768 768 (by decide) inb_S8464x1024_S768x1024_768_0 _ p j) p j

theorem v_value (p : Fin 256) (j : Fin 768) : out0_7 (F := Ideal) x n w C U (ix2 p j) = A.piece 1536 768 (by decide) (τ p) j := by
  unfold out0_7
  rw [View.canon_cons_unit_lit _ _ _ (by decide), k0_pay20, ld_x, ld_n]
  exact lanes_value (norm_apply H.x H.gain) H.w 1536 768 (by decide) inb_S8464x1024_S768x1024_1536_0 shapeCasts_S768x1024_S768x1024 p j

theorem qkvb_value (p : Fin 256) (j : Fin 3072) : out0_8 (F := Ideal) x n w C U (ix2 p j) = A.piece 2304 3072 (by decide) (τ p) j := by
  unfold out0_8
  rw [View.canon_cons_unit_lit _ _ _ (by decide), k0_pay20, ld_x, ld_n]
  exact lanes_value (norm_apply H.x H.gain) H.w 2304 3072 (by decide) inb_S8464x1024_S3072x1024_2304_0 shapeCasts_S3072x1024_S3072x1024 p j

theorem small_value (p : Fin 256) (j : Fin 128) : out0_9 (F := Ideal) x n w C U (ix2 p j) = A.piece 5376 128 (by decide) (τ p) j := by
  unfold out0_9
  rw [View.canon_cons_unit_lit _ _ _ (by decide), k0_pay20, ld_x, ld_n]
  exact lanes_value (norm_apply H.x H.gain) H.w 5376 128 (by decide) inb_S8464x1024_S128x1024_5376_0 shapeCasts_S128x1024_S128x1024 p j

theorem ggate_value (p : Fin 256) (j : Fin 1024) : out0_10 (F := Ideal) x n w C U (ix2 p j) = A.piece 5392 1024 (by decide) (τ p) j := by
  unfold out0_10
  rw [View.canon_cons_unit_lit _ _ _ (by decide), k0_pay20, ld_x, ld_n]
  exact lanes_value (norm_apply H.x H.gain) H.w 5392 1024 (by decide) inb_S8464x1024_S1024x1024_5392_0 shapeCasts_S1024x1024_S1024x1024 p j

theorem gatea_value (p : Fin 256) (j : Fin 1024) : out0_11 (F := Ideal) x n w C U (ix2 p j) = A.piece 6416 1024 (by decide) (τ p) j := by
  unfold out0_11
  rw [View.canon_cons_unit_lit _ _ _ (by decide), k0_pay20, ld_x, ld_n]
  exact lanes_value (norm_apply H.x H.gain) H.w 6416 1024 (by decide) inb_S8464x1024_S1024x1024_6416_0 shapeCasts_S1024x1024_S1024x1024 p j

theorem gateb_value (p : Fin 256) (j : Fin 1024) : out0_12 (F := Ideal) x n w C U (ix2 p j) = A.piece 7440 1024 (by decide) (τ p) j := by
  unfold out0_12
  rw [View.canon_cons_unit_lit _ _ _ (by decide), k0_pay20, ld_x, ld_n]
  exact lanes_value (norm_apply H.x H.gain) H.w 7440 1024 (by decide) inb_S8464x1024_S1024x1024_7440_0 shapeCasts_S1024x1024_S1024x1024 p j

end

end Cert.Proj

end
-- ==== Proof.ProjRegion0.lean ====
/- The input projection's arrays after the forward kernel's run. -/
module

public import proofs.«01_k».proof.Proof.ProjFwd
public import proofs.«01_k».proof.Proof.FfnArrays

@[expose] public section

set_option maxRecDepth 16384

noncomputable section

namespace Cert.Proj

open Idealize.ShloMosaic hiding ix1 ix2 ix3 ix4
open Idealize.ShloMosaic.TcCoe Idealize.SL.Sem
open Idealize.ShloMosaic.ValueIdx Cert.Ffn Cert.Kernel3Ideal Cert.Kernel3Ideal.Gen

/-- A table of extended reals, and a row of them, as arrays. -/
def table {a b : ℕ} (f : Fin a → Fin b → EReal) : (⟨2, ![a, b]⟩ : Shape).Idx → EReal := fun y => f (y 0) (y 1)
def line {b : ℕ} (f : Fin b → EReal) : (⟨2, ![1, b]⟩ : Shape).Idx → EReal := fun y => f (y 1)

variable (V : (c : Dev nD) → (b : Ref sig .tc) → Buf (Elt Ideal) ((c : Thread nD τ).loc b)) (c : Dev nD)

/-- What the kernel's arrays hold before its run. -/
structure FwdHolds (A : Args) : Prop where
  x : V c main_arg0 = table A.x
  gain : V c main_arg1 = line A.gain
  w : V c main_v1 = table A.w
  cos : V c main_v19 = table fun (t : Fin 2048) (l : Fin 128) => cosAt t l.val
  sin : V c main_v24 = table fun (t : Fin 2048) (l : Fin 128) => sinAt t l.val

/-- Where the windows stand at a point of the grid. -/
theorem places0 : ∀ t : Fin cfg0.N,
    win0_0.index t = ![t.val, 0] ∧ win0_1.index t = ![0, 0] ∧ win0_2.index t = ![0, 0] ∧ win0_3.index t = ![t.val, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![t.val, 0] ∧ win0_10.index t = ![t.val, 0] ∧ win0_11.index t = ![t.val, 0]
    ∧ win0_12.index t = ![t.val, 0] :=
  (by decide +kernel : ∀ t : Fin grid0.N, _)

/-- The point's tile of tokens. -/
def tile0 (t : Fin cfg0.N) (p : Fin 256) : Fin 2048 := row8 ⟨t.val, t.isLt⟩ p

variable {A : Args} (H : FwdHolds V c A)

include H

theorem reads0 (t : Fin cfg0.N) : FwdReads A (tile0 t) (iblk0 V c 0 t) (iblk0 V c 1 t) (iblk0 V c 2 t) (iblk0 V c 3 t) (iblk0 V c 4 t) := by
  obtain ⟨h0, h1, h2, h3, h4, -⟩ := places0 t
  refine ⟨fun p e => ?_, fun e => ?_, fun f e => ?_, fun p l => ?_, fun p l => ?_⟩
  · refine Eq.trans (b := V c main_arg0 (ix2 (tile0 t p) e)) ?_ (congrFun H.x _)
    blk_ext [iblk0, h0, tile0, row8]
  · refine Eq.trans (b := V c main_arg1 (ix2 0 e)) ?_ (congrFun H.gain _)
    blk_ext [iblk0, h1]
  · refine Eq.trans (b := V c main_v1 (ix2 f e)) ?_ (congrFun H.w _)
    blk_ext [iblk0, h2]
  · refine Eq.trans (b := V c main_v19 (ix2 (tile0 t p) l)) ?_ (congrFun H.cos _)
    blk_ext [iblk0, h3, tile0, row8]
  · refine Eq.trans (b := V c main_v24 (ix2 (tile0 t p) l)) ?_ (congrFun H.sin _)
    blk_ext [iblk0, h4, tile0, row8]

theorem array_q : (dat0 V c).arrAt 5 cfg0.N = table A.q := by
  refine (dat0 V c).arrAt_eq_of_covers 5 _ (by decide +kernel) fun t hf y => ?_
  obtain ⟨-, -, -, -, -, h, -⟩ := places0 t
  blk_simp
  rw [after0_5]
  obtain ⟨p, l, rfl⟩ := two (a := 256) (b := 768) y
  have hi : (win0_5.blk t).view.emb (ix2 p l) = ix2 (tile0 t p) l := by
    blk_ext [h, tile0, row8]
  rw [hi]
  exact q_value (reads0 V c H t) p l

theorem array_k : (dat0 V c).arrAt 6 cfg0.N = table A.k := by
  refine (dat0 V c).arrAt_eq_of_covers 6 _ (by decide +kernel) fun t hf y => ?_
  obtain ⟨-, -, -, -, -, -, h, -⟩ := places0 t
  blk_simp
  rw [after0_6]
  obtain ⟨p, l, rfl⟩ := two (a := 256) (b := 768) y
  have hi : (win0_6.blk t).view.emb (ix2 p l) = ix2 (tile0 t p) l := by
    blk_ext [h, tile0, row8]
  rw [hi]
  exact k_value (reads0 V c H t) p l

theorem array_v : (dat0 V c).arrAt 7 cfg0.N = table (A.piece 1536 768 (by decide)) := by
  refine (dat0 V c).arrAt_eq_of_covers 7 _ (by decide +kernel) fun t hf y => ?_
  obtain ⟨-, -, -, -, -, -, -, h, -⟩ := places0 t
  blk_simp
  rw [after0_7]
  obtain ⟨p, l, rfl⟩ := two (a := 256) (b := 768) y
  have hi : (win0_7.blk t).view.emb (ix2 p l) = ix2 (tile0 t p) l := by
    blk_ext [h, tile0, row8]
  rw [hi]
  exact v_value (reads0 V c H t) p l

theorem array_qkvb : (dat0 V c).arrAt 8 cfg0.N = table (A.piece 2304 3072 (by decide)) := by
  refine (dat0 V c).arrAt_eq_of_covers 8 _ (by decide +kernel) fun t hf y => ?_
  obtain ⟨-, -, -, -, -, -, -, -, h, -⟩ := places0 t
  blk_simp
  rw [after0_8]
  obtain ⟨p, l, rfl⟩ := two (a := 256) (b := 3072) y
  have hi : (win0_8.blk t).view.emb (ix2 p l) = ix2 (tile0 t p) l := by
    blk_ext [h, tile0, row8]
  rw [hi]
  exact qkvb_value (reads0 V c H t) p l

theorem array_small : (dat0 V c).arrAt 9 cfg0.N = table (A.piece 5376 128 (by decide)) := by
  refine (dat0 V c).arrAt_eq_of_covers 9 _ (by decide +kernel) fun t hf y => ?_
  obtain ⟨-, -, -, -, -, -, -, -, -, h, -⟩ := places0 t
  blk_simp
  rw [after0_9]
  obtain ⟨p, l, rfl⟩ := two (a := 256) (b := 128) y
  have hi : (win0_9.blk t).view.emb (ix2 p l) = ix2 (tile0 t p) l := by
    blk_ext [h, tile0, row8]
  rw [hi]
  exact small_value (reads0 V c H t) p l

theorem array_ggate : (dat0 V c).arrAt 10 cfg0.N = table (A.piece 5392 1024 (by decide)) := by
  refine (dat0 V c).arrAt_eq_of_covers 10 _ (by decide +kernel) fun t hf y => ?_
  obtain ⟨-, -, -, -, -, -, -, -, -, -, h, -⟩ := places0 t
  blk_simp
  rw [after0_10]
  obtain ⟨p, l, rfl⟩ := two (a := 256) (b := 1024) y
  have hi : (win0_10.blk t).view.emb (ix2 p l) = ix2 (tile0 t p) l := by
    blk_ext [h, tile0, row8]
  rw [hi]
  exact ggate_value (reads0 V c H t) p l

theorem array_gatea : (dat0 V c).arrAt 11 cfg0.N = table (A.piece 6416 1024 (by decide)) := by
  refine (dat0 V c).arrAt_eq_of_covers 11 _ (by decide +kernel) fun t hf y => ?_
  obtain ⟨-, -, -, -, -, -, -, -, -, -, -, h, -⟩ := places0 t
  blk_simp
  rw [after0_11]
  obtain ⟨p, l, rfl⟩ := two (a := 256) (b := 1024) y
  have hi : (win0_11.blk t).view.emb (ix2 p l) = ix2 (tile0 t p) l := by
    blk_ext [h, tile0, row8]
  rw [hi]
  exact gatea_value (reads0 V c H t) p l

theorem array_gateb : (dat0 V c).arrAt 12 cfg0.N = table (A.piece 7440 1024 (by decide)) := by
  refine (dat0 V c).arrAt_eq_of_covers 12 _ (by decide +kernel) fun t hf y => ?_
  obtain ⟨-, -, -, -, -, -, -, -, -, -, -, -, h⟩ := places0 t
  blk_simp
  rw [after0_12]
  obtain ⟨p, l, rfl⟩ := two (a := 256) (b := 1024) y
  have hi : (win0_12.blk t).view.emb (ix2 p l) = ix2 (tile0 t p) l := by
    blk_ext [h, tile0, row8]
  rw [hi]
  exact gateb_value (reads0 V c H t) p l

end Cert.Proj

end
-- ==== Proof.ProjBack.lean ====
/- The backward kernel's blocks: the cotangent of the normalised rows, and the gradients of the rows and of the gain. -/
module

public import proofs.«01_k».proof.Proof.ProjFwd

@[expose] public section

set_option maxRecDepth 16384

noncomputable section

namespace Cert.Proj

open Idealize.ShloMosaic hiding ix1 ix2 ix3 ix4
open Idealize.ShloMosaic.ValueIdx Cert.Kernel3Ideal Cert.Kernel3Ideal.Gen

/-- The cotangents of the narrow lanes, as one row of 128 with zeros behind the sixteen. -/
def Args.small (A : Args) (t : Fin 2048) (l : Fin 128) : EReal :=
  (if h : 8 ≤ l.val ∧ l.val < 16 then A.ddecay t ⟨l.val - 8, by omega⟩ else 0) + (if h : l.val < 8 then A.dbeta t ⟨l.val, h⟩ else 0)

theorem Args.back_small (A : Args) (t : Fin 2048) (d : Fin 1024) :
    A.back (A.small t) 5376 (by decide) d = A.back (A.dbeta t) 5376 (by decide) d + A.back (A.ddecay t) 5384 (by decide) d := by
  unfold Args.back
  have hb (k : Fin 8) (hk : k.val < 128) : A.small t ⟨k.val, hk⟩ = A.dbeta t k := by
    unfold Args.small
    rw [dif_neg (by show ¬ (8 ≤ k.val ∧ k.val < 16); omega), dif_pos (show (⟨k.val, hk⟩ : Fin 128).val < 8 from k.isLt), zero_add]
  have hd (k : Fin 8) (hk : 8 + k.val < 128) : A.small t ⟨8 + k.val, hk⟩ = A.ddecay t k := by
    unfold Args.small
    rw [dif_pos (show 8 ≤ 8 + k.val ∧ 8 + k.val < 16 by omega), dif_neg (by show ¬ 8 + k.val < 8; omega), add_zero]
    exact congrArg (A.ddecay t) (Fin.ext (by show 8 + k.val - 8 = k.val; omega))
  have hz (k : Fin 112) (hk : 8 + (8 + k.val) < 128) : A.small t ⟨8 + (8 + k.val), hk⟩ = 0 := by
    unfold Args.small
    rw [dif_neg (by show ¬ (8 ≤ 8 + (8 + k.val) ∧ 8 + (8 + k.val) < 16); omega), dif_neg (by show ¬ 8 + (8 + k.val) < 8; omega), add_zero]
  refine (Fin.sum_univ_add (a := 8) (b := 120) _).trans (congrArg₂ (· + ·) (Finset.sum_congr rfl fun k _ => ?_) ?_)
  · exact congrArg (· * _) (hb k _)
  · refine (Fin.sum_univ_add (a := 8) (b := 112) _).trans ?_
    refine (congrArg₂ (· + ·) (Finset.sum_congr rfl fun k _ => ?_) (Finset.sum_eq_zero fun k _ => ?_)).trans (add_zero _)
    · refine (congrArg (· * _) (hd k (by omega))).trans (congrArg (fun f => A.ddecay t k * A.w f d) (Fin.ext ?_))
      show 5376 + (8 + k.val) = 5384 + k.val
      omega
    · exact (congrArg (· * _) (hz k (by omega))).trans (zero_mul _)

/-- What a block of cotangents sends back through rows of the weight. -/
def term {n : ℕ} (z : FVec Ideal ⟨2, ![256, n]⟩ .bf16) (w : FVec Ideal S8464x1024 .bf16) (o : ℕ)
    (inb : ∀ a, (![o, 0] : Fin 2 → ℕ) a + (⟨2, ![n, 1024]⟩ : Shape).size a ≤ S8464x1024.size a)
    (hc : Shape.ShapeCasts ⟨2, ![n, 1024]⟩ ⟨2, ![n, 1024]⟩) : FVec Ideal S256x1024 .f32 :=
  matmul (DotDims.plain 256 n 1024) none z (shapeCast ⟨2, ![n, 1024]⟩ (cut w o n inb) hc) (constant S256x1024 .f32 0x00000000#32)

theorem term_apply {A : Args} {n : ℕ} {z : FVec Ideal ⟨2, ![256, n]⟩ .bf16} {w : FVec Ideal S8464x1024 .bf16} (hw : ∀ f d, w (ix2 f d) = A.w f d)
    (o : ℕ) (hn : o + n ≤ 8464) (inb : ∀ a, (![o, 0] : Fin 2 → ℕ) a + (⟨2, ![n, 1024]⟩ : Shape).size a ≤ S8464x1024.size a)
    (hc : Shape.ShapeCasts ⟨2, ![n, 1024]⟩ ⟨2, ![n, 1024]⟩) (p : Fin 256) (d : Fin 1024) {z' : Fin n → EReal} (hz : ∀ k, z (ix2 p k) = z' k) :
    term z w o inb hc (ix2 p d) = A.back z' o hn d := by
  refine (rows_cols (φ₁ := .bf16) (φ₂ := .bf16) z _ p d).trans ?_
  unfold Args.back
  refine Finset.sum_congr rfl fun k _ => ?_
  show (z (ix2 p k) * shapeCast ⟨2, ![n, 1024]⟩ (cut w o n inb) hc (ix2 k d) : EReal) = _
  rw [hz, cut_apply w o n inb hn, hw]

/-! ## The kernel's blocks -/

/-- The cotangent of the normalised rows. -/
def backH (C U : FVec Ideal S256x128 .f32) (q k v : FVec Ideal S256x768 .f32) (b : FVec Ideal S256x3072 .f32) (s : FVec Ideal S256x128 .f32)
    (g₁ g₂ g₃ : FVec Ideal S256x1024 .bf16) (w : FVec Ideal S8464x1024 .bf16) : FVec Ideal S256x1024 .f32 :=
  addf (addf (addf (addf (addf (addf (addf (addf (k1_pay8 (F := Ideal))
    (term (n := 768) (truncf .bf16 (slabs q (k1_pay9 C) (k1_pay10 U)) bitsLt_bf16_f32) w 0 inb_S8464x1024_S768x1024_0_0 shapeCasts_S768x1024_S768x1024))
    (term (n := 768) (truncf .bf16 (slabs k (k1_pay25 C) (k1_pay26 U)) bitsLt_bf16_f32) w 768 inb_S8464x1024_S768x1024_768_0 shapeCasts_S768x1024_S768x1024))
    (term (n := 768) (truncf .bf16 v bitsLt_bf16_f32) w 1536 inb_S8464x1024_S768x1024_1536_0 shapeCasts_S768x1024_S768x1024))
    (term (n := 3072) (truncf .bf16 b bitsLt_bf16_f32) w 2304 inb_S8464x1024_S3072x1024_2304_0 shapeCasts_S3072x1024_S3072x1024))
    (term (n := 128) (truncf .bf16 (shapeCast S256x128 s shapeCasts_S256x128_S256x128) bitsLt_bf16_f32) w 5376 inb_S8464x1024_S128x1024_5376_0
      shapeCasts_S128x1024_S128x1024))
    (term (n := 1024) (shapeCast S256x1024 g₁ shapeCasts_S256x1024_S256x1024) w 5392 inb_S8464x1024_S1024x1024_5392_0 shapeCasts_S1024x1024_S1024x1024))
    (term (n := 1024) (shapeCast S256x1024 g₂ shapeCasts_S256x1024_S256x1024) w 6416 inb_S8464x1024_S1024x1024_6416_0 shapeCasts_S1024x1024_S1024x1024))
    (term (n := 1024) (shapeCast S256x1024 g₃ shapeCasts_S256x1024_S256x1024) w 7440 inb_S8464x1024_S1024x1024_7440_0 shapeCasts_S1024x1024_S1024x1024)

/-- The gradient of the rows, and one tile's part of the gain's added to the parts before it. -/
def backX (x : FVec Ideal S256x1024 .f32) (n : FVec Ideal S1x1024 .f32) (y h : FVec Ideal S256x1024 .f32) : FVec Ideal S256x1024 .f32 :=
  addf y (mulf (broadcastTo S256x1024 (k1_pay5 (F := Ideal) x) broadcasts_S256x1_S256x1024)
    (subf (mulf h (broadcastTo S256x1024 n broadcasts_S1x1024_S256x1024))
      (mulf (k1_pay6 (F := Ideal) x) (broadcastTo S256x1024
        (divf (shapeCast S256x1 (multiReduction .add [1] S256 (mulf (mulf h (broadcastTo S256x1024 n broadcasts_S1x1024_S256x1024)) (k1_pay6 (F := Ideal) x))
          0x00000000#32 reduces_S256x1024_S256 (.inl rfl) rfl) shapeCasts_S256_S256x1) (broadcast S256x1 (Scalar.ofBits (F := Ideal) .f32 0x44800000#32)))
        broadcasts_S256x1_S256x1024))))

def backN (a : FVec Ideal S1x1024 .f32) (x h : FVec Ideal S256x1024 .f32) : FVec Ideal S1x1024 .f32 :=
  addf (shapeCast S1x1024 a shapeCasts_S1x1024_S1x1024)
    (shapeCast S1x1024 (multiReduction .add [0] S1024 (mulf h (k1_pay6 (F := Ideal) x)) 0x00000000#32 reduces_S256x1024_S1024 (.inl rfl) rfl)
      shapeCasts_S1024_S1x1024)

section
variable (C U : FVec Ideal S256x128 .f32) (q k v : FVec Ideal S256x768 .f32) (b : FVec Ideal S256x3072 .f32) (s : FVec Ideal S256x128 .f32)
  (g₁ g₂ g₃ : FVec Ideal S256x1024 .bf16) (w : FVec Ideal S8464x1024 .bf16)

theorem rotated_dq (C U : FVec Ideal S256x128 .f32) (q : FVec Ideal S256x768 .f32) :
    k1_pay23 (F := Ideal) C U (k1_pay16 q C U 64#32 k1_pay11 k1_pay12 k1_pay13 k1_pay14) (k1_pay17 q C U 64#32 k1_pay11 k1_pay12 k1_pay13 k1_pay14)
      (k1_pay18 q C U 64#32 k1_pay11 k1_pay12 k1_pay13 k1_pay14) (k1_pay19 q C U 64#32 k1_pay11 k1_pay12 k1_pay13 k1_pay14)
      (k1_pay20 q C U 64#32 k1_pay11 k1_pay12 k1_pay13 k1_pay14) (k1_pay21 q) (k1_pay22 q 64#32 k1_pay11 k1_pay12 k1_pay13 k1_pay14)
      = truncf .bf16 (slabs q C U) bitsLt_bf16_f32 := rfl

theorem rotated_dk (C U : FVec Ideal S256x128 .f32) (k : FVec Ideal S256x768 .f32) :
    k1_pay30 (F := Ideal) k C U k1_pay27 (k1_pay28 k) (k1_pay29 k) 32#32 = truncf .bf16 (slabs k C U) bitsLt_bf16_f32 := rfl

theorem backH_eq : k1_pay1 (F := Ideal)
    (k1_pay32 (k1_pay24 k1_pay8 (k1_pay9 C) (k1_pay10 U)
        (k1_pay16 q (k1_pay9 C) (k1_pay10 U) 64#32 k1_pay11 k1_pay12 k1_pay13 k1_pay14)
        (k1_pay17 q (k1_pay9 C) (k1_pay10 U) 64#32 k1_pay11 k1_pay12 k1_pay13 k1_pay14)
        (k1_pay18 q (k1_pay9 C) (k1_pay10 U) 64#32 k1_pay11 k1_pay12 k1_pay13 k1_pay14)
        (k1_pay19 q (k1_pay9 C) (k1_pay10 U) 64#32 k1_pay11 k1_pay12 k1_pay13 k1_pay14)
        (k1_pay20 q (k1_pay9 C) (k1_pay10 U) 64#32 k1_pay11 k1_pay12 k1_pay13 k1_pay14)
        (k1_pay21 q) (k1_pay22 q 64#32 k1_pay11 k1_pay12 k1_pay13 k1_pay14) (cut w 0 768 inb_S8464x1024_S768x1024_0_0))
      (k1_pay30 k (k1_pay25 C) (k1_pay26 U) k1_pay27 (k1_pay28 k) (k1_pay29 k) 32#32) (k1_pay31 (cut w 768 768 inb_S8464x1024_S768x1024_768_0))
      v (cut w 1536 768 inb_S8464x1024_S768x1024_1536_0) b (cut w 2304 3072 inb_S8464x1024_S3072x1024_2304_0)
      s (cut w 5376 128 inb_S8464x1024_S128x1024_5376_0) g₁ (cut w 5392 1024 inb_S8464x1024_S1024x1024_5392_0)
      g₂ (cut w 6416 1024 inb_S8464x1024_S1024x1024_6416_0)) g₃ (cut w 7440 1024 inb_S8464x1024_S1024x1024_7440_0)
    = backH C U q k v b s g₁ g₂ g₃ w := by
  unfold k1_pay24
  rw [rotated_dq, rotated_dk]
  rfl

end

theorem backX_eq (x : FVec Ideal S256x1024 .f32) (n : FVec Ideal S1x1024 .f32) (y a : FVec Ideal S256x1024 .f32) (g : FVec Ideal S256x1024 .bf16)
    (w : FVec Ideal S1024x1024 .bf16) : k1_pay2 (F := Ideal) n (k1_pay5 x) (k1_pay6 x) a g w y = backX x n y (k1_pay1 a g w) := rfl

theorem backN_eq (x a : FVec Ideal S256x1024 .f32) (g : FVec Ideal S256x1024 .bf16) (w : FVec Ideal S1024x1024 .bf16) (z : FVec Ideal S1x1024 .f32) :
    k1_pay4 (F := Ideal) (k1_pay6 x) a g w z = backN z x (k1_pay1 a g w) := rfl

/-! ## Their values -/

/-- What the kernel reads at a tile of tokens. -/
structure BackReads (A : Args) (τ : Fin 256 → Fin 2048) (x : FVec Ideal S256x1024 .f32) (n : FVec Ideal S1x1024 .f32) (y : FVec Ideal S256x1024 .f32)
    (C U : FVec Ideal S256x128 .f32) (q k v : FVec Ideal S256x768 .f32) (b : FVec Ideal S256x3072 .f32) (s : FVec Ideal S256x128 .f32)
    (g₁ g₂ g₃ : FVec Ideal S256x1024 .bf16) (w : FVec Ideal S8464x1024 .bf16) : Prop where
  x : ∀ p d, x (ix2 p d) = A.x (τ p) d
  gain : ∀ d, n (ix2 0 d) = A.gain d
  dres : ∀ p d, y (ix2 p d) = A.dres (τ p) d
  cos : ∀ p l, C (ix2 p l) = cosAt (τ p) l.val
  sin : ∀ p l, U (ix2 p l) = sinAt (τ p) l.val
  dq : ∀ p l, q (ix2 p l) = A.dq (τ p) l
  dk : ∀ p l, k (ix2 p l) = A.dk (τ p) l
  dv : ∀ p l, v (ix2 p l) = A.dv (τ p) l
  dqkvb : ∀ p l, b (ix2 p l) = A.dqkvb (τ p) l
  small : ∀ p l, s (ix2 p l) = A.small (τ p) l
  dggate : ∀ p l, g₁ (ix2 p l) = A.dggate (τ p) l
  dgatea : ∀ p l, g₂ (ix2 p l) = A.dgatea (τ p) l
  dgateb : ∀ p l, g₃ (ix2 p l) = A.dgateb (τ p) l
  w : ∀ f d, w (ix2 f d) = A.w f d

section
variable {A : Args} {τ : Fin 256 → Fin 2048}

theorem cast_same {s : Shape} {φ : FTy} (z : FVec Ideal s φ) (hc : s.ShapeCasts s) (j : s.Idx) : shapeCast s z hc j = z j := by rw [shapeCast_self]

/-- A block of cotangents rotated back. -/
theorem rotatedBack_value {C U : FVec Ideal S256x128 .f32} {z : FVec Ideal S256x768 .f32} {z' : Fin 256 → Fin 768 → EReal}
    (hC : ∀ p l, C (ix2 p l) = cosAt (τ p) l.val) (hU : ∀ p l, U (ix2 p l) = -sinAt (τ p) l.val) (hz : ∀ p j, z (ix2 p j) = z' p j)
    (p : Fin 256) (j : Fin 768) : slabs z C U (ix2 p j) = rotateBack (τ p) (z' p) j := by
  rw [slabs_apply z C U p j ⟨j.val % 128, Nat.mod_lt _ (by decide)⟩ rfl, hz, hz, hC, hU, cosAt_mod (τ p) (j := j.val) rfl, sinAt_mod (τ p) (j := j.val) rfl]
  rfl

theorem cos_cast {C : FVec Ideal S256x128 .f32} (hC : ∀ p l, C (ix2 p l) = cosAt (τ p) l.val) (p : Fin 256) (l : Fin 128) :
    k1_pay9 (F := Ideal) C (ix2 p l) = cosAt (τ p) l.val := (cast_same C shapeCasts_S256x128_S256x128 _).trans (hC p l)

theorem sin_neg {U : FVec Ideal S256x128 .f32} (hU : ∀ p l, U (ix2 p l) = sinAt (τ p) l.val) (p : Fin 256) (l : Fin 128) :
    k1_pay10 (F := Ideal) U (ix2 p l) = -sinAt (τ p) l.val := by
  show (Ideal.ofBits .f32 0x00000000#32 - shapeCast S256x128 U shapeCasts_S256x128_S256x128 (ix2 p l) : EReal) = _
  rw [cast_same, hU, Ideal.ofBits_zero_f32, zero_sub]

variable {x : FVec Ideal S256x1024 .f32} {n : FVec Ideal S1x1024 .f32} {y : FVec Ideal S256x1024 .f32}
  {C U : FVec Ideal S256x128 .f32} {q k v : FVec Ideal S256x768 .f32} {b : FVec Ideal S256x3072 .f32} {s : FVec Ideal S256x128 .f32}
  {g₁ g₂ g₃ : FVec Ideal S256x1024 .bf16} {w : FVec Ideal S8464x1024 .bf16} (H : BackReads A τ x n y C U q k v b s g₁ g₂ g₃ w)

include H

theorem backH_apply (p : Fin 256) (d : Fin 1024) : backH C U q k v b s g₁ g₂ g₃ w (ix2 p d) = A.dh (τ p) d := by
  unfold backH Args.dh
  show ((((((((Ideal.ofBits .f32 0x00000000#32 + _) + _) + _) + _) + _) + _) + _) + _ : EReal) = _
  rw [Ideal.ofBits_zero_f32, zero_add, ← A.back_small]
  refine congrArg₂ (· + ·) (congrArg₂ (· + ·) (congrArg₂ (· + ·) (congrArg₂ (· + ·) (congrArg₂ (· + ·) (congrArg₂ (· + ·) (congrArg₂ (· + ·)
    ?_ ?_) ?_) ?_) ?_) ?_) ?_) ?_
  · exact term_apply H.w 0 (by decide) _ _ p d fun l => rotatedBack_value (cos_cast H.cos) (sin_neg H.sin) H.dq p l
  · exact term_apply H.w 768 (by decide) _ _ p d fun l => rotatedBack_value (cos_cast H.cos) (sin_neg H.sin) H.dk p l
  · exact term_apply H.w 1536 (by decide) _ _ p d fun l => H.dv p l
  · exact term_apply H.w 2304 (by decide) _ _ p d fun l => H.dqkvb p l
  · exact term_apply H.w 5376 (by decide) _ _ p d fun l => (cast_same s shapeCasts_S256x128_S256x128 _).trans (H.small p l)
  · exact term_apply H.w 5392 (by decide) _ _ p d fun l => (cast_same g₁ shapeCasts_S256x1024_S256x1024 _).trans (H.dggate p l)
  · exact term_apply H.w 6416 (by decide) _ _ p d fun l => (cast_same g₂ shapeCasts_S256x1024_S256x1024 _).trans (H.dgatea p l)
  · exact term_apply H.w 7440 (by decide) _ _ p d fun l => (cast_same g₃ shapeCasts_S256x1024_S256x1024 _).trans (H.dgateb p l)

theorem backX_apply (p : Fin 256) (d : Fin 1024) : backX x n y (backH C U q k v b s g₁ g₂ g₃ w) (ix2 p d) = A.dx (τ p) d := by
  have hg (e : Fin 1024) : mulf (backH C U q k v b s g₁ g₂ g₃ w) (broadcastTo S256x1024 n broadcasts_S1x1024_S256x1024) (ix2 p e) = A.dxhat (τ p) e := by
    show (backH C U q k v b s g₁ g₂ g₃ w (ix2 p e) * broadcastTo S256x1024 n broadcasts_S1x1024_S256x1024 (ix2 p e) : EReal) = _
    rw [Cert.Ffn.spread_row, backH_apply H, H.gain]
    rfl
  unfold backX
  generalize mulf (backH C U q k v b s g₁ g₂ g₃ w) (broadcastTo S256x1024 n broadcasts_S1x1024_S256x1024) = g at hg
  show (y (ix2 p d) + broadcastTo S256x1024 (k1_pay5 (F := Ideal) x) broadcasts_S256x1_S256x1024 (ix2 p d)
    * (g (ix2 p d) - k1_pay6 (F := Ideal) x (ix2 p d) * broadcastTo S256x1024 _ broadcasts_S256x1_S256x1024 (ix2 p d)) : EReal) = _
  rw [Cert.Ffn.spread_col, Cert.Ffn.spread_col, scale_apply H.x, xhat_apply H.x, hg, H.dres]
  unfold Args.dx
  refine congrArg (fun s => A.dres (τ p) d + A.scale (τ p) * (A.dxhat (τ p) d - A.xhat (τ p) d * s)) ?_
  show Ideal.div _ (Ideal.ofBits .f32 0x44800000#32) = _
  rw [Cert.Ffn.ofBits_width]
  refine congrArg (fun s => Ideal.div s _) ((row_sum _ _ _ _ _ p).trans (Finset.sum_congr rfl fun e _ => ?_))
  show (g (ix2 p e) * k1_pay6 (F := Ideal) x (ix2 p e) : EReal) = _
  rw [hg, xhat_apply H.x]

theorem backN_apply (a : FVec Ideal S1x1024 .f32) (d : Fin 1024) :
    backN a x (backH C U q k v b s g₁ g₂ g₃ w) (ix2 0 d) = (a (ix2 0 d) + ∑ p, A.dh (τ p) d * A.xhat (τ p) d : EReal) := by
  unfold backN
  show (shapeCast S1x1024 a shapeCasts_S1x1024_S1x1024 (ix2 0 d) + _ : EReal) = _
  rw [cast_same]
  refine congrArg (fun s => a (ix2 0 d) + s) ((col_sum _ _ _ _ _ d).trans (Finset.sum_congr rfl fun p _ => ?_))
  show (backH C U q k v b s g₁ g₂ g₃ w (ix2 p d) * k1_pay6 (F := Ideal) x (ix2 p d) : EReal) = _
  rw [backH_apply H, xhat_apply H.x]

end

end Cert.Proj

end
-- ==== Proof.ProjPoint.lean ====
/- What the backward kernel leaves at each point of its grid. -/
module

public import proofs.«01_k».proof.Proof.ProjBack
public import proofs.«01_k».proof.Proof.ProjRegion0
public import proofs.«01_k».proof.Proof.Gen.Kernel3Ideal.Frame.Region1

@[expose] public section

set_option maxRecDepth 16384

noncomputable section

namespace Cert.Proj

open Idealize.ShloMosaic hiding ix1 ix2 ix3 ix4
open Idealize.ShloMosaic.TcCoe Idealize.SL.Sem
open Idealize.ShloMosaic.ValueIdx Cert.Ffn Cert.Kernel3Ideal Cert.Kernel3Ideal.Gen

variable (V : (c : Dev nD) → (b : Ref sig .tc) → Buf (Elt Ideal) ((c : Thread nD τ).loc b)) (c : Dev nD) (t : Fin cfg1.N)

/-- The cotangent of the normalised rows at a point. -/
def pointH : FVec Ideal S256x1024 .f32 :=
  backH (iblk1 V c 3 t) (iblk1 V c 4 t) (iblk1 V c 5 t) (iblk1 V c 6 t) (iblk1 V c 7 t) (iblk1 V c 8 t) (iblk1 V c 9 t) (iblk1 V c 10 t)
    (iblk1 V c 11 t) (iblk1 V c 12 t) (iblk1 V c 13 t)

theorem at_dx : (outsAt1 (F := Ideal) V c t.val t.isLt).1 = backX (iblk1 V c 0 t) (iblk1 V c 1 t) (iblk1 V c 2 t) (pointH V c t) := by
  by_cases h : t.val % 8 = 0
  · rw [outsAt1_A V c t h]; frame_out
    rw [backX_eq]
    exact congrArg (backX _ _ _) (backH_eq _ _ _ _ _ _ _ _ _ _ _)
  · rw [outsAt1_B V c t h]; frame_out
    rw [backX_eq]
    exact congrArg (backX _ _ _) (backH_eq _ _ _ _ _ _ _ _ _ _ _)

theorem at_first (h : t.val % 8 = 0) : (outsAt1 (F := Ideal) V c t.val t.isLt).2.1 =
    backN (k1_pay3 (F := Ideal)) (iblk1 V c 0 t) (pointH V c t) := by
  rw [outsAt1_A V c t h]; frame_out
  rw [backN_eq]
  exact congrArg (backN _ _) (backH_eq _ _ _ _ _ _ _ _ _ _ _)

theorem at_next (h : ¬ t.val % 8 = 0) : (outsAt1 (F := Ideal) V c t.val t.isLt).2.1 =
    backN (outsAt1 (F := Ideal) V c (t.val - 1) (Nat.lt_of_le_of_lt (Nat.sub_le _ _) t.isLt)).2.1 (iblk1 V c 0 t) (pointH V c t) := by
  rw [outsAt1_B V c t h]; frame_out
  rw [backN_eq]
  exact congrArg (backN _ _) (backH_eq _ _ _ _ _ _ _ _ _ _ _)

/-! ## The values -/

/-- The point's tile of tokens. -/
def tile (t : Fin cfg1.N) (p : Fin 256) : Fin 2048 := row8 ⟨t.val, t.isLt⟩ p

variable {A : Args} (H : ∀ t : Fin cfg1.N, BackReads A (tile t) (iblk1 V c 0 t) (iblk1 V c 1 t) (iblk1 V c 2 t) (iblk1 V c 3 t) (iblk1 V c 4 t)
  (iblk1 V c 5 t) (iblk1 V c 6 t) (iblk1 V c 7 t) (iblk1 V c 8 t) (iblk1 V c 9 t) (iblk1 V c 10 t) (iblk1 V c 11 t) (iblk1 V c 12 t) (iblk1 V c 13 t))

include H

theorem dx_point (p : Fin 256) (l : Fin 1024) : (outsAt1 (F := Ideal) V c t.val t.isLt).1 (ix2 p l) = A.dx (tile t p) l := by
  rw [at_dx]
  exact backX_apply (H t) p l

/-- After the last point: the gain's gradient. -/
theorem dgain_point (ht : t.val + 1 = cfg1.N) (l : Fin 1024) : (outsAt1 (F := Ideal) V c t.val t.isLt).2.1 (ix2 0 l) = A.dgain l := by
  refine (Pipeline.eq_sum_fin_of_reset_step_apply_last (fun n h (l : Fin 1024) => (outsAt1 (F := Ideal) V c n h).2.1 (ix2 0 l)) 8 (fun _ => (0 : EReal))
    (fun t l => (∑ p, A.dh (tile t p) l * A.xhat (tile t p) l : EReal)) (fun t h l => ?_) (fun t h l => ?_) (by decide) t ht l).trans ?_
  · show (outsAt1 (F := Ideal) V c t.val t.isLt).2.1 (ix2 0 l) = _
    rw [at_first V c t h]
    refine (backN_apply (H t) _ l).trans (congrArg (· + _) ?_)
    exact Ideal.ofBits_zero_f32
  · show (outsAt1 (F := Ideal) V c t.val t.isLt).2.1 (ix2 0 l) = _
    rw [at_next V c t h]
    exact backN_apply (H t) _ l
  · rw [zero_add]
    exact Cert.Proj.sum_row8 fun t => A.dh t l * A.xhat t l

end Cert.Proj

end
-- ==== Proof.ProjRegion1.lean ====
/- The rows' and the gain's gradients after the backward kernel's run. -/
module

public import proofs.«01_k».proof.Proof.ProjPoint

@[expose] public section

set_option maxRecDepth 16384

noncomputable section

namespace Cert.Proj

open Idealize.ShloMosaic hiding ix1 ix2 ix3 ix4
open Idealize.ShloMosaic.TcCoe Idealize.SL.Sem
open Idealize.ShloMosaic.ValueIdx Cert.Ffn Cert.Kernel3Ideal Cert.Kernel3Ideal.Gen

variable (V : (c : Dev nD) → (b : Ref sig .tc) → Buf (Elt Ideal) ((c : Thread nD τ).loc b)) (c : Dev nD)

/-- What the kernel's arrays hold before its run. -/
structure BackHolds (A : Args) : Prop where
  x : V c main_arg0 = table A.x
  gain : V c main_arg1 = line A.gain
  dres : V c main_arg3 = table A.dres
  cos : V c main_v19 = table fun (t : Fin 2048) (l : Fin 128) => cosAt t l.val
  sin : V c main_v24 = table fun (t : Fin 2048) (l : Fin 128) => sinAt t l.val
  dq : V c main_arg4 = table A.dq
  dk : V c main_arg5 = table A.dk
  dv : V c main_arg6 = table A.dv
  dqkvb : V c main_arg7 = table A.dqkvb
  small : V c main_v30 = table A.small
  dggate : V c main_v31 = table A.dggate
  dgatea : V c main_v32 = table A.dgatea
  dgateb : V c main_v33 = table A.dgateb
  w : V c main_v1 = table A.w

/-- Where the windows stand at a point of the grid. -/
theorem places1 : ∀ t : Fin cfg1.N,
    win1_0.index t = ![t.val, 0] ∧ win1_1.index t = ![0, 0] ∧ win1_2.index t = ![t.val, 0] ∧ win1_3.index t = ![t.val, 0] ∧ win1_4.index t = ![t.val, 0]
    ∧ win1_5.index t = ![t.val, 0] ∧ win1_6.index t = ![t.val, 0] ∧ win1_7.index t = ![t.val, 0] ∧ win1_8.index t = ![t.val, 0] ∧ win1_9.index t = ![t.val, 0]
    ∧ win1_10.index t = ![t.val, 0] ∧ win1_11.index t = ![t.val, 0] ∧ win1_12.index t = ![t.val, 0] ∧ win1_13.index t = ![0, 0] ∧ win1_14.index t = ![t.val, 0] ∧ win1_15.index t = ![0, 0] :=
  (by decide +kernel : ∀ t : Fin grid1.N, _)

variable {A : Args} (H : BackHolds V c A)

include H

set_option maxHeartbeats 2000000 in
/-- What the windows hold at a point of the grid. -/
theorem reads1 (t : Fin cfg1.N) : BackReads A (tile t) (iblk1 V c 0 t) (iblk1 V c 1 t) (iblk1 V c 2 t) (iblk1 V c 3 t) (iblk1 V c 4 t)
    (iblk1 V c 5 t) (iblk1 V c 6 t) (iblk1 V c 7 t) (iblk1 V c 8 t) (iblk1 V c 9 t) (iblk1 V c 10 t) (iblk1 V c 11 t) (iblk1 V c 12 t)
    (iblk1 V c 13 t) := by
  obtain ⟨h0, h1, h2, h3, h4, h5, h6, h7, h8, h9, h10, h11, h12, h13, -⟩ := places1 t
  refine ⟨fun p l => ?_, fun e => ?_, fun p l => ?_, fun p l => ?_, fun p l => ?_, fun p l => ?_, fun p l => ?_, fun p l => ?_, fun p l => ?_, fun p l => ?_, fun p l => ?_, fun p l => ?_, fun p l => ?_, fun p l => ?_⟩
  · refine Eq.trans (b := V c main_arg0 (ix2 (tile t p) l)) ?_ (congrFun H.x _)
    blk_ext [iblk1, h0, tile, row8]
  · refine Eq.trans (b := V c main_arg1 (ix2 0 e)) ?_ (congrFun H.gain _)
    blk_ext [iblk1, h1]
  · refine Eq.trans (b := V c main_arg3 (ix2 (tile t p) l)) ?_ (congrFun H.dres _)
    blk_ext [iblk1, h2, tile, row8]
  · refine Eq.trans (b := V c main_v19 (ix2 (tile t p) l)) ?_ (congrFun H.cos _)
    blk_ext [iblk1, h3, tile, row8]
  · refine Eq.trans (b := V c main_v24 (ix2 (tile t p) l)) ?_ (congrFun H.sin _)
    blk_ext [iblk1, h4, tile, row8]
  · refine Eq.trans (b := V c main_arg4 (ix2 (tile t p) l)) ?_ (congrFun H.dq _)
    blk_ext [iblk1, h5, tile, row8]
  · refine Eq.trans (b := V c main_arg5 (ix2 (tile t p) l)) ?_ (congrFun H.dk _)
    blk_ext [iblk1, h6, tile, row8]
  · refine Eq.trans (b := V c main_arg6 (ix2 (tile t p) l)) ?_ (congrFun H.dv _)
    blk_ext [iblk1, h7, tile, row8]
  · refine Eq.trans (b := V c main_arg7 (ix2 (tile t p) l)) ?_ (congrFun H.dqkvb _)
    blk_ext [iblk1, h8, tile, row8]
  · refine Eq.trans (b := V c main_v30 (ix2 (tile t p) l)) ?_ (congrFun H.small _)
    blk_ext [iblk1, h9, tile, row8]
  · refine Eq.trans (b := V c main_v31 (ix2 (tile t p) l)) ?_ (congrFun H.dggate _)
    blk_ext [iblk1, h10, tile, row8]
  · refine Eq.trans (b := V c main_v32 (ix2 (tile t p) l)) ?_ (congrFun H.dgatea _)
    blk_ext [iblk1, h11, tile, row8]
  · refine Eq.trans (b := V c main_v33 (ix2 (tile t p) l)) ?_ (congrFun H.dgateb _)
    blk_ext [iblk1, h12, tile, row8]
  · refine Eq.trans (b := V c main_v1 (ix2 p l)) ?_ (congrFun H.w _)
    blk_ext [iblk1, h13]

theorem array_dx : (dat1 V c).arrAt 14 cfg1.N = table A.dx := by
  refine (dat1 V c).arrAt_eq_of_covers 14 _ (by decide +kernel) fun t hf y => ?_
  obtain ⟨-, -, -, -, -, -, -, -, -, -, -, -, -, -, h, -⟩ := places1 t
  blk_simp
  rw [after1_14]
  obtain ⟨p, l, rfl⟩ := two (a := 256) (b := 1024) y
  have hi : (win1_14.blk t).view.emb (ix2 p l) = ix2 (tile t p) l := by
    blk_ext [h, tile, row8]
  rw [hi]
  exact dx_point V c t (reads1 V c H) p l

theorem array_dgain : (dat1 V c).arrAt 15 cfg1.N = line A.dgain := by
  refine (dat1 V c).arrAt_eq_of_after_last 15 t1_7 (by decide +kernel) _ fun y => ?_
  rw [after1_15]
  obtain ⟨i, l, rfl⟩ := two (a := 1) (b := 1024) y
  obtain rfl : i = 0 := Subsingleton.elim _ _
  exact dgain_point V c t1_7 (reads1 V c H) (by decide) l

end Cert.Proj

end
-- ==== Proof.ProjChain.lean ====
/- The kernel's arrays from call to call: what the host prepares, what each call finds and leaves, and the results. -/
module

public import proofs.«01_k».proof.Proof.ProjRegion0
public import proofs.«01_k».proof.Proof.ProjRegion1
public import proofs.«01_k».proof.Proof.Gen.Kernel3Ideal.Frame.Fold0
public import Idealize.ShloMosaic.Lib.KernelVsHost
public import Idealize.ShloMosaic.Lib.Pipeline.ValueKit
public import Idealize.ShloMosaic.Lib.StableHlo.RunRead
public import Idealize.ShloMosaic.Lib.ValueLayout

@[expose] public section

set_option maxRecDepth 16384

noncomputable section

namespace Cert.Proj

open Idealize.ShloMosaic hiding ix1 ix2 ix3 ix4
open Idealize.ShloMosaic.TcCoe Idealize.SL.Sem
open Idealize.ShloMosaic.ValueIdx Cert.Ffn Cert.Kernel3Ideal Cert.Kernel3Ideal.Gen

/-! ## The arguments -/

/-- An array of rows of lanes. -/
abbrev Arr (a b : ℕ) := (⟨2, ![a, b]⟩ : Shape).Idx → EReal

/-- The formulas' arguments, read from the programs' thirteen. -/
def argsOf (x : Arr 2048 1024) (gain : Arr 1 1024) (w : Arr 1024 8464) (dres : Arr 2048 1024) (dq dk dv : Arr 2048 768) (dqkvb : Arr 2048 3072)
    (dbeta ddecay : Arr 2048 8) (dggate dgatea dgateb : Arr 2048 1024) : Args where
  x t d := x (ix2 t d)
  gain d := gain (ix2 0 d)
  w f d := w (ix2 d f)
  dres t d := dres (ix2 t d)
  dq t j := dq (ix2 t j)
  dk t j := dk (ix2 t j)
  dv t j := dv (ix2 t j)
  dqkvb t j := dqkvb (ix2 t j)
  dbeta t j := dbeta (ix2 t j)
  ddecay t j := ddecay (ix2 t j)
  dggate t j := dggate (ix2 t j)
  dgatea t j := dgatea (ix2 t j)
  dgateb t j := dgateb (ix2 t j)

theorem eq_table {a b : ℕ} {z : Arr a b} {f : Fin a → Fin b → EReal} (h : ∀ t l, z (ix2 t l) = f t l) : z = table f := by
  funext y
  obtain ⟨t, l, rfl⟩ := two y
  exact h t l

theorem eq_line {b : ℕ} {z : Arr 1 b} {f : Fin b → EReal} (h : ∀ l, z (ix2 0 l) = f l) : z = line f := by
  funext y
  obtain ⟨i, l, rfl⟩ := two y
  obtain rfl : i = 0 := Subsingleton.elim _ _
  exact h l

/-! ## The host's preparation -/

/-- The angle of each token and lane of a half head, as the host computes it. -/
def angles : FVec Ideal S2048x32 .f32 :=
  mulf (broadcastInDim S2048x32 ![0, 1] bcast_S2048x1_S2048x32_0_1 (broadcastInDim S2048x1 ![0] bcast_S2048_S2048x1_0
      (sitofp .f32 (iotaInDim S2048 32 0) : FVec Ideal S2048 .f32)))
    (broadcastInDim S2048x32 ![0, 1] bcast_S1x32_S2048x32_0_1 (broadcastInDim S1x32 ![1] bcast_S32_S1x32_1
      (Host.powf (broadcastInDim S32 ![] bcast_S_S32 (constant S_ .f32 0x461C4000#32))
        (Host.divf (Host.negf (sitofp .f32 (iotaInDim S32 32 0) : FVec Ideal S32 .f32))
          (broadcastInDim S32 ![] bcast_S_S32 (constant S_ .f32 0x42000000#32))))))

theorem angles_apply (t : Fin 2048) (i : Fin 32) : angles (ix2 t i) = angle t i := by
  unfold angles angle
  refine congrArg₂ (FloatOps.mulf (F := Ideal) (φ := .f32)) ?_ ?_
  · refine (broadcastInDim_apply _ _ _ _ (ix2 t 0) fun e => match e with
      | 0 => rfl
      | 1 => rfl).trans ?_
    exact (broadcastInDim_apply _ _ _ _ (ix1 t) fun e => match e with
      | 0 => rfl).trans rfl
  · refine (broadcastInDim_apply _ _ _ _ (ix2 0 i) fun e => match e with
      | 0 => rfl
      | 1 => rfl).trans ?_
    exact (broadcastInDim_apply _ _ _ _ (ix1 i) fun e => match e with
      | 0 => rfl).trans rfl

/-- Two tables of half heads, side by side, twice. -/
def spread (a b : FVec Ideal S2048x32 .f32) : FVec Ideal S2048x128 .f32 :=
  shapeCast S2048x128 (broadcastInDim S1x2048x2x64 ![0, 1, 2, 3] bcast_S1x2048x1x64_S1x2048x2x64_0_1_2_3
    (shapeCast S1x2048x1x64 (concatenate S2048x64 1 [⟨S2048x32, a⟩, ⟨S2048x32, b⟩] concatenates_S2048x32_S2048x32_S2048x64_d1)
      shapeCasts_S2048x64_S1x2048x1x64)) shapeCasts_S1x2048x2x64_S2048x128

theorem spread_apply (a b : FVec Ideal S2048x32 .f32) (t : Fin 2048) (l : Fin 128) :
    spread a b (ix2 t l) = if l.val % 64 < 32 then a (ix2 t (inHalf l.val)) else b (ix2 t (inHalf l.val)) := by
  unfold spread
  refine (shapeCast_apply _ _ _ (ix4 0 t (⟨l.val / 64, by omega⟩ : Fin 2) (⟨l.val % 64, Nat.mod_lt _ (by decide)⟩ : Fin 64)) ?_).trans ?_
  · rw [Shape.rowMajor_val_four, Shape.rowMajor_val_two]
    show ((0 * 2048 + t.val) * 2 + l.val / 64) * 64 + l.val % 64 = t.val * 128 + l.val
    omega
  refine (broadcastInDim_apply _ _ _ _ (ix4 0 t 0 (⟨l.val % 64, Nat.mod_lt _ (by decide)⟩ : Fin 64)) fun e => match e with
    | 0 => rfl
    | 1 => rfl
    | 2 => rfl
    | 3 => rfl).trans ?_
  refine (shapeCast_apply _ _ _ (ix2 t (⟨l.val % 64, Nat.mod_lt _ (by decide)⟩ : Fin 64)) ?_).trans ?_
  · rw [Shape.rowMajor_val_four, Shape.rowMajor_val_two]
    show t.val * 64 + l.val % 64 = ((0 * 2048 + t.val) * 1 + 0) * 64 + l.val % 64
    omega
  by_cases h : l.val % 64 < 32
  · rw [if_pos h]
    refine concatenate_pair_apply_left (t := S2048x64) 1 a b _ (ix2 t (⟨l.val % 64, Nat.mod_lt _ (by decide)⟩ : Fin 64)) rfl (ix2 t (inHalf l.val)) fun e => match e with
      | 0 => rfl
      | 1 => ?_
    show l.val % 32 = l.val % 64
    omega
  · rw [if_neg h]
    refine concatenate_pair_apply_right (t := S2048x64) 1 a b _ (ix2 t (⟨l.val % 64, Nat.mod_lt _ (by decide)⟩ : Fin 64)) rfl rfl (ix2 t (inHalf l.val)) (fun e => match e with
      | 0 => fun _ => rfl
      | 1 => fun he => (he rfl).elim) ?_
    show l.val % 32 + 32 = l.val % 64
    omega

theorem spread_cos : spread (Host.cos angles) (Host.cos angles) = table fun (t : Fin 2048) (l : Fin 128) => cosAt t l.val := by
  refine eq_table fun t l => (spread_apply _ _ t l).trans ?_
  have h : (Host.cos angles : FVec Ideal S2048x32 .f32) (ix2 t (inHalf l.val)) = cosAt t l.val :=
    congrArg (FloatOps.hostUnary (F := Ideal) (φ := .f32) .cos) (angles_apply t (inHalf l.val))
  rw [h, ite_self]

theorem spread_sin : spread (Host.negf (Host.sin angles)) (Host.sin angles) = table fun (t : Fin 2048) (l : Fin 128) => sinAt t l.val := by
  refine eq_table fun t l => (spread_apply _ _ t l).trans ?_
  have h : (Host.sin angles : FVec Ideal S2048x32 .f32) (ix2 t (inHalf l.val)) = sine t (inHalf l.val) :=
    congrArg (FloatOps.hostUnary (F := Ideal) (φ := .f32) .sin) (angles_apply t (inHalf l.val))
  have h' : (Host.negf (Host.sin angles) : FVec Ideal S2048x32 .f32) (ix2 t (inHalf l.val)) = -sine t (inHalf l.val) := congrArg (- ·) h
  rw [h, h']
  rfl

/-- The narrow lanes' cotangents side by side in one row of 128. -/
def sideBySide (dbeta ddecay : FVec Ideal S2048x8 .f32) : FVec Ideal S2048x128 .f32 :=
  addf (pad S2048x128 ![0, 8] ![0, 112] ![0, 0] ddecay (constant S_ .f32 0x00000000#32) pads_S2048x8_S2048x128_000_81120 h_S_)
    (pad S2048x128 ![0, 0] ![0, 120] ![0, 0] dbeta (constant S_ .f32 0x00000000#32) pads_S2048x8_S2048x128_000_01200 h_S_)

theorem sideBySide_apply {A : Args} {dbeta ddecay : FVec Ideal S2048x8 .f32} (hb : ∀ t j, dbeta (ix2 t j) = A.dbeta t j)
    (hd : ∀ t j, ddecay (ix2 t j) = A.ddecay t j) (t : Fin 2048) (l : Fin 128) : sideBySide dbeta ddecay (ix2 t l) = A.small t l := by
  unfold sideBySide Args.small
  refine congrArg₂ (fun a b : EReal => a + b) ?_ ?_
  · split
    · next h =>
      refine (pad_apply_of_inside _ _ _ _ _ _ _ _ (ix2 t ⟨l.val - 8, by omega⟩) fun e => match e with
        | 0 => ?_
        | 1 => ?_).trans (hd _ _)
      · show t.val = 0 + t.val * (0 + 1)
        omega
      · show l.val = 8 + (l.val - 8) * (0 + 1)
        omega
    · next h =>
      refine (pad_apply_of_not_inside _ _ _ _ _ _ _ _ 1 ?_).trans Ideal.ofBits_zero_f32
      show ¬ (8 ≤ l.val ∧ (l.val - 8) % (0 + 1) = 0 ∧ (l.val - 8) / (0 + 1) < 8)
      omega
  · split
    · next h =>
      refine (pad_apply_of_inside _ _ _ _ _ _ _ _ (ix2 t ⟨l.val, h⟩) fun e => match e with
        | 0 => ?_
        | 1 => ?_).trans (hb _ _)
      · show t.val = 0 + t.val * (0 + 1)
        omega
      · show l.val = 0 + l.val * (0 + 1)
        omega
    · next h =>
      refine (pad_apply_of_not_inside _ _ _ _ _ _ _ _ 1 ?_).trans Ideal.ofBits_zero_f32
      show ¬ (0 ≤ l.val ∧ (l.val - 0) % (0 + 1) = 0 ∧ (l.val - 0) / (0 + 1) < 8)
      omega

variable (m : (ℓ : Loc nD τ sig) → Buf (Elt Ideal) ℓ) (ρ : Dev nD → PrngReg) (c : Dev nD)

theorem entry_w : V1 m ρ c main_v1 = (truncf .bf16 (transpose S8464x1024 [1, 0] (m ((c : Thread nD τ).loc main_arg2))
    transposes_S1024x8464_S8464x1024_1_0 : FVec Ideal S8464x1024 .f32) bitsLt_bf16_f32 : FVec Ideal S8464x1024 .bf16) := by
  show StableHlo.after hostOps0 _ _ = _
  after_reads_simp

theorem entry_cos : V1 m ρ c main_v19 = spread (Host.cos angles) (Host.cos angles) := by
  show StableHlo.after hostOps0 _ _ = _
  after_reads_simp
  rfl

theorem entry_sin : V1 m ρ c main_v24 = spread (Host.negf (Host.sin angles)) (Host.sin angles) := by
  show StableHlo.after hostOps0 _ _ = _
  after_reads_simp
  rfl

theorem lines_beta (W : Valuation τ sig (Elt Ideal)) : StableHlo.after hostOps1 W (Proc.devRef .tc main_v26)
    = extractStridedSlice S2048x8 ![0, 0] (W (Proc.devRef .tc main_v25_4)) slices_S2048x128_S2048x8_0_0 := by
  after_reads_simp

theorem lines_decay (W : Valuation τ sig (Elt Ideal)) : StableHlo.after hostOps1 W (Proc.devRef .tc main_v27)
    = extractStridedSlice S2048x8 ![0, 8] (W (Proc.devRef .tc main_v25_4)) slices_S2048x128_S2048x8_0_8 := by
  after_reads_simp

theorem lines_small (W : Valuation τ sig (Elt Ideal)) : StableHlo.after hostOps1 W (Proc.devRef .tc main_v30)
    = sideBySide (W (Proc.devRef .tc main_arg8)) (W (Proc.devRef .tc main_arg9)) := by
  after_reads_simp
  rfl

theorem lines_ggate (W : Valuation τ sig (Elt Ideal)) : StableHlo.after hostOps1 W (Proc.devRef .tc main_v31)
    = (truncf .bf16 (W (Proc.devRef .tc main_arg10) : FVec Ideal S2048x1024 .f32) bitsLt_bf16_f32 : FVec Ideal S2048x1024 .bf16) := by
  after_reads_simp

theorem lines_gatea (W : Valuation τ sig (Elt Ideal)) : StableHlo.after hostOps1 W (Proc.devRef .tc main_v32)
    = (truncf .bf16 (W (Proc.devRef .tc main_arg11) : FVec Ideal S2048x1024 .f32) bitsLt_bf16_f32 : FVec Ideal S2048x1024 .bf16) := by
  after_reads_simp

theorem lines_gateb (W : Valuation τ sig (Elt Ideal)) : StableHlo.after hostOps1 W (Proc.devRef .tc main_v33)
    = (truncf .bf16 (W (Proc.devRef .tc main_arg12) : FVec Ideal S2048x1024 .f32) bitsLt_bf16_f32 : FVec Ideal S2048x1024 .bf16) := by
  after_reads_simp

/-! ## From call to call -/

/-- The formulas' arguments at a device. -/
def args : Args := argsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))
  (m ((c : Thread nD τ).loc main_arg9)) (m ((c : Thread nD τ).loc main_arg10)) (m ((c : Thread nD τ).loc main_arg11))
  (m ((c : Thread nD τ).loc main_arg12))

/-- What the forward call finds. -/
theorem fwdHolds : FwdHolds (V1 m ρ) c (args m c) where
  x := (W1_args m ρ c main_arg0 (by decide)).trans (eq_table fun _ _ => rfl)
  gain := (W1_args m ρ c main_arg1 (by decide)).trans (eq_line fun _ => rfl)
  w := (entry_w m ρ c).trans (eq_table fun f d => transpose_ix2_apply _ _ f d)
  cos := (entry_cos m ρ c).trans spread_cos
  sin := (entry_sin m ρ c).trans spread_sin

/-- What the backward call finds. -/
theorem backHolds : BackHolds (V3 m ρ) c (args m c) where
  x := (W3_args m ρ c main_arg0 (by decide)).trans (eq_table fun _ _ => rfl)
  gain := (W3_args m ρ c main_arg1 (by decide)).trans (eq_line fun _ => rfl)
  dres := (W3_args m ρ c main_arg3 (by decide)).trans (eq_table fun _ _ => rfl)
  cos := (W3_of m ρ c main_v19 (by decide)).trans ((W2_of m ρ c main_v19 (by decide)).trans (fwdHolds m ρ c).cos)
  sin := (W3_of m ρ c main_v24 (by decide)).trans ((W2_of m ρ c main_v24 (by decide)).trans (fwdHolds m ρ c).sin)
  dq := (W3_args m ρ c main_arg4 (by decide)).trans (eq_table fun _ _ => rfl)
  dk := (W3_args m ρ c main_arg5 (by decide)).trans (eq_table fun _ _ => rfl)
  dv := (W3_args m ρ c main_arg6 (by decide)).trans (eq_table fun _ _ => rfl)
  dqkvb := (W3_args m ρ c main_arg7 (by decide)).trans (eq_table fun _ _ => rfl)
  small := (lines_small _).trans (eq_table (sideBySide_apply (fun t j => congrFun (W2_args m ρ c main_arg8 (by decide)) (ix2 t j))
    fun t j => congrFun (W2_args m ρ c main_arg9 (by decide)) (ix2 t j)))
  dggate := (lines_ggate _).trans (eq_table fun t j => congrFun (W2_args m ρ c main_arg10 (by decide)) (ix2 t j))
  dgatea := (lines_gatea _).trans (eq_table fun t j => congrFun (W2_args m ρ c main_arg11 (by decide)) (ix2 t j))
  dgateb := (lines_gateb _).trans (eq_table fun t j => congrFun (W2_args m ρ c main_arg12 (by decide)) (ix2 t j))
  w := (W3_of m ρ c main_v1 (by decide)).trans ((W2_of m ρ c main_v1 (by decide)).trans (fwdHolds m ρ c).w)

/-! ## The results -/

/-- What the forward call leaves stays. -/
theorem kept (r : Ref sig .tc) (h : ∀ w : Fin cfg1.W, Pipeline.arrRef spec1 w = r → (cfg1.win w).isOut = false) (h' : r ∉ hostOps1_W) :
    W4 m ρ c (Proc.devRef .tc r) = W2 m ρ c (Proc.devRef .tc r) := (W4_of m ρ c r h).trans (W3_of m ρ c r h')

theorem result_q : W4 m ρ c (Proc.devRef .tc main_v25_0) = table (args m c).q :=
  (kept m ρ c main_v25_0 (by decide) (by decide)).trans ((W2_arr m ρ c 5).trans (array_q (V1 m ρ) c (fwdHolds m ρ c)))

theorem result_k : W4 m ρ c (Proc.devRef .tc main_v25_1) = table (args m c).k :=
  (kept m ρ c main_v25_1 (by decide) (by decide)).trans ((W2_arr m ρ c 6).trans (array_k (V1 m ρ) c (fwdHolds m ρ c)))

theorem result_v : W4 m ρ c (Proc.devRef .tc main_v25_2) = table ((args m c).piece 1536 768 (by decide)) :=
  (kept m ρ c main_v25_2 (by decide) (by decide)).trans ((W2_arr m ρ c 7).trans (array_v (V1 m ρ) c (fwdHolds m ρ c)))

theorem result_qkvb : W4 m ρ c (Proc.devRef .tc main_v25_3) = table ((args m c).piece 2304 3072 (by decide)) :=
  (kept m ρ c main_v25_3 (by decide) (by decide)).trans ((W2_arr m ρ c 8).trans (array_qkvb (V1 m ρ) c (fwdHolds m ρ c)))

theorem result_ggate : W4 m ρ c (Proc.devRef .tc main_v25_5) = table ((args m c).piece 5392 1024 (by decide)) :=
  (kept m ρ c main_v25_5 (by decide) (by decide)).trans ((W2_arr m ρ c 10).trans (array_ggate (V1 m ρ) c (fwdHolds m ρ c)))

theorem result_gatea : W4 m ρ c (Proc.devRef .tc main_v25_6) = table ((args m c).piece 6416 1024 (by decide)) :=
  (kept m ρ c main_v25_6 (by decide) (by decide)).trans ((W2_arr m ρ c 11).trans (array_gatea (V1 m ρ) c (fwdHolds m ρ c)))

theorem result_gateb : W4 m ρ c (Proc.devRef .tc main_v25_7) = table ((args m c).piece 7440 1024 (by decide)) :=
  (kept m ρ c main_v25_7 (by decide) (by decide)).trans ((W2_arr m ρ c 12).trans (array_gateb (V1 m ρ) c (fwdHolds m ρ c)))

theorem left_small : W2 m ρ c (Proc.devRef .tc main_v25_4) = table ((args m c).piece 5376 128 (by decide)) :=
  (W2_arr m ρ c 9).trans (array_small (V1 m ρ) c (fwdHolds m ρ c))

theorem result_beta : W4 m ρ c (Proc.devRef .tc main_v26) = table ((args m c).piece 5376 8 (by decide)) := by
  refine (W4_of m ρ c main_v26 (by decide)).trans ((lines_beta _).trans ?_)
  rw [left_small m ρ c]
  refine eq_table fun t j => ?_
  refine (extractStridedSlice_apply _ _ _ _ (ix2 t (⟨0 + j.val, by omega⟩ : Fin 128)) fun e => match e with
    | 0 => (Nat.zero_add _).symm
    | 1 => rfl).trans ?_
  exact congrArg ((args m c).z t) (Fin.ext (by show 5376 + (0 + j.val) = 5376 + j.val; omega))

theorem result_decay : W4 m ρ c (Proc.devRef .tc main_v27) = table ((args m c).piece 5384 8 (by decide)) := by
  refine (W4_of m ρ c main_v27 (by decide)).trans ((lines_decay _).trans ?_)
  rw [left_small m ρ c]
  refine eq_table fun t j => ?_
  refine (extractStridedSlice_apply _ _ _ _ (ix2 t (⟨8 + j.val, by omega⟩ : Fin 128)) fun e => match e with
    | 0 => (Nat.zero_add _).symm
    | 1 => rfl).trans ?_
  exact congrArg ((args m c).z t) (Fin.ext (by show 5376 + (8 + j.val) = 5384 + j.val; omega))

theorem result_dx : W4 m ρ c (Proc.devRef .tc main_v34_0) = table (args m c).dx :=
  (W4_arr m ρ c 14).trans (array_dx (V3 m ρ) c (backHolds m ρ c))

theorem result_dgain : W4 m ρ c (Proc.devRef .tc main_v34_1) = line (args m c).dgain :=
  (W4_arr m ρ c 15).trans (array_dgain (V3 m ρ) c (backHolds m ρ c))

end Cert.Proj

end
-- ==== Proof.ProjRot.lean ====
/- The reference's rotation of rows of heads, forward and back, as the formulas' rotation. -/
module

public import proofs.«01_k».proof.Proof.ProjChain
public import proofs.«01_k».proof.Proof.Gen.Reference3Ideal.Read

@[expose] public section

set_option maxRecDepth 16384

noncomputable section

namespace Cert.Proj

open Idealize.ShloMosaic hiding ix1 ix2 ix3 ix4
open Idealize.ShloMosaic.ValueIdx Cert.Reference3Ideal Cert.Reference3Ideal.Gen Cert.Reference3Ideal.Read

/-- A lane by its head, and by its place in the head. -/
def laneOf (a : Fin 12) (n : Fin 64) : Fin 768 := ⟨a.val * 64 + n.val, by omega⟩
def headOf (j : Fin 768) : Fin 12 := ⟨j.val / 64, by omega⟩
def placeOf (j : Fin 768) : Fin 64 := ⟨j.val % 64, by omega⟩

section
variable {α : Type}

/-- Rows of lanes read as rows of heads, and back. -/
theorem heads_apply (z : S2048x768.Idx → α) (t : Fin 2048) (a : Fin 12) (n : Fin 64) :
    shapeCast S2048x12x64 z shapeCasts_S2048x768_S2048x12x64 (ix3 t a n) = z (ix2 t (laneOf a n)) := by
  refine shapeCast_apply _ _ _ _ ?_
  rw [Shape.rowMajor_val_two, Shape.rowMajor_val_three]
  show t.val * 768 + (a.val * 64 + n.val) = (t.val * 12 + a.val) * 64 + n.val
  omega

theorem lanes_apply (z : S2048x12x64.Idx → α) (t : Fin 2048) (j : Fin 768) :
    shapeCast S2048x768 z shapeCasts_S2048x12x64_S2048x768 (ix2 t j) = z (ix3 t (headOf j) (placeOf j)) := by
  refine shapeCast_apply _ _ _ _ ?_
  rw [Shape.rowMajor_val_two, Shape.rowMajor_val_three]
  show (t.val * 12 + j.val / 64) * 64 + j.val % 64 = t.val * 768 + j.val
  omega

/-- The lower and upper half of every head. -/
def loHalf (z : S2048x768.Idx → α) : S2048x12x32.Idx → α :=
  extractStridedSlice S2048x12x32 ![0, 0, 0] (shapeCast S2048x12x64 z shapeCasts_S2048x768_S2048x12x64) slices_S2048x12x64_S2048x12x32_0_0_0
def hiHalf (z : S2048x768.Idx → α) : S2048x12x32.Idx → α :=
  extractStridedSlice S2048x12x32 ![0, 0, 32] (shapeCast S2048x12x64 z shapeCasts_S2048x768_S2048x12x64) slices_S2048x12x64_S2048x12x32_0_0_32

theorem loHalf_apply (z : S2048x768.Idx → α) (t : Fin 2048) (a : Fin 12) (i : Fin 32) :
    loHalf z (ix3 t a i) = z (ix2 t (laneOf a ⟨i.val, by omega⟩)) := by
  refine (extractStridedSlice_apply _ _ _ _ (ix3 t a (⟨i.val, by omega⟩ : Fin 64)) fun e => match e with
    | 0 => (Nat.zero_add _).symm
    | 1 => (Nat.zero_add _).symm
    | 2 => (Nat.zero_add _).symm).trans ?_
  exact heads_apply z t a _

theorem hiHalf_apply (z : S2048x768.Idx → α) (t : Fin 2048) (a : Fin 12) (i : Fin 32) :
    hiHalf z (ix3 t a i) = z (ix2 t (laneOf a ⟨32 + i.val, by omega⟩)) := by
  refine (extractStridedSlice_apply _ _ _ _ (ix3 t a (⟨32 + i.val, by omega⟩ : Fin 64)) fun e => match e with
    | 0 => (Nat.zero_add _).symm
    | 1 => (Nat.zero_add _).symm
    | 2 => rfl).trans ?_
  exact heads_apply z t a _

/-- A table of half heads over all the heads. -/
def overHeads (x : S2048x1x32.Idx → α) : S2048x12x32.Idx → α :=
  broadcastInDim S2048x12x32 ![0, 1, 2] bcast_S2048x1x32_S2048x12x32_0_1_2 x

theorem overHeads_apply (x : S2048x1x32.Idx → α) (t : Fin 2048) (a : Fin 12) (i : Fin 32) : overHeads x (ix3 t a i) = x (ix3 t 0 i) :=
  broadcastInDim_apply _ _ _ _ (ix3 t 0 i) fun e => match e with
    | 0 => rfl
    | 1 => rfl
    | 2 => rfl

end

/-! ## The tables -/

theorem ref_cosine (t : Fin 2048) (i : Fin 32) : val_main_v41 (F := Ideal) (ix3 t 0 i) = cosine t i := by
  rw [val_main_v41_apply, val_main_v40_apply, val_main_v39_apply, val_main_v37_apply, val_main_v35_apply, val_main_v34_apply, val_main_v38_apply,
    val_main_v36_apply, val_main_v32_apply, val_main_v31_apply, val_main_v30_apply, val_main_v29_apply, val_main_v28_apply]
  rfl

theorem ref_sine (t : Fin 2048) (i : Fin 32) : val_main_v43 (F := Ideal) (ix3 t 0 i) = sine t i := by
  rw [val_main_v43_apply, val_main_v42_apply, val_main_v39_apply, val_main_v37_apply, val_main_v35_apply, val_main_v34_apply, val_main_v38_apply,
    val_main_v36_apply, val_main_v32_apply, val_main_v31_apply, val_main_v30_apply, val_main_v29_apply, val_main_v28_apply]
  rfl

theorem ref_cosine' (t : Fin 2048) (i : Fin 32) : val_main_v73 (F := Ideal) (ix3 t 0 i) = cosine t i := ref_cosine t i
theorem ref_sine' (t : Fin 2048) (i : Fin 32) : val_main_v75 (F := Ideal) (ix3 t 0 i) = sine t i := ref_sine t i

/-! ## The rotation -/

/-- The rotation forward. -/
def turn (z : FVec Ideal S2048x768 .f32) (co si : FVec Ideal S2048x1x32 .f32) : FVec Ideal S2048x768 .f32 :=
  shapeCast S2048x768 (concatenate S2048x12x64 2
    [⟨S2048x12x32, (subf (mulf (loHalf z) (overHeads co)) (mulf (hiHalf z) (overHeads si)) : FVec Ideal S2048x12x32 .f32)⟩,
     ⟨S2048x12x32, (addf (mulf (hiHalf z) (overHeads co)) (mulf (loHalf z) (overHeads si)) : FVec Ideal S2048x12x32 .f32)⟩]
    concatenates_S2048x12x32_S2048x12x32_S2048x12x64_d2) shapeCasts_S2048x12x64_S2048x768

/-- The rotation back. -/
def turnBack (z : FVec Ideal S2048x768 .f32) (co si : FVec Ideal S2048x1x32 .f32) : FVec Ideal S2048x768 .f32 :=
  shapeCast S2048x768 (addf
    (pad S2048x12x64 ![0, 0, 32] ![0, 0, 0] ![0, 0, 0]
      (addf (mulf (hiHalf z) (overHeads co)) (mulf (Host.negf (loHalf z)) (overHeads si)) : FVec Ideal S2048x12x32 .f32)
      (constant S_ .f32 0x00000000#32) pads_S2048x12x32_S2048x12x64_000_000_3200 h_S_)
    (pad S2048x12x64 ![0, 0, 0] ![0, 0, 32] ![0, 0, 0]
      (addf (mulf (hiHalf z) (overHeads si)) (mulf (loHalf z) (overHeads co)) : FVec Ideal S2048x12x32 .f32)
      (constant S_ .f32 0x00000000#32) pads_S2048x12x32_S2048x12x64_000_000_0320 h_S_) : FVec Ideal S2048x12x64 .f32)
    shapeCasts_S2048x12x64_S2048x768

/-- A lane in its head's lower half is at its own place there, and the lane 32 further on in the upper half. -/
theorem lane_lo {j : Fin 768} (h : j.val % 64 < 32) : laneOf (headOf j) ⟨j.val % 64, by omega⟩ = j :=
  Fin.ext (by show j.val / 64 * 64 + j.val % 64 = j.val; omega)

theorem lane_lo_swap {j : Fin 768} (h : j.val % 64 < 32) : laneOf (headOf j) ⟨32 + j.val % 64, by omega⟩ = swap j :=
  Fin.ext (by
    show j.val / 64 * 64 + (32 + j.val % 64) = other j.val
    rw [other, if_pos h]
    omega)

theorem lane_hi {j : Fin 768} (h : ¬ j.val % 64 < 32) : laneOf (headOf j) ⟨32 + (j.val % 64 - 32), by omega⟩ = j :=
  Fin.ext (by show j.val / 64 * 64 + (32 + (j.val % 64 - 32)) = j.val; omega)

theorem lane_hi_swap {j : Fin 768} (h : ¬ j.val % 64 < 32) : laneOf (headOf j) ⟨j.val % 64 - 32, by omega⟩ = swap j :=
  Fin.ext (by
    show j.val / 64 * 64 + (j.val % 64 - 32) = other j.val
    rw [other, if_neg h]
    omega)

theorem half_lo {n : ℕ} (h : n % 64 < 32) : (⟨n % 64, h⟩ : Fin 32) = inHalf n := Fin.ext (by show n % 64 = n % 32; omega)
theorem half_hi {n : ℕ} (h : ¬ n % 64 < 32) : (⟨n % 64 - 32, by omega⟩ : Fin 32) = inHalf n := Fin.ext (by show n % 64 - 32 = n % 32; omega)

section
variable {z : FVec Ideal S2048x768 .f32} {co si : FVec Ideal S2048x1x32 .f32} {Z : Lanes 768} (hz : ∀ t j, z (ix2 t j) = Z t j)
  (hc : ∀ t i, co (ix3 t 0 i) = cosine t i) (hs : ∀ t i, si (ix3 t 0 i) = sine t i)
include hz hc hs

theorem turn_apply (t : Fin 2048) (j : Fin 768) : turn z co si (ix2 t j) = rotate t (Z t) j := by
  unfold turn rotate
  refine (lanes_apply _ t j).trans ?_
  by_cases h : j.val % 64 < 32
  · refine (concatenate_pair_apply_left (t := S2048x12x64) (s₁ := S2048x12x32) (s₂ := S2048x12x32) 2 _ _ _ (ix3 t (headOf j) (placeOf j)) rfl
      (ix3 t (headOf j) (⟨j.val % 64, h⟩ : Fin 32)) fun e => match e with
      | 0 => rfl
      | 1 => rfl
      | 2 => rfl).trans ?_
    show (loHalf z (ix3 t (headOf j) _) * overHeads co (ix3 t (headOf j) _)
      - hiHalf z (ix3 t (headOf j) _) * overHeads si (ix3 t (headOf j) _) : EReal) = _
    rw [loHalf_apply, hiHalf_apply, overHeads_apply, overHeads_apply, hz, hz, hc, hs, lane_lo h, lane_lo_swap h, half_lo h, cosAt, sinAt,
      if_pos h, mul_neg, sub_eq_add_neg]
  · refine (concatenate_pair_apply_right (t := S2048x12x64) (s₁ := S2048x12x32) (s₂ := S2048x12x32) 2 _ _ _ (ix3 t (headOf j) (placeOf j)) rfl rfl
      (ix3 t (headOf j) (⟨j.val % 64 - 32, by omega⟩ : Fin 32)) (fun e => match e with
      | 0 => fun _ => rfl
      | 1 => fun _ => rfl
      | 2 => fun he => (he rfl).elim) ?_).trans ?_
    · show j.val % 64 - 32 + 32 = j.val % 64
      omega
    show (hiHalf z (ix3 t (headOf j) _) * overHeads co (ix3 t (headOf j) _)
      + loHalf z (ix3 t (headOf j) _) * overHeads si (ix3 t (headOf j) _) : EReal) = _
    rw [loHalf_apply, hiHalf_apply, overHeads_apply, overHeads_apply, hz, hz, hc, hs, lane_hi h, lane_hi_swap h, half_hi h, cosAt, sinAt,
      if_neg h]

theorem turnBack_apply (t : Fin 2048) (j : Fin 768) : turnBack z co si (ix2 t j) = rotateBack t (Z t) j := by
  unfold turnBack rotateBack
  refine (lanes_apply _ t j).trans ?_
  by_cases h : j.val % 64 < 32
  · refine (congrArg₂ (fun a b : EReal => a + b)
      ((pad_apply_of_not_inside _ _ _ _ _ _ _ (ix3 t (headOf j) (placeOf j)) 2 ?_).trans Ideal.ofBits_zero_f32)
      (pad_apply_of_inside _ _ _ _ _ _ _ (ix3 t (headOf j) (placeOf j)) (ix3 t (headOf j) (⟨j.val % 64, h⟩ : Fin 32)) fun e => match e with
      | 0 => ?_
      | 1 => ?_
      | 2 => ?_)).trans ((zero_add _).trans ?_)
    · show ¬ (32 ≤ j.val % 64 ∧ (j.val % 64 - 32) % (0 + 1) = 0 ∧ (j.val % 64 - 32) / (0 + 1) < 32)
      omega
    · show t.val = 0 + t.val * (0 + 1)
      omega
    · show j.val / 64 = 0 + j.val / 64 * (0 + 1)
      omega
    · show j.val % 64 = 0 + j.val % 64 * (0 + 1)
      omega
    show (hiHalf z (ix3 t (headOf j) _) * overHeads si (ix3 t (headOf j) _)
      + loHalf z (ix3 t (headOf j) _) * overHeads co (ix3 t (headOf j) _) : EReal) = _
    rw [loHalf_apply, hiHalf_apply, overHeads_apply, overHeads_apply, hz, hz, hc, hs, lane_lo h, lane_lo_swap h, half_lo h, cosAt, sinAt,
      if_pos h, neg_neg, add_comm]
  · refine (congrArg₂ (fun a b : EReal => a + b)
      (pad_apply_of_inside _ _ _ _ _ _ _ (ix3 t (headOf j) (placeOf j)) (ix3 t (headOf j) (⟨j.val % 64 - 32, by omega⟩ : Fin 32)) fun e =>
      match e with
      | 0 => ?_
      | 1 => ?_
      | 2 => ?_)
      ((pad_apply_of_not_inside _ _ _ _ _ _ _ (ix3 t (headOf j) (placeOf j)) 2 ?_).trans Ideal.ofBits_zero_f32)).trans ((add_zero _).trans ?_)
    · show t.val = 0 + t.val * (0 + 1)
      omega
    · show j.val / 64 = 0 + j.val / 64 * (0 + 1)
      omega
    · show j.val % 64 = 32 + (j.val % 64 - 32) * (0 + 1)
      omega
    · show ¬ (0 ≤ j.val % 64 ∧ (j.val % 64 - 0) % (0 + 1) = 0 ∧ (j.val % 64 - 0) / (0 + 1) < 32)
      omega
    show (hiHalf z (ix3 t (headOf j) _) * overHeads co (ix3 t (headOf j) _)
      + -loHalf z (ix3 t (headOf j) _) * overHeads si (ix3 t (headOf j) _) : EReal) = _
    rw [loHalf_apply, hiHalf_apply, overHeads_apply, overHeads_apply, hz, hz, hc, hs, lane_hi h, lane_hi_swap h, half_hi h, cosAt, sinAt,
      if_neg h, mul_neg, neg_mul]

end

/-! ## The reference's rotations -/

section
variable (x0 : Arr 2048 1024) (x1 : Arr 1 1024) (x2 : Arr 1024 8464) (x4 x5 : Arr 2048 768)

theorem ref_q_turn : val_main_v58 (F := Ideal) x0 x1 x2 = turn (val_main_v18 (F := Ideal) x0 x1 x2) (val_main_v41 (F := Ideal)) (val_main_v43 (F := Ideal)) := rfl
theorem ref_k_turn : val_main_v90 (F := Ideal) x0 x1 x2 = turn (val_main_v19 (F := Ideal) x0 x1 x2) (val_main_v73 (F := Ideal)) (val_main_v75 (F := Ideal)) := rfl
theorem ref_q_back : val_main_v126 (F := Ideal) x4 = turnBack x4 (val_main_v41 (F := Ideal)) (val_main_v43 (F := Ideal)) := rfl
theorem ref_k_back : val_main_v108 (F := Ideal) x5 = turnBack x5 (val_main_v73 (F := Ideal)) (val_main_v75 (F := Ideal)) := rfl

end

end Cert.Proj

end
-- ==== Proof.ProjRef.lean ====
/- What the reference computes: each line is its formula over the extended reals. -/
module

public import proofs.«01_k».proof.Proof.ProjRot
public import proofs.«01_k».proof.Proof.FfnRef

@[expose] public section

set_option maxRecDepth 16384

noncomputable section

namespace Cert.Proj

open Idealize.ShloMosaic hiding ix1 ix2 ix3 ix4
open Idealize.ShloMosaic.ValueIdx Cert.Reference3Ideal Cert.Reference3Ideal.Gen Cert.Reference3Ideal.Read

/-! ## A sum over all the projected lanes, group by group -/

/-- The sum of `n` numbers from place `o` on. -/
def span (f : Fin 8464 → EReal) (o n : ℕ) (h : o + n ≤ 8464) : EReal := ∑ k : Fin n, f ⟨o + k.val, by omega⟩

theorem span_split (f : Fin 8464 → EReal) (o a b : ℕ) (h : o + (a + b) ≤ 8464) :
    span f o (a + b) h = span f o a (by omega) + span f (o + a) b (by omega) := by
  unfold span
  rw [Fin.sum_univ_add]
  refine congrArg₂ (· + ·) rfl (Finset.sum_congr rfl fun k _ => congrArg f (Fin.ext ?_))
  show o + (a + k.val) = o + a + k.val
  omega

theorem sum_groups (f : Fin 8464 → EReal) :
    ∑ k, f k = span f 0 768 (by decide) + span f 768 768 (by decide) + span f 1536 768 (by decide) + span f 2304 3072 (by decide)
      + (span f 5376 8 (by decide) + span f 5384 8 (by decide)) + span f 5392 1024 (by decide) + span f 6416 1024 (by decide)
      + span f 7440 1024 (by decide) := by
  have h0 : ∑ k, f k = span f 0 (768 + 7696) (by decide) := Finset.sum_congr rfl fun k _ => congrArg f (Fin.ext (Nat.zero_add _).symm)
  rw [h0, span_split f 0 768 7696]
  have h1 : span f (0 + 768) 7696 (by decide) = _ := span_split f 768 768 6928 (by decide)
  have h2 : span f (768 + 768) 6928 (by decide) = _ := span_split f 1536 768 6160 (by decide)
  have h3 : span f (1536 + 768) 6160 (by decide) = _ := span_split f 2304 3072 3088 (by decide)
  have h4 : span f (2304 + 3072) 3088 (by decide) = _ := span_split f 5376 8 3080 (by decide)
  have h5 : span f (5376 + 8) 3080 (by decide) = _ := span_split f 5384 8 3072 (by decide)
  have h6 : span f (5384 + 8) 3072 (by decide) = _ := span_split f 5392 1024 2048 (by decide)
  have h7 : span f (5392 + 1024) 2048 (by decide) = _ := span_split f 6416 1024 1024 (by decide)
  rw [h1, h2, h3, h4, h5, h6, h7]
  simp only [Nat.reduceAdd, add_assoc]

/-! ## The lines -/

/-- The thirteen arguments hold `A`. -/
structure Args.Reads (A : Args) (x0 : Arr 2048 1024) (x1 : Arr 1 1024) (x2 : Arr 1024 8464) (x3 : Arr 2048 1024) (x4 x5 x6 : Arr 2048 768)
    (x7 : Arr 2048 3072) (x8 x9 : Arr 2048 8) (x10 x11 x12 : Arr 2048 1024) : Prop where
  x : ∀ i, x0 i = A.x (i 0) (i 1)
  gain : ∀ i, x1 i = A.gain (i 1)
  w : ∀ i, x2 i = A.w (i 1) (i 0)
  dres : ∀ i, x3 i = A.dres (i 0) (i 1)
  dq : ∀ i, x4 i = A.dq (i 0) (i 1)
  dk : ∀ i, x5 i = A.dk (i 0) (i 1)
  dv : ∀ i, x6 i = A.dv (i 0) (i 1)
  dqkvb : ∀ i, x7 i = A.dqkvb (i 0) (i 1)
  dbeta : ∀ i, x8 i = A.dbeta (i 0) (i 1)
  ddecay : ∀ i, x9 i = A.ddecay (i 0) (i 1)
  dggate : ∀ i, x10 i = A.dggate (i 0) (i 1)
  dgatea : ∀ i, x11 i = A.dgatea (i 0) (i 1)
  dgateb : ∀ i, x12 i = A.dgateb (i 0) (i 1)

theorem at_two {a b : ℕ} {z : Arr a b} {f : Fin a → Fin b → EReal} (h : ∀ t l, z (ix2 t l) = f t l) (i : (⟨2, ![a, b]⟩ : Shape).Idx) :
    z i = f (i 0) (i 1) := congrFun (eq_table h) i

theorem argsOf_reads (x0 : Arr 2048 1024) (x1 : Arr 1 1024) (x2 : Arr 1024 8464) (x3 : Arr 2048 1024) (x4 x5 x6 : Arr 2048 768)
    (x7 : Arr 2048 3072) (x8 x9 : Arr 2048 8) (x10 x11 x12 : Arr 2048 1024) :
    (argsOf x0 x1 x2 x3 x4 x5 x6 x7 x8 x9 x10 x11 x12).Reads x0 x1 x2 x3 x4 x5 x6 x7 x8 x9 x10 x11 x12 where
  x := at_two fun _ _ => rfl
  gain := congrFun (eq_line fun _ => rfl)
  w := at_two fun _ _ => rfl
  dres := at_two fun _ _ => rfl
  dq := at_two fun _ _ => rfl
  dk := at_two fun _ _ => rfl
  dv := at_two fun _ _ => rfl
  dqkvb := at_two fun _ _ => rfl
  dbeta := at_two fun _ _ => rfl
  ddecay := at_two fun _ _ => rfl
  dggate := at_two fun _ _ => rfl
  dgatea := at_two fun _ _ => rfl
  dgateb := at_two fun _ _ => rfl

/-- The nine groups of cotangents, in the order of the projected lanes. -/
abbrev joined (x4 x5 x6 : Arr 2048 768) (x7 : Arr 2048 3072) (x8 x9 : Arr 2048 8) (x10 x11 x12 : Arr 2048 1024) :
    List ((s : Shape) × (s.Idx → EReal)) :=
  [⟨S2048x768, val_main_v126 (F := Ideal) x4⟩, ⟨S2048x768, val_main_v108 (F := Ideal) x5⟩, ⟨S2048x768, x6⟩, ⟨S2048x3072, x7⟩, ⟨S2048x8, x8⟩,
    ⟨S2048x8, x9⟩, ⟨S2048x1024, x10⟩, ⟨S2048x1024, x11⟩, ⟨S2048x1024, x12⟩]

namespace Args.Reads

variable {A : Args} {x0 : Arr 2048 1024} {x1 : Arr 1 1024} {x2 : Arr 1024 8464} {x3 : Arr 2048 1024} {x4 x5 x6 : Arr 2048 768}
  {x7 : Arr 2048 3072} {x8 x9 : Arr 2048 8} {x10 x11 x12 : Arr 2048 1024} (H : A.Reads x0 x1 x2 x3 x4 x5 x6 x7 x8 x9 x10 x11 x12)
include H

theorem ref_sumsq (i : S2048.Idx) : val_main_v2 (F := Ideal) x0 i = ∑ d, A.x (i 0) d * A.x (i 0) d := by
  rw [val_main_v2_apply]
  refine (congrArg₂ (fun a b : EReal => a + b) Ideal.ofBits_zero_f32 (Finset.sum_congr rfl fun d _ => ?_)).trans (zero_add _)
  exact congrArg₂ (fun a b : EReal => a * b) (H.x _) (H.x _)

theorem ref_ms (i : S2048x1.Idx) : val_main_v7 (F := Ideal) x0 i = A.ms (i 0) := by
  rw [val_main_v7_apply, val_main_v5_apply, val_main_v3_apply, val_main_v4_apply, val_main_v6_apply]
  exact congrArg₂ (fun a b : EReal => a + b) (congrArg₂ Ideal.div (H.ref_sumsq _) Cert.Ffn.ofBits_width) Cert.Ffn.ofBits_eps

theorem ref_scale (i : S2048x1.Idx) : val_main_v8 (F := Ideal) x0 i = A.scale (i 0) := by
  rw [val_main_v8_apply, H.ref_ms]
  rfl

theorem ref_xhat (i : S2048x1024.Idx) : val_main_v13 (F := Ideal) x0 i = A.xhat (i 0) (i 1) := by
  rw [val_main_v13_apply, val_main_v12_apply]
  exact congrArg₂ (fun a b : EReal => a * b) (H.x i) (H.ref_scale _)

theorem ref_gain (i : S1x1024.Idx) : val_main_v14 (F := Ideal) x1 i = A.gain (i 1) := by
  rw [val_main_v14_apply, val_main_v0_apply]
  exact (H.gain _).trans (congrArg A.gain (Fin.ext (Nat.mod_eq_of_lt (i 1).isLt)))

theorem ref_h (i : S2048x1024.Idx) : val_main_v16 (F := Ideal) x0 x1 i = A.h (i 0) (i 1) := by
  rw [val_main_v16_apply, val_main_v15_apply]
  exact congrArg₂ (fun a b : EReal => a * b) (H.ref_xhat i) (H.ref_gain _)

theorem ref_z (i : S2048x8464.Idx) : val_main_v17 (F := Ideal) x0 x1 x2 i = A.z (i 0) (i 1) := by
  rw [val_main_v17_apply]
  exact Finset.sum_congr rfl fun d _ => congrArg₂ (fun a b : EReal => a * b) (H.ref_h _) (H.w _)

/-! ### The projected lanes -/

theorem ref_qs : val_main_v18 (F := Ideal) x0 x1 x2 = table (A.piece 0 768 (by decide)) := by
  refine eq_table fun t j => ?_
  rw [val_main_v18_apply]
  exact (H.ref_z _).trans (congrArg (A.z t) (Fin.ext (Nat.zero_add _).symm))

theorem ref_ks : val_main_v19 (F := Ideal) x0 x1 x2 = table (A.piece 768 768 (by decide)) := by
  refine eq_table fun t j => ?_
  rw [val_main_v19_apply]
  exact H.ref_z _

theorem ref_v : val_main_v20 (F := Ideal) x0 x1 x2 = table (A.piece 1536 768 (by decide)) := by
  refine eq_table fun t j => ?_
  rw [val_main_v20_apply]
  exact H.ref_z _

theorem ref_qkvb : val_main_v21 (F := Ideal) x0 x1 x2 = table (A.piece 2304 3072 (by decide)) := by
  refine eq_table fun t j => ?_
  rw [val_main_v21_apply]
  exact H.ref_z _

theorem ref_beta : val_main_v22 (F := Ideal) x0 x1 x2 = table (A.piece 5376 8 (by decide)) := by
  refine eq_table fun t j => ?_
  rw [val_main_v22_apply]
  exact H.ref_z _

theorem ref_decay : val_main_v23 (F := Ideal) x0 x1 x2 = table (A.piece 5384 8 (by decide)) := by
  refine eq_table fun t j => ?_
  rw [val_main_v23_apply]
  exact H.ref_z _

theorem ref_ggate : val_main_v24 (F := Ideal) x0 x1 x2 = table (A.piece 5392 1024 (by decide)) := by
  refine eq_table fun t j => ?_
  rw [val_main_v24_apply]
  exact H.ref_z _

theorem ref_gatea : val_main_v25 (F := Ideal) x0 x1 x2 = table (A.piece 6416 1024 (by decide)) := by
  refine eq_table fun t j => ?_
  rw [val_main_v25_apply]
  exact H.ref_z _

theorem ref_gateb : val_main_v26 (F := Ideal) x0 x1 x2 = table (A.piece 7440 1024 (by decide)) := by
  refine eq_table fun t j => ?_
  rw [val_main_v26_apply]
  exact H.ref_z _

theorem ref_q : val_main_v58 (F := Ideal) x0 x1 x2 = table A.q := by
  rw [ref_q_turn, H.ref_qs]
  exact eq_table (turn_apply (fun _ _ => rfl) ref_cosine ref_sine)

theorem ref_k : val_main_v90 (F := Ideal) x0 x1 x2 = table A.k := by
  rw [ref_k_turn, H.ref_ks]
  exact eq_table (turn_apply (fun _ _ => rfl) ref_cosine' ref_sine')

/-! ### The gradients -/

theorem ref_dzq (t : Fin 2048) (j : Fin 768) : val_main_v126 (F := Ideal) x4 (ix2 t j) = A.dzq t j := by
  rw [ref_q_back]
  exact turnBack_apply (fun t j => H.dq (ix2 t j)) ref_cosine ref_sine t j

theorem ref_dzk (t : Fin 2048) (j : Fin 768) : val_main_v108 (F := Ideal) x5 (ix2 t j) = A.dzk t j := by
  rw [ref_k_back]
  exact turnBack_apply (fun t j => H.dk (ix2 t j)) ref_cosine' ref_sine' t j

omit H in
/-- The joined cotangents at a lane of group `k`, which starts at lane `pre`. -/
theorem joined_apply (x4 x5 x6 : Arr 2048 768) (x7 : Arr 2048 3072) (x8 x9 : Arr 2048 8) (x10 x11 x12 : Arr 2048 1024) (k n pre : ℕ)
    (x : Arr 2048 n) (hk : k < (joined x4 x5 x6 x7 x8 x9 x10 x11 x12).length)
    (hx : (joined x4 x5 x6 x7 x8 x9 x10 x11 x12)[k] = ⟨⟨2, ![2048, n]⟩, x⟩)
    (hpre : ((((joined x4 x5 x6 x7 x8 x9 x10 x11 x12).take k).map (·.1)).map fun s =>
      if h : s.rank = S2048x8464.rank then s.size ((1 : Fin S2048x8464.rank).cast h.symm) else 0).sum = pre)
    (t : Fin 2048) (j : Fin n) (h : pre + j.val < 8464) :
    val_main_v127 (F := Ideal) x4 x5 x6 x7 x8 x9 x10 x11 x12 (ix2 t ⟨pre + j.val, h⟩) = x (ix2 t j) :=
  concatenate_apply_piece (t := S2048x8464) 1 (joined x4 x5 x6 x7 x8 x9 x10 x11 x12) _ (ix2 t ⟨pre + j.val, h⟩) k hk ⟨2, ![2048, n]⟩ x hx rfl
    pre hpre (ix2 t j) (fun e => match e with
      | 0 => fun _ => rfl
      | 1 => fun he => (he rfl).elim) rfl

theorem group_dzq (t : Fin 2048) (d : Fin 1024) :
    span (fun f => val_main_v127 (F := Ideal) x4 x5 x6 x7 x8 x9 x10 x11 x12 (ix2 t f) * A.w f d) 0 768 (by decide)
      = A.back (A.dzq t) 0 (by decide) d :=
  Finset.sum_congr rfl fun j _ => congrArg (fun y : EReal => y * A.w _ d)
    ((joined_apply x4 x5 x6 x7 x8 x9 x10 x11 x12 0 768 0 (val_main_v126 (F := Ideal) x4) (Nat.lt_of_sub_eq_succ rfl) rfl rfl t j (by omega)).trans (H.ref_dzq t j))

theorem group_dzk (t : Fin 2048) (d : Fin 1024) :
    span (fun f => val_main_v127 (F := Ideal) x4 x5 x6 x7 x8 x9 x10 x11 x12 (ix2 t f) * A.w f d) 768 768 (by decide)
      = A.back (A.dzk t) 768 (by decide) d :=
  Finset.sum_congr rfl fun j _ => congrArg (fun y : EReal => y * A.w _ d)
    ((joined_apply x4 x5 x6 x7 x8 x9 x10 x11 x12 1 768 768 (val_main_v108 (F := Ideal) x5) (Nat.lt_of_sub_eq_succ rfl) rfl rfl t j (by omega)).trans (H.ref_dzk t j))

theorem group_dv (t : Fin 2048) (d : Fin 1024) :
    span (fun f => val_main_v127 (F := Ideal) x4 x5 x6 x7 x8 x9 x10 x11 x12 (ix2 t f) * A.w f d) 1536 768 (by decide)
      = A.back (A.dv t) 1536 (by decide) d :=
  Finset.sum_congr rfl fun j _ => congrArg (fun y : EReal => y * A.w _ d)
    ((joined_apply x4 x5 x6 x7 x8 x9 x10 x11 x12 2 768 1536 x6 (Nat.lt_of_sub_eq_succ rfl) rfl rfl t j (by omega)).trans (H.dv _))

theorem group_dqkvb (t : Fin 2048) (d : Fin 1024) :
    span (fun f => val_main_v127 (F := Ideal) x4 x5 x6 x7 x8 x9 x10 x11 x12 (ix2 t f) * A.w f d) 2304 3072 (by decide)
      = A.back (A.dqkvb t) 2304 (by decide) d :=
  Finset.sum_congr rfl fun j _ => congrArg (fun y : EReal => y * A.w _ d)
    ((joined_apply x4 x5 x6 x7 x8 x9 x10 x11 x12 3 3072 2304 x7 (Nat.lt_of_sub_eq_succ rfl) rfl rfl t j (by omega)).trans (H.dqkvb _))

theorem group_dbeta (t : Fin 2048) (d : Fin 1024) :
    span (fun f => val_main_v127 (F := Ideal) x4 x5 x6 x7 x8 x9 x10 x11 x12 (ix2 t f) * A.w f d) 5376 8 (by decide)
      = A.back (A.dbeta t) 5376 (by decide) d :=
  Finset.sum_congr rfl fun j _ => congrArg (fun y : EReal => y * A.w _ d)
    ((joined_apply x4 x5 x6 x7 x8 x9 x10 x11 x12 4 8 5376 x8 (Nat.lt_of_sub_eq_succ rfl) rfl rfl t j (by omega)).trans (H.dbeta _))

theorem group_ddecay (t : Fin 2048) (d : Fin 1024) :
    span (fun f => val_main_v127 (F := Ideal) x4 x5 x6 x7 x8 x9 x10 x11 x12 (ix2 t f) * A.w f d) 5384 8 (by decide)
      = A.back (A.ddecay t) 5384 (by decide) d :=
  Finset.sum_congr rfl fun j _ => congrArg (fun y : EReal => y * A.w _ d)
    ((joined_apply x4 x5 x6 x7 x8 x9 x10 x11 x12 5 8 5384 x9 (Nat.lt_of_sub_eq_succ rfl) rfl rfl t j (by omega)).trans (H.ddecay _))

theorem group_dggate (t : Fin 2048) (d : Fin 1024) :
    span (fun f => val_main_v127 (F := Ideal) x4 x5 x6 x7 x8 x9 x10 x11 x12 (ix2 t f) * A.w f d) 5392 1024 (by decide)
      = A.back (A.dggate t) 5392 (by decide) d :=
  Finset.sum_congr rfl fun j _ => congrArg (fun y : EReal => y * A.w _ d)
    ((joined_apply x4 x5 x6 x7 x8 x9 x10 x11 x12 6 1024 5392 x10 (Nat.lt_of_sub_eq_succ rfl) rfl rfl t j (by omega)).trans (H.dggate _))

theorem group_dgatea (t : Fin 2048) (d : Fin 1024) :
    span (fun f => val_main_v127 (F := Ideal) x4 x5 x6 x7 x8 x9 x10 x11 x12 (ix2 t f) * A.w f d) 6416 1024 (by decide)
      = A.back (A.dgatea t) 6416 (by decide) d :=
  Finset.sum_congr rfl fun j _ => congrArg (fun y : EReal => y * A.w _ d)
    ((joined_apply x4 x5 x6 x7 x8 x9 x10 x11 x12 7 1024 6416 x11 (Nat.lt_of_sub_eq_succ rfl) rfl rfl t j (by omega)).trans (H.dgatea _))

theorem group_dgateb (t : Fin 2048) (d : Fin 1024) :
    span (fun f => val_main_v127 (F := Ideal) x4 x5 x6 x7 x8 x9 x10 x11 x12 (ix2 t f) * A.w f d) 7440 1024 (by decide)
      = A.back (A.dgateb t) 7440 (by decide) d :=
  Finset.sum_congr rfl fun j _ => congrArg (fun y : EReal => y * A.w _ d)
    ((joined_apply x4 x5 x6 x7 x8 x9 x10 x11 x12 8 1024 7440 x12 (Nat.lt_of_sub_eq_succ rfl) rfl rfl t j (by omega)).trans (H.dgateb _))

/-- The products of the joined cotangents with a column of the weight. -/
theorem ref_groups (t : Fin 2048) (d : Fin 1024) :
    ∑ f, val_main_v127 (F := Ideal) x4 x5 x6 x7 x8 x9 x10 x11 x12 (ix2 t f) * A.w f d = A.dh t d := by
  refine (sum_groups fun f => val_main_v127 (F := Ideal) x4 x5 x6 x7 x8 x9 x10 x11 x12 (ix2 t f) * A.w f d).trans ?_
  unfold Args.dh
  rw [H.group_dzq, H.group_dzk, H.group_dv, H.group_dqkvb, H.group_dbeta, H.group_ddecay, H.group_dggate, H.group_dgatea, H.group_dgateb]

theorem ref_dh (i : S2048x1024.Idx) : val_main_v128 (F := Ideal) x2 x4 x5 x6 x7 x8 x9 x10 x11 x12 i = A.dh (i 0) (i 1) := by
  rw [val_main_v128_apply]
  refine Eq.trans (Finset.sum_congr rfl fun f _ => ?_) (H.ref_groups (i 0) (i 1))
  refine congrArg₂ (fun a b : EReal => a * b) (congrArg (val_main_v127 (F := Ideal) x4 x5 x6 x7 x8 x9 x10 x11 x12) ?_) (H.w _)
  exact ValueIdx.eq_ix2 _

theorem ref_dxhat (i : S2048x1024.Idx) : val_main_v133 (F := Ideal) x1 x2 x4 x5 x6 x7 x8 x9 x10 x11 x12 i = A.dxhat (i 0) (i 1) := by
  rw [val_main_v133_apply, val_main_v132_apply]
  exact congrArg₂ (fun a b : EReal => a * b) (H.ref_dh i) (H.ref_gain _)

theorem ref_dot (i : S2048.Idx) : val_main_v136 (F := Ideal) x0 x1 x2 x4 x5 x6 x7 x8 x9 x10 x11 x12 i = ∑ e, A.x (i 0) e * A.dxhat (i 0) e := by
  rw [val_main_v136_apply]
  refine (congrArg₂ (fun a b : EReal => a + b) Ideal.ofBits_zero_f32 (Finset.sum_congr rfl fun d _ => ?_)).trans (zero_add _)
  exact congrArg₂ (fun a b : EReal => a * b) (H.x _) (H.ref_dxhat _)

theorem ref_slope (i : S2048x1.Idx) :
    val_main_v11 (F := Ideal) x0 i = ((-(1 / 2) : ℝ) : EReal) * Ideal.div (A.scale (i 0)) (A.ms (i 0)) := by
  rw [val_main_v11_apply, val_main_v10_apply, val_main_v9_apply]
  exact congrArg₂ (fun a b : EReal => a * b) Cert.Ffn.ofBits_neg_half (congrArg₂ Ideal.div (H.ref_scale i) (H.ref_ms i))

theorem ref_weight (i : S2048x1.Idx) : val_main_v143 (F := Ideal) x0 x1 x2 x4 x5 x6 x7 x8 x9 x10 x11 x12 i
    = Ideal.div ((∑ e, A.x (i 0) e * A.dxhat (i 0) e) * (((-(1 / 2) : ℝ) : EReal) * Ideal.div (A.scale (i 0)) (A.ms (i 0))))
        ((1024 : ℝ) : EReal) := by
  rw [val_main_v143_apply, val_main_v141_apply, val_main_v137_apply, val_main_v142_apply]
  refine congrArg₂ Ideal.div (congrArg₂ (fun a b : EReal => a * b) ((H.ref_dot _).trans ?_) (H.ref_slope i)) Cert.Ffn.ofBits_width
  refine congrArg (fun t => ∑ e, A.x t e * A.dxhat t e) (Fin.ext ?_)
  have h1 : (i 1).val < 1 := (i 1).isLt
  show (i 0).val * 1 + (i 1).val = (i 0).val
  omega

theorem ref_share (i : S2048x1024.Idx) : val_main_v145 (F := Ideal) x0 x1 x2 x4 x5 x6 x7 x8 x9 x10 x11 x12 i
    = Ideal.div ((∑ e, A.x (i 0) e * A.dxhat (i 0) e) * (((-(1 / 2) : ℝ) : EReal) * Ideal.div (A.scale (i 0)) (A.ms (i 0))))
        ((1024 : ℝ) : EReal) := by
  rw [val_main_v145_apply, val_main_v144_apply]
  refine (congrArg₂ (fun a b : EReal => a + b) Ideal.ofBits_zero_f32 ((Fin.sum_univ_one _).trans ?_)).trans (zero_add _)
  exact H.ref_weight _

/-- The rows' gradient. -/
theorem ref_dx : val_main_v149 (F := Ideal) x0 x1 x2 x3 x4 x5 x6 x7 x8 x9 x10 x11 x12 = table A.dx := by
  refine eq_table fun t d => ?_
  rw [val_main_v149_apply, val_main_v147_apply, val_main_v148_apply, val_main_v146_apply, val_main_v140_apply, val_main_v139_apply,
    val_main_v138_apply]
  refine Eq.trans ?_ (A.dx_eq t d)
  refine congrArg₂ (fun a b : EReal => a + b) (congrArg₂ (fun a b : EReal => a + b) (congrArg₂ (fun a b : EReal => a + b) (H.dres _)
    (congrArg₂ (fun a b : EReal => a * b) (H.ref_dxhat _) (H.ref_scale _))) (congrArg₂ (fun a b : EReal => a * b) (H.x _) (H.ref_share _)))
    (congrArg₂ (fun a b : EReal => a * b) (H.ref_share _) (H.x _))

/-- The gain's gradient. -/
theorem ref_dgain : val_main_v150 (F := Ideal) x0 x2 x4 x5 x6 x7 x8 x9 x10 x11 x12 = line A.dgain := by
  refine eq_line fun d => ?_
  rw [val_main_v150_apply, val_main_v134_apply]
  refine (congrArg₂ (fun a b : EReal => a + b) Ideal.ofBits_zero_f32 ((Fin.sum_univ_one _).trans ?_)).trans (zero_add _)
  rw [val_main_v131_apply, val_main_v130_apply]
  refine (congrArg₂ (fun a b : EReal => a + b) Ideal.ofBits_zero_f32 (Finset.sum_congr rfl fun t _ => ?_)).trans (zero_add _)
  rw [val_main_v129_apply]
  refine (congrArg₂ (fun a b : EReal => a * b) (H.ref_xhat _) (H.ref_dh _)).trans ((mul_comm _ _).trans ?_)
  refine congrArg (fun e => A.dh t e * A.xhat t e) (Fin.ext ?_)
  show 0 * 1024 + d.val = d.val
  omega

end Args.Reads

end Cert.Proj

end
-- ==== Proof.ProjClaim.lean ====
/- The input projection: the kernel's nine groups of lanes and two gradients are the reference's, whatever the arguments. -/
module

public import proofs.«01_k».proof.Defs
public import proofs.«01_k».proof.Proof.ProjRun
public import proofs.«01_k».proof.Proof.ProjRef
public import proofs.«01_k».proof.Proof.Gen.Reference3Ideal
public import proofs.«01_k».proof.Proof.Gen.Reference3Ideal.Run
public import Idealize.ShloMosaic.Adequacy

@[expose] public section

set_option maxRecDepth 16384

noncomputable section

namespace Cert.Proj

open Idealize.ShloMosaic Idealize.ShloMosaic.TcCoe Idealize.SL.Sem

/-- The reference's run leaves its arguments, and every counter at zero: it has none. -/
theorem reference_frame [Cert.Reference3Ideal.Facts] : quiescent_Reference3Ideal := fun m g _ =>
  (θ_run (Cert.Reference3Ideal.defs (F := Ideal)) _ _).mono
    (fun r h => And.intro (fun c => (h c).2.2.2.2.2.2.2.2.2.2.2) (sem_eq_zero_of_no_sems (by decide) r.2)) (Cert.Reference3Ideal.Value.run m g)

/-- The kernel's arguments, as the reference reads them. -/
theorem args_reads (m : (ℓ : Loc Cert.Kernel3Ideal.nD Cert.Kernel3Ideal.τ Cert.Kernel3Ideal.sig) → Buf (Elt Ideal) ℓ)
    (c : Dev Cert.Kernel3Ideal.nD) : (args m c).Reads
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg5))
      (m ((c.tc : Thread Cert.Kernel3Ideal.nD Cert.Kernel3Ideal.τ).loc Cert.Kernel3Ideal.main_arg6))
      (m ((c.tc : Thread Cert.Kernel3Ideal.nD Cert.Kernel3Ideal.τ).loc Cert.Kernel3Ideal.main_arg7))
      (m ((c.tc : Thread Cert.Kernel3Ideal.nD Cert.Kernel3Ideal.τ).loc Cert.Kernel3Ideal.main_arg8))
      (m ((c.tc : Thread Cert.Kernel3Ideal.nD Cert.Kernel3Ideal.τ).loc Cert.Kernel3Ideal.main_arg9))
      (m ((c.tc : Thread Cert.Kernel3Ideal.nD Cert.Kernel3Ideal.τ).loc Cert.Kernel3Ideal.main_arg10))
      (m ((c.tc : Thread Cert.Kernel3Ideal.nD Cert.Kernel3Ideal.τ).loc Cert.Kernel3Ideal.main_arg11))
      (m ((c.tc : Thread Cert.Kernel3Ideal.nD Cert.Kernel3Ideal.τ).loc Cert.Kernel3Ideal.main_arg12)) :=
  argsOf_reads _ _ _ _ _ _ _ _ _ _ _ _ _

/-- The kernel's results are the reference's. -/
theorem equal_results [Cert.Kernel3Ideal.Facts] [Cert.Reference3Ideal.Facts] : algebraic_Kernel3Ideal_Reference3Ideal := by
  intro m g m' g' _ hargs
  refine ⟨fun c => Cert.Kernel3Ideal.Gen.W4 m g c (Proc.devRef .tc Cert.Kernel3Ideal.main_v25_0),
    fun c => Cert.Kernel3Ideal.Gen.W4 m g c (Proc.devRef .tc Cert.Kernel3Ideal.main_v25_1),
    fun c => Cert.Kernel3Ideal.Gen.W4 m g c (Proc.devRef .tc Cert.Kernel3Ideal.main_v25_2),
    fun c => Cert.Kernel3Ideal.Gen.W4 m g c (Proc.devRef .tc Cert.Kernel3Ideal.main_v25_3),
    fun c => Cert.Kernel3Ideal.Gen.W4 m g c (Proc.devRef .tc Cert.Kernel3Ideal.main_v26),
    fun c => Cert.Kernel3Ideal.Gen.W4 m g c (Proc.devRef .tc Cert.Kernel3Ideal.main_v27),
    fun c => Cert.Kernel3Ideal.Gen.W4 m g c (Proc.devRef .tc Cert.Kernel3Ideal.main_v25_5),
    fun c => Cert.Kernel3Ideal.Gen.W4 m g c (Proc.devRef .tc Cert.Kernel3Ideal.main_v25_6),
    fun c => Cert.Kernel3Ideal.Gen.W4 m g c (Proc.devRef .tc Cert.Kernel3Ideal.main_v25_7),
    fun c => Cert.Kernel3Ideal.Gen.W4 m g c (Proc.devRef .tc Cert.Kernel3Ideal.main_v34_0),
    fun c => Cert.Kernel3Ideal.Gen.W4 m g c (Proc.devRef .tc Cert.Kernel3Ideal.main_v34_1), ?_, ?_⟩
  · refine (θ_run Cert.Kernel3Ideal.defs _ _).mono (fun r h c => ?_)
      (θ_run_and (run_results m g) (Cert.Kernel3Ideal.Gen.unchanged m g))
    obtain ⟨h0, h1, h2, h3, h4, h5, h6, h7, h8, h9, h10⟩ := h.1 c
    exact ⟨h0, h1, h2, h3, h4, h5, h6, h7, h8, h9, h10, h.2 c⟩
  · refine (θ_run Cert.Reference3Ideal.defs _ _).mono (fun r h c => ?_) (Cert.Reference3Ideal.Value.run m' g')
    have H := args_reads m c
    obtain ⟨a0, a1, a2, a3, a4, a5, a6, a7, a8, a9, a10, a11, a12⟩ := hargs c
    obtain ⟨e0, e1, e2, e3, e4, e5, e6, e7, e8, e9, e10, e⟩ := h c
    refine ⟨e0.trans ?_, e1.trans ?_, e2.trans ?_, e3.trans ?_, e4.trans ?_, e5.trans ?_, e6.trans ?_, e7.trans ?_, e8.trans ?_, e9.trans ?_,
      e10.trans ?_, e⟩
    · rw [Cert.Reference3Ideal.Read.val_main_v58_eq, a0, a1, a2]
      exact H.ref_q.trans (result_q m g c).symm
    · rw [Cert.Reference3Ideal.Read.val_main_v90_eq, a0, a1, a2]
      exact H.ref_k.trans (result_k m g c).symm
    · rw [Cert.Reference3Ideal.Read.val_main_v20_eq, a0, a1, a2]
      exact H.ref_v.trans (result_v m g c).symm
    · rw [Cert.Reference3Ideal.Read.val_main_v21_eq, a0, a1, a2]
      exact H.ref_qkvb.trans (result_qkvb m g c).symm
    · rw [Cert.Reference3Ideal.Read.val_main_v22_eq, a0, a1, a2]
      exact H.ref_beta.trans (result_beta m g c).symm
    · rw [Cert.Reference3Ideal.Read.val_main_v23_eq, a0, a1, a2]
      exact H.ref_decay.trans (result_decay m g c).symm
    · rw [Cert.Reference3Ideal.Read.val_main_v24_eq, a0, a1, a2]
      exact H.ref_ggate.trans (result_ggate m g c).symm
    · rw [Cert.Reference3Ideal.Read.val_main_v25_eq, a0, a1, a2]
      exact H.ref_gatea.trans (result_gatea m g c).symm
    · rw [Cert.Reference3Ideal.Read.val_main_v26_eq, a0, a1, a2]
      exact H.ref_gateb.trans (result_gateb m g c).symm
    · rw [Cert.Reference3Ideal.Read.val_main_v149_eq, a0, a1, a2, a3, a4, a5, a6, a7, a8, a9, a10, a11, a12]
      exact H.ref_dx.trans (result_dx m g c).symm
    · rw [Cert.Reference3Ideal.Read.val_main_v150_eq, a0, a2, a4, a5, a6, a7, a8, a9, a10, a11, a12]
      exact H.ref_dgain.trans (result_dgain m g c).symm

end Cert.Proj

end
-- ==== Proof.MergeRun.lean ====
/- The kernel's run: its results are what its last lines leave. -/
module

public import proofs.«01_k».proof.Proof.Gen.Kernel4Ideal.Frame

@[expose] public section

set_option maxRecDepth 16384

noncomputable section

namespace Cert.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unfolding plain definitions
set_option backward.isDefEq.respectTransparency.types false in
/-- Every run ends with the six results at what the last lines leave. -/
theorem run_results : θ_run defs (onTc (τ := τ) (main (F := F))) ⟨m, fun _ => 0, ρ⟩ (fun r => ∀ c : Dev nD,
      r.2.mem ((c.tc : Thread nD τ).loc main_v1_0) = W5 m ρ c (Proc.devRef .tc main_v1_0)
      ∧ r.2.mem ((c.tc : Thread nD τ).loc main_v4) = W5 m ρ c (Proc.devRef .tc main_v4)
      ∧ r.2.mem ((c.tc : Thread nD τ).loc main_v5) = W5 m ρ c (Proc.devRef .tc main_v5)
      ∧ r.2.mem ((c.tc : Thread nD τ).loc main_v6) = W5 m ρ c (Proc.devRef .tc main_v6)
      ∧ r.2.mem ((c.tc : Thread nD τ).loc main_v7) = W5 m ρ c (Proc.devRef .tc main_v7)
      ∧ r.2.mem ((c.tc : Thread nD τ).loc main_v2) = W5 m ρ c (Proc.devRef .tc main_v2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ c =>
      ⟨h c _ (mem_uc main_v1_0 (by decide)),
       h c _ (mem_uc main_v4 (by decide)),
       h c _ (mem_uc main_v5 (by decide)),
       h c _ (mem_uc main_v6 (by decide)),
       h c _ (mem_uc main_v7 (by decide)),
       h c _ (mem_uc main_v2 (by decide))⟩)

end Cert.Merge

end
-- ==== Proof.MergeSpec.lean ====
/- The output projection with its two gates, and its gradients, over the extended reals. -/
module

public import Idealize.ShloMosaic.PureOps.Ideal

@[expose] public section

noncomputable section

namespace Cert.Merge

open Idealize.ShloMosaic

/-- Numbers by token and lane. -/
abbrev Lanes := Fin 2048 → Fin 1024 → EReal

/-- The arguments: the gates, the two branches, the weight, the rows added to, and the cotangent of the result. -/
structure Args where
  ga : Lanes
  gb : Lanes
  pa : Lanes
  pb : Lanes
  w : Fin 1024 → Fin 1024 → EReal
  x : Lanes
  dy : Lanes

/-- A gate's derivative by its argument. -/
def slope (x : EReal) : EReal := Ideal.logistic x * (((1 : ℝ) : EReal) - Ideal.logistic x)

namespace Args

variable (A : Args)

/-- The branches, each through its gate, added. -/
def merged (t : Fin 2048) (d : Fin 1024) : EReal := Ideal.logistic (A.ga t d) * A.pa t d + Ideal.logistic (A.gb t d) * A.pb t d

/-- The result: the rows, and the merged branches through the weight. -/
def out (t : Fin 2048) (f : Fin 1024) : EReal := A.x t f + ∑ d, A.merged t d * A.w d f

/-- The cotangent of the merged branches. -/
def dm (t : Fin 2048) (d : Fin 1024) : EReal := ∑ f, A.dy t f * A.w d f

def dga (t : Fin 2048) (d : Fin 1024) : EReal := A.dm t d * A.pa t d * slope (A.ga t d)
def dgb (t : Fin 2048) (d : Fin 1024) : EReal := A.dm t d * A.pb t d * slope (A.gb t d)
def dpa (t : Fin 2048) (d : Fin 1024) : EReal := Ideal.logistic (A.ga t d) * A.dm t d
def dpb (t : Fin 2048) (d : Fin 1024) : EReal := Ideal.logistic (A.gb t d) * A.dm t d
def dw (d f : Fin 1024) : EReal := ∑ t, A.merged t d * A.dy t f

end Args

end Cert.Merge

end
-- ==== Proof.MergeRegions.lean ====
/- The output projection's three kernels: what each leaves in its arrays. -/
module

public import proofs.«01_k».proof.Proof.ProjChain
public import proofs.«01_k».proof.Proof.MergeSpec
public import proofs.«01_k».proof.Proof.Gen.Kernel4Ideal.Frame

@[expose] public section

set_option maxRecDepth 16384

noncomputable section

namespace Cert.Merge

open Idealize.ShloMosaic hiding ix1 ix2 ix3 ix4
open Idealize.ShloMosaic.TcCoe Idealize.SL.Sem
open Idealize.ShloMosaic.ValueIdx Cert.Kernel4Ideal Cert.Kernel4Ideal.Gen
open Cert.Ffn (two row8 ofBits_one)
open Cert.Proj (table)

variable (V : (c : Dev nD) → (b : Ref sig .tc) → Buf (Elt Ideal) ((c : Thread nD τ).loc b)) (c : Dev nD)

/-! ## The forward kernel: 256 tokens at a time -/

/-- What its arrays hold before its run. -/
structure FwdHolds (A : Args) : Prop where
  ga : V c main_arg0 = table A.ga
  gb : V c main_arg1 = table A.gb
  pa : V c main_arg2 = table A.pa
  pb : V c main_arg3 = table A.pb
  w : V c main_v0 = table A.w
  x : V c main_arg5 = table A.x

theorem places0 : ∀ t : Fin cfg0.N,
    win0_0.index t = ![t.val, 0] ∧ win0_1.index t = ![t.val, 0] ∧ win0_2.index t = ![t.val, 0] ∧ win0_3.index t = ![t.val, 0]
    ∧ win0_4.index t = ![0, 0] ∧ win0_5.index t = ![t.val, 0] ∧ win0_6.index t = ![t.val, 0] ∧ win0_7.index t = ![t.val, 0] :=
  (by decide +kernel : ∀ t : Fin grid0.N, _)

/-- The point's tile of tokens. -/
def tile0 (t : Fin cfg0.N) (p : Fin 256) : Fin 2048 := row8 ⟨t.val, t.isLt⟩ p

/-- What a point reads. -/
structure FwdReads (A : Args) (τ : Fin 256 → Fin 2048) (ga gb pa pb : FVec Ideal S256x1024 .f32) (w : FVec Ideal S1024x1024 .bf16)
    (x : FVec Ideal S256x1024 .f32) : Prop where
  ga : ∀ p d, ga (ix2 p d) = A.ga (τ p) d
  gb : ∀ p d, gb (ix2 p d) = A.gb (τ p) d
  pa : ∀ p d, pa (ix2 p d) = A.pa (τ p) d
  pb : ∀ p d, pb (ix2 p d) = A.pb (τ p) d
  w : ∀ d f, w (ix2 d f) = A.w d f
  x : ∀ p d, x (ix2 p d) = A.x (τ p) d

section
variable {A : Args} {τ : Fin 256 → Fin 2048} {ga gb pa pb x : FVec Ideal S256x1024 .f32} {w : FVec Ideal S1024x1024 .bf16}
  (H : FwdReads A τ ga gb pa pb w x)
include H

theorem merged_apply (p : Fin 256) (d : Fin 1024) : k0_pay1 (F := Ideal) ga gb pa pb (ix2 p d) = A.merged (τ p) d := by
  show (Ideal.logistic (ga (ix2 p d)) * pa (ix2 p d) + Ideal.logistic (gb (ix2 p d)) * pb (ix2 p d) : EReal) = _
  rw [H.ga, H.gb, H.pa, H.pb]
  rfl

theorem merged_value (p : Fin 256) (d : Fin 1024) : out0_7 (F := Ideal) ga gb pa pb w x (ix2 p d) = A.merged (τ p) d := by
  unfold out0_7
  rw [View.canon_cons_unit_lit _ _ _ (by decide), View.ld_unit_lit _ _ (by decide), View.ld_unit_lit _ _ (by decide),
    View.ld_unit_lit _ _ (by decide), View.ld_unit_lit _ _ (by decide)]
  exact merged_apply H p d

theorem out_value (p : Fin 256) (f : Fin 1024) : out0_6 (F := Ideal) ga gb pa pb w x (ix2 p f) = A.out (τ p) f := by
  unfold out0_6
  rw [View.canon_cons_unit_lit _ _ _ (by decide), View.ld_unit_lit _ _ (by decide), View.ld_unit_lit _ _ (by decide),
    View.ld_unit_lit _ _ (by decide), View.ld_unit_lit _ _ (by decide), View.ld_unit_lit _ _ (by decide), View.ld_unit_lit _ _ (by decide)]
  refine congrArg₂ (fun a b : EReal => a + b) (H.x p f) ?_
  refine (Cert.Proj.rows_cols (R := 256) (M := 1024) (N := 1024) (φ₁ := .bf16) (φ₂ := .bf16) (k0_pay1 (F := Ideal) ga gb pa pb)
    (shapeCast S1024x1024 w shapeCasts_S1024x1024_S1024x1024) p f).trans ?_
  exact Finset.sum_congr rfl fun d _ => congrArg₂ (fun a b : EReal => a * b) (merged_apply H p d)
    ((shapeCast_apply w shapeCasts_S1024x1024_S1024x1024 _ _ rfl).trans (H.w d f))

end

section
variable {A : Args} (H : FwdHolds V c A)
include H

theorem reads0 (t : Fin cfg0.N) : FwdReads A (tile0 t) (iblk0 V c 0 t) (iblk0 V c 1 t) (iblk0 V c 2 t) (iblk0 V c 3 t) (iblk0 V c 4 t)
    (iblk0 V c 5 t) := by
  obtain ⟨h0, h1, h2, h3, h4, h5, -⟩ := places0 t
  refine ⟨fun p d => ?_, fun p d => ?_, fun p d => ?_, fun p d => ?_, fun d f => ?_, fun p d => ?_⟩
  · refine Eq.trans (b := V c main_arg0 (ix2 (tile0 t p) d)) ?_ (congrFun H.ga _)
    blk_ext [iblk0, h0, tile0, row8]
  · refine Eq.trans (b := V c main_arg1 (ix2 (tile0 t p) d)) ?_ (congrFun H.gb _)
    blk_ext [iblk0, h1, tile0, row8]
  · refine Eq.trans (b := V c main_arg2 (ix2 (tile0 t p) d)) ?_ (congrFun H.pa _)
    blk_ext [iblk0, h2, tile0, row8]
  · refine Eq.trans (b := V c main_arg3 (ix2 (tile0 t p) d)) ?_ (congrFun H.pb _)
    blk_ext [iblk0, h3, tile0, row8]
  · refine Eq.trans (b := V c main_v0 (ix2 d f)) ?_ (congrFun H.w _)
    blk_ext [iblk0, h4]
  · refine Eq.trans (b := V c main_arg5 (ix2 (tile0 t p) d)) ?_ (congrFun H.x _)
    blk_ext [iblk0, h5, tile0, row8]

theorem array_out : (dat0 V c).arrAt 6 cfg0.N = table A.out := by
  refine (dat0 V c).arrAt_eq_of_covers 6 _ (by decide +kernel) fun t hf y => ?_
  obtain ⟨-, -, -, -, -, -, h, -⟩ := places0 t
  blk_simp
  rw [after0_6]
  obtain ⟨p, l, rfl⟩ := two (a := 256) (b := 1024) y
  have hi : (win0_6.blk t).view.emb (ix2 p l) = ix2 (tile0 t p) l := by
    blk_ext [h, tile0, row8]
  rw [hi]
  exact out_value (reads0 V c H t) p l

theorem array_merged : (dat0 V c).arrAt 7 cfg0.N = table A.merged := by
  refine (dat0 V c).arrAt_eq_of_covers 7 _ (by decide +kernel) fun t hf y => ?_
  obtain ⟨-, -, -, -, -, -, -, h⟩ := places0 t
  blk_simp
  rw [after0_7]
  obtain ⟨p, l, rfl⟩ := two (a := 256) (b := 1024) y
  have hi : (win0_7.blk t).view.emb (ix2 p l) = ix2 (tile0 t p) l := by
    blk_ext [h, tile0, row8]
  rw [hi]
  exact merged_value (reads0 V c H t) p l

end

/-! ## The weight's gradient: 512 by 512 lanes at a time -/

/-- A product of columns with columns. -/
theorem cols_cols (y z : FVec Ideal S2048x512 .bf16) (k l : Fin 512) :
    matmul dot_S2048x512_S2048x512_S512x512_0_0_1_1_n_n none y z (constant S512x512 .f32 0x00000000#32) (ix2 k l)
      = ∑ t : Fin 2048, (y (ix2 t k) * z (ix2 t l) : EReal) := by
  refine (Ideal.matmul_constant_zero_apply _ none y z _).trans ?_
  rw [← Equiv.sum_comp (contrEquiv1 dot_S2048x512_S2048x512_S512x512_0_0_1_1_n_n 2048 rfl rfl).symm]
  refine Finset.sum_congr rfl fun i _ => congrArg₂ (fun a b : EReal => a * b) (congrArg y ?_) (congrArg z ?_)
  · refine funext fun a => Fin.ext ?_
    match a with
    | ⟨0, _⟩ => exact (DotDims.lhsIdx_val_of_single _ rfl _ _).trans (contrEquiv1_symm_val _ 2048 rfl rfl i)
    | ⟨1, _⟩ => unfold DotDims.lhsIdx; rfl
  · refine funext fun a => Fin.ext ?_
    match a with
    | ⟨0, _⟩ => exact (DotDims.rhsIdx_val_of_single _ rfl _ _).trans (contrEquiv1_symm_val _ 2048 rfl rfl i)
    | ⟨1, _⟩ => unfold DotDims.rhsIdx; rfl

/-- What its arrays hold before its run. -/
structure GradHolds (A : Args) : Prop where
  merged : V c main_v1_1 = table A.merged
  dy : V c main_arg6 = table A.dy

theorem places1 : ∀ t : Fin cfg1.N,
    win1_0.index t = ![0, t.val / 2] ∧ win1_1.index t = ![0, t.val % 2] ∧ win1_2.index t = ![t.val / 2, t.val % 2] :=
  (by decide +kernel : ∀ t : Fin grid1.N, _)

theorem points1 (t : Fin cfg1.N) : t.val < 4 := t.isLt

/-- The point's lanes of the weight's rows, and of its columns. -/
def rowOf (t : Fin cfg1.N) (k : Fin 512) : Fin 1024 := ⟨t.val / 2 * 512 + k.val, by have := points1 t; omega⟩
def colOf (t : Fin cfg1.N) (k : Fin 512) : Fin 1024 := ⟨t.val % 2 * 512 + k.val, by omega⟩

section
variable {A : Args} (H : GradHolds V c A) (t : Fin cfg1.N)
include H

theorem load_merged (i : Fin 2048) (k : Fin 512) : (iblk1 V c 0 t : Vec Ideal S2048x512 .bf16) (ix2 i k) = A.merged i (rowOf t k) := by
  obtain ⟨h, -⟩ := places1 t
  refine Eq.trans (b := V c main_v1_1 (ix2 i (rowOf t k))) ?_ (congrFun H.merged _)
  blk_ext [iblk1, h, rowOf]

theorem load_dy (i : Fin 2048) (k : Fin 512) : (iblk1 V c 1 t : Vec Ideal S2048x512 .f32) (ix2 i k) = A.dy i (colOf t k) := by
  obtain ⟨-, h, -⟩ := places1 t
  refine Eq.trans (b := V c main_arg6 (ix2 i (colOf t k))) ?_ (congrFun H.dy _)
  blk_ext [iblk1, h, colOf]

theorem grad_value (k l : Fin 512) : out1_2 (F := Ideal) (iblk1 V c 0 t) (iblk1 V c 1 t) (ix2 k l) = A.dw (rowOf t k) (colOf t l) := by
  unfold out1_2
  rw [View.canon_cons_unit_lit _ _ _ (by decide), View.ld_unit_lit _ _ (by decide), View.ld_unit_lit _ _ (by decide)]
  refine (cols_cols (shapeCast S2048x512 (iblk1 V c 0 t : Vec Ideal S2048x512 .bf16) shapeCasts_S2048x512_S2048x512)
    (truncf .bf16 (iblk1 V c 1 t : Vec Ideal S2048x512 .f32) bitsLt_bf16_f32) k l).trans ?_
  exact Finset.sum_congr rfl fun i _ => congrArg₂ (fun a b : EReal => a * b)
    ((shapeCast_apply (iblk1 V c 0 t : Vec Ideal S2048x512 .bf16) shapeCasts_S2048x512_S2048x512 _ _ rfl).trans (load_merged V c H t i k))
    (load_dy V c H t i l)

theorem array_dw : (dat1 V c).arrAt 2 cfg1.N = table A.dw := by
  refine (dat1 V c).arrAt_eq_of_covers 2 _ (by decide +kernel) fun t hf y => ?_
  obtain ⟨-, -, h⟩ := places1 t
  blk_simp
  rw [after1_2]
  obtain ⟨k, l, rfl⟩ := two (a := 512) (b := 512) y
  have hi : (win1_2.blk t).view.emb (ix2 k l) = ix2 (rowOf t k) (colOf t l) := by
    blk_ext [h, rowOf, colOf]
  rw [hi]
  exact grad_value V c H t k l

end

/-! ## The backward kernel: 256 tokens at a time -/

/-- What its arrays hold before its run. -/
structure BackHolds (A : Args) : Prop where
  ga : V c main_arg0 = table A.ga
  gb : V c main_arg1 = table A.gb
  pa : V c main_arg2 = table A.pa
  pb : V c main_arg3 = table A.pb
  w : V c main_v0 = table A.w
  dy : V c main_arg6 = table A.dy

theorem places2 : ∀ t : Fin cfg2.N,
    win2_0.index t = ![t.val, 0] ∧ win2_1.index t = ![t.val, 0] ∧ win2_2.index t = ![t.val, 0] ∧ win2_3.index t = ![t.val, 0]
    ∧ win2_4.index t = ![0, 0] ∧ win2_5.index t = ![t.val, 0] ∧ win2_6.index t = ![t.val, 0] ∧ win2_7.index t = ![t.val, 0]
    ∧ win2_8.index t = ![t.val, 0] ∧ win2_9.index t = ![t.val, 0] :=
  (by decide +kernel : ∀ t : Fin grid2.N, _)

def tile2 (t : Fin cfg2.N) (p : Fin 256) : Fin 2048 := row8 ⟨t.val, t.isLt⟩ p

/-- What a point reads. -/
structure BackReads (A : Args) (τ : Fin 256 → Fin 2048) (ga gb pa pb : FVec Ideal S256x1024 .f32) (w : FVec Ideal S1024x1024 .bf16)
    (dy : FVec Ideal S256x1024 .f32) : Prop where
  ga : ∀ p d, ga (ix2 p d) = A.ga (τ p) d
  gb : ∀ p d, gb (ix2 p d) = A.gb (τ p) d
  pa : ∀ p d, pa (ix2 p d) = A.pa (τ p) d
  pb : ∀ p d, pb (ix2 p d) = A.pb (τ p) d
  w : ∀ d f, w (ix2 d f) = A.w d f
  dy : ∀ p d, dy (ix2 p d) = A.dy (τ p) d

theorem slope_apply (g : FVec Ideal S256x1024 .f32) (i : S256x1024.Idx) :
    (Ideal.logistic (g i) * (Ideal.ofBits .f32 0x3F800000#32 - Ideal.logistic (g i)) : EReal) = slope (g i) := by
  rw [ofBits_one]
  rfl

section
variable {A : Args} {τ : Fin 256 → Fin 2048} {ga gb pa pb dy : FVec Ideal S256x1024 .f32} {w : FVec Ideal S1024x1024 .bf16}
  (H : BackReads A τ ga gb pa pb w dy)
include H

theorem dm_apply (p : Fin 256) (d : Fin 1024) : k2_pay1 (F := Ideal) dy w (ix2 p d) = A.dm (τ p) d := by
  refine (Cert.Proj.rows_rows (R := 256) (M := 1024) (N := 1024) (φ₁ := .bf16) (φ₂ := .bf16) (truncf .bf16 dy bitsLt_bf16_f32)
    (shapeCast S1024x1024 w shapeCasts_S1024x1024_S1024x1024) p d).trans ?_
  exact Finset.sum_congr rfl fun f _ => congrArg₂ (fun a b : EReal => a * b) (H.dy p f)
    ((shapeCast_apply w shapeCasts_S1024x1024_S1024x1024 _ _ rfl).trans (H.w d f))

theorem dga_value (p : Fin 256) (d : Fin 1024) : out2_6 (F := Ideal) ga gb pa pb w dy (ix2 p d) = A.dga (τ p) d := by
  unfold out2_6
  rw [View.canon_cons_unit_lit _ _ _ (by decide), View.ld_unit_lit _ _ (by decide), View.ld_unit_lit _ _ (by decide),
    View.ld_unit_lit _ _ (by decide), View.ld_unit_lit _ _ (by decide)]
  exact congrArg₂ (fun a b : EReal => a * b) (congrArg₂ (fun a b : EReal => a * b) (dm_apply H p d) (H.pa p d))
    ((slope_apply ga _).trans (congrArg slope (H.ga p d)))

theorem dgb_value (p : Fin 256) (d : Fin 1024) : out2_7 (F := Ideal) ga gb pa pb w dy (ix2 p d) = A.dgb (τ p) d := by
  unfold out2_7
  rw [View.canon_cons_unit_lit _ _ _ (by decide), View.ld_unit_lit _ _ (by decide), View.ld_unit_lit _ _ (by decide),
    View.ld_unit_lit _ _ (by decide), View.ld_unit_lit _ _ (by decide)]
  exact congrArg₂ (fun a b : EReal => a * b) (congrArg₂ (fun a b : EReal => a * b) (dm_apply H p d) (H.pb p d))
    ((slope_apply gb _).trans (congrArg slope (H.gb p d)))

theorem dpa_value (p : Fin 256) (d : Fin 1024) : out2_8 (F := Ideal) ga gb pa pb w dy (ix2 p d) = A.dpa (τ p) d := by
  unfold out2_8
  rw [View.canon_cons_unit_lit _ _ _ (by decide), View.ld_unit_lit _ _ (by decide), View.ld_unit_lit _ _ (by decide),
    View.ld_unit_lit _ _ (by decide)]
  exact congrArg₂ (fun a b : EReal => a * b) (congrArg Ideal.logistic (H.ga p d)) (dm_apply H p d)

theorem dpb_value (p : Fin 256) (d : Fin 1024) : out2_9 (F := Ideal) ga gb pa pb w dy (ix2 p d) = A.dpb (τ p) d := by
  unfold out2_9
  rw [View.canon_cons_unit_lit _ _ _ (by decide), View.ld_unit_lit _ _ (by decide), View.ld_unit_lit _ _ (by decide),
    View.ld_unit_lit _ _ (by decide)]
  exact congrArg₂ (fun a b : EReal => a * b) (congrArg Ideal.logistic (H.gb p d)) (dm_apply H p d)

end

section
variable {A : Args} (H : BackHolds V c A)
include H

theorem reads2 (t : Fin cfg2.N) : BackReads A (tile2 t) (iblk2 V c 0 t) (iblk2 V c 1 t) (iblk2 V c 2 t) (iblk2 V c 3 t) (iblk2 V c 4 t)
    (iblk2 V c 5 t) := by
  obtain ⟨h0, h1, h2, h3, h4, h5, -⟩ := places2 t
  refine ⟨fun p d => ?_, fun p d => ?_, fun p d => ?_, fun p d => ?_, fun d f => ?_, fun p d => ?_⟩
  · refine Eq.trans (b := V c main_arg0 (ix2 (tile2 t p) d)) ?_ (congrFun H.ga _)
    blk_ext [iblk2, h0, tile2, row8]
  · refine Eq.trans (b := V c main_arg1 (ix2 (tile2 t p) d)) ?_ (congrFun H.gb _)
    blk_ext [iblk2, h1, tile2, row8]
  · refine Eq.trans (b := V c main_arg2 (ix2 (tile2 t p) d)) ?_ (congrFun H.pa _)
    blk_ext [iblk2, h2, tile2, row8]
  · refine Eq.trans (b := V c main_arg3 (ix2 (tile2 t p) d)) ?_ (congrFun H.pb _)
    blk_ext [iblk2, h3, tile2, row8]
  · refine Eq.trans (b := V c main_v0 (ix2 d f)) ?_ (congrFun H.w _)
    blk_ext [iblk2, h4]
  · refine Eq.trans (b := V c main_arg6 (ix2 (tile2 t p) d)) ?_ (congrFun H.dy _)
    blk_ext [iblk2, h5, tile2, row8]

theorem array_dga : (dat2 V c).arrAt 6 cfg2.N = table A.dga := by
  refine (dat2 V c).arrAt_eq_of_covers 6 _ (by decide +kernel) fun t hf y => ?_
  obtain ⟨-, -, -, -, -, -, h, -⟩ := places2 t
  blk_simp
  rw [after2_6]
  obtain ⟨p, l, rfl⟩ := two (a := 256) (b := 1024) y
  have hi : (win2_6.blk t).view.emb (ix2 p l) = ix2 (tile2 t p) l := by
    blk_ext [h, tile2, row8]
  rw [hi]
  exact dga_value (reads2 V c H t) p l

theorem array_dgb : (dat2 V c).arrAt 7 cfg2.N = table A.dgb := by
  refine (dat2 V c).arrAt_eq_of_covers 7 _ (by decide +kernel) fun t hf y => ?_
  obtain ⟨-, -, -, -, -, -, -, h, -⟩ := places2 t
  blk_simp
  rw [after2_7]
  obtain ⟨p, l, rfl⟩ := two (a := 256) (b := 1024) y
  have hi : (win2_7.blk t).view.emb (ix2 p l) = ix2 (tile2 t p) l := by
    blk_ext [h, tile2, row8]
  rw [hi]
  exact dgb_value (reads2 V c H t) p l

theorem array_dpa : (dat2 V c).arrAt 8 cfg2.N = table A.dpa := by
  refine (dat2 V c).arrAt_eq_of_covers 8 _ (by decide +kernel) fun t hf y => ?_
  obtain ⟨-, -, -, -, -, -, -, -, h, -⟩ := places2 t
  blk_simp
  rw [after2_8]
  obtain ⟨p, l, rfl⟩ := two (a := 256) (b := 1024) y
  have hi : (win2_8.blk t).view.emb (ix2 p l) = ix2 (tile2 t p) l := by
    blk_ext [h, tile2, row8]
  rw [hi]
  exact dpa_value (reads2 V c H t) p l

theorem array_dpb : (dat2 V c).arrAt 9 cfg2.N = table A.dpb := by
  refine (dat2 V c).arrAt_eq_of_covers 9 _ (by decide +kernel) fun t hf y => ?_
  obtain ⟨-, -, -, -, -, -, -, -, -, h⟩ := places2 t
  blk_simp
  rw [after2_9]
  obtain ⟨p, l, rfl⟩ := two (a := 256) (b := 1024) y
  have hi : (win2_9.blk t).view.emb (ix2 p l) = ix2 (tile2 t p) l := by
    blk_ext [h, tile2, row8]
  rw [hi]
  exact dpb_value (reads2 V c H t) p l

end

end Cert.Merge

end
-- ==== Proof.MergeChain.lean ====
/- The output projection's arrays from call to call, and its results. -/
module

public import proofs.«01_k».proof.Proof.MergeRegions
public import Idealize.ShloMosaic.Lib.StableHlo.RunRead

@[expose] public section

set_option maxRecDepth 16384

noncomputable section

namespace Cert.Merge

open Idealize.ShloMosaic hiding ix1 ix2 ix3 ix4
open Idealize.ShloMosaic.TcCoe Idealize.SL.Sem
open Idealize.ShloMosaic.ValueIdx Cert.Kernel4Ideal Cert.Kernel4Ideal.Gen
open Cert.Proj (Arr table eq_table)

/-- The formulas' arguments, read from the programs' seven. -/
def argsOf (ga gb pa pb : Arr 2048 1024) (w : Arr 1024 1024) (x dy : Arr 2048 1024) : Args where
  ga t d := ga (ix2 t d)
  gb t d := gb (ix2 t d)
  pa t d := pa (ix2 t d)
  pb t d := pb (ix2 t d)
  w d f := w (ix2 d f)
  x t d := x (ix2 t d)
  dy t d := dy (ix2 t d)

variable (m : (ℓ : Loc nD τ sig) → Buf (Elt Ideal) ℓ) (ρ : Dev nD → PrngReg) (c : Dev nD)

theorem entry_w : V1 m ρ c main_v0
    = (truncf .bf16 (m ((c : Thread nD τ).loc main_arg4) : FVec Ideal S1024x1024 .f32) bitsLt_bf16_f32 : FVec Ideal S1024x1024 .bf16) := by
  show StableHlo.after hostOps0 _ _ = _
  after_reads_simp

theorem lines_dga (W : Valuation τ sig (Elt Ideal)) : StableHlo.after hostOps3 W (Proc.devRef .tc main_v4)
    = (extf .f32 (W (Proc.devRef .tc main_v3_0) : FVec Ideal S2048x1024 .bf16) bitsLt_bf16_f32 : FVec Ideal S2048x1024 .f32) := by
  after_reads_simp

theorem lines_dgb (W : Valuation τ sig (Elt Ideal)) : StableHlo.after hostOps3 W (Proc.devRef .tc main_v5)
    = (extf .f32 (W (Proc.devRef .tc main_v3_1) : FVec Ideal S2048x1024 .bf16) bitsLt_bf16_f32 : FVec Ideal S2048x1024 .f32) := by
  after_reads_simp

theorem lines_dpa (W : Valuation τ sig (Elt Ideal)) : StableHlo.after hostOps3 W (Proc.devRef .tc main_v6)
    = (extf .f32 (W (Proc.devRef .tc main_v3_2) : FVec Ideal S2048x1024 .bf16) bitsLt_bf16_f32 : FVec Ideal S2048x1024 .f32) := by
  after_reads_simp

theorem lines_dpb (W : Valuation τ sig (Elt Ideal)) : StableHlo.after hostOps3 W (Proc.devRef .tc main_v7)
    = (extf .f32 (W (Proc.devRef .tc main_v3_3) : FVec Ideal S2048x1024 .bf16) bitsLt_bf16_f32 : FVec Ideal S2048x1024 .f32) := by
  after_reads_simp

/-- The formulas' arguments at a device. -/
def args : Args := argsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6))

/-- What each call finds. -/
theorem fwdHolds : FwdHolds (V1 m ρ) c (args m c) where
  ga := (W1_args m ρ c main_arg0 (by decide)).trans (eq_table fun _ _ => rfl)
  gb := (W1_args m ρ c main_arg1 (by decide)).trans (eq_table fun _ _ => rfl)
  pa := (W1_args m ρ c main_arg2 (by decide)).trans (eq_table fun _ _ => rfl)
  pb := (W1_args m ρ c main_arg3 (by decide)).trans (eq_table fun _ _ => rfl)
  w := (entry_w m ρ c).trans (eq_table fun _ _ => rfl)
  x := (W1_args m ρ c main_arg5 (by decide)).trans (eq_table fun _ _ => rfl)

theorem gradHolds : GradHolds (V2 m ρ) c (args m c) where
  merged := (W2_arr m ρ c 7).trans (array_merged (V1 m ρ) c (fwdHolds m ρ c))
  dy := (W2_args m ρ c main_arg6 (by decide)).trans (eq_table fun _ _ => rfl)

theorem backHolds : BackHolds (V3 m ρ) c (args m c) where
  ga := (W3_args m ρ c main_arg0 (by decide)).trans (eq_table fun _ _ => rfl)
  gb := (W3_args m ρ c main_arg1 (by decide)).trans (eq_table fun _ _ => rfl)
  pa := (W3_args m ρ c main_arg2 (by decide)).trans (eq_table fun _ _ => rfl)
  pb := (W3_args m ρ c main_arg3 (by decide)).trans (eq_table fun _ _ => rfl)
  w := (W3_of m ρ c main_v0 (by decide)).trans ((W2_of m ρ c main_v0 (by decide)).trans (fwdHolds m ρ c).w)
  dy := (W3_args m ρ c main_arg6 (by decide)).trans (eq_table fun _ _ => rfl)

/-! ## The results -/

theorem result_out : W5 m ρ c (Proc.devRef .tc main_v1_0) = table (args m c).out :=
  (W5_of m ρ c main_v1_0 (by decide)).trans ((W4_of m ρ c main_v1_0 (by decide)).trans ((W3_of m ρ c main_v1_0 (by decide)).trans
    ((W2_arr m ρ c 6).trans (array_out (V1 m ρ) c (fwdHolds m ρ c)))))

theorem result_dw : W5 m ρ c (Proc.devRef .tc main_v2) = table (args m c).dw :=
  (W5_of m ρ c main_v2 (by decide)).trans ((W4_of m ρ c main_v2 (by decide)).trans
    ((W3_arr m ρ c 2).trans (array_dw (V2 m ρ) c (gradHolds m ρ c))))

theorem result_dga : W5 m ρ c (Proc.devRef .tc main_v4) = table (args m c).dga :=
  (lines_dga _).trans ((W4_arr m ρ c 6).trans (array_dga (V3 m ρ) c (backHolds m ρ c)))

theorem result_dgb : W5 m ρ c (Proc.devRef .tc main_v5) = table (args m c).dgb :=
  (lines_dgb _).trans ((W4_arr m ρ c 7).trans (array_dgb (V3 m ρ) c (backHolds m ρ c)))

theorem result_dpa : W5 m ρ c (Proc.devRef .tc main_v6) = table (args m c).dpa :=
  (lines_dpa _).trans ((W4_arr m ρ c 8).trans (array_dpa (V3 m ρ) c (backHolds m ρ c)))

theorem result_dpb : W5 m ρ c (Proc.devRef .tc main_v7) = table (args m c).dpb :=
  (lines_dpb _).trans ((W4_arr m ρ c 9).trans (array_dpb (V3 m ρ) c (backHolds m ρ c)))

end Cert.Merge

end
-- ==== Proof.MergeRef.lean ====
/- What the reference computes of the output projection: each line is its formula. -/
module

public import proofs.«01_k».proof.Proof.MergeChain
public import proofs.«01_k».proof.Proof.ProjRef
public import proofs.«01_k».proof.Proof.Gen.Reference4Ideal.Read

@[expose] public section

set_option maxRecDepth 16384

noncomputable section

namespace Cert.Merge

open Idealize.ShloMosaic hiding ix1 ix2 ix3 ix4
open Idealize.ShloMosaic.ValueIdx Cert.Reference4Ideal Cert.Reference4Ideal.Gen Cert.Reference4Ideal.Read
open Cert.Proj (Arr table eq_table at_two)
open Cert.Ffn (ofBits_one)

/-- The seven arguments hold `A`. -/
structure Args.Reads (A : Args) (x0 x1 x2 x3 : Arr 2048 1024) (x4 : Arr 1024 1024) (x5 x6 : Arr 2048 1024) : Prop where
  ga : ∀ i, x0 i = A.ga (i 0) (i 1)
  gb : ∀ i, x1 i = A.gb (i 0) (i 1)
  pa : ∀ i, x2 i = A.pa (i 0) (i 1)
  pb : ∀ i, x3 i = A.pb (i 0) (i 1)
  w : ∀ i, x4 i = A.w (i 0) (i 1)
  x : ∀ i, x5 i = A.x (i 0) (i 1)
  dy : ∀ i, x6 i = A.dy (i 0) (i 1)

theorem argsOf_reads (x0 x1 x2 x3 : Arr 2048 1024) (x4 : Arr 1024 1024) (x5 x6 : Arr 2048 1024) :
    (argsOf x0 x1 x2 x3 x4 x5 x6).Reads x0 x1 x2 x3 x4 x5 x6 where
  ga := at_two fun _ _ => rfl
  gb := at_two fun _ _ => rfl
  pa := at_two fun _ _ => rfl
  pb := at_two fun _ _ => rfl
  w := at_two fun _ _ => rfl
  x := at_two fun _ _ => rfl
  dy := at_two fun _ _ => rfl

/-- One over one and an exponential is the gate; and the gate's derivative. -/
theorem gate_eq (z : EReal) :
    Ideal.div (Ideal.ofBits .f32 0x3F800000#32) (Ideal.ofBits .f32 0x3F800000#32 + Ideal.exp (-z)) = Ideal.logistic z := by
  rw [ofBits_one]
  rfl

theorem gate_a (x0 : Arr 2048 1024) (i : S2048x1024.Idx) : val_main_v5 (F := Ideal) x0 i = Ideal.logistic (x0 i) := by
  rw [val_main_v5_apply, val_main_v4_apply, val_main_v3_apply, val_main_v2_apply]
  exact gate_eq (x0 i)

theorem gate_b (x1 : Arr 2048 1024) (i : S2048x1024.Idx) : val_main_v15 (F := Ideal) x1 i = Ideal.logistic (x1 i) := by
  rw [val_main_v15_apply, val_main_v14_apply, val_main_v13_apply, val_main_v12_apply]
  exact gate_eq (x1 i)

theorem slope_a (x0 : Arr 2048 1024) (i : S2048x1024.Idx) : val_main_v8 (F := Ideal) x0 i = slope (x0 i) := by
  rw [val_main_v8_apply, val_main_v7_apply, val_main_v6_apply, gate_a]
  exact congrArg₂ (fun a b : EReal => a * b) rfl (congrArg₂ (fun a b : EReal => a - b) ofBits_one rfl)

theorem slope_b (x1 : Arr 2048 1024) (i : S2048x1024.Idx) : val_main_v18 (F := Ideal) x1 i = slope (x1 i) := by
  rw [val_main_v18_apply, val_main_v17_apply, val_main_v16_apply, gate_b]
  exact congrArg₂ (fun a b : EReal => a * b) rfl (congrArg₂ (fun a b : EReal => a - b) ofBits_one rfl)

namespace Args.Reads

variable {A : Args} {x0 x1 x2 x3 : Arr 2048 1024} {x4 : Arr 1024 1024} {x5 x6 : Arr 2048 1024} (H : A.Reads x0 x1 x2 x3 x4 x5 x6)
include H

theorem ref_merged (i : S2048x1024.Idx) : val_main_v20 (F := Ideal) x0 x1 x2 x3 i = A.merged (i 0) (i 1) := by
  rw [val_main_v20_apply, val_main_v9_apply, val_main_v19_apply, gate_a, gate_b, H.ga, H.gb, H.pa, H.pb]
  rfl

theorem ref_out : val_main_v22 (F := Ideal) x0 x1 x2 x3 x4 x5 = table A.out := by
  refine eq_table fun t f => ?_
  rw [val_main_v22_apply, val_main_v21_apply]
  exact congrArg₂ (fun a b : EReal => a + b) (H.x _)
    (Finset.sum_congr rfl fun d _ => congrArg₂ (fun a b : EReal => a * b) (H.ref_merged _) (H.w _))

theorem ref_dm (i : S2048x1024.Idx) : val_main_v25 (F := Ideal) x4 x6 i = A.dm (i 0) (i 1) := by
  rw [val_main_v25_apply]
  exact Finset.sum_congr rfl fun f _ => congrArg₂ (fun a b : EReal => a * b) (H.dy _) (H.w _)

theorem ref_dga : val_main_v31 (F := Ideal) x0 x2 x4 x6 = table A.dga := by
  refine eq_table fun t d => ?_
  rw [val_main_v31_apply, val_main_v30_apply, slope_a, H.ref_dm, H.pa, H.ga]
  rfl

theorem ref_dgb : val_main_v28 (F := Ideal) x1 x3 x4 x6 = table A.dgb := by
  refine eq_table fun t d => ?_
  rw [val_main_v28_apply, val_main_v27_apply, slope_b, H.ref_dm, H.pb, H.gb]
  rfl

theorem ref_dpa : val_main_v29 (F := Ideal) x0 x4 x6 = table A.dpa := by
  refine eq_table fun t d => ?_
  rw [val_main_v29_apply, gate_a, H.ref_dm, H.ga]
  rfl

theorem ref_dpb : val_main_v26 (F := Ideal) x1 x4 x6 = table A.dpb := by
  refine eq_table fun t d => ?_
  rw [val_main_v26_apply, gate_b, H.ref_dm, H.gb]
  rfl

theorem ref_dw : val_main_v24 (F := Ideal) x0 x1 x2 x3 x6 = table A.dw := by
  refine eq_table fun d f => ?_
  rw [val_main_v24_apply, val_main_v23_apply]
  exact Finset.sum_congr rfl fun t _ => (congrArg₂ (fun a b : EReal => a * b) (H.dy _) (H.ref_merged _)).trans (mul_comm _ _)

end Args.Reads

end Cert.Merge

end
-- ==== Proof.MergeClaim.lean ====
/- The output projection: the kernel's result and five gradients are the reference's, whatever the arguments. -/
module

public import proofs.«01_k».proof.Defs
public import proofs.«01_k».proof.Proof.MergeRun
public import proofs.«01_k».proof.Proof.MergeRef
public import proofs.«01_k».proof.Proof.Gen.Reference4Ideal
public import proofs.«01_k».proof.Proof.Gen.Reference4Ideal.Run
public import Idealize.ShloMosaic.Adequacy

@[expose] public section

set_option maxRecDepth 16384

noncomputable section

namespace Cert.Merge

open Idealize.ShloMosaic Idealize.ShloMosaic.TcCoe Idealize.SL.Sem

/-- The reference's run leaves its arguments, and every counter at zero: it has none. -/
theorem reference_frame [Cert.Reference4Ideal.Facts] : quiescent_Reference4Ideal := fun m g _ =>
  (θ_run (Cert.Reference4Ideal.defs (F := Ideal)) _ _).mono
    (fun r h => And.intro (fun c => (h c).2.2.2.2.2.2) (sem_eq_zero_of_no_sems (by decide) r.2)) (Cert.Reference4Ideal.Value.run m g)

/-- The kernel's arguments, as the reference reads them. -/
theorem args_reads (m : (ℓ : Loc Cert.Kernel4Ideal.nD Cert.Kernel4Ideal.τ Cert.Kernel4Ideal.sig) → Buf (Elt Ideal) ℓ)
    (c : Dev Cert.Kernel4Ideal.nD) : (args m c).Reads
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4))
      (m ((c.tc : Thread Cert.Kernel4Ideal.nD Cert.Kernel4Ideal.τ).loc Cert.Kernel4Ideal.main_arg5))
      (m ((c.tc : Thread Cert.Kernel4Ideal.nD Cert.Kernel4Ideal.τ).loc Cert.Kernel4Ideal.main_arg6)) :=
  argsOf_reads _ _ _ _ _ _ _

/-- The kernel's results are the reference's. -/
theorem equal_results [Cert.Kernel4Ideal.Facts] [Cert.Reference4Ideal.Facts] : algebraic_Kernel4Ideal_Reference4Ideal := by
  intro m g m' g' _ hargs
  refine ⟨fun c => Cert.Kernel4Ideal.Gen.W5 m g c (Proc.devRef .tc Cert.Kernel4Ideal.main_v1_0),
    fun c => Cert.Kernel4Ideal.Gen.W5 m g c (Proc.devRef .tc Cert.Kernel4Ideal.main_v4),
    fun c => Cert.Kernel4Ideal.Gen.W5 m g c (Proc.devRef .tc Cert.Kernel4Ideal.main_v5),
    fun c => Cert.Kernel4Ideal.Gen.W5 m g c (Proc.devRef .tc Cert.Kernel4Ideal.main_v6),
    fun c => Cert.Kernel4Ideal.Gen.W5 m g c (Proc.devRef .tc Cert.Kernel4Ideal.main_v7),
    fun c => Cert.Kernel4Ideal.Gen.W5 m g c (Proc.devRef .tc Cert.Kernel4Ideal.main_v2), ?_, ?_⟩
  · refine (θ_run Cert.Kernel4Ideal.defs _ _).mono (fun r h c => ?_)
      (θ_run_and (run_results m g) (Cert.Kernel4Ideal.Gen.unchanged m g))
    obtain ⟨h0, h1, h2, h3, h4, h5⟩ := h.1 c
    exact ⟨h0, h1, h2, h3, h4, h5, h.2 c⟩
  · refine (θ_run Cert.Reference4Ideal.defs _ _).mono (fun r h c => ?_) (Cert.Reference4Ideal.Value.run m' g')
    have H := args_reads m c
    obtain ⟨a0, a1, a2, a3, a4, a5, a6⟩ := hargs c
    obtain ⟨e0, e1, e2, e3, e4, e5, e⟩ := h c
    refine ⟨e0.trans ?_, e1.trans ?_, e2.trans ?_, e3.trans ?_, e4.trans ?_, e5.trans ?_, e⟩
    · rw [Cert.Reference4Ideal.Read.val_main_v22_eq, a0, a1, a2, a3, a4, a5]
      exact H.ref_out.trans (result_out m g c).symm
    · rw [Cert.Reference4Ideal.Read.val_main_v31_eq, a0, a2, a4, a6]
      exact H.ref_dga.trans (result_dga m g c).symm
    · rw [Cert.Reference4Ideal.Read.val_main_v28_eq, a1, a3, a4, a6]
      exact H.ref_dgb.trans (result_dgb m g c).symm
    · rw [Cert.Reference4Ideal.Read.val_main_v29_eq, a0, a4, a6]
      exact H.ref_dpa.trans (result_dpa m g c).symm
    · rw [Cert.Reference4Ideal.Read.val_main_v26_eq, a1, a4, a6]
      exact H.ref_dpb.trans (result_dpb m g c).symm
    · rw [Cert.Reference4Ideal.Read.val_main_v24_eq, a0, a1, a2, a3, a6]
      exact H.ref_dw.trans (result_dw m g c).symm

end Cert.Merge

end
-- ==== Proof.BranchRun.lean ====
/- The kernel's run: its results are what its last lines leave. -/
module

public import proofs.«01_k».proof.Proof.Gen.Kernel5Ideal.Frame

@[expose] public section

set_option maxRecDepth 16384

noncomputable section

namespace Cert.Branch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unfolding plain definitions
set_option backward.isDefEq.respectTransparency.types false in
/-- Every run ends with the five results at what the last lines leave. -/
theorem run_results : θ_run defs (onTc (τ := τ) (main (F := F))) ⟨m, fun _ => 0, ρ⟩ (fun r => ∀ c : Dev nD,
      r.2.mem ((c.tc : Thread nD τ).loc main_v2_0) = W5 m ρ c (Proc.devRef .tc main_v2_0)
      ∧ r.2.mem ((c.tc : Thread nD τ).loc main_v4_0) = W5 m ρ c (Proc.devRef .tc main_v4_0)
      ∧ r.2.mem ((c.tc : Thread nD τ).loc main_v5) = W5 m ρ c (Proc.devRef .tc main_v5)
      ∧ r.2.mem ((c.tc : Thread nD τ).loc main_v4_2) = W5 m ρ c (Proc.devRef .tc main_v4_2)
      ∧ r.2.mem ((c.tc : Thread nD τ).loc main_v3) = W5 m ρ c (Proc.devRef .tc main_v3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ c =>
      ⟨h c _ (mem_uc main_v2_0 (by decide)),
       h c _ (mem_uc main_v4_0 (by decide)),
       h c _ (mem_uc main_v5 (by decide)),
       h c _ (mem_uc main_v4_2 (by decide)),
       h c _ (mem_uc main_v3 (by decide))⟩)

end Cert.Branch

end
-- ==== Proof.BranchSpec.lean ====
/- The second branch's projection, with its norm by heads and its gate, and its gradients, over the extended reals. -/
module

public import proofs.«01_k».proof.Proof.MergeSpec

@[expose] public section

noncomputable section

namespace Cert.Branch

open Idealize.ShloMosaic
open Cert.Merge (Lanes slope)

/-- The arguments: the branch's rows, its gate, the norm's gain of a head, the weight, and the cotangent of the result. -/
structure Args where
  o : Lanes
  g : Lanes
  gain : Fin 128 → EReal
  w : Fin 1024 → Fin 1024 → EReal
  dout : Lanes

/-- A lane of a head. -/
def lane (h : Fin 8) (l : Fin 128) : Fin 1024 := ⟨h.val * 128 + l.val, by omega⟩

/-- The head of a lane, and its place there. -/
def headOf (j : Fin 1024) : Fin 8 := ⟨j.val / 128, by omega⟩
def placeOf (j : Fin 1024) : Fin 128 := ⟨j.val % 128, by omega⟩

theorem lane_of (j : Fin 1024) : lane (headOf j) (placeOf j) = j := Fin.ext (by
  show j.val / 128 * 128 + j.val % 128 = j.val
  omega)

/-- A gate: its argument, through the logistic function. -/
def silu (x : EReal) : EReal := x * Ideal.logistic x

/-- The mean's divisor, the norm's small number, and minus one half. -/
def width : EReal := Ideal.ofBits .f32 0x43000000#32
def eps : EReal := Ideal.ofBits .f32 0x358637BD#32
def minusHalf : EReal := Ideal.ofBits .f32 0xBF000000#32

/-! ## One head of one token: its lanes `o`, their gates `g`, the gain `n`, and the cotangents `d` of the gated lanes -/

section
variable (o g n d : Fin 128 → EReal)

/-- The mean square, with the small number. -/
def square : EReal := Ideal.div (∑ l, o l * o l) width + eps

/-- One over its root. -/
def scale : EReal := Ideal.rsqrt (square o)

/-- The root's derivative. -/
def bend : EReal := minusHalf * Ideal.div (scale o) (square o)

def unit (l : Fin 128) : EReal := o l * scale o
def gated (l : Fin 128) : EReal := unit o l * n l * silu (g l)

/-- The cotangents: of the normalised lanes, of the gate, and of the lanes. -/
def dnorm (l : Fin 128) : EReal := d l * silu (g l)
def dgate (l : Fin 128) : EReal :=
  unit o l * n l * d l * Ideal.logistic (g l) + g l * (unit o l * n l * d l) * slope (g l)
def pull : EReal := Ideal.div ((∑ l, o l * (dnorm g d l * n l)) * bend o) width
def dlane (l : Fin 128) : EReal := dnorm g d l * n l * scale o + o l * pull o g n d + pull o g n d * o l

end

namespace Args

variable (A : Args)

/-- A head of a token. -/
def oAt (t : Fin 2048) (h : Fin 8) (l : Fin 128) : EReal := A.o t (lane h l)
def gAt (t : Fin 2048) (h : Fin 8) (l : Fin 128) : EReal := A.g t (lane h l)

/-- The normalised and gated rows. -/
def y (t : Fin 2048) (j : Fin 1024) : EReal := gated (A.oAt t (headOf j)) (A.gAt t (headOf j)) A.gain (placeOf j)

/-- The result: they through the weight. -/
def out (t : Fin 2048) (f : Fin 1024) : EReal := ∑ j, A.y t j * A.w j f

/-- Their cotangent. -/
def dy (t : Fin 2048) (j : Fin 1024) : EReal := ∑ f, A.dout t f * A.w j f
def dyAt (t : Fin 2048) (h : Fin 8) (l : Fin 128) : EReal := A.dy t (lane h l)

def dg (t : Fin 2048) (j : Fin 1024) : EReal :=
  dgate (A.oAt t (headOf j)) (A.gAt t (headOf j)) A.gain (A.dyAt t (headOf j)) (placeOf j)
def dob (t : Fin 2048) (j : Fin 1024) : EReal :=
  dlane (A.oAt t (headOf j)) (A.gAt t (headOf j)) A.gain (A.dyAt t (headOf j)) (placeOf j)
def dw (j f : Fin 1024) : EReal := ∑ t, A.y t j * A.dout t f

/-- The gain's gradient: over every token and head. -/
def dgain (l : Fin 128) : EReal := ∑ t, ∑ h, unit (A.oAt t h) l * dnorm (A.gAt t h) (A.dyAt t h) l

end Args

end Cert.Branch

end
-- ==== Proof.BranchOps.lean ====
/- One head of a block of 256 tokens: the kernels' operations on its 128 lanes, each read at an index. -/
module

public import proofs.«01_k».proof.Proof.ProjOps
public import proofs.«01_k».proof.Proof.BranchSpec
public import proofs.«01_k».proof.Proof.Gen.Kernel5Ideal.Skeleton

@[expose] public section

set_option maxRecDepth 16384

noncomputable section

namespace Cert.Branch

open Idealize.ShloMosaic hiding ix1 ix2 ix3 ix4
open Idealize.ShloMosaic.ValueIdx Cert.Kernel5Ideal Cert.Kernel5Ideal.Gen
open Cert.Ffn (ofBits_one)

/-- A head's lanes. -/
local notation "Head" => FVec Ideal S256x128 FTy.f32
local notation "Line" => FVec Ideal S1x128 FTy.f32
local notation "Column" => FVec Ideal S256x1 FTy.f32

def bSquare (o : Head) : Column :=
  addf (divf (shapeCast S256x1 (multiReduction .add [1] S256 (mulf o o) 0x00000000#32 reduces_S256x128_S256 (.inl rfl) rfl) shapeCasts_S256_S256x1)
    (broadcast S256x1 (Scalar.ofBits (F := Ideal) .f32 0x43000000#32))) (broadcast S256x1 (Scalar.ofBits (F := Ideal) .f32 0x358637BD#32))

def bScale (o : Head) : Column := rsqrt (bSquare o)

def bBend (o : Head) : Column :=
  mulf (broadcast S256x1 (Scalar.ofBits (F := Ideal) .f32 0xBF000000#32)) (divf (bScale o) (bSquare o))

def bUnit (o : Head) : Head := mulf o (broadcastTo S256x128 (bScale o) broadcasts_S256x1_S256x128)

def bNormed (o : Head) (n : Line) : Head := mulf (bUnit o) (broadcastTo S256x128 n broadcasts_S1x128_S256x128)

def bGated (o g : Head) (n : Line) : Head := mulf (bNormed o n) (mulf g (logistic g))

def bDnorm (g d : Head) : Head := mulf d (mulf g (logistic g))

def bDgate (o g : Head) (n : Line) (d : Head) : Head :=
  addf (mulf (mulf (bNormed o n) d) (logistic g)) (mulf (mulf g (mulf (bNormed o n) d))
    (mulf (logistic g) (subf (broadcast S256x128 (Scalar.ofBits (F := Ideal) .f32 0x3F800000#32)) (logistic g))))

def bDgain (o g d : Head) : Line :=
  shapeCast S1x128 (multiReduction .add [0] S128 (mulf (bUnit o) (bDnorm g d)) 0x00000000#32 reduces_S256x128_S128 (.inl rfl) rfl) shapeCasts_S128_S1x128

def bPull (o g : Head) (n : Line) (d : Head) : Column :=
  divf (mulf (shapeCast S256x1 (multiReduction .add [1] S256 (mulf o (mulf (bDnorm g d) (broadcastTo S256x128 n broadcasts_S1x128_S256x128)))
    0x00000000#32 reduces_S256x128_S256 (.inl rfl) rfl) shapeCasts_S256_S256x1) (bBend o)) (broadcast S256x1 (Scalar.ofBits (F := Ideal) .f32 0x43000000#32))

def bPulled (o g : Head) (n : Line) (d : Head) : Head :=
  broadcastTo S256x128 (shapeCast S256x1 (multiReduction .add [1] S256 (bPull o g n d) 0x00000000#32 reduces_S256x1_S256 (.inl rfl) rfl) shapeCasts_S256_S256x1)
    broadcasts_S256x1_S256x128

def bDlane (o g : Head) (n : Line) (d : Head) : Head :=
  addf (addf (mulf (mulf (bDnorm g d) (broadcastTo S256x128 n broadcasts_S1x128_S256x128)) (broadcastTo S256x128 (bScale o) broadcasts_S256x1_S256x128))
    (mulf o (bPulled o g n d))) (mulf (bPulled o g n d) o)

/-- The slices of a block, a head each. -/
theorem slices_at (h : Fin 8) : S256x1024.Slices ![0, 128 * h.val] S256x128 :=
  (by decide : ∀ h : Fin 8, S256x1024.Slices ![0, 128 * h.val] S256x128) h

def slab (z : FVec Ideal S256x1024 .f32) (h : Fin 8) : Head := extractStridedSlice S256x128 ![0, 128 * h.val] z (slices_at h)

/-- A block of its heads. -/
def heads (f : Fin 8 → Head) : FVec Ideal S256x1024 .f32 :=
  concatenate S256x1024 1 (List.ofFn fun h : Fin 8 => (⟨S256x128, f h⟩ : (s : Shape) × (s.Idx → Ideal .f32)))
    concatenates_S256x128_S256x128_S256x128_S256x128_S256x128_S256x128_S256x128_S256x128_S256x1024_d1

theorem slab_apply (z : FVec Ideal S256x1024 .f32) (h : Fin 8) (p : Fin 256) (l : Fin 128) : slab z h (ix2 p l) = z (ix2 p (lane h l)) :=
  extractStridedSlice_apply _ _ _ _ _ fun a => by
    match a with
    | ⟨0, _⟩ => show p.val = 0 + p.val; omega
    | ⟨1, _⟩ => show h.val * 128 + l.val = 128 * h.val + l.val; omega

theorem heads_apply (f : Fin 8 → Head) (p : Fin 256) (j : Fin 1024) : heads f (ix2 p j) = f (headOf j) (ix2 p (placeOf j)) := by
  unfold heads
  refine concatenate_ofFn_apply (t := S256x1024) (s₁ := S256x128) 1 f _ rfl 128 rfl (ix2 p j) (headOf j) rfl (ix2 p (placeOf j)) rfl (fun b hb => ?_)
  match b with
  | ⟨0, _⟩ => rfl
  | ⟨1, _⟩ => exact absurd rfl hb

/-! ## Their values at a token -/

section
variable {o g d : Head} {n : Line} {p : Fin 256} {o' g' d' n' : Fin 128 → EReal}

theorem bSquare_apply (ho : ∀ l, o (ix2 p l) = o' l) : bSquare o (ix2 p 0) = square o' := by
  refine congrArg₂ (fun a b : EReal => a + b) (congrArg (fun a => Ideal.div a width) ?_) rfl
  refine (Cert.Proj.row_sum (R := 256) (M := 128) (mulf o o) reduces_S256x128_S256 (.inl rfl) rfl shapeCasts_S256_S256x1 p).trans ?_
  exact Finset.sum_congr rfl fun l _ => congrArg₂ (fun a b : EReal => a * b) (ho l) (ho l)

theorem bScale_apply (ho : ∀ l, o (ix2 p l) = o' l) : bScale o (ix2 p 0) = scale o' := congrArg Ideal.rsqrt (bSquare_apply ho)

theorem bBend_apply (ho : ∀ l, o (ix2 p l) = o' l) : bBend o (ix2 p 0) = bend o' :=
  congrArg₂ (fun a b : EReal => a * b) rfl (congrArg₂ Ideal.div (bScale_apply ho) (bSquare_apply ho))

theorem column_apply (x : Column) (l : Fin 128) : broadcastTo S256x128 x broadcasts_S256x1_S256x128 (ix2 p l) = x (ix2 p 0) :=
  Cert.Ffn.spread_col x _ p l

theorem line_apply (x : Line) (l : Fin 128) : broadcastTo S256x128 x broadcasts_S1x128_S256x128 (ix2 p l) = x (ix2 0 l) :=
  Cert.Ffn.spread_row x _ p l

theorem bUnit_apply (ho : ∀ l, o (ix2 p l) = o' l) (l : Fin 128) : bUnit o (ix2 p l) = unit o' l :=
  congrArg₂ (fun a b : EReal => a * b) (ho l) ((column_apply _ l).trans (bScale_apply ho))

theorem bNormed_apply (ho : ∀ l, o (ix2 p l) = o' l) (hn : ∀ l, n (ix2 0 l) = n' l) (l : Fin 128) : bNormed o n (ix2 p l) = unit o' l * n' l :=
  congrArg₂ (fun a b : EReal => a * b) (bUnit_apply ho l) ((line_apply _ l).trans (hn l))

theorem silu_apply (hg : ∀ l, g (ix2 p l) = g' l) (l : Fin 128) : mulf g (logistic g) (ix2 p l) = silu (g' l) :=
  congrArg₂ (fun a b : EReal => a * b) (hg l) (congrArg Ideal.logistic (hg l))

theorem bGated_apply (ho : ∀ l, o (ix2 p l) = o' l) (hg : ∀ l, g (ix2 p l) = g' l) (hn : ∀ l, n (ix2 0 l) = n' l) (l : Fin 128) :
    bGated o g n (ix2 p l) = gated o' g' n' l :=
  congrArg₂ (fun a b : EReal => a * b) (bNormed_apply ho hn l) (silu_apply hg l)

theorem bDnorm_apply (hg : ∀ l, g (ix2 p l) = g' l) (hd : ∀ l, d (ix2 p l) = d' l) (l : Fin 128) : bDnorm g d (ix2 p l) = dnorm g' d' l :=
  congrArg₂ (fun a b : EReal => a * b) (hd l) (silu_apply hg l)

theorem bDgate_apply (ho : ∀ l, o (ix2 p l) = o' l) (hg : ∀ l, g (ix2 p l) = g' l) (hn : ∀ l, n (ix2 0 l) = n' l) (hd : ∀ l, d (ix2 p l) = d' l)
    (l : Fin 128) : bDgate o g n d (ix2 p l) = dgate o' g' n' d' l := by
  have hs : mulf (bNormed o n) d (ix2 p l) = unit o' l * n' l * d' l := congrArg₂ (fun a b : EReal => a * b) (bNormed_apply ho hn l) (hd l)
  have hl : logistic g (ix2 p l) = Ideal.logistic (g' l) := congrArg Ideal.logistic (hg l)
  exact congrArg₂ (fun a b : EReal => a + b) (congrArg₂ (fun a b : EReal => a * b) hs hl)
    (congrArg₂ (fun a b : EReal => a * b) (congrArg₂ (fun a b : EReal => a * b) (hg l) hs)
      (congrArg₂ (fun a b : EReal => a * b) hl (congrArg₂ (fun a b : EReal => a - b) ofBits_one hl)))

theorem bPull_apply (ho : ∀ l, o (ix2 p l) = o' l) (hg : ∀ l, g (ix2 p l) = g' l) (hn : ∀ l, n (ix2 0 l) = n' l) (hd : ∀ l, d (ix2 p l) = d' l) :
    bPull o g n d (ix2 p 0) = pull o' g' n' d' := by
  refine congrArg (fun a => Ideal.div a width) (congrArg₂ (fun a b : EReal => a * b) ?_ (bBend_apply ho))
  refine (Cert.Proj.row_sum (R := 256) (M := 128) _ reduces_S256x128_S256 (.inl rfl) rfl shapeCasts_S256_S256x1 p).trans ?_
  exact Finset.sum_congr rfl fun l _ => congrArg₂ (fun a b : EReal => a * b) (ho l)
    (congrArg₂ (fun a b : EReal => a * b) (bDnorm_apply hg hd l) ((line_apply n l).trans (hn l)))

theorem bPulled_apply (ho : ∀ l, o (ix2 p l) = o' l) (hg : ∀ l, g (ix2 p l) = g' l) (hn : ∀ l, n (ix2 0 l) = n' l) (hd : ∀ l, d (ix2 p l) = d' l)
    (l : Fin 128) : bPulled o g n d (ix2 p l) = pull o' g' n' d' := by
  refine (column_apply _ l).trans ?_
  refine (Cert.Proj.row_sum (R := 256) (M := 1) (bPull o g n d) reduces_S256x1_S256 (.inl rfl) rfl shapeCasts_S256_S256x1 p).trans ?_
  refine (Fin.sum_univ_one _).trans (bPull_apply ho hg hn hd)

theorem bDlane_apply (ho : ∀ l, o (ix2 p l) = o' l) (hg : ∀ l, g (ix2 p l) = g' l) (hn : ∀ l, n (ix2 0 l) = n' l) (hd : ∀ l, d (ix2 p l) = d' l)
    (l : Fin 128) : bDlane o g n d (ix2 p l) = dlane o' g' n' d' l :=
  congrArg₂ (fun a b : EReal => a + b) (congrArg₂ (fun a b : EReal => a + b)
      (congrArg₂ (fun a b : EReal => a * b) (congrArg₂ (fun a b : EReal => a * b) (bDnorm_apply hg hd l) ((line_apply n l).trans (hn l)))
        ((column_apply _ l).trans (bScale_apply ho)))
      (congrArg₂ (fun a b : EReal => a * b) (ho l) (bPulled_apply ho hg hn hd l)))
    (congrArg₂ (fun a b : EReal => a * b) (bPulled_apply ho hg hn hd l) (ho l))

end

theorem bDgain_apply {o g d : Head} {o' g' d' : Fin 256 → Fin 128 → EReal} (ho : ∀ p l, o (ix2 p l) = o' p l) (hg : ∀ p l, g (ix2 p l) = g' p l)
    (hd : ∀ p l, d (ix2 p l) = d' p l) (l : Fin 128) : bDgain o g d (ix2 0 l) = ∑ p, unit (o' p) l * dnorm (g' p) (d' p) l := by
  refine (Cert.Proj.col_sum (R := 256) (M := 128) (mulf (bUnit o) (bDnorm g d)) reduces_S256x128_S128 (.inl rfl) rfl shapeCasts_S128_S1x128 l).trans ?_
  exact Finset.sum_congr rfl fun p _ => congrArg₂ (fun a b : EReal => a * b) (bUnit_apply (ho p) l) (bDnorm_apply (hg p) (hd p) l)

end Cert.Branch

end
-- ==== Proof.BranchPoint.lean ====
/- What the forward and the backward kernel leave at a point of their grids: the heads' operations on the point's blocks. -/
module

public import proofs.«01_k».proof.Proof.BranchOps
public import proofs.«01_k».proof.Proof.Gen.Kernel5Ideal.Frame

@[expose] public section

set_option maxRecDepth 16384

noncomputable section

namespace Cert.Branch

open Idealize.ShloMosaic hiding ix1 ix2 ix3 ix4
open Idealize.ShloMosaic.TcCoe Idealize.SL.Sem
open Idealize.ShloMosaic.ValueIdx Cert.Kernel5Ideal Cert.Kernel5Ideal.Gen

/-! ## The forward kernel -/

section
variable (o g : FVec Ideal S256x1024 .f32) (n : FVec Ideal S1x128 .f32) (w : FVec Ideal S1024x1024 .bf16)

/-- The block of gated heads. -/
def gatedBlock : FVec Ideal S256x1024 .bf16 := truncf .bf16 (heads fun h => bGated (slab o h) (slab g h) n) bitsLt_bf16_f32

theorem gated_out : out0_5 (F := Ideal) o g n w = gatedBlock o g n := by
  unfold_out out0_5
  rw [View.canon_cons_unit_lit _ _ _ (by decide), View.ld_unit_lit _ _ (by decide), View.ld_unit_lit _ _ (by decide),
    View.ld_unit_lit _ _ (by decide)]
  rfl

theorem product_out : out0_4 (F := Ideal) o g n w = k0_pay1 (F := Ideal) (gatedBlock o g n) (shapeCast S1024x1024 w shapeCasts_S1024x1024_S1024x1024) := by
  unfold_out out0_4
  rw [View.canon_cons_unit_lit _ _ _ (by decide), View.ld_unit_lit _ _ (by decide), View.ld_unit_lit _ _ (by decide),
    View.ld_unit_lit _ _ (by decide), View.ld_unit_lit _ _ (by decide)]
  rfl

end

/-! ## The backward kernel -/

section
variable (V : (c : Dev nD) → (b : Ref sig .tc) → Buf (Elt Ideal) ((c : Thread nD τ).loc b)) (c : Dev nD) (t : Fin cfg2.N)

/-- A head of the point's cotangents of the gated rows. -/
def pointD (h : Fin 8) : FVec Ideal S256x128 .f32 := slab (k2_pay5 (F := Ideal) (iblk2 V c 4 t) (iblk2 V c 3 t)) h
def pointO (h : Fin 8) : FVec Ideal S256x128 .f32 := slab (iblk2 V c 0 t) h
def pointG (h : Fin 8) : FVec Ideal S256x128 .f32 := slab (iblk2 V c 1 t) h

theorem at_dob : (outsAt2 (F := Ideal) V c t.val t.isLt).1
    = heads fun h => bDlane (pointO V c t h) (pointG V c t h) (iblk2 V c 2 t) (pointD V c t h) := by
  by_cases h : t.val % 8 = 0
  · rw [outsAt2_A V c t h]; frame_out
    rfl
  · rw [outsAt2_B V c t h]; frame_out
    rfl

theorem at_dg : (outsAt2 (F := Ideal) V c t.val t.isLt).2.1
    = truncf .bf16 (heads fun h => bDgate (pointO V c t h) (pointG V c t h) (iblk2 V c 2 t) (pointD V c t h)) bitsLt_bf16_f32 := by
  by_cases h : t.val % 8 = 0
  · rw [outsAt2_A V c t h]; frame_out
    rfl
  · rw [outsAt2_B V c t h]; frame_out
    rfl

/-- A row added to what stood there. -/
def step (a x : FVec Ideal S1x128 .f32) : FVec Ideal S1x128 .f32 := addf (shapeCast S1x128 a shapeCasts_S1x128_S1x128) x

/-- The heads' rows, added one by one to what stood there. -/
def added (a : FVec Ideal S1x128 .f32) (f : Fin 8 → FVec Ideal S1x128 .f32) : FVec Ideal S1x128 .f32 :=
  step (step (step (step (step (step (step (step a (f 0)) (f 1)) (f 2)) (f 3)) (f 4)) (f 5)) (f 6)) (f 7)

theorem step_apply (a x : FVec Ideal S1x128 .f32) (l : Fin 128) : step a x (ix2 0 l) = (a (ix2 0 l) + x (ix2 0 l) : EReal) :=
  congrArg₂ (fun a b : EReal => a + b) (shapeCast_apply a shapeCasts_S1x128_S1x128 _ _ rfl) rfl

theorem added_apply (a : FVec Ideal S1x128 .f32) (f : Fin 8 → FVec Ideal S1x128 .f32) (l : Fin 128) :
    added a f (ix2 0 l) = (a (ix2 0 l) + ∑ h, f h (ix2 0 l) : EReal) := by
  rw [Fin.sum_univ_eight]
  simp only [added, step_apply, add_assoc]

/-- A head's share of the gain's gradient at the point. -/
def pointN (h : Fin 8) : FVec Ideal S1x128 .f32 := bDgain (pointO V c t h) (pointG V c t h) (pointD V c t h)

theorem at_first (h : t.val % 8 = 0) : (outsAt2 (F := Ideal) V c t.val t.isLt).2.2 = added (k2_pay116 (F := Ideal)) (pointN V c t) := by
  rw [outsAt2_A V c t h]; frame_out
  rfl

theorem at_next (h : ¬ t.val % 8 = 0) : (outsAt2 (F := Ideal) V c t.val t.isLt).2.2 =
    added (outsAt2 (F := Ideal) V c (t.val - 1) (Nat.lt_of_le_of_lt (Nat.sub_le _ _) t.isLt)).2.2 (pointN V c t) := by
  rw [outsAt2_B V c t h]; frame_out
  rfl

end

end Cert.Branch

end
-- ==== Proof.BranchRegions.lean ====
/- The second branch's three kernels: what each leaves in its arrays. -/
module

public import proofs.«01_k».proof.Proof.ProjChain
public import proofs.«01_k».proof.Proof.BranchPoint

@[expose] public section

set_option maxRecDepth 16384

noncomputable section

namespace Cert.Branch

open Idealize.ShloMosaic hiding ix1 ix2 ix3 ix4
open Idealize.ShloMosaic.TcCoe Idealize.SL.Sem
open Idealize.ShloMosaic.ValueIdx Cert.Kernel5Ideal Cert.Kernel5Ideal.Gen
open Cert.Ffn (two row8)
open Cert.Proj (table line)

variable (V : (c : Dev nD) → (b : Ref sig .tc) → Buf (Elt Ideal) ((c : Thread nD τ).loc b)) (c : Dev nD)

/-- What a point of the forward kernel reads, and of the backward. -/
structure Reads (A : Args) (τ : Fin 256 → Fin 2048) (o g : FVec Ideal S256x1024 .f32) (n : FVec Ideal S1x128 .f32)
    (w : FVec Ideal S1024x1024 .bf16) : Prop where
  o : ∀ p d, o (ix2 p d) = A.o (τ p) d
  g : ∀ p d, g (ix2 p d) = A.g (τ p) d
  gain : ∀ l, n (ix2 0 l) = A.gain l
  w : ∀ d f, w (ix2 d f) = A.w d f

/-! ## The forward kernel: 256 tokens at a time -/

/-- What its arrays hold before its run. -/
structure FwdHolds (A : Args) : Prop where
  o : V c main_arg0 = table A.o
  g : V c main_arg1 = table A.g
  gain : V c main_arg2 = line A.gain
  w : V c main_v0 = table A.w

theorem places0 : ∀ t : Fin cfg0.N,
    win0_0.index t = ![t.val, 0] ∧ win0_1.index t = ![t.val, 0] ∧ win0_2.index t = ![0, 0] ∧ win0_3.index t = ![0, 0]
    ∧ win0_4.index t = ![t.val, 0] ∧ win0_5.index t = ![t.val, 0] :=
  (by decide +kernel : ∀ t : Fin grid0.N, _)

/-- The point's tile of tokens. -/
def tile0 (t : Fin cfg0.N) (p : Fin 256) : Fin 2048 := row8 ⟨t.val, t.isLt⟩ p

section
variable {A : Args} {τ : Fin 256 → Fin 2048} {o g : FVec Ideal S256x1024 .f32} {n : FVec Ideal S1x128 .f32} {w : FVec Ideal S1024x1024 .bf16}
  (H : Reads A τ o g n w)
include H

theorem Reads.slab_o (p : Fin 256) (h : Fin 8) (l : Fin 128) : slab o h (ix2 p l) = A.oAt (τ p) h l := (slab_apply o h p l).trans (H.o p _)

theorem Reads.slab_g (p : Fin 256) (h : Fin 8) (l : Fin 128) : slab g h (ix2 p l) = A.gAt (τ p) h l := (slab_apply g h p l).trans (H.g p _)

theorem gated_apply (p : Fin 256) (j : Fin 1024) : gatedBlock o g n (ix2 p j) = A.y (τ p) j := by
  show heads _ (ix2 p j) = _
  refine (heads_apply _ p j).trans ?_
  exact bGated_apply (fun l => H.slab_o p _ l) (fun l => H.slab_g p _ l) H.gain _

theorem gated_value (p : Fin 256) (j : Fin 1024) : out0_5 (F := Ideal) o g n w (ix2 p j) = A.y (τ p) j := by
  rw [gated_out]
  exact gated_apply H p j

theorem out_value (p : Fin 256) (f : Fin 1024) : out0_4 (F := Ideal) o g n w (ix2 p f) = A.out (τ p) f := by
  rw [product_out]
  refine (Cert.Proj.rows_cols (R := 256) (M := 1024) (N := 1024) (φ₁ := .bf16) (φ₂ := .bf16) (gatedBlock o g n)
    (shapeCast S1024x1024 w shapeCasts_S1024x1024_S1024x1024) p f).trans ?_
  exact Finset.sum_congr rfl fun d _ => congrArg₂ (fun a b : EReal => a * b) (gated_apply H p d)
    ((shapeCast_apply w shapeCasts_S1024x1024_S1024x1024 _ _ rfl).trans (H.w d f))

end

section
variable {A : Args} (H : FwdHolds V c A)
include H

theorem reads0 (t : Fin cfg0.N) : Reads A (tile0 t) (iblk0 V c 0 t) (iblk0 V c 1 t) (iblk0 V c 2 t) (iblk0 V c 3 t) := by
  obtain ⟨h0, h1, h2, h3, -⟩ := places0 t
  refine ⟨fun p d => ?_, fun p d => ?_, fun l => ?_, fun d f => ?_⟩
  · refine Eq.trans (b := V c main_arg0 (ix2 (tile0 t p) d)) ?_ (congrFun H.o _)
    blk_ext [iblk0, h0, tile0, row8]
  · refine Eq.trans (b := V c main_arg1 (ix2 (tile0 t p) d)) ?_ (congrFun H.g _)
    blk_ext [iblk0, h1, tile0, row8]
  · refine Eq.trans (b := V c main_arg2 (ix2 0 l)) ?_ (congrFun H.gain _)
    blk_ext [iblk0, h2]
  · refine Eq.trans (b := V c main_v0 (ix2 d f)) ?_ (congrFun H.w _)
    blk_ext [iblk0, h3]

theorem array_out : (dat0 V c).arrAt 4 cfg0.N = table A.out := by
  refine (dat0 V c).arrAt_eq_of_covers 4 _ (by decide +kernel) fun t hf y => ?_
  obtain ⟨-, -, -, -, h, -⟩ := places0 t
  blk_simp
  rw [after0_4]
  obtain ⟨p, l, rfl⟩ := two (a := 256) (b := 1024) y
  have hi : (win0_4.blk t).view.emb (ix2 p l) = ix2 (tile0 t p) l := by
    blk_ext [h, tile0, row8]
  rw [hi]
  exact out_value (reads0 V c H t) p l

theorem array_y : (dat0 V c).arrAt 5 cfg0.N = table A.y := by
  refine (dat0 V c).arrAt_eq_of_covers 5 _ (by decide +kernel) fun t hf y => ?_
  obtain ⟨-, -, -, -, -, h⟩ := places0 t
  blk_simp
  rw [after0_5]
  obtain ⟨p, l, rfl⟩ := two (a := 256) (b := 1024) y
  have hi : (win0_5.blk t).view.emb (ix2 p l) = ix2 (tile0 t p) l := by
    blk_ext [h, tile0, row8]
  rw [hi]
  exact gated_value (reads0 V c H t) p l

end

/-! ## The weight's gradient: 512 by 512 lanes at a time -/

/-- A product of columns with columns. -/
theorem cols_cols (y z : FVec Ideal S2048x512 .bf16) (k l : Fin 512) :
    matmul dot_S2048x512_S2048x512_S512x512_0_0_1_1_n_n none y z (constant S512x512 .f32 0x00000000#32) (ix2 k l)
      = ∑ t : Fin 2048, (y (ix2 t k) * z (ix2 t l) : EReal) := by
  refine (Ideal.matmul_constant_zero_apply _ none y z _).trans ?_
  rw [← Equiv.sum_comp (contrEquiv1 dot_S2048x512_S2048x512_S512x512_0_0_1_1_n_n 2048 rfl rfl).symm]
  refine Finset.sum_congr rfl fun i _ => congrArg₂ (fun a b : EReal => a * b) (congrArg y ?_) (congrArg z ?_)
  · refine funext fun a => Fin.ext ?_
    match a with
    | ⟨0, _⟩ => exact (DotDims.lhsIdx_val_of_single _ rfl _ _).trans (contrEquiv1_symm_val _ 2048 rfl rfl i)
    | ⟨1, _⟩ => unfold DotDims.lhsIdx; rfl
  · refine funext fun a => Fin.ext ?_
    match a with
    | ⟨0, _⟩ => exact (DotDims.rhsIdx_val_of_single _ rfl _ _).trans (contrEquiv1_symm_val _ 2048 rfl rfl i)
    | ⟨1, _⟩ => unfold DotDims.rhsIdx; rfl

/-- What its arrays hold before its run. -/
structure GradHolds (A : Args) : Prop where
  y : V c main_v2_1 = table A.y
  dout : V c main_v1 = table A.dout

theorem places1 : ∀ t : Fin cfg1.N,
    win1_0.index t = ![0, t.val / 2] ∧ win1_1.index t = ![0, t.val % 2] ∧ win1_2.index t = ![t.val / 2, t.val % 2] :=
  (by decide +kernel : ∀ t : Fin grid1.N, _)

theorem points1 (t : Fin cfg1.N) : t.val < 4 := t.isLt

/-- The point's lanes of the weight's rows, and of its columns. -/
def rowOf (t : Fin cfg1.N) (k : Fin 512) : Fin 1024 := ⟨t.val / 2 * 512 + k.val, by have := points1 t; omega⟩
def colOf (t : Fin cfg1.N) (k : Fin 512) : Fin 1024 := ⟨t.val % 2 * 512 + k.val, by omega⟩

section
variable {A : Args} (H : GradHolds V c A) (t : Fin cfg1.N)
include H

theorem load_y (i : Fin 2048) (k : Fin 512) : (iblk1 V c 0 t : Vec Ideal S2048x512 .bf16) (ix2 i k) = A.y i (rowOf t k) := by
  obtain ⟨h, -⟩ := places1 t
  refine Eq.trans (b := V c main_v2_1 (ix2 i (rowOf t k))) ?_ (congrFun H.y _)
  blk_ext [iblk1, h, rowOf]

theorem load_dout (i : Fin 2048) (k : Fin 512) : (iblk1 V c 1 t : Vec Ideal S2048x512 .bf16) (ix2 i k) = A.dout i (colOf t k) := by
  obtain ⟨-, h, -⟩ := places1 t
  refine Eq.trans (b := V c main_v1 (ix2 i (colOf t k))) ?_ (congrFun H.dout _)
  blk_ext [iblk1, h, colOf]

theorem grad_value (k l : Fin 512) : out1_2 (F := Ideal) (iblk1 V c 0 t) (iblk1 V c 1 t) (ix2 k l) = A.dw (rowOf t k) (colOf t l) := by
  unfold out1_2
  rw [View.canon_cons_unit_lit _ _ _ (by decide), View.ld_unit_lit _ _ (by decide), View.ld_unit_lit _ _ (by decide)]
  refine (cols_cols (shapeCast S2048x512 (iblk1 V c 0 t : Vec Ideal S2048x512 .bf16) shapeCasts_S2048x512_S2048x512)
    (shapeCast S2048x512 (iblk1 V c 1 t : Vec Ideal S2048x512 .bf16) shapeCasts_S2048x512_S2048x512) k l).trans ?_
  exact Finset.sum_congr rfl fun i _ => congrArg₂ (fun a b : EReal => a * b)
    ((shapeCast_apply (iblk1 V c 0 t : Vec Ideal S2048x512 .bf16) shapeCasts_S2048x512_S2048x512 _ _ rfl).trans (load_y V c H t i k))
    ((shapeCast_apply (iblk1 V c 1 t : Vec Ideal S2048x512 .bf16) shapeCasts_S2048x512_S2048x512 _ _ rfl).trans (load_dout V c H t i l))

theorem array_dw : (dat1 V c).arrAt 2 cfg1.N = table A.dw := by
  refine (dat1 V c).arrAt_eq_of_covers 2 _ (by decide +kernel) fun t hf y => ?_
  obtain ⟨-, -, h⟩ := places1 t
  blk_simp
  rw [after1_2]
  obtain ⟨k, l, rfl⟩ := two (a := 512) (b := 512) y
  have hi : (win1_2.blk t).view.emb (ix2 k l) = ix2 (rowOf t k) (colOf t l) := by
    blk_ext [h, rowOf, colOf]
  rw [hi]
  exact grad_value V c H t k l

end

/-! ## The backward kernel: 256 tokens at a time -/

/-- What its arrays hold before its run. -/
structure BackHolds (A : Args) : Prop where
  o : V c main_arg0 = table A.o
  g : V c main_arg1 = table A.g
  gain : V c main_arg2 = line A.gain
  w : V c main_v0 = table A.w
  dout : V c main_v1 = table A.dout

theorem places2 : ∀ t : Fin cfg2.N,
    win2_0.index t = ![t.val, 0] ∧ win2_1.index t = ![t.val, 0] ∧ win2_2.index t = ![0, 0] ∧ win2_3.index t = ![0, 0]
    ∧ win2_4.index t = ![t.val, 0] ∧ win2_5.index t = ![t.val, 0] ∧ win2_6.index t = ![t.val, 0] :=
  (by decide +kernel : ∀ t : Fin grid2.N, _)

def tile2 (t : Fin cfg2.N) (p : Fin 256) : Fin 2048 := row8 ⟨t.val, t.isLt⟩ p

section
variable {A : Args} (H : BackHolds V c A)
include H

theorem reads2 (t : Fin cfg2.N) : Reads A (tile2 t) (iblk2 V c 0 t) (iblk2 V c 1 t) (iblk2 V c 2 t) (iblk2 V c 3 t) := by
  obtain ⟨h0, h1, h2, h3, -⟩ := places2 t
  refine ⟨fun p d => ?_, fun p d => ?_, fun l => ?_, fun d f => ?_⟩
  · refine Eq.trans (b := V c main_arg0 (ix2 (tile2 t p) d)) ?_ (congrFun H.o _)
    blk_ext [iblk2, h0, tile2, row8]
  · refine Eq.trans (b := V c main_arg1 (ix2 (tile2 t p) d)) ?_ (congrFun H.g _)
    blk_ext [iblk2, h1, tile2, row8]
  · refine Eq.trans (b := V c main_arg2 (ix2 0 l)) ?_ (congrFun H.gain _)
    blk_ext [iblk2, h2]
  · refine Eq.trans (b := V c main_v0 (ix2 d f)) ?_ (congrFun H.w _)
    blk_ext [iblk2, h3]

theorem load_cotangent (t : Fin cfg2.N) (p : Fin 256) (f : Fin 1024) :
    (iblk2 V c 4 t : Vec Ideal S256x1024 .bf16) (ix2 p f) = A.dout (tile2 t p) f := by
  obtain ⟨-, -, -, -, h, -⟩ := places2 t
  refine Eq.trans (b := V c main_v1 (ix2 (tile2 t p) f)) ?_ (congrFun H.dout _)
  blk_ext [iblk2, h, tile2, row8]

theorem dy_apply (t : Fin cfg2.N) (p : Fin 256) (d : Fin 1024) :
    k2_pay5 (F := Ideal) (iblk2 V c 4 t) (iblk2 V c 3 t) (ix2 p d) = A.dy (tile2 t p) d := by
  refine (Cert.Proj.rows_rows (R := 256) (M := 1024) (N := 1024) (φ₁ := .bf16) (φ₂ := .bf16)
    (shapeCast S256x1024 (iblk2 V c 4 t : Vec Ideal S256x1024 .bf16) shapeCasts_S256x1024_S256x1024)
    (shapeCast S1024x1024 (iblk2 V c 3 t : Vec Ideal S1024x1024 .bf16) shapeCasts_S1024x1024_S1024x1024) p d).trans ?_
  exact Finset.sum_congr rfl fun f _ => congrArg₂ (fun a b : EReal => a * b)
    ((shapeCast_apply (iblk2 V c 4 t : Vec Ideal S256x1024 .bf16) shapeCasts_S256x1024_S256x1024 _ _ rfl).trans (load_cotangent V c H t p f))
    ((shapeCast_apply (iblk2 V c 3 t : Vec Ideal S1024x1024 .bf16) shapeCasts_S1024x1024_S1024x1024 _ _ rfl).trans ((reads2 V c H t).w d f))

theorem pointD_apply (t : Fin cfg2.N) (p : Fin 256) (h : Fin 8) (l : Fin 128) : pointD V c t h (ix2 p l) = A.dyAt (tile2 t p) h l :=
  (slab_apply _ h p l).trans (dy_apply V c H t p _)

theorem dob_value (t : Fin cfg2.N) (p : Fin 256) (j : Fin 1024) : (outsAt2 (F := Ideal) V c t.val t.isLt).1 (ix2 p j) = A.dob (tile2 t p) j := by
  rw [at_dob]
  refine (heads_apply _ p j).trans ?_
  exact bDlane_apply (fun l => (reads2 V c H t).slab_o p _ l) (fun l => (reads2 V c H t).slab_g p _ l) (reads2 V c H t).gain
    (fun l => pointD_apply V c H t p _ l) _

theorem dg_value (t : Fin cfg2.N) (p : Fin 256) (j : Fin 1024) : (outsAt2 (F := Ideal) V c t.val t.isLt).2.1 (ix2 p j) = A.dg (tile2 t p) j := by
  rw [at_dg]
  show heads _ (ix2 p j) = _
  refine (heads_apply _ p j).trans ?_
  exact bDgate_apply (fun l => (reads2 V c H t).slab_o p _ l) (fun l => (reads2 V c H t).slab_g p _ l) (reads2 V c H t).gain
    (fun l => pointD_apply V c H t p _ l) _

/-- The gain's gradient over a tile. -/
theorem pointN_sum (t : Fin cfg2.N) (l : Fin 128) : ∑ h, (pointN V c t h (ix2 0 l) : EReal)
    = ∑ p, ∑ h, unit (A.oAt (tile2 t p) h) l * dnorm (A.gAt (tile2 t p) h) (A.dyAt (tile2 t p) h) l := by
  rw [Finset.sum_comm]
  exact Finset.sum_congr rfl fun h _ => bDgain_apply (fun p l => (reads2 V c H t).slab_o p _ l) (fun p l => (reads2 V c H t).slab_g p _ l)
    (fun p l => pointD_apply V c H t p _ l) l

/-- After the last point: the gain's gradient. -/
theorem dgain_value (t : Fin cfg2.N) (ht : t.val + 1 = cfg2.N) (l : Fin 128) :
    (outsAt2 (F := Ideal) V c t.val t.isLt).2.2 (ix2 0 l) = A.dgain l := by
  refine (Pipeline.eq_sum_fin_of_reset_step_apply_last (fun n h (l : Fin 128) => (outsAt2 (F := Ideal) V c n h).2.2 (ix2 0 l)) 8 (fun _ => (0 : EReal))
    (fun t l => (∑ p, ∑ h, unit (A.oAt (tile2 t p) h) l * dnorm (A.gAt (tile2 t p) h) (A.dyAt (tile2 t p) h) l : EReal))
    (fun t h l => ?_) (fun t h l => ?_) (by decide) t ht l).trans ?_
  · show (outsAt2 (F := Ideal) V c t.val t.isLt).2.2 (ix2 0 l) = _
    rw [at_first V c t h]
    exact (added_apply _ _ l).trans (congrArg₂ (fun a b : EReal => a + b) Ideal.ofBits_zero_f32 (pointN_sum V c H t l))
  · show (outsAt2 (F := Ideal) V c t.val t.isLt).2.2 (ix2 0 l) = _
    rw [at_next V c t h]
    exact (added_apply _ _ l).trans (congrArg₂ (fun a b : EReal => a + b) rfl (pointN_sum V c H t l))
  · rw [zero_add]
    exact Cert.Proj.sum_row8 fun t => ∑ h, unit (A.oAt t h) l * dnorm (A.gAt t h) (A.dyAt t h) l

theorem array_dob : (dat2 V c).arrAt 5 cfg2.N = table A.dob := by
  refine (dat2 V c).arrAt_eq_of_covers 5 _ (by decide +kernel) fun t hf y => ?_
  obtain ⟨-, -, -, -, -, h, -⟩ := places2 t
  blk_simp
  rw [after2_5]
  obtain ⟨p, l, rfl⟩ := two (a := 256) (b := 1024) y
  have hi : (win2_5.blk t).view.emb (ix2 p l) = ix2 (tile2 t p) l := by
    blk_ext [h, tile2, row8]
  rw [hi]
  exact dob_value V c H t p l

theorem array_dg : (dat2 V c).arrAt 6 cfg2.N = table A.dg := by
  refine (dat2 V c).arrAt_eq_of_covers 6 _ (by decide +kernel) fun t hf y => ?_
  obtain ⟨-, -, -, -, -, -, h⟩ := places2 t
  blk_simp
  rw [after2_6]
  obtain ⟨p, l, rfl⟩ := two (a := 256) (b := 1024) y
  have hi : (win2_6.blk t).view.emb (ix2 p l) = ix2 (tile2 t p) l := by
    blk_ext [h, tile2, row8]
  rw [hi]
  exact dg_value V c H t p l

theorem array_dgain : (dat2 V c).arrAt 7 cfg2.N = line A.dgain := by
  refine (dat2 V c).arrAt_eq_of_after_last 7 t2_7 (by decide +kernel) _ fun y => ?_
  rw [after2_7]
  obtain ⟨i, l, rfl⟩ := two (a := 1) (b := 128) y
  obtain rfl : i = 0 := Subsingleton.elim _ _
  exact dgain_value V c H t2_7 (by decide) l

end

end Cert.Branch

end
-- ==== Proof.BranchChain.lean ====
/- The second branch's arrays from call to call, and its results. -/
module

public import proofs.«01_k».proof.Proof.BranchRegions
public import Idealize.ShloMosaic.Lib.StableHlo.RunRead

@[expose] public section

set_option maxRecDepth 16384

noncomputable section

namespace Cert.Branch

open Idealize.ShloMosaic hiding ix1 ix2 ix3 ix4
open Idealize.ShloMosaic.TcCoe Idealize.SL.Sem
open Idealize.ShloMosaic.ValueIdx Cert.Kernel5Ideal Cert.Kernel5Ideal.Gen
open Cert.Proj (Arr table line eq_table eq_line)

/-- The formulas' arguments, read from the programs' five. -/
def argsOf (o g : Arr 2048 1024) (gain : Arr 1 128) (w : Arr 1024 1024) (dout : Arr 2048 1024) : Args where
  o t d := o (ix2 t d)
  g t d := g (ix2 t d)
  gain l := gain (ix2 0 l)
  w d f := w (ix2 d f)
  dout t f := dout (ix2 t f)

variable (m : (ℓ : Loc nD τ sig) → Buf (Elt Ideal) ℓ) (ρ : Dev nD → PrngReg) (c : Dev nD)

theorem entry_w : V1 m ρ c main_v0
    = (truncf .bf16 (m ((c : Thread nD τ).loc main_arg3) : FVec Ideal S1024x1024 .f32) bitsLt_bf16_f32 : FVec Ideal S1024x1024 .bf16) := by
  show StableHlo.after hostOps0 _ _ = _
  after_reads_simp

theorem entry_dout : V1 m ρ c main_v1
    = (truncf .bf16 (m ((c : Thread nD τ).loc main_arg4) : FVec Ideal S2048x1024 .f32) bitsLt_bf16_f32 : FVec Ideal S2048x1024 .bf16) := by
  show StableHlo.after hostOps0 _ _ = _
  after_reads_simp

theorem lines_dg (W : Valuation τ sig (Elt Ideal)) : StableHlo.after hostOps3 W (Proc.devRef .tc main_v5)
    = (extf .f32 (W (Proc.devRef .tc main_v4_1) : FVec Ideal S2048x1024 .bf16) bitsLt_bf16_f32 : FVec Ideal S2048x1024 .f32) := by
  after_reads_simp

/-- The formulas' arguments at a device. -/
def args : Args := argsOf (m ((c : Thread nD τ).loc main_arg0)) (m ((c : Thread nD τ).loc main_arg1)) (m ((c : Thread nD τ).loc main_arg2))
  (m ((c : Thread nD τ).loc main_arg3)) (m ((c : Thread nD τ).loc main_arg4))

theorem holds_dout : V1 m ρ c main_v1 = table (args m c).dout := (entry_dout m ρ c).trans (eq_table fun _ _ => rfl)

/-- What each call finds. -/
theorem fwdHolds : FwdHolds (V1 m ρ) c (args m c) where
  o := (W1_args m ρ c main_arg0 (by decide)).trans (eq_table fun _ _ => rfl)
  g := (W1_args m ρ c main_arg1 (by decide)).trans (eq_table fun _ _ => rfl)
  gain := (W1_args m ρ c main_arg2 (by decide)).trans (eq_line fun _ => rfl)
  w := (entry_w m ρ c).trans (eq_table fun _ _ => rfl)

theorem gradHolds : GradHolds (V2 m ρ) c (args m c) where
  y := (W2_arr m ρ c 5).trans (array_y (V1 m ρ) c (fwdHolds m ρ c))
  dout := (W2_of m ρ c main_v1 (by decide)).trans (holds_dout m ρ c)

theorem backHolds : BackHolds (V3 m ρ) c (args m c) where
  o := (W3_args m ρ c main_arg0 (by decide)).trans (eq_table fun _ _ => rfl)
  g := (W3_args m ρ c main_arg1 (by decide)).trans (eq_table fun _ _ => rfl)
  gain := (W3_args m ρ c main_arg2 (by decide)).trans (eq_line fun _ => rfl)
  w := (W3_of m ρ c main_v0 (by decide)).trans ((W2_of m ρ c main_v0 (by decide)).trans (fwdHolds m ρ c).w)
  dout := (W3_of m ρ c main_v1 (by decide)).trans ((W2_of m ρ c main_v1 (by decide)).trans (holds_dout m ρ c))

/-! ## The results -/

theorem result_out : W5 m ρ c (Proc.devRef .tc main_v2_0) = table (args m c).out :=
  (W5_of m ρ c main_v2_0 (by decide)).trans ((W4_of m ρ c main_v2_0 (by decide)).trans ((W3_of m ρ c main_v2_0 (by decide)).trans
    ((W2_arr m ρ c 4).trans (array_out (V1 m ρ) c (fwdHolds m ρ c)))))

theorem result_dw : W5 m ρ c (Proc.devRef .tc main_v3) = table (args m c).dw :=
  (W5_of m ρ c main_v3 (by decide)).trans ((W4_of m ρ c main_v3 (by decide)).trans
    ((W3_arr m ρ c 2).trans (array_dw (V2 m ρ) c (gradHolds m ρ c))))

theorem result_dob : W5 m ρ c (Proc.devRef .tc main_v4_0) = table (args m c).dob :=
  (W5_of m ρ c main_v4_0 (by decide)).trans ((W4_arr m ρ c 5).trans (array_dob (V3 m ρ) c (backHolds m ρ c)))

theorem result_dg : W5 m ρ c (Proc.devRef .tc main_v5) = table (args m c).dg :=
  (lines_dg _).trans ((W4_arr m ρ c 6).trans (array_dg (V3 m ρ) c (backHolds m ρ c)))

theorem result_dgain : W5 m ρ c (Proc.devRef .tc main_v4_2) = line (args m c).dgain :=
  (W5_of m ρ c main_v4_2 (by decide)).trans ((W4_arr m ρ c 7).trans (array_dgain (V3 m ρ) c (backHolds m ρ c)))

end Cert.Branch

end
-- ==== Proof.BranchRef.lean ====
/- What the reference computes of the second branch: each line is its formula. It keeps a token's eight heads as eight rows. -/
module

public import proofs.«01_k».proof.Proof.BranchChain
public import proofs.«01_k».proof.Proof.MergeRef
public import proofs.«01_k».proof.Proof.Gen.Reference5Ideal.Read

@[expose] public section

set_option maxRecDepth 16384

noncomputable section

namespace Cert.Branch

open Idealize.ShloMosaic hiding ix1 ix2 ix3 ix4
open Idealize.ShloMosaic.ValueIdx Cert.Reference5Ideal Cert.Reference5Ideal.Gen Cert.Reference5Ideal.Read
open Cert.Proj (Arr table line eq_table eq_line at_two)
open Cert.Ffn (ofBits_one)
open Cert.Merge (gate_eq slope)

/-- The five arguments hold `A`. -/
structure Args.Reads (A : Args) (x0 x1 : Arr 2048 1024) (x2 : Arr 1 128) (x3 : Arr 1024 1024) (x4 : Arr 2048 1024) : Prop where
  o : ∀ i, x0 i = A.o (i 0) (i 1)
  g : ∀ i, x1 i = A.g (i 0) (i 1)
  gain : ∀ i, x2 i = A.gain (i 1)
  w : ∀ i, x3 i = A.w (i 0) (i 1)
  dout : ∀ i, x4 i = A.dout (i 0) (i 1)

theorem argsOf_reads (x0 x1 : Arr 2048 1024) (x2 : Arr 1 128) (x3 : Arr 1024 1024) (x4 : Arr 2048 1024) :
    (argsOf x0 x1 x2 x3 x4).Reads x0 x1 x2 x3 x4 where
  o := at_two fun _ _ => rfl
  g := at_two fun _ _ => rfl
  gain := congrFun (eq_line fun _ => rfl)
  w := at_two fun _ _ => rfl
  dout := at_two fun _ _ => rfl

/-! ## Rows of heads -/

/-- A row's token and its head. -/
def tok (r : Fin 16384) : Fin 2048 := ⟨r.val / 8, by omega⟩
def hd (r : Fin 16384) : Fin 8 := ⟨r.val % 8, by omega⟩

/-- A row's place among the tokens' lanes. -/
theorem row_place (f : Cert.Merge.Lanes) (i : S16384x128.Idx) :
    f (idx_main_v0 i 0) (idx_main_v0 i 1) = f (tok (i 0)) (lane (hd (i 0)) (i 1)) := by
  have h0 : (i 0).val < 16384 := (i 0).isLt
  have h1 : (i 1).val < 128 := (i 1).isLt
  refine congrArg₂ f (Fin.ext ?_) (Fin.ext ?_)
  · show ((i 0).val * 128 + (i 1).val) / 1024 = (i 0).val / 8
    omega
  · show ((i 0).val * 128 + (i 1).val) % 1024 = (i 0).val % 8 * 128 + (i 1).val
    omega

/-- A lane's place among the rows. -/
theorem lane_place (f : Fin 2048 → Fin 8 → Fin 128 → EReal) (i : S2048x1024.Idx) :
    f (tok (idx_main_v21 i 0)) (hd (idx_main_v21 i 0)) (idx_main_v21 i 1) = f (i 0) (headOf (i 1)) (placeOf (i 1)) := by
  have h0 : (i 0).val < 2048 := (i 0).isLt
  have h1 : (i 1).val < 1024 := (i 1).isLt
  have e0 : tok (idx_main_v21 i 0) = i 0 := Fin.ext (by
    show ((i 0).val * 1024 + (i 1).val) / 128 / 8 = (i 0).val
    omega)
  have e1 : hd (idx_main_v21 i 0) = headOf (i 1) := Fin.ext (by
    show ((i 0).val * 1024 + (i 1).val) / 128 % 8 = (i 1).val / 128
    omega)
  have e2 : idx_main_v21 i 1 = placeOf (i 1) := Fin.ext (by
    show ((i 0).val * 1024 + (i 1).val) % 128 = (i 1).val % 128
    omega)
  rw [e0, e1, e2]

/-- A sum over the rows is one over the tokens and the heads. -/
theorem sum_rows (f : Fin 2048 → Fin 8 → EReal) : ∑ r, f (tok r) (hd r) = ∑ t, ∑ h, f t h := by
  rw [← Equiv.sum_comp (finProdFinEquiv (m := 2048) (n := 8)), Fintype.sum_prod_type]
  refine Finset.sum_congr rfl fun t _ => Finset.sum_congr rfl fun h _ => congrArg₂ f (Fin.ext ?_) (Fin.ext ?_)
  · show (h.val + 8 * t.val) / 8 = t.val
    omega
  · show (h.val + 8 * t.val) % 8 = h.val
    omega

/-- A sum begun at zero. -/
theorem from_zero {a b : EReal} (h : a = b) : Ideal.ofBits .f32 0x00000000#32 + a = b := by
  rw [Ideal.ofBits_zero_f32, zero_add, h]

namespace Args.Reads

variable {A : Args} {x0 x1 : Arr 2048 1024} {x2 : Arr 1 128} {x3 : Arr 1024 1024} {x4 : Arr 2048 1024} (H : A.Reads x0 x1 x2 x3 x4)
include H

/-! ## The norm and the gate -/

theorem ref_o (i : S16384x128.Idx) : val_main_v0 (F := Ideal) x0 i = A.oAt (tok (i 0)) (hd (i 0)) (i 1) := by
  rw [val_main_v0_apply, H.o]
  exact row_place A.o i

theorem ref_g (i : S16384x128.Idx) : val_main_v18 (F := Ideal) x1 i = A.gAt (tok (i 0)) (hd (i 0)) (i 1) := by
  rw [val_main_v18_apply, H.g]
  exact row_place A.g i

theorem ref_line (i : S1x128.Idx) : val_main_v15 (F := Ideal) x2 i = A.gain (i 1) := by
  rw [val_main_v15_apply, val_main_v1_apply, H.gain]
  refine congrArg A.gain (Fin.ext ?_)
  have h1 : (i 1).val < 128 := (i 1).isLt
  show (i 1).val % 128 = (i 1).val
  omega

theorem ref_gain (i : S16384x128.Idx) : val_main_v16 (F := Ideal) x2 i = A.gain (i 1) := by
  rw [val_main_v16_apply, H.ref_line]
  rfl

theorem ref_gain_back (i : S16384x128.Idx) : val_main_v34 (F := Ideal) x2 i = A.gain (i 1) := by
  rw [val_main_v34_apply, H.ref_line]
  rfl

theorem ref_square (i : S16384x1.Idx) : val_main_v8 (F := Ideal) x0 i = square (A.oAt (tok (i 0)) (hd (i 0))) := by
  rw [val_main_v8_apply, val_main_v6_apply, val_main_v7_apply, val_main_v5_apply, val_main_v4_apply, val_main_v3_apply]
  refine congrArg₂ (fun a b : EReal => a + b) (congrArg₂ Ideal.div (from_zero (Finset.sum_congr rfl fun k _ => ?_)) rfl) rfl
  rw [val_main_v2_apply]
  exact congrArg₂ (fun a b : EReal => a * b) (H.ref_o _) (H.ref_o _)

theorem ref_scale (i : S16384x1.Idx) : val_main_v9 (F := Ideal) x0 i = scale (A.oAt (tok (i 0)) (hd (i 0))) := by
  rw [val_main_v9_apply, H.ref_square]
  rfl

theorem ref_bend (i : S16384x1.Idx) : val_main_v12 (F := Ideal) x0 i = bend (A.oAt (tok (i 0)) (hd (i 0))) := by
  rw [val_main_v12_apply, val_main_v11_apply, val_main_v10_apply, H.ref_scale, H.ref_square]
  rfl

theorem ref_unit (i : S16384x128.Idx) : val_main_v14 (F := Ideal) x0 i = unit (A.oAt (tok (i 0)) (hd (i 0))) (i 1) := by
  rw [val_main_v14_apply, val_main_v13_apply, H.ref_o, H.ref_scale]
  rfl

theorem ref_logistic (i : S16384x128.Idx) :
    val_main_v19_2 (F := Ideal) x1 i = Ideal.logistic (A.gAt (tok (i 0)) (hd (i 0)) (i 1)) := by
  rw [val_main_v19_2_apply, val_main_call0_v4_apply, val_main_call0_v3_apply, val_main_call0_v2_apply, val_main_call0_v1_apply,
    val_main_call0_v0_apply, H.ref_g]
  exact gate_eq _

theorem ref_slope (i : S16384x128.Idx) :
    val_main_v19_1 (F := Ideal) x1 i = slope (A.gAt (tok (i 0)) (hd (i 0)) (i 1)) := by
  rw [val_main_v19_1_apply, val_main_call0_v7_apply, val_main_call0_v6_apply, H.ref_logistic]
  exact congrArg₂ (fun a b : EReal => a * b) rfl (congrArg₂ (fun a b : EReal => a - b) ofBits_one rfl)

theorem ref_silu (i : S16384x128.Idx) :
    val_main_v19_0 (F := Ideal) x1 i = silu (A.gAt (tok (i 0)) (hd (i 0)) (i 1)) := by
  rw [val_main_v19_0_apply, H.ref_logistic, H.ref_g]
  rfl

theorem ref_gained (i : S16384x128.Idx) :
    val_main_v17 (F := Ideal) x0 x2 i = unit (A.oAt (tok (i 0)) (hd (i 0))) (i 1) * A.gain (i 1) := by
  rw [val_main_v17_apply, H.ref_unit, H.ref_gain]
  rfl

theorem ref_y (i : S2048x1024.Idx) : val_main_v21 (F := Ideal) x0 x1 x2 i = A.y (i 0) (i 1) := by
  rw [val_main_v21_apply, val_main_v20_apply, H.ref_gained, H.ref_silu]
  exact lane_place (fun t h l => gated (A.oAt t h) (A.gAt t h) A.gain l) i

theorem ref_out : val_main_v22 (F := Ideal) x0 x1 x2 x3 = table A.out := by
  refine eq_table fun t f => ?_
  rw [val_main_v22_apply]
  exact Finset.sum_congr rfl fun j _ => congrArg₂ (fun a b : EReal => a * b) (H.ref_y _) (H.w _)

theorem ref_dw : val_main_v24 (F := Ideal) x0 x1 x2 x4 = table A.dw := by
  refine eq_table fun j f => ?_
  rw [val_main_v24_apply, val_main_v23_apply]
  exact Finset.sum_congr rfl fun t _ => (congrArg₂ (fun a b : EReal => a * b) (H.dout _) (H.ref_y _)).trans (mul_comm _ _)

/-! ## The cotangents -/

theorem ref_dy (i : S2048x1024.Idx) : val_main_v25 (F := Ideal) x3 x4 i = A.dy (i 0) (i 1) := by
  rw [val_main_v25_apply]
  exact Finset.sum_congr rfl fun f _ => congrArg₂ (fun a b : EReal => a * b) (H.dout _) (H.w _)

theorem ref_dy_row (i : S16384x128.Idx) : val_main_v26 (F := Ideal) x3 x4 i = A.dyAt (tok (i 0)) (hd (i 0)) (i 1) := by
  rw [val_main_v26_apply, H.ref_dy]
  exact row_place A.dy i

theorem ref_dgate (i : S16384x128.Idx) : val_main_v29 (F := Ideal) x0 x1 x2 x3 x4 i
    = dgate (A.oAt (tok (i 0)) (hd (i 0))) (A.gAt (tok (i 0)) (hd (i 0))) A.gain (A.dyAt (tok (i 0)) (hd (i 0))) (i 1) := by
  rw [val_main_v29_apply, val_main_call1_v1_apply, val_main_call1_v2_apply, val_main_call1_v0_apply, val_main_v27_apply, H.ref_gained,
    H.ref_dy_row, H.ref_logistic, H.ref_slope, H.ref_g]
  rfl

theorem ref_dg : val_main_v30 (F := Ideal) x0 x1 x2 x3 x4 = table A.dg := by
  refine eq_table fun t j => ?_
  rw [val_main_v30_apply, H.ref_dgate]
  exact lane_place (fun t h l => dgate (A.oAt t h) (A.gAt t h) A.gain (A.dyAt t h) l) (ix2 t j)

theorem ref_dnorm (i : S16384x128.Idx) : val_main_v28 (F := Ideal) x1 x3 x4 i
    = dnorm (A.gAt (tok (i 0)) (hd (i 0))) (A.dyAt (tok (i 0)) (hd (i 0))) (i 1) := by
  rw [val_main_v28_apply, H.ref_dy_row, H.ref_silu]
  rfl

theorem ref_dgain_rows (i : S128.Idx) : val_main_v32 (F := Ideal) x0 x1 x3 x4 i = A.dgain (i 0) := by
  rw [val_main_v32_apply]
  refine from_zero (Eq.trans ?_ (sum_rows fun t h => unit (A.oAt t h) (i 0) * dnorm (A.gAt t h) (A.dyAt t h) (i 0)))
  refine Finset.sum_congr rfl fun r _ => ?_
  rw [val_main_v31_apply, H.ref_unit, H.ref_dnorm]
  rfl

theorem ref_dgain : val_main_v51 (F := Ideal) x0 x1 x3 x4 = line A.dgain := by
  refine eq_line fun l => ?_
  rw [val_main_v51_apply, val_main_v36_apply]
  refine from_zero ((Fin.sum_univ_one _).trans ?_)
  rw [val_main_v33_apply, H.ref_dgain_rows]
  refine congrArg A.dgain (Fin.ext ?_)
  show 0 * 128 + l.val = l.val
  omega

theorem ref_dgained (i : S16384x128.Idx) : val_main_v35 (F := Ideal) x1 x2 x3 x4 i
    = dnorm (A.gAt (tok (i 0)) (hd (i 0))) (A.dyAt (tok (i 0)) (hd (i 0))) (i 1) * A.gain (i 1) := by
  rw [val_main_v35_apply, H.ref_dnorm, H.ref_gain_back]
  rfl

theorem ref_dot (i : S16384.Idx) : val_main_v38 (F := Ideal) x0 x1 x2 x3 x4 i
    = ∑ l, A.oAt (tok (i 0)) (hd (i 0)) l
        * (dnorm (A.gAt (tok (i 0)) (hd (i 0))) (A.dyAt (tok (i 0)) (hd (i 0))) l * A.gain l) := by
  rw [val_main_v38_apply]
  refine from_zero (Finset.sum_congr rfl fun l _ => ?_)
  rw [val_main_v37_apply, H.ref_o, H.ref_dgained]
  rfl

theorem ref_pull (i : S16384.Idx) : val_main_v45 (F := Ideal) x0 x1 x2 x3 x4 i
    = pull (A.oAt (tok (i 0)) (hd (i 0))) (A.gAt (tok (i 0)) (hd (i 0))) A.gain (A.dyAt (tok (i 0)) (hd (i 0))) := by
  have hi : idx_main_v39 (idx_main_v45 i 0) = i := funext fun a => Fin.ext (by
    match a with
    | ⟨0, _⟩ => exact (show (i 0).val * 1 + 0 = (i 0).val by omega))
  rw [val_main_v45_apply]
  refine from_zero ((Fin.sum_univ_one _).trans ?_)
  rw [val_main_v44_apply, val_main_v43_apply, val_main_v42_apply, val_main_v39_apply, hi, H.ref_dot, H.ref_bend]
  rfl

theorem ref_dlane (i : S16384x128.Idx) : val_main_v50 (F := Ideal) x0 x1 x2 x3 x4 i
    = dlane (A.oAt (tok (i 0)) (hd (i 0))) (A.gAt (tok (i 0)) (hd (i 0))) A.gain (A.dyAt (tok (i 0)) (hd (i 0))) (i 1) := by
  rw [val_main_v50_apply, val_main_v48_apply, val_main_v49_apply, val_main_v47_apply, val_main_v41_apply, val_main_v46_apply,
    val_main_v40_apply, H.ref_dgained, H.ref_scale, H.ref_pull, H.ref_o]
  rfl

theorem ref_dob : val_main_v52 (F := Ideal) x0 x1 x2 x3 x4 = table A.dob := by
  refine eq_table fun t j => ?_
  rw [val_main_v52_apply, H.ref_dlane]
  exact lane_place (fun t h l => dlane (A.oAt t h) (A.gAt t h) A.gain (A.dyAt t h) l) (ix2 t j)

end Args.Reads

end Cert.Branch

end
-- ==== Proof.BranchClaim.lean ====
/- The second branch: the kernel's result and four gradients are the reference's, whatever the arguments. -/
module

public import proofs.«01_k».proof.Defs
public import proofs.«01_k».proof.Proof.BranchRun
public import proofs.«01_k».proof.Proof.BranchRef
public import proofs.«01_k».proof.Proof.Gen.Reference5Ideal
public import proofs.«01_k».proof.Proof.Gen.Reference5Ideal.Run
public import Idealize.ShloMosaic.Adequacy

@[expose] public section

set_option maxRecDepth 16384

noncomputable section

namespace Cert.Branch

open Idealize.ShloMosaic Idealize.ShloMosaic.TcCoe Idealize.SL.Sem

/-- The reference's run leaves its arguments, and every counter at zero: it has none. -/
theorem reference_frame [Cert.Reference5Ideal.Facts] : quiescent_Reference5Ideal := fun m g _ =>
  (θ_run (Cert.Reference5Ideal.defs (F := Ideal)) _ _).mono
    (fun r h => And.intro (fun c => (h c).2.2.2.2.2) (sem_eq_zero_of_no_sems (by decide) r.2)) (Cert.Reference5Ideal.Value.run m g)

/-- The kernel's arguments, as the reference reads them. -/
theorem args_reads (m : (ℓ : Loc Cert.Kernel5Ideal.nD Cert.Kernel5Ideal.τ Cert.Kernel5Ideal.sig) → Buf (Elt Ideal) ℓ)
    (c : Dev Cert.Kernel5Ideal.nD) : (args m c).Reads
      (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2))
      (m ((c.tc : Thread Cert.Kernel5Ideal.nD Cert.Kernel5Ideal.τ).loc Cert.Kernel5Ideal.main_arg3))
      (m ((c.tc : Thread Cert.Kernel5Ideal.nD Cert.Kernel5Ideal.τ).loc Cert.Kernel5Ideal.main_arg4)) :=
  argsOf_reads _ _ _ _ _

/-- The kernel's results are the reference's. -/
theorem equal_results [Cert.Kernel5Ideal.Facts] [Cert.Reference5Ideal.Facts] : algebraic_Kernel5Ideal_Reference5Ideal := by
  intro m g m' g' _ hargs
  refine ⟨fun c => Cert.Kernel5Ideal.Gen.W5 m g c (Proc.devRef .tc Cert.Kernel5Ideal.main_v2_0),
    fun c => Cert.Kernel5Ideal.Gen.W5 m g c (Proc.devRef .tc Cert.Kernel5Ideal.main_v4_0),
    fun c => Cert.Kernel5Ideal.Gen.W5 m g c (Proc.devRef .tc Cert.Kernel5Ideal.main_v5),
    fun c => Cert.Kernel5Ideal.Gen.W5 m g c (Proc.devRef .tc Cert.Kernel5Ideal.main_v4_2),
    fun c => Cert.Kernel5Ideal.Gen.W5 m g c (Proc.devRef .tc Cert.Kernel5Ideal.main_v3), ?_, ?_⟩
  · refine (θ_run Cert.Kernel5Ideal.defs _ _).mono (fun r h c => ?_)
      (θ_run_and (run_results m g) (Cert.Kernel5Ideal.Gen.unchanged m g))
    obtain ⟨h0, h1, h2, h3, h4⟩ := h.1 c
    exact ⟨h0, h1, h2, h3, h4, h.2 c⟩
  · refine (θ_run Cert.Reference5Ideal.defs _ _).mono (fun r h c => ?_) (Cert.Reference5Ideal.Value.run m' g')
    have H := args_reads m c
    obtain ⟨a0, a1, a2, a3, a4⟩ := hargs c
    obtain ⟨e0, e1, e2, e3, e4, e⟩ := h c
    refine ⟨e0.trans ?_, e1.trans ?_, e2.trans ?_, e3.trans ?_, e4.trans ?_, e⟩
    · rw [Cert.Reference5Ideal.Read.val_main_v22_eq, a0, a1, a2, a3]
      exact H.ref_out.trans (result_out m g c).symm
    · rw [Cert.Reference5Ideal.Read.val_main_v52_eq, a0, a1, a2, a3, a4]
      exact H.ref_dob.trans (result_dob m g c).symm
    · rw [Cert.Reference5Ideal.Read.val_main_v30_eq, a0, a1, a2, a3, a4]
      exact H.ref_dg.trans (result_dg m g c).symm
    · rw [Cert.Reference5Ideal.Read.val_main_v51_eq, a0, a1, a3, a4]
      exact H.ref_dgain.trans (result_dgain m g c).symm
    · rw [Cert.Reference5Ideal.Read.val_main_v24_eq, a0, a1, a2, a4]
      exact H.ref_dw.trans (result_dw m g c).symm

end Cert.Branch

end
-- ==== Proof.AdamSpec.lean ====
/- One step of AdamW as formulas over the extended reals. Nothing here knows of a program. -/
module

public import proofs.«01_k».proof.Proof.FfnSpec
public import Idealize.ShloMosaic.PureOps.Ideal.Laws
public import Idealize.ShloMosaic.Lib.IdealHost

@[expose] public section

noncomputable section

namespace Cert.Adam

open Idealize.ShloMosaic

/-- An array of extended reals. -/
abbrev Vals (s : Shape) := s.Idx → EReal

/-- The new first moment: 0.9 of the old and 0.1 of the gradient. -/
def mean {s : Shape} (g m : Vals s) : Vals s := fun i =>
  Ideal.ofBits .f32 0x3F666666#32 * m i + Ideal.ofBits .f32 0x3DCCCCCD#32 * g i

/-- The new second moment: 0.999 of the old and 0.001 of the gradient's square. -/
def spread {s : Shape} (g v : Vals s) : Vals s := fun i =>
  Ideal.ofBits .f32 0x3F7FBE77#32 * v i + Ideal.ofBits .f32 0x3A83126F#32 * (g i * g i)

/-- The weight's change: the rate, negated, by the moments' quotient with its biases taken out and by the weight's decay. -/
def change {s : Shape} (w g m v : Vals s) : Vals s := fun i =>
  Ideal.ofBits .f32 0xBA83126F#32
    * (Ideal.div (Ideal.div (mean g m i) (Ideal.ofBits .f32 0x3F26BD02#32))
        (Ideal.sqrt (Ideal.div (spread g v i) (Ideal.ofBits .f32 0x3C231ACC#32)) + Ideal.ofBits .f32 0x322BCC77#32)
      + Ideal.ofBits .f32 0x3C23D70A#32 * w i)

end Cert.Adam

end
-- ==== Proof.AdamSmall.lean ====
/- The small weights' eight calls: what each leaves in its arrays. Each takes its arrays whole, in one step, so that a block is its
   array; calls of one shape have one body, whose three values are read once for the shape. -/
module

public import proofs.«01_k».proof.Proof.AdamSpec
public import proofs.«01_k».proof.Proof.FfnArrays
public import proofs.«01_k».proof.Proof.Gen.Kernel6Ideal.Frame.Fold0
public import Idealize.ShloMosaic.Lib.Pipeline.ValueKit
public import Idealize.ShloMosaic.Lib.ValueLayout

@[expose] public section

set_option maxRecDepth 16384

noncomputable section

namespace Cert.Adam

open Idealize.ShloMosaic hiding ix1 ix2 ix3 ix4
open Idealize.ShloMosaic.TcCoe Idealize.SL.Sem
open Idealize.ShloMosaic.ValueIdx Cert.Kernel6Ideal Cert.Kernel6Ideal.Gen
open Cert.Ffn (two)

variable (V : (c : Dev nD) → (b : Ref sig .tc) → Buf (Elt Ideal) ((c : Thread nD τ).loc b)) (c : Dev nD)

/-! ## The bodies, one for each shape -/

theorem small_body0 (w g m v : FVec Ideal S1x1024 .f32) :
    out0_4 (F := Ideal) w g m v = change (s := S1x1024) w g m v ∧ out0_5 (F := Ideal) w g m v = mean (s := S1x1024) g m ∧ out0_6 (F := Ideal) w g m v = spread (s := S1x1024) g v := by
  refine ⟨?_, ?_, ?_⟩
  · unfold out0_4
    rw [View.canon_cons_unit_lit _ _ _ (by decide), View.ld_unit_lit _ _ (by decide), View.ld_unit_lit _ _ (by decide), View.ld_unit_lit _ _ (by decide), View.ld_unit_lit _ _ (by decide)]
    rfl
  · unfold out0_5
    rw [View.canon_cons_unit_lit _ _ _ (by decide), View.ld_unit_lit _ _ (by decide), View.ld_unit_lit _ _ (by decide)]
    rfl
  · unfold out0_6
    rw [View.canon_cons_unit_lit _ _ _ (by decide), View.ld_unit_lit _ _ (by decide), View.ld_unit_lit _ _ (by decide)]
    rfl

theorem small_body2 (w g m v : FVec Ideal S4x384 .f32) :
    out2_4 (F := Ideal) w g m v = change (s := S4x384) w g m v ∧ out2_5 (F := Ideal) w g m v = mean (s := S4x384) g m ∧ out2_6 (F := Ideal) w g m v = spread (s := S4x384) g v := by
  refine ⟨?_, ?_, ?_⟩
  · unfold out2_4
    rw [View.canon_cons_unit_lit _ _ _ (by decide), View.ld_unit_lit _ _ (by decide), View.ld_unit_lit _ _ (by decide), View.ld_unit_lit _ _ (by decide), View.ld_unit_lit _ _ (by decide)]
    rfl
  · unfold out2_5
    rw [View.canon_cons_unit_lit _ _ _ (by decide), View.ld_unit_lit _ _ (by decide), View.ld_unit_lit _ _ (by decide)]
    rfl
  · unfold out2_6
    rw [View.canon_cons_unit_lit _ _ _ (by decide), View.ld_unit_lit _ _ (by decide), View.ld_unit_lit _ _ (by decide)]
    rfl

theorem small_body3 (w g m v : FVec Ideal S1x8 .f32) :
    out3_4 (F := Ideal) w g m v = change (s := S1x8) w g m v ∧ out3_5 (F := Ideal) w g m v = mean (s := S1x8) g m ∧ out3_6 (F := Ideal) w g m v = spread (s := S1x8) g v := by
  refine ⟨?_, ?_, ?_⟩
  · unfold out3_4
    rw [View.canon_cons_unit_lit _ _ _ (by decide), View.ld_unit_lit _ _ (by decide), View.ld_unit_lit _ _ (by decide), View.ld_unit_lit _ _ (by decide), View.ld_unit_lit _ _ (by decide)]
    rfl
  · unfold out3_5
    rw [View.canon_cons_unit_lit _ _ _ (by decide), View.ld_unit_lit _ _ (by decide), View.ld_unit_lit _ _ (by decide)]
    rfl
  · unfold out3_6
    rw [View.canon_cons_unit_lit _ _ _ (by decide), View.ld_unit_lit _ _ (by decide), View.ld_unit_lit _ _ (by decide)]
    rfl

theorem small_body5 (w g m v : FVec Ideal S1x128 .f32) :
    out5_4 (F := Ideal) w g m v = change (s := S1x128) w g m v ∧ out5_5 (F := Ideal) w g m v = mean (s := S1x128) g m ∧ out5_6 (F := Ideal) w g m v = spread (s := S1x128) g v := by
  refine ⟨?_, ?_, ?_⟩
  · unfold out5_4
    rw [View.canon_cons_unit_lit _ _ _ (by decide), View.ld_unit_lit _ _ (by decide), View.ld_unit_lit _ _ (by decide), View.ld_unit_lit _ _ (by decide), View.ld_unit_lit _ _ (by decide)]
    rfl
  · unfold out5_5
    rw [View.canon_cons_unit_lit _ _ _ (by decide), View.ld_unit_lit _ _ (by decide), View.ld_unit_lit _ _ (by decide)]
    rfl
  · unfold out5_6
    rw [View.canon_cons_unit_lit _ _ _ (by decide), View.ld_unit_lit _ _ (by decide), View.ld_unit_lit _ _ (by decide)]
    rfl

/-! ## The first feed-forward norm -/

theorem small_places0 : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

theorem small_reads0 (t : Fin cfg0.N) :
    (iblk0 V c 0 t : Vals S1x1024) = V c main_arg0 ∧ (iblk0 V c 1 t : Vals S1x1024) = V c main_arg1 ∧ (iblk0 V c 2 t : Vals S1x1024) = V c main_arg2 ∧ (iblk0 V c 3 t : Vals S1x1024) = V c main_arg3 := by
  obtain ⟨h0, h1, h2, h3, -⟩ := small_places0 t
  refine ⟨?_, ?_, ?_, ?_⟩ <;> funext y <;> obtain ⟨p, l, rfl⟩ := two (a := 1) (b := 1024) y
  exacts [by blk_ext [iblk0, h0], by blk_ext [iblk0, h1], by blk_ext [iblk0, h2], by blk_ext [iblk0, h3]]

theorem small_writes0 (t : Fin cfg0.N) (y : S1x1024.Idx) :
    (win0_4.blk t).view.emb y = y ∧ (win0_5.blk t).view.emb y = y ∧ (win0_6.blk t).view.emb y = y := by
  obtain ⟨-, -, -, -, h4, h5, h6⟩ := small_places0 t
  obtain ⟨p, l, rfl⟩ := two (a := 1) (b := 1024) y
  exact ⟨by blk_ext [h4], by blk_ext [h5], by blk_ext [h6]⟩

theorem small_arrays0 :
    (dat0 V c).arrAt 4 cfg0.N = change (s := S1x1024) (V c main_arg0) (V c main_arg1) (V c main_arg2) (V c main_arg3)
    ∧ (dat0 V c).arrAt 5 cfg0.N = mean (s := S1x1024) (V c main_arg1) (V c main_arg2)
    ∧ (dat0 V c).arrAt 6 cfg0.N = spread (s := S1x1024) (V c main_arg1) (V c main_arg3) := by
  refine ⟨?_, ?_, ?_⟩
  · refine (dat0 V c).arrAt_eq_of_covers 4 _ (by decide +kernel) fun t hf y => ?_
    obtain ⟨e0, e1, e2, e3⟩ := small_reads0 V c t
    blk_simp
    rw [after0_4, (small_writes0 t y).1, e0, e1, e2, e3]
    exact congrFun (small_body0 (V c main_arg0) (V c main_arg1) (V c main_arg2) (V c main_arg3)).1 y
  · refine (dat0 V c).arrAt_eq_of_covers 5 _ (by decide +kernel) fun t hf y => ?_
    obtain ⟨e0, e1, e2, e3⟩ := small_reads0 V c t
    blk_simp
    rw [after0_5, (small_writes0 t y).2.1, e0, e1, e2, e3]
    exact congrFun (small_body0 (V c main_arg0) (V c main_arg1) (V c main_arg2) (V c main_arg3)).2.1 y
  · refine (dat0 V c).arrAt_eq_of_covers 6 _ (by decide +kernel) fun t hf y => ?_
    obtain ⟨e0, e1, e2, e3⟩ := small_reads0 V c t
    blk_simp
    rw [after0_6, (small_writes0 t y).2.2, e0, e1, e2, e3]
    exact congrFun (small_body0 (V c main_arg0) (V c main_arg1) (V c main_arg2) (V c main_arg3)).2.2 y

/-! ## The mixing norm -/

theorem small_places1 : ∀ t : Fin cfg1.N, win1_0.index t = ![0, 0] ∧ win1_1.index t = ![0, 0] ∧ win1_2.index t = ![0, 0] ∧ win1_3.index t = ![0, 0] ∧ win1_4.index t = ![0, 0] ∧ win1_5.index t = ![0, 0] ∧ win1_6.index t = ![0, 0] :=
  (by decide +kernel : ∀ t : Fin grid1.N, _)

theorem small_reads1 (t : Fin cfg1.N) :
    (iblk1 V c 0 t : Vals S1x1024) = V c main_arg4 ∧ (iblk1 V c 1 t : Vals S1x1024) = V c main_arg5 ∧ (iblk1 V c 2 t : Vals S1x1024) = V c main_arg6 ∧ (iblk1 V c 3 t : Vals S1x1024) = V c main_arg7 := by
  obtain ⟨h0, h1, h2, h3, -⟩ := small_places1 t
  refine ⟨?_, ?_, ?_, ?_⟩ <;> funext y <;> obtain ⟨p, l, rfl⟩ := two (a := 1) (b := 1024) y
  exacts [by blk_ext [iblk1, h0], by blk_ext [iblk1, h1], by blk_ext [iblk1, h2], by blk_ext [iblk1, h3]]

theorem small_writes1 (t : Fin cfg1.N) (y : S1x1024.Idx) :
    (win1_4.blk t).view.emb y = y ∧ (win1_5.blk t).view.emb y = y ∧ (win1_6.blk t).view.emb y = y := by
  obtain ⟨-, -, -, -, h4, h5, h6⟩ := small_places1 t
  obtain ⟨p, l, rfl⟩ := two (a := 1) (b := 1024) y
  exact ⟨by blk_ext [h4], by blk_ext [h5], by blk_ext [h6]⟩

theorem small_arrays1 :
    (dat1 V c).arrAt 4 cfg1.N = change (s := S1x1024) (V c main_arg4) (V c main_arg5) (V c main_arg6) (V c main_arg7)
    ∧ (dat1 V c).arrAt 5 cfg1.N = mean (s := S1x1024) (V c main_arg5) (V c main_arg6)
    ∧ (dat1 V c).arrAt 6 cfg1.N = spread (s := S1x1024) (V c main_arg5) (V c main_arg7) := by
  refine ⟨?_, ?_, ?_⟩
  · refine (dat1 V c).arrAt_eq_of_covers 4 _ (by decide +kernel) fun t hf y => ?_
    obtain ⟨e0, e1, e2, e3⟩ := small_reads1 V c t
    blk_simp
    rw [after1_4, (small_writes1 t y).1, e0, e1, e2, e3]
    exact congrFun (small_body0 (V c main_arg4) (V c main_arg5) (V c main_arg6) (V c main_arg7)).1 y
  · refine (dat1 V c).arrAt_eq_of_covers 5 _ (by decide +kernel) fun t hf y => ?_
    obtain ⟨e0, e1, e2, e3⟩ := small_reads1 V c t
    blk_simp
    rw [after1_5, (small_writes1 t y).2.1, e0, e1, e2, e3]
    exact congrFun (small_body0 (V c main_arg4) (V c main_arg5) (V c main_arg6) (V c main_arg7)).2.1 y
  · refine (dat1 V c).arrAt_eq_of_covers 6 _ (by decide +kernel) fun t hf y => ?_
    obtain ⟨e0, e1, e2, e3⟩ := small_reads1 V c t
    blk_simp
    rw [after1_6, (small_writes1 t y).2.2, e0, e1, e2, e3]
    exact congrFun (small_body0 (V c main_arg4) (V c main_arg5) (V c main_arg6) (V c main_arg7)).2.2 y

/-! ## The convolution -/

theorem small_places2 : ∀ t : Fin cfg2.N, win2_0.index t = ![0, 0] ∧ win2_1.index t = ![0, 0] ∧ win2_2.index t = ![0, 0] ∧ win2_3.index t = ![0, 0] ∧ win2_4.index t = ![0, 0] ∧ win2_5.index t = ![0, 0] ∧ win2_6.index t = ![0, 0] :=
  (by decide +kernel : ∀ t : Fin grid2.N, _)

theorem small_reads2 (t : Fin cfg2.N) :
    (iblk2 V c 0 t : Vals S4x384) = V c main_arg8 ∧ (iblk2 V c 1 t : Vals S4x384) = V c main_arg9 ∧ (iblk2 V c 2 t : Vals S4x384) = V c main_arg10 ∧ (iblk2 V c 3 t : Vals S4x384) = V c main_arg11 := by
  obtain ⟨h0, h1, h2, h3, -⟩ := small_places2 t
  refine ⟨?_, ?_, ?_, ?_⟩ <;> funext y <;> obtain ⟨p, l, rfl⟩ := two (a := 4) (b := 384) y
  exacts [by blk_ext [iblk2, h0], by blk_ext [iblk2, h1], by blk_ext [iblk2, h2], by blk_ext [iblk2, h3]]

theorem small_writes2 (t : Fin cfg2.N) (y : S4x384.Idx) :
    (win2_4.blk t).view.emb y = y ∧ (win2_5.blk t).view.emb y = y ∧ (win2_6.blk t).view.emb y = y := by
  obtain ⟨-, -, -, -, h4, h5, h6⟩ := small_places2 t
  obtain ⟨p, l, rfl⟩ := two (a := 4) (b := 384) y
  exact ⟨by blk_ext [h4], by blk_ext [h5], by blk_ext [h6]⟩

theorem small_arrays2 :
    (dat2 V c).arrAt 4 cfg2.N = change (s := S4x384) (V c main_arg8) (V c main_arg9) (V c main_arg10) (V c main_arg11)
    ∧ (dat2 V c).arrAt 5 cfg2.N = mean (s := S4x384) (V c main_arg9) (V c main_arg10)
    ∧ (dat2 V c).arrAt 6 cfg2.N = spread (s := S4x384) (V c main_arg9) (V c main_arg11) := by
  refine ⟨?_, ?_, ?_⟩
  · refine (dat2 V c).arrAt_eq_of_covers 4 _ (by decide +kernel) fun t hf y => ?_
    obtain ⟨e0, e1, e2, e3⟩ := small_reads2 V c t
    blk_simp
    rw [after2_4, (small_writes2 t y).1, e0, e1, e2, e3]
    exact congrFun (small_body2 (V c main_arg8) (V c main_arg9) (V c main_arg10) (V c main_arg11)).1 y
  · refine (dat2 V c).arrAt_eq_of_covers 5 _ (by decide +kernel) fun t hf y => ?_
    obtain ⟨e0, e1, e2, e3⟩ := small_reads2 V c t
    blk_simp
    rw [after2_5, (small_writes2 t y).2.1, e0, e1, e2, e3]
    exact congrFun (small_body2 (V c main_arg8) (V c main_arg9) (V c main_arg10) (V c main_arg11)).2.1 y
  · refine (dat2 V c).arrAt_eq_of_covers 6 _ (by decide +kernel) fun t hf y => ?_
    obtain ⟨e0, e1, e2, e3⟩ := small_reads2 V c t
    blk_simp
    rw [after2_6, (small_writes2 t y).2.2, e0, e1, e2, e3]
    exact congrFun (small_body2 (V c main_arg8) (V c main_arg9) (V c main_arg10) (V c main_arg11)).2.2 y

/-! ## The decays -/

theorem small_places3 : ∀ t : Fin cfg3.N, win3_0.index t = ![0, 0] ∧ win3_1.index t = ![0, 0] ∧ win3_2.index t = ![0, 0] ∧ win3_3.index t = ![0, 0] ∧ win3_4.index t = ![0, 0] ∧ win3_5.index t = ![0, 0] ∧ win3_6.index t = ![0, 0] :=
  (by decide +kernel : ∀ t : Fin grid3.N, _)

theorem small_reads3 (t : Fin cfg3.N) :
    (iblk3 V c 0 t : Vals S1x8) = V c main_arg12 ∧ (iblk3 V c 1 t : Vals S1x8) = V c main_arg13 ∧ (iblk3 V c 2 t : Vals S1x8) = V c main_arg14 ∧ (iblk3 V c 3 t : Vals S1x8) = V c main_arg15 := by
  obtain ⟨h0, h1, h2, h3, -⟩ := small_places3 t
  refine ⟨?_, ?_, ?_, ?_⟩ <;> funext y <;> obtain ⟨p, l, rfl⟩ := two (a := 1) (b := 8) y
  exacts [by blk_ext [iblk3, h0], by blk_ext [iblk3, h1], by blk_ext [iblk3, h2], by blk_ext [iblk3, h3]]

theorem small_writes3 (t : Fin cfg3.N) (y : S1x8.Idx) :
    (win3_4.blk t).view.emb y = y ∧ (win3_5.blk t).view.emb y = y ∧ (win3_6.blk t).view.emb y = y := by
  obtain ⟨-, -, -, -, h4, h5, h6⟩ := small_places3 t
  obtain ⟨p, l, rfl⟩ := two (a := 1) (b := 8) y
  exact ⟨by blk_ext [h4], by blk_ext [h5], by blk_ext [h6]⟩

theorem small_arrays3 :
    (dat3 V c).arrAt 4 cfg3.N = change (s := S1x8) (V c main_arg12) (V c main_arg13) (V c main_arg14) (V c main_arg15)
    ∧ (dat3 V c).arrAt 5 cfg3.N = mean (s := S1x8) (V c main_arg13) (V c main_arg14)
    ∧ (dat3 V c).arrAt 6 cfg3.N = spread (s := S1x8) (V c main_arg13) (V c main_arg15) := by
  refine ⟨?_, ?_, ?_⟩
  · refine (dat3 V c).arrAt_eq_of_covers 4 _ (by decide +kernel) fun t hf y => ?_
    obtain ⟨e0, e1, e2, e3⟩ := small_reads3 V c t
    blk_simp
    rw [after3_4, (small_writes3 t y).1, e0, e1, e2, e3]
    exact congrFun (small_body3 (V c main_arg12) (V c main_arg13) (V c main_arg14) (V c main_arg15)).1 y
  · refine (dat3 V c).arrAt_eq_of_covers 5 _ (by decide +kernel) fun t hf y => ?_
    obtain ⟨e0, e1, e2, e3⟩ := small_reads3 V c t
    blk_simp
    rw [after3_5, (small_writes3 t y).2.1, e0, e1, e2, e3]
    exact congrFun (small_body3 (V c main_arg12) (V c main_arg13) (V c main_arg14) (V c main_arg15)).2.1 y
  · refine (dat3 V c).arrAt_eq_of_covers 6 _ (by decide +kernel) fun t hf y => ?_
    obtain ⟨e0, e1, e2, e3⟩ := small_reads3 V c t
    blk_simp
    rw [after3_6, (small_writes3 t y).2.2, e0, e1, e2, e3]
    exact congrFun (small_body3 (V c main_arg12) (V c main_arg13) (V c main_arg14) (V c main_arg15)).2.2 y

/-! ## The decays' bias -/

theorem small_places4 : ∀ t : Fin cfg4.N, win4_0.index t = ![0, 0] ∧ win4_1.index t = ![0, 0] ∧ win4_2.index t = ![0, 0] ∧ win4_3.index t = ![0, 0] ∧ win4_4.index t = ![0, 0] ∧ win4_5.index t = ![0, 0] ∧ win4_6.index t = ![0, 0] :=
  (by decide +kernel : ∀ t : Fin grid4.N, _)

theorem small_reads4 (t : Fin cfg4.N) :
    (iblk4 V c 0 t : Vals S1x8) = V c main_arg16 ∧ (iblk4 V c 1 t : Vals S1x8) = V c main_arg17 ∧ (iblk4 V c 2 t : Vals S1x8) = V c main_arg18 ∧ (iblk4 V c 3 t : Vals S1x8) = V c main_arg19 := by
  obtain ⟨h0, h1, h2, h3, -⟩ := small_places4 t
  refine ⟨?_, ?_, ?_, ?_⟩ <;> funext y <;> obtain ⟨p, l, rfl⟩ := two (a := 1) (b := 8) y
  exacts [by blk_ext [iblk4, h0], by blk_ext [iblk4, h1], by blk_ext [iblk4, h2], by blk_ext [iblk4, h3]]

theorem small_writes4 (t : Fin cfg4.N) (y : S1x8.Idx) :
    (win4_4.blk t).view.emb y = y ∧ (win4_5.blk t).view.emb y = y ∧ (win4_6.blk t).view.emb y = y := by
  obtain ⟨-, -, -, -, h4, h5, h6⟩ := small_places4 t
  obtain ⟨p, l, rfl⟩ := two (a := 1) (b := 8) y
  exact ⟨by blk_ext [h4], by blk_ext [h5], by blk_ext [h6]⟩

theorem small_arrays4 :
    (dat4 V c).arrAt 4 cfg4.N = change (s := S1x8) (V c main_arg16) (V c main_arg17) (V c main_arg18) (V c main_arg19)
    ∧ (dat4 V c).arrAt 5 cfg4.N = mean (s := S1x8) (V c main_arg17) (V c main_arg18)
    ∧ (dat4 V c).arrAt 6 cfg4.N = spread (s := S1x8) (V c main_arg17) (V c main_arg19) := by
  refine ⟨?_, ?_, ?_⟩
  · refine (dat4 V c).arrAt_eq_of_covers 4 _ (by decide +kernel) fun t hf y => ?_
    obtain ⟨e0, e1, e2, e3⟩ := small_reads4 V c t
    blk_simp
    rw [after4_4, (small_writes4 t y).1, e0, e1, e2, e3]
    exact congrFun (small_body3 (V c main_arg16) (V c main_arg17) (V c main_arg18) (V c main_arg19)).1 y
  · refine (dat4 V c).arrAt_eq_of_covers 5 _ (by decide +kernel) fun t hf y => ?_
    obtain ⟨e0, e1, e2, e3⟩ := small_reads4 V c t
    blk_simp
    rw [after4_5, (small_writes4 t y).2.1, e0, e1, e2, e3]
    exact congrFun (small_body3 (V c main_arg16) (V c main_arg17) (V c main_arg18) (V c main_arg19)).2.1 y
  · refine (dat4 V c).arrAt_eq_of_covers 6 _ (by decide +kernel) fun t hf y => ?_
    obtain ⟨e0, e1, e2, e3⟩ := small_reads4 V c t
    blk_simp
    rw [after4_6, (small_writes4 t y).2.2, e0, e1, e2, e3]
    exact congrFun (small_body3 (V c main_arg16) (V c main_arg17) (V c main_arg18) (V c main_arg19)).2.2 y

/-! ## The gated norm -/

theorem small_places5 : ∀ t : Fin cfg5.N, win5_0.index t = ![0, 0] ∧ win5_1.index t = ![0, 0] ∧ win5_2.index t = ![0, 0] ∧ win5_3.index t = ![0, 0] ∧ win5_4.index t = ![0, 0] ∧ win5_5.index t = ![0, 0] ∧ win5_6.index t = ![0, 0] :=
  (by decide +kernel : ∀ t : Fin grid5.N, _)

theorem small_reads5 (t : Fin cfg5.N) :
    (iblk5 V c 0 t : Vals S1x128) = V c main_arg20 ∧ (iblk5 V c 1 t : Vals S1x128) = V c main_arg21 ∧ (iblk5 V c 2 t : Vals S1x128) = V c main_arg22 ∧ (iblk5 V c 3 t : Vals S1x128) = V c main_arg23 := by
  obtain ⟨h0, h1, h2, h3, -⟩ := small_places5 t
  refine ⟨?_, ?_, ?_, ?_⟩ <;> funext y <;> obtain ⟨p, l, rfl⟩ := two (a := 1) (b := 128) y
  exacts [by blk_ext [iblk5, h0], by blk_ext [iblk5, h1], by blk_ext [iblk5, h2], by blk_ext [iblk5, h3]]

theorem small_writes5 (t : Fin cfg5.N) (y : S1x128.Idx) :
    (win5_4.blk t).view.emb y = y ∧ (win5_5.blk t).view.emb y = y ∧ (win5_6.blk t).view.emb y = y := by
  obtain ⟨-, -, -, -, h4, h5, h6⟩ := small_places5 t
  obtain ⟨p, l, rfl⟩ := two (a := 1) (b := 128) y
  exact ⟨by blk_ext [h4], by blk_ext [h5], by blk_ext [h6]⟩

theorem small_arrays5 :
    (dat5 V c).arrAt 4 cfg5.N = change (s := S1x128) (V c main_arg20) (V c main_arg21) (V c main_arg22) (V c main_arg23)
    ∧ (dat5 V c).arrAt 5 cfg5.N = mean (s := S1x128) (V c main_arg21) (V c main_arg22)
    ∧ (dat5 V c).arrAt 6 cfg5.N = spread (s := S1x128) (V c main_arg21) (V c main_arg23) := by
  refine ⟨?_, ?_, ?_⟩
  · refine (dat5 V c).arrAt_eq_of_covers 4 _ (by decide +kernel) fun t hf y => ?_
    obtain ⟨e0, e1, e2, e3⟩ := small_reads5 V c t
    blk_simp
    rw [after5_4, (small_writes5 t y).1, e0, e1, e2, e3]
    exact congrFun (small_body5 (V c main_arg20) (V c main_arg21) (V c main_arg22) (V c main_arg23)).1 y
  · refine (dat5 V c).arrAt_eq_of_covers 5 _ (by decide +kernel) fun t hf y => ?_
    obtain ⟨e0, e1, e2, e3⟩ := small_reads5 V c t
    blk_simp
    rw [after5_5, (small_writes5 t y).2.1, e0, e1, e2, e3]
    exact congrFun (small_body5 (V c main_arg20) (V c main_arg21) (V c main_arg22) (V c main_arg23)).2.1 y
  · refine (dat5 V c).arrAt_eq_of_covers 6 _ (by decide +kernel) fun t hf y => ?_
    obtain ⟨e0, e1, e2, e3⟩ := small_reads5 V c t
    blk_simp
    rw [after5_6, (small_writes5 t y).2.2, e0, e1, e2, e3]
    exact congrFun (small_body5 (V c main_arg20) (V c main_arg21) (V c main_arg22) (V c main_arg23)).2.2 y

/-! ## The second feed-forward norm -/

theorem small_places6 : ∀ t : Fin cfg6.N, win6_0.index t = ![0, 0] ∧ win6_1.index t = ![0, 0] ∧ win6_2.index t = ![0, 0] ∧ win6_3.index t = ![0, 0] ∧ win6_4.index t = ![0, 0] ∧ win6_5.index t = ![0, 0] ∧ win6_6.index t = ![0, 0] :=
  (by decide +kernel : ∀ t : Fin grid6.N, _)

theorem small_reads6 (t : Fin cfg6.N) :
    (iblk6 V c 0 t : Vals S1x1024) = V c main_arg24 ∧ (iblk6 V c 1 t : Vals S1x1024) = V c main_arg25 ∧ (iblk6 V c 2 t : Vals S1x1024) = V c main_arg26 ∧ (iblk6 V c 3 t : Vals S1x1024) = V c main_arg27 := by
  obtain ⟨h0, h1, h2, h3, -⟩ := small_places6 t
  refine ⟨?_, ?_, ?_, ?_⟩ <;> funext y <;> obtain ⟨p, l, rfl⟩ := two (a := 1) (b := 1024) y
  exacts [by blk_ext [iblk6, h0], by blk_ext [iblk6, h1], by blk_ext [iblk6, h2], by blk_ext [iblk6, h3]]

theorem small_writes6 (t : Fin cfg6.N) (y : S1x1024.Idx) :
    (win6_4.blk t).view.emb y = y ∧ (win6_5.blk t).view.emb y = y ∧ (win6_6.blk t).view.emb y = y := by
  obtain ⟨-, -, -, -, h4, h5, h6⟩ := small_places6 t
  obtain ⟨p, l, rfl⟩ := two (a := 1) (b := 1024) y
  exact ⟨by blk_ext [h4], by blk_ext [h5], by blk_ext [h6]⟩

theorem small_arrays6 :
    (dat6 V c).arrAt 4 cfg6.N = change (s := S1x1024) (V c main_arg24) (V c main_arg25) (V c main_arg26) (V c main_arg27)
    ∧ (dat6 V c).arrAt 5 cfg6.N = mean (s := S1x1024) (V c main_arg25) (V c main_arg26)
    ∧ (dat6 V c).arrAt 6 cfg6.N = spread (s := S1x1024) (V c main_arg25) (V c main_arg27) := by
  refine ⟨?_, ?_, ?_⟩
  · refine (dat6 V c).arrAt_eq_of_covers 4 _ (by decide +kernel) fun t hf y => ?_
    obtain ⟨e0, e1, e2, e3⟩ := small_reads6 V c t
    blk_simp
    rw [after6_4, (small_writes6 t y).1, e0, e1, e2, e3]
    exact congrFun (small_body0 (V c main_arg24) (V c main_arg25) (V c main_arg26) (V c main_arg27)).1 y
  · refine (dat6 V c).arrAt_eq_of_covers 5 _ (by decide +kernel) fun t hf y => ?_
    obtain ⟨e0, e1, e2, e3⟩ := small_reads6 V c t
    blk_simp
    rw [after6_5, (small_writes6 t y).2.1, e0, e1, e2, e3]
    exact congrFun (small_body0 (V c main_arg24) (V c main_arg25) (V c main_arg26) (V c main_arg27)).2.1 y
  · refine (dat6 V c).arrAt_eq_of_covers 6 _ (by decide +kernel) fun t hf y => ?_
    obtain ⟨e0, e1, e2, e3⟩ := small_reads6 V c t
    blk_simp
    rw [after6_6, (small_writes6 t y).2.2, e0, e1, e2, e3]
    exact congrFun (small_body0 (V c main_arg24) (V c main_arg25) (V c main_arg26) (V c main_arg27)).2.2 y

/-! ## The last norm -/

theorem small_places7 : ∀ t : Fin cfg7.N, win7_0.index t = ![0, 0] ∧ win7_1.index t = ![0, 0] ∧ win7_2.index t = ![0, 0] ∧ win7_3.index t = ![0, 0] ∧ win7_4.index t = ![0, 0] ∧ win7_5.index t = ![0, 0] ∧ win7_6.index t = ![0, 0] :=
  (by decide +kernel : ∀ t : Fin grid7.N, _)

theorem small_reads7 (t : Fin cfg7.N) :
    (iblk7 V c 0 t : Vals S1x1024) = V c main_arg28 ∧ (iblk7 V c 1 t : Vals S1x1024) = V c main_arg29 ∧ (iblk7 V c 2 t : Vals S1x1024) = V c main_arg30 ∧ (iblk7 V c 3 t : Vals S1x1024) = V c main_arg31 := by
  obtain ⟨h0, h1, h2, h3, -⟩ := small_places7 t
  refine ⟨?_, ?_, ?_, ?_⟩ <;> funext y <;> obtain ⟨p, l, rfl⟩ := two (a := 1) (b := 1024) y
  exacts [by blk_ext [iblk7, h0], by blk_ext [iblk7, h1], by blk_ext [iblk7, h2], by blk_ext [iblk7, h3]]

theorem small_writes7 (t : Fin cfg7.N) (y : S1x1024.Idx) :
    (win7_4.blk t).view.emb y = y ∧ (win7_5.blk t).view.emb y = y ∧ (win7_6.blk t).view.emb y = y := by
  obtain ⟨-, -, -, -, h4, h5, h6⟩ := small_places7 t
  obtain ⟨p, l, rfl⟩ := two (a := 1) (b := 1024) y
  exact ⟨by blk_ext [h4], by blk_ext [h5], by blk_ext [h6]⟩

theorem small_arrays7 :
    (dat7 V c).arrAt 4 cfg7.N = change (s := S1x1024) (V c main_arg28) (V c main_arg29) (V c main_arg30) (V c main_arg31)
    ∧ (dat7 V c).arrAt 5 cfg7.N = mean (s := S1x1024) (V c main_arg29) (V c main_arg30)
    ∧ (dat7 V c).arrAt 6 cfg7.N = spread (s := S1x1024) (V c main_arg29) (V c main_arg31) := by
  refine ⟨?_, ?_, ?_⟩
  · refine (dat7 V c).arrAt_eq_of_covers 4 _ (by decide +kernel) fun t hf y => ?_
    obtain ⟨e0, e1, e2, e3⟩ := small_reads7 V c t
    blk_simp
    rw [after7_4, (small_writes7 t y).1, e0, e1, e2, e3]
    exact congrFun (small_body0 (V c main_arg28) (V c main_arg29) (V c main_arg30) (V c main_arg31)).1 y
  · refine (dat7 V c).arrAt_eq_of_covers 5 _ (by decide +kernel) fun t hf y => ?_
    obtain ⟨e0, e1, e2, e3⟩ := small_reads7 V c t
    blk_simp
    rw [after7_5, (small_writes7 t y).2.1, e0, e1, e2, e3]
    exact congrFun (small_body0 (V c main_arg28) (V c main_arg29) (V c main_arg30) (V c main_arg31)).2.1 y
  · refine (dat7 V c).arrAt_eq_of_covers 6 _ (by decide +kernel) fun t hf y => ?_
    obtain ⟨e0, e1, e2, e3⟩ := small_reads7 V c t
    blk_simp
    rw [after7_6, (small_writes7 t y).2.2, e0, e1, e2, e3]
    exact congrFun (small_body0 (V c main_arg28) (V c main_arg29) (V c main_arg30) (V c main_arg31)).2.2 y

end Cert.Adam

end
-- ==== Proof.AdamSmallChain.lean ====
/- The small weights' optimiser: the results, from the arguments. -/
module

public import proofs.«01_k».proof.Proof.AdamSmall

@[expose] public section

set_option maxRecDepth 16384

noncomputable section

namespace Cert.Adam

open Idealize.ShloMosaic hiding ix1 ix2 ix3 ix4
open Idealize.ShloMosaic.TcCoe Idealize.SL.Sem
open Cert.Kernel6Ideal Cert.Kernel6Ideal.Gen

variable (m : (ℓ : Loc nD τ sig) → Buf (Elt Ideal) ℓ) (ρ : Dev nD → PrngReg) (c : Dev nD)

/-! ## What no later call writes -/

abbrev small_past7 (b : Ref sig .tc) : Prop := (∀ w : Fin cfg7.W, Pipeline.arrRef spec7 w = b → (cfg7.win w).isOut = false)
theorem small_kept7 (b : Ref sig .tc) (h : small_past7 b) : W8 m ρ c (Proc.devRef .tc b) = W7 m ρ c (Proc.devRef .tc b) :=
  W8_of m ρ c b h

abbrev small_past6 (b : Ref sig .tc) : Prop := (∀ w : Fin cfg6.W, Pipeline.arrRef spec6 w = b → (cfg6.win w).isOut = false) ∧ small_past7 b
theorem small_kept6 (b : Ref sig .tc) (h : small_past6 b) : W8 m ρ c (Proc.devRef .tc b) = W6 m ρ c (Proc.devRef .tc b) :=
  (small_kept7 m ρ c b h.2).trans (W7_of m ρ c b h.1)

abbrev small_past5 (b : Ref sig .tc) : Prop := (∀ w : Fin cfg5.W, Pipeline.arrRef spec5 w = b → (cfg5.win w).isOut = false) ∧ small_past6 b
theorem small_kept5 (b : Ref sig .tc) (h : small_past5 b) : W8 m ρ c (Proc.devRef .tc b) = W5 m ρ c (Proc.devRef .tc b) :=
  (small_kept6 m ρ c b h.2).trans (W6_of m ρ c b h.1)

abbrev small_past4 (b : Ref sig .tc) : Prop := (∀ w : Fin cfg4.W, Pipeline.arrRef spec4 w = b → (cfg4.win w).isOut = false) ∧ small_past5 b
theorem small_kept4 (b : Ref sig .tc) (h : small_past4 b) : W8 m ρ c (Proc.devRef .tc b) = W4 m ρ c (Proc.devRef .tc b) :=
  (small_kept5 m ρ c b h.2).trans (W5_of m ρ c b h.1)

abbrev small_past3 (b : Ref sig .tc) : Prop := (∀ w : Fin cfg3.W, Pipeline.arrRef spec3 w = b → (cfg3.win w).isOut = false) ∧ small_past4 b
theorem small_kept3 (b : Ref sig .tc) (h : small_past3 b) : W8 m ρ c (Proc.devRef .tc b) = W3 m ρ c (Proc.devRef .tc b) :=
  (small_kept4 m ρ c b h.2).trans (W4_of m ρ c b h.1)

abbrev small_past2 (b : Ref sig .tc) : Prop := (∀ w : Fin cfg2.W, Pipeline.arrRef spec2 w = b → (cfg2.win w).isOut = false) ∧ small_past3 b
theorem small_kept2 (b : Ref sig .tc) (h : small_past2 b) : W8 m ρ c (Proc.devRef .tc b) = W2 m ρ c (Proc.devRef .tc b) :=
  (small_kept3 m ρ c b h.2).trans (W3_of m ρ c b h.1)

abbrev small_past1 (b : Ref sig .tc) : Prop := (∀ w : Fin cfg1.W, Pipeline.arrRef spec1 w = b → (cfg1.win w).isOut = false) ∧ small_past2 b
theorem small_kept1 (b : Ref sig .tc) (h : small_past1 b) : W8 m ρ c (Proc.devRef .tc b) = W1 m ρ c (Proc.devRef .tc b) :=
  (small_kept2 m ρ c b h.2).trans (W2_of m ρ c b h.1)

/-! ## The results -/

/-- The first feed-forward norm. -/
theorem small_results0 :
    W8 m ρ c (Proc.devRef .tc main_v0_0) = change (s := S1x1024) (m ((c : Thread nD τ).loc main_arg0)) (m ((c : Thread nD τ).loc main_arg1)) (m ((c : Thread nD τ).loc main_arg2)) (m ((c : Thread nD τ).loc main_arg3))
    ∧ W8 m ρ c (Proc.devRef .tc main_v0_1) = mean (s := S1x1024) (m ((c : Thread nD τ).loc main_arg1)) (m ((c : Thread nD τ).loc main_arg2))
    ∧ W8 m ρ c (Proc.devRef .tc main_v0_2) = spread (s := S1x1024) (m ((c : Thread nD τ).loc main_arg1)) (m ((c : Thread nD τ).loc main_arg3)) := by
  obtain ⟨e4, e5, e6⟩ := small_arrays0 (V0 m ρ) c
  have a : ∀ b ∈ argRefs, V0 m ρ c b = m ((c : Thread nD τ).loc b) := W0_args m ρ c
  rw [a main_arg0 (by decide), a main_arg1 (by decide), a main_arg2 (by decide), a main_arg3 (by decide)] at e4
  rw [a main_arg1 (by decide), a main_arg2 (by decide)] at e5
  rw [a main_arg1 (by decide), a main_arg3 (by decide)] at e6
  exact ⟨(small_kept1 m ρ c main_v0_0 (by decide)).trans ((W1_arr m ρ c 4).trans e4),
    (small_kept1 m ρ c main_v0_1 (by decide)).trans ((W1_arr m ρ c 5).trans e5),
    (small_kept1 m ρ c main_v0_2 (by decide)).trans ((W1_arr m ρ c 6).trans e6)⟩

/-- The mixing norm. -/
theorem small_results1 :
    W8 m ρ c (Proc.devRef .tc main_v1_0) = change (s := S1x1024) (m ((c : Thread nD τ).loc main_arg4)) (m ((c : Thread nD τ).loc main_arg5)) (m ((c : Thread nD τ).loc main_arg6)) (m ((c : Thread nD τ).loc main_arg7))
    ∧ W8 m ρ c (Proc.devRef .tc main_v1_1) = mean (s := S1x1024) (m ((c : Thread nD τ).loc main_arg5)) (m ((c : Thread nD τ).loc main_arg6))
    ∧ W8 m ρ c (Proc.devRef .tc main_v1_2) = spread (s := S1x1024) (m ((c : Thread nD τ).loc main_arg5)) (m ((c : Thread nD τ).loc main_arg7)) := by
  obtain ⟨e4, e5, e6⟩ := small_arrays1 (V1 m ρ) c
  have a : ∀ b ∈ argRefs, V1 m ρ c b = m ((c : Thread nD τ).loc b) := W1_args m ρ c
  rw [a main_arg4 (by decide), a main_arg5 (by decide), a main_arg6 (by decide), a main_arg7 (by decide)] at e4
  rw [a main_arg5 (by decide), a main_arg6 (by decide)] at e5
  rw [a main_arg5 (by decide), a main_arg7 (by decide)] at e6
  exact ⟨(small_kept2 m ρ c main_v1_0 (by decide)).trans ((W2_arr m ρ c 4).trans e4),
    (small_kept2 m ρ c main_v1_1 (by decide)).trans ((W2_arr m ρ c 5).trans e5),
    (small_kept2 m ρ c main_v1_2 (by decide)).trans ((W2_arr m ρ c 6).trans e6)⟩

/-- The convolution. -/
theorem small_results2 :
    W8 m ρ c (Proc.devRef .tc main_v2_0) = change (s := S4x384) (m ((c : Thread nD τ).loc main_arg8)) (m ((c : Thread nD τ).loc main_arg9)) (m ((c : Thread nD τ).loc main_arg10)) (m ((c : Thread nD τ).loc main_arg11))
    ∧ W8 m ρ c (Proc.devRef .tc main_v2_1) = mean (s := S4x384) (m ((c : Thread nD τ).loc main_arg9)) (m ((c : Thread nD τ).loc main_arg10))
    ∧ W8 m ρ c (Proc.devRef .tc main_v2_2) = spread (s := S4x384) (m ((c : Thread nD τ).loc main_arg9)) (m ((c : Thread nD τ).loc main_arg11)) := by
  obtain ⟨e4, e5, e6⟩ := small_arrays2 (V2 m ρ) c
  have a : ∀ b ∈ argRefs, V2 m ρ c b = m ((c : Thread nD τ).loc b) := W2_args m ρ c
  rw [a main_arg8 (by decide), a main_arg9 (by decide), a main_arg10 (by decide), a main_arg11 (by decide)] at e4
  rw [a main_arg9 (by decide), a main_arg10 (by decide)] at e5
  rw [a main_arg9 (by decide), a main_arg11 (by decide)] at e6
  exact ⟨(small_kept3 m ρ c main_v2_0 (by decide)).trans ((W3_arr m ρ c 4).trans e4),
    (small_kept3 m ρ c main_v2_1 (by decide)).trans ((W3_arr m ρ c 5).trans e5),
    (small_kept3 m ρ c main_v2_2 (by decide)).trans ((W3_arr m ρ c 6).trans e6)⟩

/-- The decays. -/
theorem small_results3 :
    W8 m ρ c (Proc.devRef .tc main_v3_0) = change (s := S1x8) (m ((c : Thread nD τ).loc main_arg12)) (m ((c : Thread nD τ).loc main_arg13)) (m ((c : Thread nD τ).loc main_arg14)) (m ((c : Thread nD τ).loc main_arg15))
    ∧ W8 m ρ c (Proc.devRef .tc main_v3_1) = mean (s := S1x8) (m ((c : Thread nD τ).loc main_arg13)) (m ((c : Thread nD τ).loc main_arg14))
    ∧ W8 m ρ c (Proc.devRef .tc main_v3_2) = spread (s := S1x8) (m ((c : Thread nD τ).loc main_arg13)) (m ((c : Thread nD τ).loc main_arg15)) := by
  obtain ⟨e4, e5, e6⟩ := small_arrays3 (V3 m ρ) c
  have a : ∀ b ∈ argRefs, V3 m ρ c b = m ((c : Thread nD τ).loc b) := W3_args m ρ c
  rw [a main_arg12 (by decide), a main_arg13 (by decide), a main_arg14 (by decide), a main_arg15 (by decide)] at e4
  rw [a main_arg13 (by decide), a main_arg14 (by decide)] at e5
  rw [a main_arg13 (by decide), a main_arg15 (by decide)] at e6
  exact ⟨(small_kept4 m ρ c main_v3_0 (by decide)).trans ((W4_arr m ρ c 4).trans e4),
    (small_kept4 m ρ c main_v3_1 (by decide)).trans ((W4_arr m ρ c 5).trans e5),
    (small_kept4 m ρ c main_v3_2 (by decide)).trans ((W4_arr m ρ c 6).trans e6)⟩

/-- The decays' bias. -/
theorem small_results4 :
    W8 m ρ c (Proc.devRef .tc main_v4_0) = change (s := S1x8) (m ((c : Thread nD τ).loc main_arg16)) (m ((c : Thread nD τ).loc main_arg17)) (m ((c : Thread nD τ).loc main_arg18)) (m ((c : Thread nD τ).loc main_arg19))
    ∧ W8 m ρ c (Proc.devRef .tc main_v4_1) = mean (s := S1x8) (m ((c : Thread nD τ).loc main_arg17)) (m ((c : Thread nD τ).loc main_arg18))
    ∧ W8 m ρ c (Proc.devRef .tc main_v4_2) = spread (s := S1x8) (m ((c : Thread nD τ).loc main_arg17)) (m ((c : Thread nD τ).loc main_arg19)) := by
  obtain ⟨e4, e5, e6⟩ := small_arrays4 (V4 m ρ) c
  have a : ∀ b ∈ argRefs, V4 m ρ c b = m ((c : Thread nD τ).loc b) := W4_args m ρ c
  rw [a main_arg16 (by decide), a main_arg17 (by decide), a main_arg18 (by decide), a main_arg19 (by decide)] at e4
  rw [a main_arg17 (by decide), a main_arg18 (by decide)] at e5
  rw [a main_arg17 (by decide), a main_arg19 (by decide)] at e6
  exact ⟨(small_kept5 m ρ c main_v4_0 (by decide)).trans ((W5_arr m ρ c 4).trans e4),
    (small_kept5 m ρ c main_v4_1 (by decide)).trans ((W5_arr m ρ c 5).trans e5),
    (small_kept5 m ρ c main_v4_2 (by decide)).trans ((W5_arr m ρ c 6).trans e6)⟩

/-- The gated norm. -/
theorem small_results5 :
    W8 m ρ c (Proc.devRef .tc main_v5_0) = change (s := S1x128) (m ((c : Thread nD τ).loc main_arg20)) (m ((c : Thread nD τ).loc main_arg21)) (m ((c : Thread nD τ).loc main_arg22)) (m ((c : Thread nD τ).loc main_arg23))
    ∧ W8 m ρ c (Proc.devRef .tc main_v5_1) = mean (s := S1x128) (m ((c : Thread nD τ).loc main_arg21)) (m ((c : Thread nD τ).loc main_arg22))
    ∧ W8 m ρ c (Proc.devRef .tc main_v5_2) = spread (s := S1x128) (m ((c : Thread nD τ).loc main_arg21)) (m ((c : Thread nD τ).loc main_arg23)) := by
  obtain ⟨e4, e5, e6⟩ := small_arrays5 (V5 m ρ) c
  have a : ∀ b ∈ argRefs, V5 m ρ c b = m ((c : Thread nD τ).loc b) := W5_args m ρ c
  rw [a main_arg20 (by decide), a main_arg21 (by decide), a main_arg22 (by decide), a main_arg23 (by decide)] at e4
  rw [a main_arg21 (by decide), a main_arg22 (by decide)] at e5
  rw [a main_arg21 (by decide), a main_arg23 (by decide)] at e6
  exact ⟨(small_kept6 m ρ c main_v5_0 (by decide)).trans ((W6_arr m ρ c 4).trans e4),
    (small_kept6 m ρ c main_v5_1 (by decide)).trans ((W6_arr m ρ c 5).trans e5),
    (small_kept6 m ρ c main_v5_2 (by decide)).trans ((W6_arr m ρ c 6).trans e6)⟩

/-- The second feed-forward norm. -/
theorem small_results6 :
    W8 m ρ c (Proc.devRef .tc main_v6_0) = change (s := S1x1024) (m ((c : Thread nD τ).loc main_arg24)) (m ((c : Thread nD τ).loc main_arg25)) (m ((c : Thread nD τ).loc main_arg26)) (m ((c : Thread nD τ).loc main_arg27))
    ∧ W8 m ρ c (Proc.devRef .tc main_v6_1) = mean (s := S1x1024) (m ((c : Thread nD τ).loc main_arg25)) (m ((c : Thread nD τ).loc main_arg26))
    ∧ W8 m ρ c (Proc.devRef .tc main_v6_2) = spread (s := S1x1024) (m ((c : Thread nD τ).loc main_arg25)) (m ((c : Thread nD τ).loc main_arg27)) := by
  obtain ⟨e4, e5, e6⟩ := small_arrays6 (V6 m ρ) c
  have a : ∀ b ∈ argRefs, V6 m ρ c b = m ((c : Thread nD τ).loc b) := W6_args m ρ c
  rw [a main_arg24 (by decide), a main_arg25 (by decide), a main_arg26 (by decide), a main_arg27 (by decide)] at e4
  rw [a main_arg25 (by decide), a main_arg26 (by decide)] at e5
  rw [a main_arg25 (by decide), a main_arg27 (by decide)] at e6
  exact ⟨(small_kept7 m ρ c main_v6_0 (by decide)).trans ((W7_arr m ρ c 4).trans e4),
    (small_kept7 m ρ c main_v6_1 (by decide)).trans ((W7_arr m ρ c 5).trans e5),
    (small_kept7 m ρ c main_v6_2 (by decide)).trans ((W7_arr m ρ c 6).trans e6)⟩

/-- The last norm. -/
theorem small_results7 :
    W8 m ρ c (Proc.devRef .tc main_v7_0) = change (s := S1x1024) (m ((c : Thread nD τ).loc main_arg28)) (m ((c : Thread nD τ).loc main_arg29)) (m ((c : Thread nD τ).loc main_arg30)) (m ((c : Thread nD τ).loc main_arg31))
    ∧ W8 m ρ c (Proc.devRef .tc main_v7_1) = mean (s := S1x1024) (m ((c : Thread nD τ).loc main_arg29)) (m ((c : Thread nD τ).loc main_arg30))
    ∧ W8 m ρ c (Proc.devRef .tc main_v7_2) = spread (s := S1x1024) (m ((c : Thread nD τ).loc main_arg29)) (m ((c : Thread nD τ).loc main_arg31)) := by
  obtain ⟨e4, e5, e6⟩ := small_arrays7 (V7 m ρ) c
  have a : ∀ b ∈ argRefs, V7 m ρ c b = m ((c : Thread nD τ).loc b) := W7_args m ρ c
  rw [a main_arg28 (by decide), a main_arg29 (by decide), a main_arg30 (by decide), a main_arg31 (by decide)] at e4
  rw [a main_arg29 (by decide), a main_arg30 (by decide)] at e5
  rw [a main_arg29 (by decide), a main_arg31 (by decide)] at e6
  exact ⟨(W8_arr m ρ c 4).trans e4,
    (W8_arr m ρ c 5).trans e5,
    (W8_arr m ρ c 6).trans e6⟩

end Cert.Adam

end
-- ==== Proof.AdamSmallRun.lean ====
/- The small weights' optimiser: the run's buffers are what the last call leaves. -/
module

public import proofs.«01_k».proof.Proof.Gen.Kernel6Ideal.Frame

@[expose] public section

set_option maxRecDepth 16384

noncomputable section

namespace Cert.Adam

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unfolding plain definitions
set_option backward.isDefEq.respectTransparency.types false in
/-- Every run ends with every unscoped buffer at what the last call leaves. -/
theorem small_run_results : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W8 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h _ c b hb => h c _ (mem_uc b hb))

end Cert.Adam

end
-- ==== Proof.AdamSmallRef.lean ====
/- What the reference computes of the small weights: each line is its formula. -/
module

public import proofs.«01_k».proof.Proof.AdamSpec
public import proofs.«01_k».proof.Proof.Gen.Reference6Ideal.Read

@[expose] public section

set_option maxRecDepth 16384

noncomputable section

namespace Cert.Adam

open Idealize.ShloMosaic
open Cert.Reference6Ideal Cert.Reference6Ideal.Gen Cert.Reference6Ideal.Read

theorem small_ref0_change (w g m v : Vals S1x1024) : val_main_v23 (F := Ideal) w g m v = change (s := S1x1024) w g m v := rfl
theorem small_ref0_mean (g m : Vals S1x1024) : val_main_v4 (F := Ideal) g m = mean (s := S1x1024) g m := rfl
theorem small_ref0_spread (g v : Vals S1x1024) : val_main_v10 (F := Ideal) g v = spread (s := S1x1024) g v := rfl

theorem small_ref1_change (w g m v : Vals S1x1024) : val_main_v47 (F := Ideal) w g m v = change (s := S1x1024) w g m v := rfl
theorem small_ref1_mean (g m : Vals S1x1024) : val_main_v28 (F := Ideal) g m = mean (s := S1x1024) g m := rfl
theorem small_ref1_spread (g v : Vals S1x1024) : val_main_v34 (F := Ideal) g v = spread (s := S1x1024) g v := rfl

theorem small_ref2_change (w g m v : Vals S4x384) : val_main_v71 (F := Ideal) w g m v = change (s := S4x384) w g m v := rfl
theorem small_ref2_mean (g m : Vals S4x384) : val_main_v52 (F := Ideal) g m = mean (s := S4x384) g m := rfl
theorem small_ref2_spread (g v : Vals S4x384) : val_main_v58 (F := Ideal) g v = spread (s := S4x384) g v := rfl

theorem small_ref3_change (w g m v : Vals S1x8) : val_main_v95 (F := Ideal) w g m v = change (s := S1x8) w g m v := rfl
theorem small_ref3_mean (g m : Vals S1x8) : val_main_v76 (F := Ideal) g m = mean (s := S1x8) g m := rfl
theorem small_ref3_spread (g v : Vals S1x8) : val_main_v82 (F := Ideal) g v = spread (s := S1x8) g v := rfl

theorem small_ref4_change (w g m v : Vals S1x8) : val_main_v119 (F := Ideal) w g m v = change (s := S1x8) w g m v := rfl
theorem small_ref4_mean (g m : Vals S1x8) : val_main_v100 (F := Ideal) g m = mean (s := S1x8) g m := rfl
theorem small_ref4_spread (g v : Vals S1x8) : val_main_v106 (F := Ideal) g v = spread (s := S1x8) g v := rfl

theorem small_ref5_change (w g m v : Vals S1x128) : val_main_v143 (F := Ideal) w g m v = change (s := S1x128) w g m v := rfl
theorem small_ref5_mean (g m : Vals S1x128) : val_main_v124 (F := Ideal) g m = mean (s := S1x128) g m := rfl
theorem small_ref5_spread (g v : Vals S1x128) : val_main_v130 (F := Ideal) g v = spread (s := S1x128) g v := rfl

theorem small_ref6_change (w g m v : Vals S1x1024) : val_main_v167 (F := Ideal) w g m v = change (s := S1x1024) w g m v := rfl
theorem small_ref6_mean (g m : Vals S1x1024) : val_main_v148 (F := Ideal) g m = mean (s := S1x1024) g m := rfl
theorem small_ref6_spread (g v : Vals S1x1024) : val_main_v154 (F := Ideal) g v = spread (s := S1x1024) g v := rfl

theorem small_ref7_change (w g m v : Vals S1x1024) : val_main_v191 (F := Ideal) w g m v = change (s := S1x1024) w g m v := rfl
theorem small_ref7_mean (g m : Vals S1x1024) : val_main_v172 (F := Ideal) g m = mean (s := S1x1024) g m := rfl
theorem small_ref7_spread (g v : Vals S1x1024) : val_main_v178 (F := Ideal) g v = spread (s := S1x1024) g v := rfl

end Cert.Adam

end
-- ==== Proof.AdamSmallClaim.lean ====
/- The small weights' optimiser: the kernel's results are the reference's, whatever the arguments. -/
module

public import proofs.«01_k».proof.Defs
public import proofs.«01_k».proof.Proof.AdamSmallChain
public import proofs.«01_k».proof.Proof.AdamSmallRun
public import proofs.«01_k».proof.Proof.AdamSmallRef
public import proofs.«01_k».proof.Proof.Gen.Reference6Ideal
public import proofs.«01_k».proof.Proof.Gen.Reference6Ideal.Run
public import Idealize.ShloMosaic.Adequacy

@[expose] public section

set_option maxRecDepth 16384

noncomputable section

namespace Cert.Adam

open Idealize.ShloMosaic Idealize.ShloMosaic.TcCoe Idealize.SL.Sem
open Cert.Kernel6Ideal (main_v0_0 main_v0_1 main_v0_2 main_v1_0 main_v1_1 main_v1_2 main_v2_0 main_v2_1 main_v2_2 main_v3_0 main_v3_1 main_v3_2 main_v4_0 main_v4_1 main_v4_2 main_v5_0 main_v5_1 main_v5_2 main_v6_0 main_v6_1 main_v6_2 main_v7_0 main_v7_1 main_v7_2)
open Cert.Reference6Ideal.Read

/-- The reference's run leaves its arguments, and every counter at zero: it has none. -/
theorem small_reference_frame [Cert.Reference6Ideal.Facts] : quiescent_Reference6Ideal := fun m g _ =>
  (θ_run (Cert.Reference6Ideal.defs (F := Ideal)) _ _).mono
    (fun r h => And.intro (fun c => (h c).2.2.2.2.2.2.2.2.2.2.2.2.2.2.2.2.2.2.2.2.2.2.2.2) (sem_eq_zero_of_no_sems (by decide) r.2)) (Cert.Reference6Ideal.Value.run m g)

/-- The kernel's results are the reference's. -/
theorem small_equal_results [Cert.Kernel6Ideal.Facts] [Cert.Reference6Ideal.Facts] : algebraic_Kernel6Ideal_Reference6Ideal := by
  intro m g m' g' _ hargs
  refine ⟨fun c => Cert.Kernel6Ideal.Gen.W8 m g c (Proc.devRef .tc main_v0_0),
    fun c => Cert.Kernel6Ideal.Gen.W8 m g c (Proc.devRef .tc main_v0_1),
    fun c => Cert.Kernel6Ideal.Gen.W8 m g c (Proc.devRef .tc main_v0_2),
    fun c => Cert.Kernel6Ideal.Gen.W8 m g c (Proc.devRef .tc main_v1_0),
    fun c => Cert.Kernel6Ideal.Gen.W8 m g c (Proc.devRef .tc main_v1_1),
    fun c => Cert.Kernel6Ideal.Gen.W8 m g c (Proc.devRef .tc main_v1_2),
    fun c => Cert.Kernel6Ideal.Gen.W8 m g c (Proc.devRef .tc main_v2_0),
    fun c => Cert.Kernel6Ideal.Gen.W8 m g c (Proc.devRef .tc main_v2_1),
    fun c => Cert.Kernel6Ideal.Gen.W8 m g c (Proc.devRef .tc main_v2_2),
    fun c => Cert.Kernel6Ideal.Gen.W8 m g c (Proc.devRef .tc main_v3_0),
    fun c => Cert.Kernel6Ideal.Gen.W8 m g c (Proc.devRef .tc main_v3_1),
    fun c => Cert.Kernel6Ideal.Gen.W8 m g c (Proc.devRef .tc main_v3_2),
    fun c => Cert.Kernel6Ideal.Gen.W8 m g c (Proc.devRef .tc main_v4_0),
    fun c => Cert.Kernel6Ideal.Gen.W8 m g c (Proc.devRef .tc main_v4_1),
    fun c => Cert.Kernel6Ideal.Gen.W8 m g c (Proc.devRef .tc main_v4_2),
    fun c => Cert.Kernel6Ideal.Gen.W8 m g c (Proc.devRef .tc main_v5_0),
    fun c => Cert.Kernel6Ideal.Gen.W8 m g c (Proc.devRef .tc main_v5_1),
    fun c => Cert.Kernel6Ideal.Gen.W8 m g c (Proc.devRef .tc main_v5_2),
    fun c => Cert.Kernel6Ideal.Gen.W8 m g c (Proc.devRef .tc main_v6_0),
    fun c => Cert.Kernel6Ideal.Gen.W8 m g c (Proc.devRef .tc main_v6_1),
    fun c => Cert.Kernel6Ideal.Gen.W8 m g c (Proc.devRef .tc main_v6_2),
    fun c => Cert.Kernel6Ideal.Gen.W8 m g c (Proc.devRef .tc main_v7_0),
    fun c => Cert.Kernel6Ideal.Gen.W8 m g c (Proc.devRef .tc main_v7_1),
    fun c => Cert.Kernel6Ideal.Gen.W8 m g c (Proc.devRef .tc main_v7_2), ?_, ?_⟩
  · refine (θ_run Cert.Kernel6Ideal.defs _ _).mono (fun r h c => ?_)
      (θ_run_and (small_run_results m g) (Cert.Kernel6Ideal.Gen.unchanged m g))
    have k := h.1 c
    exact ⟨k main_v0_0 (by decide), k main_v0_1 (by decide), k main_v0_2 (by decide), k main_v1_0 (by decide),
      k main_v1_1 (by decide), k main_v1_2 (by decide), k main_v2_0 (by decide), k main_v2_1 (by decide),
      k main_v2_2 (by decide), k main_v3_0 (by decide), k main_v3_1 (by decide), k main_v3_2 (by decide),
      k main_v4_0 (by decide), k main_v4_1 (by decide), k main_v4_2 (by decide), k main_v5_0 (by decide),
      k main_v5_1 (by decide), k main_v5_2 (by decide), k main_v6_0 (by decide), k main_v6_1 (by decide),
      k main_v6_2 (by decide), k main_v7_0 (by decide), k main_v7_1 (by decide), k main_v7_2 (by decide),
      h.2 c⟩
  · refine (θ_run Cert.Reference6Ideal.defs _ _).mono (fun r h c => ?_) (Cert.Reference6Ideal.Value.run m' g')
    obtain ⟨a0, a1, a2, a3, a4, a5, a6, a7, a8, a9, a10, a11, a12, a13, a14, a15, a16, a17, a18, a19, a20, a21, a22, a23, a24, a25, a26, a27, a28, a29, a30, a31⟩ := hargs c
    obtain ⟨e0, e1, e2, e3, e4, e5, e6, e7, e8, e9, e10, e11, e12, e13, e14, e15, e16, e17, e18, e19, e20, e21, e22, e23, e⟩ := h c
    have b : ∀ x : Ref Cert.Reference6Ideal.sig .tc, StableHlo.launchContents m' c (Proc.devRef .tc x)
        = m' ((c.tc : Thread Cert.Reference6Ideal.nD Cert.Reference6Ideal.τ).loc x) := fun _ => rfl
    refine ⟨e0.trans ?_, e1.trans ?_, e2.trans ?_, e3.trans ?_, e4.trans ?_, e5.trans ?_, e6.trans ?_, e7.trans ?_, e8.trans ?_, e9.trans ?_, e10.trans ?_, e11.trans ?_, e12.trans ?_, e13.trans ?_, e14.trans ?_, e15.trans ?_, e16.trans ?_, e17.trans ?_, e18.trans ?_, e19.trans ?_, e20.trans ?_, e21.trans ?_, e22.trans ?_, e23.trans ?_, e⟩
    · rw [val_main_v23_eq, b, b, b, b, a0, a1, a2, a3]
      exact (small_ref0_change _ _ _ _).trans (small_results0 m g c).1.symm
    · rw [val_main_v4_eq, b, b, a1, a2]
      exact (small_ref0_mean _ _).trans (small_results0 m g c).2.1.symm
    · rw [val_main_v10_eq, b, b, a1, a3]
      exact (small_ref0_spread _ _).trans (small_results0 m g c).2.2.symm
    · rw [val_main_v47_eq, b, b, b, b, a4, a5, a6, a7]
      exact (small_ref1_change _ _ _ _).trans (small_results1 m g c).1.symm
    · rw [val_main_v28_eq, b, b, a5, a6]
      exact (small_ref1_mean _ _).trans (small_results1 m g c).2.1.symm
    · rw [val_main_v34_eq, b, b, a5, a7]
      exact (small_ref1_spread _ _).trans (small_results1 m g c).2.2.symm
    · rw [val_main_v71_eq, b, b, b, b, a8, a9, a10, a11]
      exact (small_ref2_change _ _ _ _).trans (small_results2 m g c).1.symm
    · rw [val_main_v52_eq, b, b, a9, a10]
      exact (small_ref2_mean _ _).trans (small_results2 m g c).2.1.symm
    · rw [val_main_v58_eq, b, b, a9, a11]
      exact (small_ref2_spread _ _).trans (small_results2 m g c).2.2.symm
    · rw [val_main_v95_eq, b, b, b, b, a12, a13, a14, a15]
      exact (small_ref3_change _ _ _ _).trans (small_results3 m g c).1.symm
    · rw [val_main_v76_eq, b, b, a13, a14]
      exact (small_ref3_mean _ _).trans (small_results3 m g c).2.1.symm
    · rw [val_main_v82_eq, b, b, a13, a15]
      exact (small_ref3_spread _ _).trans (small_results3 m g c).2.2.symm
    · rw [val_main_v119_eq, b, b, b, b, a16, a17, a18, a19]
      exact (small_ref4_change _ _ _ _).trans (small_results4 m g c).1.symm
    · rw [val_main_v100_eq, b, b, a17, a18]
      exact (small_ref4_mean _ _).trans (small_results4 m g c).2.1.symm
    · rw [val_main_v106_eq, b, b, a17, a19]
      exact (small_ref4_spread _ _).trans (small_results4 m g c).2.2.symm
    · rw [val_main_v143_eq, b, b, b, b, a20, a21, a22, a23]
      exact (small_ref5_change _ _ _ _).trans (small_results5 m g c).1.symm
    · rw [val_main_v124_eq, b, b, a21, a22]
      exact (small_ref5_mean _ _).trans (small_results5 m g c).2.1.symm
    · rw [val_main_v130_eq, b, b, a21, a23]
      exact (small_ref5_spread _ _).trans (small_results5 m g c).2.2.symm
    · rw [val_main_v167_eq, b, b, b, b, a24, a25, a26, a27]
      exact (small_ref6_change _ _ _ _).trans (small_results6 m g c).1.symm
    · rw [val_main_v148_eq, b, b, a25, a26]
      exact (small_ref6_mean _ _).trans (small_results6 m g c).2.1.symm
    · rw [val_main_v154_eq, b, b, a25, a27]
      exact (small_ref6_spread _ _).trans (small_results6 m g c).2.2.symm
    · rw [val_main_v191_eq, b, b, b, b, a28, a29, a30, a31]
      exact (small_ref7_change _ _ _ _).trans (small_results7 m g c).1.symm
    · rw [val_main_v172_eq, b, b, a29, a30]
      exact (small_ref7_mean _ _).trans (small_results7 m g c).2.1.symm
    · rw [val_main_v178_eq, b, b, a29, a31]
      exact (small_ref7_spread _ _).trans (small_results7 m g c).2.2.symm

end Cert.Adam

end
-- ==== Proof.AdamSum.lean ====
/- A shard's gradient as the sum of the devices' parts, and arrays of one page of rows. -/
module

public import proofs.«01_k».proof.Proof.AdamSpec
public import proofs.«01_k».proof.Proof.FfnArrays
public import Idealize.ShloMosaic.Lib.Pipeline.ValueKit
public import Idealize.ShloMosaic.Lib.ValueLayout

@[expose] public section

set_option maxRecDepth 16384

noncomputable section

namespace Cert.Adam

open Idealize.ShloMosaic hiding ix1 ix2 ix3 ix4
open Idealize.ShloMosaic.ValueIdx

/-- Pages of rows of lanes. -/
abbrev Pages (n r c : ℕ) := Vals ⟨3, ![n, r, c]⟩

/-- The device's own part, and the seven parts received. -/
def summed {r c : ℕ} (own : Pages 1 r c) (received : Pages 7 r c) : Pages 1 r c := fun i =>
  own i + ∑ j : Fin 7, received (ix3 j (i 1) (i 2))

/-- Seven terms added one after another. -/
theorem from_left (a : EReal) (f : Fin 7 → EReal) {b r0 r1 r2 r3 r4 r5 r6 : EReal} (h : b = a) (h0 : r0 = f 0) (h1 : r1 = f 1) (h2 : r2 = f 2)
    (h3 : r3 = f 3) (h4 : r4 = f 4) (h5 : r5 = f 5) (h6 : r6 = f 6) : b + r0 + r1 + r2 + r3 + r4 + r5 + r6 = a + ∑ j, f j := by
  rw [h, h0, h1, h2, h3, h4, h5, h6, Fin.sum_univ_seven]
  simp only [add_assoc]

/-- The only page's rows. -/
theorem page_drop {r c : ℕ} (x : Pages 1 r c) (h : (⟨3, ![1, r, c]⟩ : Shape).ShapeCasts ⟨2, ![r, c]⟩) (p : Fin r) (l : Fin c) :
    shapeCast ⟨2, ![r, c]⟩ x h (ix2 p l) = x (ix3 0 p l) := by
  refine (shapeCast_dropUnit_apply (n := 2) ![r, c] x h (ix2 p l)).trans (congrArg x (funext fun a => ?_))
  match a with
  | 0 => rfl
  | 1 => rfl
  | 2 => rfl

/-- Rows as the only page. -/
theorem page_add {r c : ℕ} (x : Vals ⟨2, ![r, c]⟩) (h : (⟨2, ![r, c]⟩ : Shape).ShapeCasts ⟨3, ![1, r, c]⟩) (p : Fin r) (l : Fin c) :
    shapeCast ⟨3, ![1, r, c]⟩ x h (ix3 0 p l) = x (ix2 p l) := by
  refine (shapeCast_addUnit_apply (n := 2) ![r, c] x h (ix3 0 p l)).trans (congrArg x (funext fun a => ?_))
  match a with
  | 0 => rfl
  | 1 => rfl

/-- One page of seven, loaded. -/
theorem page_load {r c : ℕ} (x : Pages 7 r c) (j : Fin 7) (inb : ∀ a, (![j.val, 0, 0] : Fin 3 → ℕ) a + (![1, r, c] : Fin 3 → ℕ) a ≤ (⟨3, ![7, r, c]⟩ : Shape).size a)
    (h : (⟨3, ![1, r, c]⟩ : Shape).ShapeCasts ⟨2, ![r, c]⟩) (p : Fin r) (l : Fin c) :
    shapeCast ⟨2, ![r, c]⟩ (View.ld (Val := Elt Ideal) (e' := .bf16) x
      (Rect.unit (s := ⟨3, ![7, r, c]⟩) ![j.val, 0, 0] ![1, r, c] inb)) h (ix2 p l) = x (ix3 j p l) := by
  refine (page_drop _ h p l).trans ?_
  refine View.ld_unit_apply_of (Val := Elt Ideal) (e := .bf16) (S := ⟨3, ![7, r, c]⟩) x _ _ inb _ (ix3 j p l) fun a => ?_
  match a with
  | 0 => rfl
  | 1 => exact (Nat.zero_add _).symm
  | 2 => exact (Nat.zero_add _).symm

/-! ## The step at an entry, in either layout -/

theorem mean_at {s t : Shape} {g m : Vals s} {g' m' : Vals t} {i : s.Idx} {j : t.Idx} (hg : g i = g' j) (hm : m i = m' j) :
    mean g m i = mean g' m' j := by
  unfold mean
  rw [hg, hm]

theorem spread_at {s t : Shape} {g v : Vals s} {g' v' : Vals t} {i : s.Idx} {j : t.Idx} (hg : g i = g' j) (hv : v i = v' j) :
    spread g v i = spread g' v' j := by
  unfold spread
  rw [hg, hv]

theorem change_at {s t : Shape} {w g m v : Vals s} {w' g' m' v' : Vals t} {i : s.Idx} {j : t.Idx} (hw : w i = w' j) (hg : g i = g' j)
    (hm : m i = m' j) (hv : v i = v' j) : change w g m v i = change w' g' m' v' j := by
  unfold change
  rw [hw, mean_at hg hm, spread_at hg hv]

end Cert.Adam

end
-- ==== Proof.AdamBigBody.lean ====
/- The sharded weights' calls, one body for each shape: what it leaves in its four blocks. -/
module

public import proofs.«01_k».proof.Proof.AdamSum
public import proofs.«01_k».proof.Proof.Gen.Kernel7Ideal.Frame.Fold0

@[expose] public section

set_option maxRecDepth 16384

noncomputable section

namespace Cert.Adam

open Idealize.ShloMosaic hiding ix1 ix2 ix3 ix4
open Idealize.ShloMosaic.TcCoe Idealize.SL.Sem
open Idealize.ShloMosaic.ValueIdx Cert.Kernel7Ideal Cert.Kernel7Ideal.Gen
open Cert.Ffn (three)

/-! ## Shards of 352 rows of 1024 -/

section
variable (w m v own : FVec Ideal S1x352x1024 .f32) (received : FVec Ideal S7x352x1024 .bf16)

theorem big_rows0 (x : FVec Ideal S1x352x1024 .f32) (p : Fin 352) (l : Fin 1024) :
    (shapeCast S352x1024 x shapeCasts_S1x352x1024_S352x1024 : Vals S352x1024) (ix2 p l) = x (ix3 0 p l) := page_drop (r := 352) (c := 1024) x shapeCasts_S1x352x1024_S352x1024 p l

theorem big_page0 (x : Vals S352x1024) (y : Pages 1 352 1024) (h : ∀ p l, x (ix2 p l) = y (ix3 0 p l)) :
    (shapeCast S1x352x1024 x shapeCasts_S352x1024_S1x352x1024 : Pages 1 352 1024) = y := by
  funext i
  obtain ⟨z, p, l, rfl⟩ := three (a := 1) (b := 352) (e := 1024) i
  obtain rfl : z = 0 := Subsingleton.elim _ _
  exact (page_add (r := 352) (c := 1024) x shapeCasts_S352x1024_S1x352x1024 p l).trans (h p l)

theorem big_sum0 (p : Fin 352) (l : Fin 1024) :
    k0_pay8 (F := Ideal) w m v own received (ix2 p l) = summed (r := 352) (c := 1024) own received (ix3 0 p l) := by
  have part : ∀ (j : Fin 7) (inb), shapeCast S352x1024 (View.ld (Val := Elt Ideal) (e' := .bf16) received
      (Rect.unit (s := S7x352x1024) ![j.val, 0, 0] ![1, 352, 1024] inb)) shapeCasts_S1x352x1024_S352x1024 (ix2 p l) = received (ix3 j p l) :=
    fun j inb => page_load (r := 352) (c := 1024) received j inb shapeCasts_S1x352x1024_S352x1024 p l
  unfold k0_pay8
  rw [View.ld_unit_lit _ _ (by decide)]
  exact from_left (own (ix3 0 p l)) (fun j => received (ix3 j p l)) (big_rows0 own p l)
    (part 0 inb_S7x352x1024_S1x352x1024_0_0_0) (part 1 inb_S7x352x1024_S1x352x1024_1_0_0) (part 2 inb_S7x352x1024_S1x352x1024_2_0_0) (part 3 inb_S7x352x1024_S1x352x1024_3_0_0) (part 4 inb_S7x352x1024_S1x352x1024_4_0_0) (part 5 inb_S7x352x1024_S1x352x1024_5_0_0) (part 6 inb_S7x352x1024_S1x352x1024_6_0_0)

theorem big_body0_sum : out0_5 (F := Ideal) w m v own received = summed (r := 352) (c := 1024) own received := by
  unfold out0_5
  rw [View.canon_cons_unit_lit _ _ _ (by decide)]
  exact big_page0 (k0_pay8 (F := Ideal) w m v own received) _ fun p l => big_sum0 w m v own received p l

theorem big_body0_change : out0_6 (F := Ideal) w m v own received = change (s := S1x352x1024) w (summed (r := 352) (c := 1024) own received) m v := by
  unfold out0_6
  rw [View.canon_cons_unit_lit _ _ _ (by decide), View.ld_unit_lit _ _ (by decide), View.ld_unit_lit _ _ (by decide), View.ld_unit_lit _ _ (by decide)]
  exact big_page0 (change (s := S352x1024) (shapeCast S352x1024 w shapeCasts_S1x352x1024_S352x1024 : Vals S352x1024)
    (k0_pay8 (F := Ideal) w m v own received) (shapeCast S352x1024 m shapeCasts_S1x352x1024_S352x1024 : Vals S352x1024)
    (shapeCast S352x1024 v shapeCasts_S1x352x1024_S352x1024 : Vals S352x1024)) _ fun p l => change_at (s := S352x1024) (t := S1x352x1024) (big_rows0 w p l) (big_sum0 w m v own received p l)
    (big_rows0 m p l) (big_rows0 v p l)

theorem big_body0_mean : out0_7 (F := Ideal) w m v own received = mean (s := S1x352x1024) (summed (r := 352) (c := 1024) own received) m := by
  unfold out0_7
  rw [View.canon_cons_unit_lit _ _ _ (by decide), View.ld_unit_lit _ _ (by decide)]
  exact big_page0 (mean (s := S352x1024) (k0_pay8 (F := Ideal) w m v own received)
    (shapeCast S352x1024 m shapeCasts_S1x352x1024_S352x1024 : Vals S352x1024)) _ fun p l => mean_at (s := S352x1024) (t := S1x352x1024) (big_sum0 w m v own received p l) (big_rows0 m p l)

theorem big_body0_spread : out0_8 (F := Ideal) w m v own received = spread (s := S1x352x1024) (summed (r := 352) (c := 1024) own received) v := by
  unfold out0_8
  rw [View.canon_cons_unit_lit _ _ _ (by decide), View.ld_unit_lit _ _ (by decide)]
  exact big_page0 (spread (s := S352x1024) (k0_pay8 (F := Ideal) w m v own received)
    (shapeCast S352x1024 v shapeCasts_S1x352x1024_S352x1024 : Vals S352x1024)) _ fun p l => spread_at (s := S352x1024) (t := S1x352x1024) (big_sum0 w m v own received p l) (big_rows0 v p l)

end

/-! ## Shards of 256 rows of 128 -/

section
variable (w m v own : FVec Ideal S1x256x128 .f32) (received : FVec Ideal S7x256x128 .bf16)

theorem big_rows3 (x : FVec Ideal S1x256x128 .f32) (p : Fin 256) (l : Fin 128) :
    (shapeCast S256x128 x shapeCasts_S1x256x128_S256x128 : Vals S256x128) (ix2 p l) = x (ix3 0 p l) := page_drop (r := 256) (c := 128) x shapeCasts_S1x256x128_S256x128 p l

theorem big_page3 (x : Vals S256x128) (y : Pages 1 256 128) (h : ∀ p l, x (ix2 p l) = y (ix3 0 p l)) :
    (shapeCast S1x256x128 x shapeCasts_S256x128_S1x256x128 : Pages 1 256 128) = y := by
  funext i
  obtain ⟨z, p, l, rfl⟩ := three (a := 1) (b := 256) (e := 128) i
  obtain rfl : z = 0 := Subsingleton.elim _ _
  exact (page_add (r := 256) (c := 128) x shapeCasts_S256x128_S1x256x128 p l).trans (h p l)

theorem big_sum3 (p : Fin 256) (l : Fin 128) :
    k3_pay8 (F := Ideal) w m v own received (ix2 p l) = summed (r := 256) (c := 128) own received (ix3 0 p l) := by
  have part : ∀ (j : Fin 7) (inb), shapeCast S256x128 (View.ld (Val := Elt Ideal) (e' := .bf16) received
      (Rect.unit (s := S7x256x128) ![j.val, 0, 0] ![1, 256, 128] inb)) shapeCasts_S1x256x128_S256x128 (ix2 p l) = received (ix3 j p l) :=
    fun j inb => page_load (r := 256) (c := 128) received j inb shapeCasts_S1x256x128_S256x128 p l
  unfold k3_pay8
  rw [View.ld_unit_lit _ _ (by decide)]
  exact from_left (own (ix3 0 p l)) (fun j => received (ix3 j p l)) (big_rows3 own p l)
    (part 0 inb_S7x256x128_S1x256x128_0_0_0) (part 1 inb_S7x256x128_S1x256x128_1_0_0) (part 2 inb_S7x256x128_S1x256x128_2_0_0) (part 3 inb_S7x256x128_S1x256x128_3_0_0) (part 4 inb_S7x256x128_S1x256x128_4_0_0) (part 5 inb_S7x256x128_S1x256x128_5_0_0) (part 6 inb_S7x256x128_S1x256x128_6_0_0)

theorem big_body3_sum : out3_5 (F := Ideal) w m v own received = summed (r := 256) (c := 128) own received := by
  unfold out3_5
  rw [View.canon_cons_unit_lit _ _ _ (by decide)]
  exact big_page3 (k3_pay8 (F := Ideal) w m v own received) _ fun p l => big_sum3 w m v own received p l

theorem big_body3_change : out3_6 (F := Ideal) w m v own received = change (s := S1x256x128) w (summed (r := 256) (c := 128) own received) m v := by
  unfold out3_6
  rw [View.canon_cons_unit_lit _ _ _ (by decide), View.ld_unit_lit _ _ (by decide), View.ld_unit_lit _ _ (by decide), View.ld_unit_lit _ _ (by decide)]
  exact big_page3 (change (s := S256x128) (shapeCast S256x128 w shapeCasts_S1x256x128_S256x128 : Vals S256x128)
    (k3_pay8 (F := Ideal) w m v own received) (shapeCast S256x128 m shapeCasts_S1x256x128_S256x128 : Vals S256x128)
    (shapeCast S256x128 v shapeCasts_S1x256x128_S256x128 : Vals S256x128)) _ fun p l => change_at (s := S256x128) (t := S1x256x128) (big_rows3 w p l) (big_sum3 w m v own received p l)
    (big_rows3 m p l) (big_rows3 v p l)

theorem big_body3_mean : out3_7 (F := Ideal) w m v own received = mean (s := S1x256x128) (summed (r := 256) (c := 128) own received) m := by
  unfold out3_7
  rw [View.canon_cons_unit_lit _ _ _ (by decide), View.ld_unit_lit _ _ (by decide)]
  exact big_page3 (mean (s := S256x128) (k3_pay8 (F := Ideal) w m v own received)
    (shapeCast S256x128 m shapeCasts_S1x256x128_S256x128 : Vals S256x128)) _ fun p l => mean_at (s := S256x128) (t := S1x256x128) (big_sum3 w m v own received p l) (big_rows3 m p l)

theorem big_body3_spread : out3_8 (F := Ideal) w m v own received = spread (s := S1x256x128) (summed (r := 256) (c := 128) own received) v := by
  unfold out3_8
  rw [View.canon_cons_unit_lit _ _ _ (by decide), View.ld_unit_lit _ _ (by decide)]
  exact big_page3 (spread (s := S256x128) (k3_pay8 (F := Ideal) w m v own received)
    (shapeCast S256x128 v shapeCasts_S1x256x128_S256x128 : Vals S256x128)) _ fun p l => spread_at (s := S256x128) (t := S1x256x128) (big_sum3 w m v own received p l) (big_rows3 v p l)

end

/-! ## Shards of 128 rows of 1024 -/

section
variable (w m v own : FVec Ideal S1x128x1024 .f32) (received : FVec Ideal S7x128x1024 .bf16)

theorem big_rows4 (x : FVec Ideal S1x128x1024 .f32) (p : Fin 128) (l : Fin 1024) :
    (shapeCast S128x1024 x shapeCasts_S1x128x1024_S128x1024 : Vals S128x1024) (ix2 p l) = x (ix3 0 p l) := page_drop (r := 128) (c := 1024) x shapeCasts_S1x128x1024_S128x1024 p l

theorem big_page4 (x : Vals S128x1024) (y : Pages 1 128 1024) (h : ∀ p l, x (ix2 p l) = y (ix3 0 p l)) :
    (shapeCast S1x128x1024 x shapeCasts_S128x1024_S1x128x1024 : Pages 1 128 1024) = y := by
  funext i
  obtain ⟨z, p, l, rfl⟩ := three (a := 1) (b := 128) (e := 1024) i
  obtain rfl : z = 0 := Subsingleton.elim _ _
  exact (page_add (r := 128) (c := 1024) x shapeCasts_S128x1024_S1x128x1024 p l).trans (h p l)

theorem big_sum4 (p : Fin 128) (l : Fin 1024) :
    k4_pay8 (F := Ideal) w m v own received (ix2 p l) = summed (r := 128) (c := 1024) own received (ix3 0 p l) := by
  have part : ∀ (j : Fin 7) (inb), shapeCast S128x1024 (View.ld (Val := Elt Ideal) (e' := .bf16) received
      (Rect.unit (s := S7x128x1024) ![j.val, 0, 0] ![1, 128, 1024] inb)) shapeCasts_S1x128x1024_S128x1024 (ix2 p l) = received (ix3 j p l) :=
    fun j inb => page_load (r := 128) (c := 1024) received j inb shapeCasts_S1x128x1024_S128x1024 p l
  unfold k4_pay8
  rw [View.ld_unit_lit _ _ (by decide)]
  exact from_left (own (ix3 0 p l)) (fun j => received (ix3 j p l)) (big_rows4 own p l)
    (part 0 inb_S7x128x1024_S1x128x1024_0_0_0) (part 1 inb_S7x128x1024_S1x128x1024_1_0_0) (part 2 inb_S7x128x1024_S1x128x1024_2_0_0) (part 3 inb_S7x128x1024_S1x128x1024_3_0_0) (part 4 inb_S7x128x1024_S1x128x1024_4_0_0) (part 5 inb_S7x128x1024_S1x128x1024_5_0_0) (part 6 inb_S7x128x1024_S1x128x1024_6_0_0)

theorem big_body4_sum : out4_5 (F := Ideal) w m v own received = summed (r := 128) (c := 1024) own received := by
  unfold out4_5
  rw [View.canon_cons_unit_lit _ _ _ (by decide)]
  exact big_page4 (k4_pay8 (F := Ideal) w m v own received) _ fun p l => big_sum4 w m v own received p l

theorem big_body4_change : out4_6 (F := Ideal) w m v own received = change (s := S1x128x1024) w (summed (r := 128) (c := 1024) own received) m v := by
  unfold out4_6
  rw [View.canon_cons_unit_lit _ _ _ (by decide), View.ld_unit_lit _ _ (by decide), View.ld_unit_lit _ _ (by decide), View.ld_unit_lit _ _ (by decide)]
  exact big_page4 (change (s := S128x1024) (shapeCast S128x1024 w shapeCasts_S1x128x1024_S128x1024 : Vals S128x1024)
    (k4_pay8 (F := Ideal) w m v own received) (shapeCast S128x1024 m shapeCasts_S1x128x1024_S128x1024 : Vals S128x1024)
    (shapeCast S128x1024 v shapeCasts_S1x128x1024_S128x1024 : Vals S128x1024)) _ fun p l => change_at (s := S128x1024) (t := S1x128x1024) (big_rows4 w p l) (big_sum4 w m v own received p l)
    (big_rows4 m p l) (big_rows4 v p l)

theorem big_body4_mean : out4_7 (F := Ideal) w m v own received = mean (s := S1x128x1024) (summed (r := 128) (c := 1024) own received) m := by
  unfold out4_7
  rw [View.canon_cons_unit_lit _ _ _ (by decide), View.ld_unit_lit _ _ (by decide)]
  exact big_page4 (mean (s := S128x1024) (k4_pay8 (F := Ideal) w m v own received)
    (shapeCast S128x1024 m shapeCasts_S1x128x1024_S128x1024 : Vals S128x1024)) _ fun p l => mean_at (s := S128x1024) (t := S1x128x1024) (big_sum4 w m v own received p l) (big_rows4 m p l)

theorem big_body4_spread : out4_8 (F := Ideal) w m v own received = spread (s := S1x128x1024) (summed (r := 128) (c := 1024) own received) v := by
  unfold out4_8
  rw [View.canon_cons_unit_lit _ _ _ (by decide), View.ld_unit_lit _ _ (by decide)]
  exact big_page4 (spread (s := S128x1024) (k4_pay8 (F := Ideal) w m v own received)
    (shapeCast S128x1024 v shapeCasts_S1x128x1024_S128x1024 : Vals S128x1024)) _ fun p l => spread_at (s := S128x1024) (t := S1x128x1024) (big_sum4 w m v own received p l) (big_rows4 v p l)

end

end Cert.Adam

end
-- ==== Proof.AdamBigA.lean ====
/- Three sharded weights' calls: what each leaves in its arrays. Each takes its arrays whole, in one step, so that a block is its array. -/
module

public import proofs.«01_k».proof.Proof.AdamBigBody

@[expose] public section

set_option maxRecDepth 16384

noncomputable section

namespace Cert.Adam

open Idealize.ShloMosaic hiding ix1 ix2 ix3 ix4
open Idealize.ShloMosaic.TcCoe Idealize.SL.Sem
open Idealize.ShloMosaic.ValueIdx Cert.Kernel7Ideal Cert.Kernel7Ideal.Gen
open Cert.Ffn (three)

variable (V : (c : Dev nD) → (b : Ref sig .tc) → Buf (Elt Ideal) ((c : Thread nD τ).loc b)) (c : Dev nD)

/-! ## The second feed-forward's gate -/

theorem big_places0 : ∀ t : Fin cfg0.N, win0_0.index t = ![0, 0, 0] ∧ win0_1.index t = ![0, 0, 0] ∧ win0_2.index t = ![0, 0, 0] ∧ win0_3.index t = ![0, 0, 0] ∧ win0_4.index t = ![0, 0, 0] ∧ win0_5.index t = ![0, 0, 0] ∧ win0_6.index t = ![0, 0, 0] ∧ win0_7.index t = ![0, 0, 0] ∧ win0_8.index t = ![0, 0, 0] :=
  (by decide +kernel : ∀ t : Fin grid0.N, _)

theorem big_reads0 (t : Fin cfg0.N) :
    (iblk0 V c 0 t : Pages 1 352 1024) = V c main_arg0 ∧ (iblk0 V c 1 t : Pages 1 352 1024) = V c main_arg1 ∧ (iblk0 V c 2 t : Pages 1 352 1024) = V c main_arg2 ∧ (iblk0 V c 3 t : Pages 1 352 1024) = V c main_arg3 ∧ (iblk0 V c 4 t : Pages 7 352 1024) = V c main_arg4 := by
  obtain ⟨h0, h1, h2, h3, h4, -⟩ := big_places0 t
  refine ⟨?_, ?_, ?_, ?_, ?_⟩ <;> funext y <;> obtain ⟨z, p, l, rfl⟩ := three y
  exacts [by blk_ext [iblk0, h0], by blk_ext [iblk0, h1], by blk_ext [iblk0, h2], by blk_ext [iblk0, h3], by blk_ext [iblk0, h4]]

theorem big_writes0 (t : Fin cfg0.N) (y : S1x352x1024.Idx) :
    (win0_5.blk t).view.emb y = y ∧ (win0_6.blk t).view.emb y = y ∧ (win0_7.blk t).view.emb y = y ∧ (win0_8.blk t).view.emb y = y := by
  obtain ⟨-, -, -, -, -, h5, h6, h7, h8⟩ := big_places0 t
  obtain ⟨z, p, l, rfl⟩ := three (a := 1) (b := 352) (e := 1024) y
  exact ⟨by blk_ext [h5], by blk_ext [h6], by blk_ext [h7], by blk_ext [h8]⟩

theorem big_arrays0 :
    (dat0 V c).arrAt 5 cfg0.N = summed (r := 352) (c := 1024) (V c main_arg3) (V c main_arg4)
    ∧ (dat0 V c).arrAt 6 cfg0.N = change (s := S1x352x1024) (V c main_arg0) (summed (r := 352) (c := 1024) (V c main_arg3) (V c main_arg4)) (V c main_arg1) (V c main_arg2)
    ∧ (dat0 V c).arrAt 7 cfg0.N = mean (s := S1x352x1024) (summed (r := 352) (c := 1024) (V c main_arg3) (V c main_arg4)) (V c main_arg1)
    ∧ (dat0 V c).arrAt 8 cfg0.N = spread (s := S1x352x1024) (summed (r := 352) (c := 1024) (V c main_arg3) (V c main_arg4)) (V c main_arg2) := by
  refine ⟨?_, ?_, ?_, ?_⟩
  · refine (dat0 V c).arrAt_eq_of_covers 5 _ (by decide +kernel) fun t hf y => ?_
    obtain ⟨e0, e1, e2, e3, e4⟩ := big_reads0 V c t
    blk_simp
    rw [after0_5, (big_writes0 t y).1, e0, e1, e2, e3, e4]
    exact congrFun (big_body0_sum (V c main_arg0) (V c main_arg1) (V c main_arg2) (V c main_arg3) (V c main_arg4)) y
  · refine (dat0 V c).arrAt_eq_of_covers 6 _ (by decide +kernel) fun t hf y => ?_
    obtain ⟨e0, e1, e2, e3, e4⟩ := big_reads0 V c t
    blk_simp
    rw [after0_6, (big_writes0 t y).2.1, e0, e1, e2, e3, e4]
    exact congrFun (big_body0_change (V c main_arg0) (V c main_arg1) (V c main_arg2) (V c main_arg3) (V c main_arg4)) y
  · refine (dat0 V c).arrAt_eq_of_covers 7 _ (by decide +kernel) fun t hf y => ?_
    obtain ⟨e0, e1, e2, e3, e4⟩ := big_reads0 V c t
    blk_simp
    rw [after0_7, (big_writes0 t y).2.2.1, e0, e1, e2, e3, e4]
    exact congrFun (big_body0_mean (V c main_arg0) (V c main_arg1) (V c main_arg2) (V c main_arg3) (V c main_arg4)) y
  · refine (dat0 V c).arrAt_eq_of_covers 8 _ (by decide +kernel) fun t hf y => ?_
    obtain ⟨e0, e1, e2, e3, e4⟩ := big_reads0 V c t
    blk_simp
    rw [after0_8, (big_writes0 t y).2.2.2, e0, e1, e2, e3, e4]
    exact congrFun (big_body0_spread (V c main_arg0) (V c main_arg1) (V c main_arg2) (V c main_arg3) (V c main_arg4)) y

/-! ## The second feed-forward's other factor -/

theorem big_places1 : ∀ t : Fin cfg1.N, win1_0.index t = ![0, 0, 0] ∧ win1_1.index t = ![0, 0, 0] ∧ win1_2.index t = ![0, 0, 0] ∧ win1_3.index t = ![0, 0, 0] ∧ win1_4.index t = ![0, 0, 0] ∧ win1_5.index t = ![0, 0, 0] ∧ win1_6.index t = ![0, 0, 0] ∧ win1_7.index t = ![0, 0, 0] ∧ win1_8.index t = ![0, 0, 0] :=
  (by decide +kernel : ∀ t : Fin grid1.N, _)

theorem big_reads1 (t : Fin cfg1.N) :
    (iblk1 V c 0 t : Pages 1 352 1024) = V c main_arg5 ∧ (iblk1 V c 1 t : Pages 1 352 1024) = V c main_arg6 ∧ (iblk1 V c 2 t : Pages 1 352 1024) = V c main_arg7 ∧ (iblk1 V c 3 t : Pages 1 352 1024) = V c main_arg8 ∧ (iblk1 V c 4 t : Pages 7 352 1024) = V c main_arg9 := by
  obtain ⟨h0, h1, h2, h3, h4, -⟩ := big_places1 t
  refine ⟨?_, ?_, ?_, ?_, ?_⟩ <;> funext y <;> obtain ⟨z, p, l, rfl⟩ := three y
  exacts [by blk_ext [iblk1, h0], by blk_ext [iblk1, h1], by blk_ext [iblk1, h2], by blk_ext [iblk1, h3], by blk_ext [iblk1, h4]]

theorem big_writes1 (t : Fin cfg1.N) (y : S1x352x1024.Idx) :
    (win1_5.blk t).view.emb y = y ∧ (win1_6.blk t).view.emb y = y ∧ (win1_7.blk t).view.emb y = y ∧ (win1_8.blk t).view.emb y = y := by
  obtain ⟨-, -, -, -, -, h5, h6, h7, h8⟩ := big_places1 t
  obtain ⟨z, p, l, rfl⟩ := three (a := 1) (b := 352) (e := 1024) y
  exact ⟨by blk_ext [h5], by blk_ext [h6], by blk_ext [h7], by blk_ext [h8]⟩

theorem big_arrays1 :
    (dat1 V c).arrAt 5 cfg1.N = summed (r := 352) (c := 1024) (V c main_arg8) (V c main_arg9)
    ∧ (dat1 V c).arrAt 6 cfg1.N = change (s := S1x352x1024) (V c main_arg5) (summed (r := 352) (c := 1024) (V c main_arg8) (V c main_arg9)) (V c main_arg6) (V c main_arg7)
    ∧ (dat1 V c).arrAt 7 cfg1.N = mean (s := S1x352x1024) (summed (r := 352) (c := 1024) (V c main_arg8) (V c main_arg9)) (V c main_arg6)
    ∧ (dat1 V c).arrAt 8 cfg1.N = spread (s := S1x352x1024) (summed (r := 352) (c := 1024) (V c main_arg8) (V c main_arg9)) (V c main_arg7) := by
  refine ⟨?_, ?_, ?_, ?_⟩
  · refine (dat1 V c).arrAt_eq_of_covers 5 _ (by decide +kernel) fun t hf y => ?_
    obtain ⟨e0, e1, e2, e3, e4⟩ := big_reads1 V c t
    blk_simp
    rw [after1_5, (big_writes1 t y).1, e0, e1, e2, e3, e4]
    exact congrFun (big_body0_sum (V c main_arg5) (V c main_arg6) (V c main_arg7) (V c main_arg8) (V c main_arg9)) y
  · refine (dat1 V c).arrAt_eq_of_covers 6 _ (by decide +kernel) fun t hf y => ?_
    obtain ⟨e0, e1, e2, e3, e4⟩ := big_reads1 V c t
    blk_simp
    rw [after1_6, (big_writes1 t y).2.1, e0, e1, e2, e3, e4]
    exact congrFun (big_body0_change (V c main_arg5) (V c main_arg6) (V c main_arg7) (V c main_arg8) (V c main_arg9)) y
  · refine (dat1 V c).arrAt_eq_of_covers 7 _ (by decide +kernel) fun t hf y => ?_
    obtain ⟨e0, e1, e2, e3, e4⟩ := big_reads1 V c t
    blk_simp
    rw [after1_7, (big_writes1 t y).2.2.1, e0, e1, e2, e3, e4]
    exact congrFun (big_body0_mean (V c main_arg5) (V c main_arg6) (V c main_arg7) (V c main_arg8) (V c main_arg9)) y
  · refine (dat1 V c).arrAt_eq_of_covers 8 _ (by decide +kernel) fun t hf y => ?_
    obtain ⟨e0, e1, e2, e3, e4⟩ := big_reads1 V c t
    blk_simp
    rw [after1_8, (big_writes1 t y).2.2.2, e0, e1, e2, e3, e4]
    exact congrFun (big_body0_spread (V c main_arg5) (V c main_arg6) (V c main_arg7) (V c main_arg8) (V c main_arg9)) y

/-! ## The second feed-forward's last product -/

theorem big_places2 : ∀ t : Fin cfg2.N, win2_0.index t = ![0, 0, 0] ∧ win2_1.index t = ![0, 0, 0] ∧ win2_2.index t = ![0, 0, 0] ∧ win2_3.index t = ![0, 0, 0] ∧ win2_4.index t = ![0, 0, 0] ∧ win2_5.index t = ![0, 0, 0] ∧ win2_6.index t = ![0, 0, 0] ∧ win2_7.index t = ![0, 0, 0] ∧ win2_8.index t = ![0, 0, 0] :=
  (by decide +kernel : ∀ t : Fin grid2.N, _)

theorem big_reads2 (t : Fin cfg2.N) :
    (iblk2 V c 0 t : Pages 1 352 1024) = V c main_arg10 ∧ (iblk2 V c 1 t : Pages 1 352 1024) = V c main_arg11 ∧ (iblk2 V c 2 t : Pages 1 352 1024) = V c main_arg12 ∧ (iblk2 V c 3 t : Pages 1 352 1024) = V c main_arg13 ∧ (iblk2 V c 4 t : Pages 7 352 1024) = V c main_arg14 := by
  obtain ⟨h0, h1, h2, h3, h4, -⟩ := big_places2 t
  refine ⟨?_, ?_, ?_, ?_, ?_⟩ <;> funext y <;> obtain ⟨z, p, l, rfl⟩ := three y
  exacts [by blk_ext [iblk2, h0], by blk_ext [iblk2, h1], by blk_ext [iblk2, h2], by blk_ext [iblk2, h3], by blk_ext [iblk2, h4]]

theorem big_writes2 (t : Fin cfg2.N) (y : S1x352x1024.Idx) :
    (win2_5.blk t).view.emb y = y ∧ (win2_6.blk t).view.emb y = y ∧ (win2_7.blk t).view.emb y = y ∧ (win2_8.blk t).view.emb y = y := by
  obtain ⟨-, -, -, -, -, h5, h6, h7, h8⟩ := big_places2 t
  obtain ⟨z, p, l, rfl⟩ := three (a := 1) (b := 352) (e := 1024) y
  exact ⟨by blk_ext [h5], by blk_ext [h6], by blk_ext [h7], by blk_ext [h8]⟩

theorem big_arrays2 :
    (dat2 V c).arrAt 5 cfg2.N = summed (r := 352) (c := 1024) (V c main_arg13) (V c main_arg14)
    ∧ (dat2 V c).arrAt 6 cfg2.N = change (s := S1x352x1024) (V c main_arg10) (summed (r := 352) (c := 1024) (V c main_arg13) (V c main_arg14)) (V c main_arg11) (V c main_arg12)
    ∧ (dat2 V c).arrAt 7 cfg2.N = mean (s := S1x352x1024) (summed (r := 352) (c := 1024) (V c main_arg13) (V c main_arg14)) (V c main_arg11)
    ∧ (dat2 V c).arrAt 8 cfg2.N = spread (s := S1x352x1024) (summed (r := 352) (c := 1024) (V c main_arg13) (V c main_arg14)) (V c main_arg12) := by
  refine ⟨?_, ?_, ?_, ?_⟩
  · refine (dat2 V c).arrAt_eq_of_covers 5 _ (by decide +kernel) fun t hf y => ?_
    obtain ⟨e0, e1, e2, e3, e4⟩ := big_reads2 V c t
    blk_simp
    rw [after2_5, (big_writes2 t y).1, e0, e1, e2, e3, e4]
    exact congrFun (big_body0_sum (V c main_arg10) (V c main_arg11) (V c main_arg12) (V c main_arg13) (V c main_arg14)) y
  · refine (dat2 V c).arrAt_eq_of_covers 6 _ (by decide +kernel) fun t hf y => ?_
    obtain ⟨e0, e1, e2, e3, e4⟩ := big_reads2 V c t
    blk_simp
    rw [after2_6, (big_writes2 t y).2.1, e0, e1, e2, e3, e4]
    exact congrFun (big_body0_change (V c main_arg10) (V c main_arg11) (V c main_arg12) (V c main_arg13) (V c main_arg14)) y
  · refine (dat2 V c).arrAt_eq_of_covers 7 _ (by decide +kernel) fun t hf y => ?_
    obtain ⟨e0, e1, e2, e3, e4⟩ := big_reads2 V c t
    blk_simp
    rw [after2_7, (big_writes2 t y).2.2.1, e0, e1, e2, e3, e4]
    exact congrFun (big_body0_mean (V c main_arg10) (V c main_arg11) (V c main_arg12) (V c main_arg13) (V c main_arg14)) y
  · refine (dat2 V c).arrAt_eq_of_covers 8 _ (by decide +kernel) fun t hf y => ?_
    obtain ⟨e0, e1, e2, e3, e4⟩ := big_reads2 V c t
    blk_simp
    rw [after2_8, (big_writes2 t y).2.2.2, e0, e1, e2, e3, e4]
    exact congrFun (big_body0_spread (V c main_arg10) (V c main_arg11) (V c main_arg12) (V c main_arg13) (V c main_arg14)) y

end Cert.Adam

end
-- ==== Proof.AdamBigB.lean ====
/- Three sharded weights' calls: what each leaves in its arrays. Each takes its arrays whole, in one step, so that a block is its array. -/
module

public import proofs.«01_k».proof.Proof.AdamBigBody

@[expose] public section

set_option maxRecDepth 16384

noncomputable section

namespace Cert.Adam

open Idealize.ShloMosaic hiding ix1 ix2 ix3 ix4
open Idealize.ShloMosaic.TcCoe Idealize.SL.Sem
open Idealize.ShloMosaic.ValueIdx Cert.Kernel7Ideal Cert.Kernel7Ideal.Gen
open Cert.Ffn (three)

variable (V : (c : Dev nD) → (b : Ref sig .tc) → Buf (Elt Ideal) ((c : Thread nD τ).loc b)) (c : Dev nD)

/-! ## The first branch's projection -/

theorem big_places3 : ∀ t : Fin cfg3.N, win3_0.index t = ![0, 0, 0] ∧ win3_1.index t = ![0, 0, 0] ∧ win3_2.index t = ![0, 0, 0] ∧ win3_3.index t = ![0, 0, 0] ∧ win3_4.index t = ![0, 0, 0] ∧ win3_5.index t = ![0, 0, 0] ∧ win3_6.index t = ![0, 0, 0] ∧ win3_7.index t = ![0, 0, 0] ∧ win3_8.index t = ![0, 0, 0] :=
  (by decide +kernel : ∀ t : Fin grid3.N, _)

theorem big_reads3 (t : Fin cfg3.N) :
    (iblk3 V c 0 t : Pages 1 256 128) = V c main_arg15 ∧ (iblk3 V c 1 t : Pages 1 256 128) = V c main_arg16 ∧ (iblk3 V c 2 t : Pages 1 256 128) = V c main_arg17 ∧ (iblk3 V c 3 t : Pages 1 256 128) = V c main_arg18 ∧ (iblk3 V c 4 t : Pages 7 256 128) = V c main_arg19 := by
  obtain ⟨h0, h1, h2, h3, h4, -⟩ := big_places3 t
  refine ⟨?_, ?_, ?_, ?_, ?_⟩ <;> funext y <;> obtain ⟨z, p, l, rfl⟩ := three y
  exacts [by blk_ext [iblk3, h0], by blk_ext [iblk3, h1], by blk_ext [iblk3, h2], by blk_ext [iblk3, h3], by blk_ext [iblk3, h4]]

theorem big_writes3 (t : Fin cfg3.N) (y : S1x256x128.Idx) :
    (win3_5.blk t).view.emb y = y ∧ (win3_6.blk t).view.emb y = y ∧ (win3_7.blk t).view.emb y = y ∧ (win3_8.blk t).view.emb y = y := by
  obtain ⟨-, -, -, -, -, h5, h6, h7, h8⟩ := big_places3 t
  obtain ⟨z, p, l, rfl⟩ := three (a := 1) (b := 256) (e := 128) y
  exact ⟨by blk_ext [h5], by blk_ext [h6], by blk_ext [h7], by blk_ext [h8]⟩

theorem big_arrays3 :
    (dat3 V c).arrAt 5 cfg3.N = summed (r := 256) (c := 128) (V c main_arg18) (V c main_arg19)
    ∧ (dat3 V c).arrAt 6 cfg3.N = change (s := S1x256x128) (V c main_arg15) (summed (r := 256) (c := 128) (V c main_arg18) (V c main_arg19)) (V c main_arg16) (V c main_arg17)
    ∧ (dat3 V c).arrAt 7 cfg3.N = mean (s := S1x256x128) (summed (r := 256) (c := 128) (V c main_arg18) (V c main_arg19)) (V c main_arg16)
    ∧ (dat3 V c).arrAt 8 cfg3.N = spread (s := S1x256x128) (summed (r := 256) (c := 128) (V c main_arg18) (V c main_arg19)) (V c main_arg17) := by
  refine ⟨?_, ?_, ?_, ?_⟩
  · refine (dat3 V c).arrAt_eq_of_covers 5 _ (by decide +kernel) fun t hf y => ?_
    obtain ⟨e0, e1, e2, e3, e4⟩ := big_reads3 V c t
    blk_simp
    rw [after3_5, (big_writes3 t y).1, e0, e1, e2, e3, e4]
    exact congrFun (big_body3_sum (V c main_arg15) (V c main_arg16) (V c main_arg17) (V c main_arg18) (V c main_arg19)) y
  · refine (dat3 V c).arrAt_eq_of_covers 6 _ (by decide +kernel) fun t hf y => ?_
    obtain ⟨e0, e1, e2, e3, e4⟩ := big_reads3 V c t
    blk_simp
    rw [after3_6, (big_writes3 t y).2.1, e0, e1, e2, e3, e4]
    exact congrFun (big_body3_change (V c main_arg15) (V c main_arg16) (V c main_arg17) (V c main_arg18) (V c main_arg19)) y
  · refine (dat3 V c).arrAt_eq_of_covers 7 _ (by decide +kernel) fun t hf y => ?_
    obtain ⟨e0, e1, e2, e3, e4⟩ := big_reads3 V c t
    blk_simp
    rw [after3_7, (big_writes3 t y).2.2.1, e0, e1, e2, e3, e4]
    exact congrFun (big_body3_mean (V c main_arg15) (V c main_arg16) (V c main_arg17) (V c main_arg18) (V c main_arg19)) y
  · refine (dat3 V c).arrAt_eq_of_covers 8 _ (by decide +kernel) fun t hf y => ?_
    obtain ⟨e0, e1, e2, e3, e4⟩ := big_reads3 V c t
    blk_simp
    rw [after3_8, (big_writes3 t y).2.2.2, e0, e1, e2, e3, e4]
    exact congrFun (big_body3_spread (V c main_arg15) (V c main_arg16) (V c main_arg17) (V c main_arg18) (V c main_arg19)) y

/-! ## The second branch's projection -/

theorem big_places4 : ∀ t : Fin cfg4.N, win4_0.index t = ![0, 0, 0] ∧ win4_1.index t = ![0, 0, 0] ∧ win4_2.index t = ![0, 0, 0] ∧ win4_3.index t = ![0, 0, 0] ∧ win4_4.index t = ![0, 0, 0] ∧ win4_5.index t = ![0, 0, 0] ∧ win4_6.index t = ![0, 0, 0] ∧ win4_7.index t = ![0, 0, 0] ∧ win4_8.index t = ![0, 0, 0] :=
  (by decide +kernel : ∀ t : Fin grid4.N, _)

theorem big_reads4 (t : Fin cfg4.N) :
    (iblk4 V c 0 t : Pages 1 128 1024) = V c main_arg20 ∧ (iblk4 V c 1 t : Pages 1 128 1024) = V c main_arg21 ∧ (iblk4 V c 2 t : Pages 1 128 1024) = V c main_arg22 ∧ (iblk4 V c 3 t : Pages 1 128 1024) = V c main_arg23 ∧ (iblk4 V c 4 t : Pages 7 128 1024) = V c main_arg24 := by
  obtain ⟨h0, h1, h2, h3, h4, -⟩ := big_places4 t
  refine ⟨?_, ?_, ?_, ?_, ?_⟩ <;> funext y <;> obtain ⟨z, p, l, rfl⟩ := three y
  exacts [by blk_ext [iblk4, h0], by blk_ext [iblk4, h1], by blk_ext [iblk4, h2], by blk_ext [iblk4, h3], by blk_ext [iblk4, h4]]

theorem big_writes4 (t : Fin cfg4.N) (y : S1x128x1024.Idx) :
    (win4_5.blk t).view.emb y = y ∧ (win4_6.blk t).view.emb y = y ∧ (win4_7.blk t).view.emb y = y ∧ (win4_8.blk t).view.emb y = y := by
  obtain ⟨-, -, -, -, -, h5, h6, h7, h8⟩ := big_places4 t
  obtain ⟨z, p, l, rfl⟩ := three (a := 1) (b := 128) (e := 1024) y
  exact ⟨by blk_ext [h5], by blk_ext [h6], by blk_ext [h7], by blk_ext [h8]⟩

theorem big_arrays4 :
    (dat4 V c).arrAt 5 cfg4.N = summed (r := 128) (c := 1024) (V c main_arg23) (V c main_arg24)
    ∧ (dat4 V c).arrAt 6 cfg4.N = change (s := S1x128x1024) (V c main_arg20) (summed (r := 128) (c := 1024) (V c main_arg23) (V c main_arg24)) (V c main_arg21) (V c main_arg22)
    ∧ (dat4 V c).arrAt 7 cfg4.N = mean (s := S1x128x1024) (summed (r := 128) (c := 1024) (V c main_arg23) (V c main_arg24)) (V c main_arg21)
    ∧ (dat4 V c).arrAt 8 cfg4.N = spread (s := S1x128x1024) (summed (r := 128) (c := 1024) (V c main_arg23) (V c main_arg24)) (V c main_arg22) := by
  refine ⟨?_, ?_, ?_, ?_⟩
  · refine (dat4 V c).arrAt_eq_of_covers 5 _ (by decide +kernel) fun t hf y => ?_
    obtain ⟨e0, e1, e2, e3, e4⟩ := big_reads4 V c t
    blk_simp
    rw [after4_5, (big_writes4 t y).1, e0, e1, e2, e3, e4]
    exact congrFun (big_body4_sum (V c main_arg20) (V c main_arg21) (V c main_arg22) (V c main_arg23) (V c main_arg24)) y
  · refine (dat4 V c).arrAt_eq_of_covers 6 _ (by decide +kernel) fun t hf y => ?_
    obtain ⟨e0, e1, e2, e3, e4⟩ := big_reads4 V c t
    blk_simp
    rw [after4_6, (big_writes4 t y).2.1, e0, e1, e2, e3, e4]
    exact congrFun (big_body4_change (V c main_arg20) (V c main_arg21) (V c main_arg22) (V c main_arg23) (V c main_arg24)) y
  · refine (dat4 V c).arrAt_eq_of_covers 7 _ (by decide +kernel) fun t hf y => ?_
    obtain ⟨e0, e1, e2, e3, e4⟩ := big_reads4 V c t
    blk_simp
    rw [after4_7, (big_writes4 t y).2.2.1, e0, e1, e2, e3, e4]
    exact congrFun (big_body4_mean (V c main_arg20) (V c main_arg21) (V c main_arg22) (V c main_arg23) (V c main_arg24)) y
  · refine (dat4 V c).arrAt_eq_of_covers 8 _ (by decide +kernel) fun t hf y => ?_
    obtain ⟨e0, e1, e2, e3, e4⟩ := big_reads4 V c t
    blk_simp
    rw [after4_8, (big_writes4 t y).2.2.2, e0, e1, e2, e3, e4]
    exact congrFun (big_body4_spread (V c main_arg20) (V c main_arg21) (V c main_arg22) (V c main_arg23) (V c main_arg24)) y

/-! ## The output projection -/

theorem big_places5 : ∀ t : Fin cfg5.N, win5_0.index t = ![0, 0, 0] ∧ win5_1.index t = ![0, 0, 0] ∧ win5_2.index t = ![0, 0, 0] ∧ win5_3.index t = ![0, 0, 0] ∧ win5_4.index t = ![0, 0, 0] ∧ win5_5.index t = ![0, 0, 0] ∧ win5_6.index t = ![0, 0, 0] ∧ win5_7.index t = ![0, 0, 0] ∧ win5_8.index t = ![0, 0, 0] :=
  (by decide +kernel : ∀ t : Fin grid5.N, _)

theorem big_reads5 (t : Fin cfg5.N) :
    (iblk5 V c 0 t : Pages 1 128 1024) = V c main_arg25 ∧ (iblk5 V c 1 t : Pages 1 128 1024) = V c main_arg26 ∧ (iblk5 V c 2 t : Pages 1 128 1024) = V c main_arg27 ∧ (iblk5 V c 3 t : Pages 1 128 1024) = V c main_arg28 ∧ (iblk5 V c 4 t : Pages 7 128 1024) = V c main_arg29 := by
  obtain ⟨h0, h1, h2, h3, h4, -⟩ := big_places5 t
  refine ⟨?_, ?_, ?_, ?_, ?_⟩ <;> funext y <;> obtain ⟨z, p, l, rfl⟩ := three y
  exacts [by blk_ext [iblk5, h0], by blk_ext [iblk5, h1], by blk_ext [iblk5, h2], by blk_ext [iblk5, h3], by blk_ext [iblk5, h4]]

theorem big_writes5 (t : Fin cfg5.N) (y : S1x128x1024.Idx) :
    (win5_5.blk t).view.emb y = y ∧ (win5_6.blk t).view.emb y = y ∧ (win5_7.blk t).view.emb y = y ∧ (win5_8.blk t).view.emb y = y := by
  obtain ⟨-, -, -, -, -, h5, h6, h7, h8⟩ := big_places5 t
  obtain ⟨z, p, l, rfl⟩ := three (a := 1) (b := 128) (e := 1024) y
  exact ⟨by blk_ext [h5], by blk_ext [h6], by blk_ext [h7], by blk_ext [h8]⟩

theorem big_arrays5 :
    (dat5 V c).arrAt 5 cfg5.N = summed (r := 128) (c := 1024) (V c main_arg28) (V c main_arg29)
    ∧ (dat5 V c).arrAt 6 cfg5.N = change (s := S1x128x1024) (V c main_arg25) (summed (r := 128) (c := 1024) (V c main_arg28) (V c main_arg29)) (V c main_arg26) (V c main_arg27)
    ∧ (dat5 V c).arrAt 7 cfg5.N = mean (s := S1x128x1024) (summed (r := 128) (c := 1024) (V c main_arg28) (V c main_arg29)) (V c main_arg26)
    ∧ (dat5 V c).arrAt 8 cfg5.N = spread (s := S1x128x1024) (summed (r := 128) (c := 1024) (V c main_arg28) (V c main_arg29)) (V c main_arg27) := by
  refine ⟨?_, ?_, ?_, ?_⟩
  · refine (dat5 V c).arrAt_eq_of_covers 5 _ (by decide +kernel) fun t hf y => ?_
    obtain ⟨e0, e1, e2, e3, e4⟩ := big_reads5 V c t
    blk_simp
    rw [after5_5, (big_writes5 t y).1, e0, e1, e2, e3, e4]
    exact congrFun (big_body4_sum (V c main_arg25) (V c main_arg26) (V c main_arg27) (V c main_arg28) (V c main_arg29)) y
  · refine (dat5 V c).arrAt_eq_of_covers 6 _ (by decide +kernel) fun t hf y => ?_
    obtain ⟨e0, e1, e2, e3, e4⟩ := big_reads5 V c t
    blk_simp
    rw [after5_6, (big_writes5 t y).2.1, e0, e1, e2, e3, e4]
    exact congrFun (big_body4_change (V c main_arg25) (V c main_arg26) (V c main_arg27) (V c main_arg28) (V c main_arg29)) y
  · refine (dat5 V c).arrAt_eq_of_covers 7 _ (by decide +kernel) fun t hf y => ?_
    obtain ⟨e0, e1, e2, e3, e4⟩ := big_reads5 V c t
    blk_simp
    rw [after5_7, (big_writes5 t y).2.2.1, e0, e1, e2, e3, e4]
    exact congrFun (big_body4_mean (V c main_arg25) (V c main_arg26) (V c main_arg27) (V c main_arg28) (V c main_arg29)) y
  · refine (dat5 V c).arrAt_eq_of_covers 8 _ (by decide +kernel) fun t hf y => ?_
    obtain ⟨e0, e1, e2, e3, e4⟩ := big_reads5 V c t
    blk_simp
    rw [after5_8, (big_writes5 t y).2.2.2, e0, e1, e2, e3, e4]
    exact congrFun (big_body4_spread (V c main_arg25) (V c main_arg26) (V c main_arg27) (V c main_arg28) (V c main_arg29)) y

end Cert.Adam

end
-- ==== Proof.AdamBigChain.lean ====
/- The sharded weights' optimiser: the results, from the arguments. -/
module

public import proofs.«01_k».proof.Proof.AdamBigA
public import proofs.«01_k».proof.Proof.AdamBigB

@[expose] public section

set_option maxRecDepth 16384

noncomputable section

namespace Cert.Adam

open Idealize.ShloMosaic hiding ix1 ix2 ix3 ix4
open Idealize.ShloMosaic.TcCoe Idealize.SL.Sem
open Cert.Kernel7Ideal Cert.Kernel7Ideal.Gen

variable (m : (ℓ : Loc nD τ sig) → Buf (Elt Ideal) ℓ) (ρ : Dev nD → PrngReg) (c : Dev nD)

/-! ## What no later call writes -/

abbrev big_past5 (b : Ref sig .tc) : Prop := (∀ w : Fin cfg5.W, Pipeline.arrRef spec5 w = b → (cfg5.win w).isOut = false)
theorem big_kept5 (b : Ref sig .tc) (h : big_past5 b) : W6 m ρ c (Proc.devRef .tc b) = W5 m ρ c (Proc.devRef .tc b) :=
  W6_of m ρ c b h

abbrev big_past4 (b : Ref sig .tc) : Prop := (∀ w : Fin cfg4.W, Pipeline.arrRef spec4 w = b → (cfg4.win w).isOut = false) ∧ big_past5 b
theorem big_kept4 (b : Ref sig .tc) (h : big_past4 b) : W6 m ρ c (Proc.devRef .tc b) = W4 m ρ c (Proc.devRef .tc b) :=
  (big_kept5 m ρ c b h.2).trans (W5_of m ρ c b h.1)

abbrev big_past3 (b : Ref sig .tc) : Prop := (∀ w : Fin cfg3.W, Pipeline.arrRef spec3 w = b → (cfg3.win w).isOut = false) ∧ big_past4 b
theorem big_kept3 (b : Ref sig .tc) (h : big_past3 b) : W6 m ρ c (Proc.devRef .tc b) = W3 m ρ c (Proc.devRef .tc b) :=
  (big_kept4 m ρ c b h.2).trans (W4_of m ρ c b h.1)

abbrev big_past2 (b : Ref sig .tc) : Prop := (∀ w : Fin cfg2.W, Pipeline.arrRef spec2 w = b → (cfg2.win w).isOut = false) ∧ big_past3 b
theorem big_kept2 (b : Ref sig .tc) (h : big_past2 b) : W6 m ρ c (Proc.devRef .tc b) = W2 m ρ c (Proc.devRef .tc b) :=
  (big_kept3 m ρ c b h.2).trans (W3_of m ρ c b h.1)

abbrev big_past1 (b : Ref sig .tc) : Prop := (∀ w : Fin cfg1.W, Pipeline.arrRef spec1 w = b → (cfg1.win w).isOut = false) ∧ big_past2 b
theorem big_kept1 (b : Ref sig .tc) (h : big_past1 b) : W6 m ρ c (Proc.devRef .tc b) = W1 m ρ c (Proc.devRef .tc b) :=
  (big_kept2 m ρ c b h.2).trans (W2_of m ρ c b h.1)

/-! ## The results -/

/-- The second feed-forward's gate. -/
theorem big_results0 :
    W6 m ρ c (Proc.devRef .tc main_v0_0) = summed (r := 352) (c := 1024) (m ((c : Thread nD τ).loc main_arg3)) (m ((c : Thread nD τ).loc main_arg4))
    ∧ W6 m ρ c (Proc.devRef .tc main_v0_1) = change (s := S1x352x1024) (m ((c : Thread nD τ).loc main_arg0))
      (summed (r := 352) (c := 1024) (m ((c : Thread nD τ).loc main_arg3)) (m ((c : Thread nD τ).loc main_arg4))) (m ((c : Thread nD τ).loc main_arg1)) (m ((c : Thread nD τ).loc main_arg2))
    ∧ W6 m ρ c (Proc.devRef .tc main_v0_2) = mean (s := S1x352x1024) (summed (r := 352) (c := 1024) (m ((c : Thread nD τ).loc main_arg3)) (m ((c : Thread nD τ).loc main_arg4)))
      (m ((c : Thread nD τ).loc main_arg1))
    ∧ W6 m ρ c (Proc.devRef .tc main_v0_3) = spread (s := S1x352x1024) (summed (r := 352) (c := 1024) (m ((c : Thread nD τ).loc main_arg3)) (m ((c : Thread nD τ).loc main_arg4)))
      (m ((c : Thread nD τ).loc main_arg2)) := by
  obtain ⟨e5, e6, e7, e8⟩ := big_arrays0 (V0 m ρ) c
  have a : ∀ b ∈ argRefs, V0 m ρ c b = m ((c : Thread nD τ).loc b) := W0_args m ρ c
  rw [a main_arg3 (by decide), a main_arg4 (by decide)] at e5
  rw [a main_arg0 (by decide), a main_arg1 (by decide), a main_arg2 (by decide), a main_arg3 (by decide), a main_arg4 (by decide)] at e6
  rw [a main_arg1 (by decide), a main_arg3 (by decide), a main_arg4 (by decide)] at e7
  rw [a main_arg2 (by decide), a main_arg3 (by decide), a main_arg4 (by decide)] at e8
  exact ⟨(big_kept1 m ρ c main_v0_0 (by decide)).trans ((W1_arr m ρ c 5).trans e5),
    (big_kept1 m ρ c main_v0_1 (by decide)).trans ((W1_arr m ρ c 6).trans e6),
    (big_kept1 m ρ c main_v0_2 (by decide)).trans ((W1_arr m ρ c 7).trans e7),
    (big_kept1 m ρ c main_v0_3 (by decide)).trans ((W1_arr m ρ c 8).trans e8)⟩

/-- The second feed-forward's other factor. -/
theorem big_results1 :
    W6 m ρ c (Proc.devRef .tc main_v1_0) = summed (r := 352) (c := 1024) (m ((c : Thread nD τ).loc main_arg8)) (m ((c : Thread nD τ).loc main_arg9))
    ∧ W6 m ρ c (Proc.devRef .tc main_v1_1) = change (s := S1x352x1024) (m ((c : Thread nD τ).loc main_arg5))
      (summed (r := 352) (c := 1024) (m ((c : Thread nD τ).loc main_arg8)) (m ((c : Thread nD τ).loc main_arg9))) (m ((c : Thread nD τ).loc main_arg6)) (m ((c : Thread nD τ).loc main_arg7))
    ∧ W6 m ρ c (Proc.devRef .tc main_v1_2) = mean (s := S1x352x1024) (summed (r := 352) (c := 1024) (m ((c : Thread nD τ).loc main_arg8)) (m ((c : Thread nD τ).loc main_arg9)))
      (m ((c : Thread nD τ).loc main_arg6))
    ∧ W6 m ρ c (Proc.devRef .tc main_v1_3) = spread (s := S1x352x1024) (summed (r := 352) (c := 1024) (m ((c : Thread nD τ).loc main_arg8)) (m ((c : Thread nD τ).loc main_arg9)))
      (m ((c : Thread nD τ).loc main_arg7)) := by
  obtain ⟨e5, e6, e7, e8⟩ := big_arrays1 (V1 m ρ) c
  have a : ∀ b ∈ argRefs, V1 m ρ c b = m ((c : Thread nD τ).loc b) := W1_args m ρ c
  rw [a main_arg8 (by decide), a main_arg9 (by decide)] at e5
  rw [a main_arg5 (by decide), a main_arg6 (by decide), a main_arg7 (by decide), a main_arg8 (by decide), a main_arg9 (by decide)] at e6
  rw [a main_arg6 (by decide), a main_arg8 (by decide), a main_arg9 (by decide)] at e7
  rw [a main_arg7 (by decide), a main_arg8 (by decide), a main_arg9 (by decide)] at e8
  exact ⟨(big_kept2 m ρ c main_v1_0 (by decide)).trans ((W2_arr m ρ c 5).trans e5),
    (big_kept2 m ρ c main_v1_1 (by decide)).trans ((W2_arr m ρ c 6).trans e6),
    (big_kept2 m ρ c main_v1_2 (by decide)).trans ((W2_arr m ρ c 7).trans e7),
    (big_kept2 m ρ c main_v1_3 (by decide)).trans ((W2_arr m ρ c 8).trans e8)⟩

/-- The second feed-forward's last product. -/
theorem big_results2 :
    W6 m ρ c (Proc.devRef .tc main_v2_0) = summed (r := 352) (c := 1024) (m ((c : Thread nD τ).loc main_arg13)) (m ((c : Thread nD τ).loc main_arg14))
    ∧ W6 m ρ c (Proc.devRef .tc main_v2_1) = change (s := S1x352x1024) (m ((c : Thread nD τ).loc main_arg10))
      (summed (r := 352) (c := 1024) (m ((c : Thread nD τ).loc main_arg13)) (m ((c : Thread nD τ).loc main_arg14))) (m ((c : Thread nD τ).loc main_arg11)) (m ((c : Thread nD τ).loc main_arg12))
    ∧ W6 m ρ c (Proc.devRef .tc main_v2_2) = mean (s := S1x352x1024) (summed (r := 352) (c := 1024) (m ((c : Thread nD τ).loc main_arg13)) (m ((c : Thread nD τ).loc main_arg14)))
      (m ((c : Thread nD τ).loc main_arg11))
    ∧ W6 m ρ c (Proc.devRef .tc main_v2_3) = spread (s := S1x352x1024) (summed (r := 352) (c := 1024) (m ((c : Thread nD τ).loc main_arg13)) (m ((c : Thread nD τ).loc main_arg14)))
      (m ((c : Thread nD τ).loc main_arg12)) := by
  obtain ⟨e5, e6, e7, e8⟩ := big_arrays2 (V2 m ρ) c
  have a : ∀ b ∈ argRefs, V2 m ρ c b = m ((c : Thread nD τ).loc b) := W2_args m ρ c
  rw [a main_arg13 (by decide), a main_arg14 (by decide)] at e5
  rw [a main_arg10 (by decide), a main_arg11 (by decide), a main_arg12 (by decide), a main_arg13 (by decide), a main_arg14 (by decide)] at e6
  rw [a main_arg11 (by decide), a main_arg13 (by decide), a main_arg14 (by decide)] at e7
  rw [a main_arg12 (by decide), a main_arg13 (by decide), a main_arg14 (by decide)] at e8
  exact ⟨(big_kept3 m ρ c main_v2_0 (by decide)).trans ((W3_arr m ρ c 5).trans e5),
    (big_kept3 m ρ c main_v2_1 (by decide)).trans ((W3_arr m ρ c 6).trans e6),
    (big_kept3 m ρ c main_v2_2 (by decide)).trans ((W3_arr m ρ c 7).trans e7),
    (big_kept3 m ρ c main_v2_3 (by decide)).trans ((W3_arr m ρ c 8).trans e8)⟩

/-- The first branch's projection. -/
theorem big_results3 :
    W6 m ρ c (Proc.devRef .tc main_v3_0) = summed (r := 256) (c := 128) (m ((c : Thread nD τ).loc main_arg18)) (m ((c : Thread nD τ).loc main_arg19))
    ∧ W6 m ρ c (Proc.devRef .tc main_v3_1) = change (s := S1x256x128) (m ((c : Thread nD τ).loc main_arg15))
      (summed (r := 256) (c := 128) (m ((c : Thread nD τ).loc main_arg18)) (m ((c : Thread nD τ).loc main_arg19))) (m ((c : Thread nD τ).loc main_arg16)) (m ((c : Thread nD τ).loc main_arg17))
    ∧ W6 m ρ c (Proc.devRef .tc main_v3_2) = mean (s := S1x256x128) (summed (r := 256) (c := 128) (m ((c : Thread nD τ).loc main_arg18)) (m ((c : Thread nD τ).loc main_arg19)))
      (m ((c : Thread nD τ).loc main_arg16))
    ∧ W6 m ρ c (Proc.devRef .tc main_v3_3) = spread (s := S1x256x128) (summed (r := 256) (c := 128) (m ((c : Thread nD τ).loc main_arg18)) (m ((c : Thread nD τ).loc main_arg19)))
      (m ((c : Thread nD τ).loc main_arg17)) := by
  obtain ⟨e5, e6, e7, e8⟩ := big_arrays3 (V3 m ρ) c
  have a : ∀ b ∈ argRefs, V3 m ρ c b = m ((c : Thread nD τ).loc b) := W3_args m ρ c
  rw [a main_arg18 (by decide), a main_arg19 (by decide)] at e5
  rw [a main_arg15 (by decide), a main_arg16 (by decide), a main_arg17 (by decide), a main_arg18 (by decide), a main_arg19 (by decide)] at e6
  rw [a main_arg16 (by decide), a main_arg18 (by decide), a main_arg19 (by decide)] at e7
  rw [a main_arg17 (by decide), a main_arg18 (by decide), a main_arg19 (by decide)] at e8
  exact ⟨(big_kept4 m ρ c main_v3_0 (by decide)).trans ((W4_arr m ρ c 5).trans e5),
    (big_kept4 m ρ c main_v3_1 (by decide)).trans ((W4_arr m ρ c 6).trans e6),
    (big_kept4 m ρ c main_v3_2 (by decide)).trans ((W4_arr m ρ c 7).trans e7),
    (big_kept4 m ρ c main_v3_3 (by decide)).trans ((W4_arr m ρ c 8).trans e8)⟩

/-- The second branch's projection. -/
theorem big_results4 :
    W6 m ρ c (Proc.devRef .tc main_v4_0) = summed (r := 128) (c := 1024) (m ((c : Thread nD τ).loc main_arg23)) (m ((c : Thread nD τ).loc main_arg24))
    ∧ W6 m ρ c (Proc.devRef .tc main_v4_1) = change (s := S1x128x1024) (m ((c : Thread nD τ).loc main_arg20))
      (summed (r := 128) (c := 1024) (m ((c : Thread nD τ).loc main_arg23)) (m ((c : Thread nD τ).loc main_arg24))) (m ((c : Thread nD τ).loc main_arg21)) (m ((c : Thread nD τ).loc main_arg22))
    ∧ W6 m ρ c (Proc.devRef .tc main_v4_2) = mean (s := S1x128x1024) (summed (r := 128) (c := 1024) (m ((c : Thread nD τ).loc main_arg23)) (m ((c : Thread nD τ).loc main_arg24)))
      (m ((c : Thread nD τ).loc main_arg21))
    ∧ W6 m ρ c (Proc.devRef .tc main_v4_3) = spread (s := S1x128x1024) (summed (r := 128) (c := 1024) (m ((c : Thread nD τ).loc main_arg23)) (m ((c : Thread nD τ).loc main_arg24)))
      (m ((c : Thread nD τ).loc main_arg22)) := by
  obtain ⟨e5, e6, e7, e8⟩ := big_arrays4 (V4 m ρ) c
  have a : ∀ b ∈ argRefs, V4 m ρ c b = m ((c : Thread nD τ).loc b) := W4_args m ρ c
  rw [a main_arg23 (by decide), a main_arg24 (by decide)] at e5
  rw [a main_arg20 (by decide), a main_arg21 (by decide), a main_arg22 (by decide), a main_arg23 (by decide), a main_arg24 (by decide)] at e6
  rw [a main_arg21 (by decide), a main_arg23 (by decide), a main_arg24 (by decide)] at e7
  rw [a main_arg22 (by decide), a main_arg23 (by decide), a main_arg24 (by decide)] at e8
  exact ⟨(big_kept5 m ρ c main_v4_0 (by decide)).trans ((W5_arr m ρ c 5).trans e5),
    (big_kept5 m ρ c main_v4_1 (by decide)).trans ((W5_arr m ρ c 6).trans e6),
    (big_kept5 m ρ c main_v4_2 (by decide)).trans ((W5_arr m ρ c 7).trans e7),
    (big_kept5 m ρ c main_v4_3 (by decide)).trans ((W5_arr m ρ c 8).trans e8)⟩

/-- The output projection. -/
theorem big_results5 :
    W6 m ρ c (Proc.devRef .tc main_v5_0) = summed (r := 128) (c := 1024) (m ((c : Thread nD τ).loc main_arg28)) (m ((c : Thread nD τ).loc main_arg29))
    ∧ W6 m ρ c (Proc.devRef .tc main_v5_1) = change (s := S1x128x1024) (m ((c : Thread nD τ).loc main_arg25))
      (summed (r := 128) (c := 1024) (m ((c : Thread nD τ).loc main_arg28)) (m ((c : Thread nD τ).loc main_arg29))) (m ((c : Thread nD τ).loc main_arg26)) (m ((c : Thread nD τ).loc main_arg27))
    ∧ W6 m ρ c (Proc.devRef .tc main_v5_2) = mean (s := S1x128x1024) (summed (r := 128) (c := 1024) (m ((c : Thread nD τ).loc main_arg28)) (m ((c : Thread nD τ).loc main_arg29)))
      (m ((c : Thread nD τ).loc main_arg26))
    ∧ W6 m ρ c (Proc.devRef .tc main_v5_3) = spread (s := S1x128x1024) (summed (r := 128) (c := 1024) (m ((c : Thread nD τ).loc main_arg28)) (m ((c : Thread nD τ).loc main_arg29)))
      (m ((c : Thread nD τ).loc main_arg27)) := by
  obtain ⟨e5, e6, e7, e8⟩ := big_arrays5 (V5 m ρ) c
  have a : ∀ b ∈ argRefs, V5 m ρ c b = m ((c : Thread nD τ).loc b) := W5_args m ρ c
  rw [a main_arg28 (by decide), a main_arg29 (by decide)] at e5
  rw [a main_arg25 (by decide), a main_arg26 (by decide), a main_arg27 (by decide), a main_arg28 (by decide), a main_arg29 (by decide)] at e6
  rw [a main_arg26 (by decide), a main_arg28 (by decide), a main_arg29 (by decide)] at e7
  rw [a main_arg27 (by decide), a main_arg28 (by decide), a main_arg29 (by decide)] at e8
  exact ⟨(W6_arr m ρ c 5).trans e5,
    (W6_arr m ρ c 6).trans e6,
    (W6_arr m ρ c 7).trans e7,
    (W6_arr m ρ c 8).trans e8⟩

end Cert.Adam

end
-- ==== Proof.AdamBigRun.lean ====
/- The sharded weights' optimiser: the run's buffers are what the last call leaves. -/
module

public import proofs.«01_k».proof.Proof.Gen.Kernel7Ideal.Frame

@[expose] public section

set_option maxRecDepth 16384

noncomputable section

namespace Cert.Adam

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unfolding plain definitions
set_option backward.isDefEq.respectTransparency.types false in
/-- Every run ends with every unscoped buffer at what the last call leaves. -/
theorem big_run_results : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W6 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h _ c b hb => h c _ (mem_uc b hb))

end Cert.Adam

end
-- ==== Proof.AdamBigRef.lean ====
/- What the reference computes of the sharded weights: each line is its formula. Shards of one shape are computed alike. -/
module

public import proofs.«01_k».proof.Proof.AdamSum
public import proofs.«01_k».proof.Proof.Gen.Reference7Ideal.Read

@[expose] public section

set_option maxRecDepth 16384

noncomputable section

namespace Cert.Adam

open Idealize.ShloMosaic hiding ix1 ix2 ix3 ix4
open Idealize.ShloMosaic.ValueIdx
open Cert.Reference7Ideal Cert.Reference7Ideal.Gen Cert.Reference7Ideal.Read

/-- A sum begun at zero. -/
theorem begun_at_zero {a b : EReal} (h : a = b) : Ideal.ofBits .f32 0x00000000#32 + a = b := by
  rw [Ideal.ofBits_zero_f32, zero_add, h]

theorem big_ref0_sum (own : Pages 1 352 1024) (received : Pages 7 352 1024) : val_main_v3 (F := Ideal) own received = summed (r := 352) (c := 1024) own received := by
  funext i
  rw [val_main_v3_apply, val_main_v2_apply, val_main_v1_apply]
  refine congrArg₂ (fun a b : EReal => a + b) rfl (begun_at_zero (Finset.sum_congr rfl fun j _ => congrArg received (funext fun a => ?_)))
  match a with
  | 0 => rfl
  | 1 => rfl
  | 2 => rfl

theorem big_ref0_change (w m v own : Pages 1 352 1024) (received : Pages 7 352 1024) :
    val_main_v27 (F := Ideal) w m v own received = change (s := S1x352x1024) w (summed (r := 352) (c := 1024) own received) m v := by
  rw [← big_ref0_sum]
  rfl

theorem big_ref0_mean (m own : Pages 1 352 1024) (received : Pages 7 352 1024) :
    val_main_v8 (F := Ideal) m own received = mean (s := S1x352x1024) (summed (r := 352) (c := 1024) own received) m := by
  rw [← big_ref0_sum]
  rfl

theorem big_ref0_spread (v own : Pages 1 352 1024) (received : Pages 7 352 1024) :
    val_main_v14 (F := Ideal) v own received = spread (s := S1x352x1024) (summed (r := 352) (c := 1024) own received) v := by
  rw [← big_ref0_sum]
  rfl

theorem big_ref1_sum (own : Pages 1 352 1024) (received : Pages 7 352 1024) :
    val_main_v31 (F := Ideal) own received = summed (r := 352) (c := 1024) own received := big_ref0_sum own received
theorem big_ref1_change (w m v own : Pages 1 352 1024) (received : Pages 7 352 1024) :
    val_main_v55 (F := Ideal) w m v own received = change (s := S1x352x1024) w (summed (r := 352) (c := 1024) own received) m v := big_ref0_change w m v own received
theorem big_ref1_mean (m own : Pages 1 352 1024) (received : Pages 7 352 1024) :
    val_main_v36 (F := Ideal) m own received = mean (s := S1x352x1024) (summed (r := 352) (c := 1024) own received) m := big_ref0_mean m own received
theorem big_ref1_spread (v own : Pages 1 352 1024) (received : Pages 7 352 1024) :
    val_main_v42 (F := Ideal) v own received = spread (s := S1x352x1024) (summed (r := 352) (c := 1024) own received) v := big_ref0_spread v own received

theorem big_ref2_sum (own : Pages 1 352 1024) (received : Pages 7 352 1024) :
    val_main_v59 (F := Ideal) own received = summed (r := 352) (c := 1024) own received := big_ref0_sum own received
theorem big_ref2_change (w m v own : Pages 1 352 1024) (received : Pages 7 352 1024) :
    val_main_v83 (F := Ideal) w m v own received = change (s := S1x352x1024) w (summed (r := 352) (c := 1024) own received) m v := big_ref0_change w m v own received
theorem big_ref2_mean (m own : Pages 1 352 1024) (received : Pages 7 352 1024) :
    val_main_v64 (F := Ideal) m own received = mean (s := S1x352x1024) (summed (r := 352) (c := 1024) own received) m := big_ref0_mean m own received
theorem big_ref2_spread (v own : Pages 1 352 1024) (received : Pages 7 352 1024) :
    val_main_v70 (F := Ideal) v own received = spread (s := S1x352x1024) (summed (r := 352) (c := 1024) own received) v := big_ref0_spread v own received

theorem big_ref3_sum (own : Pages 1 256 128) (received : Pages 7 256 128) : val_main_v87 (F := Ideal) own received = summed (r := 256) (c := 128) own received := by
  funext i
  rw [val_main_v87_apply, val_main_v86_apply, val_main_v85_apply]
  refine congrArg₂ (fun a b : EReal => a + b) rfl (begun_at_zero (Finset.sum_congr rfl fun j _ => congrArg received (funext fun a => ?_)))
  match a with
  | 0 => rfl
  | 1 => rfl
  | 2 => rfl

theorem big_ref3_change (w m v own : Pages 1 256 128) (received : Pages 7 256 128) :
    val_main_v111 (F := Ideal) w m v own received = change (s := S1x256x128) w (summed (r := 256) (c := 128) own received) m v := by
  rw [← big_ref3_sum]
  rfl

theorem big_ref3_mean (m own : Pages 1 256 128) (received : Pages 7 256 128) :
    val_main_v92 (F := Ideal) m own received = mean (s := S1x256x128) (summed (r := 256) (c := 128) own received) m := by
  rw [← big_ref3_sum]
  rfl

theorem big_ref3_spread (v own : Pages 1 256 128) (received : Pages 7 256 128) :
    val_main_v98 (F := Ideal) v own received = spread (s := S1x256x128) (summed (r := 256) (c := 128) own received) v := by
  rw [← big_ref3_sum]
  rfl

theorem big_ref4_sum (own : Pages 1 128 1024) (received : Pages 7 128 1024) : val_main_v115 (F := Ideal) own received = summed (r := 128) (c := 1024) own received := by
  funext i
  rw [val_main_v115_apply, val_main_v114_apply, val_main_v113_apply]
  refine congrArg₂ (fun a b : EReal => a + b) rfl (begun_at_zero (Finset.sum_congr rfl fun j _ => congrArg received (funext fun a => ?_)))
  match a with
  | 0 => rfl
  | 1 => rfl
  | 2 => rfl

theorem big_ref4_change (w m v own : Pages 1 128 1024) (received : Pages 7 128 1024) :
    val_main_v139 (F := Ideal) w m v own received = change (s := S1x128x1024) w (summed (r := 128) (c := 1024) own received) m v := by
  rw [← big_ref4_sum]
  rfl

theorem big_ref4_mean (m own : Pages 1 128 1024) (received : Pages 7 128 1024) :
    val_main_v120 (F := Ideal) m own received = mean (s := S1x128x1024) (summed (r := 128) (c := 1024) own received) m := by
  rw [← big_ref4_sum]
  rfl

theorem big_ref4_spread (v own : Pages 1 128 1024) (received : Pages 7 128 1024) :
    val_main_v126 (F := Ideal) v own received = spread (s := S1x128x1024) (summed (r := 128) (c := 1024) own received) v := by
  rw [← big_ref4_sum]
  rfl

theorem big_ref5_sum (own : Pages 1 128 1024) (received : Pages 7 128 1024) :
    val_main_v143 (F := Ideal) own received = summed (r := 128) (c := 1024) own received := big_ref4_sum own received
theorem big_ref5_change (w m v own : Pages 1 128 1024) (received : Pages 7 128 1024) :
    val_main_v167 (F := Ideal) w m v own received = change (s := S1x128x1024) w (summed (r := 128) (c := 1024) own received) m v := big_ref4_change w m v own received
theorem big_ref5_mean (m own : Pages 1 128 1024) (received : Pages 7 128 1024) :
    val_main_v148 (F := Ideal) m own received = mean (s := S1x128x1024) (summed (r := 128) (c := 1024) own received) m := big_ref4_mean m own received
theorem big_ref5_spread (v own : Pages 1 128 1024) (received : Pages 7 128 1024) :
    val_main_v154 (F := Ideal) v own received = spread (s := S1x128x1024) (summed (r := 128) (c := 1024) own received) v := big_ref4_spread v own received

end Cert.Adam

end
-- ==== Proof.AdamBigClaim.lean ====
/- The sharded weights' optimiser: the kernel's results are the reference's, whatever the arguments. -/
module

public import proofs.«01_k».proof.Defs
public import proofs.«01_k».proof.Proof.AdamBigChain
public import proofs.«01_k».proof.Proof.AdamBigRun
public import proofs.«01_k».proof.Proof.AdamBigRef
public import proofs.«01_k».proof.Proof.Gen.Reference7Ideal
public import proofs.«01_k».proof.Proof.Gen.Reference7Ideal.Run
public import Idealize.ShloMosaic.Adequacy

@[expose] public section

set_option maxRecDepth 16384

noncomputable section

namespace Cert.Adam

open Idealize.ShloMosaic Idealize.ShloMosaic.TcCoe Idealize.SL.Sem
open Cert.Kernel7Ideal (main_v0_0 main_v0_1 main_v0_2 main_v0_3 main_v1_0 main_v1_1 main_v1_2 main_v1_3 main_v2_0 main_v2_1 main_v2_2 main_v2_3 main_v3_0 main_v3_1 main_v3_2 main_v3_3 main_v4_0 main_v4_1 main_v4_2 main_v4_3 main_v5_0 main_v5_1 main_v5_2 main_v5_3)
open Cert.Reference7Ideal.Read

/-- The reference's run leaves its arguments, and every counter at zero: it has none. -/
theorem big_reference_frame [Cert.Reference7Ideal.Facts] : quiescent_Reference7Ideal := fun m g _ =>
  (θ_run (Cert.Reference7Ideal.defs (F := Ideal)) _ _).mono
    (fun r h => And.intro (fun c => (h c).2.2.2.2.2.2.2.2.2.2.2.2.2.2.2.2.2.2.2.2.2.2.2.2) (sem_eq_zero_of_no_sems (by decide) r.2)) (Cert.Reference7Ideal.Value.run m g)

/-- The kernel's results are the reference's. -/
theorem big_equal_results [Cert.Kernel7Ideal.Facts] [Cert.Reference7Ideal.Facts] : algebraic_Kernel7Ideal_Reference7Ideal := by
  intro m g m' g' _ hargs
  refine ⟨fun c => Cert.Kernel7Ideal.Gen.W6 m g c (Proc.devRef .tc main_v0_0),
    fun c => Cert.Kernel7Ideal.Gen.W6 m g c (Proc.devRef .tc main_v0_1),
    fun c => Cert.Kernel7Ideal.Gen.W6 m g c (Proc.devRef .tc main_v0_2),
    fun c => Cert.Kernel7Ideal.Gen.W6 m g c (Proc.devRef .tc main_v0_3),
    fun c => Cert.Kernel7Ideal.Gen.W6 m g c (Proc.devRef .tc main_v1_0),
    fun c => Cert.Kernel7Ideal.Gen.W6 m g c (Proc.devRef .tc main_v1_1),
    fun c => Cert.Kernel7Ideal.Gen.W6 m g c (Proc.devRef .tc main_v1_2),
    fun c => Cert.Kernel7Ideal.Gen.W6 m g c (Proc.devRef .tc main_v1_3),
    fun c => Cert.Kernel7Ideal.Gen.W6 m g c (Proc.devRef .tc main_v2_0),
    fun c => Cert.Kernel7Ideal.Gen.W6 m g c (Proc.devRef .tc main_v2_1),
    fun c => Cert.Kernel7Ideal.Gen.W6 m g c (Proc.devRef .tc main_v2_2),
    fun c => Cert.Kernel7Ideal.Gen.W6 m g c (Proc.devRef .tc main_v2_3),
    fun c => Cert.Kernel7Ideal.Gen.W6 m g c (Proc.devRef .tc main_v3_0),
    fun c => Cert.Kernel7Ideal.Gen.W6 m g c (Proc.devRef .tc main_v3_1),
    fun c => Cert.Kernel7Ideal.Gen.W6 m g c (Proc.devRef .tc main_v3_2),
    fun c => Cert.Kernel7Ideal.Gen.W6 m g c (Proc.devRef .tc main_v3_3),
    fun c => Cert.Kernel7Ideal.Gen.W6 m g c (Proc.devRef .tc main_v4_0),
    fun c => Cert.Kernel7Ideal.Gen.W6 m g c (Proc.devRef .tc main_v4_1),
    fun c => Cert.Kernel7Ideal.Gen.W6 m g c (Proc.devRef .tc main_v4_2),
    fun c => Cert.Kernel7Ideal.Gen.W6 m g c (Proc.devRef .tc main_v4_3),
    fun c => Cert.Kernel7Ideal.Gen.W6 m g c (Proc.devRef .tc main_v5_0),
    fun c => Cert.Kernel7Ideal.Gen.W6 m g c (Proc.devRef .tc main_v5_1),
    fun c => Cert.Kernel7Ideal.Gen.W6 m g c (Proc.devRef .tc main_v5_2),
    fun c => Cert.Kernel7Ideal.Gen.W6 m g c (Proc.devRef .tc main_v5_3), ?_, ?_⟩
  · refine (θ_run Cert.Kernel7Ideal.defs _ _).mono (fun r h c => ?_)
      (θ_run_and (big_run_results m g) (Cert.Kernel7Ideal.Gen.unchanged m g))
    have k := h.1 c
    exact ⟨k main_v0_0 (by decide), k main_v0_1 (by decide), k main_v0_2 (by decide), k main_v0_3 (by decide),
      k main_v1_0 (by decide), k main_v1_1 (by decide), k main_v1_2 (by decide), k main_v1_3 (by decide),
      k main_v2_0 (by decide), k main_v2_1 (by decide), k main_v2_2 (by decide), k main_v2_3 (by decide),
      k main_v3_0 (by decide), k main_v3_1 (by decide), k main_v3_2 (by decide), k main_v3_3 (by decide),
      k main_v4_0 (by decide), k main_v4_1 (by decide), k main_v4_2 (by decide), k main_v4_3 (by decide),
      k main_v5_0 (by decide), k main_v5_1 (by decide), k main_v5_2 (by decide), k main_v5_3 (by decide),
      h.2 c⟩
  · refine (θ_run Cert.Reference7Ideal.defs _ _).mono (fun r h c => ?_) (Cert.Reference7Ideal.Value.run m' g')
    obtain ⟨a0, a1, a2, a3, a4, a5, a6, a7, a8, a9, a10, a11, a12, a13, a14, a15, a16, a17, a18, a19, a20, a21, a22, a23, a24, a25, a26, a27, a28, a29⟩ := hargs c
    obtain ⟨e0, e1, e2, e3, e4, e5, e6, e7, e8, e9, e10, e11, e12, e13, e14, e15, e16, e17, e18, e19, e20, e21, e22, e23, e⟩ := h c
    have b : ∀ x : Ref Cert.Reference7Ideal.sig .tc, StableHlo.launchContents m' c (Proc.devRef .tc x)
        = m' ((c.tc : Thread Cert.Reference7Ideal.nD Cert.Reference7Ideal.τ).loc x) := fun _ => rfl
    refine ⟨e0.trans ?_, e1.trans ?_, e2.trans ?_, e3.trans ?_, e4.trans ?_, e5.trans ?_, e6.trans ?_, e7.trans ?_, e8.trans ?_, e9.trans ?_, e10.trans ?_, e11.trans ?_, e12.trans ?_, e13.trans ?_, e14.trans ?_, e15.trans ?_, e16.trans ?_, e17.trans ?_, e18.trans ?_, e19.trans ?_, e20.trans ?_, e21.trans ?_, e22.trans ?_, e23.trans ?_, e⟩
    · rw [val_main_v3_eq, b, b, a3, a4]
      exact (big_ref0_sum _ _).trans (big_results0 m g c).1.symm
    · rw [val_main_v27_eq, b, b, b, b, b, a0, a1, a2, a3, a4]
      exact (big_ref0_change _ _ _ _ _).trans (big_results0 m g c).2.1.symm
    · rw [val_main_v8_eq, b, b, b, a1, a3, a4]
      exact (big_ref0_mean _ _ _).trans (big_results0 m g c).2.2.1.symm
    · rw [val_main_v14_eq, b, b, b, a2, a3, a4]
      exact (big_ref0_spread _ _ _).trans (big_results0 m g c).2.2.2.symm
    · rw [val_main_v31_eq, b, b, a8, a9]
      exact (big_ref1_sum _ _).trans (big_results1 m g c).1.symm
    · rw [val_main_v55_eq, b, b, b, b, b, a5, a6, a7, a8, a9]
      exact (big_ref1_change _ _ _ _ _).trans (big_results1 m g c).2.1.symm
    · rw [val_main_v36_eq, b, b, b, a6, a8, a9]
      exact (big_ref1_mean _ _ _).trans (big_results1 m g c).2.2.1.symm
    · rw [val_main_v42_eq, b, b, b, a7, a8, a9]
      exact (big_ref1_spread _ _ _).trans (big_results1 m g c).2.2.2.symm
    · rw [val_main_v59_eq, b, b, a13, a14]
      exact (big_ref2_sum _ _).trans (big_results2 m g c).1.symm
    · rw [val_main_v83_eq, b, b, b, b, b, a10, a11, a12, a13, a14]
      exact (big_ref2_change _ _ _ _ _).trans (big_results2 m g c).2.1.symm
    · rw [val_main_v64_eq, b, b, b, a11, a13, a14]
      exact (big_ref2_mean _ _ _).trans (big_results2 m g c).2.2.1.symm
    · rw [val_main_v70_eq, b, b, b, a12, a13, a14]
      exact (big_ref2_spread _ _ _).trans (big_results2 m g c).2.2.2.symm
    · rw [val_main_v87_eq, b, b, a18, a19]
      exact (big_ref3_sum _ _).trans (big_results3 m g c).1.symm
    · rw [val_main_v111_eq, b, b, b, b, b, a15, a16, a17, a18, a19]
      exact (big_ref3_change _ _ _ _ _).trans (big_results3 m g c).2.1.symm
    · rw [val_main_v92_eq, b, b, b, a16, a18, a19]
      exact (big_ref3_mean _ _ _).trans (big_results3 m g c).2.2.1.symm
    · rw [val_main_v98_eq, b, b, b, a17, a18, a19]
      exact (big_ref3_spread _ _ _).trans (big_results3 m g c).2.2.2.symm
    · rw [val_main_v115_eq, b, b, a23, a24]
      exact (big_ref4_sum _ _).trans (big_results4 m g c).1.symm
    · rw [val_main_v139_eq, b, b, b, b, b, a20, a21, a22, a23, a24]
      exact (big_ref4_change _ _ _ _ _).trans (big_results4 m g c).2.1.symm
    · rw [val_main_v120_eq, b, b, b, a21, a23, a24]
      exact (big_ref4_mean _ _ _).trans (big_results4 m g c).2.2.1.symm
    · rw [val_main_v126_eq, b, b, b, a22, a23, a24]
      exact (big_ref4_spread _ _ _).trans (big_results4 m g c).2.2.2.symm
    · rw [val_main_v143_eq, b, b, a28, a29]
      exact (big_ref5_sum _ _).trans (big_results5 m g c).1.symm
    · rw [val_main_v167_eq, b, b, b, b, b, a25, a26, a27, a28, a29]
      exact (big_ref5_change _ _ _ _ _).trans (big_results5 m g c).2.1.symm
    · rw [val_main_v148_eq, b, b, b, a26, a28, a29]
      exact (big_ref5_mean _ _ _).trans (big_results5 m g c).2.2.1.symm
    · rw [val_main_v154_eq, b, b, b, a27, a28, a29]
      exact (big_ref5_spread _ _ _).trans (big_results5 m g c).2.2.2.symm

end Cert.Adam

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Equation
public import proofs.«01_k».proof.Proof.FfnClaim
public import proofs.«01_k».proof.Proof.ProjClaim
public import proofs.«01_k».proof.Proof.MergeClaim
public import proofs.«01_k».proof.Proof.BranchClaim
public import proofs.«01_k».proof.Proof.AdamSmallClaim
public import proofs.«01_k».proof.Proof.AdamBigClaim
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.Attn

/-- The kernel's run: its three results are what the lines after the call leave, its arguments unchanged. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v128) = tail m c Cert.KernelIdeal.main_v128
        ∧ r.2.mem ((c.tc : Thread Cert.KernelIdeal.nD Cert.KernelIdeal.τ).loc Cert.KernelIdeal.main_v112) = tail m c Cert.KernelIdeal.main_v112
        ∧ r.2.mem ((c.tc : Thread Cert.KernelIdeal.nD Cert.KernelIdeal.τ).loc Cert.KernelIdeal.main_v96) = tail m c Cert.KernelIdeal.main_v96) :=
  (θ_run Cert.KernelIdeal.defs _ _).mono
    (fun _ h c => ⟨(h c).2 Cert.KernelIdeal.main_v128 (Pipeline.mem_restRefs_of Cert.KernelIdeal.main_v128 (by decide) (by decide)),
      (h c).2 Cert.KernelIdeal.main_v112 (Pipeline.mem_restRefs_of Cert.KernelIdeal.main_v112 (by decide) (by decide)),
      (h c).2 Cert.KernelIdeal.main_v96 (Pipeline.mem_restRefs_of Cert.KernelIdeal.main_v96 (by decide) (by decide))⟩)
    (Cert.KernelIdeal.Gen.run_main m g)

/-- The reference's run leaves its arguments, and every counter at zero: it has none. -/
theorem reference_frame [Cert.ReferenceIdeal.Facts] : quiescent_ReferenceIdeal := fun m g _ =>
  (θ_run (Cert.ReferenceIdeal.defs (F := Ideal)) _ _).mono
    (fun r h => And.intro (fun c => (h c).2.2.2) (sem_eq_zero_of_no_sems (by decide) r.2)) (Cert.ReferenceIdeal.Value.run m g)

/-- On real arguments the kernel's results are the reference's. -/
theorem equal_results [Cert.KernelIdeal.Facts] [Cert.ReferenceIdeal.Facts] :
    algebraic_KernelIdeal_ReferenceIdeal_pre_finite := by
  intro m g m' g' hpre hargs
  refine ⟨fun c => tail m c Cert.KernelIdeal.main_v128, fun c => tail m c Cert.KernelIdeal.main_v112,
    fun c => tail m c Cert.KernelIdeal.main_v96, ?_, ?_⟩
  · refine (θ_run Cert.KernelIdeal.defs _ _).mono (fun r h c => ?_)
      (θ_run_and (kernel_run m g) (Cert.KernelIdeal.Gen.unchanged m g))
    exact ⟨(h.1 c).1, (h.1 c).2.1, (h.1 c).2.2, h.2 c⟩
  · refine (θ_run Cert.ReferenceIdeal.defs _ _).mono (fun r h c => ?_) (Cert.ReferenceIdeal.Value.run m' g')
    obtain ⟨h0, h1, h2, h3, h4, h5, h6, h7, h8⟩ := finite_reals _ _ _ _ _ _ _ _ _ (hpre c)
    obtain ⟨A, H⟩ := exists_args _ _ _ _ _ _ _ _ _ h0 h1 h2 h3 h4 h5 h6 h7 h8
    obtain ⟨a0, a1, a2, a3, a4, a5, a6, a7, a8⟩ := hargs c
    obtain ⟨e0, e1, e2, e⟩ := h c
    refine ⟨e0.trans ?_, e1.trans ?_, e2.trans ?_, e⟩
    · rw [Cert.ReferenceIdeal.Read.val_main_v110_eq, a0, a1, a2, a3, a4, a5, a6, a7, a8]
      exact (equation_q m c H).symm
    · rw [Cert.ReferenceIdeal.Read.val_main_v109_eq, a0, a1, a2, a3, a4, a5, a6, a7, a8]
      exact (equation_k m c H).symm
    · rw [Cert.ReferenceIdeal.Read.val_main_v108_eq, a0, a1, a3, a4, a5]
      exact (equation_v m c H).symm

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Kernel7.Gen.facts,
    Cert.Kernel7Ideal.Gen.facts, Cert.Reference7Ideal.Gen.facts, finiteFacts, Cert.Ffn.finiteFacts,
    fun m ρ _ => Cert.Kernel.Gen.frame m ρ,
    fun m ρ _ => Cert.KernelIdeal.Gen.frame m ρ,
    fun m ρ _ => Cert.KernelIdeal.Gen.frame m ρ,
    fun m ρ _ => reference_frame m ρ trivial,
    fun m ρ _ => reference_frame m ρ trivial,
    fun m ρ _ => Cert.Kernel2.Gen.frame m ρ,
    fun m ρ _ => Cert.Kernel2Ideal.Gen.frame m ρ,
    fun m ρ _ => Cert.Kernel2Ideal.Gen.frame m ρ,
    fun m ρ _ => Cert.Ffn.reference_frame m ρ trivial,
    fun m ρ _ => Cert.Ffn.reference_frame m ρ trivial,
    fun m ρ _ => Cert.Kernel3.Gen.frame m ρ,
    fun m ρ _ => Cert.Kernel3Ideal.Gen.frame m ρ,
    Cert.Proj.reference_frame,
    fun m ρ _ => Cert.Kernel4.Gen.frame m ρ,
    fun m ρ _ => Cert.Kernel4Ideal.Gen.frame m ρ,
    Cert.Merge.reference_frame,
    fun m ρ _ => Cert.Kernel5.Gen.frame m ρ,
    fun m ρ _ => Cert.Kernel5Ideal.Gen.frame m ρ,
    Cert.Branch.reference_frame,
    fun m ρ _ => Cert.Kernel6.Gen.frame m ρ,
    fun m ρ _ => Cert.Kernel6Ideal.Gen.frame m ρ,
    Cert.Adam.small_reference_frame,
    fun m ρ _ => Cert.Kernel7.Gen.frame m ρ,
    fun m ρ _ => Cert.Kernel7Ideal.Gen.frame m ρ,
    Cert.Adam.big_reference_frame,
    IdealRules.named_const.statement Cert.KernelIdeal.κ "mask" .f32 0xF149F2CA#32 ⊥ rfl,
    equal_results,
    trivial,
    Cert.Ffn.equal_results,
    trivial,
    Cert.Proj.equal_results,
    trivial,
    Cert.Merge.equal_results,
    trivial,
    Cert.Branch.equal_results,
    trivial,
    Cert.Adam.small_equal_results,
    trivial,
    Cert.Adam.big_equal_results⟩

end Cert.Proof

end
